-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 [hPre_tables_in_range : Cert.Pre_tables_in_range.Facts] (m : (ℓ : Loc Cert.Kernel2.nD Cert.Kernel2.τ Cert.Kernel2.sig) → Buf (Elt Bits) ℓ) : Prop :=
  ∀ c : Dev Cert.Kernel2.nD,
    (Cert.Pre_tables_in_range.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))).1 = (fun _ => 1#1)
    ∧ (Cert.Pre_tables_in_range.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))).2 = (fun _ => 1#1)

def Pre_Kernel2Ideal [hPre_tables_in_range : Cert.Pre_tables_in_range.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_tables_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).1 = (fun _ => 1#1)
    ∧ (Cert.Pre_tables_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_tables_in_range [hPre_tables_in_range : Cert.Pre_tables_in_range.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_tables_in_range.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).1 = (fun _ => 1#1)
    ∧ (Cert.Pre_tables_in_range.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] [hPre_tables_in_range : Cert.Pre_tables_in_range.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] [hPre_tables_in_range : Cert.Pre_tables_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_tables_in_range [hReference2Ideal : Cert.Reference2Ideal.Facts] [hPre_tables_in_range : Cert.Pre_tables_in_range.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_tables_in_range m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def preserves_Kernel_KernelIdeal : Prop :=
  IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_v77) = v1 c
          ∧ r.2.mem ((c.tc : Thread Cert.ReferenceIdeal.nD Cert.ReferenceIdeal.τ).loc Cert.ReferenceIdeal.main_v79) = v2 c
          ∧ r.2.mem ((c.tc : Thread Cert.ReferenceIdeal.nD Cert.ReferenceIdeal.τ).loc Cert.ReferenceIdeal.main_v81) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] [hPre_tables_in_range : Cert.Pre_tables_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v60) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v19)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v19) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v47) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)) →
    ∃ (v0 : (c : Dev Cert.Kernel4Ideal.nD) → Buf (Elt Ideal) ((c.tc : Thread Cert.Kernel4Ideal.nD Cert.Kernel4Ideal.τ).loc Cert.Kernel4Ideal.main_v21_0)) (v1 : (c : Dev Cert.Kernel4Ideal.nD) → Buf (Elt Ideal) ((c.tc : Thread Cert.Kernel4Ideal.nD Cert.Kernel4Ideal.τ).loc Cert.Kernel4Ideal.main_v21_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v21_0) = v0 c
          ∧ r.2.mem ((c.tc : Thread Cert.Kernel4Ideal.nD Cert.Kernel4Ideal.τ).loc Cert.Kernel4Ideal.main_v21_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v24) = v0 c
          ∧ r.2.mem ((c.tc : Thread Cert.Reference4Ideal.nD Cert.Reference4Ideal.τ).loc Cert.Reference4Ideal.main_v38) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12))

def preserves_Kernel5_Kernel5Ideal : Prop :=
  IdealRules.named_const.Statement Cert.Kernel5Ideal.κ "mask" .f32 0xF149F2CA#32 ⊥

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v6_1)) (v1 : (c : Dev Cert.Kernel5Ideal.nD) → Buf (Elt Ideal) ((c.tc : Thread Cert.Kernel5Ideal.nD Cert.Kernel5Ideal.τ).loc Cert.Kernel5Ideal.main_v6_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v6_1) = v0 c
          ∧ r.2.mem ((c.tc : Thread Cert.Kernel5Ideal.nD Cert.Kernel5Ideal.τ).loc Cert.Kernel5Ideal.main_v6_2) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v12) = v0 c
          ∧ r.2.mem ((c.tc : Thread Cert.Reference5Ideal.nD Cert.Reference5Ideal.τ).loc Cert.Reference5Ideal.main_v14) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  IdealRules.named_const.Statement Cert.Kernel6Ideal.κ "mask" .f32 0xF149F2CA#32 ⊥

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v9_1)) (v1 : (c : Dev Cert.Kernel6Ideal.nD) → Buf (Elt Ideal) ((c.tc : Thread Cert.Kernel6Ideal.nD Cert.Kernel6Ideal.τ).loc Cert.Kernel6Ideal.main_v9_2)) (v2 : (c : Dev Cert.Kernel6Ideal.nD) → Buf (Elt Ideal) ((c.tc : Thread Cert.Kernel6Ideal.nD Cert.Kernel6Ideal.τ).loc Cert.Kernel6Ideal.main_v9_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v9_1) = v0 c
          ∧ r.2.mem ((c.tc : Thread Cert.Kernel6Ideal.nD Cert.Kernel6Ideal.τ).loc Cert.Kernel6Ideal.main_v9_2) = v1 c
          ∧ r.2.mem ((c.tc : Thread Cert.Kernel6Ideal.nD Cert.Kernel6Ideal.τ).loc Cert.Kernel6Ideal.main_v9_3) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v62) = v0 c
          ∧ r.2.mem ((c.tc : Thread Cert.Reference6Ideal.nD Cert.Reference6Ideal.τ).loc Cert.Reference6Ideal.main_v67) = v1 c
          ∧ r.2.mem ((c.tc : Thread Cert.Reference6Ideal.nD Cert.Reference6Ideal.τ).loc Cert.Reference6Ideal.main_v68) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_tables_in_range : Cert.Pre_tables_in_range.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2) (hPre_tables_in_range := hPre_tables_in_range)
    ∧ quiescent_Kernel2Ideal (hKernel2Ideal := hKernel2Ideal) (hPre_tables_in_range := hPre_tables_in_range)
    ∧ quiescent_Reference2Ideal (hReference2Ideal := hReference2Ideal)
    ∧ quiescent_Reference2Ideal_pre_tables_in_range (hReference2Ideal := hReference2Ideal) (hPre_tables_in_range := hPre_tables_in_range)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal) (hPre_tables_in_range := hPre_tables_in_range)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_tables_in_range.lean ====
abbrev S296 : Shape := ⟨1, ![296]⟩
abbrev S1 : Shape := ⟨1, ![1]⟩
abbrev S151552x2048 : Shape := ⟨2, ![151552, 2048]⟩
abbrev S32x2048x4096 : Shape := ⟨3, ![32, 2048, 4096]⟩
abbrev S32x4096 : Shape := ⟨2, ![32, 4096]⟩
abbrev S32x2048x2048 : Shape := ⟨3, ![32, 2048, 2048]⟩
abbrev S32x2048 : Shape := ⟨2, ![32, 2048]⟩
abbrev S_ : Shape := ⟨0, ![]⟩

class Facts : Prop where
  bcast_S_S296 : S_.BroadcastsInDim S296 (![] : Fin 0 → Fin S296.rank)
  bcast_S_S1 : S_.BroadcastsInDim S1 (![] : Fin 0 → Fin S1.rank)

variable [Facts]

def fn {F : FTy → Type} [FloatOps F] (main_arg0 : IVec S296 32) (main_arg1 : IVec S1 32) (main_arg2 : FVec F S151552x2048 .f32) (main_arg3 : FVec F S32x2048x4096 .f32) (main_arg4 : FVec F S32x4096 .f32) (main_arg5 : FVec F S32x2048x2048 .f32) (main_arg6 : FVec F S32x2048 .f32) : IVec S296 1 × IVec S1 1 :=
  let main_c : IVec S_ 32 := constantI S_ 32 0#32
  let main_v0 : IVec S296 32 := broadcastInDim S296 ![] bcast_S_S296 main_c
  let main_v1 : IVec S296 1 := cmpi .sge main_arg0 main_v0
  let main_c_0 : IVec S_ 32 := constantI S_ 32 32#32
  let main_v2 : IVec S296 32 := broadcastInDim S296 ![] bcast_S_S296 main_c_0
  let main_v3 : IVec S296 1 := cmpi .slt main_arg0 main_v2
  let main_v4 : IVec S296 1 := andi main_v1 main_v3
  let main_c_1 : IVec S_ 32 := constantI S_ 32 1#32
  let main_v5 : IVec S1 32 := broadcastInDim S1 ![] bcast_S_S1 main_c_1
  let main_v6 : IVec S1 1 := cmpi .sge main_arg1 main_v5
  let main_c_2 : IVec S_ 32 := constantI S_ 32 296#32
  let main_v7 : IVec S1 32 := broadcastInDim S1 ![] bcast_S_S1 main_c_2
  let main_v8 : IVec S1 1 := cmpi .sle main_arg1 main_v7
  let main_v9 : IVec S1 1 := andi main_v6 main_v8
  (main_v4, main_v9)
-- ==== Kernel.lean ====
abbrev S33792x8704 : Shape := ⟨2, ![33792, 8704]⟩
abbrev S16 : Shape := ⟨1, ![16]⟩
abbrev S32x2048x4096 : Shape := ⟨3, ![32, 2048, 4096]⟩
abbrev S_ : Shape := ⟨0, ![]⟩
abbrev S128 : Shape := ⟨1, ![128]⟩
abbrev S1x128 : Shape := ⟨2, ![1, 128]⟩
abbrev S65536x4096 : Shape := ⟨2, ![65536, 4096]⟩
abbrev S32768x1024 : Shape := ⟨2, ![32768, 1024]⟩
abbrev S16x128x128 : Shape := ⟨3, ![16, 128, 128]⟩
abbrev S256x1024 : Shape := ⟨2, ![256, 1024]⟩
abbrev S256x256 : Shape := ⟨2, ![256, 256]⟩
abbrev S128x256 : Shape := ⟨2, ![128, 256]⟩
abbrev S512x4096 : Shape := ⟨2, ![512, 4096]⟩
abbrev S1x128x128 : Shape := ⟨3, ![1, 128, 128]⟩
abbrev S128x1024 : Shape := ⟨2, ![128, 1024]⟩
abbrev S128x128 : Shape := ⟨2, ![128, 128]⟩
abbrev S256x128 : Shape := ⟨2, ![256, 128]⟩
abbrev S512x128 : Shape := ⟨2, ![512, 128]⟩
abbrev S512x256 : Shape := ⟨2, ![512, 256]⟩
abbrev S1x1 : Shape := ⟨2, ![1, 1]⟩
abbrev S2048x256 : Shape := ⟨2, ![2048, 256]⟩
abbrev S2048x128 : Shape := ⟨2, ![2048, 128]⟩
abbrev S2048 : Shape := ⟨1, ![2048]⟩
abbrev S2048x1 : Shape := ⟨2, ![2048, 1]⟩

abbrev nBuf : Space → Nat
  | .hbm => 12
  | .vmem => 17
  | .smem => 0
  | _ => 0

abbrev bufTy : (tb : Table) → Fin (tcTables nBuf tb) → BufTy
  | .hbm, ⟨0, _⟩ => ⟨S33792x8704, .f32⟩
  | .hbm, ⟨1, _⟩ => ⟨S16, .f32⟩
  | .hbm, ⟨2, _⟩ => ⟨S32x2048x4096, .f32⟩
  | .hbm, ⟨3, _⟩ => ⟨S_, .i32⟩
  | .hbm, ⟨4, _⟩ => ⟨S_, .f32⟩
  | .hbm, ⟨5, _⟩ => ⟨S128, .f32⟩
  | .hbm, ⟨6, _⟩ => ⟨S1x128, .f32⟩
  | .hbm, ⟨7, _⟩ => ⟨S65536x4096, .f32⟩
  | .hbm, ⟨8, _⟩ => ⟨S32768x1024, .bf16⟩
  | .hbm, ⟨9, _⟩ => ⟨S16x128x128, .f32⟩
  | .hbm, ⟨10, _⟩ => ⟨S16x128x128, .f32⟩
  | .hbm, ⟨11, _⟩ => ⟨S65536x4096, .bf16⟩
  | .local _ .vmem, ⟨0, _⟩ => ⟨S256x1024, .f32⟩
  | .local _ .vmem, ⟨1, _⟩ => ⟨S256x1024, .f32⟩
  | .local _ .vmem, ⟨2, _⟩ => ⟨S256x256, .f32⟩
  | .local _ .vmem, ⟨3, _⟩ => ⟨S256x256, .f32⟩
  | .local _ .vmem, ⟨4, _⟩ => ⟨S128x256, .f32⟩
  | .local _ .vmem, ⟨5, _⟩ => ⟨S128x256, .f32⟩
  | .local _ .vmem, ⟨6, _⟩ => ⟨S1x128, .f32⟩
  | .local _ .vmem, ⟨7, _⟩ => ⟨S512x4096, .f32⟩
  | .local _ .vmem, ⟨8, _⟩ => ⟨S512x4096, .f32⟩
  | .local _ .vmem, ⟨9, _⟩ => ⟨S256x1024, .bf16⟩
  | .local _ .vmem, ⟨10, _⟩ => ⟨S256x1024, .bf16⟩
  | .local _ .vmem, ⟨11, _⟩ => ⟨S1x128x128, .f32⟩
  | .local _ .vmem, ⟨12, _⟩ => ⟨S1x128x128, .f32⟩
  | .local _ .vmem, ⟨13, _⟩ => ⟨S1x128x128, .f32⟩
  | .local _ .vmem, ⟨14, _⟩ => ⟨S1x128x128, .f32⟩
  | .local _ .vmem, ⟨15, _⟩ => ⟨S512x4096, .bf16⟩
  | .local _ .vmem, ⟨16, _⟩ => ⟨S512x4096, .bf16⟩
  | _, _ => ⟨S33792x8704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c4_i32 : BitVec 32 := 4#32
  let c0_i32 : BitVec 32 := 0#32
  ![v1.toNat, c4_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c32_i32 : BitVec 32 := 32#32
  let c0_i32 : BitVec 32 := 0#32
  ![v1.toNat, c32_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c2_i32 : BitVec 32 := 2#32
  let v2 : BitVec 32 := Scalar.muli v1 c2_i32
  let c1_i32 : BitVec 32 := 1#32
  let v3 : BitVec 32 := Scalar.subi v2 c1_i32
  let c0_i32 : BitVec 32 := 0#32
  let v4 : BitVec 32 := Scalar.maxsi v3 c0_i32
  let c32_i32 : BitVec 32 := 32#32
  let c0_i32_0 : BitVec 32 := 0#32
  ![v4.toNat, c32_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S33792x8704 : Shape := ⟨2, ![33792, 8704]⟩
abbrev S16 : Shape := ⟨1, ![16]⟩
abbrev S32x2048x4096 : Shape := ⟨3, ![32, 2048, 4096]⟩
abbrev S32768x8704 : Shape := ⟨2, ![32768, 8704]⟩
abbrev S32768x1024 : Shape := ⟨2, ![32768, 1024]⟩
abbrev S16x2048x16x64 : Shape := ⟨4, ![16, 2048, 16, 64]⟩
abbrev S32768x128 : Shape := ⟨2, ![32768, 128]⟩
abbrev S16x2048x2x64 : Shape := ⟨4, ![16, 2048, 2, 64]⟩
abbrev S16x16x128x2x8x64 : Shape := ⟨6, ![16, 16, 128, 2, 8, 64]⟩
abbrev S16x16x128x2x64 : Shape := ⟨5, ![16, 16, 128, 2, 64]⟩
abbrev S_ : Shape := ⟨0, ![]⟩
abbrev S16x17x128x2x64 : Shape := ⟨5, ![16, 17, 128, 2, 64]⟩
abbrev S16x16x256x2x64 : Shape := ⟨5, ![16, 16, 256, 2, 64]⟩
abbrev S16x16x2x256x128x8 : Shape := ⟨6, ![16, 16, 2, 256, 128, 8]⟩
abbrev S16x16x2x8x128x256 : Shape := ⟨6, ![16, 16, 2, 8, 128, 256]⟩
abbrev S16x1x1 : Shape := ⟨3, ![16, 1, 1]⟩
abbrev S128 : Shape := ⟨1, ![128]⟩
abbrev S1x128x1 : Shape := ⟨3, ![1, 128, 1]⟩
abbrev S16x128x1 : Shape := ⟨3, ![16, 128, 1]⟩
abbrev S256 : Shape := ⟨1, ![256]⟩
abbrev S1x1x256 : Shape := ⟨3, ![1, 1, 256]⟩
abbrev S16x1x256 : Shape := ⟨3, ![16, 1, 256]⟩
abbrev S16x128x256 : Shape := ⟨3, ![16, 128, 256]⟩
abbrev S2x8 : Shape := ⟨2, ![2, 8]⟩
abbrev S2x8x1x1 : Shape := ⟨4, ![2, 8, 1, 1]⟩
abbrev S1x16x1x1x128x256 : Shape := ⟨6, ![1, 16, 1, 1, 128, 256]⟩
abbrev S16x16x2x8x128 : Shape := ⟨5, ![16, 16, 2, 8, 128]⟩
abbrev S16x16x2x8x128x1 : Shape := ⟨6, ![16, 16, 2, 8, 128, 1]⟩
abbrev S1x1x2x8x1x1 : Shape := ⟨6, ![1, 1, 2, 8, 1, 1]⟩
abbrev S16x16x2x64x8x128 : Shape := ⟨6, ![16, 16, 2, 64, 8, 128]⟩
abbrev S16x128x2x64 : Shape := ⟨4, ![16, 128, 2, 64]⟩
abbrev S16x128x128 : Shape := ⟨3, ![16, 128, 128]⟩
abbrev S65536x4096 : Shape := ⟨2, ![65536, 4096]⟩

abbrev nBuf : Space → Nat
  | .hbm => 101
  | .vmem => 0
  | .smem => 0
  | _ => 0

abbrev bufTy : (tb : Table) → Fin (tcTables nBuf tb) → BufTy
  | .hbm, ⟨0, _⟩ => ⟨S33792x8704, .f32⟩
  | .hbm, ⟨1, _⟩ => ⟨S16, .f32⟩
  | .hbm, ⟨2, _⟩ => ⟨S32x2048x4096, .f32⟩
  | .hbm, ⟨3, _⟩ => ⟨S32768x8704, .f32⟩
  | .hbm, ⟨4, _⟩ => ⟨S32768x1024, .f32⟩
  | .hbm, ⟨5, _⟩ => ⟨S16x2048x16x64, .f32⟩
  | .hbm, ⟨6, _⟩ => ⟨S32768x128, .f32⟩
  | .hbm, ⟨7, _⟩ => ⟨S16x2048x2x64, .f32⟩
  | .hbm, ⟨8, _⟩ => ⟨S32768x128, .f32⟩
  | .hbm, ⟨9, _⟩ => ⟨S16x2048x2x64, .f32⟩
  | .hbm, ⟨10, _⟩ => ⟨S16x16x128x2x8x64, .f32⟩
  | .hbm, ⟨11, _⟩ => ⟨S16x16x128x2x64, .f32⟩
  | .hbm, ⟨12, _⟩ => ⟨S16x16x128x2x64, .f32⟩
  | .hbm, ⟨13, _⟩ => ⟨S_, .i32⟩
  | .hbm, ⟨14, _⟩ => ⟨S_, .f32⟩
  | .hbm, ⟨15, _⟩ => ⟨S16x17x128x2x64, .f32⟩
  | .hbm, ⟨16, _⟩ => ⟨S16x16x128x2x64, .f32⟩
  | .hbm, ⟨17, _⟩ => ⟨S16x16x256x2x64, .f32⟩
  | .hbm, ⟨18, _⟩ => ⟨S_, .i32⟩
  | .hbm, ⟨19, _⟩ => ⟨S_, .f32⟩
  | .hbm, ⟨20, _⟩ => ⟨S16x17x128x2x64, .f32⟩
  | .hbm, ⟨21, _⟩ => ⟨S16x16x128x2x64, .f32⟩
  | .hbm, ⟨22, _⟩ => ⟨S16x16x256x2x64, .f32⟩
  | .hbm, ⟨23, _⟩ => ⟨S16x16x2x256x128x8, .f32⟩
  | .hbm, ⟨24, _⟩ => ⟨S16x16x2x8x128x256, .f32⟩
  | .hbm, ⟨25, _⟩ => ⟨S_, .f32⟩
  | .hbm, ⟨26, _⟩ => ⟨S16x16x2x8x128x256, .f32⟩
  | .hbm, ⟨27, _⟩ => ⟨S16x16x2x8x128x256, .f32⟩
  | .hbm, ⟨28, _⟩ => ⟨S16, .i32⟩
  | .hbm, ⟨29, _⟩ => ⟨S16x1x1, .i32⟩
  | .hbm, ⟨30, _⟩ => ⟨S_, .i32⟩
  | .hbm, ⟨31, _⟩ => ⟨S16x1x1, .i32⟩
  | .hbm, ⟨32, _⟩ => ⟨S16x1x1, .i32⟩
  | .hbm, ⟨33, _⟩ => ⟨S128, .i32⟩
  | .hbm, ⟨34, _⟩ => ⟨S1x128x1, .i32⟩
  | .hbm, ⟨35, _⟩ => ⟨S16x128x1, .i32⟩
  | .hbm, ⟨36, _⟩ => ⟨S16x128x1, .i32⟩
  | .hbm, ⟨37, _⟩ => ⟨S16x128x1, .i32⟩
  | .hbm, ⟨38, _⟩ => ⟨S_, .i32⟩
  | .hbm, ⟨39, _⟩ => ⟨S16x1x1, .i32⟩
  | .hbm, ⟨40, _⟩ => ⟨S16x1x1, .i32⟩
  | .hbm, ⟨41, _⟩ => ⟨S256, .i32⟩
  | .hbm, ⟨42, _⟩ => ⟨S1x1x256, .i32⟩
  | .hbm, ⟨43, _⟩ => ⟨S16x1x256, .i32⟩
  | .hbm, ⟨44, _⟩ => ⟨S16x1x256, .i32⟩
  | .hbm, ⟨45, _⟩ => ⟨S16x1x256, .i32⟩
  | .hbm, ⟨46, _⟩ => ⟨S16x128x256, .i32⟩
  | .hbm, ⟨47, _⟩ => ⟨S16x128x256, .i32⟩
  | .hbm, ⟨48, _⟩ => ⟨S16x128x256, .i1⟩
  | .hbm, ⟨49, _⟩ => ⟨S_, .i32⟩
  | .hbm, ⟨50, _⟩ => ⟨S16x128x1, .i32⟩
  | .hbm, ⟨51, _⟩ => ⟨S16x128x1, .i32⟩
  | .hbm, ⟨52, _⟩ => ⟨S16x128x256, .i32⟩
  | .hbm, ⟨53, _⟩ => ⟨S16x128x256, .i32⟩
  | .hbm, ⟨54, _⟩ => ⟨S16x128x256, .i1⟩
  | .hbm, ⟨55, _⟩ => ⟨S16x128x256, .i1⟩
  | .hbm, ⟨56, _⟩ => ⟨S_, .i32⟩
  | .hbm, ⟨57, _⟩ => ⟨S16x1x256, .i32⟩
  | .hbm, ⟨58, _⟩ => ⟨S16x1x256, .i1⟩
  | .hbm, ⟨59, _⟩ => ⟨S16x128x256, .i1⟩
  | .hbm, ⟨60, _⟩ => ⟨S16x128x256, .i1⟩
  | .hbm, ⟨61, _⟩ => ⟨S2x8, .f32⟩
  | .hbm, ⟨62, _⟩ => ⟨S2x8x1x1, .f32⟩
  | .hbm, ⟨63, _⟩ => ⟨S1x16x1x1x128x256, .i1⟩
  | .hbm, ⟨64, _⟩ => ⟨S_, .f32⟩
  | .hbm, ⟨65, _⟩ => ⟨S_, .f32⟩
  | .hbm, ⟨66, _⟩ => ⟨S16x16x2x8x128x256, .i1⟩
  | .hbm, ⟨67, _⟩ => ⟨S16x16x2x8x128x256, .f32⟩
  | .hbm, ⟨68, _⟩ => ⟨S16x16x2x8x128x256, .f32⟩
  | .hbm, ⟨69, _⟩ => ⟨S_, .f32⟩
  | .hbm, ⟨70, _⟩ => ⟨S16x16x2x8x128, .f32⟩
  | .hbm, ⟨71, _⟩ => ⟨S16x16x2x8x128x1, .f32⟩
  | .hbm, ⟨72, _⟩ => ⟨S1x1x2x8x1x1, .f32⟩
  | .hbm, ⟨73, _⟩ => ⟨S16x16x2x8x128x1, .f32⟩
  | .hbm, ⟨74, _⟩ => ⟨S16x16x2x8x128x1, .f32⟩
  | .hbm, ⟨75, _⟩ => ⟨S16x16x2x8x128x256, .f32⟩
  | .hbm, ⟨76, _⟩ => ⟨S16x16x2x8x128x256, .f32⟩
  | .hbm, ⟨77, _⟩ => ⟨S16x16x2x8x128x256, .f32⟩
  | .hbm, ⟨78, _⟩ => ⟨S_, .f32⟩
  | .hbm, ⟨79, _⟩ => ⟨S16x16x2x8x128, .f32⟩
  | .hbm, ⟨80, _⟩ => ⟨S16x16x2x8x128x1, .f32⟩
  | .hbm, ⟨81, _⟩ => ⟨S1x1x2x8x1x1, .f32⟩
  | .hbm, ⟨82, _⟩ => ⟨S16x16x2x8x128x1, .f32⟩
  | .hbm, ⟨83, _⟩ => ⟨S16x16x2x8x128x1, .f32⟩
  | .hbm, ⟨84, _⟩ => ⟨S16x16x2x8x128x1, .f32⟩
  | .hbm, ⟨85, _⟩ => ⟨S16x16x2x8x128x1, .f32⟩
  | .hbm, ⟨86, _⟩ => ⟨S_, .f32⟩
  | .hbm, ⟨87, _⟩ => ⟨S16x16x2x8x128x1, .f32⟩
  | .hbm, ⟨88, _⟩ => ⟨S16x16x2x8x128x1, .f32⟩
  | .hbm, ⟨89, _⟩ => ⟨S16x16x2x8x128x256, .f32⟩
  | .hbm, ⟨90, _⟩ => ⟨S16x16x2x8x128x256, .f32⟩
  | .hbm, ⟨91, _⟩ => ⟨S16x16x2x64x8x128, .f32⟩
  | .hbm, ⟨92, _⟩ => ⟨S16x16x128x2x8x64, .f32⟩
  | .hbm, ⟨93, _⟩ => ⟨S32768x1024, .f32⟩
  | .hbm, ⟨94, _⟩ => ⟨S32768x1024, .bf16⟩
  | .hbm, ⟨95, _⟩ => ⟨S16x128x2x64, .f32⟩
  | .hbm, ⟨96, _⟩ => ⟨S16x128x128, .f32⟩
  | .hbm, ⟨97, _⟩ => ⟨S16x128x2x64, .f32⟩
  | .hbm, ⟨98, _⟩ => ⟨S16x128x128, .f32⟩
  | .hbm, ⟨99, _⟩ => ⟨S65536x4096, .f32⟩
  | .hbm, ⟨100, _⟩ => ⟨S65536x4096, .bf16⟩
  | _, _ => ⟨S33792x8704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c : Ref sig .tc := ⟨.hbm, 13, rfl⟩
abbrev main_call0_v0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c_0 : Ref sig .tc := ⟨.hbm, 18, rfl⟩
abbrev main_call1_v0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c_1 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_c_2 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_c_3 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_c_4 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_cst_5 : Ref sig .tc := ⟨.hbm, 64, rfl⟩
abbrev main_call2_v0 : Ref sig .tc := ⟨.hbm, 65, rfl⟩
abbrev main_call2_v1 : Ref sig .tc := ⟨.hbm, 66, rfl⟩
abbrev main_call2_v2 : Ref sig .tc := ⟨.hbm, 67, rfl⟩
abbrev main_v52 : Ref sig .tc := ⟨.hbm, 68, rfl⟩
abbrev main_cst_6 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_7 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_cst_8 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩

abbrev nD : Nat := 1
abbrev τ : Topo := Topo.v7x

variable {F : FTy → Type} [FloatOps F]
-- ==== Kernel2.lean ====
abbrev S296 : Shape := ⟨1, ![296]⟩
abbrev S1 : Shape := ⟨1, ![1]⟩
abbrev S151552x2048 : Shape := ⟨2, ![151552, 2048]⟩
abbrev S32x2048x4096 : Shape := ⟨3, ![32, 2048, 4096]⟩
abbrev S32x4096 : Shape := ⟨2, ![32, 4096]⟩
abbrev S32x2048x2048 : Shape := ⟨3, ![32, 2048, 2048]⟩
abbrev S32x2048 : Shape := ⟨2, ![32, 2048]⟩
abbrev S32x1x4096 : Shape := ⟨3, ![32, 1, 4096]⟩
abbrev S32x1x2048 : Shape := ⟨3, ![32, 1, 2048]⟩
abbrev S512x2048 : Shape := ⟨2, ![512, 2048]⟩
abbrev S1x2048x1024 : Shape := ⟨3, ![1, 2048, 1024]⟩
abbrev S1x1x1024 : Shape := ⟨3, ![1, 1, 1024]⟩
abbrev S1x1024x2048 : Shape := ⟨3, ![1, 1024, 2048]⟩
abbrev S1x1x2048 : Shape := ⟨3, ![1, 1, 2048]⟩
abbrev S2048x1024 : Shape := ⟨2, ![2048, 1024]⟩
abbrev S512x1024 : Shape := ⟨2, ![512, 1024]⟩
abbrev S1x1024 : Shape := ⟨2, ![1, 1024]⟩
abbrev S1024x2048 : Shape := ⟨2, ![1024, 2048]⟩
abbrev S1x2048 : Shape := ⟨2, ![1, 2048]⟩

abbrev nBuf : Space → Nat
  | .hbm => 10
  | .vmem => 16
  | .smem => 2
  | _ => 0

abbrev bufTy : (tb : Table) → Fin (tcTables nBuf tb) → BufTy
  | .hbm, ⟨0, _⟩ => ⟨S151552x2048, .f32⟩
  | .hbm, ⟨1, _⟩ => ⟨S32x2048x4096, .f32⟩
  | .hbm, ⟨2, _⟩ => ⟨S32x4096, .f32⟩
  | .hbm, ⟨3, _⟩ => ⟨S32x2048x2048, .f32⟩
  | .hbm, ⟨4, _⟩ => ⟨S32x2048, .f32⟩
  | .hbm, ⟨5, _⟩ => ⟨S32x2048x4096, .bf16⟩
  | .hbm, ⟨6, _⟩ => ⟨S32x1x4096, .f32⟩
  | .hbm, ⟨7, _⟩ => ⟨S32x2048x2048, .bf16⟩
  | .hbm, ⟨8, _⟩ => ⟨S32x1x2048, .f32⟩
  | .hbm, ⟨9, _⟩ => ⟨S151552x2048, .f32⟩
  | .local _ .vmem, ⟨0, _⟩ => ⟨S512x2048, .f32⟩
  | .local _ .vmem, ⟨1, _⟩ => ⟨S512x2048, .f32⟩
  | .local _ .vmem, ⟨2, _⟩ => ⟨S1x2048x1024, .bf16⟩
  | .local _ .vmem, ⟨3, _⟩ => ⟨S1x2048x1024, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1024x2048, .bf16⟩
  | .local _ .vmem, ⟨11, _⟩ => ⟨S1x1024x2048, .bf16⟩
  | .local _ .vmem, ⟨12, _⟩ => ⟨S1x1x2048, .f32⟩
  | .local _ .vmem, ⟨13, _⟩ => ⟨S1x1x2048, .f32⟩
  | .local _ .vmem, ⟨14, _⟩ => ⟨S512x2048, .f32⟩
  | .local _ .vmem, ⟨15, _⟩ => ⟨S512x2048, .f32⟩
  | .local _ .smem, ⟨0, _⟩ => ⟨S296, .i32⟩
  | .local _ .smem, ⟨1, _⟩ => ⟨S1, .i32⟩
  | _, _ => ⟨S151552x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![296, 2], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) : BitVec 1 :=
  let arg1 : BitVec 32 := BitVec.ofNat 32 (i 1).val
  let c0_i32_26 : BitVec 32 := 0#32
  let v42 : BitVec 1 := Scalar.cmpi .eq arg1 c0_i32_26
  let v43 : BitVec 32 := Scalar.extui v42
  let c0_i32_27 : BitVec 32 := 0#32
  let v44 : BitVec 1 := Scalar.cmpi .ne v43 c0_i32_27
  v44

def k0_cond3 (i : grid0.Coords) : BitVec 1 :=
  let arg1 : BitVec 32 := BitVec.ofNat 32 (i 1).val
  let c0_i32_28 : BitVec 32 := 0#32
  let v45 : BitVec 1 := Scalar.cmpi .ne arg1 c0_i32_28
  let v46 : BitVec 32 := Scalar.extui v45
  let c0_i32_29 : BitVec 32 := 0#32
  let v47 : BitVec 1 := Scalar.cmpi .ne v46 c0_i32_29
  v47

def k0_cond4 (i : grid0.Coords) (v0 : BitVec 32) : BitVec 1 :=
  let arg0 : BitVec 32 := BitVec.ofNat 32 (i 0).val
  let v1 : BitVec 1 := Scalar.cmpi .slt arg0 v0
  let v_true : BitVec 1 := 1#1
  let v4 : BitVec 1 := Scalar.xori v1 v_true
  let arg1 : BitVec 32 := BitVec.ofNat 32 (i 1).val
  let c0_i32_0 : BitVec 32 := 0#32
  let v5 : BitVec 1 := Scalar.cmpi .eq arg1 c0_i32_0
  let v6 : BitVec 1 := Scalar.andi v4 v5
  let v7 : BitVec 32 := Scalar.extui v6
  let c0_i32_1 : BitVec 32 := 0#32
  let v8 : BitVec 1 := Scalar.cmpi .ne v7 c0_i32_1
  v8

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S296.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S296) ![v0.toNat] S1.size (k0_off1_inb i)) numel1_S1
  let c0 : Index := 0#32
  let v2 : BitVec 32 := pf.at 1 (Rect.unit (s := S1) ![0] S1.size inb_S1_S1_0) numel1_S1
  let c1_i32 : BitVec 32 := 1#32
  let v3 : BitVec 32 := Scalar.subi v2 c1_i32
  let v4 : BitVec 32 := Scalar.minsi arg0 v3
  let c0_0 : Index := 0#32
  let v5 : BitVec 32 := pf.at 1 (Rect.unit (s := S1) ![0] S1.size inb_S1_S1_0) numel1_S1
  let v6 : BitVec 1 := Scalar.cmpi .slt arg0 v5
  let c1_i32_1 : BitVec 32 := 1#32
  let v7 : BitVec 32 := Scalar.select v6 arg1 c1_i32_1
  let c2_i32 : BitVec 32 := 2#32
  let c0_i32 : BitVec 32 := 0#32
  let v8 : BitVec 1 := Scalar.cmpi .eq c2_i32 c0_i32
  let c1_i32_2 : BitVec 32 := 1#32
  let v9 : BitVec 32 := Scalar.select v8 c1_i32_2 c2_i32
  let v10 : BitVec 32 := Scalar.remsi v4 v9
  let c0_i32_3 : BitVec 32 := 0#32
  let v11 : BitVec 1 := Scalar.cmpi .ne v10 c0_i32_3
  let c0_i32_4 : BitVec 32 := 0#32
  let v12 : BitVec 1 := Scalar.cmpi .slt v10 c0_i32_4
  let c0_i32_5 : BitVec 32 := 0#32
  let v13 : BitVec 1 := Scalar.cmpi .slt v9 c0_i32_5
  let v14 : BitVec 1 := Scalar.xori v12 v13
  let v15 : BitVec 1 := Scalar.andi v14 v11
  let v16 : BitVec 32 := Scalar.addi v10 v9
  let v17 : BitVec 32 := Scalar.select v15 v16 v10
  let c0_i32_6 : BitVec 32 := 0#32
  let v18 : BitVec 1 := Scalar.cmpi .eq v17 c0_i32_6
  let c1_i32_7 : BitVec 32 := 1#32
  let v19 : BitVec 32 := Scalar.subi c1_i32_7 v7
  let v20 : BitVec 32 := Scalar.select v18 v7 v19
  let c0_i32_8 : BitVec 32 := 0#32
  let c0_i32_9 : BitVec 32 := 0#32
  ![v1.toNat, c0_i32_8.toNat, v20.toNat]

def cc0_transform_2 (k0_off1_inb : ∀ i : grid0.Coords, ∀ a, (k0_off1 i) a + S1.size a ≤ S296.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S296) ![v0.toNat] S1.size (k0_off1_inb i)) numel1_S1
  let c0 : Index := 0#32
  let v2 : BitVec 32 := pf.at 1 (Rect.unit (s := S1) ![0] S1.size inb_S1_S1_0) numel1_S1
  let c1_i32 : BitVec 32 := 1#32
  let v3 : BitVec 32 := Scalar.subi v2 c1_i32
  let v4 : BitVec 32 := Scalar.minsi arg0 v3
  let c0_0 : Index := 0#32
  let v5 : BitVec 32 := pf.at 1 (Rect.unit (s := S1) ![0] S1.size inb_S1_S1_0) numel1_S1
  let v6 : BitVec 1 := Scalar.cmpi .slt arg0 v5
  let c1_i32_1 : BitVec 32 := 1#32
  let v7 : BitVec 32 := Scalar.select v6 arg1 c1_i32_1
  let c2_i32 : BitVec 32 := 2#32
  let c0_i32 : BitVec 32 := 0#32
  let v8 : BitVec 1 := Scalar.cmpi .eq c2_i32 c0_i32
  let c1_i32_2 : BitVec 32 := 1#32
  let v9 : BitVec 32 := Scalar.select v8 c1_i32_2 c2_i32
  let v10 : BitVec 32 := Scalar.remsi v4 v9
  let c0_i32_3 : BitVec 32 := 0#32
  let v11 : BitVec 1 := Scalar.cmpi .ne v10 c0_i32_3
  let c0_i32_4 : BitVec 32 := 0#32
  let v12 : BitVec 1 := Scalar.cmpi .slt v10 c0_i32_4
  let c0_i32_5 : BitVec 32 := 0#32
  let v13 : BitVec 1 := Scalar.cmpi .slt v9 c0_i32_5
  let v14 : BitVec 1 := Scalar.xori v12 v13
  let v15 : BitVec 1 := Scalar.andi v14 v11
  let v16 : BitVec 32 := Scalar.addi v10 v9
  let v17 : BitVec 32 := Scalar.select v15 v16 v10
  let c0_i32_6 : BitVec 32 := 0#32
  let v18 : BitVec 1 := Scalar.cmpi .eq v17 c0_i32_6
  let c1_i32_7 : BitVec 32 := 1#32
  let v19 : BitVec 32 := Scalar.subi c1_i32_7 v7
  let v20 : BitVec 32 := Scalar.select v18 v7 v19
  let c2_i32_8 : BitVec 32 := 2#32
  let v21 : BitVec 32 := Scalar.addi c2_i32_8 v20
  let c0_i32_9 : BitVec 32 := 0#32
  let c0_i32_10 : BitVec 32 := 0#32
  ![v1.toNat, c0_i32_9.toNat, v21.toNat]

def cc0_transform_3 (k0_off1_inb : ∀ i : grid0.Coords, ∀ a, (k0_off1 i) a + S1.size a ≤ S296.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S296) ![v0.toNat] S1.size (k0_off1_inb i)) numel1_S1
  let c0 : Index := 0#32
  let v2 : BitVec 32 := pf.at 1 (Rect.unit (s := S1) ![0] S1.size inb_S1_S1_0) numel1_S1
  let c1_i32 : BitVec 32 := 1#32
  let v3 : BitVec 32 := Scalar.subi v2 c1_i32
  let v4 : BitVec 32 := Scalar.minsi arg0 v3
  let c0_0 : Index := 0#32
  let v5 : BitVec 32 := pf.at 1 (Rect.unit (s := S1) ![0] S1.size inb_S1_S1_0) numel1_S1
  let v6 : BitVec 1 := Scalar.cmpi .slt arg0 v5
  let c1_i32_1 : BitVec 32 := 1#32
  let v7 : BitVec 32 := Scalar.select v6 arg1 c1_i32_1
  let c2_i32 : BitVec 32 := 2#32
  let c0_i32 : BitVec 32 := 0#32
  let v8 : BitVec 1 := Scalar.cmpi .eq c2_i32 c0_i32
  let c1_i32_2 : BitVec 32 := 1#32
  let v9 : BitVec 32 := Scalar.select v8 c1_i32_2 c2_i32
  let v10 : BitVec 32 := Scalar.remsi v4 v9
  let c0_i32_3 : BitVec 32 := 0#32
  let v11 : BitVec 1 := Scalar.cmpi .ne v10 c0_i32_3
  let c0_i32_4 : BitVec 32 := 0#32
  let v12 : BitVec 1 := Scalar.cmpi .slt v10 c0_i32_4
  let c0_i32_5 : BitVec 32 := 0#32
  let v13 : BitVec 1 := Scalar.cmpi .slt v9 c0_i32_5
  let v14 : BitVec 1 := Scalar.xori v12 v13
  let v15 : BitVec 1 := Scalar.andi v14 v11
  let v16 : BitVec 32 := Scalar.addi v10 v9
  let v17 : BitVec 32 := Scalar.select v15 v16 v10
  let c0_i32_6 : BitVec 32 := 0#32
  let v18 : BitVec 1 := Scalar.cmpi .eq v17 c0_i32_6
  let c1_i32_7 : BitVec 32 := 1#32
  let v19 : BitVec 32 := Scalar.subi c1_i32_7 v7
  let v20 : BitVec 32 := Scalar.select v18 v7 v19
  let c0_i32_8 : BitVec 32 := 0#32
  let c0_i32_9 : BitVec 32 := 0#32
  ![v1.toNat, c0_i32_8.toNat, v20.toNat]

def cc0_transform_4 (k0_off1_inb : ∀ i : grid0.Coords, ∀ a, (k0_off1 i) a + S1.size a ≤ S296.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S296) ![v0.toNat] S1.size (k0_off1_inb i)) numel1_S1
  let c0 : Index := 0#32
  let v2 : BitVec 32 := pf.at 1 (Rect.unit (s := S1) ![0] S1.size inb_S1_S1_0) numel1_S1
  let c1_i32 : BitVec 32 := 1#32
  let v3 : BitVec 32 := Scalar.subi v2 c1_i32
  let v4 : BitVec 32 := Scalar.minsi arg0 v3
  let c0_0 : Index := 0#32
  let v5 : BitVec 32 := pf.at 1 (Rect.unit (s := S1) ![0] S1.size inb_S1_S1_0) numel1_S1
  let v6 : BitVec 1 := Scalar.cmpi .slt arg0 v5
  let c1_i32_1 : BitVec 32 := 1#32
  let v7 : BitVec 32 := Scalar.select v6 arg1 c1_i32_1
  let c2_i32 : BitVec 32 := 2#32
  let c0_i32 : BitVec 32 := 0#32
  let v8 : BitVec 1 := Scalar.cmpi .eq c2_i32 c0_i32
  let c1_i32_2 : BitVec 32 := 1#32
  let v9 : BitVec 32 := Scalar.select v8 c1_i32_2 c2_i32
  let v10 : BitVec 32 := Scalar.remsi v4 v9
  let c0_i32_3 : BitVec 32 := 0#32
  let v11 : BitVec 1 := Scalar.cmpi .ne v10 c0_i32_3
  let c0_i32_4 : BitVec 32 := 0#32
  let v12 : BitVec 1 := Scalar.cmpi .slt v10 c0_i32_4
  let c0_i32_5 : BitVec 32 := 0#32
  let v13 : BitVec 1 := Scalar.cmpi .slt v9 c0_i32_5
  let v14 : BitVec 1 := Scalar.xori v12 v13
  let v15 : BitVec 1 := Scalar.andi v14 v11
  let v16 : BitVec 32 := Scalar.addi v10 v9
  let v17 : BitVec 32 := Scalar.select v15 v16 v10
  let c0_i32_6 : BitVec 32 := 0#32
  let v18 : BitVec 1 := Scalar.cmpi .eq v17 c0_i32_6
  let c1_i32_7 : BitVec 32 := 1#32
  let v19 : BitVec 32 := Scalar.subi c1_i32_7 v7
  let v20 : BitVec 32 := Scalar.select v18 v7 v19
  let c2_i32_8 : BitVec 32 := 2#32
  let v21 : BitVec 32 := Scalar.addi c2_i32_8 v20
  let c0_i32_9 : BitVec 32 := 0#32
  let c0_i32_10 : BitVec 32 := 0#32
  ![v1.toNat, c0_i32_9.toNat, v21.toNat]

def cc0_transform_5 (k0_off1_inb : ∀ i : grid0.Coords, ∀ a, (k0_off1 i) a + S1.size a ≤ S296.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S296) ![v0.toNat] S1.size (k0_off1_inb i)) numel1_S1
  let c0 : Index := 0#32
  let v2 : BitVec 32 := pf.at 1 (Rect.unit (s := S1) ![0] S1.size inb_S1_S1_0) numel1_S1
  let c1_i32 : BitVec 32 := 1#32
  let v3 : BitVec 32 := Scalar.subi v2 c1_i32
  let v4 : BitVec 32 := Scalar.minsi arg0 v3
  let c0_0 : Index := 0#32
  let v5 : BitVec 32 := pf.at 1 (Rect.unit (s := S1) ![0] S1.size inb_S1_S1_0) numel1_S1
  let v6 : BitVec 1 := Scalar.cmpi .slt arg0 v5
  let c1_i32_1 : BitVec 32 := 1#32
  let v7 : BitVec 32 := Scalar.select v6 arg1 c1_i32_1
  let c2_i32 : BitVec 32 := 2#32
  let c0_i32 : BitVec 32 := 0#32
  let v8 : BitVec 1 := Scalar.cmpi .eq c2_i32 c0_i32
  let c1_i32_2 : BitVec 32 := 1#32
  let v9 : BitVec 32 := Scalar.select v8 c1_i32_2 c2_i32
  let v10 : BitVec 32 := Scalar.remsi v4 v9
  let c0_i32_3 : BitVec 32 := 0#32
  let v11 : BitVec 1 := Scalar.cmpi .ne v10 c0_i32_3
  let c0_i32_4 : BitVec 32 := 0#32
  let v12 : BitVec 1 := Scalar.cmpi .slt v10 c0_i32_4
  let c0_i32_5 : BitVec 32 := 0#32
  let v13 : BitVec 1 := Scalar.cmpi .slt v9 c0_i32_5
  let v14 : BitVec 1 := Scalar.xori v12 v13
  let v15 : BitVec 1 := Scalar.andi v14 v11
  let v16 : BitVec 32 := Scalar.addi v10 v9
  let v17 : BitVec 32 := Scalar.select v15 v16 v10
  let c0_i32_6 : BitVec 32 := 0#32
  let v18 : BitVec 1 := Scalar.cmpi .eq v17 c0_i32_6
  let c1_i32_7 : BitVec 32 := 1#32
  let v19 : BitVec 32 := Scalar.subi c1_i32_7 v7
  let v20 : BitVec 32 := Scalar.select v18 v7 v19
  let c0_i32_8 : BitVec 32 := 0#32
  let c0_i32_9 : BitVec 32 := 0#32
  ![v1.toNat, v20.toNat, c0_i32_8.toNat]

def cc0_transform_6 (k0_off1_inb : ∀ i : grid0.Coords, ∀ a, (k0_off1 i) a + S1.size a ≤ S296.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S296) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference2Ideal.lean ====
abbrev S296 : Shape := ⟨1, ![296]⟩
abbrev S1 : Shape := ⟨1, ![1]⟩
abbrev S151552x2048 : Shape := ⟨2, ![151552, 2048]⟩
abbrev S32x2048x4096 : Shape := ⟨3, ![32, 2048, 4096]⟩
abbrev S32x4096 : Shape := ⟨2, ![32, 4096]⟩
abbrev S32x2048x2048 : Shape := ⟨3, ![32, 2048, 2048]⟩
abbrev S32x2048 : Shape := ⟨2, ![32, 2048]⟩
abbrev S296x512x2048 : Shape := ⟨3, ![296, 512, 2048]⟩
abbrev S_ : Shape := ⟨0, ![]⟩
abbrev S296x1 : Shape := ⟨2, ![296, 1]⟩
abbrev S296x2048x4096 : Shape := ⟨3, ![296, 2048, 4096]⟩
abbrev S296x4096 : Shape := ⟨2, ![296, 4096]⟩
abbrev S296x2048x2048 : Shape := ⟨3, ![296, 2048, 2048]⟩
abbrev S296x2048 : Shape := ⟨2, ![296, 2048]⟩
abbrev S296x512x4096 : Shape := ⟨3, ![296, 512, 4096]⟩
abbrev S296x1x4096 : Shape := ⟨3, ![296, 1, 4096]⟩
abbrev S296x1x2048 : Shape := ⟨3, ![296, 1, 2048]⟩
abbrev S296x1x1 : Shape := ⟨3, ![296, 1, 1]⟩

abbrev nBuf : Space → Nat
  | .hbm => 92
  | .vmem => 0
  | .smem => 0
  | _ => 0

abbrev bufTy : (tb : Table) → Fin (tcTables nBuf tb) → BufTy
  | .hbm, ⟨0, _⟩ => ⟨S296, .i32⟩
  | .hbm, ⟨1, _⟩ => ⟨S1, .i32⟩
  | .hbm, ⟨2, _⟩ => ⟨S151552x2048, .f32⟩
  | .hbm, ⟨3, _⟩ => ⟨S32x2048x4096, .f32⟩
  | .hbm, ⟨4, _⟩ => ⟨S32x4096, .f32⟩
  | .hbm, ⟨5, _⟩ => ⟨S32x2048x2048, .f32⟩
  | .hbm, ⟨6, _⟩ => ⟨S32x2048, .f32⟩
  | .hbm, ⟨7, _⟩ => ⟨S296x512x2048, .f32⟩
  | .hbm, ⟨8, _⟩ => ⟨S_, .i32⟩
  | .hbm, ⟨9, _⟩ => ⟨S296, .i32⟩
  | .hbm, ⟨10, _⟩ => ⟨S296, .i1⟩
  | .hbm, ⟨11, _⟩ => ⟨S_, .i32⟩
  | .hbm, ⟨12, _⟩ => ⟨S296, .i32⟩
  | .hbm, ⟨13, _⟩ => ⟨S296, .i32⟩
  | .hbm, ⟨14, _⟩ => ⟨S296, .i32⟩
  | .hbm, ⟨15, _⟩ => ⟨S296x1, .i32⟩
  | .hbm, ⟨16, _⟩ => ⟨S296x2048x4096, .f32⟩
  | .hbm, ⟨17, _⟩ => ⟨S_, .i32⟩
  | .hbm, ⟨18, _⟩ => ⟨S296, .i32⟩
  | .hbm, ⟨19, _⟩ => ⟨S296, .i1⟩
  | .hbm, ⟨20, _⟩ => ⟨S_, .i32⟩
  | .hbm, ⟨21, _⟩ => ⟨S296, .i32⟩
  | .hbm, ⟨22, _⟩ => ⟨S296, .i32⟩
  | .hbm, ⟨23, _⟩ => ⟨S296, .i32⟩
  | .hbm, ⟨24, _⟩ => ⟨S296x1, .i32⟩
  | .hbm, ⟨25, _⟩ => ⟨S296x4096, .f32⟩
  | .hbm, ⟨26, _⟩ => ⟨S_, .i32⟩
  | .hbm, ⟨27, _⟩ => ⟨S296, .i32⟩
  | .hbm, ⟨28, _⟩ => ⟨S296, .i1⟩
  | .hbm, ⟨29, _⟩ => ⟨S_, .i32⟩
  | .hbm, ⟨30, _⟩ => ⟨S296, .i32⟩
  | .hbm, ⟨31, _⟩ => ⟨S296, .i32⟩
  | .hbm, ⟨32, _⟩ => ⟨S296, .i32⟩
  | .hbm, ⟨33, _⟩ => ⟨S296x1, .i32⟩
  | .hbm, ⟨34, _⟩ => ⟨S296x2048x2048, .f32⟩
  | .hbm, ⟨35, _⟩ => ⟨S_, .i32⟩
  | .hbm, ⟨36, _⟩ => ⟨S296, .i32⟩
  | .hbm, ⟨37, _⟩ => ⟨S296, .i1⟩
  | .hbm, ⟨38, _⟩ => ⟨S_, .i32⟩
  | .hbm, ⟨39, _⟩ => ⟨S296, .i32⟩
  | .hbm, ⟨40, _⟩ => ⟨S296, .i32⟩
  | .hbm, ⟨41, _⟩ => ⟨S296, .i32⟩
  | .hbm, ⟨42, _⟩ => ⟨S296x1, .i32⟩
  | .hbm, ⟨43, _⟩ => ⟨S296x2048, .f32⟩
  | .hbm, ⟨44, _⟩ => ⟨S296x512x4096, .f32⟩
  | .hbm, ⟨45, _⟩ => ⟨S296x1x4096, .f32⟩
  | .hbm, ⟨46, _⟩ => ⟨S296x512x4096, .f32⟩
  | .hbm, ⟨47, _⟩ => ⟨S296x512x4096, .f32⟩
  | .hbm, ⟨48, _⟩ => ⟨S296x512x2048, .f32⟩
  | .hbm, ⟨49, _⟩ => ⟨S_, .f32⟩
  | .hbm, ⟨50, _⟩ => ⟨S296x512x2048, .f32⟩
  | .hbm, ⟨51, _⟩ => ⟨S296x512x2048, .f32⟩
  | .hbm, ⟨52, _⟩ => ⟨S296x512x2048, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S296x512x2048, .f32⟩
  | .hbm, ⟨57, _⟩ => ⟨S296x512x2048, .f32⟩
  | .hbm, ⟨58, _⟩ => ⟨S_, .f32⟩
  | .hbm, ⟨59, _⟩ => ⟨S296x512x2048, .f32⟩
  | .hbm, ⟨60, _⟩ => ⟨S296x512x2048, .f32⟩
  | .hbm, ⟨61, _⟩ => ⟨S_, .f32⟩
  | .hbm, ⟨62, _⟩ => ⟨S296x512x2048, .f32⟩
  | .hbm, ⟨63, _⟩ => ⟨S296x512x2048, .f32⟩
  | .hbm, ⟨64, _⟩ => ⟨S296x512x2048, .f32⟩
  | .hbm, ⟨65, _⟩ => ⟨S296x512x2048, .f32⟩
  | .hbm, ⟨66, _⟩ => ⟨S_, .f32⟩
  | .hbm, ⟨67, _⟩ => ⟨S296x512x2048, .f32⟩
  | .hbm, ⟨68, _⟩ => ⟨S296x512x2048, .f32⟩
  | .hbm, ⟨69, _⟩ => ⟨S_, .f32⟩
  | .hbm, ⟨70, _⟩ => ⟨S296x512x2048, .f32⟩
  | .hbm, ⟨71, _⟩ => ⟨S296x512x2048, .f32⟩
  | .hbm, ⟨72, _⟩ => ⟨S296x512x2048, .f32⟩
  | .hbm, ⟨73, _⟩ => ⟨S_, .f32⟩
  | .hbm, ⟨74, _⟩ => ⟨S296x512x2048, .f32⟩
  | .hbm, ⟨75, _⟩ => ⟨S296x512x2048, .f32⟩
  | .hbm, ⟨76, _⟩ => ⟨S296x512x2048, .f32⟩
  | .hbm, ⟨77, _⟩ => ⟨S296x512x2048, .f32⟩
  | .hbm, ⟨78, _⟩ => ⟨S296x1x2048, .f32⟩
  | .hbm, ⟨79, _⟩ => ⟨S296x512x2048, .f32⟩
  | .hbm, ⟨80, _⟩ => ⟨S296x512x2048, .f32⟩
  | .hbm, ⟨81, _⟩ => ⟨S296, .i32⟩
  | .hbm, ⟨82, _⟩ => ⟨S_, .i32⟩
  | .hbm, ⟨83, _⟩ => ⟨S296, .i32⟩
  | .hbm, ⟨84, _⟩ => ⟨S296, .i1⟩
  | .hbm, ⟨85, _⟩ => ⟨S296x1x1, .i1⟩
  | .hbm, ⟨86, _⟩ => ⟨S_, .f32⟩
  | .hbm, ⟨87, _⟩ => ⟨S_, .f32⟩
  | .hbm, ⟨88, _⟩ => ⟨S296x512x2048, .i1⟩
  | .hbm, ⟨89, _⟩ => ⟨S296x512x2048, .f32⟩
  | .hbm, ⟨90, _⟩ => ⟨S296x512x2048, .f32⟩
  | .hbm, ⟨91, _⟩ => ⟨S151552x2048, .f32⟩
  | _, _ => ⟨S296, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_1 : Ref sig .tc := ⟨.hbm, 17, rfl⟩
abbrev main_v8 : Ref sig .tc := ⟨.hbm, 18, rfl⟩
abbrev main_v9 : Ref sig .tc := ⟨.hbm, 19, rfl⟩
abbrev main_c_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_3 : Ref sig .tc := ⟨.hbm, 26, rfl⟩
abbrev main_v15 : Ref sig .tc := ⟨.hbm, 27, rfl⟩
abbrev main_v16 : Ref sig .tc := ⟨.hbm, 28, rfl⟩
abbrev main_c_4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_5 : Ref sig .tc := ⟨.hbm, 35, rfl⟩
abbrev main_v22 : Ref sig .tc := ⟨.hbm, 36, rfl⟩
abbrev main_v23 : Ref sig .tc := ⟨.hbm, 37, rfl⟩
abbrev main_c_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_7 : Ref sig .tc := ⟨.hbm, 53, rfl⟩
abbrev main_cst_8 : Ref sig .tc := ⟨.hbm, 54, rfl⟩
abbrev main_call0_v0 : Ref sig .tc := ⟨.hbm, 55, rfl⟩
abbrev main_call0_v1 : Ref sig .tc := ⟨.hbm, 56, rfl⟩
abbrev main_call0_v2 : Ref sig .tc := ⟨.hbm, 57, rfl⟩
abbrev main_call0_v3 : Ref sig .tc := ⟨.hbm, 58, rfl⟩
abbrev main_call0_v4 : Ref sig .tc := ⟨.hbm, 59, rfl⟩
abbrev main_v37 : Ref sig .tc := ⟨.hbm, 60, rfl⟩
abbrev main_cst_9 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_10 : Ref sig .tc := ⟨.hbm, 66, rfl⟩
abbrev main_v42 : Ref sig .tc := ⟨.hbm, 67, rfl⟩
abbrev main_v43 : Ref sig .tc := ⟨.hbm, 68, rfl⟩
abbrev main_cst_11 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_12 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_13 : Ref sig .tc := ⟨.hbm, 86, rfl⟩
abbrev main_call1_v0 : Ref sig .tc := ⟨.hbm, 87, rfl⟩
abbrev main_call1_v1 : Ref sig .tc := ⟨.hbm, 88, rfl⟩
abbrev main_call1_v2 : Ref sig .tc := ⟨.hbm, 89, rfl⟩
abbrev main_v59 : Ref sig .tc := ⟨.hbm, 90, rfl⟩
abbrev main_v60 : Ref sig .tc := ⟨.hbm, 91, rfl⟩

abbrev nD : Nat := 1
abbrev τ : Topo := Topo.v7x

variable {F : FTy → Type} [FloatOps F]
-- ==== Kernel3.lean ====
abbrev S16x2048x2048 : Shape := ⟨3, ![16, 2048, 2048]⟩
abbrev S128x4x2048 : Shape := ⟨3, ![128, 4, 2048]⟩
abbrev S1x2048 : Shape := ⟨2, ![1, 2048]⟩
abbrev S1x2048x8456 : Shape := ⟨3, ![1, 2048, 8456]⟩
abbrev S32768x2048 : Shape := ⟨2, ![32768, 2048]⟩
abbrev S_ : Shape := ⟨0, ![]⟩
abbrev S128x8x2048 : Shape := ⟨3, ![128, 8, 2048]⟩
abbrev S1024x2048 : Shape := ⟨2, ![1024, 2048]⟩
abbrev S2048 : Shape := ⟨1, ![2048]⟩
abbrev S2048x8456 : Shape := ⟨2, ![2048, 8456]⟩
abbrev S2048x1024 : Shape := ⟨2, ![2048, 1024]⟩
abbrev S2048x128 : Shape := ⟨2, ![2048, 128]⟩
abbrev S2048x512 : Shape := ⟨2, ![2048, 512]⟩
abbrev S2048x4 : Shape := ⟨2, ![2048, 4]⟩
abbrev S2048x4096 : Shape := ⟨2, ![2048, 4096]⟩
abbrev S2048x8704 : Shape := ⟨2, ![2048, 8704]⟩
abbrev S33792x8704 : Shape := ⟨2, ![33792, 8704]⟩
abbrev S512x2048 : Shape := ⟨2, ![512, 2048]⟩
abbrev S2048x2176 : Shape := ⟨2, ![2048, 2176]⟩
abbrev S512x2176 : Shape := ⟨2, ![512, 2176]⟩
abbrev S512 : Shape := ⟨1, ![512]⟩
abbrev S512x1 : Shape := ⟨2, ![512, 1]⟩

abbrev nBuf : Space → Nat
  | .hbm => 28
  | .vmem => 10
  | .smem => 0
  | _ => 0

abbrev bufTy : (tb : Table) → Fin (tcTables nBuf tb) → BufTy
  | .hbm, ⟨0, _⟩ => ⟨S16x2048x2048, .f32⟩
  | .hbm, ⟨1, _⟩ => ⟨S128x4x2048, .f32⟩
  | .hbm, ⟨2, _⟩ => ⟨S1x2048, .f32⟩
  | .hbm, ⟨3, _⟩ => ⟨S1x2048x8456, .f32⟩
  | .hbm, ⟨4, _⟩ => ⟨S32768x2048, .f32⟩
  | .hbm, ⟨5, _⟩ => ⟨S_, .i32⟩
  | .hbm, ⟨6, _⟩ => ⟨S_, .f32⟩
  | .hbm, ⟨7, _⟩ => ⟨S128x8x2048, .f32⟩
  | .hbm, ⟨8, _⟩ => ⟨S1024x2048, .f32⟩
  | .hbm, ⟨9, _⟩ => ⟨S2048, .f32⟩
  | .hbm, ⟨10, _⟩ => ⟨S2048x8456, .f32⟩
  | .hbm, ⟨11, _⟩ => ⟨S2048x1024, .f32⟩
  | .hbm, ⟨12, _⟩ => ⟨S2048x128, .f32⟩
  | .hbm, ⟨13, _⟩ => ⟨S2048x128, .f32⟩
  | .hbm, ⟨14, _⟩ => ⟨S2048x512, .f32⟩
  | .hbm, ⟨15, _⟩ => ⟨S2048x512, .f32⟩
  | .hbm, ⟨16, _⟩ => ⟨S2048x1024, .f32⟩
  | .hbm, ⟨17, _⟩ => ⟨S2048x1024, .f32⟩
  | .hbm, ⟨18, _⟩ => ⟨S2048x4, .f32⟩
  | .hbm, ⟨19, _⟩ => ⟨S2048x4, .f32⟩
  | .hbm, ⟨20, _⟩ => ⟨S2048x4096, .f32⟩
  | .hbm, ⟨21, _⟩ => ⟨S2048x8456, .f32⟩
  | .hbm, ⟨22, _⟩ => ⟨S_, .i32⟩
  | .hbm, ⟨23, _⟩ => ⟨S_, .f32⟩
  | .hbm, ⟨24, _⟩ => ⟨S2048x8704, .f32⟩
  | .hbm, ⟨25, _⟩ => ⟨S2048x8704, .bf16⟩
  | .hbm, ⟨26, _⟩ => ⟨S1x2048, .f32⟩
  | .hbm, ⟨27, _⟩ => ⟨S33792x8704, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S2048x2176, .bf16⟩
  | .local _ .vmem, ⟨6, _⟩ => ⟨S2048x2176, .bf16⟩
  | .local _ .vmem, ⟨7, _⟩ => ⟨S512x2176, .f32⟩
  | .local _ .vmem, ⟨8, _⟩ => ⟨S512x2176, .f32⟩
  | .local _ .vmem, ⟨9, _⟩ => ⟨S512x2048, .bf16⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c_0 : Ref sig .tc := ⟨.hbm, 22, rfl⟩
abbrev main_call1_v0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![66, 4], ![false, false]⟩

def cc0_transform_0 (i : grid0.Coords) : Fin 2 → Nat :=
  let arg0 : BitVec 32 := BitVec.ofNat 32 (i 0).val
  let arg1 : BitVec 32 := BitVec.ofNat 32 (i 1).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x2176 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2176 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference3Ideal.lean ====
abbrev S16x2048x2048 : Shape := ⟨3, ![16, 2048, 2048]⟩
abbrev S128x4x2048 : Shape := ⟨3, ![128, 4, 2048]⟩
abbrev S1x2048 : Shape := ⟨2, ![1, 2048]⟩
abbrev S1x2048x8456 : Shape := ⟨3, ![1, 2048, 8456]⟩
abbrev S2048 : Shape := ⟨1, ![2048]⟩
abbrev S_ : Shape := ⟨0, ![]⟩
abbrev S16x2048 : Shape := ⟨2, ![16, 2048]⟩
abbrev S16x2048x1 : Shape := ⟨3, ![16, 2048, 1]⟩
abbrev S1x1x2048 : Shape := ⟨3, ![1, 1, 2048]⟩
abbrev S2048x8456 : Shape := ⟨2, ![2048, 8456]⟩
abbrev S16x2048x8456 : Shape := ⟨3, ![16, 2048, 8456]⟩
abbrev S128x4 : Shape := ⟨2, ![128, 4]⟩
abbrev S128x4x1 : Shape := ⟨3, ![128, 4, 1]⟩
abbrev S128x4x8456 : Shape := ⟨3, ![128, 4, 8456]⟩
abbrev S128x8x8456 : Shape := ⟨3, ![128, 8, 8456]⟩
abbrev S32768x8456 : Shape := ⟨2, ![32768, 8456]⟩
abbrev S1024x8456 : Shape := ⟨2, ![1024, 8456]⟩
abbrev S33792x8456 : Shape := ⟨2, ![33792, 8456]⟩
abbrev S33792x1024 : Shape := ⟨2, ![33792, 1024]⟩
abbrev S33792x128 : Shape := ⟨2, ![33792, 128]⟩
abbrev S33792x512 : Shape := ⟨2, ![33792, 512]⟩
abbrev S33792x4 : Shape := ⟨2, ![33792, 4]⟩
abbrev S33792x4096 : Shape := ⟨2, ![33792, 4096]⟩
abbrev S33792x8704 : Shape := ⟨2, ![33792, 8704]⟩

abbrev nBuf : Space → Nat
  | .hbm => 62
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S128x4x2048, .f32⟩
  | .hbm, ⟨2, _⟩ => ⟨S1x2048, .f32⟩
  | .hbm, ⟨3, _⟩ => ⟨S1x2048x8456, .f32⟩
  | .hbm, ⟨4, _⟩ => ⟨S2048, .f32⟩
  | .hbm, ⟨5, _⟩ => ⟨S16x2048x2048, .f32⟩
  | .hbm, ⟨6, _⟩ => ⟨S_, .f32⟩
  | .hbm, ⟨7, _⟩ => ⟨S16x2048, .f32⟩
  | .hbm, ⟨8, _⟩ => ⟨S16x2048x1, .f32⟩
  | .hbm, ⟨9, _⟩ => ⟨S_, .f32⟩
  | .hbm, ⟨10, _⟩ => ⟨S16x2048x1, .f32⟩
  | .hbm, ⟨11, _⟩ => ⟨S16x2048x1, .f32⟩
  | .hbm, ⟨12, _⟩ => ⟨S_, .f32⟩
  | .hbm, ⟨13, _⟩ => ⟨S16x2048x1, .f32⟩
  | .hbm, ⟨14, _⟩ => ⟨S16x2048x1, .f32⟩
  | .hbm, ⟨15, _⟩ => ⟨S16x2048x1, .f32⟩
  | .hbm, ⟨16, _⟩ => ⟨S16x2048x2048, .f32⟩
  | .hbm, ⟨17, _⟩ => ⟨S16x2048x2048, .f32⟩
  | .hbm, ⟨18, _⟩ => ⟨S1x1x2048, .f32⟩
  | .hbm, ⟨19, _⟩ => ⟨S16x2048x2048, .f32⟩
  | .hbm, ⟨20, _⟩ => ⟨S16x2048x2048, .f32⟩
  | .hbm, ⟨21, _⟩ => ⟨S2048x8456, .f32⟩
  | .hbm, ⟨22, _⟩ => ⟨S16x2048x8456, .f32⟩
  | .hbm, ⟨23, _⟩ => ⟨S2048, .f32⟩
  | .hbm, ⟨24, _⟩ => ⟨S128x4x2048, .f32⟩
  | .hbm, ⟨25, _⟩ => ⟨S_, .f32⟩
  | .hbm, ⟨26, _⟩ => ⟨S128x4, .f32⟩
  | .hbm, ⟨27, _⟩ => ⟨S128x4x1, .f32⟩
  | .hbm, ⟨28, _⟩ => ⟨S_, .f32⟩
  | .hbm, ⟨29, _⟩ => ⟨S128x4x1, .f32⟩
  | .hbm, ⟨30, _⟩ => ⟨S128x4x1, .f32⟩
  | .hbm, ⟨31, _⟩ => ⟨S_, .f32⟩
  | .hbm, ⟨32, _⟩ => ⟨S128x4x1, .f32⟩
  | .hbm, ⟨33, _⟩ => ⟨S128x4x1, .f32⟩
  | .hbm, ⟨34, _⟩ => ⟨S128x4x1, .f32⟩
  | .hbm, ⟨35, _⟩ => ⟨S128x4x2048, .f32⟩
  | .hbm, ⟨36, _⟩ => ⟨S128x4x2048, .f32⟩
  | .hbm, ⟨37, _⟩ => ⟨S1x1x2048, .f32⟩
  | .hbm, ⟨38, _⟩ => ⟨S128x4x2048, .f32⟩
  | .hbm, ⟨39, _⟩ => ⟨S128x4x2048, .f32⟩
  | .hbm, ⟨40, _⟩ => ⟨S2048x8456, .f32⟩
  | .hbm, ⟨41, _⟩ => ⟨S128x4x8456, .f32⟩
  | .hbm, ⟨42, _⟩ => ⟨S_, .i32⟩
  | .hbm, ⟨43, _⟩ => ⟨S_, .f32⟩
  | .hbm, ⟨44, _⟩ => ⟨S128x8x8456, .f32⟩
  | .hbm, ⟨45, _⟩ => ⟨S32768x8456, .f32⟩
  | .hbm, ⟨46, _⟩ => ⟨S1024x8456, .f32⟩
  | .hbm, ⟨47, _⟩ => ⟨S33792x8456, .f32⟩
  | .hbm, ⟨48, _⟩ => ⟨S33792x1024, .f32⟩
  | .hbm, ⟨49, _⟩ => ⟨S33792x128, .f32⟩
  | .hbm, ⟨50, _⟩ => ⟨S33792x128, .f32⟩
  | .hbm, ⟨51, _⟩ => ⟨S33792x512, .f32⟩
  | .hbm, ⟨52, _⟩ => ⟨S33792x512, .f32⟩
  | .hbm, ⟨53, _⟩ => ⟨S33792x1024, .f32⟩
  | .hbm, ⟨54, _⟩ => ⟨S33792x1024, .f32⟩
  | .hbm, ⟨55, _⟩ => ⟨S33792x4, .f32⟩
  | .hbm, ⟨56, _⟩ => ⟨S33792x4, .f32⟩
  | .hbm, ⟨57, _⟩ => ⟨S33792x4096, .f32⟩
  | .hbm, ⟨58, _⟩ => ⟨S33792x8456, .f32⟩
  | .hbm, ⟨59, _⟩ => ⟨S_, .i32⟩
  | .hbm, ⟨60, _⟩ => ⟨S_, .f32⟩
  | .hbm, ⟨61, _⟩ => ⟨S33792x8704, .f32⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_c : Ref sig .tc := ⟨.hbm, 42, rfl⟩
abbrev main_call0_v0 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_c_5 : Ref sig .tc := ⟨.hbm, 59, rfl⟩
abbrev main_call1_v0 : Ref sig .tc := ⟨.hbm, 60, rfl⟩
abbrev main_v47 : Ref sig .tc := ⟨.hbm, 61, rfl⟩

abbrev nD : Nat := 1
abbrev τ : Topo := Topo.v7x

variable {F : FTy → Type} [FloatOps F]
-- ==== Kernel4.lean ====
abbrev S16x2048x2048 : Shape := ⟨3, ![16, 2048, 2048]⟩
abbrev S128x4x2048 : Shape := ⟨3, ![128, 4, 2048]⟩
abbrev S32768x1024 : Shape := ⟨2, ![32768, 1024]⟩
abbrev S1024x1024 : Shape := ⟨2, ![1024, 1024]⟩
abbrev S33792x8704 : Shape := ⟨2, ![33792, 8704]⟩
abbrev S1x1024x2048 : Shape := ⟨3, ![1, 1024, 2048]⟩
abbrev S1x2048x2048 : Shape := ⟨3, ![1, 2048, 2048]⟩
abbrev S1x2048 : Shape := ⟨2, ![1, 2048]⟩
abbrev S1x2048x32 : Shape := ⟨3, ![1, 2048, 32]⟩
abbrev S1x32 : Shape := ⟨2, ![1, 32]⟩
abbrev S32768x2048 : Shape := ⟨2, ![32768, 2048]⟩
abbrev S_ : Shape := ⟨0, ![]⟩
abbrev S128x8x2048 : Shape := ⟨3, ![128, 8, 2048]⟩
abbrev S1024x2048 : Shape := ⟨2, ![1024, 2048]⟩
abbrev S2048x2048 : Shape := ⟨2, ![2048, 2048]⟩
abbrev S2048x32 : Shape := ⟨2, ![2048, 32]⟩
abbrev S2048x128 : Shape := ⟨2, ![2048, 128]⟩
abbrev S2048x256 : Shape := ⟨2, ![2048, 256]⟩
abbrev S2048 : Shape := ⟨1, ![2048]⟩
abbrev S32 : Shape := ⟨1, ![32]⟩
abbrev S128 : Shape := ⟨1, ![128]⟩
abbrev S1x128 : Shape := ⟨2, ![1, 128]⟩
abbrev S33792x2048 : Shape := ⟨2, ![33792, 2048]⟩
abbrev S33792x128 : Shape := ⟨2, ![33792, 128]⟩
abbrev S256x2048 : Shape := ⟨2, ![256, 2048]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩
abbrev S256x256 : Shape := ⟨2, ![256, 256]⟩

abbrev nBuf : Space → Nat
  | .hbm => 43
  | .vmem => 28
  | .smem => 0
  | _ => 0

abbrev bufTy : (tb : Table) → Fin (tcTables nBuf tb) → BufTy
  | .hbm, ⟨0, _⟩ => ⟨S16x2048x2048, .f32⟩
  | .hbm, ⟨1, _⟩ => ⟨S128x4x2048, .f32⟩
  | .hbm, ⟨2, _⟩ => ⟨S32768x1024, .bf16⟩
  | .hbm, ⟨3, _⟩ => ⟨S1024x1024, .bf16⟩
  | .hbm, ⟨4, _⟩ => ⟨S32768x1024, .bf16⟩
  | .hbm, ⟨5, _⟩ => ⟨S1024x1024, .bf16⟩
  | .hbm, ⟨6, _⟩ => ⟨S33792x8704, .f32⟩
  | .hbm, ⟨7, _⟩ => ⟨S1x1024x2048, .f32⟩
  | .hbm, ⟨8, _⟩ => ⟨S1x1024x2048, .f32⟩
  | .hbm, ⟨9, _⟩ => ⟨S1x2048x2048, .f32⟩
  | .hbm, ⟨10, _⟩ => ⟨S1x2048, .f32⟩
  | .hbm, ⟨11, _⟩ => ⟨S1x2048x32, .f32⟩
  | .hbm, ⟨12, _⟩ => ⟨S1x32, .f32⟩
  | .hbm, ⟨13, _⟩ => ⟨S32768x2048, .f32⟩
  | .hbm, ⟨14, _⟩ => ⟨S_, .i32⟩
  | .hbm, ⟨15, _⟩ => ⟨S_, .f32⟩
  | .hbm, ⟨16, _⟩ => ⟨S128x8x2048, .f32⟩
  | .hbm, ⟨17, _⟩ => ⟨S1024x2048, .f32⟩
  | .hbm, ⟨18, _⟩ => ⟨S1024x2048, .f32⟩
  | .hbm, ⟨19, _⟩ => ⟨S1024x2048, .bf16⟩
  | .hbm, ⟨20, _⟩ => ⟨S1024x2048, .f32⟩
  | .hbm, ⟨21, _⟩ => ⟨S1024x2048, .bf16⟩
  | .hbm, ⟨22, _⟩ => ⟨S2048x2048, .f32⟩
  | .hbm, ⟨23, _⟩ => ⟨S2048x2048, .bf16⟩
  | .hbm, ⟨24, _⟩ => ⟨S2048x32, .f32⟩
  | .hbm, ⟨25, _⟩ => ⟨S_, .i32⟩
  | .hbm, ⟨26, _⟩ => ⟨S_, .f32⟩
  | .hbm, ⟨27, _⟩ => ⟨S2048x128, .f32⟩
  | .hbm, ⟨28, _⟩ => ⟨S2048x128, .bf16⟩
  | .hbm, ⟨29, _⟩ => ⟨S2048x128, .f32⟩
  | .hbm, ⟨30, _⟩ => ⟨S2048x128, .f32⟩
  | .hbm, ⟨31, _⟩ => ⟨S2048x128, .bf16⟩
  | .hbm, ⟨32, _⟩ => ⟨S2048x256, .bf16⟩
  | .hbm, ⟨33, _⟩ => ⟨S2048, .f32⟩
  | .hbm, ⟨34, _⟩ => ⟨S32, .f32⟩
  | .hbm, ⟨35, _⟩ => ⟨S_, .i32⟩
  | .hbm, ⟨36, _⟩ => ⟨S_, .f32⟩
  | .hbm, ⟨37, _⟩ => ⟨S128, .f32⟩
  | .hbm, ⟨38, _⟩ => ⟨S1x128, .f32⟩
  | .hbm, ⟨39, _⟩ => ⟨S1x2048, .f32⟩
  | .hbm, ⟨40, _⟩ => ⟨S33792x2048, .f32⟩
  | .hbm, ⟨41, _⟩ => ⟨S33792x2048, .f32⟩
  | .hbm, ⟨42, _⟩ => ⟨S33792x128, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | .local _ .vmem, ⟨16, _⟩ => ⟨S1024x2048, .bf16⟩
  | .local _ .vmem, ⟨17, _⟩ => ⟨S1024x2048, .bf16⟩
  | .local _ .vmem, ⟨18, _⟩ => ⟨S2048x2048, .bf16⟩
  | .local _ .vmem, ⟨19, _⟩ => ⟨S1x2048, .f32⟩
  | .local _ .vmem, ⟨20, _⟩ => ⟨S2048x256, .bf16⟩
  | .local _ .vmem, ⟨21, _⟩ => ⟨S1x128, .f32⟩
  | .local _ .vmem, ⟨22, _⟩ => ⟨S256x2048, .f32⟩
  | .local _ .vmem, ⟨23, _⟩ => ⟨S256x2048, .f32⟩
  | .local _ .vmem, ⟨24, _⟩ => ⟨S256x2048, .f32⟩
  | .local _ .vmem, ⟨25, _⟩ => ⟨S256x2048, .f32⟩
  | .local _ .vmem, ⟨26, _⟩ => ⟨S256x128, .f32⟩
  | .local _ .vmem, ⟨27, _⟩ => ⟨S256x128, .f32⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_c : Ref sig .tc := ⟨.hbm, 14, rfl⟩
abbrev main_call0_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_c_0 : Ref sig .tc := ⟨.hbm, 25, rfl⟩
abbrev main_call1_v0 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_c_1 : Ref sig .tc := ⟨.hbm, 35, rfl⟩
abbrev main_call2_v0 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21_0 : Ref sig .tc := ⟨.hbm, 40, rfl⟩
abbrev main_v21_1 : Ref sig .tc := ⟨.hbm, 41, rfl⟩
abbrev main_v21_2 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27

abbrev nD : Nat := 1
abbrev τ : Topo := Topo.v7x

variable {F : FTy → Type} [FloatOps F]

abbrev grid0 : Pipeline.Grid := ⟨1, ![132], ![false]⟩

def cc0_transform_0 (i : grid0.Coords) : Fin 2 → Nat :=
  let arg0 : BitVec 32 := BitVec.ofNat 32 (i 0).val
  let c127_i32 : BitVec 32 := 127#32
  let v0 : BitVec 32 := Scalar.minsi arg0 c127_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c128_i32 : BitVec 32 := 128#32
  let v0 : BitVec 32 := Scalar.subi arg0 c128_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c127_i32 : BitVec 32 := 127#32
  let v0 : BitVec 32 := Scalar.minsi arg0 c127_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c128_i32 : BitVec 32 := 128#32
  let v0 : BitVec 32 := Scalar.subi arg0 c128_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c127_i32 : BitVec 32 := 127#32
  let v0 : BitVec 32 := Scalar.minsi arg0 c127_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c128_i32 : BitVec 32 := 128#32
  let v0 : BitVec 32 := Scalar.subi arg0 c128_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2048x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2048x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S256x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x2048 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference4Ideal.lean ====
abbrev S16x2048x2048 : Shape := ⟨3, ![16, 2048, 2048]⟩
abbrev S128x4x2048 : Shape := ⟨3, ![128, 4, 2048]⟩
abbrev S32768x1024 : Shape := ⟨2, ![32768, 1024]⟩
abbrev S1024x1024 : Shape := ⟨2, ![1024, 1024]⟩
abbrev S33792x8704 : Shape := ⟨2, ![33792, 8704]⟩
abbrev S1x1024x2048 : Shape := ⟨3, ![1, 1024, 2048]⟩
abbrev S1x2048x2048 : Shape := ⟨3, ![1, 2048, 2048]⟩
abbrev S1x2048 : Shape := ⟨2, ![1, 2048]⟩
abbrev S1x2048x32 : Shape := ⟨3, ![1, 2048, 32]⟩
abbrev S1x32 : Shape := ⟨2, ![1, 32]⟩
abbrev S_ : Shape := ⟨0, ![]⟩
abbrev S128x8x2048 : Shape := ⟨3, ![128, 8, 2048]⟩
abbrev S32768x2048 : Shape := ⟨2, ![32768, 2048]⟩
abbrev S1024x2048 : Shape := ⟨2, ![1024, 2048]⟩
abbrev S33792x2048 : Shape := ⟨2, ![33792, 2048]⟩
abbrev S33792x1024 : Shape := ⟨2, ![33792, 1024]⟩
abbrev S33792x4096 : Shape := ⟨2, ![33792, 4096]⟩
abbrev S2048x2048 : Shape := ⟨2, ![2048, 2048]⟩
abbrev S2048 : Shape := ⟨1, ![2048]⟩
abbrev S33792 : Shape := ⟨1, ![33792]⟩
abbrev S33792x1 : Shape := ⟨2, ![33792, 1]⟩

abbrev nBuf : Space → Nat
  | .hbm => 59
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S128x4x2048, .f32⟩
  | .hbm, ⟨2, _⟩ => ⟨S32768x1024, .bf16⟩
  | .hbm, ⟨3, _⟩ => ⟨S1024x1024, .bf16⟩
  | .hbm, ⟨4, _⟩ => ⟨S32768x1024, .bf16⟩
  | .hbm, ⟨5, _⟩ => ⟨S1024x1024, .bf16⟩
  | .hbm, ⟨6, _⟩ => ⟨S33792x8704, .f32⟩
  | .hbm, ⟨7, _⟩ => ⟨S1x1024x2048, .f32⟩
  | .hbm, ⟨8, _⟩ => ⟨S1x1024x2048, .f32⟩
  | .hbm, ⟨9, _⟩ => ⟨S1x2048x2048, .f32⟩
  | .hbm, ⟨10, _⟩ => ⟨S1x2048, .f32⟩
  | .hbm, ⟨11, _⟩ => ⟨S1x2048x32, .f32⟩
  | .hbm, ⟨12, _⟩ => ⟨S1x32, .f32⟩
  | .hbm, ⟨13, _⟩ => ⟨S_, .i32⟩
  | .hbm, ⟨14, _⟩ => ⟨S_, .f32⟩
  | .hbm, ⟨15, _⟩ => ⟨S128x8x2048, .f32⟩
  | .hbm, ⟨16, _⟩ => ⟨S32768x2048, .f32⟩
  | .hbm, ⟨17, _⟩ => ⟨S1024x2048, .f32⟩
  | .hbm, ⟨18, _⟩ => ⟨S33792x2048, .f32⟩
  | .hbm, ⟨19, _⟩ => ⟨S33792x1024, .bf16⟩
  | .hbm, ⟨20, _⟩ => ⟨S33792x1024, .bf16⟩
  | .hbm, ⟨21, _⟩ => ⟨S33792x4096, .f32⟩
  | .hbm, ⟨22, _⟩ => ⟨S33792x4096, .f32⟩
  | .hbm, ⟨23, _⟩ => ⟨S33792x4096, .f32⟩
  | .hbm, ⟨24, _⟩ => ⟨S_, .f32⟩
  | .hbm, ⟨25, _⟩ => ⟨S33792x4096, .f32⟩
  | .hbm, ⟨26, _⟩ => ⟨S33792x4096, .f32⟩
  | .hbm, ⟨27, _⟩ => ⟨S_, .f32⟩
  | .hbm, ⟨28, _⟩ => ⟨S33792x4096, .f32⟩
  | .hbm, ⟨29, _⟩ => ⟨S33792x4096, .f32⟩
  | .hbm, ⟨30, _⟩ => ⟨S33792x2048, .f32⟩
  | .hbm, ⟨31, _⟩ => ⟨S1024x2048, .f32⟩
  | .hbm, ⟨32, _⟩ => ⟨S33792x2048, .f32⟩
  | .hbm, ⟨33, _⟩ => ⟨S33792x2048, .f32⟩
  | .hbm, ⟨34, _⟩ => ⟨S33792x2048, .f32⟩
  | .hbm, ⟨35, _⟩ => ⟨S1024x2048, .f32⟩
  | .hbm, ⟨36, _⟩ => ⟨S33792x2048, .f32⟩
  | .hbm, ⟨37, _⟩ => ⟨S33792x2048, .f32⟩
  | .hbm, ⟨38, _⟩ => ⟨S33792x2048, .f32⟩
  | .hbm, ⟨39, _⟩ => ⟨S2048x2048, .f32⟩
  | .hbm, ⟨40, _⟩ => ⟨S33792x2048, .f32⟩
  | .hbm, ⟨41, _⟩ => ⟨S33792x2048, .f32⟩
  | .hbm, ⟨42, _⟩ => ⟨S2048, .f32⟩
  | .hbm, ⟨43, _⟩ => ⟨S33792x2048, .f32⟩
  | .hbm, ⟨44, _⟩ => ⟨S_, .f32⟩
  | .hbm, ⟨45, _⟩ => ⟨S33792, .f32⟩
  | .hbm, ⟨46, _⟩ => ⟨S33792x1, .f32⟩
  | .hbm, ⟨47, _⟩ => ⟨S_, .f32⟩
  | .hbm, ⟨48, _⟩ => ⟨S33792x1, .f32⟩
  | .hbm, ⟨49, _⟩ => ⟨S33792x1, .f32⟩
  | .hbm, ⟨50, _⟩ => ⟨S_, .f32⟩
  | .hbm, ⟨51, _⟩ => ⟨S33792x1, .f32⟩
  | .hbm, ⟨52, _⟩ => ⟨S33792x1, .f32⟩
  | .hbm, ⟨53, _⟩ => ⟨S33792x1, .f32⟩
  | .hbm, ⟨54, _⟩ => ⟨S33792x2048, .f32⟩
  | .hbm, ⟨55, _⟩ => ⟨S33792x2048, .f32⟩
  | .hbm, ⟨56, _⟩ => ⟨S1x2048, .f32⟩
  | .hbm, ⟨57, _⟩ => ⟨S33792x2048, .f32⟩
  | .hbm, ⟨58, _⟩ => ⟨S33792x2048, .f32⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_call0_v0 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst : Ref sig .tc := ⟨.hbm, 24, rfl⟩
abbrev main_v9 : Ref sig .tc := ⟨.hbm, 25, rfl⟩
abbrev main_v10 : Ref sig .tc := ⟨.hbm, 26, rfl⟩
abbrev main_cst_0 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_1 : Ref sig .tc := ⟨.hbm, 44, rfl⟩
abbrev main_v27 : Ref sig .tc := ⟨.hbm, 45, rfl⟩
abbrev main_v28 : Ref sig .tc := ⟨.hbm, 46, rfl⟩
abbrev main_cst_2 : Ref sig .tc := ⟨.hbm, 47, rfl⟩
abbrev main_v29 : Ref sig .tc := ⟨.hbm, 48, rfl⟩
abbrev main_v30 : Ref sig .tc := ⟨.hbm, 49, rfl⟩
abbrev main_cst_3 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩

abbrev nD : Nat := 1
abbrev τ : Topo := Topo.v7x

variable {F : FTy → Type} [FloatOps F]
-- ==== Kernel5.lean ====
abbrev S33792x8704 : Shape := ⟨2, ![33792, 8704]⟩
abbrev S16 : Shape := ⟨1, ![16]⟩
abbrev S1x128x128x2x64 : Shape := ⟨5, ![1, 128, 128, 2, 64]⟩
abbrev S_ : Shape := ⟨0, ![]⟩
abbrev S128 : Shape := ⟨1, ![128]⟩
abbrev S1x128 : Shape := ⟨2, ![1, 128]⟩
abbrev S128x128x2x64 : Shape := ⟨4, ![128, 128, 2, 64]⟩
abbrev S128x128x128 : Shape := ⟨3, ![128, 128, 128]⟩
abbrev S1024x1024 : Shape := ⟨2, ![1024, 1024]⟩
abbrev S64x1024 : Shape := ⟨2, ![64, 1024]⟩
abbrev S64x256 : Shape := ⟨2, ![64, 256]⟩
abbrev S8x128x128 : Shape := ⟨3, ![8, 128, 128]⟩
abbrev S8x128 : Shape := ⟨2, ![8, 128]⟩
abbrev S32x128 : Shape := ⟨2, ![32, 128]⟩
abbrev S32x8 : Shape := ⟨2, ![32, 8]⟩
abbrev S8x1024 : Shape := ⟨2, ![8, 1024]⟩
abbrev S1x128x128 : Shape := ⟨3, ![1, 128, 128]⟩
abbrev S128x128 : Shape := ⟨2, ![128, 128]⟩
abbrev S1x8x128 : Shape := ⟨3, ![1, 8, 128]⟩
abbrev S1x1 : Shape := ⟨2, ![1, 1]⟩
abbrev S8x1 : Shape := ⟨2, ![8, 1]⟩
abbrev S1024x128 : Shape := ⟨2, ![1024, 128]⟩
abbrev S1024x8 : Shape := ⟨2, ![1024, 8]⟩
abbrev S1024x1 : Shape := ⟨2, ![1024, 1]⟩
abbrev S1024 : Shape := ⟨1, ![1024]⟩

abbrev nBuf : Space → Nat
  | .hbm => 15
  | .vmem => 16
  | .smem => 0
  | _ => 0

abbrev bufTy : (tb : Table) → Fin (tcTables nBuf tb) → BufTy
  | .hbm, ⟨0, _⟩ => ⟨S33792x8704, .f32⟩
  | .hbm, ⟨1, _⟩ => ⟨S16, .f32⟩
  | .hbm, ⟨2, _⟩ => ⟨S1x128x128x2x64, .f32⟩
  | .hbm, ⟨3, _⟩ => ⟨S1x128x128x2x64, .f32⟩
  | .hbm, ⟨4, _⟩ => ⟨S_, .i32⟩
  | .hbm, ⟨5, _⟩ => ⟨S_, .f32⟩
  | .hbm, ⟨6, _⟩ => ⟨S128, .f32⟩
  | .hbm, ⟨7, _⟩ => ⟨S1x128, .f32⟩
  | .hbm, ⟨8, _⟩ => ⟨S128x128x2x64, .f32⟩
  | .hbm, ⟨9, _⟩ => ⟨S128x128x128, .f32⟩
  | .hbm, ⟨10, _⟩ => ⟨S128x128x2x64, .f32⟩
  | .hbm, ⟨11, _⟩ => ⟨S128x128x128, .f32⟩
  | .hbm, ⟨12, _⟩ => ⟨S1024x1024, .bf16⟩
  | .hbm, ⟨13, _⟩ => ⟨S128x128x128, .f32⟩
  | .hbm, ⟨14, _⟩ => ⟨S128x128x128, .f32⟩
  | .local _ .vmem, ⟨0, _⟩ => ⟨S64x1024, .f32⟩
  | .local _ .vmem, ⟨1, _⟩ => ⟨S64x1024, .f32⟩
  | .local _ .vmem, ⟨2, _⟩ => ⟨S64x256, .f32⟩
  | .local _ .vmem, ⟨3, _⟩ => ⟨S64x256, .f32⟩
  | .local _ .vmem, ⟨4, _⟩ => ⟨S8x128x128, .f32⟩
  | .local _ .vmem, ⟨5, _⟩ => ⟨S8x128x128, .f32⟩
  | .local _ .vmem, ⟨6, _⟩ => ⟨S8x128x128, .f32⟩
  | .local _ .vmem, ⟨7, _⟩ => ⟨S8x128x128, .f32⟩
  | .local _ .vmem, ⟨8, _⟩ => ⟨S1x128, .f32⟩
  | .local _ .vmem, ⟨9, _⟩ => ⟨S64x1024, .bf16⟩
  | .local _ .vmem, ⟨10, _⟩ => ⟨S64x1024, .bf16⟩
  | .local _ .vmem, ⟨11, _⟩ => ⟨S8x128x128, .f32⟩
  | .local _ .vmem, ⟨12, _⟩ => ⟨S8x128x128, .f32⟩
  | .local _ .vmem, ⟨13, _⟩ => ⟨S8x128x128, .f32⟩
  | .local _ .vmem, ⟨14, _⟩ => ⟨S8x128x128, .f32⟩
  | .local _ .vmem, ⟨15, _⟩ => ⟨S64x1024, .f32⟩
  | _, _ => ⟨S33792x8704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c512_i32 : BitVec 32 := 512#32
  let v0 : BitVec 32 := Scalar.addi c512_i32 arg0
  let c4_i32 : BitVec 32 := 4#32
  let c0_i32 : BitVec 32 := 0#32
  ![v0.toNat, c4_i32.toNat]

def cc0_transform_1 (i : grid0.Coords) : Fin 2 → Nat :=
  let arg0 : BitVec 32 := BitVec.ofNat 32 (i 0).val
  let c512_i32 : BitVec 32 := 512#32
  let v0 : BitVec 32 := Scalar.addi c512_i32 arg0
  let c32_i32 : BitVec 32 := 32#32
  let c0_i32 : BitVec 32 := 0#32
  ![v0.toNat, c32_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S64x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel5Ideal.lean ====
variable {F : FTy → Type} [FloatOps F] [Named F]
def κ : String → Option EReal := fun
  | "mask" => some ⊥
  | _ => none
-- ==== Reference5Ideal.lean ====
abbrev S33792x8704 : Shape := ⟨2, ![33792, 8704]⟩
abbrev S16 : Shape := ⟨1, ![16]⟩
abbrev S1x128x128x2x64 : Shape := ⟨5, ![1, 128, 128, 2, 64]⟩
abbrev S1024x8704 : Shape := ⟨2, ![1024, 8704]⟩
abbrev S128x8x8704 : Shape := ⟨3, ![128, 8, 8704]⟩
abbrev S128x4x8704 : Shape := ⟨3, ![128, 4, 8704]⟩
abbrev S128x4x128 : Shape := ⟨3, ![128, 4, 128]⟩
abbrev S128x4x2x64 : Shape := ⟨4, ![128, 4, 2, 64]⟩
abbrev S128x128x2x64 : Shape := ⟨4, ![128, 128, 2, 64]⟩
abbrev S128x132x2x64 : Shape := ⟨4, ![128, 132, 2, 64]⟩
abbrev S128x128x128 : Shape := ⟨3, ![128, 128, 128]⟩

abbrev nBuf : Space → Nat
  | .hbm => 19
  | .vmem => 0
  | .smem => 0
  | _ => 0

abbrev bufTy : (tb : Table) → Fin (tcTables nBuf tb) → BufTy
  | .hbm, ⟨0, _⟩ => ⟨S33792x8704, .f32⟩
  | .hbm, ⟨1, _⟩ => ⟨S16, .f32⟩
  | .hbm, ⟨2, _⟩ => ⟨S1x128x128x2x64, .f32⟩
  | .hbm, ⟨3, _⟩ => ⟨S1x128x128x2x64, .f32⟩
  | .hbm, ⟨4, _⟩ => ⟨S1024x8704, .f32⟩
  | .hbm, ⟨5, _⟩ => ⟨S128x8x8704, .f32⟩
  | .hbm, ⟨6, _⟩ => ⟨S128x4x8704, .f32⟩
  | .hbm, ⟨7, _⟩ => ⟨S128x4x128, .f32⟩
  | .hbm, ⟨8, _⟩ => ⟨S128x4x2x64, .f32⟩
  | .hbm, ⟨9, _⟩ => ⟨S128x4x128, .f32⟩
  | .hbm, ⟨10, _⟩ => ⟨S128x4x2x64, .f32⟩
  | .hbm, ⟨11, _⟩ => ⟨S128x128x2x64, .f32⟩
  | .hbm, ⟨12, _⟩ => ⟨S128x132x2x64, .f32⟩
  | .hbm, ⟨13, _⟩ => ⟨S128x128x2x64, .f32⟩
  | .hbm, ⟨14, _⟩ => ⟨S128x132x2x64, .f32⟩
  | .hbm, ⟨15, _⟩ => ⟨S128x128x2x64, .f32⟩
  | .hbm, ⟨16, _⟩ => ⟨S128x128x128, .f32⟩
  | .hbm, ⟨17, _⟩ => ⟨S128x128x2x64, .f32⟩
  | .hbm, ⟨18, _⟩ => ⟨S128x128x128, .f32⟩
  | _, _ => ⟨S33792x8704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]
-- ==== Kernel6.lean ====
abbrev S33792x8704 : Shape := ⟨2, ![33792, 8704]⟩
abbrev S1x8 : Shape := ⟨2, ![1, 8]⟩
abbrev S1x1024 : Shape := ⟨2, ![1, 1024]⟩
abbrev S1x128x4x128x256 : Shape := ⟨5, ![1, 128, 4, 128, 256]⟩
abbrev S1x128x4x128 : Shape := ⟨4, ![1, 128, 4, 128]⟩
abbrev S1x128x4 : Shape := ⟨3, ![1, 128, 4]⟩
abbrev S8 : Shape := ⟨1, ![8]⟩
abbrev S_ : Shape := ⟨0, ![]⟩
abbrev S128 : Shape := ⟨1, ![128]⟩
abbrev S1x128 : Shape := ⟨2, ![1, 128]⟩
abbrev S1024 : Shape := ⟨1, ![1024]⟩
abbrev S128x4x128x256 : Shape := ⟨4, ![128, 4, 128, 256]⟩
abbrev S128x4x128 : Shape := ⟨3, ![128, 4, 128]⟩
abbrev S128x4 : Shape := ⟨2, ![128, 4]⟩
abbrev S16x8x4 : Shape := ⟨3, ![16, 8, 4]⟩
abbrev S1024x1024 : Shape := ⟨2, ![1024, 1024]⟩
abbrev S64x512 : Shape := ⟨2, ![64, 512]⟩
abbrev S64x1024 : Shape := ⟨2, ![64, 1024]⟩
abbrev S64x128 : Shape := ⟨2, ![64, 128]⟩
abbrev S8x4x128x256 : Shape := ⟨4, ![8, 4, 128, 256]⟩
abbrev S8x4x128 : Shape := ⟨3, ![8, 4, 128]⟩
abbrev S1x8x4 : Shape := ⟨3, ![1, 8, 4]⟩
abbrev S8x128 : Shape := ⟨2, ![8, 128]⟩
abbrev S128x128 : Shape := ⟨2, ![128, 128]⟩
abbrev S128x8 : Shape := ⟨2, ![128, 8]⟩
abbrev S8x256 : Shape := ⟨2, ![8, 256]⟩
abbrev S1x1x128x256 : Shape := ⟨4, ![1, 1, 128, 256]⟩
abbrev S128x256 : Shape := ⟨2, ![128, 256]⟩
abbrev S1x1x128 : Shape := ⟨3, ![1, 1, 128]⟩
abbrev S1x1x1 : Shape := ⟨3, ![1, 1, 1]⟩
abbrev S1x1 : Shape := ⟨2, ![1, 1]⟩
abbrev S8x1 : Shape := ⟨2, ![8, 1]⟩
abbrev S8x8 : Shape := ⟨2, ![8, 8]⟩
abbrev S1x256 : Shape := ⟨2, ![1, 256]⟩

abbrev nBuf : Space → Nat
  | .hbm => 21
  | .vmem => 27
  | .smem => 0
  | _ => 0

abbrev bufTy : (tb : Table) → Fin (tcTables nBuf tb) → BufTy
  | .hbm, ⟨0, _⟩ => ⟨S33792x8704, .f32⟩
  | .hbm, ⟨1, _⟩ => ⟨S1x8, .f32⟩
  | .hbm, ⟨2, _⟩ => ⟨S1x1024, .f32⟩
  | .hbm, ⟨3, _⟩ => ⟨S1x128x4x128x256, .f32⟩
  | .hbm, ⟨4, _⟩ => ⟨S1x128x4x128, .f32⟩
  | .hbm, ⟨5, _⟩ => ⟨S1x128x4, .f32⟩
  | .hbm, ⟨6, _⟩ => ⟨S8, .f32⟩
  | .hbm, ⟨7, _⟩ => ⟨S_, .i32⟩
  | .hbm, ⟨8, _⟩ => ⟨S_, .f32⟩
  | .hbm, ⟨9, _⟩ => ⟨S128, .f32⟩
  | .hbm, ⟨10, _⟩ => ⟨S1x128, .f32⟩
  | .hbm, ⟨11, _⟩ => ⟨S1024, .f32⟩
  | .hbm, ⟨12, _⟩ => ⟨S1x1024, .f32⟩
  | .hbm, ⟨13, _⟩ => ⟨S128x4x128x256, .f32⟩
  | .hbm, ⟨14, _⟩ => ⟨S128x4x128, .f32⟩
  | .hbm, ⟨15, _⟩ => ⟨S128x4, .f32⟩
  | .hbm, ⟨16, _⟩ => ⟨S16x8x4, .f32⟩
  | .hbm, ⟨17, _⟩ => ⟨S1024x1024, .bf16⟩
  | .hbm, ⟨18, _⟩ => ⟨S128x4x128x256, .f32⟩
  | .hbm, ⟨19, _⟩ => ⟨S128x4x128, .f32⟩
  | .hbm, ⟨20, _⟩ => ⟨S16x8x4, .f32⟩
  | .local _ .vmem, ⟨0, _⟩ => ⟨S64x512, .f32⟩
  | .local _ .vmem, ⟨1, _⟩ => ⟨S64x512, .f32⟩
  | .local _ .vmem, ⟨2, _⟩ => ⟨S64x512, .f32⟩
  | .local _ .vmem, ⟨3, _⟩ => ⟨S64x512, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S64x128, .f32⟩
  | .local _ .vmem, ⟨9, _⟩ => ⟨S64x128, .f32⟩
  | .local _ .vmem, ⟨10, _⟩ => ⟨S1x128, .f32⟩
  | .local _ .vmem, ⟨11, _⟩ => ⟨S1x1024, .f32⟩
  | .local _ .vmem, ⟨12, _⟩ => ⟨S8x4x128x256, .f32⟩
  | .local _ .vmem, ⟨13, _⟩ => ⟨S8x4x128x256, .f32⟩
  | .local _ .vmem, ⟨14, _⟩ => ⟨S8x4x128, .f32⟩
  | .local _ .vmem, ⟨15, _⟩ => ⟨S8x4x128, .f32⟩
  | .local _ .vmem, ⟨16, _⟩ => ⟨S1x8x4, .f32⟩
  | .local _ .vmem, ⟨17, _⟩ => ⟨S1x8x4, .f32⟩
  | .local _ .vmem, ⟨18, _⟩ => ⟨S64x1024, .bf16⟩
  | .local _ .vmem, ⟨19, _⟩ => ⟨S64x1024, .bf16⟩
  | .local _ .vmem, ⟨20, _⟩ => ⟨S8x4x128x256, .f32⟩
  | .local _ .vmem, ⟨21, _⟩ => ⟨S8x4x128x256, .f32⟩
  | .local _ .vmem, ⟨22, _⟩ => ⟨S8x4x128, .f32⟩
  | .local _ .vmem, ⟨23, _⟩ => ⟨S8x4x128, .f32⟩
  | .local _ .vmem, ⟨24, _⟩ => ⟨S1x8x4, .f32⟩
  | .local _ .vmem, ⟨25, _⟩ => ⟨S1x8x4, .f32⟩
  | .local _ .vmem, ⟨26, _⟩ => ⟨S64x1024, .f32⟩
  | _, _ => ⟨S33792x8704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev main_v9_2 : Ref sig .tc := ⟨.hbm, 19, rfl⟩
abbrev main_v9_3 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c512_i32 : BitVec 32 := 512#32
  let v0 : BitVec 32 := Scalar.addi c512_i32 arg0
  let c14_i32 : BitVec 32 := 14#32
  let c0_i32 : BitVec 32 := 0#32
  ![v0.toNat, c14_i32.toNat]

def cc0_transform_1 (i : grid0.Coords) : Fin 2 → Nat :=
  let arg0 : BitVec 32 := BitVec.ofNat 32 (i 0).val
  let c512_i32 : BitVec 32 := 512#32
  let v0 : BitVec 32 := Scalar.addi c512_i32 arg0
  let c15_i32 : BitVec 32 := 15#32
  let c0_i32 : BitVec 32 := 0#32
  ![v0.toNat, c15_i32.toNat]

def cc0_transform_2 (i : grid0.Coords) : Fin 2 → Nat :=
  let arg0 : BitVec 32 := BitVec.ofNat 32 (i 0).val
  let c512_i32 : BitVec 32 := 512#32
  let v0 : BitVec 32 := Scalar.addi c512_i32 arg0
  let c5_i32 : BitVec 32 := 5#32
  let c0_i32 : BitVec 32 := 0#32
  ![v0.toNat, c5_i32.toNat]

def cc0_transform_3 (i : grid0.Coords) : Fin 2 → Nat :=
  let arg0 : BitVec 32 := BitVec.ofNat 32 (i 0).val
  let c512_i32 : BitVec 32 := 512#32
  let v0 : BitVec 32 := Scalar.addi c512_i32 arg0
  let c6_i32 : BitVec 32 := 6#32
  let c0_i32 : BitVec 32 := 0#32
  ![v0.toNat, c6_i32.toNat]

def cc0_transform_4 (i : grid0.Coords) : Fin 2 → Nat :=
  let arg0 : BitVec 32 := BitVec.ofNat 32 (i 0).val
  let c512_i32 : BitVec 32 := 512#32
  let v0 : BitVec 32 := Scalar.addi c512_i32 arg0
  let c66_i32 : BitVec 32 := 66#32
  let c0_i32 : BitVec 32 := 0#32
  ![v0.toNat, c66_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8x4x128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x4x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x8x4 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S64x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x4x128x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x4x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x8x4 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Kernel6Ideal.lean ====
variable {F : FTy → Type} [FloatOps F] [Named F]
def κ : String → Option EReal := fun
  | "mask" => some ⊥
  | _ => none
-- ==== Reference6Ideal.lean ====
abbrev S33792x8704 : Shape := ⟨2, ![33792, 8704]⟩
abbrev S1x8 : Shape := ⟨2, ![1, 8]⟩
abbrev S1x1024 : Shape := ⟨2, ![1, 1024]⟩
abbrev S1x128x4x128x256 : Shape := ⟨5, ![1, 128, 4, 128, 256]⟩
abbrev S1x128x4x128 : Shape := ⟨4, ![1, 128, 4, 128]⟩
abbrev S1x128x4 : Shape := ⟨3, ![1, 128, 4]⟩
abbrev S1024x8704 : Shape := ⟨2, ![1024, 8704]⟩
abbrev S128x8x8704 : Shape := ⟨3, ![128, 8, 8704]⟩
abbrev S128x4x8704 : Shape := ⟨3, ![128, 4, 8704]⟩
abbrev S128x4x512 : Shape := ⟨3, ![128, 4, 512]⟩
abbrev S128x4x4x128 : Shape := ⟨4, ![128, 4, 4, 128]⟩
abbrev S_ : Shape := ⟨0, ![]⟩
abbrev S128x4x1024 : Shape := ⟨3, ![128, 4, 1024]⟩
abbrev S128x4x4x256 : Shape := ⟨4, ![128, 4, 4, 256]⟩
abbrev S128x4x8 : Shape := ⟨3, ![128, 4, 8]⟩
abbrev S8 : Shape := ⟨1, ![8]⟩
abbrev S1x1x8 : Shape := ⟨3, ![1, 1, 8]⟩
abbrev S128x4x4 : Shape := ⟨3, ![128, 4, 4]⟩
abbrev S128x4x128x256 : Shape := ⟨4, ![128, 4, 128, 256]⟩
abbrev S128x4x128 : Shape := ⟨3, ![128, 4, 128]⟩
abbrev S128x4 : Shape := ⟨2, ![128, 4]⟩
abbrev S4x4 : Shape := ⟨2, ![4, 4]⟩
abbrev S128x4x4x1 : Shape := ⟨4, ![128, 4, 4, 1]⟩
abbrev S128x4x1x4 : Shape := ⟨4, ![128, 4, 1, 4]⟩
abbrev S128x4x4x4 : Shape := ⟨4, ![128, 4, 4, 4]⟩
abbrev S128x4x1 : Shape := ⟨3, ![128, 4, 1]⟩
abbrev S128x4x1x1 : Shape := ⟨4, ![128, 4, 1, 1]⟩
abbrev S16x8x4 : Shape := ⟨3, ![16, 8, 4]⟩

abbrev nBuf : Space → Nat
  | .hbm => 108
  | .vmem => 0
  | .smem => 0
  | _ => 0

abbrev bufTy : (tb : Table) → Fin (tcTables nBuf tb) → BufTy
  | .hbm, ⟨0, _⟩ => ⟨S33792x8704, .f32⟩
  | .hbm, ⟨1, _⟩ => ⟨S1x8, .f32⟩
  | .hbm, ⟨2, _⟩ => ⟨S1x1024, .f32⟩
  | .hbm, ⟨3, _⟩ => ⟨S1x128x4x128x256, .f32⟩
  | .hbm, ⟨4, _⟩ => ⟨S1x128x4x128, .f32⟩
  | .hbm, ⟨5, _⟩ => ⟨S1x128x4, .f32⟩
  | .hbm, ⟨6, _⟩ => ⟨S1024x8704, .f32⟩
  | .hbm, ⟨7, _⟩ => ⟨S128x8x8704, .f32⟩
  | .hbm, ⟨8, _⟩ => ⟨S128x4x8704, .f32⟩
  | .hbm, ⟨9, _⟩ => ⟨S128x4x512, .f32⟩
  | .hbm, ⟨10, _⟩ => ⟨S128x4x4x128, .f32⟩
  | .hbm, ⟨11, _⟩ => ⟨S128x4x4x128, .f32⟩
  | .hbm, ⟨12, _⟩ => ⟨S_, .f32⟩
  | .hbm, ⟨13, _⟩ => ⟨S128x4x4x128, .f32⟩
  | .hbm, ⟨14, _⟩ => ⟨S128x4x4x128, .f32⟩
  | .hbm, ⟨15, _⟩ => ⟨S128x4x1024, .f32⟩
  | .hbm, ⟨16, _⟩ => ⟨S128x4x4x256, .f32⟩
  | .hbm, ⟨17, _⟩ => ⟨S128x4x4x256, .f32⟩
  | .hbm, ⟨18, _⟩ => ⟨S128x4x8, .f32⟩
  | .hbm, ⟨19, _⟩ => ⟨S8, .f32⟩
  | .hbm, ⟨20, _⟩ => ⟨S1x1x8, .f32⟩
  | .hbm, ⟨21, _⟩ => ⟨S128x4x8, .f32⟩
  | .hbm, ⟨22, _⟩ => ⟨S128x4x8, .f32⟩
  | .hbm, ⟨23, _⟩ => ⟨S128x4x4, .f32⟩
  | .hbm, ⟨24, _⟩ => ⟨S128x4x4, .f32⟩
  | .hbm, ⟨25, _⟩ => ⟨S128x4x4, .f32⟩
  | .hbm, ⟨26, _⟩ => ⟨S128x4x4, .f32⟩
  | .hbm, ⟨27, _⟩ => ⟨S_, .f32⟩
  | .hbm, ⟨28, _⟩ => ⟨S128x4x4, .f32⟩
  | .hbm, ⟨29, _⟩ => ⟨S128x4x4, .f32⟩
  | .hbm, ⟨30, _⟩ => ⟨S128x4x4, .f32⟩
  | .hbm, ⟨31, _⟩ => ⟨S128x4x4, .f32⟩
  | .hbm, ⟨32, _⟩ => ⟨S128x4x4, .i1⟩
  | .hbm, ⟨33, _⟩ => ⟨S128x4x4, .f32⟩
  | .hbm, ⟨34, _⟩ => ⟨S128x4x4, .f32⟩
  | .hbm, ⟨35, _⟩ => ⟨S128x4x4, .f32⟩
  | .hbm, ⟨36, _⟩ => ⟨S128x4x4, .f32⟩
  | .hbm, ⟨37, _⟩ => ⟨S128x4x4, .f32⟩
  | .hbm, ⟨38, _⟩ => ⟨S128x4x4, .f32⟩
  | .hbm, ⟨39, _⟩ => ⟨S128x4x4, .f32⟩
  | .hbm, ⟨40, _⟩ => ⟨S128x4x4, .f32⟩
  | .hbm, ⟨41, _⟩ => ⟨S128x4x4, .f32⟩
  | .hbm, ⟨42, _⟩ => ⟨S128x4x4, .f32⟩
  | .hbm, ⟨43, _⟩ => ⟨S128x4x128x256, .f32⟩
  | .hbm, ⟨44, _⟩ => ⟨S128x4x128, .f32⟩
  | .hbm, ⟨45, _⟩ => ⟨S128x4, .f32⟩
  | .hbm, ⟨46, _⟩ => ⟨S_, .i1⟩
  | .hbm, ⟨47, _⟩ => ⟨S4x4, .i1⟩
  | .hbm, ⟨48, _⟩ => ⟨S4x4, .i32⟩
  | .hbm, ⟨49, _⟩ => ⟨S_, .i32⟩
  | .hbm, ⟨50, _⟩ => ⟨S4x4, .i32⟩
  | .hbm, ⟨51, _⟩ => ⟨S4x4, .i32⟩
  | .hbm, ⟨52, _⟩ => ⟨S4x4, .i32⟩
  | .hbm, ⟨53, _⟩ => ⟨S4x4, .i1⟩
  | .hbm, ⟨54, _⟩ => ⟨S_, .i1⟩
  | .hbm, ⟨55, _⟩ => ⟨S4x4, .i1⟩
  | .hbm, ⟨56, _⟩ => ⟨S4x4, .i1⟩
  | .hbm, ⟨57, _⟩ => ⟨S_, .f32⟩
  | .hbm, ⟨58, _⟩ => ⟨S_, .f32⟩
  | .hbm, ⟨59, _⟩ => ⟨S128x4x4, .f32⟩
  | .hbm, ⟨60, _⟩ => ⟨S128x4x4x1, .f32⟩
  | .hbm, ⟨61, _⟩ => ⟨S128x4x1x4, .f32⟩
  | .hbm, ⟨62, _⟩ => ⟨S128x4x4x4, .f32⟩
  | .hbm, ⟨63, _⟩ => ⟨S128x4x4x4, .f32⟩
  | .hbm, ⟨64, _⟩ => ⟨S128x4x4x4, .f32⟩
  | .hbm, ⟨65, _⟩ => ⟨S128x4x1x4, .f32⟩
  | .hbm, ⟨66, _⟩ => ⟨S128x4x4x4, .f32⟩
  | .hbm, ⟨67, _⟩ => ⟨S128x4x4x4, .f32⟩
  | .hbm, ⟨68, _⟩ => ⟨S_, .f32⟩
  | .hbm, ⟨69, _⟩ => ⟨S_, .f32⟩
  | .hbm, ⟨70, _⟩ => ⟨S128x4x4x4, .i1⟩
  | .hbm, ⟨71, _⟩ => ⟨S128x4x4x4, .f32⟩
  | .hbm, ⟨72, _⟩ => ⟨S128x4x4x4, .f32⟩
  | .hbm, ⟨73, _⟩ => ⟨S128x4x1, .f32⟩
  | .hbm, ⟨74, _⟩ => ⟨S128x4x4, .f32⟩
  | .hbm, ⟨75, _⟩ => ⟨S128x4x4, .f32⟩
  | .hbm, ⟨76, _⟩ => ⟨S_, .f32⟩
  | .hbm, ⟨77, _⟩ => ⟨S128x4x4, .f32⟩
  | .hbm, ⟨78, _⟩ => ⟨S128x4x4, .f32⟩
  | .hbm, ⟨79, _⟩ => ⟨S128x4x1, .f32⟩
  | .hbm, ⟨80, _⟩ => ⟨S128x4, .f32⟩
  | .hbm, ⟨81, _⟩ => ⟨S128x4x1, .f32⟩
  | .hbm, ⟨82, _⟩ => ⟨S128x4x4, .f32⟩
  | .hbm, ⟨83, _⟩ => ⟨S128x4x4, .f32⟩
  | .hbm, ⟨84, _⟩ => ⟨S128x4x4, .f32⟩
  | .hbm, ⟨85, _⟩ => ⟨S128x4x1, .f32⟩
  | .hbm, ⟨86, _⟩ => ⟨S128x4x4, .f32⟩
  | .hbm, ⟨87, _⟩ => ⟨S128x4x4, .f32⟩
  | .hbm, ⟨88, _⟩ => ⟨S128x4x4, .f32⟩
  | .hbm, ⟨89, _⟩ => ⟨S128x4x1, .f32⟩
  | .hbm, ⟨90, _⟩ => ⟨S128x4, .f32⟩
  | .hbm, ⟨91, _⟩ => ⟨S128x4, .f32⟩
  | .hbm, ⟨92, _⟩ => ⟨S128x4, .f32⟩
  | .hbm, ⟨93, _⟩ => ⟨S128x4x4x1, .f32⟩
  | .hbm, ⟨94, _⟩ => ⟨S128x4x4x128, .f32⟩
  | .hbm, ⟨95, _⟩ => ⟨S128x4x4x128, .f32⟩
  | .hbm, ⟨96, _⟩ => ⟨S128x4x1x1, .f32⟩
  | .hbm, ⟨97, _⟩ => ⟨S128x4x128x256, .f32⟩
  | .hbm, ⟨98, _⟩ => ⟨S128x4x128x256, .f32⟩
  | .hbm, ⟨99, _⟩ => ⟨S128x4x128x256, .f32⟩
  | .hbm, ⟨100, _⟩ => ⟨S128x4x128x256, .f32⟩
  | .hbm, ⟨101, _⟩ => ⟨S128x4x1, .f32⟩
  | .hbm, ⟨102, _⟩ => ⟨S128x4x128, .f32⟩
  | .hbm, ⟨103, _⟩ => ⟨S128x4x128, .f32⟩
  | .hbm, ⟨104, _⟩ => ⟨S_, .f32⟩
  | .hbm, ⟨105, _⟩ => ⟨S128x4x128, .f32⟩
  | .hbm, ⟨106, _⟩ => ⟨S128x4x128, .f32⟩
  | .hbm, ⟨107, _⟩ => ⟨S16x8x4, .f32⟩
  | _, _ => ⟨S33792x8704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_call0_v0 : Ref sig .tc := ⟨.hbm, 26, rfl⟩
abbrev main_call0_call0_cst : Ref sig .tc := ⟨.hbm, 27, rfl⟩
abbrev main_call0_call0_v0 : Ref sig .tc := ⟨.hbm, 28, rfl⟩
abbrev main_call0_call0_v1 : Ref sig .tc := ⟨.hbm, 29, rfl⟩
abbrev main_call0_call0_v2 : Ref sig .tc := ⟨.hbm, 30, rfl⟩
abbrev main_call0_call0_v3 : Ref sig .tc := ⟨.hbm, 31, rfl⟩
abbrev main_call0_call0_v4 : Ref sig .tc := ⟨.hbm, 32, rfl⟩
abbrev main_call0_call0_v5 : Ref sig .tc := ⟨.hbm, 33, rfl⟩
abbrev main_call0_call0_v6 : Ref sig .tc := ⟨.hbm, 34, rfl⟩
abbrev main_call0_call0_v7 : Ref sig .tc := ⟨.hbm, 35, rfl⟩
abbrev main_call0_call0_v8 : Ref sig .tc := ⟨.hbm, 36, rfl⟩
abbrev main_call0_call0_v9 : Ref sig .tc := ⟨.hbm, 37, rfl⟩
abbrev main_call0_call0_v10 : Ref sig .tc := ⟨.hbm, 38, rfl⟩
abbrev main_call0_call0_v11 : Ref sig .tc := ⟨.hbm, 39, rfl⟩
abbrev main_call0_v1 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_c : Ref sig .tc := ⟨.hbm, 46, rfl⟩
abbrev main_v24 : Ref sig .tc := ⟨.hbm, 47, rfl⟩
abbrev main_call1_v0 : Ref sig .tc := ⟨.hbm, 48, rfl⟩
abbrev main_call1_c : Ref sig .tc := ⟨.hbm, 49, rfl⟩
abbrev main_call1_v1 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_call1_c_0 : Ref sig .tc := ⟨.hbm, 54, rfl⟩
abbrev main_call1_v5 : Ref sig .tc := ⟨.hbm, 55, rfl⟩
abbrev main_v25 : Ref sig .tc := ⟨.hbm, 56, rfl⟩
abbrev main_call2_call0_cst : Ref sig .tc := ⟨.hbm, 57, rfl⟩
abbrev main_call2_call0_v0 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_cst_0 : Ref sig .tc := ⟨.hbm, 68, rfl⟩
abbrev main_call3_v0 : Ref sig .tc := ⟨.hbm, 69, rfl⟩
abbrev main_call3_v1 : Ref sig .tc := ⟨.hbm, 70, rfl⟩
abbrev main_call3_v2 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_cst_1 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_cst_2 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩

abbrev nD : Nat := 1
abbrev τ : Topo := Topo.v7x

variable {F : FTy → Type} [FloatOps F]
-- ==== Proof.AttnSpec.lean ====
/- One query row of windowed attention with a sink, as a function of extended reals: the formula both programs are
   brought to, and the two facts the kernel's way of computing it needs. -/
module

public import Idealize.ShloMosaic.Lib.Pipeline.ValueKit

@[expose] public section

noncomputable section

namespace Cert.AttnSpec

open Idealize.ShloMosaic

/-- The scale 1/8 of the scores. -/
abbrev scale : EReal := Ideal.ofBits .f32 0x3E000000#32

/-- The scaled score of one key, `⊥` where the key is masked. -/
def score {N : ℕ} (q : Fin 64 → EReal) (k : Fin N → Fin 64 → EReal) (ok : Fin N → Prop) [DecidablePred ok] (x : Fin N) : EReal :=
  if ok x then (∑ d, q d * k x d) * scale else ⊥

/-- The largest score, the sink counted. -/
def top {N : ℕ} (s : Fin N → EReal) (sink : EReal) : EReal := max (Finset.univ.fold max ⊥ s) sink

/-- The weight of a key before normalisation. -/
def weight {N : ℕ} (s : Fin N → EReal) (sink : EReal) (x : Fin N) : EReal := Ideal.exp (s x - top s sink)

/-- What the weights and the sink sum to. -/
def denom {N : ℕ} (s : Fin N → EReal) (sink : EReal) : EReal := ∑ x, weight s sink x + Ideal.exp (sink - top s sink)

/-- The attended value: the normalised weights against the values. -/
def attn {N : ℕ} (s : Fin N → EReal) (sink : EReal) (v : Fin N → EReal) : EReal :=
  ∑ x, weight s sink x * Ideal.div 1 (denom s sink) * v x

theorem exp_nonneg (x : EReal) : 0 ≤ Ideal.exp x := by
  induction x with
  | bot => exact le_refl (0 : EReal)
  | top => exact (le_top : (0 : EReal) ≤ ⊤)
  | coe r => exact (EReal.coe_nonneg.mpr (Real.exp_pos r).le : (0 : EReal) ≤ (Real.exp r : EReal))

theorem exp_ne_top {x : EReal} (h : x ≠ ⊤) : Ideal.exp x ≠ ⊤ := by
  induction x with
  | bot => exact (EReal.zero_ne_top : (0 : EReal) ≠ ⊤)
  | top => exact absurd rfl h
  | coe r => exact (EReal.coe_ne_top _ : ((Real.exp r : ℝ) : EReal) ≠ ⊤)

theorem sub_ne_top {a b : EReal} (h : a ≤ b) : a - b ≠ ⊤ := by
  induction a with
  | bot => rw [EReal.bot_sub]; exact bot_ne_top
  | top => rw [top_le_iff.mp h, EReal.sub_top]; exact bot_ne_top
  | coe r =>
    induction b with
    | bot => exact absurd h (by simp)
    | top => rw [EReal.sub_top]; exact bot_ne_top
    | coe t => rw [← EReal.coe_sub]; exact EReal.coe_ne_top _

theorem le_peak {N : ℕ} (s : Fin N → EReal) (sink : EReal) (x : Fin N) : s x ≤ top s sink :=
  le_trans (((Finset.le_fold_max (s := Finset.univ) (f := s) (b := (⊥ : EReal)) (s x)).mpr (Or.inr ⟨x, Finset.mem_univ x, le_refl _⟩))) (le_max_left _ _)

/-- A weight is finite, so what its rounding would leave out is nothing. -/
theorem weight_sub_self {N : ℕ} (s : Fin N → EReal) (sink : EReal) (x : Fin N) :
    weight s sink x - weight s sink x = 0 :=
  EReal.sub_self (exp_ne_top (sub_ne_top (le_peak s sink x))) (fun h => by
    have := exp_nonneg (s x - top s sink); unfold weight at h; rw [h] at this; exact absurd this (by simp))

/-- A masked key weighs nothing. -/
theorem weight_of_bot {N : ℕ} (s : Fin N → EReal) (sink : EReal) (x : Fin N) (h : s x = ⊥) : weight s sink x = 0 := by
  rw [weight, h, EReal.bot_sub]; rfl

/-- Scores and values need only agree where the mask is set. -/
theorem attn_congr {N : ℕ} {q q' : Fin 64 → EReal} {k k' : Fin N → Fin 64 → EReal} {v v' : Fin N → EReal}
    {ok ok' : Fin N → Prop} [DecidablePred ok] [DecidablePred ok'] {sink sink' : EReal}
    (hq : ∀ d, q d = q' d) (hs : sink = sink') (ho : ∀ x, ok x ↔ ok' x) (hk : ∀ x, ok x → ∀ d, k x d = k' x d)
    (hv : ∀ x, ok x → v x = v' x) :
    attn (score q k ok) sink v = attn (score q' k' ok') sink' v' := by
  have e : score q k ok = score q' k' ok' := by
    funext x
    unfold score
    by_cases h : ok x
    · rw [if_pos h, if_pos ((ho x).mp h)]
      congr 1
      exact Finset.sum_congr rfl fun d _ => by rw [hq, hk x h]
    · rw [if_neg h, if_neg (fun h' => h ((ho x).mpr h'))]
  subst hs
  unfold attn
  rw [← e]
  refine Finset.sum_congr rfl fun x _ => ?_
  by_cases h : ok x
  · rw [hv x h]
  · rw [weight_of_bot _ _ _ (by unfold score; exact if_neg h), zero_mul, zero_mul, zero_mul]

/-- Element `(R, C)` of the attended rows, off the columns `z` of the projected rows and the sinks `s`: row `R` is query
    `R % 128` of its block, a sequence is 2048 rows, a head 64 lanes, and eight heads share a key head. -/
def cell (z : ℕ → ℕ → EReal) (s : ℕ → EReal) (R C : ℕ) : EReal :=
  attn (score (fun d : Fin 64 => z R (4096 + (64 * (C / 64) + d.val)))
      (fun (y : Fin 256) d => z (R - R % 128 + y.val - 128) (8192 + (64 * (C / 512) + d.val)))
      (fun y => y.val ≤ R % 128 + 128 ∧ R % 128 < y.val ∧ (0 < R % 2048 / 128 ∨ 128 ≤ y.val)))
    (s (C / 64)) (fun y => z (R - R % 128 + y.val - 128) (8320 + (64 * (C / 512) + C % 64)))

/-- An array of two axes by natural numbers, zero outside. -/
def nat2 {M N : ℕ} (Z : (⟨2, ![M, N]⟩ : Shape).Idx → EReal) (r c : ℕ) : EReal :=
  if h : r < M ∧ c < N then Z (ix2 ⟨r, h.1⟩ ⟨c, h.2⟩) else 0

theorem nat2_val {M N : ℕ} (Z : (⟨2, ![M, N]⟩ : Shape).Idx → EReal) (r : Fin M) (c : Fin N) (r' c' : ℕ) (hr : r.val = r') (hc : c.val = c') :
    Z (ix2 r c) = nat2 Z r' c' := by
  subst hr hc
  exact (dif_pos ⟨r.isLt, c.isLt⟩ : nat2 Z r.val c.val = _).symm

def nat1 {N : ℕ} (Z : (⟨1, ![N]⟩ : Shape).Idx → EReal) (c : ℕ) : EReal := if h : c < N then Z (ix1 ⟨c, h⟩) else 0

theorem nat1_val {N : ℕ} (Z : (⟨1, ![N]⟩ : Shape).Idx → EReal) (c : Fin N) (c' : ℕ) (hc : c.val = c') : Z (ix1 c) = nat1 Z c' := by
  subst hc
  exact (dif_pos c.isLt : nat1 Z c.val = _).symm

end Cert.AttnSpec

end
-- ==== Proof.AttnBlock.lean ====
/- One block of 128 queries of the prompt attention as the kernel computes it: the printed operations, gathered into a
   few stages over variables, and each stage read at an index. Keys 0 to 127 of a block are the block before, 128 to 255
   the block itself; lane tile `t` of the queries holds heads `2 t` and `2 t + 1`. -/
module

public import proofs.«01_k».proof.Proof.AttnSpec
public import proofs.«01_k».proof.Proof.Gen.KernelIdeal.Frame

@[expose] public section

set_option maxRecDepth 16384

noncomputable section

open Idealize.ShloMosaic

namespace Cert.KernelIdeal.Block

open Cert.KernelIdeal Cert.KernelIdeal.Gen Cert.AttnSpec

abbrev Q := FVec Ideal S128x1024 .f32
abbrev KV := FVec Ideal S128x256 .f32
abbrev KP := FVec Ideal S256x128 .bf16

/-! ## The stages -/

/-- Four 128-lane tiles of the queries under each other. -/
def stack (a b c d : FVec Ideal S128x128 .bf16) : FVec Ideal S512x128 .bf16 :=
  concatenate S512x128 0 [⟨S128x128, a⟩, ⟨S128x128, b⟩, ⟨S128x128, c⟩, ⟨S128x128, d⟩] concatenates_S128x128_S128x128_S128x128_S128x128_S512x128_d0

/-- The queries of key head 0, and of key head 1. -/
def qs0 (q : Q) : FVec Ideal S512x128 .bf16 :=
  stack (extractStridedSlice S128x128 ![0, 0] (truncf .bf16 q bitsLt_bf16_f32) slices_S128x1024_o0_0_S128x128)
    (extractStridedSlice S128x128 ![0, 128] (truncf .bf16 q bitsLt_bf16_f32) slices_S128x1024_o0_128_S128x128)
    (extractStridedSlice S128x128 ![0, 256] (truncf .bf16 q bitsLt_bf16_f32) slices_S128x1024_o0_256_S128x128)
    (extractStridedSlice S128x128 ![0, 384] (truncf .bf16 q bitsLt_bf16_f32) slices_S128x1024_o0_384_S128x128)

def qs1 (q : Q) : FVec Ideal S512x128 .bf16 :=
  stack (extractStridedSlice S128x128 ![0, 512] (truncf .bf16 q bitsLt_bf16_f32) slices_S128x1024_o0_512_S128x128)
    (extractStridedSlice S128x128 ![0, 640] (truncf .bf16 q bitsLt_bf16_f32) slices_S128x1024_o0_640_S128x128)
    (extractStridedSlice S128x128 ![0, 768] (truncf .bf16 q bitsLt_bf16_f32) slices_S128x1024_o0_768_S128x128)
    (extractStridedSlice S128x128 ![0, 896] (truncf .bf16 q bitsLt_bf16_f32) slices_S128x1024_o0_896_S128x128)

/-- The scaled products of stacked queries with one placement of the keys. -/
def prods (q : FVec Ideal S512x128 .bf16) (k : KP) : FVec Ideal S512x256 .f32 :=
  mulf (matmul dot_S512x128_S256x128_S512x256_1_1_0_0_n_n none q k (constant S512x256 .f32 0x00000000#32))
    (broadcast S512x256 (Scalar.ofBits .f32 0x3E000000#32))

/-- The masked scores of one head: 128 rows of the products. -/
def slab0 (ok : IVec S128x256 1) (s : FVec Ideal S512x256 .f32) : FVec Ideal S128x256 .f32 :=
  select ok (extractStridedSlice S128x256 ![0, 0] s slices_S512x256_o0_0_S128x256) (broadcast S128x256 (Named.named κ "mask" 0xF149F2CA#32))
def slab1 (ok : IVec S128x256 1) (s : FVec Ideal S512x256 .f32) : FVec Ideal S128x256 .f32 :=
  select ok (extractStridedSlice S128x256 ![128, 0] s slices_S512x256_o128_0_S128x256) (broadcast S128x256 (Named.named κ "mask" 0xF149F2CA#32))
def slab2 (ok : IVec S128x256 1) (s : FVec Ideal S512x256 .f32) : FVec Ideal S128x256 .f32 :=
  select ok (extractStridedSlice S128x256 ![256, 0] s slices_S512x256_o256_0_S128x256) (broadcast S128x256 (Named.named κ "mask" 0xF149F2CA#32))
def slab3 (ok : IVec S128x256 1) (s : FVec Ideal S512x256 .f32) : FVec Ideal S128x256 .f32 :=
  select ok (extractStridedSlice S128x256 ![384, 0] s slices_S512x256_o384_0_S128x256) (broadcast S128x256 (Named.named κ "mask" 0xF149F2CA#32))

/-- The sink of one head, on 128 rows of 128 lanes. -/
def sinkB (b : FVec Ideal S1x1 .f32) : FVec Ideal S128x128 .f32 :=
  broadcastTo S128x128 (shapeCast S1x1 (shapeCast S1x1 b shapeCasts_S1x1_S1x1) shapeCasts_S1x1_S1x1) broadcasts_S1x1_S128x128

/-- Sixteen score slabs under each other, and sixteen sinks. -/
def allS (x : Fin 16 → FVec Ideal S128x256 .f32) : FVec Ideal S2048x256 .f32 :=
  concatenate S2048x256 0 [⟨S128x256, x 0⟩, ⟨S128x256, x 1⟩, ⟨S128x256, x 2⟩, ⟨S128x256, x 3⟩, ⟨S128x256, x 4⟩, ⟨S128x256, x 5⟩, ⟨S128x256, x 6⟩, ⟨S128x256, x 7⟩, ⟨S128x256, x 8⟩, ⟨S128x256, x 9⟩, ⟨S128x256, x 10⟩, ⟨S128x256, x 11⟩, ⟨S128x256, x 12⟩, ⟨S128x256, x 13⟩, ⟨S128x256, x 14⟩, ⟨S128x256, x 15⟩] concatenates_S128x256_S128x256_S128x256_S128x256_S128x256_S128x256_S128x256_S128x256_S128x256_S128x256_S128x256_S128x256_S128x256_S128x256_S128x256_S128x256_S2048x256_d0

def allB (x : Fin 16 → FVec Ideal S128x128 .f32) : FVec Ideal S2048x128 .f32 :=
  concatenate S2048x128 0 [⟨S128x128, x 0⟩, ⟨S128x128, x 1⟩, ⟨S128x128, x 2⟩, ⟨S128x128, x 3⟩, ⟨S128x128, x 4⟩, ⟨S128x128, x 5⟩, ⟨S128x128, x 6⟩, ⟨S128x128, x 7⟩, ⟨S128x128, x 8⟩, ⟨S128x128, x 9⟩, ⟨S128x128, x 10⟩, ⟨S128x128, x 11⟩, ⟨S128x128, x 12⟩, ⟨S128x128, x 13⟩, ⟨S128x128, x 14⟩, ⟨S128x128, x 15⟩] concatenates_S128x128_S128x128_S128x128_S128x128_S128x128_S128x128_S128x128_S128x128_S128x128_S128x128_S128x128_S128x128_S128x128_S128x128_S128x128_S128x128_S2048x128_d0

/-- The row maxima, the sinks counted. -/
def peak (s : FVec Ideal S2048x256 .f32) (b : FVec Ideal S2048x128 .f32) : FVec Ideal S2048x128 .f32 :=
  maximumf (broadcastTo S2048x128 (shapeCast S2048x1 (shapeCast S2048x1 (multiReduction .maximumf [1] S2048 s 0xFF800000#32 reduces_S2048x256_S2048 (.inl rfl) rfl) shapeCasts_S2048_S2048x1) shapeCasts_S2048x1_S2048x1) broadcasts_S2048x1_S2048x128) b

def twice (x : FVec Ideal S2048x128 .f32) : FVec Ideal S2048x256 .f32 :=
  concatenate S2048x256 1 [⟨S2048x128, x⟩, ⟨S2048x128, x⟩] concatenates_S2048x128_S2048x128_S2048x256_d1

def expo (s : FVec Ideal S2048x256 .f32) (b : FVec Ideal S2048x128 .f32) : FVec Ideal S2048x256 .f32 :=
  exp (subf s (twice (peak s b)))

def rowsum (p : FVec Ideal S2048x256 .bf16) : FVec Ideal S2048x128 .f32 :=
  matmul dot_S2048x256_S256x128_S2048x128_1_0_0_1_n_n none p (broadcast S256x128 (Scalar.ofBits .bf16 0x3F80#16)) (constant S2048x128 .f32 0x00000000#32)

def recip (s : FVec Ideal S2048x256 .f32) (b : FVec Ideal S2048x128 .f32) : FVec Ideal S2048x128 .f32 :=
  divf (broadcast S2048x128 (Scalar.ofBits .f32 0x3F800000#32))
    (addf (addf (rowsum (truncf .bf16 (expo s b) bitsLt_bf16_f32))
        (rowsum (truncf .bf16 (subf (expo s b) (extf .f32 (truncf .bf16 (expo s b) bitsLt_bf16_f32) bitsLt_bf16_f32)) bitsLt_bf16_f32)))
      (exp (subf b (peak s b))))

/-- The normalised weights. -/
def probs (s : FVec Ideal S2048x256 .f32) (b : FVec Ideal S2048x128 .f32) : FVec Ideal S2048x256 .bf16 :=
  truncf .bf16 (mulf (expo s b) (twice (recip s b))) bitsLt_bf16_f32

/-- The weights against the two placements of the values of one key head. -/
def out0 (p : FVec Ideal S2048x256 .bf16) (va vb : KP) : FVec Ideal S512x128 .f32 :=
  addf (matmul dot_S512x256_S256x128_S512x128_1_0_0_1_n_n none (extractStridedSlice S512x256 ![0, 0] p slices_S2048x256_o0_0_S512x256) va (constant S512x128 .f32 0x00000000#32))
    (matmul dot_S512x256_S256x128_S512x128_1_0_0_1_n_n none (extractStridedSlice S512x256 ![512, 0] p slices_S2048x256_o512_0_S512x256) vb (constant S512x128 .f32 0x00000000#32))
def out1 (p : FVec Ideal S2048x256 .bf16) (va vb : KP) : FVec Ideal S512x128 .f32 :=
  addf (matmul dot_S512x256_S256x128_S512x128_1_0_0_1_n_n none (extractStridedSlice S512x256 ![1024, 0] p slices_S2048x256_o1024_0_S512x256) va (constant S512x128 .f32 0x00000000#32))
    (matmul dot_S512x256_S256x128_S512x128_1_0_0_1_n_n none (extractStridedSlice S512x256 ![1536, 0] p slices_S2048x256_o1536_0_S512x256) vb (constant S512x128 .f32 0x00000000#32))

/-- All score slabs of a block: key head by key head, first the even heads, then the odd ones. -/
def slabs (ok : IVec S128x256 1) (q : Q) (k00 k01 k10 k11 : KP) : Fin 16 → FVec Ideal S128x256 .f32 :=
  ![slab0 ok (prods (qs0 q) k00), slab1 ok (prods (qs0 q) k00), slab2 ok (prods (qs0 q) k00), slab3 ok (prods (qs0 q) k00),
    slab0 ok (prods (qs0 q) k01), slab1 ok (prods (qs0 q) k01), slab2 ok (prods (qs0 q) k01), slab3 ok (prods (qs0 q) k01),
    slab0 ok (prods (qs1 q) k10), slab1 ok (prods (qs1 q) k10), slab2 ok (prods (qs1 q) k10), slab3 ok (prods (qs1 q) k10),
    slab0 ok (prods (qs1 q) k11), slab1 ok (prods (qs1 q) k11), slab2 ok (prods (qs1 q) k11), slab3 ok (prods (qs1 q) k11)]

/-- The head of a slab. -/
def headOf (s : Fin 16) : Fin 16 := ⟨s.val / 8 * 8 + s.val % 4 * 2 + s.val / 4 % 2, by omega⟩

/-- The sinks in the slabs' order. -/
def sinksB (b : Fin 16 → FVec Ideal S1x1 .f32) : Fin 16 → FVec Ideal S128x128 .f32 :=
  ![sinkB (b 0), sinkB (b 2), sinkB (b 4), sinkB (b 6), sinkB (b 1), sinkB (b 3), sinkB (b 5), sinkB (b 7),
    sinkB (b 8), sinkB (b 10), sinkB (b 12), sinkB (b 14), sinkB (b 9), sinkB (b 11), sinkB (b 13), sinkB (b 15)]

/-- A block's weights. -/
def weights (ok : IVec S128x256 1) (q : Q) (k00 k01 k10 k11 : KP) (b : Fin 16 → FVec Ideal S1x1 .f32) : FVec Ideal S2048x256 .bf16 :=
  probs (allS (slabs ok q k00 k01 k10 k11)) (allB (sinksB b))

/-! ## The stages at an index -/

theorem ofBits_low : Ideal.ofBits .f32 0xFF800000#32 = ⊥ := by rfl

theorem allS_at (x : Fin 16 → FVec Ideal S128x256 .f32) (s : Fin 16) (a : Fin 128) (y : Fin 256) (r : Fin 2048) (hr : (r : ℕ) = 128 * s.val + a.val) :
    allS x (ix2 r y) = x s (ix2 a y) :=
  concatenate_ofFn_apply (t := S2048x256) (s₁ := S128x256) 0 x concatenates_S128x256_S128x256_S128x256_S128x256_S128x256_S128x256_S128x256_S128x256_S128x256_S128x256_S128x256_S128x256_S128x256_S128x256_S128x256_S128x256_S2048x256_d0 rfl 128 rfl (ix2 r y) s
    (by show (r : ℕ) / 128 = s.val; omega) (ix2 a y) (by show (a : ℕ) = (r : ℕ) % 128; omega)
    (fun b hb => by fin_cases b; · exact absurd rfl hb
                    · rfl)

theorem allB_at (x : Fin 16 → FVec Ideal S128x128 .f32) (s : Fin 16) (a : Fin 128) (y : Fin 128) (r : Fin 2048) (hr : (r : ℕ) = 128 * s.val + a.val) :
    allB x (ix2 r y) = x s (ix2 a y) :=
  concatenate_ofFn_apply (t := S2048x128) (s₁ := S128x128) 0 x concatenates_S128x128_S128x128_S128x128_S128x128_S128x128_S128x128_S128x128_S128x128_S128x128_S128x128_S128x128_S128x128_S128x128_S128x128_S128x128_S128x128_S2048x128_d0 rfl 128 rfl (ix2 r y) s
    (by show (r : ℕ) / 128 = s.val; omega) (ix2 a y) (by show (a : ℕ) = (r : ℕ) % 128; omega)
    (fun b hb => by fin_cases b; · exact absurd rfl hb
                    · rfl)

theorem peak_at (s : FVec Ideal S2048x256 .f32) (b : FVec Ideal S2048x128 .f32) (r : Fin 2048) (l : Fin 128) :
    peak s b (ix2 r l) = top (fun y => s (ix2 r y)) (b (ix2 r l)) := by
  pointwise [peak, top]
  rw [ofBits_low]

theorem twice_at (x : FVec Ideal S2048x128 .f32) (r : Fin 2048) (y : Fin 256) :
    twice x (ix2 r y) = x (ix2 r ⟨y.val % 128, by omega⟩) := by
  pointwise [twice]
  split
  · blk_ext
  · blk_ext

theorem rowsum_at (p : FVec Ideal S2048x256 .bf16) (r : Fin 2048) (l : Fin 128) :
    rowsum p (ix2 r l) = ∑ y, p (ix2 r y) := by
  pointwise [rowsum]

theorem expo_at (s : FVec Ideal S2048x256 .f32) (b : FVec Ideal S2048x128 .f32) (r : Fin 2048) (y : Fin 256) (l : Fin 128)
    (hb : ∀ l' : Fin 128, b (ix2 r l') = b (ix2 r l)) :
    expo s b (ix2 r y) = weight (fun y => s (ix2 r y)) (b (ix2 r l)) y := by
  show Ideal.exp (s (ix2 r y) - twice (peak s b) (ix2 r y)) = _
  rw [twice_at, peak_at, hb]
  rfl

theorem probs_at (s : FVec Ideal S2048x256 .f32) (b : FVec Ideal S2048x128 .f32) (r : Fin 2048) (y : Fin 256) (l : Fin 128)
    (hb : ∀ l' : Fin 128, b (ix2 r l') = b (ix2 r l)) :
    probs s b (ix2 r y) = weight (fun y => s (ix2 r y)) (b (ix2 r l)) y * Ideal.div 1 (denom (fun y => s (ix2 r y)) (b (ix2 r l))) := by
  show expo s b (ix2 r y) * twice (recip s b) (ix2 r y) = _
  rw [expo_at s b r y l hb, twice_at]
  congr 1
  show Ideal.div (Ideal.ofBits .f32 0x3F800000#32) (rowsum _ (ix2 r _) + rowsum _ (ix2 r _) + Ideal.exp (b (ix2 r _) - peak s b (ix2 r _))) = _
  rw [rowsum_at, rowsum_at, peak_at, hb, Ideal.ofBits_one_f32]
  congr 1
  unfold denom
  congr 1
  have h0 : ∀ y, subf (expo s b) (extf .f32 (truncf .bf16 (expo s b) bitsLt_bf16_f32) bitsLt_bf16_f32) (ix2 r y) = 0 := fun y => by
    show expo s b (ix2 r y) - expo s b (ix2 r y) = (0 : EReal)
    rw [expo_at s b r y l hb, weight_sub_self]
  have h1 : ∀ y, (truncf .bf16 (subf (expo s b) (extf .f32 (truncf .bf16 (expo s b) bitsLt_bf16_f32) bitsLt_bf16_f32)) bitsLt_bf16_f32 : FVec Ideal S2048x256 .bf16) (ix2 r y) = (0 : EReal) := h0
  rw [Finset.sum_congr rfl fun y _ => h1 y, Finset.sum_const_zero, add_zero]
  exact Finset.sum_congr rfl fun y _ => expo_at s b r y l hb

theorem stack_at (x : Fin 4 → FVec Ideal S128x128 .bf16) (s : Fin 4) (a : Fin 128) (l : Fin 128) (r : Fin 512) (hr : (r : ℕ) = 128 * s.val + a.val) :
    stack (x 0) (x 1) (x 2) (x 3) (ix2 r l) = x s (ix2 a l) :=
  concatenate_ofFn_apply (t := S512x128) (s₁ := S128x128) 0 x concatenates_S128x128_S128x128_S128x128_S128x128_S512x128_d0 rfl 128 rfl (ix2 r l) s
    (by show (r : ℕ) / 128 = s.val; omega) (ix2 a l) (by show (a : ℕ) = (r : ℕ) % 128; omega)
    (fun b hb => by fin_cases b; · exact absurd rfl hb
                    · rfl)

theorem prods_at (q : FVec Ideal S512x128 .bf16) (k : KP) (r : Fin 512) (y : Fin 256) :
    prods q k (ix2 r y) = (∑ l, q (ix2 r l) * k (ix2 y l)) * scale := by
  pointwise [prods]

/-- Lane `l` of lane tile `t`. -/
abbrev lane (t : ℕ) (ht : t < 8) (l : Fin 128) : Fin 1024 := ⟨128 * t + l.val, by omega⟩

end Cert.KernelIdeal.Block

end
-- ==== Proof.AttnRows.lean ====
/- The stages of one block read further: the queries' tiles, the score slabs, the placements of keys and values, and the
   output tiles, which are the attended values of two heads. -/
module

public import proofs.«01_k».proof.Proof.AttnBlock

@[expose] public section

set_option maxRecDepth 16384

noncomputable section

open Idealize.ShloMosaic

namespace Cert.KernelIdeal.Block

open Cert.KernelIdeal Cert.KernelIdeal.Gen Cert.AttnSpec

theorem qs0_at (q : Q) (s : Fin 4) (a l : Fin 128) (r : Fin 512) (hr : (r : ℕ) = 128 * s.val + a.val) :
    qs0 q (ix2 r l) = q (ix2 a (lane s.val (by omega) l)) := by
  refine (stack_at ![_, _, _, _] s a l r hr).trans ?_
  clear hr
  fin_cases s <;> (refine congrArg q ?_; blk_ext) <;> first | rfl | exact (Nat.zero_add _).symm

theorem qs1_at (q : Q) (s : Fin 4) (a l : Fin 128) (r : Fin 512) (hr : (r : ℕ) = 128 * s.val + a.val) :
    qs1 q (ix2 r l) = q (ix2 a (lane (4 + s.val) (by omega) l)) := by
  refine (stack_at ![_, _, _, _] s a l r hr).trans ?_
  clear hr
  fin_cases s <;> (refine congrArg q ?_; blk_ext) <;> first | rfl | exact (Nat.zero_add _).symm

theorem mask_bot : (Named.named κ "mask" 0xF149F2CA#32 : Ideal .f32) = ⊥ := by rfl

theorem slab0_at (ok : IVec S128x256 1) (x : FVec Ideal S512x256 .f32) (a : Fin 128) (y : Fin 256) :
    slab0 ok x (ix2 a y) = if ok (ix2 a y) = 1 then x (ix2 ⟨128 * 0 + a.val, by omega⟩ y) else ⊥ := by
  pointwise [slab0]; rw [mask_bot]; rfl
theorem slab1_at (ok : IVec S128x256 1) (x : FVec Ideal S512x256 .f32) (a : Fin 128) (y : Fin 256) :
    slab1 ok x (ix2 a y) = if ok (ix2 a y) = 1 then x (ix2 ⟨128 * 1 + a.val, by omega⟩ y) else ⊥ := by
  pointwise [slab1]; rw [mask_bot]; rfl
theorem slab2_at (ok : IVec S128x256 1) (x : FVec Ideal S512x256 .f32) (a : Fin 128) (y : Fin 256) :
    slab2 ok x (ix2 a y) = if ok (ix2 a y) = 1 then x (ix2 ⟨128 * 2 + a.val, by omega⟩ y) else ⊥ := by
  pointwise [slab2]; rw [mask_bot]; rfl
theorem slab3_at (ok : IVec S128x256 1) (x : FVec Ideal S512x256 .f32) (a : Fin 128) (y : Fin 256) :
    slab3 ok x (ix2 a y) = if ok (ix2 a y) = 1 then x (ix2 ⟨128 * 3 + a.val, by omega⟩ y) else ⊥ := by
  pointwise [slab3]; rw [mask_bot]; rfl

/-- The lane tile a slab's queries come from. -/
abbrev tileOf (s : Fin 16) : ℕ := s.val / 8 * 4 + s.val % 4

theorem slab00_at (ok : IVec S128x256 1) (q : Q) (k : KP) (a : Fin 128) (y : Fin 256) :
    slab0 ok (prods (qs0 q) k) (ix2 a y) = if ok (ix2 a y) = 1 then (∑ l : Fin 128, q (ix2 a (lane 0 (by omega) l)) * k (ix2 y l)) * scale else ⊥ := by
  rw [slab0_at, prods_at, Finset.sum_congr rfl fun l _ => by rw [qs0_at q 0 a l _ rfl]]; rfl
theorem slab01_at (ok : IVec S128x256 1) (q : Q) (k : KP) (a : Fin 128) (y : Fin 256) :
    slab1 ok (prods (qs0 q) k) (ix2 a y) = if ok (ix2 a y) = 1 then (∑ l : Fin 128, q (ix2 a (lane 1 (by omega) l)) * k (ix2 y l)) * scale else ⊥ := by
  rw [slab1_at, prods_at, Finset.sum_congr rfl fun l _ => by rw [qs0_at q 1 a l _ rfl]]; rfl
theorem slab02_at (ok : IVec S128x256 1) (q : Q) (k : KP) (a : Fin 128) (y : Fin 256) :
    slab2 ok (prods (qs0 q) k) (ix2 a y) = if ok (ix2 a y) = 1 then (∑ l : Fin 128, q (ix2 a (lane 2 (by omega) l)) * k (ix2 y l)) * scale else ⊥ := by
  rw [slab2_at, prods_at, Finset.sum_congr rfl fun l _ => by rw [qs0_at q 2 a l _ rfl]]; rfl
theorem slab03_at (ok : IVec S128x256 1) (q : Q) (k : KP) (a : Fin 128) (y : Fin 256) :
    slab3 ok (prods (qs0 q) k) (ix2 a y) = if ok (ix2 a y) = 1 then (∑ l : Fin 128, q (ix2 a (lane 3 (by omega) l)) * k (ix2 y l)) * scale else ⊥ := by
  rw [slab3_at, prods_at, Finset.sum_congr rfl fun l _ => by rw [qs0_at q 3 a l _ rfl]]; rfl
theorem slab10_at (ok : IVec S128x256 1) (q : Q) (k : KP) (a : Fin 128) (y : Fin 256) :
    slab0 ok (prods (qs1 q) k) (ix2 a y) = if ok (ix2 a y) = 1 then (∑ l : Fin 128, q (ix2 a (lane 4 (by omega) l)) * k (ix2 y l)) * scale else ⊥ := by
  rw [slab0_at, prods_at, Finset.sum_congr rfl fun l _ => by rw [qs1_at q 0 a l _ rfl]]; rfl
theorem slab11_at (ok : IVec S128x256 1) (q : Q) (k : KP) (a : Fin 128) (y : Fin 256) :
    slab1 ok (prods (qs1 q) k) (ix2 a y) = if ok (ix2 a y) = 1 then (∑ l : Fin 128, q (ix2 a (lane 5 (by omega) l)) * k (ix2 y l)) * scale else ⊥ := by
  rw [slab1_at, prods_at, Finset.sum_congr rfl fun l _ => by rw [qs1_at q 1 a l _ rfl]]; rfl
theorem slab12_at (ok : IVec S128x256 1) (q : Q) (k : KP) (a : Fin 128) (y : Fin 256) :
    slab2 ok (prods (qs1 q) k) (ix2 a y) = if ok (ix2 a y) = 1 then (∑ l : Fin 128, q (ix2 a (lane 6 (by omega) l)) * k (ix2 y l)) * scale else ⊥ := by
  rw [slab2_at, prods_at, Finset.sum_congr rfl fun l _ => by rw [qs1_at q 2 a l _ rfl]]; rfl
theorem slab13_at (ok : IVec S128x256 1) (q : Q) (k : KP) (a : Fin 128) (y : Fin 256) :
    slab3 ok (prods (qs1 q) k) (ix2 a y) = if ok (ix2 a y) = 1 then (∑ l : Fin 128, q (ix2 a (lane 7 (by omega) l)) * k (ix2 y l)) * scale else ⊥ := by
  rw [slab3_at, prods_at, Finset.sum_congr rfl fun l _ => by rw [qs1_at q 3 a l _ rfl]]; rfl

/-- Slab `s` holds the scaled products of its lane tile with its placement of the keys. -/
theorem slabs_at (ok : IVec S128x256 1) (q : Q) (k : Fin 4 → KP) (s : Fin 16) (a : Fin 128) (y : Fin 256) :
    slabs ok q (k 0) (k 1) (k 2) (k 3) s (ix2 a y)
      = if ok (ix2 a y) = 1 then (∑ l : Fin 128, q (ix2 a (lane (tileOf s) (by unfold tileOf; omega) l)) * k ⟨s.val / 4, by omega⟩ (ix2 y l)) * scale else ⊥ := by
  fin_cases s
  · exact slab00_at ok q _ a y
  · exact slab01_at ok q _ a y
  · exact slab02_at ok q _ a y
  · exact slab03_at ok q _ a y
  · exact slab00_at ok q _ a y
  · exact slab01_at ok q _ a y
  · exact slab02_at ok q _ a y
  · exact slab03_at ok q _ a y
  · exact slab10_at ok q _ a y
  · exact slab11_at ok q _ a y
  · exact slab12_at ok q _ a y
  · exact slab13_at ok q _ a y
  · exact slab10_at ok q _ a y
  · exact slab11_at ok q _ a y
  · exact slab12_at ok q _ a y
  · exact slab13_at ok q _ a y

theorem sinkB_at (b : FVec Ideal S1x1 .f32) (a l : Fin 128) : sinkB b (ix2 a l) = b (ix2 0 0) := by
  pointwise [sinkB]
  blk_ext

theorem sinksB_at (b : Fin 16 → FVec Ideal S1x1 .f32) (s : Fin 16) (a l : Fin 128) :
    sinksB b s (ix2 a l) = b (headOf s) (ix2 0 0) := by
  fin_cases s
  all_goals exact sinkB_at _ a l

/-! ## Placing a key head's lanes -/

/-- The block before on top of the block itself. -/
def under (a b : FVec Ideal S128x128 .f32) : FVec Ideal S256x128 .f32 :=
  concatenate S256x128 0 [⟨S128x128, a⟩, ⟨S128x128, b⟩] concatenates_S128x128_S128x128_S256x128_d0

def keys (prev cur : KV) : FVec Ideal S256x128 .f32 :=
  under (extractStridedSlice S128x128 ![0, 0] prev slices_S128x256_o0_0_S128x128) (extractStridedSlice S128x128 ![0, 0] cur slices_S128x256_o0_0_S128x128)

def vals (prev cur : KV) : FVec Ideal S256x128 .f32 :=
  under (extractStridedSlice S128x128 ![0, 128] prev slices_S128x256_o0_128_S128x128) (extractStridedSlice S128x128 ![0, 128] cur slices_S128x256_o0_128_S128x128)

/-- The lanes below 64. -/
def low : IVec S256x128 1 := cmpi .slt (iota .tc S256x128 32 [1] iota_S256x128_d1_w32) (broadcast S256x128 64#32)

def none' : FVec Ideal S256x128 .f32 := broadcast S256x128 (Scalar.ofBits .f32 0x00000000#32)

def turned (x : FVec Ideal S256x128 .f32) : FVec Ideal S256x128 .f32 := dynamicRotate 1 64#32 none x rotates_S256x128_d1

/-- Key head `g` on the lower (`p = 0`) or the upper (`p = 1`) 64 lanes: placement `2 g + p`. -/
def place (x : FVec Ideal S256x128 .f32) : Fin 4 → KP :=
  ![truncf .bf16 (select low x none') bitsLt_bf16_f32, truncf .bf16 (select low none' (turned x)) bitsLt_bf16_f32,
    truncf .bf16 (select low (turned x) none') bitsLt_bf16_f32, truncf .bf16 (select low none' x) bitsLt_bf16_f32]

theorem under_at (a b : FVec Ideal S128x128 .f32) (y : Fin 256) (l : Fin 128) :
    under a b (ix2 y l) = if h : y.val < 128 then a (ix2 ⟨y.val, h⟩ l) else b (ix2 ⟨y.val - 128, by omega⟩ l) := by
  pointwise [under]

theorem keys_at (prev cur : KV) (y : Fin 256) (l : Fin 128) :
    keys prev cur (ix2 y l) = if h : y.val < 128 then prev (ix2 ⟨y.val, h⟩ ⟨l.val, by omega⟩) else cur (ix2 ⟨y.val - 128, by omega⟩ ⟨l.val, by omega⟩) := by
  rw [keys, under_at]
  split <;> (pointwise; blk_ext)

theorem vals_at (prev cur : KV) (y : Fin 256) (l : Fin 128) :
    vals prev cur (ix2 y l) = if h : y.val < 128 then prev (ix2 ⟨y.val, h⟩ ⟨128 + l.val, by omega⟩) else cur (ix2 ⟨y.val - 128, by omega⟩ ⟨128 + l.val, by omega⟩) := by
  rw [vals, under_at]
  split <;> (pointwise; blk_ext)

theorem low_at (y : Fin 256) (l : Fin 128) : low (ix2 y l) = if l.val < 64 then 1#1 else 0#1 := by
  pointwise [low]
  exact (by decide +kernel : ∀ l : Fin 128, IntOp.cmpi CmpIPredicate.slt (BitVec.ofNat 32 l.val) 64#32 = if l.val < 64 then 1#1 else 0#1) l

theorem turned_at (x : FVec Ideal S256x128 .f32) (y : Fin 256) (l : Fin 128) :
    turned x (ix2 y l) = x (ix2 y ⟨(l.val + 64) % 128, by omega⟩) := by
  pointwise [turned]
  blk_ext

theorem none_at (y : Fin 256) (l : Fin 128) : none' (ix2 y l) = 0 := by
  pointwise [none']

theorem place_at (x : FVec Ideal S256x128 .f32) (g p : Fin 2) (y : Fin 256) (l : Fin 128) :
    place x ⟨2 * g.val + p.val, by omega⟩ (ix2 y l) = if l.val / 64 = p.val then x (ix2 y ⟨64 * g.val + l.val % 64, by omega⟩) else (0 : EReal) := by
  have hl := l.isLt
  have e : ∀ a b : FVec Ideal S256x128 .f32, select low a b (ix2 y l) = if l.val < 64 then a (ix2 y l) else b (ix2 y l) := fun a b => by
    show Scalar.select (low (ix2 y l)) _ _ = _
    rw [low_at]
    split <;> rfl
  fin_cases g <;> fin_cases p
  · refine (e x none').trans ?_
    rw [none_at]
    by_cases h : l.val < 64
    · rw [if_pos h, if_pos (show l.val / 64 = 0 by omega)]; exact congrArg x (by blk_ext)
    · rw [if_neg h, if_neg (show ¬ l.val / 64 = 0 by omega)]
  · refine (e none' (turned x)).trans ?_
    rw [none_at, turned_at]
    by_cases h : l.val < 64
    · rw [if_pos h, if_neg (show ¬ l.val / 64 = 1 by omega)]
    · rw [if_neg h, if_pos (show l.val / 64 = 1 by omega)]; exact congrArg x (by blk_ext)
  · refine (e (turned x) none').trans ?_
    rw [none_at, turned_at]
    by_cases h : l.val < 64
    · rw [if_pos h, if_pos (show l.val / 64 = 0 by omega)]; exact congrArg x (by blk_ext)
    · rw [if_neg h, if_neg (show ¬ l.val / 64 = 0 by omega)]
  · refine (e none' x).trans ?_
    rw [none_at]
    by_cases h : l.val < 64
    · rw [if_pos h, if_neg (show ¬ l.val / 64 = 1 by omega)]
    · rw [if_neg h, if_pos (show l.val / 64 = 1 by omega)]; exact congrArg x (by blk_ext)

/-- A sum over 128 lanes of which only one half counts. -/
theorem sum_half (p : Fin 2) (q : Fin 128 → EReal) (f : Fin 64 → EReal) (k : Fin 128 → EReal)
    (hk : ∀ l, k l = if l.val / 64 = p.val then f ⟨l.val % 64, by omega⟩ else 0) :
    ∑ l, q l * k l = ∑ d : Fin 64, q ⟨64 * p.val + d.val, by omega⟩ * f d := by
  rw [show (∑ l, q l * k l) = ∑ l : Fin (64 + 64), q l * k l from rfl, Fin.sum_univ_add]
  fin_cases p
  · rw [Finset.sum_congr rfl (g := fun _ => (0 : EReal)) (s₁ := Finset.univ) (f := fun i : Fin 64 => q (Fin.natAdd 64 i) * k (Fin.natAdd 64 i)) fun d _ => by
      rw [hk, if_neg (by simp only [Fin.natAdd]; omega), mul_zero], Finset.sum_const_zero, add_zero]
    refine Finset.sum_congr rfl fun d _ => ?_
    rw [hk, if_pos (by show d.val / 64 = 0; omega)]
    congr 2
    · exact Fin.ext (by show d.val = 64 * 0 + d.val; omega)
    · exact Fin.ext (by show d.val % 64 = d.val; omega)
  · rw [Finset.sum_congr rfl (g := fun _ => (0 : EReal)) (s₁ := Finset.univ) (f := fun i : Fin 64 => q (Fin.castAdd 64 i) * k (Fin.castAdd 64 i)) fun d _ => by
      rw [hk, if_neg (by show ¬ d.val / 64 = 1; omega), mul_zero], Finset.sum_const_zero, zero_add]
    refine Finset.sum_congr rfl fun d _ => ?_
    rw [hk, if_pos (by show (64 + d.val) / 64 = 1; omega)]
    congr 2
    exact Fin.ext (by show (64 + d.val) % 64 = d.val; omega)

/-- The score row of head `h`, query `a` of the block. -/
abbrev rowS (ok : IVec S128x256 1) (q : Q) (K : FVec Ideal S256x128 .f32) (h : Fin 16) (a : Fin 128) : Fin 256 → EReal :=
  score (fun d : Fin 64 => q (ix2 a ⟨64 * h.val + d.val, by omega⟩)) (fun y d => K (ix2 y ⟨64 * (h.val / 8) + d.val, by omega⟩))
    (fun y => ok (ix2 a y) = 1)

theorem slab_row (ok : IVec S128x256 1) (q : Q) (K : FVec Ideal S256x128 .f32) (s : Fin 16) (a : Fin 128) (y : Fin 256) :
    slabs ok q (place K 0) (place K 1) (place K 2) (place K 3) s (ix2 a y) = rowS ok q K (headOf s) a y := by
  rw [slabs_at ok q (place K) s a y]
  unfold rowS score
  congr 1
  congr 1
  have hs := s.isLt
  rw [sum_half ⟨s.val / 4 % 2, by omega⟩ _ (fun d => K (ix2 y ⟨64 * (s.val / 8) + d.val, by omega⟩)) _ fun l => ?_]
  · refine Finset.sum_congr rfl fun d _ => ?_
    congr 1
    · refine congrArg (fun c => q (ix2 a c)) (Fin.ext ?_)
      show 128 * (s.val / 8 * 4 + s.val % 4) + (64 * (s.val / 4 % 2) + d.val) = 64 * (s.val / 8 * 8 + s.val % 4 * 2 + s.val / 4 % 2) + d.val
      omega
    · refine congrArg (fun c => K (ix2 y c)) (Fin.ext ?_)
      show 64 * (s.val / 8) + d.val = 64 * ((s.val / 8 * 8 + s.val % 4 * 2 + s.val / 4 % 2) / 8) + d.val
      omega
  · have e := place_at K ⟨s.val / 8, by omega⟩ ⟨s.val / 4 % 2, by omega⟩ y l
    rw [show (⟨s.val / 4, by omega⟩ : Fin 4) = ⟨2 * (s.val / 8) + s.val / 4 % 2, by omega⟩ from Fin.ext (by show s.val / 4 = 2 * (s.val / 8) + s.val / 4 % 2; omega)]
    exact e

/-- One normalised weight. -/
theorem weights_at (ok : IVec S128x256 1) (q : Q) (K : FVec Ideal S256x128 .f32) (b : Fin 16 → FVec Ideal S1x1 .f32)
    (s : Fin 16) (a : Fin 128) (y : Fin 256) (r : Fin 2048) (hr : (r : ℕ) = 128 * s.val + a.val) :
    weights ok q (place K 0) (place K 1) (place K 2) (place K 3) b (ix2 r y)
      = weight (rowS ok q K (headOf s) a) (b (headOf s) (ix2 0 0)) y
          * Ideal.div 1 (denom (rowS ok q K (headOf s) a) (b (headOf s) (ix2 0 0))) := by
  have hb : ∀ l : Fin 128, allB (sinksB b) (ix2 r l) = b (headOf s) (ix2 0 0) := fun l => by
    rw [allB_at _ s a l r hr, sinksB_at]
  have hS : (fun y => allS (slabs ok q (place K 0) (place K 1) (place K 2) (place K 3)) (ix2 r y)) = rowS ok q K (headOf s) a :=
    funext fun y => by rw [allS_at _ s a y r hr, slab_row]
  unfold weights
  rw [probs_at _ _ r y 0 (fun l' => by rw [hb, hb]), hS, hb]

theorem out0_at (p : FVec Ideal S2048x256 .bf16) (va vb : KP) (r : Fin 512) (l : Fin 128) :
    out0 p va vb (ix2 r l) = ∑ y, p (ix2 ⟨r.val, by omega⟩ y) * va (ix2 y l) + ∑ y, p (ix2 ⟨512 + r.val, by omega⟩ y) * vb (ix2 y l) := by
  pointwise [out0]

theorem out1_at (p : FVec Ideal S2048x256 .bf16) (va vb : KP) (r : Fin 512) (l : Fin 128) :
    out1 p va vb (ix2 r l) = ∑ y, p (ix2 ⟨1024 + r.val, by omega⟩ y) * va (ix2 y l) + ∑ y, p (ix2 ⟨1536 + r.val, by omega⟩ y) * vb (ix2 y l) := by
  pointwise [out1]

/-- Of the two placements' sums the one the lane lies in counts. -/
theorem two_sums (P P' : Fin 256 → EReal) (v v' : Fin 256 → EReal) (w : Fin 256 → EReal) (c : Prop) [Decidable c]
    (hv : ∀ y, v y = if c then w y else 0) (hv' : ∀ y, v' y = if c then 0 else w y) :
    ∑ y, P y * v y + ∑ y, P' y * v' y = ∑ y, (if c then P y else P' y) * w y := by
  by_cases h : c
  · simp only [if_pos h] at hv hv' ⊢
    simp only [hv, hv', mul_zero, Finset.sum_const_zero, add_zero]
  · simp only [if_neg h] at hv hv' ⊢
    simp only [hv, hv', mul_zero, Finset.sum_const_zero, zero_add]

/-- The attended value of head `h`, query `a`, lane `c` of a block. -/
abbrev blockOut (ok : IVec S128x256 1) (q : Q) (K V : FVec Ideal S256x128 .f32) (b : Fin 16 → FVec Ideal S1x1 .f32)
    (h : Fin 16) (a : Fin 128) (c : Fin 64) : EReal :=
  attn (rowS ok q K h a) (b h (ix2 0 0)) (fun y => V (ix2 y ⟨64 * (h.val / 8) + c.val, by omega⟩))

theorem out0_tile (ok : IVec S128x256 1) (q : Q) (K V : FVec Ideal S256x128 .f32) (b : Fin 16 → FVec Ideal S1x1 .f32)
    (j : Fin 4) (a l : Fin 128) (r : Fin 512) (hr : (r : ℕ) = 128 * j.val + a.val) (h : Fin 16) (hh : h.val = 0 + 2 * j.val + l.val / 64) (c : Fin 64) (hc : c.val = l.val % 64) :
    out0 (weights ok q (place K 0) (place K 1) (place K 2) (place K 3) b) (place V 0) (place V 1) (ix2 r l) = blockOut ok q K V b h a c := by
  have hl := l.isLt
  rw [out0_at, two_sums _ _ _ _ (fun y => V (ix2 y ⟨64 * (h.val / 8) + c.val, by omega⟩)) (l.val / 64 = 0)]
  · unfold blockOut attn
    refine Finset.sum_congr rfl fun y _ => ?_
    congr 1
    by_cases h0 : l.val / 64 = 0
    · rw [if_pos h0, weights_at ok q K b ⟨0 + j.val, by omega⟩ a y _ (by show r.val = 128 * (0 + j.val) + a.val; omega)]
      rw [show headOf ⟨0 + j.val, by omega⟩ = h from Fin.ext (by show (0 + j.val) / 8 * 8 + (0 + j.val) % 4 * 2 + (0 + j.val) / 4 % 2 = h.val; omega)]
    · rw [if_neg h0, weights_at ok q K b ⟨4 + j.val, by omega⟩ a y _ (by show 512 + r.val = 128 * (4 + j.val) + a.val; omega)]
      rw [show headOf ⟨4 + j.val, by omega⟩ = h from Fin.ext (by show (4 + j.val) / 8 * 8 + (4 + j.val) % 4 * 2 + (4 + j.val) / 4 % 2 = h.val; omega)]
  · intro y
    refine (place_at V 0 0 y l).trans ?_
    refine if_congr Iff.rfl (congrArg (fun c => V (ix2 y c)) (Fin.ext ?_)) rfl
    show 64 * 0 + l.val % 64 = 64 * (h.val / 8) + c.val
    omega
  · intro y
    refine (place_at V 0 1 y l).trans ?_
    by_cases h0 : l.val / 64 = 0
    · rw [if_pos h0]; exact if_neg (by show ¬ l.val / 64 = 1; omega)
    · rw [if_neg h0]
      refine (if_pos (show l.val / 64 = 1 by omega)).trans (congrArg (fun c => V (ix2 y c)) (Fin.ext ?_))
      show 64 * 0 + l.val % 64 = 64 * (h.val / 8) + c.val
      omega

theorem out1_tile (ok : IVec S128x256 1) (q : Q) (K V : FVec Ideal S256x128 .f32) (b : Fin 16 → FVec Ideal S1x1 .f32)
    (j : Fin 4) (a l : Fin 128) (r : Fin 512) (hr : (r : ℕ) = 128 * j.val + a.val) (h : Fin 16) (hh : h.val = 8 + 2 * j.val + l.val / 64) (c : Fin 64) (hc : c.val = l.val % 64) :
    out1 (weights ok q (place K 0) (place K 1) (place K 2) (place K 3) b) (place V 2) (place V 3) (ix2 r l) = blockOut ok q K V b h a c := by
  have hl := l.isLt
  rw [out1_at, two_sums _ _ _ _ (fun y => V (ix2 y ⟨64 * (h.val / 8) + c.val, by omega⟩)) (l.val / 64 = 0)]
  · unfold blockOut attn
    refine Finset.sum_congr rfl fun y _ => ?_
    congr 1
    by_cases h0 : l.val / 64 = 0
    · rw [if_pos h0, weights_at ok q K b ⟨8 + j.val, by omega⟩ a y _ (by show 1024 + r.val = 128 * (8 + j.val) + a.val; omega)]
      rw [show headOf ⟨8 + j.val, by omega⟩ = h from Fin.ext (by show (8 + j.val) / 8 * 8 + (8 + j.val) % 4 * 2 + (8 + j.val) / 4 % 2 = h.val; omega)]
    · rw [if_neg h0, weights_at ok q K b ⟨12 + j.val, by omega⟩ a y _ (by show 1536 + r.val = 128 * (12 + j.val) + a.val; omega)]
      rw [show headOf ⟨12 + j.val, by omega⟩ = h from Fin.ext (by show (12 + j.val) / 8 * 8 + (12 + j.val) % 4 * 2 + (12 + j.val) / 4 % 2 = h.val; omega)]
  · intro y
    refine (place_at V 1 0 y l).trans ?_
    refine if_congr Iff.rfl (congrArg (fun c => V (ix2 y c)) (Fin.ext ?_)) rfl
    show 64 * 1 + l.val % 64 = 64 * (h.val / 8) + c.val
    omega
  · intro y
    refine (place_at V 1 1 y l).trans ?_
    by_cases h0 : l.val / 64 = 0
    · rw [if_pos h0]; exact if_neg (by show ¬ l.val / 64 = 1; omega)
    · rw [if_neg h0]
      refine (if_pos (show l.val / 64 = 1 by omega)).trans (congrArg (fun c => V (ix2 y c)) (Fin.ext ?_))
      show 64 * 1 + l.val % 64 = 64 * (h.val / 8) + c.val
      omega

theorem piece00 (ok : IVec S128x256 1) (q : Q) (K V : FVec Ideal S256x128 .f32) (b : Fin 16 → FVec Ideal S1x1 .f32)
    (x : S128x128.Idx) (h : Fin 16) (hh : h.val = 0 + (x 1).val / 64) (c : Fin 64) (hc : c.val = (x 1).val % 64) (a : Fin 128) (ha : a.val = (x 0).val) :
    (truncf .bf16 (extractStridedSlice S128x128 ![0, 0] (out0 (weights ok q (place K 0) (place K 1) (place K 2) (place K 3) b) (place V 0) (place V 1)) slices_S512x128_o0_0_S128x128) bitsLt_bf16_f32 : FVec Ideal S128x128 .bf16) x
      = blockOut ok q K V b h a c := by
  obtain ⟨a', l, rfl⟩ : ∃ (a' l : Fin 128), x = ix2 a' l := ⟨x 0, x 1, by blk_ext⟩
  obtain rfl : a = a' := Fin.ext ha
  refine Eq.trans ?_ (out0_tile ok q K V b 0 a l ⟨128 * 0 + a.val, by omega⟩ rfl h (by rw [hh]; rfl) c hc)
  pointwise

theorem piece01 (ok : IVec S128x256 1) (q : Q) (K V : FVec Ideal S256x128 .f32) (b : Fin 16 → FVec Ideal S1x1 .f32)
    (x : S128x128.Idx) (h : Fin 16) (hh : h.val = 2 + (x 1).val / 64) (c : Fin 64) (hc : c.val = (x 1).val % 64) (a : Fin 128) (ha : a.val = (x 0).val) :
    (truncf .bf16 (extractStridedSlice S128x128 ![128, 0] (out0 (weights ok q (place K 0) (place K 1) (place K 2) (place K 3) b) (place V 0) (place V 1)) slices_S512x128_o128_0_S128x128) bitsLt_bf16_f32 : FVec Ideal S128x128 .bf16) x
      = blockOut ok q K V b h a c := by
  obtain ⟨a', l, rfl⟩ : ∃ (a' l : Fin 128), x = ix2 a' l := ⟨x 0, x 1, by blk_ext⟩
  obtain rfl : a = a' := Fin.ext ha
  refine Eq.trans ?_ (out0_tile ok q K V b 1 a l ⟨128 * 1 + a.val, by omega⟩ rfl h (by rw [hh]; rfl) c hc)
  pointwise

theorem piece02 (ok : IVec S128x256 1) (q : Q) (K V : FVec Ideal S256x128 .f32) (b : Fin 16 → FVec Ideal S1x1 .f32)
    (x : S128x128.Idx) (h : Fin 16) (hh : h.val = 4 + (x 1).val / 64) (c : Fin 64) (hc : c.val = (x 1).val % 64) (a : Fin 128) (ha : a.val = (x 0).val) :
    (truncf .bf16 (extractStridedSlice S128x128 ![256, 0] (out0 (weights ok q (place K 0) (place K 1) (place K 2) (place K 3) b) (place V 0) (place V 1)) slices_S512x128_o256_0_S128x128) bitsLt_bf16_f32 : FVec Ideal S128x128 .bf16) x
      = blockOut ok q K V b h a c := by
  obtain ⟨a', l, rfl⟩ : ∃ (a' l : Fin 128), x = ix2 a' l := ⟨x 0, x 1, by blk_ext⟩
  obtain rfl : a = a' := Fin.ext ha
  refine Eq.trans ?_ (out0_tile ok q K V b 2 a l ⟨128 * 2 + a.val, by omega⟩ rfl h (by rw [hh]; rfl) c hc)
  pointwise

theorem piece03 (ok : IVec S128x256 1) (q : Q) (K V : FVec Ideal S256x128 .f32) (b : Fin 16 → FVec Ideal S1x1 .f32)
    (x : S128x128.Idx) (h : Fin 16) (hh : h.val = 6 + (x 1).val / 64) (c : Fin 64) (hc : c.val = (x 1).val % 64) (a : Fin 128) (ha : a.val = (x 0).val) :
    (truncf .bf16 (extractStridedSlice S128x128 ![384, 0] (out0 (weights ok q (place K 0) (place K 1) (place K 2) (place K 3) b) (place V 0) (place V 1)) slices_S512x128_o384_0_S128x128) bitsLt_bf16_f32 : FVec Ideal S128x128 .bf16) x
      = blockOut ok q K V b h a c := by
  obtain ⟨a', l, rfl⟩ : ∃ (a' l : Fin 128), x = ix2 a' l := ⟨x 0, x 1, by blk_ext⟩
  obtain rfl : a = a' := Fin.ext ha
  refine Eq.trans ?_ (out0_tile ok q K V b 3 a l ⟨128 * 3 + a.val, by omega⟩ rfl h (by rw [hh]; rfl) c hc)
  pointwise

theorem piece10 (ok : IVec S128x256 1) (q : Q) (K V : FVec Ideal S256x128 .f32) (b : Fin 16 → FVec Ideal S1x1 .f32)
    (x : S128x128.Idx) (h : Fin 16) (hh : h.val = 8 + (x 1).val / 64) (c : Fin 64) (hc : c.val = (x 1).val % 64) (a : Fin 128) (ha : a.val = (x 0).val) :
    (truncf .bf16 (extractStridedSlice S128x128 ![0, 0] (out1 (weights ok q (place K 0) (place K 1) (place K 2) (place K 3) b) (place V 2) (place V 3)) slices_S512x128_o0_0_S128x128) bitsLt_bf16_f32 : FVec Ideal S128x128 .bf16) x
      = blockOut ok q K V b h a c := by
  obtain ⟨a', l, rfl⟩ : ∃ (a' l : Fin 128), x = ix2 a' l := ⟨x 0, x 1, by blk_ext⟩
  obtain rfl : a = a' := Fin.ext ha
  refine Eq.trans ?_ (out1_tile ok q K V b 0 a l ⟨128 * 0 + a.val, by omega⟩ rfl h (by rw [hh]; rfl) c hc)
  pointwise

theorem piece11 (ok : IVec S128x256 1) (q : Q) (K V : FVec Ideal S256x128 .f32) (b : Fin 16 → FVec Ideal S1x1 .f32)
    (x : S128x128.Idx) (h : Fin 16) (hh : h.val = 10 + (x 1).val / 64) (c : Fin 64) (hc : c.val = (x 1).val % 64) (a : Fin 128) (ha : a.val = (x 0).val) :
    (truncf .bf16 (extractStridedSlice S128x128 ![128, 0] (out1 (weights ok q (place K 0) (place K 1) (place K 2) (place K 3) b) (place V 2) (place V 3)) slices_S512x128_o128_0_S128x128) bitsLt_bf16_f32 : FVec Ideal S128x128 .bf16) x
      = blockOut ok q K V b h a c := by
  obtain ⟨a', l, rfl⟩ : ∃ (a' l : Fin 128), x = ix2 a' l := ⟨x 0, x 1, by blk_ext⟩
  obtain rfl : a = a' := Fin.ext ha
  refine Eq.trans ?_ (out1_tile ok q K V b 1 a l ⟨128 * 1 + a.val, by omega⟩ rfl h (by rw [hh]; rfl) c hc)
  pointwise

theorem piece12 (ok : IVec S128x256 1) (q : Q) (K V : FVec Ideal S256x128 .f32) (b : Fin 16 → FVec Ideal S1x1 .f32)
    (x : S128x128.Idx) (h : Fin 16) (hh : h.val = 12 + (x 1).val / 64) (c : Fin 64) (hc : c.val = (x 1).val % 64) (a : Fin 128) (ha : a.val = (x 0).val) :
    (truncf .bf16 (extractStridedSlice S128x128 ![256, 0] (out1 (weights ok q (place K 0) (place K 1) (place K 2) (place K 3) b) (place V 2) (place V 3)) slices_S512x128_o256_0_S128x128) bitsLt_bf16_f32 : FVec Ideal S128x128 .bf16) x
      = blockOut ok q K V b h a c := by
  obtain ⟨a', l, rfl⟩ : ∃ (a' l : Fin 128), x = ix2 a' l := ⟨x 0, x 1, by blk_ext⟩
  obtain rfl : a = a' := Fin.ext ha
  refine Eq.trans ?_ (out1_tile ok q K V b 2 a l ⟨128 * 2 + a.val, by omega⟩ rfl h (by rw [hh]; rfl) c hc)
  pointwise

theorem piece13 (ok : IVec S128x256 1) (q : Q) (K V : FVec Ideal S256x128 .f32) (b : Fin 16 → FVec Ideal S1x1 .f32)
    (x : S128x128.Idx) (h : Fin 16) (hh : h.val = 14 + (x 1).val / 64) (c : Fin 64) (hc : c.val = (x 1).val % 64) (a : Fin 128) (ha : a.val = (x 0).val) :
    (truncf .bf16 (extractStridedSlice S128x128 ![384, 0] (out1 (weights ok q (place K 0) (place K 1) (place K 2) (place K 3) b) (place V 2) (place V 3)) slices_S512x128_o384_0_S128x128) bitsLt_bf16_f32 : FVec Ideal S128x128 .bf16) x
      = blockOut ok q K V b h a c := by
  obtain ⟨a', l, rfl⟩ : ∃ (a' l : Fin 128), x = ix2 a' l := ⟨x 0, x 1, by blk_ext⟩
  obtain rfl : a = a' := Fin.ext ha
  refine Eq.trans ?_ (out1_tile ok q K V b 3 a l ⟨128 * 3 + a.val, by omega⟩ rfl h (by rw [hh]; rfl) c hc)
  pointwise

/-- The mask of a block: a key of the block before counts from the query's own place on, if there is a block before
    (`has`); a key of the block itself up to the query. -/
def okm (has : BitVec 1) : IVec S128x256 1 :=
  concatenate S128x256 1 [⟨S128x128, andi (cmpi .sgt (iota .tc S128x128 32 [1] iota_S128x128_d1_w32) (iota .tc S128x128 32 [0] iota_S128x128_d0_w32)) (broadcast S128x128 has)⟩,
    ⟨S128x128, cmpi .sle (iota .tc S128x128 32 [1] iota_S128x128_d1_w32) (iota .tc S128x128 32 [0] iota_S128x128_d0_w32)⟩] concatenates_S128x128_S128x128_S128x256_d1

theorem okm_at (has : BitVec 1) (a : Fin 128) (y : Fin 256) :
    okm has (ix2 a y) = 1 ↔ (y.val ≤ a.val + 128 ∧ a.val < y.val ∧ (has = 1 ∨ 128 ≤ y.val)) := by
  pointwise [okm]
  have e1 : ∀ y a : Fin 128, IntOp.cmpi CmpIPredicate.sgt (BitVec.ofNat 32 y.val) (BitVec.ofNat 32 a.val) = if a.val < y.val then 1#1 else 0#1 := by decide +kernel
  have e2 : ∀ y a : Fin 128, IntOp.cmpi CmpIPredicate.sle (BitVec.ofNat 32 y.val) (BitVec.ofNat 32 a.val) = if y.val ≤ a.val then 1#1 else 0#1 := by decide +kernel
  have hy := y.isLt
  have ha := a.isLt
  split
  · rename_i h
    rw [e1 ⟨y.val, h⟩ a]
    have e3 : ∀ (p : Prop) [Decidable p], (IntOp.andi (if p then 1#1 else 0#1) has = 1 ↔ p ∧ has = 1) := by
      intro p _
      by_cases hp : p
      · rw [if_pos hp]; revert has; simp only [hp, true_and]; decide
      · rw [if_neg hp]; revert has; simp only [hp, false_and]; decide
    rw [e3]
    exact ⟨fun h' => ⟨by omega, h'.1, Or.inl h'.2⟩, fun h' => ⟨h'.2.1, h'.2.2.resolve_right (by omega)⟩⟩
  · rename_i h
    rw [e2 ⟨y.val - 128, by omega⟩ a]
    by_cases hp : y.val - 128 ≤ a.val
    · rw [if_pos hp]; exact ⟨fun _ => ⟨by omega, by omega, Or.inr (by omega)⟩, fun _ => rfl⟩
    · rw [if_neg hp]; exact ⟨fun h' => absurd h' (by decide), fun h' => absurd h'.1 (by omega)⟩

end Cert.KernelIdeal.Block

end
-- ==== Proof.AttnValue.lean ====
/- What the attention kernel leaves in its four result arrays, as functions of the arguments. -/
module

public import proofs.«01_k».proof.Proof.AttnRows
public import proofs.«01_k».proof.Proof.Gen.KernelIdeal.Value

@[expose] public section

set_option maxRecDepth 16384

noncomputable section

open Idealize.ShloMosaic Idealize.ShloMosaic.TcCoe

namespace Cert.KernelIdeal.Block

open Cert.KernelIdeal Cert.KernelIdeal.Gen Cert.AttnSpec

/-- The windows' block indices, and the last point of a sequence. -/
theorem idx : ∀ t : Fin cfg0.N, win0_0.index t = ![t.val, 4] ∧ win0_1.index t = ![t.val, 32] ∧ win0_2.index t = ![t.val*2-1, 32] ∧ win0_3.index t = ![0, 0] ∧ win0_4.index t = ![t.val, 0] ∧ win0_5.index t = ![t.val, 0] ∧ win0_6.index t = ![t.val/8, 0, 0] ∧ win0_7.index t = ![t.val/8, 0, 0] ∧ win0_8.index t = ![t.val, 0] ∧ (grid0.coords t 1).val = t.val % 8 ∧ (win0_6.flush t = true ↔ t.val % 8 = 7) ∧ (win0_7.flush t = true ↔ t.val % 8 = 7) :=
  (by decide +kernel : ∀ t : Fin grid0.N, _)

theorem gridN : cfg0.N = 128 := rfl

variable (m : (ℓ : Loc nD τ sig) → Buf (Elt Ideal) ℓ) (c : Dev nD)

abbrev zAll : FVec Ideal S33792x8704 .f32 := m (c.tc.loc main_arg0)
abbrev sinks16 : FVec Ideal S16 .f32 := m (c.tc.loc main_arg1)
abbrev wE1 : FVec Ideal S32x2048x4096 .f32 := m (c.tc.loc main_arg2)
abbrev zeroW : FVec Ideal S_ .f32 := sitofp .f32 (constantI S_ 32 0#32)

/-! ## The input blocks read at an index -/

theorem V1 : V m c main_v1 = shapeCast S1x128 (pad S128 ![0] ![112] ![0] (sinks16 m c) zeroW pads_S16_S128_01120 h_S_) shapeCasts_S128_S1x128 := by
  unfold V; simp only [hostOps0, hostOps0_1, hostOps0_2, List.flatten_cons, List.flatten_nil, List.append_nil, List.cons_append, List.nil_append, StableHlo.TRef.unary, StableHlo.TRef.binary, StableHlo.TRef.toBuf, StableHlo.TRef.ofBuf, cast_eq]; after_results; rfl

theorem V2 : V m c main_v2 = shapeCast S65536x4096 (wE1 m c) shapeCasts_S32x2048x4096_S65536x4096 := by
  unfold V; simp only [hostOps0, hostOps0_1, hostOps0_2, List.flatten_cons, List.flatten_nil, List.append_nil, List.cons_append, List.nil_append, StableHlo.TRef.unary, StableHlo.TRef.binary, StableHlo.TRef.toBuf, StableHlo.TRef.ofBuf, cast_eq]; after_results; rfl

theorem blkQ (t : Fin cfg0.N) (a : Fin 256) (l : Fin 1024) :
    X0_0 m c t (ix2 a l) = nat2 (zAll m c) (256 * t.val + a.val) (4096 + l.val) := by
  have ht := t.isLt
  have hN := gridN
  rw [← nat2_val (zAll m c) ⟨256 * t.val + a.val, by omega⟩ ⟨4096 + l.val, by omega⟩ _ _ rfl rfl]
  unfold X0_0 Pipeline.Window.fill iblk
  rw [show V m c (Pipeline.arrRef spec0 0) = zAll m c from V_main_arg0 m c]
  refine (dif_pos (moved0_0 t _)).trans ?_
  refine congrArg (zAll m c) ?_
  blk_ext [idx t]

theorem blkK (t : Fin cfg0.N) (a : Fin 256) (l : Fin 256) :
    iblk m c 1 t (ix2 a l) = nat2 (zAll m c) (256 * t.val + a.val) (8192 + l.val) := by
  have ht := t.isLt
  have hN := gridN
  rw [← nat2_val (zAll m c) ⟨256 * t.val + a.val, by omega⟩ ⟨8192 + l.val, by omega⟩ _ _ rfl rfl]
  unfold iblk
  rw [show V m c (Pipeline.arrRef spec0 1) = zAll m c from V_main_arg0 m c]
  refine congrArg (zAll m c) ?_
  blk_ext [idx t]

theorem blkP (t : Fin cfg0.N) (a : Fin 128) (l : Fin 256) :
    iblk m c 2 t (ix2 a l) = nat2 (zAll m c) (128 * (t.val * 2 - 1) + a.val) (8192 + l.val) := by
  have ht := t.isLt
  have hN := gridN
  rw [← nat2_val (zAll m c) ⟨128 * (t.val * 2 - 1) + a.val, by omega⟩ ⟨8192 + l.val, by omega⟩ _ _ rfl rfl]
  unfold iblk
  rw [show V m c (Pipeline.arrRef spec0 2) = zAll m c from V_main_arg0 m c]
  refine congrArg (zAll m c) ?_
  blk_ext [idx t]

def sinksP : FVec Ideal S1x128 .f32 := shapeCast S1x128 (pad S128 ![0] ![112] ![0] (sinks16 m c) zeroW pads_S16_S128_01120 h_S_) shapeCasts_S128_S1x128

theorem sinksP_at (h : Fin 16) : sinksP m c (ix2 0 ⟨h.val, by omega⟩) = sinks16 m c (ix1 h) := by
  unfold sinksP
  pointwise

theorem blkS (t : Fin cfg0.N) (h : Fin 16) :
    iblk m c 3 t (ix2 0 ⟨h.val, by omega⟩) = nat1 (sinks16 m c) h.val := by
  rw [← nat1_val (sinks16 m c) h _ rfl, ← sinksP_at]
  unfold iblk
  rw [show V m c (Pipeline.arrRef spec0 3) = sinksP m c from V1 m c]
  refine congrArg (sinksP m c) ?_
  blk_ext [idx t]

theorem ld_at {M N m n : ℕ} (X : FVec Ideal ⟨2, ![M, N]⟩ .f32) (o p : ℕ) (h) (a : Fin m) (l : Fin n) (r : Fin M) (k : Fin N) (hr : r.val = o + a.val) (hk : k.val = p + l.val) :
    View.ld (Val := Elt Ideal) (e' := .f32) X (Rect.unit (s := ⟨2, ![M, N]⟩) ![o, p] ![m, n] h) (ix2 a l) = X (ix2 r k) := by
  rw [View.ld_apply]
  refine congrArg X (funext fun b => Fin.ext ?_)
  refine Fin.cases ?_ (fun b => ?_) b
  · show o + 1 * a.val = r.val
    omega
  · obtain rfl : b = 0 := Subsingleton.elim _ _
    show p + 1 * l.val = k.val
    omega

/-! ## A block's rows are the attended rows -/

theorem block_cell (z : ℕ → ℕ → EReal) (s : ℕ → EReal) (has : BitVec 1) (q : Q) (prev cur : KV) (b : Fin 16 → FVec Ideal S1x1 .f32)
    (T : ℕ) (hT : T % 128 = 0) (hhas : has = 1 ↔ 0 < T % 2048 / 128)
    (hq : ∀ (a : Fin 128) (l : Fin 1024), q (ix2 a l) = z (T + a.val) (4096 + l.val))
    (hp : has = 1 → ∀ (a : Fin 128) (l : Fin 256), prev (ix2 a l) = z (T + a.val - 128) (8192 + l.val))
    (hc : ∀ (a : Fin 128) (l : Fin 256), cur (ix2 a l) = z (T + a.val) (8192 + l.val))
    (hb : ∀ h : Fin 16, b h (ix2 0 0) = s h.val)
    (h : Fin 16) (a : Fin 128) (c : Fin 64) (R C : ℕ) (hR : R = T + a.val) (hC : C = 64 * h.val + c.val) :
    blockOut (okm has) q (keys prev cur) (vals prev cur) b h a c = cell z s R C := by
  have ha := a.isLt
  have hcl := c.isLt
  have hh := h.isLt
  unfold blockOut cell rowS
  have e1 : C / 64 = h.val := by omega
  have e2 : C / 512 = h.val / 8 := by omega
  have e3 : C % 64 = c.val := by omega
  have e4 : R % 128 = a.val := by omega
  have e5 : R - R % 128 = T := by omega
  have e6 : R % 2048 / 128 = T % 2048 / 128 := by omega
  have row : ∀ y : Fin 256, okm has (ix2 a y) = 1 → (y.val < 128 → has = 1) := fun y hy hlt =>
    ((okm_at has a y).mp hy).2.2.resolve_right (by omega)
  refine attn_congr (fun d => ?_) ?_ (fun y => ?_) (fun y hy d => ?_) (fun y hy => ?_)
  · rw [hq, e1, hR]
  · rw [hb, e1]
  · rw [okm_at, e4, hhas, e6]
  · rw [keys_at, e2, e5]
    split
    · rename_i hlt
      rw [hp (row y hy hlt)]
    · rename_i hge
      rw [hc]
      congr 1
      show T + (y.val - 128) = T + y.val - 128
      omega
  · rw [vals_at, e2, e3, e5]
    split
    · rename_i hlt
      rw [hp (row y hy hlt)]
      congr 1
      show 8192 + (128 + (64 * (h.val / 8) + c.val)) = 8320 + (64 * (h.val / 8) + c.val)
      omega
    · rename_i hge
      rw [hc]
      congr 1
      · show T + (y.val - 128) = T + y.val - 128
        omega
      · show 8192 + (128 + (64 * (h.val / 8) + c.val)) = 8320 + (64 * (h.val / 8) + c.val)
        omega

/-- The sinks as the body reads them, one element each. -/
abbrev sinkAt (t : Fin cfg0.N) (h : Fin 16) : FVec Ideal S1x1 .f32 :=
  View.ld (Val := Elt Ideal) (e' := .f32) (S := S1x128) (iblk m c 3 t) (Rect.unit ![0, h.val] ![1, 1] (by intro a; fin_cases a <;> (simp; try omega)))

theorem sinkAt_val (t : Fin cfg0.N) (h : Fin 16) : sinkAt m c t h (ix2 0 0) = nat1 (sinks16 m c) h.val :=
  (ld_at (M := 1) (N := 128) (m := 1) (n := 1) (iblk m c 3 t) 0 h.val _ 0 0 0 ⟨h.val, by omega⟩ rfl rfl).trans (blkS m c t h)

end Cert.KernelIdeal.Block

end
-- ==== Proof.AttnFit.lean ====
/- The printed payloads of the attention kernel's two blocks are the stages of `AttnBlock`. -/
module

public import proofs.«01_k».proof.Proof.AttnRows

@[expose] public section

set_option maxRecDepth 16384

noncomputable section

open Idealize.ShloMosaic Idealize.ShloMosaic.TcCoe

namespace Cert.KernelIdeal.Block

open Cert.KernelIdeal Cert.KernelIdeal.Gen Cert.AttnSpec

theorem fit_lower (ok : IVec S128x256 1) (s0 s1 s2 s3 s4 s5 s6 s7 s8 s9 s10 s11 : FVec Ideal S128x256 .f32) (x : FVec Ideal S512x256 .f32)
    (b0 b1 b2 b3 b4 b5 b6 b7 b8 b9 b10 b11 b12 b13 b14 b15 : FVec Ideal S1x1 .f32) :
    k0_pay116 ok s0 (sinkB b0) s1 (sinkB b2) s2 (sinkB b4) s3 (sinkB b6) s4 (sinkB b1) s5 (sinkB b3) s6 (sinkB b5) s7 (sinkB b7) s8 (sinkB b8) s9 (sinkB b10) s10 (sinkB b12) s11 (sinkB b14) x (slab0 ok x) (sinkB b9) (slab1 ok x) (shapeCast S1x1 (shapeCast S1x1 b11 shapeCasts_S1x1_S1x1) shapeCasts_S1x1_S1x1) b13 b15 = probs (allS ![s0, s1, s2, s3, s4, s5, s6, s7, s8, s9, s10, s11, slab0 ok x, slab1 ok x, slab2 ok x, slab3 ok x])
      (allB ![sinkB b0, sinkB b2, sinkB b4, sinkB b6, sinkB b1, sinkB b3, sinkB b5, sinkB b7, sinkB b8, sinkB b10, sinkB b12, sinkB b14, sinkB b9, sinkB b11, sinkB b13, sinkB b15]) := by rfl

theorem fit_upper (ok : IVec S128x256 1) (s0 s1 s2 s3 s4 s5 s6 s7 s8 s9 s10 s11 : FVec Ideal S128x256 .f32) (x : FVec Ideal S512x256 .f32)
    (b0 b1 b2 b3 b4 b5 b6 b7 b8 b9 b10 b11 b12 b13 b14 b15 : FVec Ideal S1x1 .f32) :
    k0_pay53 (k0_pay52 ok s0 (sinkB b0) s1 (sinkB b2) s2 (sinkB b4) s3 (sinkB b6) s4 (sinkB b1) s5 (sinkB b3) s6 (sinkB b5) s7 (sinkB b7) s8 (sinkB b8) s9 (sinkB b10) s10 (sinkB b12) s11 (sinkB b14) x (slab0 ok x) (sinkB b9) b11 b13 b15) = probs (allS ![s0, s1, s2, s3, s4, s5, s6, s7, s8, s9, s10, s11, slab0 ok x, slab1 ok x, slab2 ok x, slab3 ok x])
      (allB ![sinkB b0, sinkB b2, sinkB b4, sinkB b6, sinkB b1, sinkB b3, sinkB b5, sinkB b7, sinkB b8, sinkB b10, sinkB b12, sinkB b14, sinkB b9, sinkB b11, sinkB b13, sinkB b15]) := by rfl

/-- The weights of the two blocks as printed. -/
def lowW (q : Q) (p u : KV) (b : Fin 16 → FVec Ideal S1x1 .f32) : FVec Ideal S2048x256 .bf16 :=
  k0_pay116 k0_pay80 (k0_pay83 q (k0_pay67 p u)) (k0_pay84 (b 0)) (k0_pay85 q (k0_pay67 p u)) (k0_pay86 (b 2)) (k0_pay87 q (k0_pay67 p u)) (k0_pay88 (b 4)) (k0_pay89 q (k0_pay67 p u)) (k0_pay91 (k0_pay90 (b 6))) (k0_pay93 (k0_pay68 p u) k0_pay80 (k0_pay81 q)) (k0_pay94 (b 1)) (k0_pay95 (k0_pay68 p u) k0_pay80 (k0_pay81 q)) (k0_pay96 (b 3)) (k0_pay97 (k0_pay68 p u) k0_pay80 (k0_pay81 q)) (k0_pay98 (b 5)) (k0_pay99 (k0_pay68 p u) k0_pay80 (k0_pay81 q)) (k0_pay100 (b 7)) (k0_pay103 (k0_pay69 p u) (k0_pay79 q) k0_pay80) (k0_pay104 (b 8)) (k0_pay105 k0_pay80 (k0_pay102 (k0_pay69 p u) (k0_pay79 q))) (k0_pay106 (b 10)) (k0_pay107 k0_pay80 (k0_pay102 (k0_pay69 p u) (k0_pay79 q))) (k0_pay108 (b 12)) (k0_pay109 k0_pay80 (k0_pay102 (k0_pay69 p u) (k0_pay79 q))) (k0_pay110 (b 14)) (k0_pay111 (k0_pay70 p u) (k0_pay101 (k0_pay79 q))) (k0_pay112 (k0_pay70 p u) k0_pay80 (k0_pay101 (k0_pay79 q))) (k0_pay113 (b 9)) (k0_pay114 (k0_pay70 p u) k0_pay80 (k0_pay101 (k0_pay79 q))) (k0_pay115 (b 11)) (b 13) (b 15)

def upW (has : BitVec 1) (q : Q) (p u : KV) (b : Fin 16 → FVec Ideal S1x1 .f32) : FVec Ideal S2048x256 .f32 :=
  k0_pay52 (k0_pay19 has) (k0_pay22 has q (k0_pay7 p u)) (k0_pay23 (b 0)) (k0_pay24 has q (k0_pay7 p u)) (k0_pay25 (b 2)) (k0_pay26 has q (k0_pay7 p u)) (k0_pay27 (b 4)) (k0_pay28 (k0_pay19 has) (k0_pay21 q (k0_pay7 p u))) (k0_pay29 (b 6)) (k0_pay31 (k0_pay8 p u) (k0_pay19 has) (k0_pay20 q)) (k0_pay32 (b 1)) (k0_pay33 (k0_pay8 p u) (k0_pay19 has) (k0_pay20 q)) (k0_pay34 (b 3)) (k0_pay35 (k0_pay8 p u) (k0_pay19 has) (k0_pay20 q)) (k0_pay36 (b 5)) (k0_pay37 (k0_pay8 p u) (k0_pay19 has) (k0_pay20 q)) (k0_pay38 (b 7)) (k0_pay41 (k0_pay9 p u) (k0_pay19 has) (k0_pay39 (k0_pay18 q))) (k0_pay42 (b 8)) (k0_pay43 (k0_pay9 p u) (k0_pay19 has) (k0_pay39 (k0_pay18 q))) (k0_pay44 (b 10)) (k0_pay45 (k0_pay9 p u) (k0_pay19 has) (k0_pay39 (k0_pay18 q))) (k0_pay46 (b 12)) (k0_pay47 (k0_pay9 p u) (k0_pay19 has) (k0_pay39 (k0_pay18 q))) (k0_pay48 (b 14)) (k0_pay49 (k0_pay10 p u) (k0_pay39 (k0_pay18 q))) (k0_pay50 (k0_pay10 p u) (k0_pay19 has) (k0_pay39 (k0_pay18 q))) (k0_pay51 (b 9)) (b 11) (b 13) (b 15)

theorem lower_weights (q : Q) (p u : KV) (b : Fin 16 → FVec Ideal S1x1 .f32) :
    lowW q p u b
      = weights (okm 1#1) q (place (keys p u) 0) (place (keys p u) 1) (place (keys p u) 2) (place (keys p u) 3) b := by
  show k0_pay116 (okm 1#1) (slab0 (okm 1#1) (prods (qs0 q) (place (keys p u) 0))) (sinkB (b 0)) (slab1 (okm 1#1) (prods (qs0 q) (place (keys p u) 0))) (sinkB (b 2)) (slab2 (okm 1#1) (prods (qs0 q) (place (keys p u) 0))) (sinkB (b 4)) (slab3 (okm 1#1) (prods (qs0 q) (place (keys p u) 0))) (sinkB (b 6)) (slab0 (okm 1#1) (prods (qs0 q) (place (keys p u) 1))) (sinkB (b 1)) (slab1 (okm 1#1) (prods (qs0 q) (place (keys p u) 1))) (sinkB (b 3)) (slab2 (okm 1#1) (prods (qs0 q) (place (keys p u) 1))) (sinkB (b 5)) (slab3 (okm 1#1) (prods (qs0 q) (place (keys p u) 1))) (sinkB (b 7)) (slab0 (okm 1#1) (prods (qs1 q) (place (keys p u) 2))) (sinkB (b 8)) (slab1 (okm 1#1) (prods (qs1 q) (place (keys p u) 2))) (sinkB (b 10)) (slab2 (okm 1#1) (prods (qs1 q) (place (keys p u) 2))) (sinkB (b 12)) (slab3 (okm 1#1) (prods (qs1 q) (place (keys p u) 2))) (sinkB (b 14)) (prods (qs1 q) (place (keys p u) 3)) (slab0 (okm 1#1) (prods (qs1 q) (place (keys p u) 3))) (sinkB (b 9)) (slab1 (okm 1#1) (prods (qs1 q) (place (keys p u) 3))) (shapeCast S1x1 (shapeCast S1x1 (b 11) shapeCasts_S1x1_S1x1) shapeCasts_S1x1_S1x1) (b 13) (b 15) = _
  rw [fit_lower]
  rfl

theorem upper_weights (has : BitVec 1) (q : Q) (p u : KV) (b : Fin 16 → FVec Ideal S1x1 .f32) :
    k0_pay53 (upW has q p u b)
      = weights (okm has) q (place (keys p u) 0) (place (keys p u) 1) (place (keys p u) 2) (place (keys p u) 3) b := by
  show k0_pay53 (k0_pay52 (okm has) (slab0 (okm has) (prods (qs0 q) (place (keys p u) 0))) (sinkB (b 0)) (slab1 (okm has) (prods (qs0 q) (place (keys p u) 0))) (sinkB (b 2)) (slab2 (okm has) (prods (qs0 q) (place (keys p u) 0))) (sinkB (b 4)) (slab3 (okm has) (prods (qs0 q) (place (keys p u) 0))) (sinkB (b 6)) (slab0 (okm has) (prods (qs0 q) (place (keys p u) 1))) (sinkB (b 1)) (slab1 (okm has) (prods (qs0 q) (place (keys p u) 1))) (sinkB (b 3)) (slab2 (okm has) (prods (qs0 q) (place (keys p u) 1))) (sinkB (b 5)) (slab3 (okm has) (prods (qs0 q) (place (keys p u) 1))) (sinkB (b 7)) (slab0 (okm has) (prods (qs1 q) (place (keys p u) 2))) (sinkB (b 8)) (slab1 (okm has) (prods (qs1 q) (place (keys p u) 2))) (sinkB (b 10)) (slab2 (okm has) (prods (qs1 q) (place (keys p u) 2))) (sinkB (b 12)) (slab3 (okm has) (prods (qs1 q) (place (keys p u) 2))) (sinkB (b 14)) (prods (qs1 q) (place (keys p u) 3)) (slab0 (okm has) (prods (qs1 q) (place (keys p u) 3))) (sinkB (b 9)) (b 11) (b 13) (b 15)) = _
  rw [fit_upper]
  rfl

theorem upper_tile00 (has : BitVec 1) (q : Q) (p u : KV) (b : Fin 16 → FVec Ideal S1x1 .f32) :
    k0_pay55 (k0_pay14 p u) (k0_pay15 k0_pay12 (k0_pay13 p u)) (upW has q p u b) = (truncf .bf16 (extractStridedSlice S128x128 ![0, 0] (out0 (weights (okm has) q (place (keys p u) 0) (place (keys p u) 1) (place (keys p u) 2) (place (keys p u) 3) b) (place (vals p u) 0) (place (vals p u) 1)) slices_S512x128_o0_0_S128x128) bitsLt_bf16_f32 : FVec Ideal S128x128 .bf16) := by
  show (truncf .bf16 (extractStridedSlice S128x128 ![0, 0] (out0 (k0_pay53 (upW has q p u b)) (place (vals p u) 0) (place (vals p u) 1)) slices_S512x128_o0_0_S128x128) bitsLt_bf16_f32 : FVec Ideal S128x128 .bf16) = _
  rw [upper_weights]

theorem upper_tile01 (has : BitVec 1) (q : Q) (p u : KV) (b : Fin 16 → FVec Ideal S1x1 .f32) :
    k0_pay56 (k0_pay14 p u) (k0_pay15 k0_pay12 (k0_pay13 p u)) (upW has q p u b) = (truncf .bf16 (extractStridedSlice S128x128 ![128, 0] (out0 (weights (okm has) q (place (keys p u) 0) (place (keys p u) 1) (place (keys p u) 2) (place (keys p u) 3) b) (place (vals p u) 0) (place (vals p u) 1)) slices_S512x128_o128_0_S128x128) bitsLt_bf16_f32 : FVec Ideal S128x128 .bf16) := by
  show (truncf .bf16 (extractStridedSlice S128x128 ![128, 0] (out0 (k0_pay53 (upW has q p u b)) (place (vals p u) 0) (place (vals p u) 1)) slices_S512x128_o128_0_S128x128) bitsLt_bf16_f32 : FVec Ideal S128x128 .bf16) = _
  rw [upper_weights]

theorem upper_tile02 (has : BitVec 1) (q : Q) (p u : KV) (b : Fin 16 → FVec Ideal S1x1 .f32) :
    k0_pay57 (k0_pay14 p u) (k0_pay15 k0_pay12 (k0_pay13 p u)) (upW has q p u b) = (truncf .bf16 (extractStridedSlice S128x128 ![256, 0] (out0 (weights (okm has) q (place (keys p u) 0) (place (keys p u) 1) (place (keys p u) 2) (place (keys p u) 3) b) (place (vals p u) 0) (place (vals p u) 1)) slices_S512x128_o256_0_S128x128) bitsLt_bf16_f32 : FVec Ideal S128x128 .bf16) := by
  show (truncf .bf16 (extractStridedSlice S128x128 ![256, 0] (out0 (k0_pay53 (upW has q p u b)) (place (vals p u) 0) (place (vals p u) 1)) slices_S512x128_o256_0_S128x128) bitsLt_bf16_f32 : FVec Ideal S128x128 .bf16) = _
  rw [upper_weights]

theorem upper_tile03 (has : BitVec 1) (q : Q) (p u : KV) (b : Fin 16 → FVec Ideal S1x1 .f32) :
    k0_pay58 (k0_pay14 p u) (k0_pay15 k0_pay12 (k0_pay13 p u)) (upW has q p u b) = (truncf .bf16 (extractStridedSlice S128x128 ![384, 0] (out0 (weights (okm has) q (place (keys p u) 0) (place (keys p u) 1) (place (keys p u) 2) (place (keys p u) 3) b) (place (vals p u) 0) (place (vals p u) 1)) slices_S512x128_o384_0_S128x128) bitsLt_bf16_f32 : FVec Ideal S128x128 .bf16) := by
  show (truncf .bf16 (extractStridedSlice S128x128 ![384, 0] (out0 (k0_pay53 (upW has q p u b)) (place (vals p u) 0) (place (vals p u) 1)) slices_S512x128_o384_0_S128x128) bitsLt_bf16_f32 : FVec Ideal S128x128 .bf16) = _
  rw [upper_weights]

theorem upper_tile10 (has : BitVec 1) (q : Q) (p u : KV) (b : Fin 16 → FVec Ideal S1x1 .f32) :
    k0_pay60 (k0_pay16 k0_pay12 (k0_pay13 p u)) (k0_pay17 (k0_pay11 p u) k0_pay12) (upW has q p u b) = (truncf .bf16 (extractStridedSlice S128x128 ![0, 0] (out1 (weights (okm has) q (place (keys p u) 0) (place (keys p u) 1) (place (keys p u) 2) (place (keys p u) 3) b) (place (vals p u) 2) (place (vals p u) 3)) slices_S512x128_o0_0_S128x128) bitsLt_bf16_f32 : FVec Ideal S128x128 .bf16) := by
  show (truncf .bf16 (extractStridedSlice S128x128 ![0, 0] (out1 (k0_pay53 (upW has q p u b)) (place (vals p u) 2) (place (vals p u) 3)) slices_S512x128_o0_0_S128x128) bitsLt_bf16_f32 : FVec Ideal S128x128 .bf16) = _
  rw [upper_weights]

theorem upper_tile11 (has : BitVec 1) (q : Q) (p u : KV) (b : Fin 16 → FVec Ideal S1x1 .f32) :
    k0_pay61 (k0_pay16 k0_pay12 (k0_pay13 p u)) (k0_pay17 (k0_pay11 p u) k0_pay12) (upW has q p u b) = (truncf .bf16 (extractStridedSlice S128x128 ![128, 0] (out1 (weights (okm has) q (place (keys p u) 0) (place (keys p u) 1) (place (keys p u) 2) (place (keys p u) 3) b) (place (vals p u) 2) (place (vals p u) 3)) slices_S512x128_o128_0_S128x128) bitsLt_bf16_f32 : FVec Ideal S128x128 .bf16) := by
  show (truncf .bf16 (extractStridedSlice S128x128 ![128, 0] (out1 (k0_pay53 (upW has q p u b)) (place (vals p u) 2) (place (vals p u) 3)) slices_S512x128_o128_0_S128x128) bitsLt_bf16_f32 : FVec Ideal S128x128 .bf16) = _
  rw [upper_weights]

theorem upper_tile12 (has : BitVec 1) (q : Q) (p u : KV) (b : Fin 16 → FVec Ideal S1x1 .f32) :
    k0_pay62 (k0_pay16 k0_pay12 (k0_pay13 p u)) (k0_pay17 (k0_pay11 p u) k0_pay12) (upW has q p u b) = (truncf .bf16 (extractStridedSlice S128x128 ![256, 0] (out1 (weights (okm has) q (place (keys p u) 0) (place (keys p u) 1) (place (keys p u) 2) (place (keys p u) 3) b) (place (vals p u) 2) (place (vals p u) 3)) slices_S512x128_o256_0_S128x128) bitsLt_bf16_f32 : FVec Ideal S128x128 .bf16) := by
  show (truncf .bf16 (extractStridedSlice S128x128 ![256, 0] (out1 (k0_pay53 (upW has q p u b)) (place (vals p u) 2) (place (vals p u) 3)) slices_S512x128_o256_0_S128x128) bitsLt_bf16_f32 : FVec Ideal S128x128 .bf16) = _
  rw [upper_weights]

theorem upper_tile13 (has : BitVec 1) (q : Q) (p u : KV) (b : Fin 16 → FVec Ideal S1x1 .f32) :
    k0_pay63 (k0_pay16 k0_pay12 (k0_pay13 p u)) (k0_pay17 (k0_pay11 p u) k0_pay12) (upW has q p u b) = (truncf .bf16 (extractStridedSlice S128x128 ![384, 0] (out1 (weights (okm has) q (place (keys p u) 0) (place (keys p u) 1) (place (keys p u) 2) (place (keys p u) 3) b) (place (vals p u) 2) (place (vals p u) 3)) slices_S512x128_o384_0_S128x128) bitsLt_bf16_f32 : FVec Ideal S128x128 .bf16) := by
  show (truncf .bf16 (extractStridedSlice S128x128 ![384, 0] (out1 (k0_pay53 (upW has q p u b)) (place (vals p u) 2) (place (vals p u) 3)) slices_S512x128_o384_0_S128x128) bitsLt_bf16_f32 : FVec Ideal S128x128 .bf16) = _
  rw [upper_weights]

def low117 (q : Q) (p u : KV) (b : Fin 16 → FVec Ideal S1x1 .f32) : FVec Ideal S512x128 .f32 :=
  k0_pay117 (k0_pay74 p u) (k0_pay75 p u) k0_pay80 (k0_pay83 q (k0_pay67 p u)) (k0_pay84 (b 0)) (k0_pay85 q (k0_pay67 p u)) (k0_pay86 (b 2)) (k0_pay87 q (k0_pay67 p u)) (k0_pay88 (b 4)) (k0_pay89 q (k0_pay67 p u)) (k0_pay91 (k0_pay90 (b 6))) (k0_pay93 (k0_pay68 p u) k0_pay80 (k0_pay81 q)) (k0_pay94 (b 1)) (k0_pay95 (k0_pay68 p u) k0_pay80 (k0_pay81 q)) (k0_pay96 (b 3)) (k0_pay97 (k0_pay68 p u) k0_pay80 (k0_pay81 q)) (k0_pay98 (b 5)) (k0_pay99 (k0_pay68 p u) k0_pay80 (k0_pay81 q)) (k0_pay100 (b 7)) (k0_pay103 (k0_pay69 p u) (k0_pay79 q) k0_pay80) (k0_pay104 (b 8)) (k0_pay105 k0_pay80 (k0_pay102 (k0_pay69 p u) (k0_pay79 q))) (k0_pay106 (b 10)) (k0_pay107 k0_pay80 (k0_pay102 (k0_pay69 p u) (k0_pay79 q))) (k0_pay108 (b 12)) (k0_pay109 k0_pay80 (k0_pay102 (k0_pay69 p u) (k0_pay79 q))) (k0_pay110 (b 14)) (k0_pay111 (k0_pay70 p u) (k0_pay101 (k0_pay79 q))) (k0_pay112 (k0_pay70 p u) k0_pay80 (k0_pay101 (k0_pay79 q))) (k0_pay113 (b 9)) (k0_pay114 (k0_pay70 p u) k0_pay80 (k0_pay101 (k0_pay79 q))) (k0_pay115 (b 11)) (b 13) (b 15)

def low118 (q : Q) (p u : KV) (b : Fin 16 → FVec Ideal S1x1 .f32) : FVec Ideal S128x128 .f32 :=
  k0_pay118 (k0_pay74 p u) (k0_pay75 p u) k0_pay80 (k0_pay83 q (k0_pay67 p u)) (k0_pay84 (b 0)) (k0_pay85 q (k0_pay67 p u)) (k0_pay86 (b 2)) (k0_pay87 q (k0_pay67 p u)) (k0_pay88 (b 4)) (k0_pay89 q (k0_pay67 p u)) (k0_pay91 (k0_pay90 (b 6))) (k0_pay93 (k0_pay68 p u) k0_pay80 (k0_pay81 q)) (k0_pay94 (b 1)) (k0_pay95 (k0_pay68 p u) k0_pay80 (k0_pay81 q)) (k0_pay96 (b 3)) (k0_pay97 (k0_pay68 p u) k0_pay80 (k0_pay81 q)) (k0_pay98 (b 5)) (k0_pay99 (k0_pay68 p u) k0_pay80 (k0_pay81 q)) (k0_pay100 (b 7)) (k0_pay103 (k0_pay69 p u) (k0_pay79 q) k0_pay80) (k0_pay104 (b 8)) (k0_pay105 k0_pay80 (k0_pay102 (k0_pay69 p u) (k0_pay79 q))) (k0_pay106 (b 10)) (k0_pay107 k0_pay80 (k0_pay102 (k0_pay69 p u) (k0_pay79 q))) (k0_pay108 (b 12)) (k0_pay109 k0_pay80 (k0_pay102 (k0_pay69 p u) (k0_pay79 q))) (k0_pay110 (b 14)) (k0_pay111 (k0_pay70 p u) (k0_pay101 (k0_pay79 q))) (k0_pay112 (k0_pay70 p u) k0_pay80 (k0_pay101 (k0_pay79 q))) (k0_pay113 (b 9)) (k0_pay114 (k0_pay70 p u) k0_pay80 (k0_pay101 (k0_pay79 q))) (k0_pay115 (b 11)) (b 13) (b 15)

theorem lower_tile00 (q : Q) (p u : KV) (b : Fin 16 → FVec Ideal S1x1 .f32) :
    k0_pay119 (low118 q p u b) = (truncf .bf16 (extractStridedSlice S128x128 ![0, 0] (out0 (weights (okm 1#1) q (place (keys p u) 0) (place (keys p u) 1) (place (keys p u) 2) (place (keys p u) 3) b) (place (vals p u) 0) (place (vals p u) 1)) slices_S512x128_o0_0_S128x128) bitsLt_bf16_f32 : FVec Ideal S128x128 .bf16) := by
  show (truncf .bf16 (extractStridedSlice S128x128 ![0, 0] (out0 (lowW q p u b) (place (vals p u) 0) (place (vals p u) 1)) slices_S512x128_o0_0_S128x128) bitsLt_bf16_f32 : FVec Ideal S128x128 .bf16) = _
  rw [lower_weights]

theorem lower_tile01 (q : Q) (p u : KV) (b : Fin 16 → FVec Ideal S1x1 .f32) :
    k0_pay120 (low117 q p u b) = (truncf .bf16 (extractStridedSlice S128x128 ![128, 0] (out0 (weights (okm 1#1) q (place (keys p u) 0) (place (keys p u) 1) (place (keys p u) 2) (place (keys p u) 3) b) (place (vals p u) 0) (place (vals p u) 1)) slices_S512x128_o128_0_S128x128) bitsLt_bf16_f32 : FVec Ideal S128x128 .bf16) := by
  show (truncf .bf16 (extractStridedSlice S128x128 ![128, 0] (out0 (lowW q p u b) (place (vals p u) 0) (place (vals p u) 1)) slices_S512x128_o128_0_S128x128) bitsLt_bf16_f32 : FVec Ideal S128x128 .bf16) = _
  rw [lower_weights]

theorem lower_tile02 (q : Q) (p u : KV) (b : Fin 16 → FVec Ideal S1x1 .f32) :
    k0_pay121 (low117 q p u b) = (truncf .bf16 (extractStridedSlice S128x128 ![256, 0] (out0 (weights (okm 1#1) q (place (keys p u) 0) (place (keys p u) 1) (place (keys p u) 2) (place (keys p u) 3) b) (place (vals p u) 0) (place (vals p u) 1)) slices_S512x128_o256_0_S128x128) bitsLt_bf16_f32 : FVec Ideal S128x128 .bf16) := by
  show (truncf .bf16 (extractStridedSlice S128x128 ![256, 0] (out0 (lowW q p u b) (place (vals p u) 0) (place (vals p u) 1)) slices_S512x128_o256_0_S128x128) bitsLt_bf16_f32 : FVec Ideal S128x128 .bf16) = _
  rw [lower_weights]

theorem lower_tile03 (q : Q) (p u : KV) (b : Fin 16 → FVec Ideal S1x1 .f32) :
    k0_pay122 (low117 q p u b) = (truncf .bf16 (extractStridedSlice S128x128 ![384, 0] (out0 (weights (okm 1#1) q (place (keys p u) 0) (place (keys p u) 1) (place (keys p u) 2) (place (keys p u) 3) b) (place (vals p u) 0) (place (vals p u) 1)) slices_S512x128_o384_0_S128x128) bitsLt_bf16_f32 : FVec Ideal S128x128 .bf16) := by
  show (truncf .bf16 (extractStridedSlice S128x128 ![384, 0] (out0 (lowW q p u b) (place (vals p u) 0) (place (vals p u) 1)) slices_S512x128_o384_0_S128x128) bitsLt_bf16_f32 : FVec Ideal S128x128 .bf16) = _
  rw [lower_weights]

theorem lower_tile10 (q : Q) (p u : KV) (b : Fin 16 → FVec Ideal S1x1 .f32) :
    k0_pay124 (k0_pay76 p u) (k0_pay78 (k0_pay71 p u) k0_pay72 k0_pay77) (lowW q p u b) = (truncf .bf16 (extractStridedSlice S128x128 ![0, 0] (out1 (weights (okm 1#1) q (place (keys p u) 0) (place (keys p u) 1) (place (keys p u) 2) (place (keys p u) 3) b) (place (vals p u) 2) (place (vals p u) 3)) slices_S512x128_o0_0_S128x128) bitsLt_bf16_f32 : FVec Ideal S128x128 .bf16) := by
  show (truncf .bf16 (extractStridedSlice S128x128 ![0, 0] (out1 (lowW q p u b) (place (vals p u) 2) (place (vals p u) 3)) slices_S512x128_o0_0_S128x128) bitsLt_bf16_f32 : FVec Ideal S128x128 .bf16) = _
  rw [lower_weights]

theorem lower_tile11 (q : Q) (p u : KV) (b : Fin 16 → FVec Ideal S1x1 .f32) :
    k0_pay125 (k0_pay76 p u) (k0_pay78 (k0_pay71 p u) k0_pay72 k0_pay77) (lowW q p u b) = (truncf .bf16 (extractStridedSlice S128x128 ![128, 0] (out1 (weights (okm 1#1) q (place (keys p u) 0) (place (keys p u) 1) (place (keys p u) 2) (place (keys p u) 3) b) (place (vals p u) 2) (place (vals p u) 3)) slices_S512x128_o128_0_S128x128) bitsLt_bf16_f32 : FVec Ideal S128x128 .bf16) := by
  show (truncf .bf16 (extractStridedSlice S128x128 ![128, 0] (out1 (lowW q p u b) (place (vals p u) 2) (place (vals p u) 3)) slices_S512x128_o128_0_S128x128) bitsLt_bf16_f32 : FVec Ideal S128x128 .bf16) = _
  rw [lower_weights]

theorem lower_tile12 (q : Q) (p u : KV) (b : Fin 16 → FVec Ideal S1x1 .f32) :
    k0_pay126 (k0_pay76 p u) (k0_pay78 (k0_pay71 p u) k0_pay72 k0_pay77) (lowW q p u b) = (truncf .bf16 (extractStridedSlice S128x128 ![256, 0] (out1 (weights (okm 1#1) q (place (keys p u) 0) (place (keys p u) 1) (place (keys p u) 2) (place (keys p u) 3) b) (place (vals p u) 2) (place (vals p u) 3)) slices_S512x128_o256_0_S128x128) bitsLt_bf16_f32 : FVec Ideal S128x128 .bf16) := by
  show (truncf .bf16 (extractStridedSlice S128x128 ![256, 0] (out1 (lowW q p u b) (place (vals p u) 2) (place (vals p u) 3)) slices_S512x128_o256_0_S128x128) bitsLt_bf16_f32 : FVec Ideal S128x128 .bf16) = _
  rw [lower_weights]

theorem lower_tile13 (q : Q) (p u : KV) (b : Fin 16 → FVec Ideal S1x1 .f32) :
    k0_pay127 (k0_pay76 p u) (k0_pay78 (k0_pay71 p u) k0_pay72 k0_pay77) (lowW q p u b) = (truncf .bf16 (extractStridedSlice S128x128 ![384, 0] (out1 (weights (okm 1#1) q (place (keys p u) 0) (place (keys p u) 1) (place (keys p u) 2) (place (keys p u) 3) b) (place (vals p u) 2) (place (vals p u) 3)) slices_S512x128_o384_0_S128x128) bitsLt_bf16_f32 : FVec Ideal S128x128 .bf16) := by
  show (truncf .bf16 (extractStridedSlice S128x128 ![384, 0] (out1 (lowW q p u b) (place (vals p u) 2) (place (vals p u) 3)) slices_S512x128_o384_0_S128x128) bitsLt_bf16_f32 : FVec Ideal S128x128 .bf16) = _
  rw [lower_weights]

end Cert.KernelIdeal.Block

end
-- ==== Proof.AttnArr.lean ====
/- The attention kernel's first result array: every stored tile is a tile of the attended rows. -/
module

public import proofs.«01_k».proof.Proof.AttnValue
public import proofs.«01_k».proof.Proof.AttnFit

@[expose] public section

set_option maxRecDepth 16384

noncomputable section

open Idealize.ShloMosaic Idealize.ShloMosaic.TcCoe

namespace Cert.KernelIdeal.Block

open Cert.KernelIdeal Cert.KernelIdeal.Gen Cert.AttnSpec

variable (m : (ℓ : Loc nD τ sig) → Buf (Elt Ideal) ℓ) (c : Dev nD)

/-- The attended rows. -/
def attended : FVec Ideal S32768x1024 .bf16 := fun j => cell (nat2 (zAll m c)) (nat1 (sinks16 m c)) (j 0).val (j 1).val

abbrev hasPrev (t : Fin cfg0.N) : BitVec 1 := Scalar.cmpi CmpIPredicate.sgt (BitVec.ofNat 32 (grid0.coords t 1).val) 0#32

theorem hasPrev_iff (t : Fin cfg0.N) : hasPrev t = 1 ↔ 0 < 256 * t.val % 2048 / 128 := by
  unfold hasPrev
  rw [(idx t).2.2.2.2.2.2.2.2.2.1]
  exact (by decide +kernel : ∀ t : Fin 128, Scalar.cmpi CmpIPredicate.sgt (BitVec.ofNat 32 (t.val % 8)) 0#32 = 1 ↔ 0 < 256 * t.val % 2048 / 128) t

abbrev qU (t : Fin cfg0.N) : Q := View.ld (Val := Elt Ideal) (e' := .f32) (S := S256x1024) (X0_0 m c t) (Rect.unit ![0, 0] ![128, 1024] inb_S256x1024_S128x1024_0_0)
abbrev qL (t : Fin cfg0.N) : Q := View.ld (Val := Elt Ideal) (e' := .f32) (S := S256x1024) (X0_0 m c t) (Rect.unit ![128, 0] ![128, 1024] inb_S256x1024_S128x1024_128_0)
abbrev kvU (t : Fin cfg0.N) : KV := View.ld (Val := Elt Ideal) (e' := .f32) (S := S256x256) (iblk m c 1 t) (Rect.unit ![0, 0] ![128, 256] inb_S256x256_S128x256_0_0)
abbrev kvL (t : Fin cfg0.N) : KV := View.ld (Val := Elt Ideal) (e' := .f32) (S := S256x256) (iblk m c 1 t) (Rect.unit ![128, 0] ![128, 256] inb_S256x256_S128x256_128_0)
abbrev kvP (t : Fin cfg0.N) : KV := iblk m c 2 t

theorem upper_cell (t : Fin cfg0.N) (h : Fin 16) (a : Fin 128) (cc : Fin 64) (R C : ℕ) (hR : R = 256 * t.val + a.val) (hC : C = 64 * h.val + cc.val) :
    blockOut (okm (hasPrev t)) (qU m c t) (keys (kvP m c t) (kvU m c t)) (vals (kvP m c t) (kvU m c t)) (sinkAt m c t) h a cc
      = cell (nat2 (zAll m c)) (nat1 (sinks16 m c)) R C := by
  refine block_cell _ _ _ _ _ _ _ (256 * t.val) (by omega) (hasPrev_iff t) (fun a l => ?_) (fun hh a l => ?_) (fun a l => ?_) (sinkAt_val m c t) h a cc R C hR hC
  · exact (ld_at (M := 256) (N := 1024) (X0_0 m c t) 0 0 _ a l ⟨a.val, by omega⟩ l (by show a.val = 0 + a.val; omega) (by omega)).trans (blkQ m c t _ _)
  · refine (blkP m c t a l).trans ?_
    have := (hasPrev_iff t).mp hh
    congr 1
    omega
  · exact (ld_at (M := 256) (N := 256) (iblk m c 1 t) 0 0 _ a l ⟨a.val, by omega⟩ l (by show a.val = 0 + a.val; omega) (by omega)).trans (blkK m c t _ _)

theorem lower_cell (t : Fin cfg0.N) (h : Fin 16) (a : Fin 128) (cc : Fin 64) (R C : ℕ) (hR : R = 256 * t.val + 128 + a.val) (hC : C = 64 * h.val + cc.val) :
    blockOut (okm 1#1) (qL m c t) (keys (kvU m c t) (kvL m c t)) (vals (kvU m c t) (kvL m c t)) (sinkAt m c t) h a cc
      = cell (nat2 (zAll m c)) (nat1 (sinks16 m c)) R C := by
  refine block_cell _ _ _ _ _ _ _ (256 * t.val + 128) (by omega) ⟨fun _ => by omega, fun _ => rfl⟩ (fun a l => ?_) (fun hh a l => ?_) (fun a l => ?_) (sinkAt_val m c t) h a cc R C hR hC
  · refine (ld_at (M := 256) (N := 1024) (X0_0 m c t) 128 0 _ a l ⟨128 + a.val, by omega⟩ l rfl (by omega)).trans ((blkQ m c t _ _).trans ?_)
    congr 1
    show 256 * t.val + (128 + a.val) = _
    omega
  · refine (ld_at (M := 256) (N := 256) (iblk m c 1 t) 0 0 _ a l ⟨a.val, by omega⟩ l (by show a.val = 0 + a.val; omega) (by omega)).trans ((blkK m c t _ _).trans ?_)
    congr 1
    show 256 * t.val + a.val = _
    omega
  · refine (ld_at (M := 256) (N := 256) (iblk m c 1 t) 128 0 _ a l ⟨128 + a.val, by omega⟩ l rfl (by omega)).trans ((blkK m c t _ _).trans ?_)
    congr 1
    show 256 * t.val + (128 + a.val) = _
    omega

theorem rows_arr : (dats m 0 c).arrAt 5 cfg0.N = attended m c := by
  refine (dats m 0 c).arrAt_eq_of_covers 5 _ (by decide +kernel) fun t _ y => ?_
  have hX : attended m c (((View.whole main_v3_0).slice (win0_5.rect t)).emb y) = cell (nat2 (zAll m c)) (nat1 (sinks16 m c)) (256 * t.val + (y 0).val) (y 1).val := by
    unfold attended
    congr 1
    · blk_simp [idx t]
      omega
    · blk_simp [idx t]
  refine Eq.trans ?_ hX.symm
  clear hX
  blk_simp
  rw [after0_5]
  unfold outsAt0
  dsimp only
  frame_out
  canon_tiles x h
  · refine (congrFun (lower_tile13 (qL m c t) (kvU m c t) (kvL m c t) (sinkAt m c t)) x).trans ((piece13 (okm 1#1) (qL m c t) (keys (kvU m c t) (kvL m c t)) (vals (kvU m c t) (kvL m c t)) (sinkAt m c t) x ⟨14 + (x 1).val / 64, by omega⟩ rfl ⟨(x 1).val % 64, by omega⟩ rfl ⟨(x 0).val, by omega⟩ rfl).trans (lower_cell m c t _ _ _ _ _ ?_ ?_))
    · show _ = _ + (x 0).val
      omega
    · show _ = 64 * (14 + (x 1).val / 64) + (x 1).val % 64
      omega
  · refine (congrFun (lower_tile12 (qL m c t) (kvU m c t) (kvL m c t) (sinkAt m c t)) x).trans ((piece12 (okm 1#1) (qL m c t) (keys (kvU m c t) (kvL m c t)) (vals (kvU m c t) (kvL m c t)) (sinkAt m c t) x ⟨12 + (x 1).val / 64, by omega⟩ rfl ⟨(x 1).val % 64, by omega⟩ rfl ⟨(x 0).val, by omega⟩ rfl).trans (lower_cell m c t _ _ _ _ _ ?_ ?_))
    · show _ = _ + (x 0).val
      omega
    · show _ = 64 * (12 + (x 1).val / 64) + (x 1).val % 64
      omega
  · refine (congrFun (lower_tile11 (qL m c t) (kvU m c t) (kvL m c t) (sinkAt m c t)) x).trans ((piece11 (okm 1#1) (qL m c t) (keys (kvU m c t) (kvL m c t)) (vals (kvU m c t) (kvL m c t)) (sinkAt m c t) x ⟨10 + (x 1).val / 64, by omega⟩ rfl ⟨(x 1).val % 64, by omega⟩ rfl ⟨(x 0).val, by omega⟩ rfl).trans (lower_cell m c t _ _ _ _ _ ?_ ?_))
    · show _ = _ + (x 0).val
      omega
    · show _ = 64 * (10 + (x 1).val / 64) + (x 1).val % 64
      omega
  · refine (congrFun (lower_tile10 (qL m c t) (kvU m c t) (kvL m c t) (sinkAt m c t)) x).trans ((piece10 (okm 1#1) (qL m c t) (keys (kvU m c t) (kvL m c t)) (vals (kvU m c t) (kvL m c t)) (sinkAt m c t) x ⟨8 + (x 1).val / 64, by omega⟩ rfl ⟨(x 1).val % 64, by omega⟩ rfl ⟨(x 0).val, by omega⟩ rfl).trans (lower_cell m c t _ _ _ _ _ ?_ ?_))
    · show _ = _ + (x 0).val
      omega
    · show _ = 64 * (8 + (x 1).val / 64) + (x 1).val % 64
      omega
  · refine (congrFun (lower_tile03 (qL m c t) (kvU m c t) (kvL m c t) (sinkAt m c t)) x).trans ((piece03 (okm 1#1) (qL m c t) (keys (kvU m c t) (kvL m c t)) (vals (kvU m c t) (kvL m c t)) (sinkAt m c t) x ⟨6 + (x 1).val / 64, by omega⟩ rfl ⟨(x 1).val % 64, by omega⟩ rfl ⟨(x 0).val, by omega⟩ rfl).trans (lower_cell m c t _ _ _ _ _ ?_ ?_))
    · show _ = _ + (x 0).val
      omega
    · show _ = 64 * (6 + (x 1).val / 64) + (x 1).val % 64
      omega
  · refine (congrFun (lower_tile02 (qL m c t) (kvU m c t) (kvL m c t) (sinkAt m c t)) x).trans ((piece02 (okm 1#1) (qL m c t) (keys (kvU m c t) (kvL m c t)) (vals (kvU m c t) (kvL m c t)) (sinkAt m c t) x ⟨4 + (x 1).val / 64, by omega⟩ rfl ⟨(x 1).val % 64, by omega⟩ rfl ⟨(x 0).val, by omega⟩ rfl).trans (lower_cell m c t _ _ _ _ _ ?_ ?_))
    · show _ = _ + (x 0).val
      omega
    · show _ = 64 * (4 + (x 1).val / 64) + (x 1).val % 64
      omega
  · refine (congrFun (lower_tile01 (qL m c t) (kvU m c t) (kvL m c t) (sinkAt m c t)) x).trans ((piece01 (okm 1#1) (qL m c t) (keys (kvU m c t) (kvL m c t)) (vals (kvU m c t) (kvL m c t)) (sinkAt m c t) x ⟨2 + (x 1).val / 64, by omega⟩ rfl ⟨(x 1).val % 64, by omega⟩ rfl ⟨(x 0).val, by omega⟩ rfl).trans (lower_cell m c t _ _ _ _ _ ?_ ?_))
    · show _ = _ + (x 0).val
      omega
    · show _ = 64 * (2 + (x 1).val / 64) + (x 1).val % 64
      omega
  · refine (congrFun (lower_tile00 (qL m c t) (kvU m c t) (kvL m c t) (sinkAt m c t)) x).trans ((piece00 (okm 1#1) (qL m c t) (keys (kvU m c t) (kvL m c t)) (vals (kvU m c t) (kvL m c t)) (sinkAt m c t) x ⟨0 + (x 1).val / 64, by omega⟩ rfl ⟨(x 1).val % 64, by omega⟩ rfl ⟨(x 0).val, by omega⟩ rfl).trans (lower_cell m c t _ _ _ _ _ ?_ ?_))
    · show _ = _ + (x 0).val
      omega
    · show _ = 64 * (0 + (x 1).val / 64) + (x 1).val % 64
      omega
  · refine (congrFun (upper_tile13 (hasPrev t) (qU m c t) (kvP m c t) (kvU m c t) (sinkAt m c t)) x).trans ((piece13 (okm (hasPrev t)) (qU m c t) (keys (kvP m c t) (kvU m c t)) (vals (kvP m c t) (kvU m c t)) (sinkAt m c t) x ⟨14 + (x 1).val / 64, by omega⟩ rfl ⟨(x 1).val % 64, by omega⟩ rfl ⟨(x 0).val, by omega⟩ rfl).trans (upper_cell m c t _ _ _ _ _ ?_ ?_))
    · show _ = _ + (x 0).val
      omega
    · show _ = 64 * (14 + (x 1).val / 64) + (x 1).val % 64
      omega
  · refine (congrFun (upper_tile12 (hasPrev t) (qU m c t) (kvP m c t) (kvU m c t) (sinkAt m c t)) x).trans ((piece12 (okm (hasPrev t)) (qU m c t) (keys (kvP m c t) (kvU m c t)) (vals (kvP m c t) (kvU m c t)) (sinkAt m c t) x ⟨12 + (x 1).val / 64, by omega⟩ rfl ⟨(x 1).val % 64, by omega⟩ rfl ⟨(x 0).val, by omega⟩ rfl).trans (upper_cell m c t _ _ _ _ _ ?_ ?_))
    · show _ = _ + (x 0).val
      omega
    · show _ = 64 * (12 + (x 1).val / 64) + (x 1).val % 64
      omega
  · refine (congrFun (upper_tile11 (hasPrev t) (qU m c t) (kvP m c t) (kvU m c t) (sinkAt m c t)) x).trans ((piece11 (okm (hasPrev t)) (qU m c t) (keys (kvP m c t) (kvU m c t)) (vals (kvP m c t) (kvU m c t)) (sinkAt m c t) x ⟨10 + (x 1).val / 64, by omega⟩ rfl ⟨(x 1).val % 64, by omega⟩ rfl ⟨(x 0).val, by omega⟩ rfl).trans (upper_cell m c t _ _ _ _ _ ?_ ?_))
    · show _ = _ + (x 0).val
      omega
    · show _ = 64 * (10 + (x 1).val / 64) + (x 1).val % 64
      omega
  · refine (congrFun (upper_tile10 (hasPrev t) (qU m c t) (kvP m c t) (kvU m c t) (sinkAt m c t)) x).trans ((piece10 (okm (hasPrev t)) (qU m c t) (keys (kvP m c t) (kvU m c t)) (vals (kvP m c t) (kvU m c t)) (sinkAt m c t) x ⟨8 + (x 1).val / 64, by omega⟩ rfl ⟨(x 1).val % 64, by omega⟩ rfl ⟨(x 0).val, by omega⟩ rfl).trans (upper_cell m c t _ _ _ _ _ ?_ ?_))
    · show _ = _ + (x 0).val
      omega
    · show _ = 64 * (8 + (x 1).val / 64) + (x 1).val % 64
      omega
  · refine (congrFun (upper_tile03 (hasPrev t) (qU m c t) (kvP m c t) (kvU m c t) (sinkAt m c t)) x).trans ((piece03 (okm (hasPrev t)) (qU m c t) (keys (kvP m c t) (kvU m c t)) (vals (kvP m c t) (kvU m c t)) (sinkAt m c t) x ⟨6 + (x 1).val / 64, by omega⟩ rfl ⟨(x 1).val % 64, by omega⟩ rfl ⟨(x 0).val, by omega⟩ rfl).trans (upper_cell m c t _ _ _ _ _ ?_ ?_))
    · show _ = _ + (x 0).val
      omega
    · show _ = 64 * (6 + (x 1).val / 64) + (x 1).val % 64
      omega
  · refine (congrFun (upper_tile02 (hasPrev t) (qU m c t) (kvP m c t) (kvU m c t) (sinkAt m c t)) x).trans ((piece02 (okm (hasPrev t)) (qU m c t) (keys (kvP m c t) (kvU m c t)) (vals (kvP m c t) (kvU m c t)) (sinkAt m c t) x ⟨4 + (x 1).val / 64, by omega⟩ rfl ⟨(x 1).val % 64, by omega⟩ rfl ⟨(x 0).val, by omega⟩ rfl).trans (upper_cell m c t _ _ _ _ _ ?_ ?_))
    · show _ = _ + (x 0).val
      omega
    · show _ = 64 * (4 + (x 1).val / 64) + (x 1).val % 64
      omega
  · refine (congrFun (upper_tile01 (hasPrev t) (qU m c t) (kvP m c t) (kvU m c t) (sinkAt m c t)) x).trans ((piece01 (okm (hasPrev t)) (qU m c t) (keys (kvP m c t) (kvU m c t)) (vals (kvP m c t) (kvU m c t)) (sinkAt m c t) x ⟨2 + (x 1).val / 64, by omega⟩ rfl ⟨(x 1).val % 64, by omega⟩ rfl ⟨(x 0).val, by omega⟩ rfl).trans (upper_cell m c t _ _ _ _ _ ?_ ?_))
    · show _ = _ + (x 0).val
      omega
    · show _ = 64 * (2 + (x 1).val / 64) + (x 1).val % 64
      omega
  · refine (congrFun (upper_tile00 (hasPrev t) (qU m c t) (kvP m c t) (kvU m c t) (sinkAt m c t)) x).trans ((piece00 (okm (hasPrev t)) (qU m c t) (keys (kvP m c t) (kvU m c t)) (vals (kvP m c t) (kvU m c t)) (sinkAt m c t) x ⟨0 + (x 1).val / 64, by omega⟩ rfl ⟨(x 1).val % 64, by omega⟩ rfl ⟨(x 0).val, by omega⟩ rfl).trans (upper_cell m c t _ _ _ _ _ ?_ ?_))
    · show _ = _ + (x 0).val
      omega
    · show _ = 64 * (0 + (x 1).val / 64) + (x 1).val % 64
      omega

end Cert.KernelIdeal.Block

end
-- ==== Proof.AttnRest.lean ====
/- The attention kernel's other result arrays: the last keys and values of each sequence, and the cast weights. -/
module

public import proofs.«01_k».proof.Proof.AttnValue

@[expose] public section

set_option maxRecDepth 16384

noncomputable section

open Idealize.ShloMosaic Idealize.ShloMosaic.TcCoe

namespace Cert.KernelIdeal.Block

open Cert.KernelIdeal Cert.KernelIdeal.Gen Cert.AttnSpec

variable (m : (ℓ : Loc nD τ sig) → Buf (Elt Ideal) ℓ) (c : Dev nD)

/-- The last 128 rows of each sequence, from column `o`. -/
def lastRows (z : FVec Ideal S33792x8704 .f32) (o : ℕ) : FVec Ideal S16x128x128 .f32 :=
  fun j => nat2 z (2048 * (j 0).val + 1920 + (j 1).val) (o + (j 2).val)

theorem last_at (t : Fin cfg0.N) (o : ℕ) (h) (a l : Fin 128) (R C : ℕ) (hR : R = 256 * t.val + 128 + a.val) (hC : C = 8192 + o + l.val) (ho : o + l.val < 256) :
    View.ld (Val := Elt Ideal) (e' := .f32) (S := S256x256) (iblk m c 1 t) (Rect.unit ![128, o] ![128, 128] h) (ix2 a l) = nat2 (zAll m c) R C := by
  refine (ld_at (M := 256) (N := 256) (iblk m c 1 t) 128 o _ a l ⟨128 + a.val, by omega⟩ ⟨o + l.val, ho⟩ rfl rfl).trans ((blkK m c t _ _).trans ?_)
  subst hR hC
  congr 1
  · show 256 * t.val + (128 + a.val) = _
    omega
  · show 8192 + (o + l.val) = _
    omega

theorem pay1_at (v : Vec Ideal S128x128 .f32) (x : S1x128x128.Idx) (a l : Fin 128) (ha : a.val = (x 1).val) (hl : l.val = (x 2).val) :
    k0_pay1 v x = v (ix2 a l) := by
  unfold k0_pay1
  obtain rfl : a = x 1 := Fin.ext ha
  obtain rfl : l = x 2 := Fin.ext hl
  pointwise

theorem pay2_at (v : Vec Ideal S128x128 .f32) (x : S1x128x128.Idx) (a l : Fin 128) (ha : a.val = (x 1).val) (hl : l.val = (x 2).val) :
    k0_pay2 v x = v (ix2 a l) := pay1_at v x a l ha hl

theorem keys_arr : (dats m 0 c).arrAt 6 cfg0.N = lastRows (zAll m c) 8192 := by
  refine (dats m 0 c).arrAt_eq_of_covers 6 _ (by decide +kernel) fun t hf y => ?_
  have hX : lastRows (zAll m c) 8192 (((View.whole main_v3_1).slice (win0_6.rect t)).emb y) = nat2 (zAll m c) (256 * t.val + 128 + (y 1).val) (8192 + (y 2).val) := by
    have hm := t.isLt
    have e : t.val % 8 = 7 := by have h0 := hf; simpa [idx t] using h0
    unfold lastRows
    congr 1
    · blk_simp [idx t]
      omega
    · blk_simp [idx t]
  refine Eq.trans ?_ hX.symm
  clear hX
  blk_simp
  rw [after0_6]
  unfold outsAt0
  dsimp only
  frame_out
  have h2 : (y 2).val < 128 := (y 2).isLt
  exact (pay1_at _ y ⟨(y 1).val, (y 1).isLt⟩ ⟨(y 2).val, h2⟩ rfl rfl).trans (last_at m c t 0 _ _ _ _ _ rfl rfl (by show 0 + (y 2).val < 256; omega))

theorem vals_arr : (dats m 0 c).arrAt 7 cfg0.N = lastRows (zAll m c) 8320 := by
  refine (dats m 0 c).arrAt_eq_of_covers 7 _ (by decide +kernel) fun t hf y => ?_
  have hX : lastRows (zAll m c) 8320 (((View.whole main_v3_2).slice (win0_7.rect t)).emb y) = nat2 (zAll m c) (256 * t.val + 128 + (y 1).val) (8320 + (y 2).val) := by
    have hm := t.isLt
    have e : t.val % 8 = 7 := by have h0 := hf; simpa [idx t] using h0
    unfold lastRows
    congr 1
    · blk_simp [idx t]
      omega
    · blk_simp [idx t]
  refine Eq.trans ?_ hX.symm
  clear hX
  blk_simp
  rw [after0_7]
  unfold outsAt0
  dsimp only
  frame_out
  have h2 : (y 2).val < 128 := (y 2).isLt
  exact (pay2_at _ y ⟨(y 1).val, (y 1).isLt⟩ ⟨(y 2).val, h2⟩ rfl rfl).trans (last_at m c t 128 _ _ _ _ _ rfl rfl (by show 128 + (y 2).val < 256; omega))

/-- The cast weights. -/
def castW : FVec Ideal S65536x4096 .bf16 := truncf .bf16 (shapeCast S65536x4096 (wE1 m c) shapeCasts_S32x2048x4096_S65536x4096) bitsLt_bf16_f32

theorem pay3_eq (v : Vec Ideal S512x4096 .f32) : k0_pay3 v = v := by
  unfold k0_pay3
  funext x
  pointwise

theorem cast_arr : (dats m 0 c).arrAt 8 cfg0.N = castW m c := by
  refine (dats m 0 c).arrAt_eq_of_covers 8 _ (by decide +kernel) fun t hf y => ?_
  blk_simp
  rw [after0_8]
  unfold outsAt0
  dsimp only
  frame_out
  rw [pay3_eq]
  unfold iblk
  rw [show V m c (Pipeline.arrRef spec0 4) = castW m c from V2 m c]
  refine congrArg (castW m c) ?_
  blk_ext [idx t]

end Cert.KernelIdeal.Block

end
-- ==== Proof.AttnRef.lean ====
/- The reference of the attention call, stage by stage, read at an index. -/
module

public import proofs.«01_k».proof.Proof.AttnSpec
public import proofs.«01_k».proof.Proof.Gen.ReferenceIdeal.Run

@[expose] public section

set_option maxRecDepth 16384

noncomputable section

open Idealize.ShloMosaic Idealize.ShloMosaic.TcCoe

namespace Cert.ReferenceIdeal.Block

open Cert.ReferenceIdeal Cert.ReferenceIdeal.Gen Cert.AttnSpec

def keysR (z : FVec Ideal S33792x8704 .f32) : FVec Ideal S16x16x128x2x64 .f32 :=
  shapeCast _ (shapeCast _ (extractStridedSlice S32768x128 ![0, 8192] (extractStridedSlice S32768x8704 ![0, 0] z slices_S33792x8704_S32768x8704_0_0) slices_S32768x8704_S32768x128_0_8192) shapeCasts_S32768x128_S16x2048x2x64) shapeCasts_S16x2048x2x64_S16x16x128x2x64

def valsR (z : FVec Ideal S33792x8704 .f32) : FVec Ideal S16x16x128x2x64 .f32 :=
  shapeCast _ (shapeCast _ (extractStridedSlice S32768x128 ![0, 8320] (extractStridedSlice S32768x8704 ![0, 0] z slices_S33792x8704_S32768x8704_0_0) slices_S32768x8704_S32768x128_0_8320) shapeCasts_S32768x128_S16x2048x2x64) shapeCasts_S16x2048x2x64_S16x16x128x2x64

def queryR (z : FVec Ideal S33792x8704 .f32) : FVec Ideal S16x16x128x2x8x64 .f32 :=
  shapeCast _ (shapeCast _ (extractStridedSlice S32768x1024 ![0, 4096] (extractStridedSlice S32768x8704 ![0, 0] z slices_S33792x8704_S32768x8704_0_0) slices_S32768x8704_S32768x1024_0_4096) shapeCasts_S32768x1024_S16x2048x16x64) shapeCasts_S16x2048x16x64_S16x16x128x2x8x64

/-- The block before and the block itself. -/
def bothR (x : FVec Ideal S16x16x128x2x64 .f32) : FVec Ideal S16x16x256x2x64 .f32 :=
  concatenate S16x16x256x2x64 2 [⟨S16x16x128x2x64, (extractStridedSlice S16x16x128x2x64 ![0, 0, 0, 0, 0] (pad S16x17x128x2x64 ![0, 1, 0, 0, 0] ![0, 0, 0, 0, 0] ![0, 0, 0, 0, 0] x (sitofp .f32 (constantI S_ 32 0#32)) pads_S16x16x128x2x64_S16x17x128x2x64_000_100_000_000_000 h_S_) slices_S16x17x128x2x64_S16x16x128x2x64_0_0_0_0_0)⟩, ⟨S16x16x128x2x64, x⟩] concatenates_S16x16x128x2x64_S16x16x128x2x64_S16x16x256x2x64_d2

def sinkR (s : FVec Ideal S16 .f32) : FVec Ideal S16x16x2x8x128x1 .f32 :=
  broadcastInDim S16x16x2x8x128x1 ![0, 1, 2, 3, 4, 5] bcast_S1x1x2x8x1x1_S16x16x2x8x128x1_0_1_2_3_4_5 (broadcastInDim S1x1x2x8x1x1 ![2, 3, 4, 5] bcast_S2x8x1x1_S1x1x2x8x1x1_2_3_4_5 (broadcastInDim S2x8x1x1 ![0, 1] bcast_S2x8_S2x8x1x1_0_1 (shapeCast _ s shapeCasts_S16_S2x8)))

def kposR : IVec S16x128x256 32 :=
  broadcastInDim S16x128x256 ![0, 1, 2] bcast_S16x1x256_S16x128x256_0_1_2 (addi (broadcastInDim S16x1x256 ![0, 1, 2] bcast_S16x1x1_S16x1x256_0_1_2 (subi (muli (broadcastInDim S16x1x1 ![0] bcast_S16_S16x1x1_0 (iotaInDim S16 32 0)) (broadcastInDim S16x1x1 ![] bcast_S_S16x1x1 (constantI S_ 32 128#32))) (broadcastInDim S16x1x1 ![] bcast_S_S16x1x1 (constantI S_ 32 128#32)))) (broadcastInDim S16x1x256 ![0, 1, 2] bcast_S1x1x256_S16x1x256_0_1_2 (broadcastInDim S1x1x256 ![2] bcast_S256_S1x1x256_2 (iotaInDim S256 32 0))))

def qposR : IVec S16x128x1 32 :=
  addi (broadcastInDim S16x128x1 ![0, 1, 2] bcast_S16x1x1_S16x128x1_0_1_2 (muli (broadcastInDim S16x1x1 ![0] bcast_S16_S16x1x1_0 (iotaInDim S16 32 0)) (broadcastInDim S16x1x1 ![] bcast_S_S16x1x1 (constantI S_ 32 128#32)))) (broadcastInDim S16x128x1 ![0, 1, 2] bcast_S1x128x1_S16x128x1_0_1_2 (broadcastInDim S1x128x1 ![1] bcast_S128_S1x128x1_1 (iotaInDim S128 32 0)))

def maskR : IVec S16x128x256 1 :=
  andi (andi (cmpi .sle kposR (broadcastInDim S16x128x256 ![0, 1, 2] bcast_S16x128x1_S16x128x256_0_1_2 qposR)) (cmpi .sgt kposR (broadcastInDim S16x128x256 ![0, 1, 2] bcast_S16x128x1_S16x128x256_0_1_2 (subi qposR (broadcastInDim S16x128x1 ![] bcast_S_S16x128x1 (constantI S_ 32 128#32)))))) (broadcastInDim S16x128x256 ![0, 1, 2] bcast_S16x1x256_S16x128x256_0_1_2 (cmpi .sge (addi (broadcastInDim S16x1x256 ![0, 1, 2] bcast_S16x1x1_S16x1x256_0_1_2 (subi (muli (broadcastInDim S16x1x1 ![0] bcast_S16_S16x1x1_0 (iotaInDim S16 32 0)) (broadcastInDim S16x1x1 ![] bcast_S_S16x1x1 (constantI S_ 32 128#32))) (broadcastInDim S16x1x1 ![] bcast_S_S16x1x1 (constantI S_ 32 128#32)))) (broadcastInDim S16x1x256 ![0, 1, 2] bcast_S1x1x256_S16x1x256_0_1_2 (broadcastInDim S1x1x256 ![2] bcast_S256_S1x1x256_2 (iotaInDim S256 32 0)))) (broadcastInDim S16x1x256 ![] bcast_S_S16x1x256 (constantI S_ 32 0#32))))

def scoreR (z : FVec Ideal S33792x8704 .f32) : FVec Ideal S16x16x2x8x128x256 .f32 :=
  select (broadcastInDim S16x16x2x8x128x256 ![0, 1, 2, 3, 4, 5] bcast_S1x16x1x1x128x256_S16x16x2x8x128x256_0_1_2_3_4_5 (broadcastInDim S1x16x1x1x128x256 ![1, 4, 5] bcast_S16x128x256_S1x16x1x1x128x256_1_4_5 maskR)) (mulf (transpose S16x16x2x8x128x256 [0, 1, 2, 5, 4, 3] (Host.dotGeneral dot_S16x16x256x2x64_S16x16x128x2x8x64_S16x16x2x256x128x8_4_5_2_24_013_013 none (bothR (keysR z)) (queryR z)) transposes_S16x16x2x256x128x8_S16x16x2x8x128x256_0_1_2_5_4_3) (broadcastInDim S16x16x2x8x128x256 ![] bcast_S_S16x16x2x8x128x256 (constant S_ .f32 0x3E000000#32))) (broadcastInDim S16x16x2x8x128x256 ![] bcast_S_S16x16x2x8x128x256 (id (constant S_ .f32 0xFF800000#32)))

def topR (z : FVec Ideal S33792x8704 .f32) (s : FVec Ideal S16 .f32) : FVec Ideal S16x16x2x8x128x1 .f32 :=
  maximumf (broadcastInDim S16x16x2x8x128x1 ![0, 1, 2, 3, 4] bcast_S16x16x2x8x128_S16x16x2x8x128x1_0_1_2_3_4 (Host.reduce FloatOps.maximumf (scoreR z) (constant S_ .f32 0xFF800000#32) reducesTo_S16x16x2x8x128x256_S16x16x2x8x128_d5 h_S_)) (sinkR s)

def weightR (z : FVec Ideal S33792x8704 .f32) (s : FVec Ideal S16 .f32) : FVec Ideal S16x16x2x8x128x256 .f32 :=
  Host.exp (subf (scoreR z) (broadcastInDim S16x16x2x8x128x256 ![0, 1, 2, 3, 4, 5] bcast_S16x16x2x8x128x1_S16x16x2x8x128x256_0_1_2_3_4_5 (topR z s)))

def denomR (z : FVec Ideal S33792x8704 .f32) (s : FVec Ideal S16 .f32) : FVec Ideal S16x16x2x8x128x1 .f32 :=
  addf (broadcastInDim S16x16x2x8x128x1 ![0, 1, 2, 3, 4] bcast_S16x16x2x8x128_S16x16x2x8x128x1_0_1_2_3_4 (Host.reduceAdd (weightR z s) (constant S_ .f32 0x00000000#32) reducesTo_S16x16x2x8x128x256_S16x16x2x8x128_d5 h_S_)) (Host.exp (subf (sinkR s) (topR z s)))

def probR (z : FVec Ideal S33792x8704 .f32) (s : FVec Ideal S16 .f32) : FVec Ideal S16x16x2x8x128x256 .f32 :=
  mulf (weightR z s) (broadcastInDim S16x16x2x8x128x256 ![0, 1, 2, 3, 4, 5] bcast_S16x16x2x8x128x1_S16x16x2x8x128x256_0_1_2_3_4_5 (Host.divf (broadcastInDim S16x16x2x8x128x1 ![] bcast_S_S16x16x2x8x128x1 (constant S_ .f32 0x3F800000#32)) (denomR z s)))

def outR (z : FVec Ideal S33792x8704 .f32) (s : FVec Ideal S16 .f32) : FVec Ideal S16x16x2x64x8x128 .f32 :=
  Host.dotGeneral dot_S16x16x256x2x64_S16x16x2x8x128x256_S16x16x2x64x8x128_2_5_4_34_013_012 none (bothR (valsR z)) (probR z s)

def attR (z : FVec Ideal S33792x8704 .f32) (s : FVec Ideal S16 .f32) : FVec Ideal S32768x1024 .bf16 :=
  truncf .bf16 (shapeCast _ (transpose S16x16x128x2x8x64 [0, 1, 5, 2, 4, 3] (outR z s) transposes_S16x16x2x64x8x128_S16x16x128x2x8x64_0_1_5_2_4_3) shapeCasts_S16x16x128x2x8x64_S32768x1024) bitsLt_bf16_f32

theorem staged (m : (ℓ : Loc nD τ sig) → Buf (Elt Ideal) ℓ) (c : Dev nD) :
    Cert.ReferenceIdeal.Value.res_main_v75 (F := Ideal) m c = attR (m (c.tc.loc main_arg0)) (m (c.tc.loc main_arg1)) := rfl

variable (z : FVec Ideal S33792x8704 .f32) (s : FVec Ideal S16 .f32)

theorem keysR_at (b n : Fin 16) (a : Fin 128) (g : Fin 2) (d : Fin 64) (R C : ℕ) (hR : R = 2048 * b.val + 128 * n.val + a.val) (hC : C = 8192 + (64 * g.val + d.val)) :
    keysR z (ix5 b n a g d) = nat2 z R C := by
  rw [← nat2_val z ⟨2048 * b.val + 128 * n.val + a.val, by omega⟩ ⟨8192 + (64 * g.val + d.val), by omega⟩ _ _ hR.symm hC.symm]
  unfold keysR
  pointwise
  congr 3 <;> omega

theorem valsR_at (b n : Fin 16) (a : Fin 128) (g : Fin 2) (d : Fin 64) (R C : ℕ) (hR : R = 2048 * b.val + 128 * n.val + a.val) (hC : C = 8320 + (64 * g.val + d.val)) :
    valsR z (ix5 b n a g d) = nat2 z R C := by
  rw [← nat2_val z ⟨2048 * b.val + 128 * n.val + a.val, by omega⟩ ⟨8320 + (64 * g.val + d.val), by omega⟩ _ _ hR.symm hC.symm]
  unfold valsR
  pointwise
  congr 3 <;> omega

theorem queryR_at (b n : Fin 16) (a : Fin 128) (g : Fin 2) (u : Fin 8) (d : Fin 64) (R C : ℕ) (hR : R = 2048 * b.val + 128 * n.val + a.val) (hC : C = 4096 + (64 * (8 * g.val + u.val) + d.val)) :
    queryR z (ix6 b n a g u d) = nat2 z R C := by
  rw [← nat2_val z ⟨2048 * b.val + 128 * n.val + a.val, by omega⟩ ⟨4096 + (64 * (8 * g.val + u.val) + d.val), by omega⟩ _ _ hR.symm hC.symm]
  unfold queryR
  pointwise
  congr 3 <;> omega

theorem bothR_at (x : FVec Ideal S16x16x128x2x64 .f32) (b n : Fin 16) (y : Fin 256) (g : Fin 2) (d : Fin 64) :
    bothR x (ix5 b n y g d) = if h : y.val < 128 then (if n.val = 0 then (FloatOps.sitofp FTy.f32 0#32 : Ideal .f32) else x (ix5 b ⟨n.val - 1, by omega⟩ ⟨y.val, h⟩ g d)) else x (ix5 b n ⟨y.val - 128, by omega⟩ g d) := by
  unfold bothR
  pointwise
  by_cases h : y.val < 128
  · rw [dif_pos h, dif_pos h]
    by_cases hn : n.val = 0
    · rw [if_pos hn, dif_neg (by omega)]
    · rw [if_neg hn, dif_pos ⟨⟨by omega, by omega⟩, h⟩]
  · rw [dif_neg h, dif_neg h]

theorem and3 : ∀ p q r : Bool, IntOp.andi (IntOp.andi (BitVec.ofBool p) (BitVec.ofBool q)) (BitVec.ofBool r) = 1#1 ↔ (p = true ∧ q = true ∧ r = true) := by decide

/-- The signed value of a word, by its natural value. -/
theorem toInt_of (x : BitVec 32) (v : ℤ) (h : (x.toNat : ℤ) = v ∨ ((x.toNat : ℤ) = v + 4294967296 ∧ v < 0)) (hv : -2147483648 ≤ v ∧ v < 2147483648) : x.toInt = v := by
  rw [BitVec.toInt_eq_toNat_cond]
  split <;> omega

theorem kpos_int (n : Fin 16) (y : Fin 256) :
    (IntOp.addi (IntOp.subi (IntOp.muli (BitVec.ofNat 32 n.val) 128#32) 128#32) (BitVec.ofNat 32 y.val)).toInt = 128 * (n.val : ℤ) - 128 + y.val := by
  have hn := n.isLt
  have hy := y.isLt
  refine toInt_of _ _ ?_ (by omega)
  unfold IntOp.addi IntOp.subi IntOp.muli
  simp only [BitVec.toNat_add, BitVec.toNat_sub, BitVec.toNat_mul, BitVec.toNat_ofNat]
  omega

theorem qpos_int (n : Fin 16) (a : Fin 128) :
    (IntOp.addi (IntOp.muli (BitVec.ofNat 32 n.val) 128#32) (BitVec.ofNat 32 a.val)).toInt = 128 * (n.val : ℤ) + a.val := by
  have hn := n.isLt
  have ha := a.isLt
  refine toInt_of _ _ ?_ (by omega)
  unfold IntOp.addi IntOp.muli
  simp only [BitVec.toNat_add, BitVec.toNat_mul, BitVec.toNat_ofNat]
  omega

theorem qlow_int (n : Fin 16) (a : Fin 128) :
    (IntOp.subi (IntOp.addi (IntOp.muli (BitVec.ofNat 32 n.val) 128#32) (BitVec.ofNat 32 a.val)) 128#32).toInt = 128 * (n.val : ℤ) + a.val - 128 := by
  have hn := n.isLt
  have ha := a.isLt
  refine toInt_of _ _ ?_ (by omega)
  unfold IntOp.addi IntOp.subi IntOp.muli
  simp only [BitVec.toNat_add, BitVec.toNat_sub, BitVec.toNat_mul, BitVec.toNat_ofNat]
  omega

theorem cmp_le (x y : BitVec 32) : IntOp.cmpi .sle x y = BitVec.ofBool (decide (x.toInt ≤ y.toInt)) := rfl
theorem cmp_gt (x y : BitVec 32) : IntOp.cmpi .sgt x y = BitVec.ofBool (decide (y.toInt < x.toInt)) := rfl
theorem cmp_ge (x y : BitVec 32) : IntOp.cmpi .sge x y = BitVec.ofBool (decide (y.toInt ≤ x.toInt)) := rfl

theorem maskR_at (n : Fin 16) (a : Fin 128) (y : Fin 256) :
    maskR (ix3 n a y) = 1 ↔ y.val ≤ a.val + 128 ∧ a.val < y.val ∧ (0 < n.val ∨ 128 ≤ y.val) := by
  unfold maskR kposR qposR
  pointwise
  rw [cmp_le, cmp_gt, cmp_ge, kpos_int, qpos_int, qlow_int]
  refine (and3 _ _ _).trans ?_
  simp only [decide_eq_true_eq]
  rw [show ((0#32 : BitVec 32).toInt) = 0 from rfl]
  omega

theorem sinkR_at (b n : Fin 16) (g : Fin 2) (u : Fin 8) (a : Fin 128) (o : Fin 1) :
    sinkR s (ix6 b n g u a o) = nat1 s (8 * g.val + u.val) := by
  rw [← nat1_val s ⟨8 * g.val + u.val, by omega⟩ _ rfl]
  unfold sinkR
  pointwise
  congr 3
  omega

theorem ofBits_low : Ideal.ofBits .f32 0xFF800000#32 = (⊥ : EReal) := rfl

/-- The scores of one row of one head. -/
abbrev scoresOf (b n : Fin 16) (g : Fin 2) (u : Fin 8) (a : Fin 128) : Fin 256 → EReal :=
  score (fun d : Fin 64 => queryR z (ix6 b n a g u d)) (fun (y : Fin 256) d => bothR (keysR z) (ix5 b n y g d))
    (fun y => y.val ≤ a.val + 128 ∧ a.val < y.val ∧ (0 < n.val ∨ 128 ≤ y.val))

theorem scoreR_at (b n : Fin 16) (g : Fin 2) (u : Fin 8) (a : Fin 128) (y : Fin 256) :
    scoreR z (ix6 b n g u a y) = scoresOf z b n g u a y := by
  unfold scoresOf score
  rw [if_congr (maskR_at n a y).symm rfl rfl]
  unfold scoreR
  pointwise
  rw [Finset.sum_congr rfl fun d _ => mul_comm (bothR (keysR z) (ix5 b n y g d)) (queryR z (ix6 b n a g u d))]
  rfl

theorem reducesAxis : S16x16x2x8x128x256.Reduces [5] S16x16x2x8x128 := by decide

theorem lift_at (b n : Fin 16) (g : Fin 2) (u : Fin 8) (a : Fin 128) (y : Fin 256) :
    reducesAxis.lift (ix5 b n g u a) y = ix6 b n g u a y := by
  funext k
  refine Fin.ext ((Shape.Reduces.lift_val reducesAxis (ix5 b n g u a) y k).trans ?_)
  fin_cases k <;> rfl

theorem maxR_at (x : FVec Ideal S16x16x2x8x128x256 .f32) (b n : Fin 16) (g : Fin 2) (u : Fin 8) (a : Fin 128) :
    Host.reduce FloatOps.maximumf x (constant S_ .f32 0xFF800000#32) reducesTo_S16x16x2x8x128x256_S16x16x2x8x128_d5 h_S_ (ix5 b n g u a)
      = Finset.univ.fold max (⊥ : EReal) (fun y : Fin 256 => x (ix6 b n g u a y)) := by
  refine (Host.reduce_eq_fold_single _ x _ _ reducesAxis h_S_ _).trans ?_
  rw [show x ∘ reducesAxis.lift (ix5 b n g u a) = fun y : Fin 256 => x (ix6 b n g u a y) from funext fun y => congrArg x (lift_at b n g u a y)]
  rfl

theorem sumR_at (x : FVec Ideal S16x16x2x8x128x256 .f32) (b n : Fin 16) (g : Fin 2) (u : Fin 8) (a : Fin 128) :
    Host.reduceAdd x (constant S_ .f32 0x00000000#32) reducesTo_S16x16x2x8x128x256_S16x16x2x8x128_d5 h_S_ (ix5 b n g u a)
      = ∑ y : Fin 256, x (ix6 b n g u a y) := by
  refine (Ideal.hostReduceAdd_single _ reducesAxis x _ _).trans ?_
  rw [show (constant (F := Ideal) S_ .f32 0x00000000#32) (Shape.Idx.first h_S_) = (0 : EReal) from Ideal.ofBits_zero .f32, zero_add]
  exact Finset.sum_congr rfl fun y _ => congrArg x (lift_at b n g u a y)

theorem lastAxis_at (w : FVec Ideal S16x16x2x8x128 .f32) (b n : Fin 16) (g : Fin 2) (u : Fin 8) (a : Fin 128) (o : Fin 1) :
    broadcastInDim S16x16x2x8x128x1 ![0, 1, 2, 3, 4] bcast_S16x16x2x8x128_S16x16x2x8x128x1_0_1_2_3_4 w (ix6 b n g u a o) = w (ix5 b n g u a) := by
  pointwise

theorem overKeys_at (w : FVec Ideal S16x16x2x8x128x1 .f32) (b n : Fin 16) (g : Fin 2) (u : Fin 8) (a : Fin 128) (y : Fin 256) :
    broadcastInDim S16x16x2x8x128x256 ![0, 1, 2, 3, 4, 5] bcast_S16x16x2x8x128x1_S16x16x2x8x128x256_0_1_2_3_4_5 w (ix6 b n g u a y) = w (ix6 b n g u a 0) := by
  pointwise

theorem maxV_at (w v : FVec Ideal S16x16x2x8x128x1 .f32) (i : S16x16x2x8x128x1.Idx) : maximumf w v i = max (w i : EReal) (v i) := rfl

theorem topV_at (x : FVec Ideal S16x16x2x8x128x256 .f32) (v : FVec Ideal S16x16x2x8x128x1 .f32) (b n : Fin 16) (g : Fin 2) (u : Fin 8) (a : Fin 128) (o : Fin 1) :
    maximumf (broadcastInDim S16x16x2x8x128x1 ![0, 1, 2, 3, 4] bcast_S16x16x2x8x128_S16x16x2x8x128x1_0_1_2_3_4 (Host.reduce FloatOps.maximumf x (constant S_ .f32 0xFF800000#32) reducesTo_S16x16x2x8x128x256_S16x16x2x8x128_d5 h_S_)) v (ix6 b n g u a o)
      = max (Finset.univ.fold max (⊥ : EReal) (fun y : Fin 256 => x (ix6 b n g u a y))) (v (ix6 b n g u a o)) :=
  (maxV_at _ v _).trans (congrArg (fun w : EReal => max w (v (ix6 b n g u a o))) ((lastAxis_at _ b n g u a o).trans (maxR_at x b n g u a)))

theorem topR_at (b n : Fin 16) (g : Fin 2) (u : Fin 8) (a : Fin 128) (o : Fin 1) :
    topR z s (ix6 b n g u a o) = top (scoresOf z b n g u a) (nat1 s (8 * g.val + u.val)) := by
  refine (topV_at (scoreR z) (sinkR s) b n g u a o).trans ?_
  rw [sinkR_at, show (fun y => scoreR z (ix6 b n g u a y)) = scoresOf z b n g u a from funext fun y => scoreR_at z b n g u a y]
  rfl

theorem weightR_at (b n : Fin 16) (g : Fin 2) (u : Fin 8) (a : Fin 128) (y : Fin 256) :
    weightR z s (ix6 b n g u a y) = weight (scoresOf z b n g u a) (nat1 s (8 * g.val + u.val)) y := by
  unfold weight
  rw [← topR_at z s b n g u a 0, ← scoreR_at]
  unfold weightR
  exact congrArg (fun w : EReal => Ideal.exp (scoreR z (ix6 b n g u a y) - w)) (overKeys_at _ b n g u a y)

theorem denomR_at (b n : Fin 16) (g : Fin 2) (u : Fin 8) (a : Fin 128) (o : Fin 1) :
    denomR z s (ix6 b n g u a o) = denom (scoresOf z b n g u a) (nat1 s (8 * g.val + u.val)) := by
  unfold denom
  rw [← (funext fun y => weightR_at z s b n g u a y), ← topR_at z s b n g u a o, ← sinkR_at s b n g u a o, ← sumR_at]
  unfold denomR
  exact congrArg (fun w : EReal => w + Ideal.exp (sinkR s (ix6 b n g u a o) - topR z s (ix6 b n g u a o))) (lastAxis_at _ b n g u a o)

theorem probR_at (b n : Fin 16) (g : Fin 2) (u : Fin 8) (a : Fin 128) (y : Fin 256) :
    probR z s (ix6 b n g u a y) = weight (scoresOf z b n g u a) (nat1 s (8 * g.val + u.val)) y * Ideal.div 1 (denom (scoresOf z b n g u a) (nat1 s (8 * g.val + u.val))) := by
  rw [← weightR_at, ← denomR_at z s b n g u a 0]
  unfold probR
  pointwise

theorem outR_at (b n : Fin 16) (g : Fin 2) (d : Fin 64) (u : Fin 8) (a : Fin 128) :
    outR z s (ix6 b n g d u a) = attn (scoresOf z b n g u a) (nat1 s (8 * g.val + u.val)) (fun y => bothR (valsR z) (ix5 b n y g d)) := by
  unfold attn
  rw [Finset.sum_congr rfl fun y _ => by rw [← probR_at, mul_comm]]
  unfold outR
  pointwise

theorem attR_at (b n : Fin 16) (g : Fin 2) (d : Fin 64) (u : Fin 8) (a : Fin 128) (R : Fin 32768) (C : Fin 1024)
    (hR : R.val = 2048 * b.val + 128 * n.val + a.val) (hC : C.val = 64 * (8 * g.val + u.val) + d.val) :
    attR z s (ix2 R C) = outR z s (ix6 b n g d u a) := by
  unfold attR
  pointwise
  congr 1
  blk_ext
  all_goals trace_state
  all_goals omega

theorem bothR_nat (x : FVec Ideal S16x16x128x2x64 .f32) (f : ℕ → ℕ → EReal) (o : ℕ)
    (hx : ∀ (b n : Fin 16) (a : Fin 128) (g : Fin 2) (d : Fin 64), x (ix5 b n a g d) = f (2048 * b.val + 128 * n.val + a.val) (o + (64 * g.val + d.val)))
    (b n : Fin 16) (y : Fin 256) (g : Fin 2) (d : Fin 64) (hy : 0 < n.val ∨ 128 ≤ y.val) (R C : ℕ) (hR : R = 2048 * b.val + 128 * n.val + y.val - 128) (hC : C = o + (64 * g.val + d.val)) :
    bothR x (ix5 b n y g d) = f R C := by
  subst hR hC
  rw [bothR_at]
  split
  · rename_i h
    rw [if_neg (by omega), hx]
    congr 1
    show 2048 * b.val + 128 * (n.val - 1) + y.val = _
    omega
  · rename_i h
    rw [hx]
    congr 1
    show 2048 * b.val + 128 * n.val + (y.val - 128) = _
    omega

theorem attR_cell (j : S32768x1024.Idx) : attR z s j = cell (nat2 z) (nat1 s) (j 0).val (j 1).val := by
  have hR : (j 0).val < 32768 := (j 0).isLt
  have hC : (j 1).val < 1024 := (j 1).isLt
  rw [show j = ix2 (⟨(j 0).val, hR⟩ : Fin 32768) (⟨(j 1).val, hC⟩ : Fin 1024) from by funext k; fin_cases k <;> rfl]
  generalize (j 0).val = R at hR
  generalize (j 1).val = C at hC
  refine (attR_at z s ⟨R / 2048, by omega⟩ ⟨R % 2048 / 128, by omega⟩ ⟨C / 512, by omega⟩ ⟨C % 64, by omega⟩ ⟨C % 512 / 64, by omega⟩ ⟨R % 128, by omega⟩ ⟨R, hR⟩ ⟨C, hC⟩
    (by show R = 2048 * (R / 2048) + 128 * (R % 2048 / 128) + R % 128; omega) (by show C = 64 * (8 * (C / 512) + C % 512 / 64) + C % 64; omega)).trans ?_
  rw [outR_at]
  unfold scoresOf cell
  refine attn_congr (fun d => ?_) ?_ (fun y => ?_) (fun y hy d => ?_) (fun y hy => ?_)
  · refine queryR_at z _ _ _ _ _ _ _ _ ?_ ?_
    · show R = 2048 * (R / 2048) + 128 * (R % 2048 / 128) + R % 128
      omega
    · show 4096 + (64 * (C / 64) + d.val) = 4096 + (64 * (8 * (C / 512) + C % 512 / 64) + d.val)
      omega
  · show nat1 s (8 * (C / 512) + C % 512 / 64) = nat1 s (C / 64)
    congr 1
    omega
  · rfl
  · refine bothR_nat (keysR z) (nat2 z) 8192 (fun b n a g d => keysR_at z b n a g d _ _ rfl rfl) _ _ y _ d hy.2.2 _ _ ?_ rfl
    show R - R % 128 + y.val - 128 = 2048 * (R / 2048) + 128 * (R % 2048 / 128) + y.val - 128
    omega
  · refine bothR_nat (valsR z) (nat2 z) 8320 (fun b n a g d => valsR_at z b n a g d _ _ rfl rfl) _ _ y _ _ hy.2.2 _ _ ?_ rfl
    show R - R % 128 + y.val - 128 = 2048 * (R / 2048) + 128 * (R % 2048 / 128) + y.val - 128
    omega

/-- The last rows as the reference slices them. -/
def lastK : FVec Ideal S16x128x128 .f32 :=
  shapeCast _ (extractStridedSlice S16x128x2x64 ![0, 1920, 0, 0] (shapeCast _ (extractStridedSlice S32768x128 ![0, 8192] (extractStridedSlice S32768x8704 ![0, 0] z slices_S33792x8704_S32768x8704_0_0) slices_S32768x8704_S32768x128_0_8192) shapeCasts_S32768x128_S16x2048x2x64) slices_S16x2048x2x64_S16x128x2x64_0_1920_0_0) shapeCasts_S16x128x2x64_S16x128x128

def lastV : FVec Ideal S16x128x128 .f32 :=
  shapeCast _ (extractStridedSlice S16x128x2x64 ![0, 1920, 0, 0] (shapeCast _ (extractStridedSlice S32768x128 ![0, 8320] (extractStridedSlice S32768x8704 ![0, 0] z slices_S33792x8704_S32768x8704_0_0) slices_S32768x8704_S32768x128_0_8320) shapeCasts_S32768x128_S16x2048x2x64) slices_S16x2048x2x64_S16x128x2x64_0_1920_0_0) shapeCasts_S16x128x2x64_S16x128x128

theorem lastK_at (b : Fin 16) (a l : Fin 128) : lastK z (ix3 b a l) = nat2 z (2048 * b.val + 1920 + a.val) (8192 + l.val) := by
  rw [← nat2_val z ⟨2048 * b.val + 1920 + a.val, by omega⟩ ⟨8192 + l.val, by omega⟩ _ _ rfl rfl]
  unfold lastK
  pointwise
  congr 1
  blk_ext

theorem lastV_at (b : Fin 16) (a l : Fin 128) : lastV z (ix3 b a l) = nat2 z (2048 * b.val + 1920 + a.val) (8320 + l.val) := by
  rw [← nat2_val z ⟨2048 * b.val + 1920 + a.val, by omega⟩ ⟨8320 + l.val, by omega⟩ _ _ rfl rfl]
  unfold lastV
  pointwise
  congr 1
  blk_ext

end Cert.ReferenceIdeal.Block

end
-- ==== Proof.AttnClaim.lean ====
/- The attention call's results are the reference's. -/
module

public import proofs.«01_k».proof.Defs
public import proofs.«01_k».proof.Proof.AttnArr
public import proofs.«01_k».proof.Proof.AttnRest
public import proofs.«01_k».proof.Proof.AttnRef
public import proofs.«01_k».proof.Proof.Gen.KernelIdeal.Value
public import Idealize.ShloMosaic.Lib.Claim

@[expose] public section

set_option maxRecDepth 16384

noncomputable section

open Idealize.ShloMosaic Idealize.ShloMosaic.TcCoe Idealize.SL.Sem

namespace Cert.Attn

open Cert.KernelIdeal Cert.KernelIdeal.Gen Cert.AttnSpec

variable (m : (ℓ : Loc nD τ sig) → Buf (Elt Ideal) ℓ) (c : Dev nD)

theorem rows : Cert.ReferenceIdeal.Block.attR (Block.zAll m c) (Block.sinks16 m c) = (dats m 0 c).arrAt 5 cfg0.N :=
  (funext fun j => Cert.ReferenceIdeal.Block.attR_cell _ _ j).trans (Block.rows_arr m c).symm

theorem ix3_eta (j : S16x128x128.Idx) : j = ix3 (⟨(j 0).val, (j 0).isLt⟩ : Fin 16) (⟨(j 1).val, (j 1).isLt⟩ : Fin 128) (⟨(j 2).val, (j 2).isLt⟩ : Fin 128) := by
  funext k
  fin_cases k <;> rfl

theorem ks : Cert.ReferenceIdeal.Block.lastK (Block.zAll m c) = (dats m 0 c).arrAt 6 cfg0.N := by
  refine (funext fun j => ?_ : _ = Block.lastRows (Block.zAll m c) 8192).trans (Block.keys_arr m c).symm
  rw [ix3_eta j, Cert.ReferenceIdeal.Block.lastK_at]
  rfl

theorem vs : Cert.ReferenceIdeal.Block.lastV (Block.zAll m c) = (dats m 0 c).arrAt 7 cfg0.N := by
  refine (funext fun j => ?_ : _ = Block.lastRows (Block.zAll m c) 8320).trans (Block.vals_arr m c).symm
  rw [ix3_eta j, Cert.ReferenceIdeal.Block.lastV_at]
  rfl

theorem algebraic : algebraic_KernelIdeal_ReferenceIdeal (hKernelIdeal := Cert.KernelIdeal.Gen.facts) (hReferenceIdeal := Cert.ReferenceIdeal.Gen.facts) := by
  intro m g m' g' _ hagree
  refine ⟨fun c => (dats m 0 c).arrAt 5 cfg0.N, fun c => (dats m 0 c).arrAt 6 cfg0.N, fun c => (dats m 0 c).arrAt 7 cfg0.N, fun c => (dats m 0 c).arrAt 8 cfg0.N, Cert.KernelIdeal.Value.run_blocks m g, ?_⟩
  refine (θ_run Cert.ReferenceIdeal.defs _ _).mono (fun r h c => ?_) (Cert.ReferenceIdeal.Value.run m' g')
  obtain ⟨h0, h1, h2, h3, ha⟩ := h c
  obtain ⟨e0, e1, e2⟩ := hagree c
  refine ⟨h0.trans ?_, h1.trans ?_, h2.trans ?_, h3.trans ?_, ha⟩
  · rw [Cert.ReferenceIdeal.Block.staged]
    refine Eq.trans ?_ (rows m c)
    exact congrArg₂ Cert.ReferenceIdeal.Block.attR e0 e1
  · refine Eq.trans ?_ (ks m c)
    exact congrArg Cert.ReferenceIdeal.Block.lastK e0
  · refine Eq.trans ?_ (vs m c)
    exact congrArg Cert.ReferenceIdeal.Block.lastV e0
  · refine Eq.trans ?_ (Block.cast_arr m c).symm
    exact congrArg (fun w : FVec Ideal S32x2048x4096 .f32 => (truncf .bf16 (shapeCast S65536x4096 w shapeCasts_S32x2048x4096_S65536x4096) bitsLt_bf16_f32 : FVec Ideal S65536x4096 .bf16)) e2

end Cert.Attn

end
-- ==== Proof.ExpRun.lean ====
module

public import proofs.«01_k».proof.Proof.Gen.Kernel2Ideal.Skeleton
public import proofs.«01_k».proof.Proof.Gen.Kernel2Ideal.Launch
public import Idealize.ShloMosaic.Lib.Pipeline.Quiescent
public import Idealize.ShloMosaic.Lib.Pipeline.Kit
public import Idealize.ShloMosaic.Lib.Pipeline.TableIdle
public import Idealize.ShloMosaic.Lib.Pipeline.FrameBody
public import Idealize.ShloMosaic.Lib.Claim
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Lib.WordCmp
public import Idealize.ShloMosaic.Lib.Pipeline.ValueKit

/-! One step of the experts kernel, in its four cases: a used block's first half of the hidden width, its second half, an
unused block's first step and its second. Each case is run once, over any staging buffers and any contents. -/

@[expose] public section

set_option maxRecDepth 16384
set_option Elab.async false

noncomputable section

namespace Cert.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-- The resource algebra the runs are stated over. -/
abbrev RM (F : FTy → Type) [FloatOps F] := MT nD τ sig Unit (Elt F) ℕ (UR sig nD τ) ℕ

/-- The table of experts and the number of used blocks, whole. -/
abbrev tabE : Memref sig .tc .smem S296 .i32 := Memref.whole main_arg0
abbrev tabN : Memref sig .tc .smem S1 .i32 := Memref.whole main_arg1

/-- One staging buffer of the result, through which its contents are read. -/
abbrev outV : View sig .tc .vmem S512x2048 .f32 := (Memref.whole cc0_stg7_0 : Memref sig .tc .vmem S512x2048 .f32).view

/-- The number of used blocks as the body loads it. -/
abbrev usedWord (T1 : S1.Idx → Elt F .i32) : BitVec 32 := View.readAt (Elt F) (tabN).view (Rect.unit (s := S1) ![0] S1.size inb_S1_S1_0).toLoadRect T1 (Shape.Idx.first (numel1_S1.symm ▸ Nat.one_pos))

variable (c : Dev nD) (i : grid0.Coords)
  (arg4 : Memref sig .tc .vmem S512x2048 .f32) (harg4 : arg4.IsWhole)
  (arg5 : Memref sig .tc .vmem S1x2048x1024 .bf16) (harg5 : arg5.IsWhole)
  (arg6 : Memref sig .tc .vmem S1x2048x1024 .bf16) (harg6 : arg6.IsWhole)
  (arg7 : Memref sig .tc .vmem S1x1x1024 .f32) (harg7 : arg7.IsWhole)
  (arg8 : Memref sig .tc .vmem S1x1x1024 .f32) (harg8 : arg8.IsWhole)
  (arg9 : Memref sig .tc .vmem S1x1024x2048 .bf16) (harg9 : arg9.IsWhole)
  (arg10 : Memref sig .tc .vmem S1x1x2048 .f32) (harg10 : arg10.IsWhole)
  (arg11 : Memref sig .tc .vmem S512x2048 .f32) (harg11 : arg11.IsWhole)
  (T0 : S296.Idx → Elt F .i32) (T1 : S1.Idx → Elt F .i32)
  (x0 : S512x2048.Idx → Elt F .f32) (x1 x2 : S1x2048x1024.Idx → Elt F .bf16) (x3 x4 : S1x1x1024.Idx → Elt F .f32)
  (x5 : S1x1024x2048.Idx → Elt F .bf16) (x6 : S1x1x2048.Idx → Elt F .f32)

set_option backward.proofsInPublic true in
set_option maxHeartbeats 8000000 in
/-- What one step leaves of the result's buffer (a used block, first half), with the run that leaves it. -/
noncomputable def runFirst (h1 : k0_cond1 i (usedWord T1) = 1#1) (h2 : k0_cond2 i = 1#1) (h3 : ¬(k0_cond3 i = 1#1)) (h4 : ¬(k0_cond4 i (usedWord T1) = 1#1)) :
    { out : List (View.Piece (Elt F) S512x2048 .f32) //
      ∀ (K : PUnit → sProp (RM F)),
        iprop(((arg4).view.loc (c : Thread nD τ) ↦[(arg4).view.set]{fullShare} (arg4).view.rep x0)
          ∗ ((arg5).view.loc (c : Thread nD τ) ↦[(arg5).view.set]{fullShare} (arg5).view.rep x1)
          ∗ ((arg6).view.loc (c : Thread nD τ) ↦[(arg6).view.set]{fullShare} (arg6).view.rep x2)
          ∗ ((arg7).view.loc (c : Thread nD τ) ↦[(arg7).view.set]{fullShare} (arg7).view.rep x3)
          ∗ ((arg8).view.loc (c : Thread nD τ) ↦[(arg8).view.set]{fullShare} (arg8).view.rep x4)
          ∗ ((arg9).view.loc (c : Thread nD τ) ↦[(arg9).view.set]{fullShare} (arg9).view.rep x5)
          ∗ ((arg10).view.loc (c : Thread nD τ) ↦[(arg10).view.set]{fullShare} (arg10).view.rep x6)
          ∗ ((tabE).view.loc (c : Thread nD τ) ↦{fullShare.right} T0)
          ∗ ((tabN).view.loc (c : Thread nD τ) ↦{fullShare.right} T1)
          ∗ (∃ d, owns (c : Thread nD τ) arg11 fullShare d)
          ∗ (iprop(((arg4).view.loc (c : Thread nD τ) ↦[(arg4).view.set]{fullShare} (arg4).view.rep x0)
          ∗ ((arg5).view.loc (c : Thread nD τ) ↦[(arg5).view.set]{fullShare} (arg5).view.rep x1)
          ∗ ((arg6).view.loc (c : Thread nD τ) ↦[(arg6).view.set]{fullShare} (arg6).view.rep x2)
          ∗ ((arg7).view.loc (c : Thread nD τ) ↦[(arg7).view.set]{fullShare} (arg7).view.rep x3)
          ∗ ((arg8).view.loc (c : Thread nD τ) ↦[(arg8).view.set]{fullShare} (arg8).view.rep x4)
          ∗ ((arg9).view.loc (c : Thread nD τ) ↦[(arg9).view.set]{fullShare} (arg9).view.rep x5)
          ∗ ((arg10).view.loc (c : Thread nD τ) ↦[(arg10).view.set]{fullShare} (arg10).view.rep x6)
          ∗ ((tabE).view.loc (c : Thread nD τ) ↦{fullShare.right} T0)
          ∗ ((tabN).view.loc (c : Thread nD τ) ↦{fullShare.right} T1)
          ∗ (∃ f, (arg11).view.loc (c : Thread nD τ) ↦[(arg11).view.set]{fullShare} (arg11).view.writes (Elt F) f out)) -∗ K ⟨⟩))
          ⊢ wp frame (wpE (defs₀ (F := F)) Variants.none c none) Set.univ (cc0_experts i tabE (Memref.isWhole_whole _) tabN (Memref.isWhole_whole _) arg4 harg4 arg5 harg5 arg6 harg6 arg7 harg7 arg8 harg8 arg9 harg9 arg10 harg10 arg11 harg11) K } :=
  ⟨_, fun K => by
    unfold owns
    rw [cc0_experts_eq_skeleton]; unfold cc0_experts_skel
    iintro ⟨H0, H1, H2, H3, H4, H5, H6, HT0, HT1, ⟨%d7, %f7, -, HO7⟩, Hk⟩
    have hE : (tabE).IsWhole := Memref.isWhole_whole _
    have hN : (tabN).IsWhole := Memref.isWhole_whole _
    sl_exec! (disch := first | (guard_target = k0_cond1 _ _ = _; exact h1) | (guard_target = k0_cond2 _ = _; exact h2) | (guard_target = ¬(k0_cond3 _ = _); exact h3) | (guard_target = ¬(k0_cond4 _ _ = _); exact h4))
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HT0]; · iexact HT0
    isplitl [HT1]; · iexact HT1
    iexists _; iexact HO7⟩

/-- Its store covers the block. -/
theorem coverFirst (h1 : k0_cond1 i (usedWord T1) = 1#1) (h2 : k0_cond2 i = 1#1) (h3 : ¬(k0_cond3 i = 1#1)) (h4 : ¬(k0_cond4 i (usedWord T1) = 1#1)) (y : S512x2048.Idx) :
    ∃ pc ∈ (runFirst c i arg4 harg4 arg5 harg5 arg6 harg6 arg7 harg7 arg8 harg8 arg9 harg9 arg10 harg10 arg11 harg11 T0 T1 x0 x1 x2 x3 x4 x5 x6 h1 h2 h3 h4).1, y ∈ pc.1.set :=
  View.cover_of_tiledL (runFirst c i arg4 harg4 arg5 harg5 arg6 harg6 arg7 harg7 arg8 harg8 arg9 harg9 arg10 harg10 arg11 harg11 T0 T1 x0 x1 x2 x3 x4 x5 x6 h1 h2 h3 h4).1 S512x2048.size (by sl_kernel_rfl) y

/-- What the buffer reads afterwards. -/
theorem leftFirst (h1 : k0_cond1 i (usedWord T1) = 1#1) (h2 : k0_cond2 i = 1#1) (h3 : ¬(k0_cond3 i = 1#1)) (h4 : ¬(k0_cond4 i (usedWord T1) = 1#1)) :
    outV.read (Elt F) (outV.writes (Elt F) outV.junk (runFirst c i arg4 harg4 arg5 harg5 arg6 harg6 arg7 harg7 arg8 harg8 arg9 harg9 arg10 harg10 arg11 harg11 T0 T1 x0 x1 x2 x3 x4 x5 x6 h1 h2 h3 h4).1) = k0_pay1 (k0_pay4 x0 x1 x3 x2 x4 x5) x6 := by
  funext y
  frame_out
  simp only [View.read_rep]

set_option maxHeartbeats 1600000 in
/-- The step over the buffers' contents: a used block, first half. -/
theorem stepFirst (h1 : k0_cond1 i (usedWord T1) = 1#1) (h2 : k0_cond2 i = 1#1) (h3 : ¬(k0_cond3 i = 1#1)) (h4 : ¬(k0_cond4 i (usedWord T1) = 1#1)) (K : PUnit → sProp (RM F)) :
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ ((tabE).view.loc (c : Thread nD τ) ↦{fullShare.right} T0)
          ∗ ((tabN).view.loc (c : Thread nD τ) ↦{fullShare.right} T1)
          ∗ (∃ d, owns (c : Thread nD τ) arg11 fullShare d)
          ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ ((tabE).view.loc (c : Thread nD τ) ↦{fullShare.right} T0)
          ∗ ((tabN).view.loc (c : Thread nD τ) ↦{fullShare.right} T1)
          ∗ owns (c : Thread nD τ) arg11 fullShare (k0_pay1 (k0_pay4 x0 x1 x3 x2 x4 x5) x6)) -∗ K ⟨⟩))
          ⊢ wp frame (wpE (defs₀ (F := F)) Variants.none c none) Set.univ (cc0_experts i tabE (Memref.isWhole_whole _) tabN (Memref.isWhole_whole _) arg4 harg4 arg5 harg5 arg6 harg6 arg7 harg7 arg8 harg8 arg9 harg9 arg10 harg10 arg11 harg11) K := by
    iintro ⟨H0, H1, H2, H3, H4, H5, H6, HT0, HT1, H7, Hk⟩
    iapply (runFirst c i arg4 harg4 arg5 harg5 arg6 harg6 arg7 harg7 arg8 harg8 arg9 harg9 arg10 harg10 arg11 harg11 T0 T1 x0 x1 x2 x3 x4 x5 x6 h1 h2 h3 h4).2 K
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [H5]; · iapply rep_of_owns; iexact H5
    isplitl [H6]; · iapply rep_of_owns; iexact H6
    isplitl [HT0]; · iexact HT0
    isplitl [HT1]; · iexact HT1
    isplitl [H7]; · iexact H7
    iintro ⟨H0, H1, H2, H3, H4, H5, H6, HT0, HT1, ⟨%e7, H7⟩⟩
    iapply Hk
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    isplitl [H5]; · iapply owns_of_rep; iexact H5
    isplitl [H6]; · iapply owns_of_rep; iexact H6
    isplitl [HT0]; · iexact HT0
    isplitl [HT1]; · iexact HT1
    unfold owns; iexists _; isplitr
    swap; · iexact H7
    ipureintro
    exact (View.read_writes_of_cover _ _ _ _ _ (coverFirst c i arg4 harg4 arg5 harg5 arg6 harg6 arg7 harg7 arg8 harg8 arg9 harg9 arg10 harg10 arg11 harg11 T0 T1 x0 x1 x2 x3 x4 x5 x6 h1 h2 h3 h4)).trans (leftFirst c i arg4 harg4 arg5 harg5 arg6 harg6 arg7 harg7 arg8 harg8 arg9 harg9 arg10 harg10 arg11 harg11 T0 T1 x0 x1 x2 x3 x4 x5 x6 h1 h2 h3 h4)

set_option backward.proofsInPublic true in
set_option maxHeartbeats 8000000 in
/-- What one step leaves of the result's buffer (a used block, second half), with the run that leaves it. -/
noncomputable def runSecond (prev : S512x2048.Idx → Elt F .f32) (h1 : k0_cond1 i (usedWord T1) = 1#1) (h2 : ¬(k0_cond2 i = 1#1)) (h3 : k0_cond3 i = 1#1) (h4 : ¬(k0_cond4 i (usedWord T1) = 1#1)) :
    { out : List (View.Piece (Elt F) S512x2048 .f32) //
      ∀ (K : PUnit → sProp (RM F)),
        iprop(((arg4).view.loc (c : Thread nD τ) ↦[(arg4).view.set]{fullShare} (arg4).view.rep x0)
          ∗ ((arg5).view.loc (c : Thread nD τ) ↦[(arg5).view.set]{fullShare} (arg5).view.rep x1)
          ∗ ((arg6).view.loc (c : Thread nD τ) ↦[(arg6).view.set]{fullShare} (arg6).view.rep x2)
          ∗ ((arg7).view.loc (c : Thread nD τ) ↦[(arg7).view.set]{fullShare} (arg7).view.rep x3)
          ∗ ((arg8).view.loc (c : Thread nD τ) ↦[(arg8).view.set]{fullShare} (arg8).view.rep x4)
          ∗ ((arg9).view.loc (c : Thread nD τ) ↦[(arg9).view.set]{fullShare} (arg9).view.rep x5)
          ∗ ((arg10).view.loc (c : Thread nD τ) ↦[(arg10).view.set]{fullShare} (arg10).view.rep x6)
          ∗ ((tabE).view.loc (c : Thread nD τ) ↦{fullShare.right} T0)
          ∗ ((tabN).view.loc (c : Thread nD τ) ↦{fullShare.right} T1)
          ∗ owns (c : Thread nD τ) arg11 fullShare prev
          ∗ (iprop(((arg4).view.loc (c : Thread nD τ) ↦[(arg4).view.set]{fullShare} (arg4).view.rep x0)
          ∗ ((arg5).view.loc (c : Thread nD τ) ↦[(arg5).view.set]{fullShare} (arg5).view.rep x1)
          ∗ ((arg6).view.loc (c : Thread nD τ) ↦[(arg6).view.set]{fullShare} (arg6).view.rep x2)
          ∗ ((arg7).view.loc (c : Thread nD τ) ↦[(arg7).view.set]{fullShare} (arg7).view.rep x3)
          ∗ ((arg8).view.loc (c : Thread nD τ) ↦[(arg8).view.set]{fullShare} (arg8).view.rep x4)
          ∗ ((arg9).view.loc (c : Thread nD τ) ↦[(arg9).view.set]{fullShare} (arg9).view.rep x5)
          ∗ ((arg10).view.loc (c : Thread nD τ) ↦[(arg10).view.set]{fullShare} (arg10).view.rep x6)
          ∗ ((tabE).view.loc (c : Thread nD τ) ↦{fullShare.right} T0)
          ∗ ((tabN).view.loc (c : Thread nD τ) ↦{fullShare.right} T1)
          ∗ (∃ f, (arg11).view.loc (c : Thread nD τ) ↦[(arg11).view.set]{fullShare} (arg11).view.writes (Elt F) f out)) -∗ K ⟨⟩))
          ⊢ wp frame (wpE (defs₀ (F := F)) Variants.none c none) Set.univ (cc0_experts i tabE (Memref.isWhole_whole _) tabN (Memref.isWhole_whole _) arg4 harg4 arg5 harg5 arg6 harg6 arg7 harg7 arg8 harg8 arg9 harg9 arg10 harg10 arg11 harg11) K } :=
  ⟨_, fun K => by
    unfold owns
    rw [cc0_experts_eq_skeleton]; unfold cc0_experts_skel
    iintro ⟨H0, H1, H2, H3, H4, H5, H6, HT0, HT1, ⟨%f7, %hf7, HO7⟩, Hk⟩
    obtain rfl := harg11.eq_unread hf7
    have hE : (tabE).IsWhole := Memref.isWhole_whole _
    have hN : (tabN).IsWhole := Memref.isWhole_whole _
    sl_exec! (disch := first | (guard_target = k0_cond1 _ _ = _; exact h1) | (guard_target = ¬(k0_cond2 _ = _); exact h2) | (guard_target = k0_cond3 _ = _; exact h3) | (guard_target = ¬(k0_cond4 _ _ = _); exact h4))
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HT0]; · iexact HT0
    isplitl [HT1]; · iexact HT1
    iexists _; iexact HO7⟩

/-- Its store covers the block. -/
theorem coverSecond (prev : S512x2048.Idx → Elt F .f32) (h1 : k0_cond1 i (usedWord T1) = 1#1) (h2 : ¬(k0_cond2 i = 1#1)) (h3 : k0_cond3 i = 1#1) (h4 : ¬(k0_cond4 i (usedWord T1) = 1#1)) (y : S512x2048.Idx) :
    ∃ pc ∈ (runSecond c i arg4 harg4 arg5 harg5 arg6 harg6 arg7 harg7 arg8 harg8 arg9 harg9 arg10 harg10 arg11 harg11 T0 T1 x0 x1 x2 x3 x4 x5 x6 prev h1 h2 h3 h4).1, y ∈ pc.1.set :=
  View.cover_of_tiledL (runSecond c i arg4 harg4 arg5 harg5 arg6 harg6 arg7 harg7 arg8 harg8 arg9 harg9 arg10 harg10 arg11 harg11 T0 T1 x0 x1 x2 x3 x4 x5 x6 prev h1 h2 h3 h4).1 S512x2048.size (by sl_kernel_rfl) y

/-- What the buffer reads afterwards. -/
theorem leftSecond (prev : S512x2048.Idx → Elt F .f32) (h1 : k0_cond1 i (usedWord T1) = 1#1) (h2 : ¬(k0_cond2 i = 1#1)) (h3 : k0_cond3 i = 1#1) (h4 : ¬(k0_cond4 i (usedWord T1) = 1#1)) :
    outV.read (Elt F) (outV.writes (Elt F) outV.junk (runSecond c i arg4 harg4 arg5 harg5 arg6 harg6 arg7 harg7 arg8 harg8 arg9 harg9 arg10 harg10 arg11 harg11 T0 T1 x0 x1 x2 x3 x4 x5 x6 prev h1 h2 h3 h4).1) = k0_pay2 (k0_pay4 x0 x1 x3 x2 x4 x5) prev := by
  funext y
  frame_out
  simp only [View.read_rep]

set_option maxHeartbeats 1600000 in
/-- The step over the buffers' contents: a used block, second half. -/
theorem stepSecond (prev : S512x2048.Idx → Elt F .f32) (h1 : k0_cond1 i (usedWord T1) = 1#1) (h2 : ¬(k0_cond2 i = 1#1)) (h3 : k0_cond3 i = 1#1) (h4 : ¬(k0_cond4 i (usedWord T1) = 1#1)) (K : PUnit → sProp (RM F)) :
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ ((tabE).view.loc (c : Thread nD τ) ↦{fullShare.right} T0)
          ∗ ((tabN).view.loc (c : Thread nD τ) ↦{fullShare.right} T1)
          ∗ owns (c : Thread nD τ) arg11 fullShare prev
          ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ ((tabE).view.loc (c : Thread nD τ) ↦{fullShare.right} T0)
          ∗ ((tabN).view.loc (c : Thread nD τ) ↦{fullShare.right} T1)
          ∗ owns (c : Thread nD τ) arg11 fullShare (k0_pay2 (k0_pay4 x0 x1 x3 x2 x4 x5) prev)) -∗ K ⟨⟩))
          ⊢ wp frame (wpE (defs₀ (F := F)) Variants.none c none) Set.univ (cc0_experts i tabE (Memref.isWhole_whole _) tabN (Memref.isWhole_whole _) arg4 harg4 arg5 harg5 arg6 harg6 arg7 harg7 arg8 harg8 arg9 harg9 arg10 harg10 arg11 harg11) K := by
    iintro ⟨H0, H1, H2, H3, H4, H5, H6, HT0, HT1, H7, Hk⟩
    iapply (runSecond c i arg4 harg4 arg5 harg5 arg6 harg6 arg7 harg7 arg8 harg8 arg9 harg9 arg10 harg10 arg11 harg11 T0 T1 x0 x1 x2 x3 x4 x5 x6 prev h1 h2 h3 h4).2 K
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [H5]; · iapply rep_of_owns; iexact H5
    isplitl [H6]; · iapply rep_of_owns; iexact H6
    isplitl [HT0]; · iexact HT0
    isplitl [HT1]; · iexact HT1
    isplitl [H7]; · iexact H7
    iintro ⟨H0, H1, H2, H3, H4, H5, H6, HT0, HT1, ⟨%e7, H7⟩⟩
    iapply Hk
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    isplitl [H5]; · iapply owns_of_rep; iexact H5
    isplitl [H6]; · iapply owns_of_rep; iexact H6
    isplitl [HT0]; · iexact HT0
    isplitl [HT1]; · iexact HT1
    unfold owns; iexists _; isplitr
    swap; · iexact H7
    ipureintro
    exact (View.read_writes_of_cover _ _ _ _ _ (coverSecond c i arg4 harg4 arg5 harg5 arg6 harg6 arg7 harg7 arg8 harg8 arg9 harg9 arg10 harg10 arg11 harg11 T0 T1 x0 x1 x2 x3 x4 x5 x6 prev h1 h2 h3 h4)).trans (leftSecond c i arg4 harg4 arg5 harg5 arg6 harg6 arg7 harg7 arg8 harg8 arg9 harg9 arg10 harg10 arg11 harg11 T0 T1 x0 x1 x2 x3 x4 x5 x6 prev h1 h2 h3 h4)

set_option backward.proofsInPublic true in
set_option maxHeartbeats 8000000 in
/-- What one step leaves of the result's buffer (an unused block, first step), with the run that leaves it. -/
noncomputable def runZero (h1 : ¬(k0_cond1 i (usedWord T1) = 1#1)) (h4 : k0_cond4 i (usedWord T1) = 1#1) :
    { out : List (View.Piece (Elt F) S512x2048 .f32) //
      ∀ (K : PUnit → sProp (RM F)),
        iprop(((arg4).view.loc (c : Thread nD τ) ↦[(arg4).view.set]{fullShare} (arg4).view.rep x0)
          ∗ ((arg5).view.loc (c : Thread nD τ) ↦[(arg5).view.set]{fullShare} (arg5).view.rep x1)
          ∗ ((arg6).view.loc (c : Thread nD τ) ↦[(arg6).view.set]{fullShare} (arg6).view.rep x2)
          ∗ ((arg7).view.loc (c : Thread nD τ) ↦[(arg7).view.set]{fullShare} (arg7).view.rep x3)
          ∗ ((arg8).view.loc (c : Thread nD τ) ↦[(arg8).view.set]{fullShare} (arg8).view.rep x4)
          ∗ ((arg9).view.loc (c : Thread nD τ) ↦[(arg9).view.set]{fullShare} (arg9).view.rep x5)
          ∗ ((arg10).view.loc (c : Thread nD τ) ↦[(arg10).view.set]{fullShare} (arg10).view.rep x6)
          ∗ ((tabE).view.loc (c : Thread nD τ) ↦{fullShare.right} T0)
          ∗ ((tabN).view.loc (c : Thread nD τ) ↦{fullShare.right} T1)
          ∗ (∃ d, owns (c : Thread nD τ) arg11 fullShare d)
          ∗ (iprop(((arg4).view.loc (c : Thread nD τ) ↦[(arg4).view.set]{fullShare} (arg4).view.rep x0)
          ∗ ((arg5).view.loc (c : Thread nD τ) ↦[(arg5).view.set]{fullShare} (arg5).view.rep x1)
          ∗ ((arg6).view.loc (c : Thread nD τ) ↦[(arg6).view.set]{fullShare} (arg6).view.rep x2)
          ∗ ((arg7).view.loc (c : Thread nD τ) ↦[(arg7).view.set]{fullShare} (arg7).view.rep x3)
          ∗ ((arg8).view.loc (c : Thread nD τ) ↦[(arg8).view.set]{fullShare} (arg8).view.rep x4)
          ∗ ((arg9).view.loc (c : Thread nD τ) ↦[(arg9).view.set]{fullShare} (arg9).view.rep x5)
          ∗ ((arg10).view.loc (c : Thread nD τ) ↦[(arg10).view.set]{fullShare} (arg10).view.rep x6)
          ∗ ((tabE).view.loc (c : Thread nD τ) ↦{fullShare.right} T0)
          ∗ ((tabN).view.loc (c : Thread nD τ) ↦{fullShare.right} T1)
          ∗ (∃ f, (arg11).view.loc (c : Thread nD τ) ↦[(arg11).view.set]{fullShare} (arg11).view.writes (Elt F) f out)) -∗ K ⟨⟩))
          ⊢ wp frame (wpE (defs₀ (F := F)) Variants.none c none) Set.univ (cc0_experts i tabE (Memref.isWhole_whole _) tabN (Memref.isWhole_whole _) arg4 harg4 arg5 harg5 arg6 harg6 arg7 harg7 arg8 harg8 arg9 harg9 arg10 harg10 arg11 harg11) K } :=
  ⟨_, fun K => by
    unfold owns
    rw [cc0_experts_eq_skeleton]; unfold cc0_experts_skel
    iintro ⟨H0, H1, H2, H3, H4, H5, H6, HT0, HT1, ⟨%d7, %f7, -, HO7⟩, Hk⟩
    have hE : (tabE).IsWhole := Memref.isWhole_whole _
    have hN : (tabN).IsWhole := Memref.isWhole_whole _
    sl_exec! (disch := first | (guard_target = ¬(k0_cond1 _ _ = _); exact h1) | (guard_target = k0_cond4 _ _ = _; exact h4))
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HT0]; · iexact HT0
    isplitl [HT1]; · iexact HT1
    iexists _; iexact HO7⟩

/-- Its store covers the block. -/
theorem coverZero (h1 : ¬(k0_cond1 i (usedWord T1) = 1#1)) (h4 : k0_cond4 i (usedWord T1) = 1#1) (y : S512x2048.Idx) :
    ∃ pc ∈ (runZero c i arg4 harg4 arg5 harg5 arg6 harg6 arg7 harg7 arg8 harg8 arg9 harg9 arg10 harg10 arg11 harg11 T0 T1 x0 x1 x2 x3 x4 x5 x6 h1 h4).1, y ∈ pc.1.set :=
  View.cover_of_tiledL (runZero c i arg4 harg4 arg5 harg5 arg6 harg6 arg7 harg7 arg8 harg8 arg9 harg9 arg10 harg10 arg11 harg11 T0 T1 x0 x1 x2 x3 x4 x5 x6 h1 h4).1 S512x2048.size (by sl_kernel_rfl) y

/-- What the buffer reads afterwards. -/
theorem leftZero (h1 : ¬(k0_cond1 i (usedWord T1) = 1#1)) (h4 : k0_cond4 i (usedWord T1) = 1#1) :
    outV.read (Elt F) (outV.writes (Elt F) outV.junk (runZero c i arg4 harg4 arg5 harg5 arg6 harg6 arg7 harg7 arg8 harg8 arg9 harg9 arg10 harg10 arg11 harg11 T0 T1 x0 x1 x2 x3 x4 x5 x6 h1 h4).1) = k0_pay3 (F := F) := by
  funext y
  frame_out

set_option maxHeartbeats 1600000 in
/-- The step over the buffers' contents: an unused block, first step. -/
theorem stepZero (h1 : ¬(k0_cond1 i (usedWord T1) = 1#1)) (h4 : k0_cond4 i (usedWord T1) = 1#1) (K : PUnit → sProp (RM F)) :
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ ((tabE).view.loc (c : Thread nD τ) ↦{fullShare.right} T0)
          ∗ ((tabN).view.loc (c : Thread nD τ) ↦{fullShare.right} T1)
          ∗ (∃ d, owns (c : Thread nD τ) arg11 fullShare d)
          ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ ((tabE).view.loc (c : Thread nD τ) ↦{fullShare.right} T0)
          ∗ ((tabN).view.loc (c : Thread nD τ) ↦{fullShare.right} T1)
          ∗ owns (c : Thread nD τ) arg11 fullShare (k0_pay3 (F := F))) -∗ K ⟨⟩))
          ⊢ wp frame (wpE (defs₀ (F := F)) Variants.none c none) Set.univ (cc0_experts i tabE (Memref.isWhole_whole _) tabN (Memref.isWhole_whole _) arg4 harg4 arg5 harg5 arg6 harg6 arg7 harg7 arg8 harg8 arg9 harg9 arg10 harg10 arg11 harg11) K := by
    iintro ⟨H0, H1, H2, H3, H4, H5, H6, HT0, HT1, H7, Hk⟩
    iapply (runZero c i arg4 harg4 arg5 harg5 arg6 harg6 arg7 harg7 arg8 harg8 arg9 harg9 arg10 harg10 arg11 harg11 T0 T1 x0 x1 x2 x3 x4 x5 x6 h1 h4).2 K
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [H5]; · iapply rep_of_owns; iexact H5
    isplitl [H6]; · iapply rep_of_owns; iexact H6
    isplitl [HT0]; · iexact HT0
    isplitl [HT1]; · iexact HT1
    isplitl [H7]; · iexact H7
    iintro ⟨H0, H1, H2, H3, H4, H5, H6, HT0, HT1, ⟨%e7, H7⟩⟩
    iapply Hk
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    isplitl [H5]; · iapply owns_of_rep; iexact H5
    isplitl [H6]; · iapply owns_of_rep; iexact H6
    isplitl [HT0]; · iexact HT0
    isplitl [HT1]; · iexact HT1
    unfold owns; iexists _; isplitr
    swap; · iexact H7
    ipureintro
    exact (View.read_writes_of_cover _ _ _ _ _ (coverZero c i arg4 harg4 arg5 harg5 arg6 harg6 arg7 harg7 arg8 harg8 arg9 harg9 arg10 harg10 arg11 harg11 T0 T1 x0 x1 x2 x3 x4 x5 x6 h1 h4)).trans (leftZero c i arg4 harg4 arg5 harg5 arg6 harg6 arg7 harg7 arg8 harg8 arg9 harg9 arg10 harg10 arg11 harg11 T0 T1 x0 x1 x2 x3 x4 x5 x6 h1 h4)

set_option maxHeartbeats 8000000 in
/-- The second step of an unused block stores nothing. -/
theorem runSkip (h1 : ¬(k0_cond1 i (usedWord T1) = 1#1)) (h4 : ¬(k0_cond4 i (usedWord T1) = 1#1)) (R : sProp (RM F)) (K : PUnit → sProp (RM F)) :
        iprop(((tabN).view.loc (c : Thread nD τ) ↦{fullShare.right} T1) ∗ R
          ∗ (iprop(((tabN).view.loc (c : Thread nD τ) ↦{fullShare.right} T1) ∗ R) -∗ K ⟨⟩))
          ⊢ wp frame (wpE (defs₀ (F := F)) Variants.none c none) Set.univ (cc0_experts i tabE (Memref.isWhole_whole _) tabN (Memref.isWhole_whole _) arg4 harg4 arg5 harg5 arg6 harg6 arg7 harg7 arg8 harg8 arg9 harg9 arg10 harg10 arg11 harg11) K := by
    rw [cc0_experts_eq_skeleton]; unfold cc0_experts_skel
    iintro ⟨HT1, HR, Hk⟩
    have hN : (tabN).IsWhole := Memref.isWhole_whole _
    sl_exec! (disch := first | (guard_target = ¬(k0_cond1 _ _ = _); exact h1) | (guard_target = ¬(k0_cond4 _ _ = _); exact h4))
    sl_step
    iapply Hk
    isplitl [HT1]; · iexact HT1
    iexact HR

end Cert.Experts

end
-- ==== Proof.ExpFrame.lean ====
module

public import proofs.«01_k».proof.Proof.ExpRun

/-! The experts call as a whole: what each buffer holds at each of the 592 steps, and the run of the program from any
memory whose two tables keep every block inside its array. -/

@[expose] public section

set_option maxRecDepth 16384

noncomputable section

namespace Cert.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-! ## The branch conditions -/

theorem c2_iff (i : grid0.Coords) : k0_cond2 i = 1#1 ↔ (i 1).val = 0 := by
  have h : (i 1).val < 2 := (i 1).isLt
  unfold k0_cond2
  interval_cases (i 1).val <;> decide

theorem c3_iff (i : grid0.Coords) : k0_cond3 i = 1#1 ↔ ¬ (i 1).val = 0 := by
  have h : (i 1).val < 2 := (i 1).isLt
  unfold k0_cond3
  interval_cases (i 1).val <;> decide

theorem c4_iff (i : grid0.Coords) (w : BitVec 32) : k0_cond4 i w = 1#1 ↔ ¬ k0_cond1 i w = 1#1 ∧ (i 1).val = 0 := by
  rw [← c2_iff]
  unfold k0_cond4 k0_cond2 k0_cond1
  dsimp only
  generalize Scalar.cmpi .slt (BitVec.ofNat 32 (i 0).val) w = b
  generalize Scalar.cmpi .eq (BitVec.ofNat 32 (i 1).val) 0#32 = e
  revert b e
  decide

variable (m : (ℓ : Loc nD τ sig) → Buf (Elt F) ℓ) (ρ : Dev nD → PrngReg)

/-! ## The memory when the call is entered -/

/-- Core `c`'s buffers when the call is entered: after the casts and reshapes of the weights and biases. -/
abbrev V (c : Dev nD) (b : Ref sig .tc) : Buf (Elt F) ((c : Thread nD τ).loc b) := StableHlo.after hostOps0 (fun b => m (c, b)) b

theorem host_fresh : (hostOps0 : List (HloOp τ sig (Elt F))).Forall fun op => op.fresh = ∅ := by
  simp only [List.Forall]; repeat' constructor

set_option maxHeartbeats 800000 in
theorem enters (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub host_fresh main_chain

theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.reshape_writes, Finset.mem_singleton]
    repeat' apply And.intro
    all_goals exact StableHlo.devRef_ne_of_ne (by decide)))

/-! ## The two tables -/

/-- The tables' contents (there is one device). -/
def tbl : pre0.Contents (Elt F) := fun j => V m (0 : Dev nD) (pre0.ref j)

theorem V_pre (c : Dev nD) (j : Fin 2) : V m c (pre0.ref j) = tbl m j := by
  obtain rfl : c = 0 := Subsingleton.elim _ _; rfl

/-- The condition on the tables: every block is inside its array, in whole words. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

theorem tables_eq (c : Dev nD) : (Pipeline.ΦT pre0 (tbl m) c : sProp (RM F))
    = iprop(((tabE).view.loc (c : Thread nD τ) ↦{fullShare.right} tbl m 0) ∗ ((tabN).view.loc (c : Thread nD τ) ↦{fullShare.right} tbl m 1)) := by
  unfold Pipeline.ΦT Pipeline.prefHeld
  rw [bigSep_univ_eq_bigSepL [(0 : Fin 2), (1 : Fin 2)] (by decide) (by decide)]
  rfl

/-- The number of used blocks, read off its table. -/
def nb : BitVec 32 := usedWord (F := F) (tbl m 1)

theorem atD_nb : (tbl m).atD 1 ![0] = nb m := by
  unfold Pipeline.Prefetch.Contents.atD nb
  rw [dif_pos (by decide)]
  rfl

theorem at_nb : (tbl m).at 1 (Rect.unit (s := S1) ![0] S1.size inb_S1_S1_0) numel1_S1 = nb m := by
  rfl

/-- Block `i` of the grid is used. -/
abbrev Used (i : grid0.Coords) : Prop := k0_cond1 i (nb m) = 1#1

/-! ## Blocks and schedule -/

/-- Window `w`'s block at point `t`. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem col (hO : Ok m) (t : Fin (cfgM m hO).N) : (grid0.coords t 1).val = t.val % 2 :=
  (Pipeline.Grid.coords_val (G := grid0) t 1 (S := 1) (B := 2) (by decide) rfl).trans (by rw [Nat.div_one])

theorem row (hO : Ok m) (t : Fin (cfgM m hO).N) : (grid0.coords t 0).val = t.val / 2 :=
  (Pipeline.Grid.coords_val (G := grid0) t 0 (S := 2) (B := 296) (by decide) rfl).trans (Nat.mod_eq_of_lt (by have h : t.val < 592 := t.isLt; omega))

theorem flush7 (hO : Ok m) (t : Fin (cfgM m hO).N) : ((cfgM m hO).win 7).flush t = true ↔ t.val % 2 = 1 :=
  (fun t => Pipeline.Window.flushOf_reads cc0_transform_7 reads0_7 hreads0_7 0 (by decide) (by decide) (Pipeline.Window.sep_of_coord cc0_transform_7 0 0 (fun _ => rfl) (by decide)) (P := 2) (m := 1) (by decide) rfl t : ∀ t : Fin grid0.N, Pipeline.Window.flushOf grid0 true cc0_transform_7 t = true ↔ t.val % 2 = 1) t

theorem idle_at (pf : pre0.Contents (Elt F)) (w : BitVec 32) (h : pf.atD 1 ![0] = w) (i : grid0.Coords) : idle0 pf 7 i = (!(k0_cond1 i w == 1#1 && k0_cond2 i == 1#1) && !(k0_cond1 i w == 1#1 && k0_cond3 i == 1#1) && !(k0_cond4 i w == 1#1)) := by
  rw [← h]

theorem idle_cfg (a : (pcfg0 (F := F)).Adm) (i : grid0.Coords) : (cfg0 a).idle 7 i = idle0 a.1 7 i := rfl

theorem idle_logic (p q : Prop) : ((¬p ∨ ¬q) ∧ (¬p ∨ ¬¬q)) ∧ ¬(¬p ∧ q) ↔ ¬p ∧ ¬q := by tauto

theorem idle7 (hO : Ok m) (t : Fin (cfgM m hO).N) : (cfgM m hO).idle 7 ((cfgM m hO).grid.coords t) = true ↔ ¬ Used m (grid0.coords t) ∧ t.val % 2 = 1 := by
  have hp := col m hO t
  have h2 := c2_iff (grid0.coords t)
  have h3 := c3_iff (grid0.coords t)
  have h4 := c4_iff (grid0.coords t) (nb m)
  have e : (cfgM m hO).idle 7 ((cfgM m hO).grid.coords t) = (!(k0_cond1 (grid0.coords t) (nb m) == 1#1 && k0_cond2 (grid0.coords t) == 1#1) && !(k0_cond1 (grid0.coords t) (nb m) == 1#1 && k0_cond3 (grid0.coords t) == 1#1) && !(k0_cond4 (grid0.coords t) (nb m) == 1#1)) := by
    exact (idle_cfg (adm m hO) (grid0.coords t)).trans (idle_at (tbl m) (nb m) (atD_nb m) (grid0.coords t))
  rw [e]
  simp only [Bool.and_eq_true, Bool.not_eq_true', Bool.and_eq_false_iff, beq_eq_false_iff_ne, ne_eq, h2, h3, h4, hp]
  have hq : t.val % 2 = 1 ↔ ¬ t.val % 2 = 0 := by omega
  rw [hq]
  exact idle_logic _ _

theorem fresh7 (hO : Ok m) (n : ℕ) (hn : n ≤ (cfgM m hO).N) : (cfgM m hO).fresh 7 n = decide (n % 2 = 0) := by
  refine Pipeline.Cfg.fresh_tab (cfgM m hO) 7 (fun n => decide (n % 2 = 0)) rfl (fun t => ?_) n hn
  have hf := flush7 m hO t
  by_cases hp : t.val % 2 = 1
  · rw [hf.mpr hp, Bool.true_or]; exact decide_eq_true (by omega)
  · rw [Bool.eq_false_iff.mpr (fun h => hp (hf.mp h)), Bool.false_or, Bool.eq_false_iff.mpr (fun h => hp ((idle7 m hO t).mp h).2), Bool.false_and]
    exact decide_eq_false (by omega)

abbrev buf0 (hO : Ok m) (t : Fin (cfgM m hO).N) : Memref sig .tc .vmem S512x2048 .f32 := spec0_0.stage ((cfgM m hO).slots t 0)
abbrev whole0 (hO : Ok m) (t : Fin (cfgM m hO).N) : (buf0 m hO t).IsWhole := hstage0_0 (((cfgM m hO).slots t 0).cast nbuf0_0)
abbrev buf1 (hO : Ok m) (t : Fin (cfgM m hO).N) : Memref sig .tc .vmem S1x2048x1024 .bf16 := spec0_1.stage ((cfgM m hO).slots t 1)
abbrev whole1 (hO : Ok m) (t : Fin (cfgM m hO).N) : (buf1 m hO t).IsWhole := hstage0_1 (((cfgM m hO).slots t 1).cast nbuf0_1)
abbrev buf2 (hO : Ok m) (t : Fin (cfgM m hO).N) : Memref sig .tc .vmem S1x2048x1024 .bf16 := spec0_2.stage ((cfgM m hO).slots t 2)
abbrev whole2 (hO : Ok m) (t : Fin (cfgM m hO).N) : (buf2 m hO t).IsWhole := hstage0_2 (((cfgM m hO).slots t 2).cast nbuf0_2)
abbrev buf3 (hO : Ok m) (t : Fin (cfgM m hO).N) : Memref sig .tc .vmem S1x1x1024 .f32 := spec0_3.stage ((cfgM m hO).slots t 3)
abbrev whole3 (hO : Ok m) (t : Fin (cfgM m hO).N) : (buf3 m hO t).IsWhole := hstage0_3 (((cfgM m hO).slots t 3).cast nbuf0_3)
abbrev buf4 (hO : Ok m) (t : Fin (cfgM m hO).N) : Memref sig .tc .vmem S1x1x1024 .f32 := spec0_4.stage ((cfgM m hO).slots t 4)
abbrev whole4 (hO : Ok m) (t : Fin (cfgM m hO).N) : (buf4 m hO t).IsWhole := hstage0_4 (((cfgM m hO).slots t 4).cast nbuf0_4)
abbrev buf5 (hO : Ok m) (t : Fin (cfgM m hO).N) : Memref sig .tc .vmem S1x1024x2048 .bf16 := spec0_5.stage ((cfgM m hO).slots t 5)
abbrev whole5 (hO : Ok m) (t : Fin (cfgM m hO).N) : (buf5 m hO t).IsWhole := hstage0_5 (((cfgM m hO).slots t 5).cast nbuf0_5)
abbrev buf6 (hO : Ok m) (t : Fin (cfgM m hO).N) : Memref sig .tc .vmem S1x1x2048 .f32 := spec0_6.stage ((cfgM m hO).slots t 6)
abbrev whole6 (hO : Ok m) (t : Fin (cfgM m hO).N) : (buf6 m hO t).IsWhole := hstage0_6 (((cfgM m hO).slots t 6).cast nbuf0_6)
abbrev buf7 (hO : Ok m) (t : Fin (cfgM m hO).N) : Memref sig .tc .vmem S512x2048 .f32 := spec0_7.stage ((cfgM m hO).slots t 7)
abbrev whole7 (hO : Ok m) (t : Fin (cfgM m hO).N) : (buf7 m hO t).IsWhole := hstage0_7 (((cfgM m hO).slots t 7).cast nbuf0_7)

/-! ## What the result's buffer holds -/

/-- The half of the block's answer one used step computes. -/
def half (hO : Ok m) (c : Dev nD) (t : Fin (cfgM m hO).N) : FVec F S512x2048 .f32 :=
  k0_pay4 (F := F) (iblk m hO c 0 t) (iblk m hO c 1 t) (iblk m hO c 3 t) (iblk m hO c 2 t) (iblk m hO c 4 t) (iblk m hO c 5 t)

open Classical in
/-- What step `t` leaves, over what it finds. -/
def next (hO : Ok m) (c : Dev nD) (t : Fin (cfgM m hO).N) (prev : Vec F S512x2048 .f32) : Vec F S512x2048 .f32 :=
  if Used m (grid0.coords t) then
    if t.val % 2 = 0 then k0_pay1 (half m hO c t) (iblk m hO c 6 t) else k0_pay2 (half m hO c t) prev
  else if t.val % 2 = 0 then k0_pay3 (F := F) else prev

/-- What the buffer holds after position `n`. -/
def held (hO : Ok m) (c : Dev nD) : (n : ℕ) → n < (cfgM m hO).N → Vec F S512x2048 .f32
  | 0, h => next m hO c ⟨0, h⟩ (k0_pay3 (F := F))
  | n + 1, h => next m hO c ⟨n + 1, h⟩ (held hO c n (Nat.lt_of_succ_lt h))

theorem held_even (hO : Ok m) (c : Dev nD) (t : Fin (cfgM m hO).N) (h : t.val % 2 = 0) (prev : Vec F S512x2048 .f32) :
    held m hO c t.val t.isLt = next m hO c t prev := by
  obtain ⟨n, hn⟩ := t
  have h' : n % 2 = 0 := h
  cases n with
  | zero => unfold held next; simp only [h', if_true]
  | succ n => unfold held next; simp only [h', if_true]

theorem held_odd (hO : Ok m) (c : Dev nD) (t : Fin (cfgM m hO).N) (h : t.val % 2 = 1) :
    held m hO c t.val t.isLt = next m hO c t (held m hO c (t.val - 1) (by omega)) := by
  obtain ⟨n, hn⟩ := t
  have h' : n % 2 = 1 := h
  cases n with
  | zero => exact absurd h' (by decide)
  | succ n => rfl

/-! ## The data of the pipeline -/

def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => held m hO c t.val t.isLt
  Φ _ := iprop(Pipeline.ΦA spec0 c ∗ Pipeline.ΦT pre0 (tbl m) c)
  q w := Pipeline.shareOf spec0 w
  owed _ := 0

theorem A_eq (hO : Ok m) (c : Dev nD) (w : Fin (cfgM m hO).W) : (dats m hO 0 c).A w = V m c (Pipeline.arrRef spec0 w) := by
  dsimp only [dats]

theorem after0 (hO : Ok m) (c : Dev nD) (t : Fin (cfgM m hO).N) : (dats m hO 0 c).after 0 t = iblk m hO c 0 t := by dsimp only [dats]; try rfl
theorem before0 (hO : Ok m) (c : Dev nD) (t : Fin (cfgM m hO).N) (d) : (dats m hO 0 c).before 0 t d = iblk m hO c 0 t :=
  ((dats m hO 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem after1 (hO : Ok m) (c : Dev nD) (t : Fin (cfgM m hO).N) : (dats m hO 0 c).after 1 t = iblk m hO c 1 t := by dsimp only [dats]; try rfl
theorem before1 (hO : Ok m) (c : Dev nD) (t : Fin (cfgM m hO).N) (d) : (dats m hO 0 c).before 1 t d = iblk m hO c 1 t :=
  ((dats m hO 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem after2 (hO : Ok m) (c : Dev nD) (t : Fin (cfgM m hO).N) : (dats m hO 0 c).after 2 t = iblk m hO c 2 t := by dsimp only [dats]; try rfl
theorem before2 (hO : Ok m) (c : Dev nD) (t : Fin (cfgM m hO).N) (d) : (dats m hO 0 c).before 2 t d = iblk m hO c 2 t :=
  ((dats m hO 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem after3 (hO : Ok m) (c : Dev nD) (t : Fin (cfgM m hO).N) : (dats m hO 0 c).after 3 t = iblk m hO c 3 t := by dsimp only [dats]; try rfl
theorem before3 (hO : Ok m) (c : Dev nD) (t : Fin (cfgM m hO).N) (d) : (dats m hO 0 c).before 3 t d = iblk m hO c 3 t :=
  ((dats m hO 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem after4 (hO : Ok m) (c : Dev nD) (t : Fin (cfgM m hO).N) : (dats m hO 0 c).after 4 t = iblk m hO c 4 t := by dsimp only [dats]; try rfl
theorem before4 (hO : Ok m) (c : Dev nD) (t : Fin (cfgM m hO).N) (d) : (dats m hO 0 c).before 4 t d = iblk m hO c 4 t :=
  ((dats m hO 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
theorem after5 (hO : Ok m) (c : Dev nD) (t : Fin (cfgM m hO).N) : (dats m hO 0 c).after 5 t = iblk m hO c 5 t := by dsimp only [dats]; try rfl
theorem before5 (hO : Ok m) (c : Dev nD) (t : Fin (cfgM m hO).N) (d) : (dats m hO 0 c).before 5 t d = iblk m hO c 5 t :=
  ((dats m hO 0 c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)
theorem after6 (hO : Ok m) (c : Dev nD) (t : Fin (cfgM m hO).N) : (dats m hO 0 c).after 6 t = iblk m hO c 6 t := by dsimp only [dats]; try rfl
theorem before6 (hO : Ok m) (c : Dev nD) (t : Fin (cfgM m hO).N) (d) : (dats m hO 0 c).before 6 t d = iblk m hO c 6 t :=
  ((dats m hO 0 c).before_in_eq_fetched 6 rfl (fun _ => rfl) (fun _ _ _ => rfl) (fun t => by rw [after6]; unfold Dat.blockOf iblk; rw [A_eq]; try rfl) t d).trans
    (by unfold Dat.fetched Dat.blockOf iblk; rw [A_eq]; try rfl)
theorem after7 (hO : Ok m) (c : Dev nD) (t : Fin (cfgM m hO).N) : (dats m hO 0 c).after 7 t = held m hO c t.val t.isLt := by dsimp only [dats]; try rfl

theorem carry7 (hO : Ok m) (c : Dev nD) (t : Fin (cfgM m hO).N) (ht : t.val ≠ 0) (hi : (cfgM m hO).idle 7 ((cfgM m hO).grid.coords t) = true) (_ : (cfgM m hO).fresh 7 t.val = false) :
    (dats m hO 0 c).after 7 t = (dats m hO 0 c).after 7 ⟨t.val - 1, by omega⟩ := by
  obtain ⟨hu, hp⟩ := (idle7 m hO t).mp hi
  rw [after7, after7, held_odd m hO c t hp]
  unfold next
  rw [if_neg hu, if_neg (by omega)]

theorem before7 (hO : Ok m) (c : Dev nD) (t : Fin (cfgM m hO).N) (hp : t.val % 2 = 1) (d) :
    (dats m hO 0 c).before 7 t d = held m hO c (t.val - 1) (by omega) := by
  rw [(dats m hO 0 c).before_out_traj 7 rfl (fun _ _ => rfl) (carry7 m hO c) t.val t rfl d, fresh7 m hO t.val (Nat.le_of_lt t.isLt)]
  rw [if_neg (by rw [decide_eq_true_eq]; omega), after7]

/-! ## The body at a point -/

abbrev bodyAt (hO : Ok m) (t : Fin (cfgM m hO).N) : Prog (TpuEff nD τ sig (Elt F) Λ₀ .tc) PUnit :=
  cc0_experts (grid0.coords t) tabE (Memref.isWhole_whole _) tabN (Memref.isWhole_whole _) (buf0 m hO t) (whole0 m hO t) (buf1 m hO t) (whole1 m hO t) (buf2 m hO t) (whole2 m hO t) (buf3 m hO t) (whole3 m hO t) (buf4 m hO t) (whole4 m hO t) (buf5 m hO t) (whole5 m hO t) (buf6 m hO t) (whole6 m hO t) (buf7 m hO t) (whole7 m hO t)

def bodyPre (hO : Ok m) (c : Dev nD) (t : Fin (cfgM m hO).N) : sProp (RM F) :=
  iprop((dats m hO 0 c).Φ t.castSucc ∗ (dats m hO 0 c).owesAt () t.castSucc
    ∗ (∃ d, owns (c : Thread nD τ) (buf0 m hO t) fullShare ((dats m hO 0 c).before 0 t d))
    ∗ (∃ d, owns (c : Thread nD τ) (buf1 m hO t) fullShare ((dats m hO 0 c).before 1 t d))
    ∗ (∃ d, owns (c : Thread nD τ) (buf2 m hO t) fullShare ((dats m hO 0 c).before 2 t d))
    ∗ (∃ d, owns (c : Thread nD τ) (buf3 m hO t) fullShare ((dats m hO 0 c).before 3 t d))
    ∗ (∃ d, owns (c : Thread nD τ) (buf4 m hO t) fullShare ((dats m hO 0 c).before 4 t d))
    ∗ (∃ d, owns (c : Thread nD τ) (buf5 m hO t) fullShare ((dats m hO 0 c).before 5 t d))
    ∗ (∃ d, owns (c : Thread nD τ) (buf6 m hO t) fullShare ((dats m hO 0 c).before 6 t d))
    ∗ (∃ d, owns (c : Thread nD τ) (buf7 m hO t) fullShare ((dats m hO 0 c).before 7 t d)))

def bodyPost (hO : Ok m) (c : Dev nD) (t : Fin (cfgM m hO).N) : sProp (RM F) :=
  iprop((dats m hO 0 c).Φ t.succ ∗ (dats m hO 0 c).owesAt () t.succ
    ∗ owns (c : Thread nD τ) (buf0 m hO t) fullShare ((dats m hO 0 c).after 0 t)
    ∗ owns (c : Thread nD τ) (buf1 m hO t) fullShare ((dats m hO 0 c).after 1 t)
    ∗ owns (c : Thread nD τ) (buf2 m hO t) fullShare ((dats m hO 0 c).after 2 t)
    ∗ owns (c : Thread nD τ) (buf3 m hO t) fullShare ((dats m hO 0 c).after 3 t)
    ∗ owns (c : Thread nD τ) (buf4 m hO t) fullShare ((dats m hO 0 c).after 4 t)
    ∗ owns (c : Thread nD τ) (buf5 m hO t) fullShare ((dats m hO 0 c).after 5 t)
    ∗ owns (c : Thread nD τ) (buf6 m hO t) fullShare ((dats m hO 0 c).after 6 t)
    ∗ owns (c : Thread nD τ) (buf7 m hO t) fullShare ((dats m hO 0 c).after 7 t))

set_option maxHeartbeats 3200000 in
theorem sound_body (hO : Ok m) (c : Dev nD) (t : Fin (cfgM m hO).N) :
    bodyPre m hO c t ⊢ wp frame (wpE (defs₀ (F := F)) Variants.none c none) Set.univ (bodyAt m hO t) (fun _ => bodyPost m hO c t) := by
  have hp := col m hO t
  have h2 := c2_iff (grid0.coords t)
  have h3 := c3_iff (grid0.coords t)
  have h4 := c4_iff (grid0.coords t) (nb m)
  unfold bodyPre bodyPost bodyAt
  simp only [before0, before1, before2, before3, before4, before5, before6]
  rw [show (dats m hO 0 c).Φ t.succ = (dats m hO 0 c).Φ t.castSucc from rfl,
    show (dats m hO 0 c).owesAt () t.succ = (dats m hO 0 c).owesAt () t.castSucc from rfl,
    after0, after1, after2, after3, after4, after5, after6, after7]
  rw [show (dats m hO 0 c).Φ t.castSucc = iprop(Pipeline.ΦA spec0 c ∗ Pipeline.ΦT pre0 (tbl m) c) from rfl, tables_eq]
  rcases Nat.mod_two_eq_zero_or_one t.val with heven | hodd
  · have h0 : (grid0.coords t 1).val = 0 := hp.trans heven
    by_cases hu : Used m (grid0.coords t)
    · skip
      rw [held_even m hO c t heven (k0_pay3 (F := F))]
      unfold next
      rw [if_pos hu, if_pos heven]
      iintro ⟨⟨HA, HT0, HT1⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (stepFirst c (grid0.coords t) (buf0 m hO t) (whole0 m hO t) (buf1 m hO t) (whole1 m hO t) (buf2 m hO t) (whole2 m hO t) (buf3 m hO t) (whole3 m hO t) (buf4 m hO t) (whole4 m hO t) (buf5 m hO t) (whole5 m hO t) (buf6 m hO t) (whole6 m hO t) (buf7 m hO t) (whole7 m hO t) (tbl m 0) (tbl m 1) (iblk m hO c 0 t) (iblk m hO c 1 t) (iblk m hO c 2 t) (iblk m hO c 3 t) (iblk m hO c 4 t) (iblk m hO c 5 t) (iblk m hO c 6 t) hu (h2.mpr h0) (fun h => h3.mp h h0) (fun h => (h4.mp h).1 hu) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HT0]; · iexact HT0
      isplitl [HT1]; · iexact HT1
      isplitl [H7]; · iexists _; iexact H7
      iintro ⟨H0, H1, H2, H3, H4, H5, H6, HT0, HT1, H7⟩
      isplitl [HA HT0 HT1]
      · isplitl [HA]; · iexact HA
        isplitl [HT0]; · iexact HT0
        iexact HT1
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · skip
      rw [held_even m hO c t heven (k0_pay3 (F := F))]
      unfold next
      rw [if_neg hu, if_pos heven]
      iintro ⟨⟨HA, HT0, HT1⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (stepZero c (grid0.coords t) (buf0 m hO t) (whole0 m hO t) (buf1 m hO t) (whole1 m hO t) (buf2 m hO t) (whole2 m hO t) (buf3 m hO t) (whole3 m hO t) (buf4 m hO t) (whole4 m hO t) (buf5 m hO t) (whole5 m hO t) (buf6 m hO t) (whole6 m hO t) (buf7 m hO t) (whole7 m hO t) (tbl m 0) (tbl m 1) (iblk m hO c 0 t) (iblk m hO c 1 t) (iblk m hO c 2 t) (iblk m hO c 3 t) (iblk m hO c 4 t) (iblk m hO c 5 t) (iblk m hO c 6 t) hu (h4.mpr ⟨hu, h0⟩) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HT0]; · iexact HT0
      isplitl [HT1]; · iexact HT1
      isplitl [H7]; · iexists _; iexact H7
      iintro ⟨H0, H1, H2, H3, H4, H5, H6, HT0, HT1, H7⟩
      isplitl [HA HT0 HT1]
      · isplitl [HA]; · iexact HA
        isplitl [HT0]; · iexact HT0
        iexact HT1
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
  · have h0 : ¬ (grid0.coords t 1).val = 0 := by rw [hp]; omega
    by_cases hu : Used m (grid0.coords t)
    · skip
      rw [held_odd m hO c t hodd]
      unfold next
      rw [if_pos hu, if_neg (by omega)]
      simp only [before7 m hO c t hodd]
      iintro ⟨⟨HA, HT0, HT1⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (stepSecond c (grid0.coords t) (buf0 m hO t) (whole0 m hO t) (buf1 m hO t) (whole1 m hO t) (buf2 m hO t) (whole2 m hO t) (buf3 m hO t) (whole3 m hO t) (buf4 m hO t) (whole4 m hO t) (buf5 m hO t) (whole5 m hO t) (buf6 m hO t) (whole6 m hO t) (buf7 m hO t) (whole7 m hO t) (tbl m 0) (tbl m 1) (iblk m hO c 0 t) (iblk m hO c 1 t) (iblk m hO c 2 t) (iblk m hO c 3 t) (iblk m hO c 4 t) (iblk m hO c 5 t) (iblk m hO c 6 t) _ hu (fun h => h0 (h2.mp h)) (h3.mpr h0) (fun h => (h4.mp h).1 hu) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HT0]; · iexact HT0
      isplitl [HT1]; · iexact HT1
      isplitl [H7]; · iexact H7
      iintro ⟨H0, H1, H2, H3, H4, H5, H6, HT0, HT1, H7⟩
      isplitl [HA HT0 HT1]
      · isplitl [HA]; · iexact HA
        isplitl [HT0]; · iexact HT0
        iexact HT1
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · have hu4 : ¬ (¬ Used m (grid0.coords t) ∧ (grid0.coords t 1).val = 0) := fun h => h0 h.2
      rw [held_odd m hO c t hodd]
      unfold next
      rw [if_neg hu, if_neg (by omega)]
      simp only [before7 m hO c t hodd]
      iintro ⟨⟨HA, HT0, HT1⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (runSkip c (grid0.coords t) _ _ _ _ _ _ _ _ _ _ _ _ _ _ _ _ (tbl m 1) hu (fun h => hu4 (h4.mp h)) (iprop(emp)) _)
      isplitl [HT1]; · iexact HT1
      isplitr; · iempintro
      iintro ⟨HT1, -⟩
      isplitl [HA HT0 HT1]
      · isplitl [HA]; · iexact HA
        isplitl [HT0]; · iexact HT0
        iexact HT1
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7

theorem row_eq (hO : Ok m) (t : Fin (cfgM m hO).N) :
    defs₀ (F := F) .tc (cfgM m hO).body ((cfgM m hO).bodyArgs t ((cfgM m hO).slots t)) = bodyAt m hO t := by
  unfold defs₀; rw [Defs.onTc_tc]

theorem leaves7 (hO : Ok m) (c : Dev nD) (t : Fin (cfgM m hO).N) :
    (owns (c : Thread nD τ) (buf7 m hO t) fullShare ((dats m hO 0 c).after 7 t) : sProp (RM F)) ⊢ (dats m hO 0 c).leavesExact 7 t := by
  unfold Dat.leavesExact
  cases hi : (cfgM m hO).idle 7 ((cfgM m hO).grid.coords t) with
  | false => exact .rfl
  | true =>
    rw [(flush7 m hO t).mpr ((idle7 m hO t).mp hi).2]
    exact .rfl

set_option maxHeartbeats 3200000 in
theorem obligation (hO : Ok m) (c : Dev nD) : BodyObligation (dats (F := F) m hO 0 c) (defs₀ (F := F)) Variants.none () Set.univ := fun t => by
  rw [bigSep_W0, bigSep_W0, row_eq m hO]
  refine triple_restated (sound_body m hO c t) rfl .rfl fun _ => ?_
  unfold bodyPost
  iintro ⟨HP, Ho, H0, H1, H2, H3, H4, H5, H6, H7⟩
  isplitl [HP]; · iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iapply (leaves7 m hO c t)
  iexact H7

/-! ## The run -/

set_option backward.isDefEq.respectTransparency.types false in
theorem run_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_shared (Q' := _) pcfgs (fun _ => adm m hO) (dats m hO) (0 : Fin 1) launch₀0 defs₀ Variants.none m ρ main
    (hbody := fun c => (obligation m hO c).loose) (hq := fun _ _ _ => rfl)
    (howed := fun _ _ => rfl) (V := V m) (hmain := enters m Variants.none) (hA := A_eq m hO) (hpf := V_pre m) (hΦ := fun _ _ => rfl)

theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_quiescent m ρ hO)

/-- The arguments end as they began and every counter is zero, with what the result ends as. -/
theorem run_all (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_v4) = (dats m hO 0 c).arrAt 7 (cfgM m hO).N)
      ∧ r.2.sem = fun _ => 0) :=
  (θ_run defs _ _).mono (fun r h => ⟨fun c =>
    ⟨((h.1 c).2 main_arg0 (by decide : main_arg0 ∈ Pipeline.restRefs sig spec0)).trans (V_arg0 m c),
     ((h.1 c).2 main_arg1 (by decide : main_arg1 ∈ Pipeline.restRefs sig spec0)).trans (V_arg1 m c),
     ((h.1 c).1 0).trans (((dats m hO 0 c).arrAt_in 0 rfl _).trans ((A_eq m hO c 0).trans (V_arg2 m c))),
     ((h.1 c).2 main_arg3 (by decide : main_arg3 ∈ Pipeline.restRefs sig spec0)).trans (V_arg3 m c),
     ((h.1 c).2 main_arg4 (by decide : main_arg4 ∈ Pipeline.restRefs sig spec0)).trans (V_arg4 m c),
     ((h.1 c).2 main_arg5 (by decide : main_arg5 ∈ Pipeline.restRefs sig spec0)).trans (V_arg5 m c),
     ((h.1 c).2 main_arg6 (by decide : main_arg6 ∈ Pipeline.restRefs sig spec0)).trans (V_arg6 m c),
     (h.1 c).1 7⟩, h.2⟩) (run_quiescent m ρ hO)

/-- The frame: the arguments end as they began. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => ⟨(h.1 c).1, (h.1 c).2.1, (h.1 c).2.2.1, (h.1 c).2.2.2.1, (h.1 c).2.2.2.2.1, (h.1 c).2.2.2.2.2.1, (h.1 c).2.2.2.2.2.2.1⟩, h.2⟩) (run_all m ρ hO)

end Cert.Experts

end
-- ==== Proof.ExpPre.lean ====
module

public import proofs.«01_k».proof.Proof.ExpFrame
public import proofs.«01_k».proof.Proof.Gen.Pre_tables_in_range
public import Idealize.ShloMosaic.Lib.PlanTiles.Rows
import Idealize.ShloMosaic.Lib.Pointwise.ShapeOpsCore

/-! Which blocks the experts call reads: the index maps in closed form, and the precondition on the two tables. -/

@[expose] public section

set_option maxRecDepth 16384

noncomputable section

namespace Cert.Experts

open Cert.Kernel2Ideal Cert.Kernel2Ideal.Gen
open Idealize.ShloMosaic Idealize.ShloMosaic.TcCoe

/-! ## The words of the index maps -/

/-- The parity test as printed: a remainder by two with its sign repaired. -/
def isEvenW (k : BitVec 32) : BitVec 1 :=
  let d : BitVec 32 := Scalar.select (Scalar.cmpi .eq 2#32 0#32) 1#32 2#32
  let r : BitVec 32 := Scalar.remsi k d
  Scalar.cmpi .eq (Scalar.select (Scalar.andi (Scalar.xori (Scalar.cmpi .slt r 0#32) (Scalar.cmpi .slt d 0#32)) (Scalar.cmpi .ne r 0#32)) (Scalar.addi r d) r) 0#32

/-- The chunk of the expert's hidden layer a step reads, as printed. -/
def chunkW (a b w : BitVec 32) : BitVec 32 :=
  let s : BitVec 32 := Scalar.select (Scalar.cmpi .slt a w) b 1#32
  Scalar.select (isEvenW (Scalar.minsi a (Scalar.subi w 1#32))) s (Scalar.subi 1#32 s)

/-- The same chunk as a number: even blocks take the two chunks in order, odd ones in reverse. -/
def chunk (i c n : ℕ) : ℕ :=
  if min i (n - 1) % 2 = 0 then (if i < n then c else 1) else 1 - (if i < n then c else 1)

theorem chunk_lt (i c n : ℕ) (hc : c < 2) : chunk i c n < 2 := by
  unfold chunk; split <;> split <;> omega

theorem even_word : ∀ k : Fin 296, isEvenW (BitVec.ofNat 32 k.val) = BitVec.ofBool (decide (k.val % 2 = 0)) := by
  decide +kernel

theorem sub_word : ∀ c : Fin 2, Scalar.subi 1#32 (BitVec.ofNat 32 c.val) = BitVec.ofNat 32 (1 - c.val) := by decide

theorem less_word (i n : ℕ) (hi : i < 2 ^ 31) (hn : n < 2 ^ 31) : Scalar.cmpi .slt (BitVec.ofNat 32 i) (BitVec.ofNat 32 n) = BitVec.ofBool (decide (i < n)) := by
  show BitVec.ofBool ((BitVec.ofNat 32 i).slt (BitVec.ofNat 32 n)) = _
  congr 1
  rw [BitVec.slt_eq_decide]
  have h1 : (BitVec.ofNat 32 i).toInt = i := by
    rw [BitVec.toInt_eq_toNat_cond, BitVec.toNat_ofNat]; split <;> omega
  have h2 : (BitVec.ofNat 32 n).toInt = n := by
    rw [BitVec.toInt_eq_toNat_cond, BitVec.toNat_ofNat]; split <;> omega
  rw [h1, h2]
  exact decide_eq_decide.mpr (by omega)

theorem pred_word (n : ℕ) (h1 : 1 ≤ n) (h2 : n ≤ 296) : Scalar.subi (BitVec.ofNat 32 n) 1#32 = BitVec.ofNat 32 (n - 1) := by
  apply BitVec.eq_of_toNat_eq
  show (BitVec.ofNat 32 n - 1#32).toNat = _
  simp only [BitVec.toNat_sub, BitVec.toNat_ofNat]
  omega

theorem least_word (i n : ℕ) (hi : i < 296) (h1 : 1 ≤ n) (h2 : n ≤ 296) :
    Scalar.minsi (BitVec.ofNat 32 i) (Scalar.subi (BitVec.ofNat 32 n) 1#32) = BitVec.ofNat 32 (min i (n - 1)) := by
  rw [pred_word n h1 h2, min_comm]
  exact PlanTiles.minsi_word (by omega) (by omega)

theorem select_ofBool (p : Prop) [Decidable p] (x y : BitVec 32) : Scalar.select (BitVec.ofBool (decide p)) x y = if p then x else y := by
  by_cases h : p
  · rw [decide_eq_true h, if_pos h]; rfl
  · rw [decide_eq_false h, if_neg h]; rfl

theorem chunk_word (i c n : ℕ) (hi : i < 296) (hc : c < 2) (h1 : 1 ≤ n) (h2 : n ≤ 296) :
    chunkW (BitVec.ofNat 32 i) (BitVec.ofNat 32 c) (BitVec.ofNat 32 n) = BitVec.ofNat 32 (chunk i c n) := by
  have hs : Scalar.select (Scalar.cmpi .slt (BitVec.ofNat 32 i) (BitVec.ofNat 32 n)) (BitVec.ofNat 32 c) 1#32 = BitVec.ofNat 32 (if i < n then c else 1) := by
    rw [less_word i n (by omega) (by omega), select_ofBool]
    split <;> rfl
  have hlt : (if i < n then c else 1) < 2 := by split <;> omega
  unfold chunkW
  dsimp only
  rw [hs, least_word i n hi h1 h2, even_word ⟨min i (n - 1), by omega⟩, sub_word ⟨_, hlt⟩, select_ofBool]
  unfold chunk
  split <;> rfl

/-! ## The index maps -/

variable {F : FTy → Type} [FloatOps F]

/-- The expert of block `i`, and the number of used blocks, as the index maps load them. -/
def entry (pf : pre0.Contents (Elt F)) (i : grid0.Coords) : BitVec 32 := pf.at 0 (Rect.unit (s := S296) (k0_off1 i) S1.size (k0_off1_inb i)) numel1_S1
def count (pf : pre0.Contents (Elt F)) : BitVec 32 := pf.at 1 (Rect.unit (s := S1) ![0] S1.size inb_S1_S1_0) numel1_S1

/-- The tables name experts that there are, and a number of used blocks that there are. -/
structure Ranged (pf : pre0.Contents (Elt F)) : Prop where
  one_le : 1 ≤ (count pf).toNat
  le_all : (count pf).toNat ≤ 296
  expert : ∀ i : grid0.Coords, (entry pf i).toNat < 32

variable (pf : pre0.Contents (Elt F)) (i : grid0.Coords)

theorem map0_words : cc0_transform_0 inb_S1_S1_0 numel1_S1 pf i = ![(Scalar.minsi (BitVec.ofNat 32 (i 0).val) (Scalar.subi (count pf) 1#32)).toNat, 0] := rfl
theorem map1_words : cc0_transform_1 k0_off1_inb numel1_S1 inb_S1_S1_0 pf i = ![(entry pf i).toNat, 0, (chunkW (BitVec.ofNat 32 (i 0).val) (BitVec.ofNat 32 (i 1).val) (count pf)).toNat] := rfl
theorem map2_words : cc0_transform_2 k0_off1_inb numel1_S1 inb_S1_S1_0 pf i = ![(entry pf i).toNat, 0, (Scalar.addi 2#32 (chunkW (BitVec.ofNat 32 (i 0).val) (BitVec.ofNat 32 (i 1).val) (count pf))).toNat] := rfl
theorem map3_words : cc0_transform_3 k0_off1_inb numel1_S1 inb_S1_S1_0 pf i = ![(entry pf i).toNat, 0, (chunkW (BitVec.ofNat 32 (i 0).val) (BitVec.ofNat 32 (i 1).val) (count pf)).toNat] := rfl
theorem map4_words : cc0_transform_4 k0_off1_inb numel1_S1 inb_S1_S1_0 pf i = ![(entry pf i).toNat, 0, (Scalar.addi 2#32 (chunkW (BitVec.ofNat 32 (i 0).val) (BitVec.ofNat 32 (i 1).val) (count pf))).toNat] := rfl
theorem map5_words : cc0_transform_5 k0_off1_inb numel1_S1 inb_S1_S1_0 pf i = ![(entry pf i).toNat, (chunkW (BitVec.ofNat 32 (i 0).val) (BitVec.ofNat 32 (i 1).val) (count pf)).toNat, 0] := rfl
theorem map6_words : cc0_transform_6 k0_off1_inb numel1_S1 pf i = ![(entry pf i).toNat, 0, 0] := rfl

variable {pf}

theorem lt_rows : (i 0).val < 296 := (i 0).isLt
theorem lt_cols : (i 1).val < 2 := (i 1).isLt

/-- The chunk block `i` reads. -/
abbrev chk (pf : pre0.Contents (Elt F)) (i : grid0.Coords) : ℕ := chunk (i 0).val (i 1).val (count pf).toNat

theorem Ranged.word (h : Ranged pf) : chunkW (BitVec.ofNat 32 (i 0).val) (BitVec.ofNat 32 (i 1).val) (count pf) = BitVec.ofNat 32 (chk pf i) := by
  have e := chunk_word (i 0).val (i 1).val (count pf).toNat (lt_rows i) (lt_cols i) h.one_le h.le_all
  rw [BitVec.ofNat_toNat, BitVec.setWidth_eq] at e
  exact e

theorem Ranged.chk_lt (h : Ranged pf) : chk pf i < 2 := chunk_lt _ _ _ (lt_cols i)

theorem Ranged.word_nat (h : Ranged pf) : (chunkW (BitVec.ofNat 32 (i 0).val) (BitVec.ofNat 32 (i 1).val) (count pf)).toNat = chk pf i := by
  have := h.chk_lt i
  rw [h.word, BitVec.toNat_ofNat]; omega

theorem Ranged.upper_nat (h : Ranged pf) : (Scalar.addi 2#32 (chunkW (BitVec.ofNat 32 (i 0).val) (BitVec.ofNat 32 (i 1).val) (count pf))).toNat = 2 + chk pf i := by
  have := h.chk_lt i
  rw [h.word]
  show (2#32 + BitVec.ofNat 32 (chk pf i)).toNat = _
  simp only [BitVec.toNat_add, BitVec.toNat_ofNat]
  omega

theorem Ranged.map0 (h : Ranged pf) : cc0_transform_0 inb_S1_S1_0 numel1_S1 pf i = ![min (i 0).val ((count pf).toNat - 1), 0] := by
  have h1 := h.one_le; have h2 := h.le_all; have h3 := lt_rows i
  have e := least_word (i 0).val (count pf).toNat (lt_rows i) h1 h2
  rw [BitVec.ofNat_toNat, BitVec.setWidth_eq] at e
  rw [map0_words, e, BitVec.toNat_ofNat, Nat.mod_eq_of_lt (by omega)]
theorem Ranged.map1 (h : Ranged pf) : cc0_transform_1 k0_off1_inb numel1_S1 inb_S1_S1_0 pf i = ![(entry pf i).toNat, 0, chk pf i] := by rw [map1_words, h.word_nat]
theorem Ranged.map2 (h : Ranged pf) : cc0_transform_2 k0_off1_inb numel1_S1 inb_S1_S1_0 pf i = ![(entry pf i).toNat, 0, 2 + chk pf i] := by rw [map2_words, h.upper_nat]
theorem Ranged.map3 (h : Ranged pf) : cc0_transform_3 k0_off1_inb numel1_S1 inb_S1_S1_0 pf i = ![(entry pf i).toNat, 0, chk pf i] := by rw [map3_words, h.word_nat]
theorem Ranged.map4 (h : Ranged pf) : cc0_transform_4 k0_off1_inb numel1_S1 inb_S1_S1_0 pf i = ![(entry pf i).toNat, 0, 2 + chk pf i] := by rw [map4_words, h.upper_nat]
theorem Ranged.map5 (h : Ranged pf) : cc0_transform_5 k0_off1_inb numel1_S1 inb_S1_S1_0 pf i = ![(entry pf i).toNat, chk pf i, 0] := by rw [map5_words, h.word_nat]

/-- Every block is then inside its array, in whole words. -/
theorem Ranged.ok (h : Ranged pf) : ok0 pf := by
  have h1 := h.one_le
  have h2 := h.le_all
  refine ⟨fun i => ⟨fun a => ?_, .inl rfl⟩, fun i => ⟨fun a => ?_, .inr (.inr ⟨by decide, rfl, ?_, rfl⟩)⟩, fun i => ⟨fun a => ?_, .inr (.inr ⟨by decide, rfl, ?_, rfl⟩)⟩,
    fun i => ⟨fun a => ?_, .inl rfl⟩, fun i => ⟨fun a => ?_, .inl rfl⟩, fun i => ⟨fun a => ?_, .inr (.inl (.inr ⟨by decide, rfl, .inl ⟨?_, ?_⟩⟩))⟩, fun i => ⟨fun a => ?_, .inl rfl⟩⟩
  · have h3 := lt_rows i
    rw [h.map0]
    match a with
    | ⟨0, _⟩ => show (min (i 0).val ((count pf).toNat - 1) + 1) * 512 ≤ 151552; omega
    | ⟨1, _⟩ => show (0 + 1) * 2048 ≤ 2048; omega
  · have he := h.expert i; have hc := h.chk_lt i
    rw [h.map1]
    match a with
    | ⟨0, _⟩ => show ((entry pf i).toNat + 1) * 1 ≤ 32; omega
    | ⟨1, _⟩ => show (0 + 1) * 2048 ≤ 2048; omega
    | ⟨2, _⟩ => show (chk pf i + 1) * 1024 ≤ 4096; omega
  · rfl
  · have he := h.expert i; have hc := h.chk_lt i
    rw [h.map2]
    match a with
    | ⟨0, _⟩ => show ((entry pf i).toNat + 1) * 1 ≤ 32; omega
    | ⟨1, _⟩ => show (0 + 1) * 2048 ≤ 2048; omega
    | ⟨2, _⟩ => show (2 + chk pf i + 1) * 1024 ≤ 4096; omega
  · rfl
  · have he := h.expert i; have hc := h.chk_lt i
    rw [h.map3]
    match a with
    | ⟨0, _⟩ => show ((entry pf i).toNat + 1) * 1 ≤ 32; omega
    | ⟨1, _⟩ => show (0 + 1) * 1 ≤ 1; omega
    | ⟨2, _⟩ => show (chk pf i + 1) * 1024 ≤ 4096; omega
  · have he := h.expert i; have hc := h.chk_lt i
    rw [h.map4]
    match a with
    | ⟨0, _⟩ => show ((entry pf i).toNat + 1) * 1 ≤ 32; omega
    | ⟨1, _⟩ => show (0 + 1) * 1 ≤ 1; omega
    | ⟨2, _⟩ => show (2 + chk pf i + 1) * 1024 ≤ 4096; omega
  · have he := h.expert i; have hc := h.chk_lt i
    rw [h.map5]
    match a with
    | ⟨0, _⟩ => show ((entry pf i).toNat + 1) * 1 ≤ 32; omega
    | ⟨1, _⟩ => show (chk pf i + 1) * 1024 ≤ 2048; omega
    | ⟨2, _⟩ => show (0 + 1) * 2048 ≤ 2048; omega
  · exact Dvd.dvd.mul_left (show 2 ∣ 1024 by decide) _
  · exact (show 2 ∣ 1024 by decide)
  · have he := h.expert i
    rw [map6_words]
    match a with
    | ⟨0, _⟩ => show ((entry pf i).toNat + 1) * 1 ≤ 32; omega
    | ⟨1, _⟩ => show (0 + 1) * 1 ≤ 1; omega
    | ⟨2, _⟩ => show (0 + 1) * 2048 ≤ 2048; omega

/-! ## The precondition -/

theorem and_one (a b : BitVec 1) : IntOp.andi a b = 1#1 ↔ a = 1#1 ∧ b = 1#1 := by revert a b; decide

theorem ofBool_one : ∀ b : Bool, BitVec.ofBool b = 1#1 ↔ b = true := by decide

theorem decode (t : IVec S296 32) (n : IVec S1 32) (x2 : FVec F S151552x2048 .f32) (x3 : FVec F S32x2048x4096 .f32) (x4 : FVec F S32x4096 .f32) (x5 : FVec F S32x2048x2048 .f32) (x6 : FVec F S32x2048 .f32)
    (h1 : (Cert.Pre_tables_in_range.fn (F := F) t n x2 x3 x4 x5 x6).1 = fun _ => 1#1) (h2 : (Cert.Pre_tables_in_range.fn (F := F) t n x2 x3 x4 x5 x6).2 = fun _ => 1#1) :
    (∀ y, (t y).toNat < 32) ∧ ∀ y, 1 ≤ (n y).toNat ∧ (n y).toNat ≤ 296 := by
  refine ⟨fun y => ?_, fun y => ?_⟩
  · have h := congrFun h1 y
    simp only [Cert.Pre_tables_in_range.fn, constantI, broadcastInDim, cmpi, andi, and_one] at h
    obtain ⟨ha, hb⟩ := h
    have ha' : BitVec.ofBool (decide ((0#32).toInt ≤ (t y).toInt)) = 1#1 := ha
    have hb' : BitVec.ofBool (decide ((t y).toInt < (32#32).toInt)) = 1#1 := hb
    rw [ofBool_one, decide_eq_true_iff] at ha' hb'
    have e0 : (0#32).toInt = 0 := by decide
    have e1 : (32#32).toInt = 32 := by decide
    have hlt := (t y).isLt
    have hc := BitVec.toInt_eq_toNat_cond (t y)
    split at hc <;> omega
  · have h := congrFun h2 y
    simp only [Cert.Pre_tables_in_range.fn, constantI, broadcastInDim, cmpi, andi, and_one] at h
    obtain ⟨ha, hb⟩ := h
    have ha' : BitVec.ofBool (decide ((1#32).toInt ≤ (n y).toInt)) = 1#1 := ha
    have hb' : BitVec.ofBool (decide ((n y).toInt ≤ (296#32).toInt)) = 1#1 := hb
    rw [ofBool_one, decide_eq_true_iff] at ha' hb'
    have e0 : (1#32).toInt = 1 := by decide
    have e1 : (296#32).toInt = 296 := by decide
    have hlt := (n y).isLt
    have hc := BitVec.toInt_eq_toNat_cond (n y)
    split at hc <;> omega

variable (m : (ℓ : Loc nD τ sig) → Buf (Elt F) ℓ)

theorem tbl_zero : tbl m 0 = (m (((0 : Dev nD) : Thread nD τ).loc main_arg0)) := V_arg0 m 0
theorem tbl_one : tbl m 1 = (m (((0 : Dev nD) : Thread nD τ).loc main_arg1)) := V_arg1 m 0

/-- The table's words of any contents, read where a map reads them. -/
theorem entry_at (pf : pre0.Contents (Elt F)) (i : grid0.Coords) : ∃ y, entry pf i = pf 0 y := ⟨_, rfl⟩
theorem count_at (pf : pre0.Contents (Elt F)) : ∃ y, count pf = pf 1 y := ⟨_, rfl⟩

theorem ranged_of (t : IVec S296 32) (n : IVec S1 32) (ht : tbl m 0 = t) (hn : tbl m 1 = n)
    (h : (∀ y, (t y).toNat < 32) ∧ ∀ y, 1 ≤ (n y).toNat ∧ (n y).toNat ≤ 296) : Ranged (tbl m) := by
  obtain ⟨y, hy⟩ := count_at (tbl m)
  refine ⟨?_, ?_, fun i => ?_⟩
  · rw [hy, hn]; exact (h.2 y).1
  · rw [hy, hn]; exact (h.2 y).2
  · obtain ⟨z, hz⟩ := entry_at (tbl m) i
    rw [hz, ht]; exact h.1 z

/-- The precondition's two functions are all ones: then the tables are in range. -/
theorem ranged (x2 : FVec F S151552x2048 .f32) (x3 : FVec F S32x2048x4096 .f32) (x4 : FVec F S32x4096 .f32) (x5 : FVec F S32x2048x2048 .f32) (x6 : FVec F S32x2048 .f32)
    (h1 : (Cert.Pre_tables_in_range.fn (F := F) (m (((0 : Dev nD) : Thread nD τ).loc main_arg0)) (m (((0 : Dev nD) : Thread nD τ).loc main_arg1)) x2 x3 x4 x5 x6).1 = fun _ => 1#1)
    (h2 : (Cert.Pre_tables_in_range.fn (F := F) (m (((0 : Dev nD) : Thread nD τ).loc main_arg0)) (m (((0 : Dev nD) : Thread nD τ).loc main_arg1)) x2 x3 x4 x5 x6).2 = fun _ => 1#1) : Ranged (tbl m) :=
  ranged_of m _ _ (tbl_zero m) (tbl_one m) (decode _ _ x2 x3 x4 x5 x6 h1 h2)

end Cert.Experts

end
-- ==== Proof.ExpClaim.lean ====
/- The experts call's frames and value. -/
module

public import proofs.«01_k».proof.Defs
public import proofs.«01_k».proof.Proof.ExpPre
public import proofs.«01_k».proof.Proof.Gen.Kernel2
public import proofs.«01_k».proof.Proof.Gen.Kernel2Ideal
public import proofs.«01_k».proof.Proof.Gen.Reference2Ideal
public import proofs.«01_k».proof.Proof.Gen.Reference2Ideal.Run
public import proofs.«01_k».proof.Proof.Gen.Pre_tables_in_range
import Idealize.ShloMosaic.Lib.Quiescent

@[expose] public section

set_option maxRecDepth 16384

noncomputable section

open Idealize.ShloMosaic Idealize.ShloMosaic.TcCoe Idealize.SL.Sem

namespace Cert.Experts

theorem frame_ideal : quiescent_Kernel2Ideal (hKernel2Ideal := Cert.Kernel2Ideal.Gen.facts) (hPre_tables_in_range := Cert.Pre_tables_in_range.Gen.facts) :=
  fun m g h => frame m g (ranged m _ _ _ _ _ (h 0).1 (h 0).2).ok

/-! The kernel's own program has the same text, so its run is the run at its own floats. -/

set_option maxHeartbeats 2000000 in
theorem main_same : @Cert.Kernel2.main Bits _ Cert.Kernel2.Gen.facts = @Cert.Kernel2Ideal.main Bits _ Cert.Kernel2Ideal.Gen.facts := rfl

set_option maxHeartbeats 2000000 in
theorem bodies_same : @Cert.Kernel2.defs₀ Bits _ Cert.Kernel2.Gen.facts = @Cert.Kernel2Ideal.defs₀ Bits _ Cert.Kernel2Ideal.Gen.facts := by
  unfold Cert.Kernel2.defs₀ Cert.Kernel2Ideal.defs₀
  refine congrArg Defs.onTc ?_
  funext l
  obtain rfl : l = 0 := Subsingleton.elim _ _
  rfl

set_option maxHeartbeats 2000000 in
theorem calls_same : @Cert.Kernel2.pcfgs Bits _ Cert.Kernel2.Gen.facts = @Cert.Kernel2Ideal.pcfgs Bits _ Cert.Kernel2Ideal.Gen.facts := rfl

set_option maxHeartbeats 2000000 in
theorem defs_same : @Cert.Kernel2.defs Bits _ Cert.Kernel2.Gen.facts = @Cert.Kernel2Ideal.defs Bits _ Cert.Kernel2Ideal.Gen.facts := by
  unfold Cert.Kernel2.defs Cert.Kernel2Ideal.defs
  exact congrArg (Pipeline.defs (@Cert.Kernel2Ideal.pcfgs Bits _ Cert.Kernel2Ideal.Gen.facts)) bodies_same

theorem run_of_same {d d' : Defs Cert.Kernel2Ideal.nD Cert.Kernel2Ideal.τ Cert.Kernel2Ideal.sig (Elt Bits) (Pipeline.Sig Cert.Kernel2Ideal.Λ₀ (Fin 1) fun p => (@Cert.Kernel2Ideal.pcfgs Bits _ Cert.Kernel2Ideal.Gen.facts p).Adm)}
    {p p' : Dev Cert.Kernel2Ideal.nD → Prog (TpuEff Cert.Kernel2Ideal.nD Cert.Kernel2Ideal.τ Cert.Kernel2Ideal.sig (Elt Bits) (Pipeline.Sig Cert.Kernel2Ideal.Λ₀ (Fin 1) fun p => (@Cert.Kernel2Ideal.pcfgs Bits _ Cert.Kernel2Ideal.Gen.facts p).Adm) .tc) PUnit}
    (hd : d = d') (hp : p = p') {s Q} (h : θ_run d' (onTc (τ := Cert.Kernel2Ideal.τ) p') s Q) : θ_run d (onTc (τ := Cert.Kernel2Ideal.τ) p) s Q := by
  subst hd hp
  exact h

set_option maxHeartbeats 4000000 in
theorem frame_bits : quiescent_Kernel2 (hKernel2 := Cert.Kernel2.Gen.facts) (hPre_tables_in_range := Cert.Pre_tables_in_range.Gen.facts) :=
  fun m g h => run_of_same (d := @Cert.Kernel2.defs Bits _ Cert.Kernel2.Gen.facts) (p := @Cert.Kernel2.main Bits _ Cert.Kernel2.Gen.facts) defs_same main_same
    (frame (F := Bits) m g (ranged m _ _ _ _ _ (h 0).1 (h 0).2).ok)

theorem frame_reference : quiescent_Reference2Ideal (hReference2Ideal := Cert.Reference2Ideal.Gen.facts) :=
  fun m g _ => (θ_run Cert.Reference2Ideal.defs _ _).mono (fun r h => ⟨fun c => (h c).2, sem_eq_zero_of_no_sems rfl _⟩) (Cert.Reference2Ideal.Value.run m g)

end Cert.Experts

end
-- ==== Proof.ExpSpec.lean ====
/- The experts' layer as a formula: one row of one block through the gated hidden layer of its expert. Arrays are
   indexed by natural numbers, so that the kernel's tiles and the reference's blocks read the same entries. -/
module

public import proofs.«01_k».proof.Proof.AttnSpec

@[expose] public section

set_option maxRecDepth 16384

noncomputable section

open Idealize.ShloMosaic

namespace Cert.ExpSpec

open Cert.AttnSpec

/-- Entry `(a, b, c)` of an array of rank three. -/
def nat3 {L M N : ℕ} (Z : (⟨3, ![L, M, N]⟩ : Shape).Idx → EReal) (a b c : ℕ) : EReal :=
  if h : a < L ∧ b < M ∧ c < N then Z (ix3 ⟨a, h.1⟩ ⟨b, h.2.1⟩ ⟨c, h.2.2⟩) else 0

theorem nat3_val {L M N : ℕ} (Z : (⟨3, ![L, M, N]⟩ : Shape).Idx → EReal) (a : Fin L) (b : Fin M) (c : Fin N) (a' b' c' : ℕ) (ha : a.val = a') (hb : b.val = b') (hc : c.val = c') :
    Z (ix3 a b c) = nat3 Z a' b' c' := by
  subst ha hb hc
  exact (dif_pos ⟨a.isLt, b.isLt, c.isLt⟩ : nat3 Z a.val b.val c.val = _).symm

/-- The gate's cut at 7, and the gated product. -/
def cut (g : EReal) : EReal := min g (Ideal.ofBits .f32 0x40E00000#32)

def act (g u : EReal) : EReal :=
  cut g * Ideal.logistic (Ideal.ofBits .f32 0x3FD9DB23#32 * cut g)
    * (min (Ideal.ofBits .f32 0x40E00000#32) (max (Ideal.ofBits .f32 0xC0E00000#32) u) + 1)

/-- One unit of the first layer. -/
def unit (x : ℕ → ℕ → EReal) (w1 : ℕ → ℕ → ℕ → EReal) (b1 : ℕ → ℕ → EReal) (R e f : ℕ) : EReal :=
  (∑ k : Fin 2048, x R k.val * w1 e k.val f) + b1 e f

/-- What hidden unit `f` adds to column `C` of row `R`. -/
def part (x : ℕ → ℕ → EReal) (w1 : ℕ → ℕ → ℕ → EReal) (b1 : ℕ → ℕ → EReal) (w2 : ℕ → ℕ → ℕ → EReal) (R e C f : ℕ) : EReal :=
  act (unit x w1 b1 R e f) (unit x w1 b1 R e (2048 + f)) * w2 e f C

/-- The whole row against column `C`. -/
def ffn (x : ℕ → ℕ → EReal) (w1 : ℕ → ℕ → ℕ → EReal) (b1 : ℕ → ℕ → EReal) (w2 : ℕ → ℕ → ℕ → EReal) (b2 : ℕ → ℕ → EReal) (R e C : ℕ) : EReal :=
  (∑ f : Fin 2048, part x w1 b1 w2 R e C f.val) + b2 e C

/-- Entry `(R, C)` of the result: blocks of 512 rows, the first `n` of them used. -/
def moe (tab : ℕ → ℕ) (n : ℕ) (x : ℕ → ℕ → EReal) (w1 : ℕ → ℕ → ℕ → EReal) (b1 : ℕ → ℕ → EReal) (w2 : ℕ → ℕ → ℕ → EReal) (b2 : ℕ → ℕ → EReal) (R C : ℕ) : EReal :=
  if R / 512 < n then ffn x w1 b1 w2 b2 R (tab (R / 512)) C else 0

/-- The experts' table as natural numbers. -/
def nums {B : ℕ} (t : (⟨1, ![B]⟩ : Shape).Idx → BitVec 32) (i : ℕ) : ℕ := if h : i < B then (t (ix1 ⟨i, h⟩)).toNat else 0

theorem nums_val {B : ℕ} (t : (⟨1, ![B]⟩ : Shape).Idx → BitVec 32) (i : Fin B) (i' : ℕ) (h : i.val = i') : (t (ix1 i)).toNat = nums t i' := by
  subst h
  exact (dif_pos i.isLt : nums t i.val = _).symm

/-- Half of the hidden units. -/
def halfSum (p : ℕ → EReal) (q : ℕ) : EReal := ∑ f : Fin 1024, p (1024 * q + f.val)

theorem halves (p : ℕ → EReal) : ∑ f : Fin 2048, p f.val = halfSum p 0 + halfSum p 1 := by
  rw [show (∑ f : Fin 2048, p f.val) = ∑ f : Fin (1024 + 1024), p f.val from rfl, Fin.sum_univ_add]
  unfold halfSum
  congr 1

/-- The two halves in either order, the bias added with the first. -/
theorem two_steps (p : ℕ → EReal) (b : EReal) (q : ℕ) (hq : q < 2) :
    (halfSum p q + b) + halfSum p (1 - q) = (∑ f : Fin 2048, p f.val) + b := by
  rw [halves]
  interval_cases q
  · exact add_right_comm _ _ _
  · show (halfSum p 1 + b) + halfSum p 0 = _
    rw [add_right_comm, add_comm (halfSum p 1)]

/-! ## Rows of an array by a column of indices -/

theorem gather3_at {N B R C w : ℕ} (d : GatherDims ⟨3, ![N, R, C]⟩ ⟨2, ![B, 1]⟩ ⟨3, ![B, R, C]⟩)
    (h1 : d.offsetDims = [1, 2]) (h2 : d.collapsedSliceDims = [0]) (h3 : d.operandBatchingDims = []) (h4 : d.startIndicesBatchingDims = [])
    (h5 : d.startIndexMap = [0]) (h6 : d.indexVectorDim = 1) (h7 : d.sliceSizes = ![1, R, C])
    {α : Type} (x : (⟨3, ![N, R, C]⟩ : Shape).Idx → α) (idx : IVec ⟨2, ![B, 1]⟩ w) (b : Fin B) (r : Fin R) (c : Fin C) (e : Fin N)
    (he : (idx (ix2 b 0)).toInt.toNat = e.val) :
    Host.gather d x idx (ix3 b r c) = x (ix3 e r c) := by
  obtain ⟨o, cs, ob, sb, sm, iv, ss, wf⟩ := d
  subst h1 h2 h3 h4 h5 h6 h7
  unfold Host.gather
  refine congrArg x (funext fun a => Fin.ext ?_)
  have hsi : ∀ k, GatherDims.siIdx (⟨[1, 2], [0], [], [], [0], 1, ![1, R, C], wf⟩ : GatherDims ⟨3, ![N, R, C]⟩ ⟨2, ![B, 1]⟩ ⟨3, ![B, R, C]⟩) (ix3 b r c) k = ix2 b 0 := by
    intro k; funext j; refine Fin.ext ?_
    match j with
    | ⟨0, _⟩ => rfl
    | ⟨1, _⟩ =>
      show k.val = 0
      have := k.isLt
      simpa using this
  have hlt := e.isLt
  match a with
  | ⟨0, _⟩ =>
    show GatherDims.start _ _ idx 0 + GatherDims.batchCoord _ _ 0 + GatherDims.offCoord _ _ 0 = e.val
    rw [GatherDims.batchCoord_eq_zero _ _ _ List.not_mem_nil, GatherDims.offCoord_eq_zero _ _ _ (fun h => ((GatherDims.mem_sKept _ _).mp h).1 (List.mem_singleton.mpr rfl))]
    unfold GatherDims.start
    rw [dif_pos (List.mem_singleton.mpr rfl), hsi]
    show min (idx (ix2 b 0)).toInt.toNat (N - 1) + 0 + 0 = e.val
    omega
  | ⟨1, _⟩ =>
    show 0 + 0 + r.val = r.val
    omega
  | ⟨2, _⟩ =>
    show 0 + 0 + c.val = c.val
    omega

theorem gather2_at {N B C w : ℕ} (d : GatherDims ⟨2, ![N, C]⟩ ⟨2, ![B, 1]⟩ ⟨2, ![B, C]⟩)
    (h1 : d.offsetDims = [1]) (h2 : d.collapsedSliceDims = [0]) (h3 : d.operandBatchingDims = []) (h4 : d.startIndicesBatchingDims = [])
    (h5 : d.startIndexMap = [0]) (h6 : d.indexVectorDim = 1) (h7 : d.sliceSizes = ![1, C])
    {α : Type} (x : (⟨2, ![N, C]⟩ : Shape).Idx → α) (idx : IVec ⟨2, ![B, 1]⟩ w) (b : Fin B) (c : Fin C) (e : Fin N)
    (he : (idx (ix2 b 0)).toInt.toNat = e.val) :
    Host.gather d x idx (ix2 b c) = x (ix2 e c) := by
  obtain ⟨o, cs, ob, sb, sm, iv, ss, wf⟩ := d
  subst h1 h2 h3 h4 h5 h6 h7
  unfold Host.gather
  refine congrArg x (funext fun a => Fin.ext ?_)
  have hsi : ∀ k, GatherDims.siIdx (⟨[1], [0], [], [], [0], 1, ![1, C], wf⟩ : GatherDims ⟨2, ![N, C]⟩ ⟨2, ![B, 1]⟩ ⟨2, ![B, C]⟩) (ix2 b c) k = ix2 b 0 := by
    intro k; funext j; refine Fin.ext ?_
    match j with
    | ⟨0, _⟩ => rfl
    | ⟨1, _⟩ =>
      show k.val = 0
      have := k.isLt
      simpa using this
  have hlt := e.isLt
  match a with
  | ⟨0, _⟩ =>
    show GatherDims.start _ _ idx 0 + GatherDims.batchCoord _ _ 0 + GatherDims.offCoord _ _ 0 = e.val
    rw [GatherDims.batchCoord_eq_zero _ _ _ List.not_mem_nil, GatherDims.offCoord_eq_zero _ _ _ (fun h => ((GatherDims.mem_sKept _ _).mp h).1 (List.mem_singleton.mpr rfl))]
    unfold GatherDims.start
    rw [dif_pos (List.mem_singleton.mpr rfl), hsi]
    show min (idx (ix2 b 0)).toInt.toNat (N - 1) + 0 + 0 = e.val
    omega
  | ⟨1, _⟩ =>
    show 0 + 0 + c.val = c.val
    omega

end Cert.ExpSpec

end
-- ==== Proof.ExpPay.lean ====
/- The experts' payloads read at an index. -/
module

public import proofs.«01_k».proof.Proof.ExpSpec
public import proofs.«01_k».proof.Proof.Gen.Kernel2Ideal.Skeleton
import Idealize.ShloMosaic.Lib.Pointwise.Tactic

@[expose] public section

set_option maxRecDepth 16384

noncomputable section

open Idealize.ShloMosaic

namespace Cert.Experts

open Cert.Kernel2Ideal Cert.Kernel2Ideal.Gen Cert.ExpSpec

/-- One gate or one upper unit, before the cut. -/
def layer (x : FVec Ideal S512x2048 .f32) (w : FVec Ideal S1x2048x1024 .bf16) (b : FVec Ideal S1x1x1024 .f32) : FVec Ideal S512x1024 .f32 :=
  addf (matmul dot_S512x2048_S2048x1024_S512x1024_1_0_0_1_n_n none (truncf .bf16 x bitsLt_bf16_f32) (shapeCast S2048x1024 w shapeCasts_S1x2048x1024_S2048x1024) (constant S512x1024 .f32 0x00000000#32))
    (broadcastTo S512x1024 (shapeCast S1x1024 b shapeCasts_S1x1x1024_S1x1024) broadcasts_S1x1024_S512x1024)

theorem layer_at (x : FVec Ideal S512x2048 .f32) (w : FVec Ideal S1x2048x1024 .bf16) (b : FVec Ideal S1x1x1024 .f32) (a : Fin 512) (f : Fin 1024) :
    layer x w b (ix2 a f) = (∑ k : Fin 2048, x (ix2 a k) * w (ix3 0 k f)) + b (ix3 0 0 f) := by
  pointwise [layer]

/-- The gated units. -/
def gated (g u : FVec Ideal S512x1024 .f32) : FVec Ideal S512x1024 .f32 :=
  mulf (mulf (minimumf g (broadcast S512x1024 (Scalar.ofBits .f32 0x40E00000#32))) (logistic (mulf (broadcast S512x1024 (Scalar.ofBits .f32 0x3FD9DB23#32)) (minimumf g (broadcast S512x1024 (Scalar.ofBits .f32 0x40E00000#32))))))
    (addf (minimumf (broadcast S512x1024 (Scalar.ofBits .f32 0x40E00000#32)) (maximumf (broadcast S512x1024 (Scalar.ofBits .f32 0xC0E00000#32)) u)) (broadcast S512x1024 (Scalar.ofBits .f32 0x3F800000#32)))

theorem gated_at (g u : FVec Ideal S512x1024 .f32) (y : S512x1024.Idx) : gated g u y = act (g y) (u y) := by
  show _ * _ * (_ + Ideal.ofBits .f32 0x3F800000#32) = _
  rw [Ideal.ofBits_one_f32]
  rfl

def lower (h : FVec Ideal S512x1024 .f32) (w : FVec Ideal S1x1024x2048 .bf16) : FVec Ideal S512x2048 .f32 :=
  matmul dot_S512x1024_S1024x2048_S512x2048_1_0_0_1_n_n none (truncf .bf16 h bitsLt_bf16_f32) (shapeCast S1024x2048 w shapeCasts_S1x1024x2048_S1024x2048) (constant S512x2048 .f32 0x00000000#32)

theorem lower_at (h : FVec Ideal S512x1024 .f32) (w : FVec Ideal S1x1024x2048 .bf16) (a : Fin 512) (C : Fin 2048) :
    lower h w (ix2 a C) = ∑ f : Fin 1024, h (ix2 a f) * w (ix3 0 f C) := by
  pointwise [lower]

theorem pay4_stages (x : FVec Ideal S512x2048 .f32) (wg : FVec Ideal S1x2048x1024 .bf16) (bg : FVec Ideal S1x1x1024 .f32) (wu : FVec Ideal S1x2048x1024 .bf16) (bu : FVec Ideal S1x1x1024 .f32) (w : FVec Ideal S1x1024x2048 .bf16) :
    k0_pay4 (F := Ideal) x wg bg wu bu w = lower (gated (layer x wg bg) (layer x wu bu)) w := rfl

theorem pay4_at (x : FVec Ideal S512x2048 .f32) (wg : FVec Ideal S1x2048x1024 .bf16) (bg : FVec Ideal S1x1x1024 .f32) (wu : FVec Ideal S1x2048x1024 .bf16) (bu : FVec Ideal S1x1x1024 .f32) (w : FVec Ideal S1x1024x2048 .bf16) (a : Fin 512) (C : Fin 2048) :
    k0_pay4 (F := Ideal) x wg bg wu bu w (ix2 a C)
      = ∑ f : Fin 1024, act ((∑ k : Fin 2048, x (ix2 a k) * wg (ix3 0 k f)) + bg (ix3 0 0 f)) ((∑ k : Fin 2048, x (ix2 a k) * wu (ix3 0 k f)) + bu (ix3 0 0 f)) * w (ix3 0 f C) := by
  rw [pay4_stages, lower_at]
  refine Finset.sum_congr rfl fun f _ => ?_
  rw [gated_at, layer_at, layer_at]

theorem pay1_at (v : FVec Ideal S512x2048 .f32) (b : FVec Ideal S1x1x2048 .f32) (a : Fin 512) (C : Fin 2048) :
    k0_pay1 (F := Ideal) v b (ix2 a C) = v (ix2 a C) + b (ix3 0 0 C) := by
  unfold k0_pay1
  pointwise

theorem pay2_at (v : FVec Ideal S512x2048 .f32) (p : FVec Ideal S512x2048 .f32) (a : Fin 512) (C : Fin 2048) :
    k0_pay2 (F := Ideal) v p (ix2 a C) = p (ix2 a C) + v (ix2 a C) := by
  unfold k0_pay2
  pointwise

theorem pay3_at (y : S512x2048.Idx) : k0_pay3 (F := Ideal) y = (0 : EReal) := by
  unfold k0_pay3
  exact Ideal.ofBits_zero_f32

/-- A payload over blocks that are the arrays' entries is half of the hidden units. -/
theorem pay4_half (x : ℕ → ℕ → EReal) (w1 : ℕ → ℕ → ℕ → EReal) (b1 : ℕ → ℕ → EReal) (w2 : ℕ → ℕ → ℕ → EReal)
    (X : FVec Ideal S512x2048 .f32) (wg : FVec Ideal S1x2048x1024 .bf16) (bg : FVec Ideal S1x1x1024 .f32) (wu : FVec Ideal S1x2048x1024 .bf16) (bu : FVec Ideal S1x1x1024 .f32) (w : FVec Ideal S1x1024x2048 .bf16)
    (i e q : ℕ)
    (hX : ∀ (a : Fin 512) (k : Fin 2048), X (ix2 a k) = x (512 * i + a.val) k.val)
    (hwg : ∀ (k : Fin 2048) (f : Fin 1024), wg (ix3 0 k f) = w1 e k.val (1024 * q + f.val))
    (hbg : ∀ f : Fin 1024, bg (ix3 0 0 f) = b1 e (1024 * q + f.val))
    (hwu : ∀ (k : Fin 2048) (f : Fin 1024), wu (ix3 0 k f) = w1 e k.val (1024 * (2 + q) + f.val))
    (hbu : ∀ f : Fin 1024, bu (ix3 0 0 f) = b1 e (1024 * (2 + q) + f.val))
    (hw : ∀ (f : Fin 1024) (C : Fin 2048), w (ix3 0 f C) = w2 e (1024 * q + f.val) C.val)
    (a : Fin 512) (C : Fin 2048) :
    k0_pay4 (F := Ideal) X wg bg wu bu w (ix2 a C) = halfSum (part x w1 b1 w2 (512 * i + a.val) e C.val) q := by
  rw [pay4_at]
  unfold halfSum part unit
  refine Finset.sum_congr rfl fun f _ => ?_
  have e2 : 2048 + (1024 * q + f.val) = 1024 * (2 + q) + f.val := by omega
  rw [hbg, hbu, hw, e2]
  simp only [hX, hwg, hwu]

end Cert.Experts

end
-- ==== Proof.ExpValue.lean ====
/- What the experts call leaves in its result, as a function of its arguments. -/
module

public import proofs.«01_k».proof.Proof.ExpPay
public import proofs.«01_k».proof.Proof.ExpPre
import Idealize.ShloMosaic.Lib.Pointwise.Tactic

@[expose] public section

set_option maxRecDepth 16384

noncomputable section

open Idealize.ShloMosaic Idealize.ShloMosaic.TcCoe

namespace Cert.Experts

open Cert.Kernel2Ideal Cert.Kernel2Ideal.Gen Cert.AttnSpec Cert.ExpSpec

/-! ## The tables' words -/

section
variable {F : FTy → Type} [FloatOps F]

theorem entry_eq (pf : pre0.Contents (Elt F)) (i : grid0.Coords) : entry pf i = pf 0 (ix1 (⟨(i 0).val, lt_rows i⟩ : Fin 296)) := by
  have h3 := lt_rows i
  refine congrArg (pf 0) (funext fun b => Fin.ext ?_)
  obtain rfl : b = (0 : Fin 1) := Subsingleton.elim (α := Fin 1) _ _
  show k0_off1 i 0 + 1 * 0 = (i 0).val
  show (BitVec.ofNat 32 (i 0).val).toNat + 1 * 0 = (i 0).val
  rw [BitVec.toNat_ofNat]
  omega

theorem count_eq (pf : pre0.Contents (Elt F)) : count pf = pf 1 (ix1 (0 : Fin 1)) := by
  refine congrArg (pf 1) (funext fun b => Fin.ext ?_)
  obtain rfl : b = (0 : Fin 1) := Subsingleton.elim (α := Fin 1) _ _
  rfl

theorem used_bit : ∀ b : BitVec 1, Scalar.cmpi .ne (Scalar.extui b : BitVec 32) 0#32 = 1#1 ↔ b = 1#1 := by decide

theorem used_word (i : grid0.Coords) (w : BitVec 32) (hw : w.toNat ≤ 296) : k0_cond1 i w = 1#1 ↔ (i 0).val < w.toNat := by
  have h3 := lt_rows i
  have e := less_word (i 0).val w.toNat (by omega) (by omega)
  rw [BitVec.ofNat_toNat, BitVec.setWidth_eq] at e
  refine (used_bit _).trans ?_
  rw [e, ofBool_one, decide_eq_true_iff]

end

/-! ## The windows' indices -/

section
variable {F : FTy → Type} [FloatOps F]

theorem index0 (a : (pcfg0 (F := F)).Adm) (t : Fin (cfg0 a).N) : ((cfg0 a).win 0).index t = cc0_transform_0 inb_S1_S1_0 numel1_S1 a.1 (grid0.coords t) := rfl
theorem index1 (a : (pcfg0 (F := F)).Adm) (t : Fin (cfg0 a).N) : ((cfg0 a).win 1).index t = cc0_transform_1 k0_off1_inb numel1_S1 inb_S1_S1_0 a.1 (grid0.coords t) := rfl
theorem index2 (a : (pcfg0 (F := F)).Adm) (t : Fin (cfg0 a).N) : ((cfg0 a).win 2).index t = cc0_transform_2 k0_off1_inb numel1_S1 inb_S1_S1_0 a.1 (grid0.coords t) := rfl
theorem index3 (a : (pcfg0 (F := F)).Adm) (t : Fin (cfg0 a).N) : ((cfg0 a).win 3).index t = cc0_transform_3 k0_off1_inb numel1_S1 inb_S1_S1_0 a.1 (grid0.coords t) := rfl
theorem index4 (a : (pcfg0 (F := F)).Adm) (t : Fin (cfg0 a).N) : ((cfg0 a).win 4).index t = cc0_transform_4 k0_off1_inb numel1_S1 inb_S1_S1_0 a.1 (grid0.coords t) := rfl
theorem index5 (a : (pcfg0 (F := F)).Adm) (t : Fin (cfg0 a).N) : ((cfg0 a).win 5).index t = cc0_transform_5 k0_off1_inb numel1_S1 inb_S1_S1_0 a.1 (grid0.coords t) := rfl
theorem index6 (a : (pcfg0 (F := F)).Adm) (t : Fin (cfg0 a).N) : ((cfg0 a).win 6).index t = cc0_transform_6 k0_off1_inb numel1_S1 a.1 (grid0.coords t) := rfl
theorem index7 (a : (pcfg0 (F := F)).Adm) (t : Fin (cfg0 a).N) : ((cfg0 a).win 7).index t = ![(BitVec.ofNat 32 (grid0.coords t 0).val).toNat, 0] := rfl

end

variable (m : (ℓ : Loc nD τ sig) → Buf (Elt Ideal) ℓ) (c : Dev nD)

abbrev rows : FVec Ideal S151552x2048 .f32 := m (c.tc.loc main_arg2)
abbrev up1 : FVec Ideal S32x2048x4096 .f32 := m (c.tc.loc main_arg3)
abbrev bias1 : FVec Ideal S32x4096 .f32 := m (c.tc.loc main_arg4)
abbrev down2 : FVec Ideal S32x2048x2048 .f32 := m (c.tc.loc main_arg5)
abbrev bias2 : FVec Ideal S32x2048 .f32 := m (c.tc.loc main_arg6)

theorem V0 : V m c main_v0 = (truncf .bf16 (up1 m c) bitsLt_bf16_f32 : FVec Ideal S32x2048x4096 .bf16) := by
  unfold V; simp only [hostOps0, List.flatten_cons, List.flatten_nil, List.append_nil, List.cons_append, List.nil_append, StableHlo.TRef.unary, StableHlo.TRef.binary, StableHlo.TRef.toBuf, StableHlo.TRef.ofBuf, cast_eq]; after_results
theorem V1 : V m c main_v1 = (shapeCast S32x1x4096 (bias1 m c) shapeCasts_S32x4096_S32x1x4096 : FVec Ideal S32x1x4096 .f32) := by
  unfold V; simp only [hostOps0, List.flatten_cons, List.flatten_nil, List.append_nil, List.cons_append, List.nil_append, StableHlo.TRef.unary, StableHlo.TRef.binary, StableHlo.TRef.toBuf, StableHlo.TRef.ofBuf, cast_eq]; after_results; rfl
theorem V2 : V m c main_v2 = (truncf .bf16 (down2 m c) bitsLt_bf16_f32 : FVec Ideal S32x2048x2048 .bf16) := by
  unfold V; simp only [hostOps0, List.flatten_cons, List.flatten_nil, List.append_nil, List.cons_append, List.nil_append, StableHlo.TRef.unary, StableHlo.TRef.binary, StableHlo.TRef.toBuf, StableHlo.TRef.ofBuf, cast_eq]; after_results
theorem V3 : V m c main_v3 = (shapeCast S32x1x2048 (bias2 m c) shapeCasts_S32x2048_S32x1x2048 : FVec Ideal S32x1x2048 .f32) := by
  unfold V; simp only [hostOps0, List.flatten_cons, List.flatten_nil, List.append_nil, List.cons_append, List.nil_append, StableHlo.TRef.unary, StableHlo.TRef.binary, StableHlo.TRef.toBuf, StableHlo.TRef.ofBuf, cast_eq]; after_results; rfl

variable (hO : Ok m) (hR : Ranged (tbl m)) (t : Fin (cfgM m hO).N)

/-- The expert, the number of used blocks and the chunk of step `t`. -/
abbrev ex (t : ℕ) : ℕ := nums (tbl m 0 : IVec S296 32) (t / 2)
abbrev cnt : ℕ := (count (tbl m)).toNat
abbrev ch (t : ℕ) : ℕ := chunk (t / 2) (t % 2) (cnt m)

theorem half_lt : t.val / 2 < 296 := by
  have h : t.val < 592 := t.isLt
  omega

theorem ex_eq : (entry (tbl m) (grid0.coords t)).toNat = ex m t.val := by
  rw [entry_eq]
  exact nums_val (tbl m 0 : IVec S296 32) ⟨(grid0.coords t 0).val, lt_rows _⟩ (t.val / 2) (row m hO t)

theorem ch_eq : chk (tbl m) (grid0.coords t) = ch m t.val := by
  unfold chk
  rw [row m hO t, col m hO t]

include hR in
theorem ex_lt : ex m t.val < 32 := by
  rw [← ex_eq m hO t]
  exact hR.expert _

theorem ch_lt : ch m t.val < 2 := chunk_lt _ _ _ (by omega)

include hR in
theorem at0 : ((cfgM m hO).win 0).index t = ![min (t.val / 2) (cnt m - 1), 0] := by
  refine (index0 (adm m hO) t).trans ((hR.map0 (grid0.coords t)).trans ?_)
  rw [row m hO t]

include hR in
theorem at1 : ((cfgM m hO).win 1).index t = ![ex m t.val, 0, ch m t.val] := by
  refine (index1 (adm m hO) t).trans ((hR.map1 (grid0.coords t)).trans ?_)
  rw [ex_eq m hO t, ch_eq m hO t]

include hR in
theorem at2 : ((cfgM m hO).win 2).index t = ![ex m t.val, 0, 2 + ch m t.val] := by
  refine (index2 (adm m hO) t).trans ((hR.map2 (grid0.coords t)).trans ?_)
  rw [ex_eq m hO t, ch_eq m hO t]

include hR in
theorem at3 : ((cfgM m hO).win 3).index t = ![ex m t.val, 0, ch m t.val] := by
  refine (index3 (adm m hO) t).trans ((hR.map3 (grid0.coords t)).trans ?_)
  rw [ex_eq m hO t, ch_eq m hO t]

include hR in
theorem at4 : ((cfgM m hO).win 4).index t = ![ex m t.val, 0, 2 + ch m t.val] := by
  refine (index4 (adm m hO) t).trans ((hR.map4 (grid0.coords t)).trans ?_)
  rw [ex_eq m hO t, ch_eq m hO t]

include hR in
theorem at5 : ((cfgM m hO).win 5).index t = ![ex m t.val, ch m t.val, 0] := by
  refine (index5 (adm m hO) t).trans ((hR.map5 (grid0.coords t)).trans ?_)
  rw [ex_eq m hO t, ch_eq m hO t]

theorem at6 : ((cfgM m hO).win 6).index t = ![ex m t.val, 0, 0] := by
  refine (index6 (adm m hO) t).trans ((map6_words (tbl m) (grid0.coords t)).trans ?_)
  rw [ex_eq m hO t]

theorem at7 : ((cfgM m hO).win 7).index t = ![t.val / 2, 0] := by
  refine (index7 (adm m hO) t).trans ?_
  have h := half_lt m hO t
  rw [row m hO t, BitVec.toNat_ofNat, Nat.mod_eq_of_lt (by omega)]

/-! ## The input blocks read at an index -/

theorem iblk_read (w : Fin (cfgM m hO).W) (Z : Buf (Elt Ideal) ((c : Thread nD τ).loc (Pipeline.arrRef spec0 w))) (hZ : V m c (Pipeline.arrRef spec0 w) = Z)
    (y : (((cfgM m hO).win w).xblock ((cfgM m hO).grid.coords t)).Idx) :
    iblk m hO c w t y = (((cfgM m hO).win w).blk t).view.read (Elt Ideal) Z y := by
  subst hZ
  rfl

include hR in
theorem blk0 (hu : t.val / 2 < cnt m) (a : Fin 512) (k : Fin 2048) : iblk m hO c 0 t (ix2 a k) = nat2 (rows m c) (512 * (t.val / 2) + a.val) k.val := by
  have ht := half_lt m hO t
  rw [← nat2_val (rows m c) ⟨512 * (t.val / 2) + a.val, by omega⟩ k _ _ rfl rfl]
  refine (iblk_read m c hO t 0 (rows m c) (V_arg2 m c) _).trans (congrArg (rows m c) ?_)
  have e : min (t.val / 2) (cnt m - 1) = t.val / 2 := by omega
  blk_ext [at0 m hO hR t, e]

include hR in
theorem blk1 (k : Fin 2048) (f : Fin 1024) : iblk m hO c 1 t (ix3 0 k f) = nat3 (up1 m c) (ex m t.val) k.val (1024 * ch m t.val + f.val) := by
  have he := ex_lt m hO hR t
  have hc := ch_lt m hO t
  rw [← nat3_val (up1 m c) ⟨ex m t.val, he⟩ k ⟨1024 * ch m t.val + f.val, by omega⟩ _ _ _ rfl rfl rfl]
  refine (iblk_read m c hO t 1 (up1 m c) (V0 m c) _).trans (congrArg (up1 m c) ?_)
  blk_ext [at1 m hO hR t]

include hR in
theorem blk2 (k : Fin 2048) (f : Fin 1024) : iblk m hO c 2 t (ix3 0 k f) = nat3 (up1 m c) (ex m t.val) k.val (1024 * (2 + ch m t.val) + f.val) := by
  have he := ex_lt m hO hR t
  have hc := ch_lt m hO t
  rw [← nat3_val (up1 m c) ⟨ex m t.val, he⟩ k ⟨1024 * (2 + ch m t.val) + f.val, by omega⟩ _ _ _ rfl rfl rfl]
  refine (iblk_read m c hO t 2 (up1 m c) (V0 m c) _).trans (congrArg (up1 m c) ?_)
  blk_ext [at2 m hO hR t]

/-- The first bias with its middle axis. -/
def bias1R : FVec Ideal S32x1x4096 .f32 := shapeCast S32x1x4096 (bias1 m c) shapeCasts_S32x4096_S32x1x4096

theorem bias1R_at (e : Fin 32) (f : Fin 4096) : bias1R m c (ix3 e 0 f) = nat2 (bias1 m c) e.val f.val := by
  rw [← nat2_val (bias1 m c) e f _ _ rfl rfl]
  unfold bias1R
  pointwise

def bias2R : FVec Ideal S32x1x2048 .f32 := shapeCast S32x1x2048 (bias2 m c) shapeCasts_S32x2048_S32x1x2048

theorem bias2R_at (e : Fin 32) (f : Fin 2048) : bias2R m c (ix3 e 0 f) = nat2 (bias2 m c) e.val f.val := by
  rw [← nat2_val (bias2 m c) e f _ _ rfl rfl]
  unfold bias2R
  pointwise

include hR in
theorem blk3 (f : Fin 1024) : iblk m hO c 3 t (ix3 0 0 f) = nat2 (bias1 m c) (ex m t.val) (1024 * ch m t.val + f.val) := by
  have he := ex_lt m hO hR t
  have hc := ch_lt m hO t
  refine Eq.trans ?_ (bias1R_at m c ⟨ex m t.val, he⟩ ⟨1024 * ch m t.val + f.val, by omega⟩)
  refine (iblk_read m c hO t 3 (bias1R m c) (V1 m c) _).trans (congrArg (bias1R m c) ?_)
  blk_ext [at3 m hO hR t]

include hR in
theorem blk4 (f : Fin 1024) : iblk m hO c 4 t (ix3 0 0 f) = nat2 (bias1 m c) (ex m t.val) (1024 * (2 + ch m t.val) + f.val) := by
  have he := ex_lt m hO hR t
  have hc := ch_lt m hO t
  refine Eq.trans ?_ (bias1R_at m c ⟨ex m t.val, he⟩ ⟨1024 * (2 + ch m t.val) + f.val, by omega⟩)
  refine (iblk_read m c hO t 4 (bias1R m c) (V1 m c) _).trans (congrArg (bias1R m c) ?_)
  blk_ext [at4 m hO hR t]

include hR in
theorem blk5 (f : Fin 1024) (C : Fin 2048) : iblk m hO c 5 t (ix3 0 f C) = nat3 (down2 m c) (ex m t.val) (1024 * ch m t.val + f.val) C.val := by
  have he := ex_lt m hO hR t
  have hc := ch_lt m hO t
  rw [← nat3_val (down2 m c) ⟨ex m t.val, he⟩ ⟨1024 * ch m t.val + f.val, by omega⟩ C _ _ _ rfl rfl rfl]
  refine (iblk_read m c hO t 5 (down2 m c) (V2 m c) _).trans (congrArg (down2 m c) ?_)
  blk_ext [at5 m hO hR t]

include hR in
theorem blk6 (C : Fin 2048) : iblk m hO c 6 t (ix3 0 0 C) = nat2 (bias2 m c) (ex m t.val) C.val := by
  have he := ex_lt m hO hR t
  refine Eq.trans ?_ (bias2R_at m c ⟨ex m t.val, he⟩ C)
  refine (iblk_read m c hO t 6 (bias2R m c) (V3 m c) _).trans (congrArg (bias2R m c) ?_)
  blk_ext [at6 m hO t]

/-! ## What the result's buffer holds, at an index -/

abbrev partM (R e C : ℕ) : ℕ → EReal := part (nat2 (rows m c)) (nat3 (up1 m c)) (nat2 (bias1 m c)) (nat3 (down2 m c)) R e C
abbrev moeM (R C : ℕ) : EReal := moe (nums (tbl m 0 : IVec S296 32)) (cnt m) (nat2 (rows m c)) (nat3 (up1 m c)) (nat2 (bias1 m c)) (nat3 (down2 m c)) (nat2 (bias2 m c)) R C

include hR in
theorem half_at (hu : t.val / 2 < cnt m) (a : Fin 512) (C : Fin 2048) :
    half m hO c t (ix2 a C) = halfSum (partM m c (512 * (t.val / 2) + a.val) (ex m t.val) C.val) (ch m t.val) :=
  pay4_half _ _ _ _ (iblk m hO c 0 t) (iblk m hO c 1 t) (iblk m hO c 3 t) (iblk m hO c 2 t) (iblk m hO c 4 t) (iblk m hO c 5 t) _ _ _
    (blk0 m c hO hR t hu) (blk1 m c hO hR t) (blk3 m c hO hR t) (blk2 m c hO hR t) (blk4 m c hO hR t) (blk5 m c hO hR t) a C

theorem nb_count : nb m = count (tbl m) := rfl

include hR in
theorem used_iff : Used m (grid0.coords t) ↔ t.val / 2 < cnt m := by
  have h := used_word (grid0.coords t) (nb m) (by rw [nb_count]; exact hR.le_all)
  rw [row m hO t] at h
  exact h

include hR in
theorem held_at (h : t.val % 2 = 1) (a : Fin 512) (C : Fin 2048) :
    held m hO c t.val t.isLt (ix2 a C) = moeM m c (512 * (t.val / 2) + a.val) C.val := by
  have hp : t.val - 1 < (cfgM m hO).N := by have := t.isLt; omega
  have e2 : (t.val - 1) / 2 = t.val / 2 := by omega
  have e3 : (t.val - 1) % 2 = 0 := by omega
  have e4 : (512 * (t.val / 2) + a.val) / 512 = t.val / 2 := by omega
  have eu := used_iff m hO hR t
  have eu' := used_iff m hO hR ⟨t.val - 1, hp⟩
  rw [show (⟨t.val - 1, hp⟩ : Fin (cfgM m hO).N).val = t.val - 1 from rfl, e2] at eu'
  have hprev := held_even m hO c ⟨t.val - 1, hp⟩ e3 (k0_pay3 (F := Ideal))
  rw [held_odd m hO c t h, show held m hO c (t.val - 1) hp = _ from hprev]
  unfold next moeM moe
  rw [e4]
  have hne : ¬ t.val % 2 = 0 := by omega
  have he0 : (⟨t.val - 1, hp⟩ : Fin (cfgM m hO).N).val % 2 = 0 := e3
  by_cases hu : t.val / 2 < cnt m
  · rw [if_pos (eu.mpr hu), if_neg hne, if_pos (eu'.mpr hu), if_pos he0, if_pos hu]
    have ha := half_at m c hO hR t hu a C
    have hb := half_at m c hO hR ⟨t.val - 1, hp⟩ (by show (t.val - 1) / 2 < _; omega) a C
    have hc := blk6 m c hO hR ⟨t.val - 1, hp⟩ C
    dsimp only at hb hc
    rw [pay2_at, ha]
    refine (congrArg (· + _) ((pay1_at (half m hO c ⟨t.val - 1, hp⟩) (iblk m hO c 6 ⟨t.val - 1, hp⟩) a C).trans (congrArg₂ (· + ·) hb hc))).trans ?_
    have x1 : ex m (t.val - 1) = ex m t.val := by unfold ex; rw [e2]
    have x2 : ch m t.val = 1 - ch m (t.val - 1) := by
      unfold ch chunk
      rw [e2, e3, h]
      rw [if_pos hu, if_pos hu]
      split <;> rfl
    rw [x1, x2, e2]
    exact two_steps _ _ _ (ch_lt m hO ⟨t.val - 1, hp⟩)
  · rw [if_neg (fun q => hu (eu.mp q)), if_neg hne, if_neg (fun q => hu (eu'.mp q)), if_pos he0, if_neg hu]
    exact pay3_at _

/-! ## The whole result -/

theorem covers7 : ((cfgM m hO).win 7).Covers := by
  refine ⟨fun a => ?_, fun β => ?_⟩
  · match a with
    | ⟨0, _⟩ => exact (by decide : 0 < 512)
    | ⟨1, _⟩ => exact (by decide : 0 < 2048)
  · have h0 : (β (0 : Fin 2)).val < (151552 + 512 - 1) / 512 := (β (0 : Fin 2)).isLt
    have h1 : (β (1 : Fin 2)).val < (2048 + 2048 - 1) / 2048 := (β (1 : Fin 2)).isLt
    have ht : 2 * (β (0 : Fin 2)).val + 1 < (cfgM m hO).N := by show _ < 592; omega
    refine ⟨⟨2 * (β (0 : Fin 2)).val + 1, ht⟩, (flush7 m hO _).mpr (by show (2 * (β (0 : Fin 2)).val + 1) % 2 = 1; omega), fun a => ?_⟩
    rw [at7 m hO]
    match a with
    | ⟨0, _⟩ => exact ⟨by show (2 * (β (0 : Fin 2)).val + 1) / 2 = (β (0 : Fin 2)).val; omega, .inl rfl⟩
    | ⟨1, _⟩ => exact ⟨by show 0 = (β (1 : Fin 2)).val; omega, .inl rfl⟩

include hR in
theorem arr : (dats m hO 0 c).arrAt 7 (cfgM m hO).N = fun j : S151552x2048.Idx => moeM m c (j 0).val (j 1).val := by
  refine (dats m hO 0 c).arrAt_eq_of_covers 7 _ (covers7 m hO) fun t hf y => ?_
  have hodd := (flush7 m hO t).mp hf
  have h0 : (y (0 : Fin 2)).val < 512 := (y (0 : Fin 2)).isLt
  have h1 : (y (1 : Fin 2)).val < 2048 := (y (1 : Fin 2)).isLt
  have hy : y = ix2 (⟨(y (0 : Fin 2)).val, h0⟩ : Fin 512) (⟨(y (1 : Fin 2)).val, h1⟩ : Fin 2048) := by
    funext k
    match k with
    | ⟨0, _⟩ => rfl
    | ⟨1, _⟩ => rfl
  have hL : (dats m hO 0 c).after 7 t y = moeM m c (512 * (t.val / 2) + (y (0 : Fin 2)).val) (y (1 : Fin 2)).val := by
    rw [after7]
    exact (congrArg (held m hO c t.val t.isLt) hy).trans (held_at m c hO hR t hodd _ _)
  refine Eq.trans ?_ (hL.trans ?_)
  · rfl
  · congr 1
    · blk_simp [at7 m hO]
      omega
    · blk_simp [at7 m hO]

end Cert.Experts

end
-- ==== Proof.ExpRef.lean ====
/- The reference of the experts call, stage by stage, read at an index. -/
module

public import proofs.«01_k».proof.Proof.ExpSpec
public import proofs.«01_k».proof.Proof.Gen.Reference2Ideal.Run
import Idealize.ShloMosaic.Lib.Pointwise.Tactic

@[expose] public section

set_option maxRecDepth 16384

noncomputable section

open Idealize.ShloMosaic Idealize.ShloMosaic.TcCoe

namespace Cert.Reference2Ideal.Block

open Cert.Reference2Ideal Cert.Reference2Ideal.Gen Cert.AttnSpec Cert.ExpSpec

/-- The experts' indices, a negative one counted from the end. -/
def wrapR (t : IVec S296 32) : IVec S296x1 32 :=
  broadcastInDim S296x1 ![0] bcast_S296_S296x1_0 (select (cmpi .slt t (broadcastInDim S296 ![] bcast_S_S296 (constantI S_ 32 0#32))) (addi t (broadcastInDim S296 ![] bcast_S_S296 (constantI S_ 32 32#32))) t)

def rowsR (x : FVec Ideal S151552x2048 .f32) : FVec Ideal S296x512x2048 .f32 := shapeCast _ x shapeCasts_S151552x2048_S296x512x2048

/-- The first layer over variables: rows, weights and bias of each block. -/
def firstR (x : FVec Ideal S296x512x2048 .f32) (w : FVec Ideal S296x2048x4096 .f32) (b : FVec Ideal S296x4096 .f32) : FVec Ideal S296x512x4096 .f32 :=
  addf (Host.dotGeneral dot_S296x512x2048_S296x2048x4096_S296x512x4096_2_1_1_2_0_0 none x w)
    (broadcastInDim S296x512x4096 ![0, 1, 2] bcast_S296x1x4096_S296x512x4096_0_1_2 (broadcastInDim S296x1x4096 ![0, 2] bcast_S296x4096_S296x1x4096_0_2 b))

def gateR (h : FVec Ideal S296x512x4096 .f32) : FVec Ideal S296x512x2048 .f32 :=
  minimumf (extractStridedSlice S296x512x2048 ![0, 0, 0] h slices_S296x512x4096_S296x512x2048_0_0_0) (broadcastInDim S296x512x2048 ![] bcast_S_S296x512x2048 (constant S_ .f32 0x40E00000#32))

def upR (h : FVec Ideal S296x512x4096 .f32) : FVec Ideal S296x512x2048 .f32 :=
  minimumf (broadcastInDim S296x512x2048 ![] bcast_S_S296x512x2048 (id (constant S_ .f32 0x40E00000#32))) (maximumf (broadcastInDim S296x512x2048 ![] bcast_S_S296x512x2048 (id (constant S_ .f32 0xC0E00000#32))) (extractStridedSlice S296x512x2048 ![0, 0, 2048] h slices_S296x512x4096_S296x512x2048_0_0_2048))

def gatedR (h : FVec Ideal S296x512x4096 .f32) : FVec Ideal S296x512x2048 .f32 :=
  mulf (mulf (gateR h) (Host.divf (broadcastInDim S296x512x2048 ![] bcast_S_S296x512x2048 (constant S_ .f32 0x3F800000#32)) (addf (broadcastInDim S296x512x2048 ![] bcast_S_S296x512x2048 (constant S_ .f32 0x3F800000#32)) (Host.exp (Host.negf (mulf (broadcastInDim S296x512x2048 ![] bcast_S_S296x512x2048 (constant S_ .f32 0x3FD9DB23#32)) (gateR h)))))))
    (addf (upR h) (broadcastInDim S296x512x2048 ![] bcast_S_S296x512x2048 (constant S_ .f32 0x3F800000#32)))

def secondR (h : FVec Ideal S296x512x2048 .f32) (w : FVec Ideal S296x2048x2048 .f32) (b : FVec Ideal S296x2048 .f32) : FVec Ideal S296x512x2048 .f32 :=
  addf (Host.dotGeneral dot_S296x512x2048_S296x2048x2048_S296x512x2048_2_1_1_2_0_0 none h w)
    (broadcastInDim S296x512x2048 ![0, 1, 2] bcast_S296x1x2048_S296x512x2048_0_1_2 (broadcastInDim S296x1x2048 ![0, 2] bcast_S296x2048_S296x1x2048_0_2 b))

/-- Whether a block is used. -/
def usedR (n : IVec S1 32) : IVec S296x512x2048 1 :=
  broadcastInDim S296x512x2048 ![0, 1, 2] bcast_S296x1x1_S296x512x2048_0_1_2 (broadcastInDim S296x1x1 ![0] bcast_S296_S296x1x1_0 (cmpi .slt (iotaInDim S296 32 0) (broadcastInDim S296 ![] bcast_S_S296 (shapeCast _ n shapeCasts_S1_S_))))

def allR (t : IVec S296 32) (n : IVec S1 32) (x : FVec Ideal S151552x2048 .f32) (w1 : FVec Ideal S32x2048x4096 .f32) (b1 : FVec Ideal S32x4096 .f32) (w2 : FVec Ideal S32x2048x2048 .f32) (b2 : FVec Ideal S32x2048 .f32) : FVec Ideal S151552x2048 .f32 :=
  shapeCast _ (select (usedR n) (secondR (gatedR (firstR (rowsR x) (Host.gather gather_S32x2048x4096_S296x1_S296x2048x4096_12_0_n_n_0_1_120484096 w1 (wrapR t)) (Host.gather gather_S32x4096_S296x1_S296x4096_1_0_n_n_0_1_14096 b1 (wrapR t)))) (Host.gather gather_S32x2048x2048_S296x1_S296x2048x2048_12_0_n_n_0_1_120482048 w2 (wrapR t)) (Host.gather gather_S32x2048_S296x1_S296x2048_1_0_n_n_0_1_12048 b2 (wrapR t)))
    (broadcastInDim S296x512x2048 ![] bcast_S_S296x512x2048 (id (constant S_ .f32 0x00000000#32)))) shapeCasts_S296x512x2048_S151552x2048

theorem staged (m : (ℓ : Loc nD τ sig) → Buf (Elt Ideal) ℓ) (c : Dev nD) :
    Cert.Reference2Ideal.Value.res_main_v60 (F := Ideal) m c = allR (m (c.tc.loc main_arg0)) (m (c.tc.loc main_arg1)) (m (c.tc.loc main_arg2)) (m (c.tc.loc main_arg3)) (m (c.tc.loc main_arg4)) (m (c.tc.loc main_arg5)) (m (c.tc.loc main_arg6)) := rfl

/-! ## The stages at an index -/

theorem rowsR_at (x : FVec Ideal S151552x2048 .f32) (i : Fin 296) (a : Fin 512) (k : Fin 2048) :
    rowsR x (ix3 i a k) = nat2 x (512 * i.val + a.val) k.val := by
  rw [← nat2_val x ⟨512 * i.val + a.val, by omega⟩ k _ _ rfl rfl]
  unfold rowsR
  pointwise
  congr 3
  omega

theorem firstR_at (x : FVec Ideal S296x512x2048 .f32) (w : FVec Ideal S296x2048x4096 .f32) (b : FVec Ideal S296x4096 .f32) (i : Fin 296) (a : Fin 512) (f : Fin 4096) :
    firstR x w b (ix3 i a f) = (∑ k : Fin 2048, x (ix3 i a k) * w (ix3 i k f)) + b (ix2 i f) := by
  pointwise [firstR]

theorem secondR_at (h : FVec Ideal S296x512x2048 .f32) (w : FVec Ideal S296x2048x2048 .f32) (b : FVec Ideal S296x2048 .f32) (i : Fin 296) (a : Fin 512) (C : Fin 2048) :
    secondR h w b (ix3 i a C) = (∑ f : Fin 2048, h (ix3 i a f) * w (ix3 i f C)) + b (ix2 i C) := by
  pointwise [secondR]

theorem gateR_at (h : FVec Ideal S296x512x4096 .f32) (i : Fin 296) (a : Fin 512) (f : Fin 2048) :
    gateR h (ix3 i a f) = cut (h (ix3 i a ⟨f.val, by omega⟩)) := by
  unfold cut
  pointwise [gateR]

theorem upR_at (h : FVec Ideal S296x512x4096 .f32) (i : Fin 296) (a : Fin 512) (f : Fin 2048) :
    upR h (ix3 i a f) = min (Ideal.ofBits .f32 0x40E00000#32) (max (Ideal.ofBits .f32 0xC0E00000#32) (h (ix3 i a ⟨2048 + f.val, by omega⟩))) := by
  pointwise [upR]
  rfl

theorem gatedR_at (h : FVec Ideal S296x512x4096 .f32) (i : Fin 296) (a : Fin 512) (f : Fin 2048) :
    gatedR h (ix3 i a f) = act (h (ix3 i a ⟨f.val, by omega⟩)) (h (ix3 i a ⟨2048 + f.val, by omega⟩)) := by
  show gateR h (ix3 i a f) * Ideal.div (Ideal.ofBits .f32 0x3F800000#32) (Ideal.ofBits .f32 0x3F800000#32 + Ideal.exp (-(Ideal.ofBits .f32 0x3FD9DB23#32 * gateR h (ix3 i a f)))) * (upR h (ix3 i a f) + Ideal.ofBits .f32 0x3F800000#32) = _
  rw [gateR_at, upR_at, Ideal.ofBits_one_f32]
  rfl

theorem wrapR_at (t : IVec S296 32) (i : Fin 296) (h : (t (ix1 i)).toNat < 32) : (wrapR t (ix2 i 0)).toInt.toNat = (t (ix1 i)).toNat := by
  have e : wrapR t (ix2 i 0) = Scalar.select (IntOp.cmpi .slt (t (ix1 i)) 0#32) (IntOp.addi (t (ix1 i)) 32#32) (t (ix1 i)) := by
    pointwise [wrapR]
  have hi : (t (ix1 i)).toInt = (t (ix1 i)).toNat := by
    rw [BitVec.toInt_eq_toNat_cond]; split <;> omega
  have hc : IntOp.cmpi .slt (t (ix1 i)) 0#32 = 0#1 := by
    show BitVec.ofBool (decide ((t (ix1 i)).toInt < (0#32).toInt)) = 0#1
    rw [show (0#32 : BitVec 32).toInt = 0 from rfl, decide_eq_false (by omega)]
    rfl
  rw [e, hc]
  show (t (ix1 i)).toInt.toNat = _
  rw [hi]; rfl

theorem usedR_at (n : IVec S1 32) (i : Fin 296) (a : Fin 512) (C : Fin 2048) (h : (n (ix1 0)).toNat ≤ 296) :
    usedR n (ix3 i a C) = BitVec.ofBool (decide (i.val < (n (ix1 0)).toNat)) := by
  have e : usedR n (ix3 i a C) = IntOp.cmpi .slt (BitVec.ofNat 32 i.val) (n (ix1 0)) := by
    pointwise [usedR]
  have hi := i.isLt
  rw [e]
  show BitVec.ofBool (decide ((BitVec.ofNat 32 i.val).toInt < (n (ix1 0)).toInt)) = _
  have h1 : (BitVec.ofNat 32 i.val).toInt = i.val := by
    rw [BitVec.toInt_eq_toNat_cond, BitVec.toNat_ofNat]; split <;> omega
  have h2 : (n (ix1 0)).toInt = (n (ix1 0)).toNat := by
    rw [BitVec.toInt_eq_toNat_cond]; split <;> omega
  rw [h1, h2]
  exact congrArg BitVec.ofBool (decide_eq_decide.mpr (by omega))

/-! ## The result at an index -/

variable (t : IVec S296 32) (n : IVec S1 32) (x : FVec Ideal S151552x2048 .f32) (w1 : FVec Ideal S32x2048x4096 .f32) (b1 : FVec Ideal S32x4096 .f32) (w2 : FVec Ideal S32x2048x2048 .f32) (b2 : FVec Ideal S32x2048 .f32)

/-- Everything before the choice of used blocks. -/
abbrev blocksR : FVec Ideal S296x512x2048 .f32 :=
  secondR (gatedR (firstR (rowsR x) (Host.gather gather_S32x2048x4096_S296x1_S296x2048x4096_12_0_n_n_0_1_120484096 w1 (wrapR t)) (Host.gather gather_S32x4096_S296x1_S296x4096_1_0_n_n_0_1_14096 b1 (wrapR t)))) (Host.gather gather_S32x2048x2048_S296x1_S296x2048x2048_12_0_n_n_0_1_120482048 w2 (wrapR t)) (Host.gather gather_S32x2048_S296x1_S296x2048_1_0_n_n_0_1_12048 b2 (wrapR t))

theorem blocksR_at (ht : ∀ y, (t y).toNat < 32) (i : Fin 296) (a : Fin 512) (C : Fin 2048) :
    blocksR t x w1 b1 w2 b2 (ix3 i a C) = ffn (nat2 x) (nat3 w1) (nat2 b1) (nat3 w2) (nat2 b2) (512 * i.val + a.val) (nums t i.val) C.val := by
  have hw := wrapR_at t i (ht _)
  rw [nums_val t i i.val rfl] at hw
  have hlt : nums t i.val < 32 := by rw [← nums_val t i i.val rfl]; exact ht _
  have g1 : ∀ k f, Host.gather gather_S32x2048x4096_S296x1_S296x2048x4096_12_0_n_n_0_1_120484096 w1 (wrapR t) (ix3 i k f) = nat3 w1 (nums t i.val) k.val f.val := fun k f =>
    (gather3_at _ rfl rfl rfl rfl rfl rfl rfl w1 (wrapR t) i k f ⟨nums t i.val, hlt⟩ hw).trans (nat3_val w1 _ _ _ _ _ _ rfl rfl rfl)
  have g2 : ∀ f, Host.gather gather_S32x4096_S296x1_S296x4096_1_0_n_n_0_1_14096 b1 (wrapR t) (ix2 i f) = nat2 b1 (nums t i.val) f.val := fun f =>
    (gather2_at _ rfl rfl rfl rfl rfl rfl rfl b1 (wrapR t) i f ⟨nums t i.val, hlt⟩ hw).trans (nat2_val b1 _ _ _ _ rfl rfl)
  have g3 : ∀ f C, Host.gather gather_S32x2048x2048_S296x1_S296x2048x2048_12_0_n_n_0_1_120482048 w2 (wrapR t) (ix3 i f C) = nat3 w2 (nums t i.val) f.val C.val := fun f C =>
    (gather3_at _ rfl rfl rfl rfl rfl rfl rfl w2 (wrapR t) i f C ⟨nums t i.val, hlt⟩ hw).trans (nat3_val w2 _ _ _ _ _ _ rfl rfl rfl)
  have g4 : ∀ C, Host.gather gather_S32x2048_S296x1_S296x2048_1_0_n_n_0_1_12048 b2 (wrapR t) (ix2 i C) = nat2 b2 (nums t i.val) C.val := fun C =>
    (gather2_at _ rfl rfl rfl rfl rfl rfl rfl b2 (wrapR t) i C ⟨nums t i.val, hlt⟩ hw).trans (nat2_val b2 _ _ _ _ rfl rfl)
  unfold blocksR
  rw [secondR_at, g4]
  unfold ffn part unit
  refine congrArg (· + _) (Finset.sum_congr rfl fun f _ => ?_)
  rw [gatedR_at, firstR_at, firstR_at, g2, g2, g3]
  simp only [rowsR_at, g1]

theorem allR_cell (ht : ∀ y, (t y).toNat < 32) (hn : ∀ y, (n y).toNat ≤ 296) (R : Fin 151552) (C : Fin 2048) :
    allR t n x w1 b1 w2 b2 (ix2 R C) = moe (nums t) (n (ix1 0)).toNat (nat2 x) (nat3 w1) (nat2 b1) (nat3 w2) (nat2 b2) R.val C.val := by
  have e : allR t n x w1 b1 w2 b2 (ix2 R C) = Scalar.select (usedR n (ix3 ⟨R.val / 512, by omega⟩ ⟨R.val % 512, by omega⟩ C)) (blocksR t x w1 b1 w2 b2 (ix3 ⟨R.val / 512, by omega⟩ ⟨R.val % 512, by omega⟩ C)) (Ideal.ofBits .f32 0x00000000#32) := by
    unfold allR blocksR
    generalize secondR _ _ _ = Y
    pointwise
    rw [show (id (constant (F := Ideal) S_ .f32 0#32) ix0) = (0 : EReal) from Ideal.ofBits_zero_f32]
  rw [e, usedR_at _ _ _ _ (hn _), blocksR_at _ _ _ _ _ _ ht, Ideal.ofBits_zero_f32]
  unfold moe
  dsimp only
  rw [Nat.div_add_mod]
  by_cases h : R.val / 512 < (n (ix1 0)).toNat
  · rw [decide_eq_true h, if_pos h]; rfl
  · rw [decide_eq_false h, if_neg h]; rfl

end Cert.Reference2Ideal.Block

end
-- ==== Proof.ExpAlg.lean ====
/- The experts call and its reference compute the same array. -/
module

public import proofs.«01_k».proof.Defs
public import proofs.«01_k».proof.Proof.ExpValue
public import proofs.«01_k».proof.Proof.ExpRef
public import proofs.«01_k».proof.Proof.Gen.Pre_tables_in_range

@[expose] public section

set_option maxRecDepth 16384

noncomputable section

open Idealize.ShloMosaic Idealize.ShloMosaic.TcCoe Idealize.SL.Sem

namespace Cert.Experts

open Cert.Kernel2Ideal Cert.Kernel2Ideal.Gen Cert.AttnSpec Cert.ExpSpec

variable (m : (ℓ : Loc nD τ sig) → Buf (Elt Ideal) ℓ)

abbrev table : IVec S296 32 := m (((0 : Dev nD) : Thread nD τ).loc main_arg0)
abbrev number : IVec S1 32 := m (((0 : Dev nD) : Thread nD τ).loc main_arg1)

/-- The kernel's entry in terms of the arguments alone. -/
theorem moeM_args (c : Dev nD) (R C : ℕ) : moeM m c R C
    = moe (nums (table m)) (number m (ix1 0)).toNat (nat2 (rows m c)) (nat3 (up1 m c)) (nat2 (bias1 m c)) (nat3 (down2 m c)) (nat2 (bias2 m c)) R C := by
  have h0 : (tbl m 0 : IVec S296 32) = table m := tbl_zero m
  have h1 : cnt m = (number m (ix1 0)).toNat := by
    unfold cnt
    rw [count_eq]
    exact congrArg (fun w : IVec S1 32 => (w (ix1 0)).toNat) (tbl_one m)
  unfold moeM
  rw [h0, h1]

theorem result (c : Dev nD) (hO : Ok m) (hR : Ranged (tbl m)) (h : (∀ y, (table m y).toNat < 32) ∧ ∀ y, 1 ≤ (number m y).toNat ∧ (number m y).toNat ≤ 296) :
    Cert.Reference2Ideal.Block.allR (table m) (number m) (rows m c) (up1 m c) (bias1 m c) (down2 m c) (bias2 m c) = (dats m hO 0 c).arrAt 7 (cfgM m hO).N := by
  refine Eq.trans (funext fun j => ?_) (arr m c hO hR).symm
  have hj : j = ix2 (⟨(j 0).val, (j 0).isLt⟩ : Fin 151552) (⟨(j 1).val, (j 1).isLt⟩ : Fin 2048) := by
    funext k
    match k with
    | ⟨0, _⟩ => rfl
    | ⟨1, _⟩ => rfl
  rw [moeM_args]
  exact (congrArg _ hj).trans (Cert.Reference2Ideal.Block.allR_cell _ _ _ _ _ _ _ h.1 (fun y => (h.2 y).2) _ _)

theorem algebraic : algebraic_Kernel2Ideal_Reference2Ideal (hKernel2Ideal := Cert.Kernel2Ideal.Gen.facts) (hReference2Ideal := Cert.Reference2Ideal.Gen.facts) (hPre_tables_in_range := Cert.Pre_tables_in_range.Gen.facts) := by
  intro m g m' g' pre hagree
  have hd := decode _ _ _ _ _ _ _ (pre 0).1 (pre 0).2
  have hR : Ranged (tbl m) := ranged m _ _ _ _ _ (pre 0).1 (pre 0).2
  refine ⟨fun c => (dats m hR.ok 0 c).arrAt 7 (cfgM m hR.ok).N, ?_, ?_⟩
  · refine (θ_run defs _ _).mono (fun r h c => ?_) (run_all m g hR.ok)
    obtain ⟨a0, a1, a2, a3, a4, a5, a6, o⟩ := h.1 c
    exact ⟨o, a0, a1, a2, a3, a4, a5, a6⟩
  · refine (θ_run Cert.Reference2Ideal.defs _ _).mono (fun r h c => ?_) (Cert.Reference2Ideal.Value.run m' g')
    obtain ⟨h0, ha⟩ := h c
    obtain ⟨e0, e1, e2, e3, e4, e5, e6⟩ := hagree c
    refine ⟨h0.trans ?_, ha⟩
    obtain rfl : c = (0 : Dev nD) := Subsingleton.elim _ _
    rw [Cert.Reference2Ideal.Block.staged]
    refine Eq.trans ?_ (result m 0 hR.ok hR hd)
    exact congr (congr (congr (congr (congr (congr (congrArg Cert.Reference2Ideal.Block.allR e0) e1) e2) e3) e4) e5) e6

end Cert.Experts

end
-- ==== Proof.InpSpec.lean ====
/- The input projection as a formula: a row normalised by its root mean square, scaled, and taken against a column of the
   weights; and the order in which the call writes its columns. -/
module

public import proofs.«01_k».proof.Proof.ExpSpec

@[expose] public section

set_option maxRecDepth 16384

noncomputable section

open Idealize.ShloMosaic

namespace Cert.InpSpec

open Cert.AttnSpec Cert.ExpSpec

/-- One over the root mean square of a row. -/
def rinv (x : ℕ → EReal) : EReal :=
  Ideal.rsqrt (Ideal.div (∑ k : Fin 2048, x k.val * x k.val) (Ideal.ofBits .f32 0x45000000#32) + Ideal.ofBits .f32 0x3727C5AC#32)

/-- Lane `k` of the normalised and scaled row. -/
def hid (x g : ℕ → EReal) (k : ℕ) : EReal := x k * rinv x * g k

/-- The row against a column of the weights. -/
def proj (x g w : ℕ → EReal) : EReal := ∑ k : Fin 2048, hid x g k.val * w k.val

theorem proj_zero_row (x g w : ℕ → EReal) (h : ∀ k, x k = 0) : proj x g w = 0 :=
  Finset.sum_eq_zero fun k _ => by unfold hid; rw [h, zero_mul, zero_mul, zero_mul]

theorem proj_zero_column (x g w : ℕ → EReal) (h : ∀ k, w k = 0) : proj x g w = 0 :=
  Finset.sum_eq_zero fun k _ => by rw [h, mul_zero]

/-- Where column `C` of the call's result stands among the projection's columns. -/
def src (C : ℕ) : ℕ :=
  if C < 4096 then 4360 + C
  else if C < 5120 then 0 + (C - 4096)
  else if C < 6144 then 2304 + (C - 5120)
  else if C < 7168 then 3328 + (C - 6144)
  else if C < 7680 then 1280 + (C - 7168)
  else if C < 8192 then 1792 + (C - 7680)
  else if C < 8320 then 1024 + (C - 8192)
  else if C < 8448 then 1152 + (C - 8320)
  else if C < 8452 then 4352 + (C - 8448)
  else 4356 + (C - 8452)

theorem src_lt (C : ℕ) (h : C < 8456) : src C < 8456 := by
  unfold src
  split_ifs <;> omega

/-- Row `R` of the call's input: the prompts' tokens, then eight rows a sample of which four are tokens. -/
def row (x s : ℕ → ℕ → ℕ → EReal) (R k : ℕ) : EReal :=
  if R < 32768 then x (R / 2048) (R % 2048) k
  else if (R - 32768) % 8 < 4 then s ((R - 32768) / 8) ((R - 32768) % 8) k else 0

/-- A column of the weights in the call's order, zero past the last. -/
def wcol (w : ℕ → ℕ → ℕ → EReal) (C k : ℕ) : EReal := if C < 8456 then w 0 k (src C) else 0

/-- Entry `(R, D)` of the projection before its columns are put in the call's order. -/
def plain (x s : ℕ → ℕ → ℕ → EReal) (g : ℕ → EReal) (w : ℕ → ℕ → ℕ → EReal) (R D : ℕ) : EReal :=
  if R < 32768 then proj (x (R / 2048) (R % 2048)) g (fun k => w 0 k D)
  else if (R - 32768) % 8 < 4 then proj (s ((R - 32768) / 8) ((R - 32768) % 8)) g (fun k => w 0 k D) else 0

theorem plain_eq (x s : ℕ → ℕ → ℕ → EReal) (g : ℕ → EReal) (w : ℕ → ℕ → ℕ → EReal) (R C : ℕ) :
    proj (row x s R) g (wcol w C) = if C < 8456 then plain x s g w R (src C) else 0 := by
  by_cases hC : C < 8456
  · rw [if_pos hC, show wcol w C = fun k => w 0 k (src C) from funext fun k => if_pos hC]
    unfold plain
    by_cases hR : R < 32768
    · rw [if_pos hR, show row x s R = x (R / 2048) (R % 2048) from funext fun k => if_pos hR]
    · rw [if_neg hR]
      by_cases h4 : (R - 32768) % 8 < 4
      · rw [if_pos h4, show row x s R = s ((R - 32768) / 8) ((R - 32768) % 8) from funext fun k => (if_neg hR).trans (if_pos h4)]
      · rw [if_neg h4]
        exact proj_zero_row _ _ _ fun k => (if_neg hR).trans (if_neg h4)
  · rw [if_neg hC]
    exact proj_zero_column _ _ _ fun k => if_neg hC

/-! ## The columns put in the call's order -/

set_option maxHeartbeats 2000000 in
theorem ordered_at {R : ℕ} (Z : ℕ → ℕ → EReal)
    (p0 : (⟨2, ![R, 4096]⟩ : Shape).Idx → EReal) (p1 p2 p3 : (⟨2, ![R, 1024]⟩ : Shape).Idx → EReal) (p4 p5 : (⟨2, ![R, 512]⟩ : Shape).Idx → EReal)
    (p6 p7 : (⟨2, ![R, 128]⟩ : Shape).Idx → EReal) (p8 p9 : (⟨2, ![R, 4]⟩ : Shape).Idx → EReal)
    (h0 : ∀ r c, p0 (ix2 r c) = Z r.val (4360 + c.val)) (h1 : ∀ r c, p1 (ix2 r c) = Z r.val (0 + c.val))
    (h2 : ∀ r c, p2 (ix2 r c) = Z r.val (2304 + c.val)) (h3 : ∀ r c, p3 (ix2 r c) = Z r.val (3328 + c.val))
    (h4 : ∀ r c, p4 (ix2 r c) = Z r.val (1280 + c.val)) (h5 : ∀ r c, p5 (ix2 r c) = Z r.val (1792 + c.val))
    (h6 : ∀ r c, p6 (ix2 r c) = Z r.val (1024 + c.val)) (h7 : ∀ r c, p7 (ix2 r c) = Z r.val (1152 + c.val))
    (h8 : ∀ r c, p8 (ix2 r c) = Z r.val (4352 + c.val)) (h9 : ∀ r c, p9 (ix2 r c) = Z r.val (4356 + c.val))
    (h : Shape.Concatenates [⟨2, ![R, 4096]⟩, ⟨2, ![R, 1024]⟩, ⟨2, ![R, 1024]⟩, ⟨2, ![R, 1024]⟩, ⟨2, ![R, 512]⟩, ⟨2, ![R, 512]⟩, ⟨2, ![R, 128]⟩, ⟨2, ![R, 128]⟩, ⟨2, ![R, 4]⟩, ⟨2, ![R, 4]⟩] ⟨2, ![R, 8456]⟩ 1)
    (r : Fin R) (C : Fin 8456) :
    concatenate ⟨2, ![R, 8456]⟩ 1 [⟨⟨2, ![R, 4096]⟩, p0⟩, ⟨⟨2, ![R, 1024]⟩, p1⟩, ⟨⟨2, ![R, 1024]⟩, p2⟩, ⟨⟨2, ![R, 1024]⟩, p3⟩, ⟨⟨2, ![R, 512]⟩, p4⟩, ⟨⟨2, ![R, 512]⟩, p5⟩, ⟨⟨2, ![R, 128]⟩, p6⟩, ⟨⟨2, ![R, 128]⟩, p7⟩, ⟨⟨2, ![R, 4]⟩, p8⟩, ⟨⟨2, ![R, 4]⟩, p9⟩] h (ix2 r C)
      = Z r.val (src C.val) := by
  have hC := C.isLt
  have piece : ∀ {N : ℕ} (q : ℕ) (hq : q < 10) (p : (⟨2, ![R, N]⟩ : Shape).Idx → EReal) (pre : ℕ) (c : Fin N) (o : ℕ)
      (hp : ∀ r c, p (ix2 r c) = Z r.val (o + c.val)), pre + c.val = C.val →
      ([⟨⟨2, ![R, 4096]⟩, p0⟩, ⟨⟨2, ![R, 1024]⟩, p1⟩, ⟨⟨2, ![R, 1024]⟩, p2⟩, ⟨⟨2, ![R, 1024]⟩, p3⟩, ⟨⟨2, ![R, 512]⟩, p4⟩, ⟨⟨2, ![R, 512]⟩, p5⟩, ⟨⟨2, ![R, 128]⟩, p6⟩, ⟨⟨2, ![R, 128]⟩, p7⟩, ⟨⟨2, ![R, 4]⟩, p8⟩, ⟨⟨2, ![R, 4]⟩, p9⟩] : List ((s : Shape) × (s.Idx → EReal)))[q] = ⟨⟨2, ![R, N]⟩, p⟩ →
      (((([⟨⟨2, ![R, 4096]⟩, p0⟩, ⟨⟨2, ![R, 1024]⟩, p1⟩, ⟨⟨2, ![R, 1024]⟩, p2⟩, ⟨⟨2, ![R, 1024]⟩, p3⟩, ⟨⟨2, ![R, 512]⟩, p4⟩, ⟨⟨2, ![R, 512]⟩, p5⟩, ⟨⟨2, ![R, 128]⟩, p6⟩, ⟨⟨2, ![R, 128]⟩, p7⟩, ⟨⟨2, ![R, 4]⟩, p8⟩, ⟨⟨2, ![R, 4]⟩, p9⟩] : List ((s : Shape) × (s.Idx → EReal))).take q).map (·.1)).map fun s : Shape => if h : s.rank = 2 then s.size ((1 : Fin 2).cast h.symm) else 0).sum = pre →
      concatenate ⟨2, ![R, 8456]⟩ 1 [⟨⟨2, ![R, 4096]⟩, p0⟩, ⟨⟨2, ![R, 1024]⟩, p1⟩, ⟨⟨2, ![R, 1024]⟩, p2⟩, ⟨⟨2, ![R, 1024]⟩, p3⟩, ⟨⟨2, ![R, 512]⟩, p4⟩, ⟨⟨2, ![R, 512]⟩, p5⟩, ⟨⟨2, ![R, 128]⟩, p6⟩, ⟨⟨2, ![R, 128]⟩, p7⟩, ⟨⟨2, ![R, 4]⟩, p8⟩, ⟨⟨2, ![R, 4]⟩, p9⟩] h (ix2 r C) = Z r.val (o + c.val) := by
    intro N q hq p pre c o hp hc hx hs
    refine (concatenate_apply_piece (t := ⟨2, ![R, 8456]⟩) (1 : Fin 2) [⟨⟨2, ![R, 4096]⟩, p0⟩, ⟨⟨2, ![R, 1024]⟩, p1⟩, ⟨⟨2, ![R, 1024]⟩, p2⟩, ⟨⟨2, ![R, 1024]⟩, p3⟩, ⟨⟨2, ![R, 512]⟩, p4⟩, ⟨⟨2, ![R, 512]⟩, p5⟩, ⟨⟨2, ![R, 128]⟩, p6⟩, ⟨⟨2, ![R, 128]⟩, p7⟩, ⟨⟨2, ![R, 4]⟩, p8⟩, ⟨⟨2, ![R, 4]⟩, p9⟩] h (ix2 r C) q hq ⟨2, ![R, N]⟩ p hx rfl pre hs (ix2 r c) ?_ hc).trans (hp r c)
    intro b hb
    match b with
    | ⟨0, _⟩ => rfl
    | ⟨1, _⟩ => exact absurd rfl hb
  by_cases c0 : C.val < 4096
  · rw [show src C.val = 4360 + (C.val) from by unfold src; split_ifs; omega]
    exact piece 0 (by decide) p0 0 ⟨C.val, by omega⟩ 4360 h0 (by show 0 + (C.val) = C.val; omega) rfl rfl
  by_cases c1 : C.val < 5120
  · rw [show src C.val = 0 + (C.val - 4096) from by unfold src; split_ifs; omega]
    exact piece 1 (by decide) p1 4096 ⟨C.val - 4096, by omega⟩ 0 h1 (by show 4096 + (C.val - 4096) = C.val; omega) rfl rfl
  by_cases c2 : C.val < 6144
  · rw [show src C.val = 2304 + (C.val - 5120) from by unfold src; split_ifs; omega]
    exact piece 2 (by decide) p2 5120 ⟨C.val - 5120, by omega⟩ 2304 h2 (by show 5120 + (C.val - 5120) = C.val; omega) rfl rfl
  by_cases c3 : C.val < 7168
  · rw [show src C.val = 3328 + (C.val - 6144) from by unfold src; split_ifs; omega]
    exact piece 3 (by decide) p3 6144 ⟨C.val - 6144, by omega⟩ 3328 h3 (by show 6144 + (C.val - 6144) = C.val; omega) rfl rfl
  by_cases c4 : C.val < 7680
  · rw [show src C.val = 1280 + (C.val - 7168) from by unfold src; split_ifs; omega]
    exact piece 4 (by decide) p4 7168 ⟨C.val - 7168, by omega⟩ 1280 h4 (by show 7168 + (C.val - 7168) = C.val; omega) rfl rfl
  by_cases c5 : C.val < 8192
  · rw [show src C.val = 1792 + (C.val - 7680) from by unfold src; split_ifs; omega]
    exact piece 5 (by decide) p5 7680 ⟨C.val - 7680, by omega⟩ 1792 h5 (by show 7680 + (C.val - 7680) = C.val; omega) rfl rfl
  by_cases c6 : C.val < 8320
  · rw [show src C.val = 1024 + (C.val - 8192) from by unfold src; split_ifs; omega]
    exact piece 6 (by decide) p6 8192 ⟨C.val - 8192, by omega⟩ 1024 h6 (by show 8192 + (C.val - 8192) = C.val; omega) rfl rfl
  by_cases c7 : C.val < 8448
  · rw [show src C.val = 1152 + (C.val - 8320) from by unfold src; split_ifs; omega]
    exact piece 7 (by decide) p7 8320 ⟨C.val - 8320, by omega⟩ 1152 h7 (by show 8320 + (C.val - 8320) = C.val; omega) rfl rfl
  by_cases c8 : C.val < 8452
  · rw [show src C.val = 4352 + (C.val - 8448) from by unfold src; split_ifs; omega]
    exact piece 8 (by decide) p8 8448 ⟨C.val - 8448, by omega⟩ 4352 h8 (by show 8448 + (C.val - 8448) = C.val; omega) rfl rfl
  · rw [show src C.val = 4356 + (C.val - 8452) from by unfold src; split_ifs; omega]
    exact piece 9 (by decide) p9 8452 ⟨C.val - 8452, by omega⟩ 4356 h9 (by show 8452 + (C.val - 8452) = C.val; omega) rfl rfl

/-- The padding value. -/
theorem int_zero (s : Shape) (i : s.Idx) : (sitofp .f32 (constantI s 32 0#32) : FVec Ideal s .f32) i = (0 : EReal) := by
  show (((0#32 : BitVec 32).toInt : ℝ) : EReal) = 0
  norm_num

end Cert.InpSpec

end
-- ==== Proof.InpPay.lean ====
/- The input projection's payloads read at an index. -/
module

public import proofs.«01_k».proof.Proof.InpSpec
public import proofs.«01_k».proof.Proof.Gen.Kernel3Ideal.Skeleton
import Idealize.ShloMosaic.Lib.Pointwise.Tactic

@[expose] public section

set_option maxRecDepth 16384

noncomputable section

open Idealize.ShloMosaic

namespace Cert.Inproj

open Cert.Kernel3Ideal Cert.Kernel3Ideal.Gen Cert.InpSpec

/-- The mean square of each row and one over its root. -/
def scales (x : FVec Ideal S512x2048 .f32) : FVec Ideal S512x1 .f32 :=
  rsqrt (addf (divf (shapeCast S512x1 (multiReduction .add [1] S512 (mulf x x) 0x00000000#32 reduces_S512x2048_S512 (.inl rfl) rfl) shapeCasts_S512_S512x1) (broadcast S512x1 (Scalar.ofBits .f32 0x45000000#32)))
    (broadcast S512x1 (Scalar.ofBits .f32 0x3727C5AC#32)))

theorem scales_at (x : FVec Ideal S512x2048 .f32) (X : ℕ → EReal) (a : Fin 512) (h : ∀ k : Fin 2048, x (ix2 a k) = X k.val) :
    scales x (ix2 a 0) = rinv X := by
  have e : scales x (ix2 a 0) = Ideal.rsqrt (Ideal.div (∑ k : Fin 2048, x (ix2 a k) * x (ix2 a k)) (Ideal.ofBits .f32 0x45000000#32) + Ideal.ofBits .f32 0x3727C5AC#32) := by
    pointwise [scales]
  rw [e]
  unfold rinv
  simp only [h]

theorem pay1_at (x : FVec Ideal S512x2048 .f32) (g : FVec Ideal S1x2048 .f32) (X G : ℕ → EReal) (a : Fin 512) (k : Fin 2048)
    (h : ∀ k : Fin 2048, x (ix2 a k) = X k.val) (hg : ∀ k : Fin 2048, g (ix2 0 k) = G k.val) :
    k0_pay1 (F := Ideal) x g (ix2 a k) = hid X G k.val := by
  have e : k0_pay1 (F := Ideal) x g = mulf (mulf x (broadcastTo S512x2048 (scales x) broadcasts_S512x1_S512x2048)) (broadcastTo S512x2048 g broadcasts_S1x2048_S512x2048) := by
    unfold k0_pay1 scales
    simp only [shapeCast_self]
    rfl
  have e2 : (mulf (mulf x (broadcastTo S512x2048 (scales x) broadcasts_S512x1_S512x2048)) (broadcastTo S512x2048 g broadcasts_S1x2048_S512x2048) : FVec Ideal S512x2048 .f32) (ix2 a k)
      = x (ix2 a k) * scales x (ix2 a 0) * g (ix2 0 k) := by
    pointwise
  rw [e, e2, scales_at x X a h, h, hg]
  rfl

theorem pay2_at (x : FVec Ideal S512x2048 .f32) (g : FVec Ideal S1x2048 .f32) (X G : ℕ → EReal) (a : Fin 512) (k : Fin 2048)
    (h : ∀ k : Fin 2048, x (ix2 a k) = X k.val) (hg : ∀ k : Fin 2048, g (ix2 0 k) = G k.val) :
    k0_pay2 (F := Ideal) x g (ix2 a k) = hid X G k.val :=
  pay1_at x g X G a k h hg

theorem pay3_at (h : FVec Ideal S512x2048 .bf16) (w : FVec Ideal S2048x2176 .bf16) (a : Fin 512) (C : Fin 2176) :
    k0_pay3 (F := Ideal) h w (ix2 a C) = ∑ k : Fin 2048, h (ix2 a k) * w (ix2 k C) := by
  unfold k0_pay3
  pointwise

end Cert.Inproj

end
-- ==== Proof.InpValue.lean ====
/- What the input projection leaves in its result, as a function of its arguments. -/
module

public import proofs.«01_k».proof.Proof.InpPay
public import proofs.«01_k».proof.Proof.Gen.Kernel3Ideal.Value
import Idealize.ShloMosaic.Lib.Pointwise.Tactic

@[expose] public section

set_option maxRecDepth 16384

noncomputable section

open Idealize.ShloMosaic Idealize.ShloMosaic.TcCoe

namespace Cert.Inproj

open Cert.Kernel3Ideal Cert.Kernel3Ideal.Gen Cert.AttnSpec Cert.ExpSpec Cert.InpSpec

/-- The windows' block indices. -/
theorem idx : ∀ t : Fin cfg0.N, win0_0.index t = ![min (t.val / 4) 63, 0] ∧ win0_1.index t = ![t.val / 4 - 64, 0] ∧ win0_2.index t = ![0, 0] ∧ win0_3.index t = ![0, t.val % 4] ∧ win0_4.index t = ![t.val / 4, t.val % 4] :=
  (by decide +kernel : ∀ t : Fin grid0.N, _)

theorem gridN : cfg0.N = 264 := N_0

variable (m : (ℓ : Loc nD τ sig) → Buf (Elt Ideal) ℓ) (c : Dev nD)

abbrev prompts : FVec Ideal S16x2048x2048 .f32 := m (c.tc.loc main_arg0)
abbrev samples : FVec Ideal S128x4x2048 .f32 := m (c.tc.loc main_arg1)
abbrev gains : FVec Ideal S1x2048 .f32 := m (c.tc.loc main_arg2)
abbrev weights : FVec Ideal S1x2048x8456 .f32 := m (c.tc.loc main_arg3)

/-! ## The arrays the call takes -/

def xpA : FVec Ideal S32768x2048 .f32 := shapeCast S32768x2048 (prompts m c) shapeCasts_S16x2048x2048_S32768x2048

def xsA : FVec Ideal S1024x2048 .f32 :=
  shapeCast S1024x2048 (pad S128x8x2048 ![0, 0, 0] ![0, 4, 0] ![0, 0, 0] (samples m c) (sitofp .f32 (constantI S_ 32 0#32)) pads_S128x4x2048_S128x8x2048_000_040_000 h_S_) shapeCasts_S128x8x2048_S1024x2048

def gA : FVec Ideal S1x2048 .f32 := shapeCast S1x2048 (shapeCast S2048 (gains m c) shapeCasts_S1x2048_S2048) shapeCasts_S2048_S1x2048

def wFlat : FVec Ideal S2048x8456 .f32 := shapeCast S2048x8456 (weights m c) shapeCasts_S1x2048x8456_S2048x8456

def wOrd (z : FVec Ideal S2048x8456 .f32) : FVec Ideal S2048x8456 .f32 :=
  concatenate S2048x8456 1 [⟨S2048x4096, extractStridedSlice S2048x4096 ![0, 4360] z slices_S2048x8456_S2048x4096_0_4360⟩,
    ⟨S2048x1024, extractStridedSlice S2048x1024 ![0, 0] z slices_S2048x8456_S2048x1024_0_0⟩,
    ⟨S2048x1024, extractStridedSlice S2048x1024 ![0, 2304] z slices_S2048x8456_S2048x1024_0_2304⟩,
    ⟨S2048x1024, extractStridedSlice S2048x1024 ![0, 3328] z slices_S2048x8456_S2048x1024_0_3328⟩,
    ⟨S2048x512, extractStridedSlice S2048x512 ![0, 1280] z slices_S2048x8456_S2048x512_0_1280⟩,
    ⟨S2048x512, extractStridedSlice S2048x512 ![0, 1792] z slices_S2048x8456_S2048x512_0_1792⟩,
    ⟨S2048x128, extractStridedSlice S2048x128 ![0, 1024] z slices_S2048x8456_S2048x128_0_1024⟩,
    ⟨S2048x128, extractStridedSlice S2048x128 ![0, 1152] z slices_S2048x8456_S2048x128_0_1152⟩,
    ⟨S2048x4, extractStridedSlice S2048x4 ![0, 4352] z slices_S2048x8456_S2048x4_0_4352⟩,
    ⟨S2048x4, extractStridedSlice S2048x4 ![0, 4356] z slices_S2048x8456_S2048x4_0_4356⟩] concatenates_S2048x4096_S2048x1024_S2048x1024_S2048x1024_S2048x512_S2048x512_S2048x128_S2048x128_S2048x4_S2048x4_S2048x8456_d1

def wWide (z : FVec Ideal S2048x8456 .f32) : FVec Ideal S2048x8704 .f32 :=
  pad S2048x8704 ![0, 0] ![0, 248] ![0, 0] z (sitofp .f32 (constantI S_ 32 0#32)) pads_S2048x8456_S2048x8704_000_02480 h_S_

def wA : FVec Ideal S2048x8704 .bf16 := truncf .bf16 (wWide (wOrd (wFlat m c))) bitsLt_bf16_f32

theorem V0 : V m c main_v0 = xpA m c := by
  unfold V; simp only [hostOps0, hostOps0_1, hostOps0_2, hostOps0_3, hostOps0_4, List.flatten_cons, List.flatten_nil, List.append_nil, List.cons_append, List.nil_append, StableHlo.TRef.unary, StableHlo.TRef.binary, StableHlo.TRef.toBuf, StableHlo.TRef.ofBuf, cast_eq]; after_results; rfl

theorem V2 : V m c main_v2 = xsA m c := by
  unfold V; simp only [hostOps0, hostOps0_1, hostOps0_2, hostOps0_3, hostOps0_4, List.flatten_cons, List.flatten_nil, List.append_nil, List.cons_append, List.nil_append, StableHlo.TRef.unary, StableHlo.TRef.binary, StableHlo.TRef.toBuf, StableHlo.TRef.ofBuf, cast_eq]; after_results; rfl

theorem V18 : V m c main_v18 = gA m c := by
  unfold V; simp only [hostOps0, hostOps0_1, hostOps0_2, hostOps0_3, hostOps0_4, List.flatten_cons, List.flatten_nil, List.append_nil, List.cons_append, List.nil_append, StableHlo.TRef.unary, StableHlo.TRef.binary, StableHlo.TRef.toBuf, StableHlo.TRef.ofBuf, cast_eq]; after_results; rfl

theorem V17 : V m c main_v17 = wA m c := by
  unfold V; simp only [hostOps0, hostOps0_1, hostOps0_2, hostOps0_3, hostOps0_4, List.flatten_cons, List.flatten_nil, List.append_nil, List.cons_append, List.nil_append, StableHlo.TRef.unary, StableHlo.TRef.binary, StableHlo.TRef.toBuf, StableHlo.TRef.ofBuf, cast_eq]; after_results; rfl

/-! ## These arrays at an index -/

abbrev rowM (R : ℕ) : ℕ → EReal := row (nat3 (prompts m c)) (nat3 (samples m c)) R

theorem xpA_at (r : Fin 32768) (k : Fin 2048) : xpA m c (ix2 r k) = rowM m c r.val k.val := by
  have e : xpA m c (ix2 r k) = prompts m c (ix3 ⟨r.val / 2048, by omega⟩ ⟨r.val % 2048, by omega⟩ k) := by
    pointwise [xpA]
  rw [e]
  exact (nat3_val _ _ _ k _ _ _ rfl rfl rfl).trans (if_pos r.isLt).symm

theorem xsA_at (r : Fin 1024) (k : Fin 2048) : xsA m c (ix2 r k) = rowM m c (32768 + r.val) k.val := by
  have hr : r.val / 8 < 128 := by omega
  have e : xsA m c (ix2 r k) = if h4 : r.val % 8 < 4 then samples m c (ix3 ⟨r.val / 8, hr⟩ ⟨r.val % 8, h4⟩ k) else 0 := by
    split
    · rename_i h4
      pointwise [xsA]
      exact dif_pos ⟨hr, h4⟩
    · rename_i h4
      pointwise [xsA]
      exact (dif_neg fun q => h4 q.2).trans (int_zero S_ ix0)
  rw [e]
  unfold rowM row
  rw [if_neg (by omega), Nat.add_sub_cancel_left]
  by_cases h4 : r.val % 8 < 4
  · rw [dif_pos h4, if_pos h4]
    exact nat3_val _ _ _ k _ _ _ rfl rfl rfl
  · rw [dif_neg h4, if_neg h4]

theorem gA_at (k : Fin 2048) : gA m c (ix2 0 k) = nat2 (gains m c) 0 k.val := by
  refine Eq.trans ?_ (nat2_val (gains m c) 0 k _ _ rfl rfl)
  pointwise [gA]

theorem wOrd_at (z : FVec Ideal S2048x8456 .f32) (k : Fin 2048) (C : Fin 8456) : wOrd z (ix2 k C) = nat2 z k.val (src C.val) := by
  unfold wOrd
  refine ordered_at (nat2 z) _ _ _ _ _ _ _ _ _ _ ?_ ?_ ?_ ?_ ?_ ?_ ?_ ?_ ?_ ?_ _ k C
  · intro r c; rw [← nat2_val z r ⟨4360 + c.val, by omega⟩ _ _ rfl rfl]; pointwise
  · intro r c; rw [← nat2_val z r ⟨0 + c.val, by omega⟩ _ _ rfl rfl]; pointwise
  · intro r c; rw [← nat2_val z r ⟨2304 + c.val, by omega⟩ _ _ rfl rfl]; pointwise
  · intro r c; rw [← nat2_val z r ⟨3328 + c.val, by omega⟩ _ _ rfl rfl]; pointwise
  · intro r c; rw [← nat2_val z r ⟨1280 + c.val, by omega⟩ _ _ rfl rfl]; pointwise
  · intro r c; rw [← nat2_val z r ⟨1792 + c.val, by omega⟩ _ _ rfl rfl]; pointwise
  · intro r c; rw [← nat2_val z r ⟨1024 + c.val, by omega⟩ _ _ rfl rfl]; pointwise
  · intro r c; rw [← nat2_val z r ⟨1152 + c.val, by omega⟩ _ _ rfl rfl]; pointwise
  · intro r c; rw [← nat2_val z r ⟨4352 + c.val, by omega⟩ _ _ rfl rfl]; pointwise
  · intro r c; rw [← nat2_val z r ⟨4356 + c.val, by omega⟩ _ _ rfl rfl]; pointwise

theorem wWide_at (z : FVec Ideal S2048x8456 .f32) (k : Fin 2048) (C : Fin 8704) : wWide z (ix2 k C) = if h : C.val < 8456 then z (ix2 k ⟨C.val, h⟩) else 0 := by
  split
  · rename_i h
    pointwise [wWide]
    exact dif_pos h
  · rename_i h
    pointwise [wWide]
    exact (dif_neg h).trans (int_zero S_ ix0)

theorem wFlat_at (k : Fin 2048) (D : Fin 8456) : wFlat m c (ix2 k D) = nat3 (weights m c) 0 k.val D.val := by
  refine Eq.trans ?_ (nat3_val (weights m c) 0 k D _ _ _ rfl rfl rfl)
  pointwise [wFlat]

theorem wA_at (k : Fin 2048) (C : Fin 8704) : wA m c (ix2 k C) = wcol (nat3 (weights m c)) C.val k.val := by
  refine (wWide_at (wOrd (wFlat m c)) k C).trans ?_
  unfold wcol
  by_cases h : C.val < 8456
  · rw [dif_pos h, if_pos h, wOrd_at, ← wFlat_at m c k ⟨src C.val, src_lt _ h⟩]
    exact (nat2_val _ k ⟨src C.val, src_lt _ h⟩ _ _ rfl rfl).symm
  · rw [dif_neg h, if_neg h]

/-! ## The input blocks at an index -/

theorem iblk_read (w : Fin cfg0.W) (t : Fin cfg0.N) (Z : Buf (Elt Ideal) ((c : Thread nD τ).loc (Pipeline.arrRef spec0 w))) (hZ : V m c (Pipeline.arrRef spec0 w) = Z)
    (y : ((cfg0.win w).xblock (cfg0.grid.coords t)).Idx) :
    iblk m c w t y = ((cfg0.win w).blk t).view.read (Elt Ideal) Z y := by
  subst hZ
  rfl

theorem blk0 (t : Fin cfg0.N) (h : t.val / 4 < 64) (a : Fin 512) (k : Fin 2048) : iblk m c 0 t (ix2 a k) = rowM m c (512 * (t.val / 4) + a.val) k.val := by
  refine Eq.trans ?_ (xpA_at m c ⟨512 * (t.val / 4) + a.val, by omega⟩ k)
  refine (iblk_read m c 0 t (xpA m c) (V0 m c) _).trans (congrArg (xpA m c) ?_)
  have e : min (t.val / 4) 63 = t.val / 4 := by omega
  blk_ext [idx t, e]

theorem blk1 (t : Fin cfg0.N) (h : 64 ≤ t.val / 4) (a : Fin 512) (k : Fin 2048) : iblk m c 1 t (ix2 a k) = rowM m c (512 * (t.val / 4) + a.val) k.val := by
  have ht := t.isLt
  have hN := gridN
  have e : 512 * (t.val / 4) + a.val = 32768 + (512 * (t.val / 4 - 64) + a.val) := by omega
  rw [e]
  refine Eq.trans ?_ (xsA_at m c ⟨512 * (t.val / 4 - 64) + a.val, by omega⟩ k)
  refine (iblk_read m c 1 t (xsA m c) (V2 m c) _).trans (congrArg (xsA m c) ?_)
  blk_ext [idx t]

theorem blk2 (t : Fin cfg0.N) (k : Fin 2048) : iblk m c 2 t (ix2 0 k) = nat2 (gains m c) 0 k.val := by
  refine Eq.trans ?_ (gA_at m c k)
  refine (iblk_read m c 2 t (gA m c) (V18 m c) _).trans (congrArg (gA m c) ?_)
  blk_ext [idx t]

theorem blk3 (t : Fin cfg0.N) (k : Fin 2048) (C : Fin 2176) : iblk m c 3 t (ix2 k C) = wcol (nat3 (weights m c)) (2176 * (t.val % 4) + C.val) k.val := by
  refine Eq.trans ?_ (wA_at m c k ⟨2176 * (t.val % 4) + C.val, by omega⟩)
  refine (iblk_read m c 3 t (wA m c) (V17 m c) _).trans (congrArg (wA m c) ?_)
  blk_ext [idx t]

end Cert.Inproj

end
-- ==== Proof.InpStep.lean ====
/- What each kind of step of the input projection stores. -/
module

public import proofs.«01_k».proof.Proof.InpSpec
public import proofs.«01_k».proof.Proof.Gen.Kernel3Ideal.Value

@[expose] public section

set_option maxRecDepth 16384

noncomputable section

open Idealize.ShloMosaic Idealize.ShloMosaic.TcCoe

namespace Cert.Inproj

open Cert.Kernel3Ideal Cert.Kernel3Ideal.Gen

theorem outA (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S2048x2176 .bf16) (harg5 : arg5.IsWhole) (arg6 : Memref sig .tc .vmem S512x2176 .f32) (harg6 : arg6.IsWhole) (arg7 : Memref sig .tc .vmem S512x2048 .bf16) (harg7 : arg7.IsWhole) (hc0 : cond0_0 i) (hc1 : ¬cond0_1 i)
    (x0 : Vec Ideal S512x2048 .f32) (x1 : Vec Ideal S512x2048 .f32) (x2 : Vec Ideal S1x2048 .f32) (x3 : Vec Ideal S2048x2176 .bf16) :
    out0_A_4 (F := Ideal) c i arg2 harg2 arg3 harg3 arg4 harg4 arg5 harg5 arg6 harg6 arg7 harg7 hc0 hc1 x0 x1 x2 x3 = k0_pay3 (k0_pay1 x0 x2) x3 := by
  funext y
  frame_out

theorem soutA (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S2048x2176 .bf16) (harg5 : arg5.IsWhole) (arg6 : Memref sig .tc .vmem S512x2176 .f32) (harg6 : arg6.IsWhole) (arg7 : Memref sig .tc .vmem S512x2048 .bf16) (harg7 : arg7.IsWhole) (hc0 : cond0_0 i) (hc1 : ¬cond0_1 i)
    (x0 : Vec Ideal S512x2048 .f32) (x1 : Vec Ideal S512x2048 .f32) (x2 : Vec Ideal S1x2048 .f32) (x3 : Vec Ideal S2048x2176 .bf16) :
    sout0_A_0 (F := Ideal) c i arg2 harg2 arg3 harg3 arg4 harg4 arg5 harg5 arg6 harg6 arg7 harg7 hc0 hc1 x0 x1 x2 x3 = k0_pay1 x0 x2 := by
  funext y
  frame_out

theorem outB (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S2048x2176 .bf16) (harg5 : arg5.IsWhole) (arg6 : Memref sig .tc .vmem S512x2176 .f32) (harg6 : arg6.IsWhole) (arg7 : Memref sig .tc .vmem S512x2048 .bf16) (harg7 : arg7.IsWhole) (hc0 : ¬cond0_0 i) (hc1 : ¬cond0_1 i)
    (x0 : Vec Ideal S512x2048 .f32) (x1 : Vec Ideal S512x2048 .f32) (x2 : Vec Ideal S1x2048 .f32) (x3 : Vec Ideal S2048x2176 .bf16) (xs0 : Vec Ideal S512x2048 .bf16) :
    out0_B_4 (F := Ideal) c i arg2 harg2 arg3 harg3 arg4 harg4 arg5 harg5 arg6 harg6 arg7 harg7 hc0 hc1 x0 x1 x2 x3 xs0 = k0_pay3 (xs0) x3 := by
  funext y
  frame_out

theorem soutB (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S2048x2176 .bf16) (harg5 : arg5.IsWhole) (arg6 : Memref sig .tc .vmem S512x2176 .f32) (harg6 : arg6.IsWhole) (arg7 : Memref sig .tc .vmem S512x2048 .bf16) (harg7 : arg7.IsWhole) (hc0 : ¬cond0_0 i) (hc1 : ¬cond0_1 i)
    (x0 : Vec Ideal S512x2048 .f32) (x1 : Vec Ideal S512x2048 .f32) (x2 : Vec Ideal S1x2048 .f32) (x3 : Vec Ideal S2048x2176 .bf16) (xs0 : Vec Ideal S512x2048 .bf16) :
    sout0_B_0 (F := Ideal) c i arg2 harg2 arg3 harg3 arg4 harg4 arg5 harg5 arg6 harg6 arg7 harg7 hc0 hc1 x0 x1 x2 x3 xs0 = xs0 := by
  rfl

theorem outC (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S2048x2176 .bf16) (harg5 : arg5.IsWhole) (arg6 : Memref sig .tc .vmem S512x2176 .f32) (harg6 : arg6.IsWhole) (arg7 : Memref sig .tc .vmem S512x2048 .bf16) (harg7 : arg7.IsWhole) (hc0 : ¬cond0_0 i) (hc1 : cond0_1 i)
    (x0 : Vec Ideal S512x2048 .f32) (x1 : Vec Ideal S512x2048 .f32) (x2 : Vec Ideal S1x2048 .f32) (x3 : Vec Ideal S2048x2176 .bf16) :
    out0_C_4 (F := Ideal) c i arg2 harg2 arg3 harg3 arg4 harg4 arg5 harg5 arg6 harg6 arg7 harg7 hc0 hc1 x0 x1 x2 x3 = k0_pay3 (k0_pay2 x1 x2) x3 := by
  funext y
  frame_out

theorem soutC (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S2048x2176 .bf16) (harg5 : arg5.IsWhole) (arg6 : Memref sig .tc .vmem S512x2176 .f32) (harg6 : arg6.IsWhole) (arg7 : Memref sig .tc .vmem S512x2048 .bf16) (harg7 : arg7.IsWhole) (hc0 : ¬cond0_0 i) (hc1 : cond0_1 i)
    (x0 : Vec Ideal S512x2048 .f32) (x1 : Vec Ideal S512x2048 .f32) (x2 : Vec Ideal S1x2048 .f32) (x3 : Vec Ideal S2048x2176 .bf16) :
    sout0_C_0 (F := Ideal) c i arg2 harg2 arg3 harg3 arg4 harg4 arg5 harg5 arg6 harg6 arg7 harg7 hc0 hc1 x0 x1 x2 x3 = k0_pay2 x1 x2 := by
  funext y
  frame_out

end Cert.Inproj

end
-- ==== Proof.InpRef.lean ====
/- The reference of the input projection, stage by stage, read at an index. -/
module

public import proofs.«01_k».proof.Proof.InpSpec
public import proofs.«01_k».proof.Proof.Gen.Reference3Ideal.Run
import Idealize.ShloMosaic.Lib.Pointwise.Tactic

@[expose] public section

set_option maxRecDepth 16384

noncomputable section

open Idealize.ShloMosaic Idealize.ShloMosaic.TcCoe

namespace Cert.Reference3Ideal.Block

open Cert.Reference3Ideal Cert.Reference3Ideal.Gen Cert.AttnSpec Cert.ExpSpec Cert.InpSpec

/-- The normalised prompts and samples. -/
def promptN (x : FVec Ideal S16x2048x2048 .f32) (g : FVec Ideal S1x2048 .f32) : FVec Ideal S16x2048x2048 .f32 :=
  mulf (mulf x (broadcastInDim S16x2048x2048 ![0, 1, 2] bcast_S16x2048x1_S16x2048x2048_0_1_2 (Host.rsqrt (addf (Host.divf (broadcastInDim S16x2048x1 ![0, 1] bcast_S16x2048_S16x2048x1_0_1 (Host.reduceAdd (mulf x x) (constant S_ .f32 0x00000000#32) reducesTo_S16x2048x2048_S16x2048_d2 h_S_)) (broadcastInDim S16x2048x1 ![] bcast_S_S16x2048x1 (constant S_ .f32 0x45000000#32))) (broadcastInDim S16x2048x1 ![] bcast_S_S16x2048x1 (constant S_ .f32 0x3727C5AC#32)))))) (broadcastInDim S16x2048x2048 ![0, 1, 2] bcast_S1x1x2048_S16x2048x2048_0_1_2 (broadcastInDim S1x1x2048 ![2] bcast_S2048_S1x1x2048_2 (shapeCast _ g shapeCasts_S1x2048_S2048)))

def sampleN (x : FVec Ideal S128x4x2048 .f32) (g : FVec Ideal S1x2048 .f32) : FVec Ideal S128x4x2048 .f32 :=
  mulf (mulf x (broadcastInDim S128x4x2048 ![0, 1, 2] bcast_S128x4x1_S128x4x2048_0_1_2 (Host.rsqrt (addf (Host.divf (broadcastInDim S128x4x1 ![0, 1] bcast_S128x4_S128x4x1_0_1 (Host.reduceAdd (mulf x x) (constant S_ .f32 0x00000000#32) reducesTo_S128x4x2048_S128x4_d2 h_S_)) (broadcastInDim S128x4x1 ![] bcast_S_S128x4x1 (constant S_ .f32 0x45000000#32))) (broadcastInDim S128x4x1 ![] bcast_S_S128x4x1 (constant S_ .f32 0x3727C5AC#32)))))) (broadcastInDim S128x4x2048 ![0, 1, 2] bcast_S1x1x2048_S128x4x2048_0_1_2 (broadcastInDim S1x1x2048 ![2] bcast_S2048_S1x1x2048_2 (shapeCast _ g shapeCasts_S1x2048_S2048)))

/-- The projections, as rows. -/
def promptZ (h : FVec Ideal S16x2048x2048 .f32) (w : FVec Ideal S1x2048x8456 .f32) : FVec Ideal S32768x8456 .f32 :=
  shapeCast _ (Host.dotGeneral dot_S16x2048x2048_S2048x8456_S16x2048x8456_2_0_01_1_n_n none h (shapeCast _ w shapeCasts_S1x2048x8456_S2048x8456)) shapeCasts_S16x2048x8456_S32768x8456

def sampleZ (h : FVec Ideal S128x4x2048 .f32) (w : FVec Ideal S1x2048x8456 .f32) : FVec Ideal S1024x8456 .f32 :=
  shapeCast _ (pad S128x8x8456 ![0, 0, 0] ![0, 4, 0] ![0, 0, 0] (Host.dotGeneral dot_S128x4x2048_S2048x8456_S128x4x8456_2_0_01_1_n_n none h (shapeCast _ w shapeCasts_S1x2048x8456_S2048x8456)) (sitofp .f32 (constantI S_ 32 0#32)) pads_S128x4x8456_S128x8x8456_000_040_000 h_S_) shapeCasts_S128x8x8456_S1024x8456

def rowsZ (p : FVec Ideal S32768x8456 .f32) (s : FVec Ideal S1024x8456 .f32) : FVec Ideal S33792x8456 .f32 :=
  concatenate S33792x8456 0 [⟨S32768x8456, p⟩, ⟨S1024x8456, s⟩] concatenates_S32768x8456_S1024x8456_S33792x8456_d0

/-- The columns in the call's order. -/
def orderZ (z : FVec Ideal S33792x8456 .f32) : FVec Ideal S33792x8456 .f32 :=
  concatenate S33792x8456 1 [⟨S33792x4096, extractStridedSlice S33792x4096 ![0, 4360] z slices_S33792x8456_S33792x4096_0_4360⟩,
    ⟨S33792x1024, extractStridedSlice S33792x1024 ![0, 0] z slices_S33792x8456_S33792x1024_0_0⟩,
    ⟨S33792x1024, extractStridedSlice S33792x1024 ![0, 2304] z slices_S33792x8456_S33792x1024_0_2304⟩,
    ⟨S33792x1024, extractStridedSlice S33792x1024 ![0, 3328] z slices_S33792x8456_S33792x1024_0_3328⟩,
    ⟨S33792x512, extractStridedSlice S33792x512 ![0, 1280] z slices_S33792x8456_S33792x512_0_1280⟩,
    ⟨S33792x512, extractStridedSlice S33792x512 ![0, 1792] z slices_S33792x8456_S33792x512_0_1792⟩,
    ⟨S33792x128, extractStridedSlice S33792x128 ![0, 1024] z slices_S33792x8456_S33792x128_0_1024⟩,
    ⟨S33792x128, extractStridedSlice S33792x128 ![0, 1152] z slices_S33792x8456_S33792x128_0_1152⟩,
    ⟨S33792x4, extractStridedSlice S33792x4 ![0, 4352] z slices_S33792x8456_S33792x4_0_4352⟩,
    ⟨S33792x4, extractStridedSlice S33792x4 ![0, 4356] z slices_S33792x8456_S33792x4_0_4356⟩] concatenates_S33792x4096_S33792x1024_S33792x1024_S33792x1024_S33792x512_S33792x512_S33792x128_S33792x128_S33792x4_S33792x4_S33792x8456_d1

def wideZ (z : FVec Ideal S33792x8456 .f32) : FVec Ideal S33792x8704 .f32 :=
  pad S33792x8704 ![0, 0] ![0, 248] ![0, 0] z (sitofp .f32 (constantI S_ 32 0#32)) pads_S33792x8456_S33792x8704_000_02480 h_S_

def allR (x : FVec Ideal S16x2048x2048 .f32) (s : FVec Ideal S128x4x2048 .f32) (g : FVec Ideal S1x2048 .f32) (w : FVec Ideal S1x2048x8456 .f32) : FVec Ideal S33792x8704 .f32 :=
  wideZ (orderZ (rowsZ (promptZ (promptN x g) w) (sampleZ (sampleN s g) w)))

theorem staged (m : (ℓ : Loc nD τ sig) → Buf (Elt Ideal) ℓ) (c : Dev nD) :
    Cert.Reference3Ideal.Value.res_main_v47 (F := Ideal) m c = allR (m (c.tc.loc main_arg0)) (m (c.tc.loc main_arg1)) (m (c.tc.loc main_arg2)) (m (c.tc.loc main_arg3)) := rfl

/-! ## The stages at an index -/

theorem promptN_at (x : FVec Ideal S16x2048x2048 .f32) (g : FVec Ideal S1x2048 .f32) (b : Fin 16) (t k : Fin 2048) :
    promptN x g (ix3 b t k) = hid (nat3 x b.val t.val) (nat2 g 0) k.val := by
  have e : promptN x g (ix3 b t k) = x (ix3 b t k) * Ideal.rsqrt (Ideal.div (∑ k : Fin 2048, x (ix3 b t k) * x (ix3 b t k)) (Ideal.ofBits .f32 0x45000000#32) + Ideal.ofBits .f32 0x3727C5AC#32) * g (ix2 0 k) := by
    pointwise [promptN]
  rw [e]
  unfold hid rinv
  simp only [nat3_val x b t _ b.val t.val _ rfl rfl rfl, nat2_val g 0 k 0 k.val rfl rfl]

theorem sampleN_at (x : FVec Ideal S128x4x2048 .f32) (g : FVec Ideal S1x2048 .f32) (b : Fin 128) (t : Fin 4) (k : Fin 2048) :
    sampleN x g (ix3 b t k) = hid (nat3 x b.val t.val) (nat2 g 0) k.val := by
  have e : sampleN x g (ix3 b t k) = x (ix3 b t k) * Ideal.rsqrt (Ideal.div (∑ k : Fin 2048, x (ix3 b t k) * x (ix3 b t k)) (Ideal.ofBits .f32 0x45000000#32) + Ideal.ofBits .f32 0x3727C5AC#32) * g (ix2 0 k) := by
    pointwise [sampleN]
  rw [e]
  unfold hid rinv
  simp only [nat3_val x b t _ b.val t.val _ rfl rfl rfl, nat2_val g 0 k 0 k.val rfl rfl]

theorem promptZ_at (h : FVec Ideal S16x2048x2048 .f32) (w : FVec Ideal S1x2048x8456 .f32) (r : Fin 32768) (D : Fin 8456) :
    promptZ h w (ix2 r D) = ∑ k : Fin 2048, h (ix3 ⟨r.val / 2048, by omega⟩ ⟨r.val % 2048, by omega⟩ k) * w (ix3 0 k D) := by
  pointwise [promptZ]

theorem sampleZ_at (h : FVec Ideal S128x4x2048 .f32) (w : FVec Ideal S1x2048x8456 .f32) (r : Fin 1024) (D : Fin 8456) :
    sampleZ h w (ix2 r D) = if h4 : r.val % 8 < 4 then ∑ k : Fin 2048, h (ix3 ⟨r.val / 8, by omega⟩ ⟨r.val % 8, h4⟩ k) * w (ix3 0 k D) else 0 := by
  have hr : r.val / 8 < 128 := by omega
  split
  · rename_i h4
    pointwise [sampleZ]
    exact dif_pos ⟨hr, h4⟩
  · rename_i h4
    pointwise [sampleZ]
    exact (dif_neg fun q => h4 q.2).trans (int_zero S_ ix0)

theorem rowsZ_at (p : FVec Ideal S32768x8456 .f32) (s : FVec Ideal S1024x8456 .f32) (R : Fin 33792) (D : Fin 8456) :
    rowsZ p s (ix2 R D) = if h : R.val < 32768 then p (ix2 ⟨R.val, h⟩ D) else s (ix2 ⟨R.val - 32768, by omega⟩ D) := by
  pointwise [rowsZ]

theorem orderZ_at (z : FVec Ideal S33792x8456 .f32) (R : Fin 33792) (C : Fin 8456) :
    orderZ z (ix2 R C) = nat2 z R.val (src C.val) := by
  unfold orderZ
  refine ordered_at (nat2 z) _ _ _ _ _ _ _ _ _ _ ?_ ?_ ?_ ?_ ?_ ?_ ?_ ?_ ?_ ?_ _ R C
  · intro r c; rw [← nat2_val z r ⟨4360 + c.val, by omega⟩ _ _ rfl rfl]; pointwise
  · intro r c; rw [← nat2_val z r ⟨0 + c.val, by omega⟩ _ _ rfl rfl]; pointwise
  · intro r c; rw [← nat2_val z r ⟨2304 + c.val, by omega⟩ _ _ rfl rfl]; pointwise
  · intro r c; rw [← nat2_val z r ⟨3328 + c.val, by omega⟩ _ _ rfl rfl]; pointwise
  · intro r c; rw [← nat2_val z r ⟨1280 + c.val, by omega⟩ _ _ rfl rfl]; pointwise
  · intro r c; rw [← nat2_val z r ⟨1792 + c.val, by omega⟩ _ _ rfl rfl]; pointwise
  · intro r c; rw [← nat2_val z r ⟨1024 + c.val, by omega⟩ _ _ rfl rfl]; pointwise
  · intro r c; rw [← nat2_val z r ⟨1152 + c.val, by omega⟩ _ _ rfl rfl]; pointwise
  · intro r c; rw [← nat2_val z r ⟨4352 + c.val, by omega⟩ _ _ rfl rfl]; pointwise
  · intro r c; rw [← nat2_val z r ⟨4356 + c.val, by omega⟩ _ _ rfl rfl]; pointwise

theorem wideZ_at (z : FVec Ideal S33792x8456 .f32) (R : Fin 33792) (C : Fin 8704) :
    wideZ z (ix2 R C) = if h : C.val < 8456 then z (ix2 R ⟨C.val, h⟩) else 0 := by
  split
  · rename_i h
    pointwise [wideZ]
    exact dif_pos h
  · rename_i h
    pointwise [wideZ]
    exact (dif_neg h).trans (int_zero S_ ix0)

/-! ## The result at an index -/

theorem rows_plain (x : FVec Ideal S16x2048x2048 .f32) (s : FVec Ideal S128x4x2048 .f32) (g : FVec Ideal S1x2048 .f32) (w : FVec Ideal S1x2048x8456 .f32) (R : Fin 33792) (D : Fin 8456) :
    rowsZ (promptZ (promptN x g) w) (sampleZ (sampleN s g) w) (ix2 R D) = plain (nat3 x) (nat3 s) (nat2 g 0) (nat3 w) R.val D.val := by
  have hw : ∀ k : Fin 2048, w (ix3 0 k D) = nat3 w 0 k.val D.val := fun k => nat3_val w 0 k D _ _ _ rfl rfl rfl
  rw [rowsZ_at]
  unfold plain
  by_cases h : R.val < 32768
  · rw [dif_pos h, if_pos h, promptZ_at]
    unfold proj
    exact Finset.sum_congr rfl fun k _ => by rw [promptN_at, hw]
  · rw [dif_neg h, if_neg h, sampleZ_at]
    by_cases h4 : (R.val - 32768) % 8 < 4
    · rw [dif_pos h4, if_pos h4]
      unfold proj
      exact Finset.sum_congr rfl fun k _ => by rw [sampleN_at, hw]
    · rw [dif_neg h4, if_neg h4]

theorem allR_cell (x : FVec Ideal S16x2048x2048 .f32) (s : FVec Ideal S128x4x2048 .f32) (g : FVec Ideal S1x2048 .f32) (w : FVec Ideal S1x2048x8456 .f32) (R : Fin 33792) (C : Fin 8704) :
    allR x s g w (ix2 R C) = proj (row (nat3 x) (nat3 s) R.val) (nat2 g 0) (wcol (nat3 w) C.val) := by
  rw [plain_eq]
  unfold allR
  rw [wideZ_at]
  by_cases h : C.val < 8456
  · rw [dif_pos h, if_pos h, orderZ_at, ← rows_plain x s g w R ⟨src C.val, src_lt _ h⟩]
    exact (nat2_val _ R ⟨src C.val, src_lt _ h⟩ _ _ rfl rfl).symm
  · rw [dif_neg h, if_neg h]

end Cert.Reference3Ideal.Block

end
-- ==== Proof.InpAlg.lean ====
/- The input projection and its reference compute the same array. -/
module

public import proofs.«01_k».proof.Defs
public import proofs.«01_k».proof.Proof.InpValue
public import proofs.«01_k».proof.Proof.InpStep
public import proofs.«01_k».proof.Proof.InpRef

@[expose] public section

set_option maxRecDepth 16384

noncomputable section

open Idealize.ShloMosaic Idealize.ShloMosaic.TcCoe Idealize.SL.Sem

namespace Cert.Inproj

open Cert.Kernel3Ideal Cert.Kernel3Ideal.Gen Cert.AttnSpec Cert.ExpSpec Cert.InpSpec

variable (m : (ℓ : Loc nD τ sig) → Buf (Elt Ideal) ℓ) (c : Dev nD)

/-! ## What each step leaves, at an index -/

/-- The carried rows after step `n` are the normalised rows of its block. -/
theorem carried : ∀ (n : ℕ) (hn : n < cfg0.N) (a : Fin 512) (k : Fin 2048),
    (outsAt0 m c n hn).2 (ix2 a k) = hid (rowM m c (512 * (n / 4) + a.val)) (nat2 (gains m c) 0) k.val := by
  intro n
  induction n with
  | zero =>
    intro hn a k
    have e := outsAt0_A m c ⟨0, hn⟩ (by show 0 / 4 % 66 + 64 * (0 % 4) ≤ 63; decide) (by show ¬ 2 * (0 % 4) + 64 ≤ 0 / 4 % 66; decide)
    refine (congrFun (congrArg Prod.snd e) (ix2 a k)).trans ?_
    dsimp only
    rw [soutA]
    exact pay1_at _ _ (rowM m c (512 * (0 / 4) + a.val)) _ a k (fun k => blk0 m c ⟨0, hn⟩ (by show 0 / 4 < 64; decide) a k) (fun k => blk2 m c ⟨0, hn⟩ k)
  | succ n ih =>
    intro hn a k
    have hN := lt_of_lt_of_eq hn gridN
    by_cases hz : (n + 1) % 4 = 0
    · by_cases hp : (n + 1) / 4 < 64
      · have e := outsAt0_A m c ⟨n + 1, hn⟩ (by show (n + 1) / 4 % 66 + 64 * ((n + 1) % 4) ≤ 63; omega) (by show ¬ 2 * ((n + 1) % 4) + 64 ≤ (n + 1) / 4 % 66; omega)
        refine (congrFun (congrArg Prod.snd e) (ix2 a k)).trans ?_
        dsimp only
        rw [soutA]
        exact pay1_at _ _ (rowM m c (512 * ((n + 1) / 4) + a.val)) _ a k (fun k => blk0 m c ⟨n + 1, hn⟩ hp a k) (fun k => blk2 m c ⟨n + 1, hn⟩ k)
      · have e := outsAt0_C m c ⟨n + 1, hn⟩ (by show ¬ (n + 1) / 4 % 66 + 64 * ((n + 1) % 4) ≤ 63; omega) (by show 2 * ((n + 1) % 4) + 64 ≤ (n + 1) / 4 % 66; omega)
        refine (congrFun (congrArg Prod.snd e) (ix2 a k)).trans ?_
        dsimp only
        rw [soutC]
        exact pay2_at _ _ (rowM m c (512 * ((n + 1) / 4) + a.val)) _ a k (fun k => blk1 m c ⟨n + 1, hn⟩ (by show 64 ≤ (n + 1) / 4; omega) a k) (fun k => blk2 m c ⟨n + 1, hn⟩ k)
    · have e := outsAt0_B m c ⟨n + 1, hn⟩ (by show ¬ (n + 1) / 4 % 66 + 64 * ((n + 1) % 4) ≤ 63; omega) (by show ¬ 2 * ((n + 1) % 4) + 64 ≤ (n + 1) / 4 % 66; omega)
      refine (congrFun (congrArg Prod.snd e) (ix2 a k)).trans ?_
      dsimp only
      rw [soutB, show (n + 1) / 4 = n / 4 from by omega]
      exact ih (Nat.lt_of_succ_lt hn) a k

/-- The carried rows are the ones the step multiplies. -/
theorem stored (t : Fin cfg0.N) : (outsAt0 m c t.val t.isLt).1 = k0_pay3 (F := Ideal) (outsAt0 m c t.val t.isLt).2 (iblk m c 3 t) := by
  have ht := lt_of_lt_of_eq t.isLt gridN
  by_cases h0 : t.val / 4 % 66 + 64 * (t.val % 4) ≤ 63
  · have h1 : ¬ 2 * (t.val % 4) + 64 ≤ t.val / 4 % 66 := by omega
    rw [outsAt0_A m c t h0 h1]
    dsimp only
    rw [outA, soutA]
  · by_cases h1 : 2 * (t.val % 4) + 64 ≤ t.val / 4 % 66
    · rw [outsAt0_C m c t h0 h1]
      dsimp only
      rw [outC, soutC]
    · rw [outsAt0_B m c t h0 h1]
      dsimp only
      rw [outB, soutB]

abbrev cellM (R C : ℕ) : EReal := proj (rowM m c R) (nat2 (gains m c) 0) (wcol (nat3 (weights m c)) C)

theorem stored_at (t : Fin cfg0.N) (a : Fin 512) (C : Fin 2176) :
    (outsAt0 m c t.val t.isLt).1 (ix2 a C) = cellM m c (512 * (t.val / 4) + a.val) (2176 * (t.val % 4) + C.val) := by
  rw [stored, pay3_at]
  unfold cellM proj
  exact Finset.sum_congr rfl fun k _ => congrArg₂ (· * ·) (carried m c t.val t.isLt a k) (blk3 m c t k C)

/-! ## The whole result -/

theorem result_at (j : S33792x8704.Idx) : Value.G4 m c j = cellM m c (j 0).val (j 1).val := by
  have h0 : (j (0 : Fin 2)).val < 33792 := (j (0 : Fin 2)).isLt
  have h1 : (j (1 : Fin 2)).val < 8704 := (j (1 : Fin 2)).isLt
  have hp : Value.pt4Of j = 4 * ((j (0 : Fin 2)).val / 512) + (j (1 : Fin 2)).val / 2176 := by
    show 4 * ((j (0 : Fin 2)).val / 512 - 0) + 1 * ((j (1 : Fin 2)).val / 2176 - 0) = _
    omega
  have hlt : Value.pt4Of j < cfg0.N := by rw [hp, gridN]; omega
  unfold Value.G4
  rw [dif_pos hlt, ← Value.outsAt0_sweep m c (Value.pt4Of j) hlt]
  have hl : Value.loc4Of j = ix2 (⟨(j (0 : Fin 2)).val % 512, by omega⟩ : Fin 512) (⟨(j (1 : Fin 2)).val % 2176, by omega⟩ : Fin 2176) := by
    funext k
    match k with
    | ⟨0, _⟩ => rfl
    | ⟨1, _⟩ => rfl
  rw [hl]
  refine (stored_at m c ⟨Value.pt4Of j, hlt⟩ _ _).trans ?_
  dsimp only
  congr 1
  · rw [hp]; omega
  · rw [hp]; omega

theorem result : Cert.Reference3Ideal.Block.allR (prompts m c) (samples m c) (gains m c) (weights m c) = Value.G4 m c := by
  funext j
  have hj : j = ix2 (⟨(j 0).val, (j 0).isLt⟩ : Fin 33792) (⟨(j 1).val, (j 1).isLt⟩ : Fin 8704) := by
    funext k
    match k with
    | ⟨0, _⟩ => rfl
    | ⟨1, _⟩ => rfl
  refine Eq.trans ?_ (result_at m c j).symm
  exact (congrArg _ hj).trans (Cert.Reference3Ideal.Block.allR_cell _ _ _ _ _ _)

theorem algebraic : algebraic_Kernel3Ideal_Reference3Ideal (hKernel3Ideal := Cert.Kernel3Ideal.Gen.facts) (hReference3Ideal := Cert.Reference3Ideal.Gen.facts) := by
  intro m g m' g' _ hagree
  refine ⟨fun c => Value.G4 m c, Cert.Kernel3Ideal.Value.run m g, ?_⟩
  refine (θ_run Cert.Reference3Ideal.defs _ _).mono (fun r h c => ?_) (Cert.Reference3Ideal.Value.run m' g')
  obtain ⟨h0, ha⟩ := h c
  obtain ⟨e0, e1, e2, e3⟩ := hagree c
  refine ⟨h0.trans ?_, ha⟩
  rw [Cert.Reference3Ideal.Block.staged]
  refine Eq.trans ?_ (result m c)
  exact congr (congr (congr (congrArg Cert.Reference3Ideal.Block.allR e0) e1) e2) e3

end Cert.Inproj

end
-- ==== Proof.MrgSpec.lean ====
/- The merge as a formula: a row of the two branches, each projected and gated, added, projected again and added to the
   token. -/
module

public import proofs.«01_k».proof.Proof.InpSpec

@[expose] public section

set_option maxRecDepth 16384

noncomputable section

open Idealize.ShloMosaic

namespace Cert.MrgSpec

/-- Column `j` of the gated branches: the attended row `a` and the row `h` of the matrix memory, gated by the row `z`. -/
def branches (a h z : ℕ → EReal) (wa wm : ℕ → ℕ → EReal) (j : ℕ) : EReal :=
  Ideal.logistic (z j) * (∑ k : Fin 1024, a k.val * wa k.val j) + Ideal.logistic (z (2048 + j)) * (∑ k : Fin 1024, h k.val * wm k.val j)

/-- Column `C` of the token's row with the branches added. -/
def joined (x a h z : ℕ → EReal) (wa wm wo : ℕ → ℕ → EReal) (C : ℕ) : EReal :=
  x C + ∑ j : Fin 2048, branches a h z wa wm j.val * wo j.val C

/-- Row `R` of the prompts' rows followed by the samples'. -/
def two (p s : ℕ → ℕ → EReal) (R k : ℕ) : EReal := if R < 32768 then p R k else s (R - 32768) k

end Cert.MrgSpec

end
-- ==== Proof.MrgPay.lean ====
/- The merge's payloads read at an index. -/
module

public import proofs.«01_k».proof.Proof.MrgSpec
public import proofs.«01_k».proof.Proof.Gen.Kernel4Ideal.Skeleton
import Idealize.ShloMosaic.Lib.Pointwise.Tactic

@[expose] public section

set_option maxRecDepth 16384

noncomputable section

open Idealize.ShloMosaic

namespace Cert.Merge

open Cert.Kernel4Ideal Cert.Kernel4Ideal.Gen Cert.InpSpec Cert.MrgSpec

/-- The mean square of each row and one over its root. -/
def scales (x : FVec Ideal S256x2048 .f32) : FVec Ideal S256x1 .f32 :=
  rsqrt (addf (divf (shapeCast S256x1 (multiReduction .add [1] S256 (mulf x x) 0x00000000#32 reduces_S256x2048_S256 (.inl rfl) rfl) shapeCasts_S256_S256x1) (broadcast S256x1 (Scalar.ofBits .f32 0x45000000#32)))
    (broadcast S256x1 (Scalar.ofBits .f32 0x3727C5AC#32)))

theorem scales_at (x : FVec Ideal S256x2048 .f32) (X : ℕ → EReal) (a : Fin 256) (h : ∀ k : Fin 2048, x (ix2 a k) = X k.val) :
    scales x (ix2 a 0) = rinv X := by
  have e : scales x (ix2 a 0) = Ideal.rsqrt (Ideal.div (∑ k : Fin 2048, x (ix2 a k) * x (ix2 a k)) (Ideal.ofBits .f32 0x45000000#32) + Ideal.ofBits .f32 0x3727C5AC#32) := by
    pointwise [scales]
  rw [e]
  unfold rinv
  simp only [h]

theorem pay1_at (x : FVec Ideal S256x2048 .f32) (g : FVec Ideal S1x2048 .f32) (X G : ℕ → EReal) (a : Fin 256) (k : Fin 2048)
    (h : ∀ k : Fin 2048, x (ix2 a k) = X k.val) (hg : ∀ k : Fin 2048, g (ix2 0 k) = G k.val) :
    k0_pay1 (F := Ideal) x g (ix2 a k) = hid X G k.val := by
  have e : k0_pay1 (F := Ideal) x g = mulf (mulf x (broadcastTo S256x2048 (scales x) broadcasts_S256x1_S256x2048)) (broadcastTo S256x2048 g broadcasts_S1x2048_S256x2048) := by
    unfold k0_pay1 scales
    simp only [shapeCast_self]
  have e2 : (mulf (mulf x (broadcastTo S256x2048 (scales x) broadcasts_S256x1_S256x2048)) (broadcastTo S256x2048 g broadcasts_S1x2048_S256x2048) : FVec Ideal S256x2048 .f32) (ix2 a k)
      = x (ix2 a k) * scales x (ix2 a 0) * g (ix2 0 k) := by
    pointwise
  rw [e, e2, scales_at x X a h, h, hg]
  rfl

/-- The gated branches of a tile. -/
def mixed (a h : FVec Ideal S256x1024 .bf16) (wa wm : FVec Ideal S1024x2048 .bf16) (ga gm : FVec Ideal S256x2048 .f32) : FVec Ideal S256x2048 .bf16 :=
  truncf .bf16 (addf (mulf (logistic ga) (matmul dot_S256x1024_S1024x2048_S256x2048_1_0_0_1_n_n none a wa (constant S256x2048 .f32 0x00000000#32)))
    (mulf (logistic gm) (matmul dot_S256x1024_S1024x2048_S256x2048_1_0_0_1_n_n none h wm (constant S256x2048 .f32 0x00000000#32)))) bitsLt_bf16_f32

theorem mixed_at (a h : FVec Ideal S256x1024 .bf16) (wa wm : FVec Ideal S1024x2048 .bf16) (ga gm : FVec Ideal S256x2048 .f32) (r : Fin 256) (j : Fin 2048) :
    mixed a h wa wm ga gm (ix2 r j) = Ideal.logistic (ga (ix2 r j)) * (∑ k : Fin 1024, a (ix2 r k) * wa (ix2 k j)) + Ideal.logistic (gm (ix2 r j)) * (∑ k : Fin 1024, h (ix2 r k) * wm (ix2 k j)) := by
  pointwise [mixed]

/-- The tile with the branches added. -/
def added (x : FVec Ideal S256x2048 .f32) (b : FVec Ideal S256x2048 .bf16) (wo : FVec Ideal S2048x2048 .bf16) : FVec Ideal S256x2048 .f32 :=
  addf x (matmul dot_S256x2048_S2048x2048_S256x2048_1_0_0_1_n_n none b wo (constant S256x2048 .f32 0x00000000#32))

theorem added_at (x : FVec Ideal S256x2048 .f32) (b : FVec Ideal S256x2048 .bf16) (wo : FVec Ideal S2048x2048 .bf16) (r : Fin 256) (C : Fin 2048) :
    added x b wo (ix2 r C) = x (ix2 r C) + ∑ j : Fin 2048, b (ix2 r j) * wo (ix2 j C) := by
  pointwise [added]

/-- Which of the two sources a tile takes. -/
def pick (i : grid0.Coords) : BitVec 1 := Scalar.cmpi .slt (BitVec.ofNat 32 (i 0).val) 128#32

theorem pay3_eq (i : grid0.Coords) (xa xb : FVec Ideal S256x2048 .f32) (aa ab ha hb : FVec Ideal S256x1024 .bf16) (wa wm : FVec Ideal S1024x2048 .bf16) (ga gm : FVec Ideal S256x2048 .f32) (wo : FVec Ideal S2048x2048 .bf16) :
    k0_pay3 (F := Ideal) i xa xb aa ab ha hb wa wm ga gm wo
      = added (Scalar.select (pick i) xa xb) (mixed (Scalar.select (pick i) aa ab) (Scalar.select (pick i) ha hb) wa wm ga gm) wo := by
  unfold k0_pay3 added mixed pick
  simp only [shapeCast_self]

theorem pay3_at (i : grid0.Coords) (xa xb : FVec Ideal S256x2048 .f32) (aa ab ha hb : FVec Ideal S256x1024 .bf16) (wa wm : FVec Ideal S1024x2048 .bf16) (ga gm : FVec Ideal S256x2048 .f32) (wo : FVec Ideal S2048x2048 .bf16)
    (X A H Z : ℕ → EReal) (WA WM WO : ℕ → ℕ → EReal) (r : Fin 256)
    (hx : ∀ k : Fin 2048, (Scalar.select (pick i) xa xb : FVec Ideal S256x2048 .f32) (ix2 r k) = X k.val)
    (ha' : ∀ k : Fin 1024, (Scalar.select (pick i) aa ab : FVec Ideal S256x1024 .bf16) (ix2 r k) = A k.val)
    (hh : ∀ k : Fin 1024, (Scalar.select (pick i) ha hb : FVec Ideal S256x1024 .bf16) (ix2 r k) = H k.val)
    (hga : ∀ k : Fin 2048, ga (ix2 r k) = Z k.val) (hgm : ∀ k : Fin 2048, gm (ix2 r k) = Z (2048 + k.val))
    (hwa : ∀ (k : Fin 1024) (j : Fin 2048), wa (ix2 k j) = WA k.val j.val) (hwm : ∀ (k : Fin 1024) (j : Fin 2048), wm (ix2 k j) = WM k.val j.val)
    (hwo : ∀ k j : Fin 2048, wo (ix2 k j) = WO k.val j.val) (C : Fin 2048) :
    k0_pay3 (F := Ideal) i xa xb aa ab ha hb wa wm ga gm wo (ix2 r C) = joined X A H Z WA WM WO C.val := by
  rw [pay3_eq, added_at, hx]
  unfold joined
  refine congrArg (X C.val + ·) (Finset.sum_congr rfl fun j _ => ?_)
  rw [mixed_at, hwo, hga, hgm]
  unfold branches
  simp only [ha', hh, hwa, hwm]

end Cert.Merge

end
-- ==== Proof.MrgValue.lean ====
/- The merge's input blocks, as functions of its arguments. -/
module

public import proofs.«01_k».proof.Proof.MrgPay
public import proofs.«01_k».proof.Proof.Gen.Kernel4Ideal.Value
import Idealize.ShloMosaic.Lib.Pointwise.Tactic

@[expose] public section

set_option maxRecDepth 16384

noncomputable section

open Idealize.ShloMosaic Idealize.ShloMosaic.TcCoe

namespace Cert.Merge

open Cert.Kernel4Ideal Cert.Kernel4Ideal.Gen Cert.AttnSpec Cert.ExpSpec Cert.InpSpec Cert.MrgSpec

/-- The windows' block indices. -/
theorem idx : ∀ t : Fin cfg0.N, win0_0.index t = ![min t.val 127, 0] ∧ win0_1.index t = ![t.val - 128, 0] ∧ win0_2.index t = ![min t.val 127, 0] ∧ win0_3.index t = ![t.val - 128, 0]
    ∧ win0_4.index t = ![min t.val 127, 0] ∧ win0_5.index t = ![t.val - 128, 0] ∧ win0_6.index t = ![t.val, 0] ∧ win0_7.index t = ![t.val, 1] ∧ win0_8.index t = ![0, 0] ∧ win0_9.index t = ![0, 0]
    ∧ win0_10.index t = ![0, 0] ∧ win0_11.index t = ![0, 0] ∧ win0_14.index t = ![t.val, 0] ∧ win0_15.index t = ![t.val, 0] :=
  (by decide +kernel : ∀ t : Fin grid0.N, _)

theorem picks : ∀ t : Fin cfg0.N, pick (grid0.coords t) = if t.val < 128 then 1#1 else 0#1 :=
  (by decide +kernel : ∀ t : Fin grid0.N, Scalar.cmpi .slt (BitVec.ofNat 32 ((grid0.coords t) 0).val) 128#32 = if t.val < 128 then 1#1 else 0#1)

theorem gridN : cfg0.N = 132 := N_0

variable (m : (ℓ : Loc nD τ sig) → Buf (Elt Ideal) ℓ) (c : Dev nD)

abbrev prompts : FVec Ideal S16x2048x2048 .f32 := m (c.tc.loc main_arg0)
abbrev samples : FVec Ideal S128x4x2048 .f32 := m (c.tc.loc main_arg1)
abbrev attP : FVec Ideal S32768x1024 .bf16 := m (c.tc.loc main_arg2)
abbrev attS : FVec Ideal S1024x1024 .bf16 := m (c.tc.loc main_arg3)
abbrev memP : FVec Ideal S32768x1024 .bf16 := m (c.tc.loc main_arg4)
abbrev memS : FVec Ideal S1024x1024 .bf16 := m (c.tc.loc main_arg5)
abbrev zAll : FVec Ideal S33792x8704 .f32 := m (c.tc.loc main_arg6)
abbrev wAtt : FVec Ideal S1x1024x2048 .f32 := m (c.tc.loc main_arg7)
abbrev wMem : FVec Ideal S1x1024x2048 .f32 := m (c.tc.loc main_arg8)
abbrev wOut : FVec Ideal S1x2048x2048 .f32 := m (c.tc.loc main_arg9)
abbrev gains : FVec Ideal S1x2048 .f32 := m (c.tc.loc main_arg10)

/-! ## The arrays the call takes -/

def xpA : FVec Ideal S32768x2048 .f32 := shapeCast S32768x2048 (prompts m c) shapeCasts_S16x2048x2048_S32768x2048

def xsA : FVec Ideal S1024x2048 .f32 :=
  shapeCast S1024x2048 (pad S128x8x2048 ![0, 0, 0] ![0, 4, 0] ![0, 0, 0] (samples m c) (sitofp .f32 (constantI S_ 32 0#32)) pads_S128x4x2048_S128x8x2048_000_040_000 h_S_) shapeCasts_S128x8x2048_S1024x2048

def waA : FVec Ideal S1024x2048 .bf16 := truncf .bf16 (shapeCast S1024x2048 (wAtt m c) shapeCasts_S1x1024x2048_S1024x2048) bitsLt_bf16_f32

def wmA : FVec Ideal S1024x2048 .bf16 := truncf .bf16 (shapeCast S1024x2048 (wMem m c) shapeCasts_S1x1024x2048_S1024x2048) bitsLt_bf16_f32

def woA : FVec Ideal S2048x2048 .bf16 := truncf .bf16 (shapeCast S2048x2048 (wOut m c) shapeCasts_S1x2048x2048_S2048x2048) bitsLt_bf16_f32

def gA : FVec Ideal S1x2048 .f32 := shapeCast S1x2048 (shapeCast S2048 (gains m c) shapeCasts_S1x2048_S2048) shapeCasts_S2048_S1x2048

theorem V0 : V m c main_v0 = xpA m c := by
  unfold V; simp only [hostOps0, hostOps0_1, hostOps0_2, hostOps0_3, hostOps0_4, hostOps0_5, hostOps0_6, List.flatten_cons, List.flatten_nil, List.append_nil, List.cons_append, List.nil_append, StableHlo.TRef.unary, StableHlo.TRef.binary, StableHlo.TRef.toBuf, StableHlo.TRef.ofBuf, cast_eq]; after_results; rfl

theorem V2 : V m c main_v2 = xsA m c := by
  unfold V; simp only [hostOps0, hostOps0_1, hostOps0_2, hostOps0_3, hostOps0_4, hostOps0_5, hostOps0_6, List.flatten_cons, List.flatten_nil, List.append_nil, List.cons_append, List.nil_append, StableHlo.TRef.unary, StableHlo.TRef.binary, StableHlo.TRef.toBuf, StableHlo.TRef.ofBuf, cast_eq]; after_results; rfl

theorem V4 : V m c main_v4 = waA m c := by
  unfold V; simp only [hostOps0, hostOps0_1, hostOps0_2, hostOps0_3, hostOps0_4, hostOps0_5, hostOps0_6, List.flatten_cons, List.flatten_nil, List.append_nil, List.cons_append, List.nil_append, StableHlo.TRef.unary, StableHlo.TRef.binary, StableHlo.TRef.toBuf, StableHlo.TRef.ofBuf, cast_eq]; after_results; rfl

theorem V6 : V m c main_v6 = wmA m c := by
  unfold V; simp only [hostOps0, hostOps0_1, hostOps0_2, hostOps0_3, hostOps0_4, hostOps0_5, hostOps0_6, List.flatten_cons, List.flatten_nil, List.append_nil, List.cons_append, List.nil_append, StableHlo.TRef.unary, StableHlo.TRef.binary, StableHlo.TRef.toBuf, StableHlo.TRef.ofBuf, cast_eq]; after_results; rfl

theorem V8 : V m c main_v8 = woA m c := by
  unfold V; simp only [hostOps0, hostOps0_1, hostOps0_2, hostOps0_3, hostOps0_4, hostOps0_5, hostOps0_6, List.flatten_cons, List.flatten_nil, List.append_nil, List.cons_append, List.nil_append, StableHlo.TRef.unary, StableHlo.TRef.binary, StableHlo.TRef.toBuf, StableHlo.TRef.ofBuf, cast_eq]; after_results; rfl

theorem V20 : V m c main_v20 = gA m c := by
  unfold V; simp only [hostOps0, hostOps0_1, hostOps0_2, hostOps0_3, hostOps0_4, hostOps0_5, hostOps0_6, List.flatten_cons, List.flatten_nil, List.append_nil, List.cons_append, List.nil_append, StableHlo.TRef.unary, StableHlo.TRef.binary, StableHlo.TRef.toBuf, StableHlo.TRef.ofBuf, cast_eq]; after_results; rfl

/-! ## These arrays at an index -/

abbrev rowM (R : ℕ) : ℕ → EReal := row (nat3 (prompts m c)) (nat3 (samples m c)) R
abbrev attM (R : ℕ) : ℕ → EReal := two (nat2 (attP m c)) (nat2 (attS m c)) R
abbrev memM (R : ℕ) : ℕ → EReal := two (nat2 (memP m c)) (nat2 (memS m c)) R

theorem xpA_at (r : Fin 32768) (k : Fin 2048) : xpA m c (ix2 r k) = rowM m c r.val k.val := by
  have e : xpA m c (ix2 r k) = prompts m c (ix3 ⟨r.val / 2048, by omega⟩ ⟨r.val % 2048, by omega⟩ k) := by
    pointwise [xpA]
  rw [e]
  exact (nat3_val _ _ _ k _ _ _ rfl rfl rfl).trans (if_pos r.isLt).symm

theorem xsA_at (r : Fin 1024) (k : Fin 2048) : xsA m c (ix2 r k) = rowM m c (32768 + r.val) k.val := by
  have hr : r.val / 8 < 128 := by omega
  have e : xsA m c (ix2 r k) = if h4 : r.val % 8 < 4 then samples m c (ix3 ⟨r.val / 8, hr⟩ ⟨r.val % 8, h4⟩ k) else 0 := by
    split
    · rename_i h4
      pointwise [xsA]
      exact dif_pos ⟨hr, h4⟩
    · rename_i h4
      pointwise [xsA]
      exact (dif_neg fun q => h4 q.2).trans (int_zero S_ ix0)
  rw [e]
  unfold rowM row
  rw [if_neg (by omega), Nat.add_sub_cancel_left]
  by_cases h4 : r.val % 8 < 4
  · rw [dif_pos h4, if_pos h4]
    exact nat3_val _ _ _ k _ _ _ rfl rfl rfl
  · rw [dif_neg h4, if_neg h4]

theorem gA_at (k : Fin 2048) : gA m c (ix2 0 k) = nat2 (gains m c) 0 k.val := by
  refine Eq.trans ?_ (nat2_val (gains m c) 0 k _ _ rfl rfl)
  pointwise [gA]

theorem waA_at (k : Fin 1024) (j : Fin 2048) : waA m c (ix2 k j) = nat3 (wAtt m c) 0 k.val j.val := by
  refine Eq.trans ?_ (nat3_val (wAtt m c) 0 k j _ _ _ rfl rfl rfl)
  pointwise [waA]

theorem wmA_at (k : Fin 1024) (j : Fin 2048) : wmA m c (ix2 k j) = nat3 (wMem m c) 0 k.val j.val := by
  refine Eq.trans ?_ (nat3_val (wMem m c) 0 k j _ _ _ rfl rfl rfl)
  pointwise [wmA]

theorem woA_at (k j : Fin 2048) : woA m c (ix2 k j) = nat3 (wOut m c) 0 k.val j.val := by
  refine Eq.trans ?_ (nat3_val (wOut m c) 0 k j _ _ _ rfl rfl rfl)
  pointwise [woA]

/-! ## The input blocks at an index -/

theorem iblk_read (w : Fin cfg0.W) (t : Fin cfg0.N) (Z : Buf (Elt Ideal) ((c : Thread nD τ).loc (Pipeline.arrRef spec0 w))) (hZ : V m c (Pipeline.arrRef spec0 w) = Z)
    (y : ((cfg0.win w).xblock (cfg0.grid.coords t)).Idx) :
    iblk m c w t y = ((cfg0.win w).blk t).view.read (Elt Ideal) Z y := by
  subst hZ
  rfl

theorem blk0 (t : Fin cfg0.N) (h : t.val < 128) (a : Fin 256) (k : Fin 2048) : iblk m c 0 t (ix2 a k) = rowM m c (256 * t.val + a.val) k.val := by
  refine Eq.trans ?_ (xpA_at m c ⟨256 * t.val + a.val, by omega⟩ k)
  refine (iblk_read m c 0 t (xpA m c) (V0 m c) _).trans (congrArg (xpA m c) ?_)
  have e : min t.val 127 = t.val := by omega
  blk_ext [idx t, e]

theorem blk1 (t : Fin cfg0.N) (h : ¬ t.val < 128) (a : Fin 256) (k : Fin 2048) : iblk m c 1 t (ix2 a k) = rowM m c (256 * t.val + a.val) k.val := by
  have ht := lt_of_lt_of_eq t.isLt gridN
  have e : 256 * t.val + a.val = 32768 + (256 * (t.val - 128) + a.val) := by omega
  rw [e]
  refine Eq.trans ?_ (xsA_at m c ⟨256 * (t.val - 128) + a.val, by omega⟩ k)
  refine (iblk_read m c 1 t (xsA m c) (V2 m c) _).trans (congrArg (xsA m c) ?_)
  blk_ext [idx t]

theorem blk2 (t : Fin cfg0.N) (h : t.val < 128) (a : Fin 256) (k : Fin 1024) : iblk m c 2 t (ix2 a k) = attM m c (256 * t.val + a.val) k.val := by
  refine Eq.trans ?_ (if_pos (by omega : 256 * t.val + a.val < 32768)).symm
  refine Eq.trans ?_ (nat2_val (attP m c) ⟨256 * t.val + a.val, by omega⟩ k _ _ rfl rfl)
  refine (iblk_read m c 2 t (attP m c) (V_main_arg2 m c) _).trans (congrArg (attP m c) ?_)
  have e : min t.val 127 = t.val := by omega
  blk_ext [idx t, e]

theorem blk3 (t : Fin cfg0.N) (h : ¬ t.val < 128) (a : Fin 256) (k : Fin 1024) : iblk m c 3 t (ix2 a k) = attM m c (256 * t.val + a.val) k.val := by
  have ht := lt_of_lt_of_eq t.isLt gridN
  refine Eq.trans ?_ (if_neg (by omega : ¬ 256 * t.val + a.val < 32768)).symm
  refine Eq.trans ?_ (nat2_val (attS m c) ⟨256 * (t.val - 128) + a.val, by omega⟩ k _ _ (by show 256 * (t.val - 128) + a.val = _; omega) rfl)
  refine (iblk_read m c 3 t (attS m c) (V_main_arg3 m c) _).trans (congrArg (attS m c) ?_)
  blk_ext [idx t]

theorem blk4 (t : Fin cfg0.N) (h : t.val < 128) (a : Fin 256) (k : Fin 1024) : iblk m c 4 t (ix2 a k) = memM m c (256 * t.val + a.val) k.val := by
  refine Eq.trans ?_ (if_pos (by omega : 256 * t.val + a.val < 32768)).symm
  refine Eq.trans ?_ (nat2_val (memP m c) ⟨256 * t.val + a.val, by omega⟩ k _ _ rfl rfl)
  refine (iblk_read m c 4 t (memP m c) (V_main_arg4 m c) _).trans (congrArg (memP m c) ?_)
  have e : min t.val 127 = t.val := by omega
  blk_ext [idx t, e]

theorem blk5 (t : Fin cfg0.N) (h : ¬ t.val < 128) (a : Fin 256) (k : Fin 1024) : iblk m c 5 t (ix2 a k) = memM m c (256 * t.val + a.val) k.val := by
  have ht := lt_of_lt_of_eq t.isLt gridN
  refine Eq.trans ?_ (if_neg (by omega : ¬ 256 * t.val + a.val < 32768)).symm
  refine Eq.trans ?_ (nat2_val (memS m c) ⟨256 * (t.val - 128) + a.val, by omega⟩ k _ _ (by show 256 * (t.val - 128) + a.val = _; omega) rfl)
  refine (iblk_read m c 5 t (memS m c) (V_main_arg5 m c) _).trans (congrArg (memS m c) ?_)
  blk_ext [idx t]

theorem blk6 (t : Fin cfg0.N) (a : Fin 256) (k : Fin 2048) : X0_6 m c t (ix2 a k) = nat2 (zAll m c) (256 * t.val + a.val) k.val := by
  have ht := lt_of_lt_of_eq t.isLt gridN
  refine Eq.trans ?_ (nat2_val (zAll m c) ⟨256 * t.val + a.val, by omega⟩ ⟨k.val, by omega⟩ _ _ rfl rfl)
  unfold X0_6 Pipeline.Window.fill iblk
  rw [show V m c (Pipeline.arrRef spec0 6) = zAll m c from V_main_arg6 m c]
  refine (dif_pos (moved0_6 t _)).trans ?_
  refine congrArg (zAll m c) ?_
  blk_ext [idx t]

theorem blk7 (t : Fin cfg0.N) (a : Fin 256) (k : Fin 2048) : X0_7 m c t (ix2 a k) = nat2 (zAll m c) (256 * t.val + a.val) (2048 + k.val) := by
  have ht := lt_of_lt_of_eq t.isLt gridN
  refine Eq.trans ?_ (nat2_val (zAll m c) ⟨256 * t.val + a.val, by omega⟩ ⟨(2048 + k.val), by omega⟩ _ _ rfl rfl)
  unfold X0_7 Pipeline.Window.fill iblk
  rw [show V m c (Pipeline.arrRef spec0 7) = zAll m c from V_main_arg6 m c]
  refine (dif_pos (moved0_7 t _)).trans ?_
  refine congrArg (zAll m c) ?_
  blk_ext [idx t]

theorem blk8 (t : Fin cfg0.N) (k : Fin 1024) (j : Fin 2048) : iblk m c 8 t (ix2 k j) = nat3 (wAtt m c) 0 k.val j.val := by
  refine Eq.trans ?_ (waA_at m c k j)
  refine (iblk_read m c 8 t (waA m c) (V4 m c) _).trans (congrArg (waA m c) ?_)
  blk_ext [idx t]

theorem blk9 (t : Fin cfg0.N) (k : Fin 1024) (j : Fin 2048) : iblk m c 9 t (ix2 k j) = nat3 (wMem m c) 0 k.val j.val := by
  refine Eq.trans ?_ (wmA_at m c k j)
  refine (iblk_read m c 9 t (wmA m c) (V6 m c) _).trans (congrArg (wmA m c) ?_)
  blk_ext [idx t]

theorem blk10 (t : Fin cfg0.N) (k : Fin 2048) (j : Fin 2048) : iblk m c 10 t (ix2 k j) = nat3 (wOut m c) 0 k.val j.val := by
  refine Eq.trans ?_ (woA_at m c k j)
  refine (iblk_read m c 10 t (woA m c) (V8 m c) _).trans (congrArg (woA m c) ?_)
  blk_ext [idx t]

theorem blk11 (t : Fin cfg0.N) (k : Fin 2048) : iblk m c 11 t (ix2 0 k) = nat2 (gains m c) 0 k.val := by
  refine Eq.trans ?_ (gA_at m c k)
  refine (iblk_read m c 11 t (gA m c) (V20 m c) _).trans (congrArg (gA m c) ?_)
  blk_ext [idx t]

end Cert.Merge

end
-- ==== Proof.MrgRef.lean ====
/- The reference of the merge, stage by stage, read at an index. -/
module

public import proofs.«01_k».proof.Proof.MrgSpec
public import proofs.«01_k».proof.Proof.Gen.Reference4Ideal.Run
import Idealize.ShloMosaic.Lib.Pointwise.Tactic

@[expose] public section

set_option maxRecDepth 16384

noncomputable section

open Idealize.ShloMosaic Idealize.ShloMosaic.TcCoe

namespace Cert.Reference4Ideal.Block

open Cert.Reference4Ideal Cert.Reference4Ideal.Gen Cert.AttnSpec Cert.ExpSpec Cert.InpSpec Cert.MrgSpec

/-- The tokens' rows, and the rows of a branch. -/
def promptX (x : FVec Ideal S16x2048x2048 .f32) : FVec Ideal S32768x2048 .f32 := shapeCast _ x shapeCasts_S16x2048x2048_S32768x2048

def sampleX (s : FVec Ideal S128x4x2048 .f32) : FVec Ideal S1024x2048 .f32 :=
  shapeCast _ (pad S128x8x2048 ![0, 0, 0] ![0, 4, 0] ![0, 0, 0] s (sitofp .f32 (constantI S_ 32 0#32)) pads_S128x4x2048_S128x8x2048_000_040_000 h_S_) shapeCasts_S128x8x2048_S1024x2048

def rowsX (p : FVec Ideal S32768x2048 .f32) (s : FVec Ideal S1024x2048 .f32) : FVec Ideal S33792x2048 .f32 :=
  concatenate S33792x2048 0 [⟨S32768x2048, p⟩, ⟨S1024x2048, s⟩] concatenates_S32768x2048_S1024x2048_S33792x2048_d0

def tokens (x : FVec Ideal S16x2048x2048 .f32) (s : FVec Ideal S128x4x2048 .f32) : FVec Ideal S33792x2048 .f32 := rowsX (promptX x) (sampleX s)

def branch (p : FVec Ideal S32768x1024 .bf16) (s : FVec Ideal S1024x1024 .bf16) : FVec Ideal S33792x1024 .bf16 :=
  concatenate S33792x1024 0 [⟨S32768x1024, p⟩, ⟨S1024x1024, s⟩] concatenates_S32768x1024_S1024x1024_S33792x1024_d0

/-- The gates. -/
def gates (z : FVec Ideal S33792x8704 .f32) : FVec Ideal S33792x4096 .f32 :=
  Host.divf (broadcastInDim S33792x4096 ![] bcast_S_S33792x4096 (constant S_ .f32 0x3F800000#32)) (addf (broadcastInDim S33792x4096 ![] bcast_S_S33792x4096 (constant S_ .f32 0x3F800000#32)) (Host.exp (Host.negf (extractStridedSlice S33792x4096 ![0, 0] z slices_S33792x8704_S33792x4096_0_0))))

/-- The gated branches. -/
def mixedR (a h : FVec Ideal S33792x1024 .bf16) (g : FVec Ideal S33792x4096 .f32) (wa wm : FVec Ideal S1x1024x2048 .f32) : FVec Ideal S33792x2048 .f32 :=
  addf (mulf (extractStridedSlice S33792x2048 ![0, 0] g slices_S33792x4096_S33792x2048_0_0) (Host.dotGeneral dot_S33792x1024_S1024x2048_S33792x2048_1_0_0_1_n_n none a (shapeCast _ wa shapeCasts_S1x1024x2048_S1024x2048)))
    (mulf (extractStridedSlice S33792x2048 ![0, 2048] g slices_S33792x4096_S33792x2048_0_2048) (Host.dotGeneral dot_S33792x1024_S1024x2048_S33792x2048_1_0_0_1_n_n none h (shapeCast _ wm shapeCasts_S1x1024x2048_S1024x2048)))

def addedR (x b : FVec Ideal S33792x2048 .f32) (wo : FVec Ideal S1x2048x2048 .f32) : FVec Ideal S33792x2048 .f32 :=
  addf x (Host.dotGeneral dot_S33792x2048_S2048x2048_S33792x2048_1_0_0_1_n_n none b (shapeCast _ wo shapeCasts_S1x2048x2048_S2048x2048))

/-- The normalised rows. -/
def normR (x : FVec Ideal S33792x2048 .f32) (g : FVec Ideal S1x2048 .f32) : FVec Ideal S33792x2048 .f32 :=
  mulf (mulf x (broadcastInDim S33792x2048 ![0, 1] bcast_S33792x1_S33792x2048_0_1 (Host.rsqrt (addf (Host.divf (broadcastInDim S33792x1 ![0] bcast_S33792_S33792x1_0 (Host.reduceAdd (mulf x x) (constant S_ .f32 0x00000000#32) reducesTo_S33792x2048_S33792_d1 h_S_)) (broadcastInDim S33792x1 ![] bcast_S_S33792x1 (constant S_ .f32 0x45000000#32))) (broadcastInDim S33792x1 ![] bcast_S_S33792x1 (constant S_ .f32 0x3727C5AC#32))))))
    (broadcastInDim S33792x2048 ![0, 1] bcast_S1x2048_S33792x2048_0_1 (broadcastInDim S1x2048 ![1] bcast_S2048_S1x2048_1 (shapeCast _ g shapeCasts_S1x2048_S2048)))

def joinedR (x : FVec Ideal S16x2048x2048 .f32) (s : FVec Ideal S128x4x2048 .f32) (ap : FVec Ideal S32768x1024 .bf16) (sa : FVec Ideal S1024x1024 .bf16) (hp : FVec Ideal S32768x1024 .bf16) (hs : FVec Ideal S1024x1024 .bf16)
    (z : FVec Ideal S33792x8704 .f32) (wa wm : FVec Ideal S1x1024x2048 .f32) (wo : FVec Ideal S1x2048x2048 .f32) : FVec Ideal S33792x2048 .f32 :=
  addedR (tokens x s) (mixedR (branch ap sa) (branch hp hs) (gates z) wa wm) wo

theorem staged (m : (ℓ : Loc nD τ sig) → Buf (Elt Ideal) ℓ) (c : Dev nD) :
    Cert.Reference4Ideal.Value.res_main_v38 (F := Ideal) m c = normR (joinedR (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9))) (m (c.tc.loc main_arg10)) := rfl

/-! ## The stages at an index -/

theorem promptX_at (x : FVec Ideal S16x2048x2048 .f32) (r : Fin 32768) (k : Fin 2048) :
    promptX x (ix2 r k) = x (ix3 ⟨r.val / 2048, by omega⟩ ⟨r.val % 2048, by omega⟩ k) := by
  pointwise [promptX]

theorem sampleX_at (s : FVec Ideal S128x4x2048 .f32) (r : Fin 1024) (k : Fin 2048) :
    sampleX s (ix2 r k) = if h4 : r.val % 8 < 4 then s (ix3 ⟨r.val / 8, by omega⟩ ⟨r.val % 8, h4⟩ k) else 0 := by
  have hr : r.val / 8 < 128 := by omega
  split
  · rename_i h4
    pointwise [sampleX]
    exact dif_pos ⟨hr, h4⟩
  · rename_i h4
    pointwise [sampleX]
    exact (dif_neg fun q => h4 q.2).trans (int_zero S_ ix0)

theorem rowsX_at (p : FVec Ideal S32768x2048 .f32) (s : FVec Ideal S1024x2048 .f32) (R : Fin 33792) (k : Fin 2048) :
    rowsX p s (ix2 R k) = if h : R.val < 32768 then p (ix2 ⟨R.val, h⟩ k) else s (ix2 ⟨R.val - 32768, by omega⟩ k) := by
  pointwise [rowsX]

theorem tokens_at (x : FVec Ideal S16x2048x2048 .f32) (s : FVec Ideal S128x4x2048 .f32) (R : Fin 33792) (k : Fin 2048) :
    tokens x s (ix2 R k) = row (nat3 x) (nat3 s) R.val k.val := by
  unfold row tokens
  rw [rowsX_at]
  by_cases h : R.val < 32768
  · rw [dif_pos h, if_pos h, promptX_at]
    exact nat3_val x _ _ k _ _ _ rfl rfl rfl
  · rw [dif_neg h, if_neg h, sampleX_at]
    by_cases h4 : (R.val - 32768) % 8 < 4
    · rw [dif_pos h4, if_pos h4]
      exact nat3_val s _ _ k _ _ _ rfl rfl rfl
    · rw [dif_neg h4, if_neg h4]

theorem branch_at (p : FVec Ideal S32768x1024 .bf16) (s : FVec Ideal S1024x1024 .bf16) (R : Fin 33792) (k : Fin 1024) :
    branch p s (ix2 R k) = two (nat2 p) (nat2 s) R.val k.val := by
  unfold two
  by_cases h : R.val < 32768
  · rw [if_pos h, ← nat2_val p ⟨R.val, h⟩ k _ _ rfl rfl]
    pointwise [branch]
    exact dif_pos h
  · rw [if_neg h, ← nat2_val s ⟨R.val - 32768, by omega⟩ k _ _ rfl rfl]
    pointwise [branch]
    exact dif_neg h

theorem gates_at (z : FVec Ideal S33792x8704 .f32) (R : Fin 33792) (k : Fin 4096) :
    gates z (ix2 R k) = Ideal.logistic (nat2 z R.val k.val) := by
  rw [← nat2_val z R ⟨k.val, by omega⟩ _ _ rfl rfl]
  have e : gates z (ix2 R k) = Ideal.div (Ideal.ofBits .f32 0x3F800000#32) (Ideal.ofBits .f32 0x3F800000#32 + Ideal.exp (-(z (ix2 R ⟨k.val, by omega⟩)))) := by
    pointwise [gates]
  rw [e, Ideal.ofBits_one_f32]
  rfl

theorem mixedR_at (a h : FVec Ideal S33792x1024 .bf16) (g : FVec Ideal S33792x4096 .f32) (wa wm : FVec Ideal S1x1024x2048 .f32) (R : Fin 33792) (j : Fin 2048) :
    mixedR a h g wa wm (ix2 R j) = g (ix2 R ⟨j.val, by omega⟩) * (∑ k : Fin 1024, a (ix2 R k) * wa (ix3 0 k j)) + g (ix2 R ⟨2048 + j.val, by omega⟩) * (∑ k : Fin 1024, h (ix2 R k) * wm (ix3 0 k j)) := by
  pointwise [mixedR]

theorem addedR_at (x b : FVec Ideal S33792x2048 .f32) (wo : FVec Ideal S1x2048x2048 .f32) (R : Fin 33792) (C : Fin 2048) :
    addedR x b wo (ix2 R C) = x (ix2 R C) + ∑ j : Fin 2048, b (ix2 R j) * wo (ix3 0 j C) := by
  pointwise [addedR]

theorem normR_at (x : FVec Ideal S33792x2048 .f32) (g : FVec Ideal S1x2048 .f32) (R : Fin 33792) (k : Fin 2048) (X : ℕ → EReal)
    (h : ∀ k : Fin 2048, x (ix2 R k) = X k.val) : normR x g (ix2 R k) = hid X (nat2 g 0) k.val := by
  have e : normR x g (ix2 R k) = x (ix2 R k) * Ideal.rsqrt (Ideal.div (∑ k : Fin 2048, x (ix2 R k) * x (ix2 R k)) (Ideal.ofBits .f32 0x45000000#32) + Ideal.ofBits .f32 0x3727C5AC#32) * g (ix2 0 k) := by
    pointwise [normR]
  rw [e]
  unfold hid rinv
  simp only [h, nat2_val g 0 k 0 k.val rfl rfl]

theorem joinedR_at (x : FVec Ideal S16x2048x2048 .f32) (s : FVec Ideal S128x4x2048 .f32) (ap : FVec Ideal S32768x1024 .bf16) (sa : FVec Ideal S1024x1024 .bf16) (hp : FVec Ideal S32768x1024 .bf16) (hs : FVec Ideal S1024x1024 .bf16)
    (z : FVec Ideal S33792x8704 .f32) (wa wm : FVec Ideal S1x1024x2048 .f32) (wo : FVec Ideal S1x2048x2048 .f32) (R : Fin 33792) (C : Fin 2048) :
    joinedR x s ap sa hp hs z wa wm wo (ix2 R C)
      = joined (row (nat3 x) (nat3 s) R.val) (two (nat2 ap) (nat2 sa) R.val) (two (nat2 hp) (nat2 hs) R.val) (nat2 z R.val) (nat3 wa 0) (nat3 wm 0) (nat3 wo 0) C.val := by
  unfold joinedR
  rw [addedR_at, tokens_at]
  unfold joined
  refine congrArg (fun q => row (nat3 x) (nat3 s) R.val C.val + q) ?_
  refine Finset.sum_congr rfl fun j _ => ?_
  rw [mixedR_at, gates_at, gates_at, nat3_val wo 0 j C _ _ _ rfl rfl rfl]
  unfold branches
  simp only [branch_at, nat3_val wa 0 _ j 0 _ j.val rfl rfl rfl, nat3_val wm 0 _ j 0 _ j.val rfl rfl rfl]
  rfl

end Cert.Reference4Ideal.Block

end
-- ==== Proof.MrgAlg.lean ====
/- The merge's results are the reference's. -/
module

public import proofs.«01_k».proof.Defs
public import proofs.«01_k».proof.Proof.MrgValue
public import proofs.«01_k».proof.Proof.MrgRef
public import Idealize.ShloMosaic.Lib.Claim

@[expose] public section

set_option maxRecDepth 16384

noncomputable section

open Idealize.ShloMosaic Idealize.ShloMosaic.TcCoe Idealize.SL.Sem

namespace Cert.Merge

open Cert.Kernel4Ideal Cert.Kernel4Ideal.Gen Cert.AttnSpec Cert.ExpSpec Cert.InpSpec Cert.MrgSpec

variable (m : (ℓ : Loc nD τ sig) → Buf (Elt Ideal) ℓ) (c : Dev nD)

/-- A row of the first result. -/
abbrev rowJ (R : ℕ) : ℕ → EReal :=
  joined (rowM m c R) (attM m c R) (memM m c R) (nat2 (zAll m c) R) (nat3 (wAtt m c) 0) (nat3 (wMem m c) 0) (nat3 (wOut m c) 0)

/-- What a point stores of the first result. -/
abbrev tileJ (t : Fin cfg0.N) : FVec Ideal S256x2048 .f32 :=
  k0_pay3 (F := Ideal) (grid0.coords t) (iblk m c 0 t) (iblk m c 1 t) (iblk m c 2 t) (iblk m c 3 t) (iblk m c 4 t) (iblk m c 5 t) (iblk m c 8 t) (iblk m c 9 t) (X0_6 m c t) (X0_7 m c t) (iblk m c 10 t)

theorem tileJ_at (t : Fin cfg0.N) (a : Fin 256) (C : Fin 2048) : tileJ m c t (ix2 a C) = rowJ m c (256 * t.val + a.val) C.val := by
  refine pay3_at (grid0.coords t) _ _ _ _ _ _ _ _ _ _ _ (rowM m c (256 * t.val + a.val)) (attM m c (256 * t.val + a.val)) (memM m c (256 * t.val + a.val)) (nat2 (zAll m c) (256 * t.val + a.val)) _ _ _ a ?_ ?_ ?_ (fun k => blk6 m c t a k) (fun k => blk7 m c t a k) (fun k j => blk8 m c t k j) (fun k j => blk9 m c t k j) (fun k j => blk10 m c t k j) C
  all_goals
    rw [picks]
    intro k
    by_cases h : t.val < 128
    · rw [if_pos h]
      first
        | exact blk0 m c t h a k
        | exact blk2 m c t h a k
        | exact blk4 m c t h a k
    · rw [if_neg h]
      first
        | exact blk1 m c t h a k
        | exact blk3 m c t h a k
        | exact blk5 m c t h a k

/-- The two results, as functions of their indices. -/
def sumArr : FVec Ideal S33792x2048 .f32 := fun j => rowJ m c (j 0).val (j 1).val

def normArr : FVec Ideal S33792x2048 .f32 := fun j => hid (rowJ m c (j 0).val) (nat2 (gains m c) 0) (j 1).val

theorem ix2_eta (y : S256x2048.Idx) : y = ix2 (⟨(y 0).val, (y 0).isLt⟩ : Fin 256) (⟨(y 1).val, (y 1).isLt⟩ : Fin 2048) := by
  funext k
  match k with
  | ⟨0, _⟩ => rfl
  | ⟨1, _⟩ => rfl

theorem sum_arr : (dats m 0 c).arrAt 14 cfg0.N = sumArr m c := by
  refine (dats m 0 c).arrAt_eq_of_covers 14 _ (by decide +kernel) fun t hf y => ?_
  have hX : sumArr m c (((View.whole main_v21_0).slice (win0_14.rect t)).emb y) = rowJ m c (256 * t.val + (y 0).val) (y 1).val := by
    unfold sumArr
    congr 1
    · congr 1
      blk_simp [idx t]
      omega
    · blk_simp [idx t]
  refine Eq.trans ?_ hX.symm
  clear hX
  blk_simp
  rw [after0_14]
  unfold outsAt0
  dsimp only
  frame_out
  exact (congrArg (tileJ m c t) (ix2_eta y)).trans (tileJ_at m c t _ _)

theorem norm_arr : (dats m 0 c).arrAt 15 cfg0.N = normArr m c := by
  refine (dats m 0 c).arrAt_eq_of_covers 15 _ (by decide +kernel) fun t hf y => ?_
  have hX : normArr m c (((View.whole main_v21_1).slice (win0_15.rect t)).emb y) = hid (rowJ m c (256 * t.val + (y 0).val)) (nat2 (gains m c) 0) (y 1).val := by
    unfold normArr
    congr 1
    · congr 1
      blk_simp [idx t]
      omega
    · blk_simp [idx t]
  refine Eq.trans ?_ hX.symm
  clear hX
  blk_simp
  rw [after0_15]
  unfold outsAt0
  dsimp only
  frame_out
  exact (congrArg (k0_pay1 (F := Ideal) (tileJ m c t) (iblk m c 11 t)) (ix2_eta y)).trans
    (pay1_at _ _ (rowJ m c (256 * t.val + (y 0).val)) _ _ _ (fun k => tileJ_at m c t _ k) fun k => blk11 m c t k)

theorem ix2_eta' (j : S33792x2048.Idx) : j = ix2 (⟨(j 0).val, (j 0).isLt⟩ : Fin 33792) (⟨(j 1).val, (j 1).isLt⟩ : Fin 2048) := by
  funext k
  match k with
  | ⟨0, _⟩ => rfl
  | ⟨1, _⟩ => rfl

/-- The reference's rows of this launch's arguments. -/
abbrev refJ : FVec Ideal S33792x2048 .f32 :=
  Cert.Reference4Ideal.Block.joinedR (prompts m c) (samples m c) (attP m c) (attS m c) (memP m c) (memS m c) (zAll m c) (wAtt m c) (wMem m c) (wOut m c)

theorem sums : refJ m c = (dats m 0 c).arrAt 14 cfg0.N := by
  refine (funext fun j => ?_ : _ = sumArr m c).trans (sum_arr m c).symm
  exact (congrArg _ (ix2_eta' j)).trans (Cert.Reference4Ideal.Block.joinedR_at _ _ _ _ _ _ _ _ _ _ _ _)

theorem norms : Cert.Reference4Ideal.Block.normR (refJ m c) (gains m c) = (dats m 0 c).arrAt 15 cfg0.N := by
  refine (funext fun j => ?_ : _ = normArr m c).trans (norm_arr m c).symm
  exact (congrArg _ (ix2_eta' j)).trans (Cert.Reference4Ideal.Block.normR_at _ _ _ _ (rowJ m c (j 0).val) fun k => Cert.Reference4Ideal.Block.joinedR_at _ _ _ _ _ _ _ _ _ _ _ _)

theorem algebraic : algebraic_Kernel4Ideal_Reference4Ideal (hKernel4Ideal := Cert.Kernel4Ideal.Gen.facts) (hReference4Ideal := Cert.Reference4Ideal.Gen.facts) := by
  intro m g m' g' _ hagree
  refine ⟨fun c => (dats m 0 c).arrAt 14 cfg0.N, fun c => (dats m 0 c).arrAt 15 cfg0.N, (θ_run Cert.Kernel4Ideal.defs _ _).mono (fun r h c => ⟨(h c).1, (h c).2.1, (h c).2.2.2⟩) (Cert.Kernel4Ideal.Value.run_blocks m g), ?_⟩
  refine (θ_run Cert.Reference4Ideal.defs _ _).mono (fun r h c => ?_) (Cert.Reference4Ideal.Value.run m' g')
  obtain ⟨h0, h1, ha⟩ := h c
  obtain ⟨e0, e1, e2, e3, e4, e5, e6, e7, e8, e9, e10, e11, e12⟩ := hagree c
  have hJ : Cert.Reference4Ideal.Block.joinedR (m' (c.tc.loc Cert.Reference4Ideal.main_arg0)) (m' (c.tc.loc Cert.Reference4Ideal.main_arg1)) (m' (c.tc.loc Cert.Reference4Ideal.main_arg2)) (m' (c.tc.loc Cert.Reference4Ideal.main_arg3)) (m' (c.tc.loc Cert.Reference4Ideal.main_arg4)) (m' (c.tc.loc Cert.Reference4Ideal.main_arg5)) (m' (c.tc.loc Cert.Reference4Ideal.main_arg6)) (m' (c.tc.loc Cert.Reference4Ideal.main_arg7)) (m' (c.tc.loc Cert.Reference4Ideal.main_arg8)) (m' (c.tc.loc Cert.Reference4Ideal.main_arg9)) = refJ m c :=
    congr (congr (congr (congr (congr (congr (congr (congr (congr (congrArg Cert.Reference4Ideal.Block.joinedR e0) e1) e2) e3) e4) e5) e6) e7) e8) e9
  refine ⟨h0.trans ?_, h1.trans ?_, ha⟩
  · exact Eq.trans hJ (sums m c)
  · rw [Cert.Reference4Ideal.Block.staged, hJ]
    refine Eq.trans ?_ (norms m c)
    exact congrArg (Cert.Reference4Ideal.Block.normR (refJ m c)) e10

end Cert.Merge

end
-- ==== Proof.SmpPay.lean ====
/- What the sample's attention stores of its two new caches, read at an index; and the caches of its reference. -/
module

public import proofs.«01_k».proof.Proof.ExpSpec
public import proofs.«01_k».proof.Proof.Gen.Kernel5Ideal.Skeleton
public import proofs.«01_k».proof.Proof.Gen.Reference5Ideal.Run
public import Idealize.ShloMosaic.Lib.Pipeline.FrameBody
import Idealize.ShloMosaic.Lib.Pointwise.Tactic

@[expose] public section

set_option maxRecDepth 16384

noncomputable section

open Idealize.ShloMosaic Idealize.ShloMosaic.TcCoe

namespace Cert.Sample

open Cert.AttnSpec Cert.ExpSpec

/-- A cell of a cache after `4` new rows: the old rows moved up by four, then the sequence's first four rows of the projection. -/
def renewed (old : FVec Ideal ⟨5, ![1, 128, 128, 2, 64]⟩ .f32) (z : FVec Ideal ⟨2, ![33792, 8704]⟩ .f32) (o : ℕ) (b r l : Fin 128) : EReal :=
  if h : r.val < 124 then old (ix5 0 b ⟨r.val + 4, by omega⟩ ⟨l.val / 64, by omega⟩ ⟨l.val % 64, by omega⟩) else nat2 z (32768 + 8 * b.val + (r.val - 124)) (o + l.val)

/-- A cell under the last store. -/
theorem last_store {A B C : ℕ} (b o n : ℕ) (i) (w : FVec Ideal ⟨3, ![1, n, C]⟩ .f32) (L : List (View.Piece (Elt Ideal) (⟨3, ![A, B, C]⟩ : Shape) .f32)) (a : Fin n) (y : Fin A) (r : Fin B) (l : Fin C) (hy : y.val = b) (hr : r.val = o + a.val) :
    View.canon (Val := Elt Ideal) (e := .f32) (⟨Rect.unit (s := ⟨3, ![A, B, C]⟩) ![b, o, 0] ![1, n, C] i, w⟩ :: L) (ix3 y r l) = w (ix3 0 a l) := by
  refine Eq.trans (congrArg _ (funext fun k => ?_)) (View.canon_cons_emb (Rect.unit (s := ⟨3, ![A, B, C]⟩) ![b, o, 0] ![1, n, C] i) w L (ix3 0 a l : (⟨3, ![1, n, C]⟩ : Shape).Idx))
  match k with
  | ⟨0, _⟩ => exact Fin.ext (by show y.val = b + 1 * 0; omega)
  | ⟨1, _⟩ => exact Fin.ext (by show r.val = o + 1 * a.val; omega)
  | ⟨2, _⟩ => exact Fin.ext (by show l.val = 0 + 1 * l.val; omega)

/-- A cell outside it. -/
theorem earlier_store {A B C : ℕ} (b o n : ℕ) (i) (w : FVec Ideal ⟨3, ![1, n, C]⟩ .f32) (L : List (View.Piece (Elt Ideal) (⟨3, ![A, B, C]⟩ : Shape) .f32)) (y : Fin A) (r : Fin B) (l : Fin C) (h : y.val ≠ b ∨ r.val < o) :
    View.canon (Val := Elt Ideal) (e := .f32) (⟨Rect.unit (s := ⟨3, ![A, B, C]⟩) ![b, o, 0] ![1, n, C] i, w⟩ :: L) (ix3 y r l) = View.canon L (ix3 y r l) := by
  refine View.canon_cons_of_not_mem _ L fun hm => ?_
  have ha : b ≤ y.val := (Rect.mem_set_unit (inb := i).1 hm 0).1
  have hb : y.val < b + 1 := (Rect.mem_set_unit (inb := i).1 hm 0).2
  have hc : o ≤ r.val := (Rect.mem_set_unit (inb := i).1 hm 1).1
  omega

/-- Two stores of one sequence's cache, the second over the last eight rows of the first. -/
theorem two_stores (b : ℕ) (i1 i2) (tl : FVec Ideal ⟨3, ![1, 8, 128]⟩ .f32) (wh : FVec Ideal ⟨3, ![1, 128, 128]⟩ .f32)
    (L : List (View.Piece (Elt Ideal) (⟨3, ![8, 128, 128]⟩ : Shape) .f32)) (y : Fin 8) (r l : Fin 128) (v : EReal)
    (h1 : y.val = b → r.val < 120 → wh (ix3 0 r l) = v)
    (h2 : y.val = b → ∀ h : 120 ≤ r.val, tl (ix3 0 ⟨r.val - 120, by omega⟩ l) = v)
    (h3 : y.val ≠ b → View.canon L (ix3 y r l) = v) :
    View.canon (Val := Elt Ideal) (e := .f32) (⟨Rect.unit (s := ⟨3, ![8, 128, 128]⟩) ![b, 120, 0] ![1, 8, 128] i1, tl⟩ :: ⟨Rect.unit (s := ⟨3, ![8, 128, 128]⟩) ![b, 0, 0] ![1, 128, 128] i2, wh⟩ :: L) (ix3 y r l) = v := by
  by_cases hy : y.val = b
  · by_cases hr : r.val < 120
    · exact (earlier_store b 120 8 i1 tl _ y r l (Or.inr hr)).trans ((last_store b 0 128 i2 wh L r y r l hy (by omega)).trans (h1 hy hr))
    · exact (last_store b 120 8 i1 tl _ ⟨r.val - 120, by omega⟩ y r l hy (by show r.val = 120 + (r.val - 120); omega)).trans (h2 hy (by omega))
  · exact (earlier_store b 120 8 i1 tl _ y r l (Or.inl hy)).trans ((earlier_store b 0 128 i2 wh L y r l (Or.inl hy)).trans (h3 hy))

end Cert.Sample

namespace Cert.Kernel5Ideal.Block

open Cert.Kernel5Ideal Cert.Kernel5Ideal.Gen

/-- The moved cache of a sequence. -/
theorem whole_at (v14 : FVec Ideal S1x128x128 .f32) (r l : Fin 128) (h : r.val < 124) :
    k0_pay12 v14 (ix3 0 r l) = v14 (ix3 0 ⟨r.val + 4, by omega⟩ l) := by
  unfold k0_pay12 k0_pay11 k0_pay9
  pointwise
  congr 2
  apply Fin.ext
  show _ = r.val + 4
  simp
  omega

/-- Its last eight rows. -/
theorem tail_at (v12 : FVec Ideal S8x128 .f32) (v14 : FVec Ideal S1x128x128 .f32) (r : Fin 8) (l : Fin 128) :
    k0_pay13 v12 v14 (ix3 0 r l) = if h : r.val < 4 then v14 (ix3 0 ⟨124 + r.val, by omega⟩ l) else v12 (ix2 ⟨r.val - 4, by omega⟩ l) := by
  unfold k0_pay13 k0_pay11 k0_pay9
  pointwise
  have e : IntOp.cmpi .sge (BitVec.ofNat 32 r.val) 4#32 = 1#1 ↔ ¬ r.val < 4 := (by decide : ∀ r : Fin 8, IntOp.cmpi .sge (BitVec.ofNat 32 r.val) 4#32 = 1#1 ↔ ¬ r.val < 4) r
  unfold Scalar.select
  by_cases h : r.val < 4
  · refine (if_neg (fun q => e.1 q h)).trans (Eq.trans ?_ (dif_pos h).symm)
    congr 2
    apply Fin.ext
    show (120 + r.val + 128 - 124) % 128 = 124 + r.val
    omega
  · refine (if_pos (e.2 h)).trans (Eq.trans ?_ (dif_neg h).symm)
    congr 2
    apply Fin.ext
    show (r.val + 8 - 4) % 8 = r.val - 4
    omega

end Cert.Kernel5Ideal.Block

namespace Cert.Reference5Ideal.Block

open Cert.Reference5Ideal Cert.Reference5Ideal.Gen Cert.AttnSpec Cert.Sample

/-- The sequences' four new rows. -/
def rowsR (z : FVec Ideal S33792x8704 .f32) : FVec Ideal S128x4x8704 .f32 :=
  extractStridedSlice S128x4x8704 ![0, 0, 0] (shapeCast _ (extractStridedSlice S1024x8704 ![32768, 0] z slices_S33792x8704_S1024x8704_32768_0) shapeCasts_S1024x8704_S128x8x8704) slices_S128x8x8704_S128x4x8704_0_0_0

def keysR (z : FVec Ideal S33792x8704 .f32) : FVec Ideal S128x4x2x64 .f32 :=
  shapeCast _ (extractStridedSlice S128x4x128 ![0, 0, 8192] (rowsR z) slices_S128x4x8704_S128x4x128_0_0_8192) shapeCasts_S128x4x128_S128x4x2x64

def valsR (z : FVec Ideal S33792x8704 .f32) : FVec Ideal S128x4x2x64 .f32 :=
  shapeCast _ (extractStridedSlice S128x4x128 ![0, 0, 8320] (rowsR z) slices_S128x4x8704_S128x4x128_0_0_8320) shapeCasts_S128x4x128_S128x4x2x64

def joinR (old : FVec Ideal S1x128x128x2x64 .f32) (k : FVec Ideal S128x4x2x64 .f32) : FVec Ideal S128x132x2x64 .f32 :=
  concatenate S128x132x2x64 1 [⟨S128x128x2x64, (shapeCast _ old shapeCasts_S1x128x128x2x64_S128x128x2x64)⟩, ⟨S128x4x2x64, k⟩] concatenates_S128x128x2x64_S128x4x2x64_S128x132x2x64_d1

def newR (old : FVec Ideal S1x128x128x2x64 .f32) (k : FVec Ideal S128x4x2x64 .f32) : FVec Ideal S128x128x128 .f32 :=
  shapeCast _ (extractStridedSlice S128x128x2x64 ![0, 4, 0, 0] (joinR old k) slices_S128x132x2x64_S128x128x2x64_0_4_0_0) shapeCasts_S128x128x2x64_S128x128x128

theorem rowsR_at (z : FVec Ideal S33792x8704 .f32) (b : Fin 128) (q : Fin 4) (j : Fin 8704) :
    rowsR z (ix3 b q j) = nat2 z (32768 + 8 * b.val + q.val) j.val := by
  rw [← nat2_val z ⟨32768 + 8 * b.val + q.val, by omega⟩ j _ _ rfl rfl]
  unfold rowsR
  pointwise
  congr 2
  apply Fin.ext
  simp
  omega

theorem keysR_at (z : FVec Ideal S33792x8704 .f32) (b : Fin 128) (q : Fin 4) (g : Fin 2) (d : Fin 64) (C : ℕ) (hC : C = 8192 + (64 * g.val + d.val)) :
    keysR z (ix4 b q g d) = nat2 z (32768 + 8 * b.val + q.val) C := by
  subst hC
  refine Eq.trans ?_ (rowsR_at z b q ⟨8192 + (64 * g.val + d.val), by omega⟩)
  unfold keysR
  pointwise
  congr 2
  all_goals (apply Fin.ext; simp; omega)

theorem valsR_at (z : FVec Ideal S33792x8704 .f32) (b : Fin 128) (q : Fin 4) (g : Fin 2) (d : Fin 64) (C : ℕ) (hC : C = 8320 + (64 * g.val + d.val)) :
    valsR z (ix4 b q g d) = nat2 z (32768 + 8 * b.val + q.val) C := by
  subst hC
  refine Eq.trans ?_ (rowsR_at z b q ⟨8320 + (64 * g.val + d.val), by omega⟩)
  unfold valsR
  pointwise
  congr 2
  all_goals (apply Fin.ext; simp; omega)

theorem joinR_at (old : FVec Ideal S1x128x128x2x64 .f32) (k : FVec Ideal S128x4x2x64 .f32) (b : Fin 128) (r : Fin 132) (g : Fin 2) (d : Fin 64) :
    joinR old k (ix4 b r g d) = if h : r.val < 128 then old (ix5 0 b ⟨r.val, h⟩ g d) else k (ix4 b ⟨r.val - 128, by omega⟩ g d) := by
  unfold joinR
  pointwise

theorem newR_at (old : FVec Ideal S1x128x128x2x64 .f32) (k : FVec Ideal S128x4x2x64 .f32) (b r l : Fin 128) :
    newR old k (ix3 b r l) = joinR old k (ix4 b ⟨4 + r.val, by omega⟩ ⟨l.val / 64, by omega⟩ ⟨l.val % 64, by omega⟩) := by
  unfold newR
  pointwise

theorem renewed_of (old : FVec Ideal S1x128x128x2x64 .f32) (z : FVec Ideal S33792x8704 .f32) (k : FVec Ideal S128x4x2x64 .f32) (o : ℕ)
    (hk : ∀ (b : Fin 128) (q : Fin 4) (g : Fin 2) (d : Fin 64) (C : ℕ), C = o + (64 * g.val + d.val) → k (ix4 b q g d) = nat2 z (32768 + 8 * b.val + q.val) C) (b r l : Fin 128) :
    newR old k (ix3 b r l) = renewed old z o b r l := by
  rw [newR_at, joinR_at]
  unfold renewed
  by_cases h : r.val < 124
  · rw [dif_pos (by show 4 + r.val < 128; omega), dif_pos h]
    congr 2
    apply Fin.ext
    show 4 + r.val = r.val + 4
    omega
  · rw [dif_neg (by show ¬ 4 + r.val < 128; omega), dif_neg h, hk _ _ _ _ (o + l.val) (by show _ = o + (64 * (l.val / 64) + l.val % 64); omega)]
    congr 1
    show 32768 + 8 * b.val + (4 + r.val - 128) = _
    omega

end Cert.Reference5Ideal.Block

end
-- ==== Proof.SmpAlg.lean ====
/- The two caches the sample's attention leaves are its reference's. -/
module

public import proofs.«01_k».proof.Defs
public import proofs.«01_k».proof.Proof.SmpPay
public import proofs.«01_k».proof.Proof.Gen.Kernel5Ideal.Value
public import Idealize.ShloMosaic.Lib.Claim
import Idealize.ShloMosaic.Lib.Pointwise.Tactic

@[expose] public section

set_option maxRecDepth 16384

noncomputable section

open Idealize.ShloMosaic Idealize.ShloMosaic.TcCoe Idealize.SL.Sem

namespace Cert.Sample

open Cert.Kernel5Ideal Cert.Kernel5Ideal.Gen Cert.AttnSpec Cert.ExpSpec

/-- The windows' block indices. -/
theorem idx : ∀ t : Fin cfg0.N, win0_1.index t = ![512 + t.val, 32] ∧ win0_2.index t = ![t.val, 0, 0] ∧ win0_3.index t = ![t.val, 0, 0] ∧ win0_6.index t = ![t.val, 0, 0] ∧ win0_7.index t = ![t.val, 0, 0] :=
  (by decide +kernel : ∀ t : Fin grid0.N, _)

theorem gridN : cfg0.N = 16 := N_0

variable (m : (ℓ : Loc nD τ sig) → Buf (Elt Ideal) ℓ) (c : Dev nD)

abbrev zAll : FVec Ideal S33792x8704 .f32 := m (c.tc.loc main_arg0)
abbrev oldK : FVec Ideal S1x128x128x2x64 .f32 := m (c.tc.loc main_arg2)
abbrev oldV : FVec Ideal S1x128x128x2x64 .f32 := m (c.tc.loc main_arg3)

/-- A cache as rows. -/
def rowsC (x : FVec Ideal S1x128x128x2x64 .f32) : FVec Ideal S128x128x128 .f32 :=
  shapeCast S128x128x128 (shapeCast S128x128x2x64 x shapeCasts_S1x128x128x2x64_S128x128x2x64) shapeCasts_S128x128x2x64_S128x128x128

theorem rowsC_at (x : FVec Ideal S1x128x128x2x64 .f32) (b r l : Fin 128) :
    rowsC x (ix3 b r l) = x (ix5 0 b r ⟨l.val / 64, by omega⟩ ⟨l.val % 64, by omega⟩) := by
  unfold rowsC
  pointwise

theorem V3 : V m c main_v3 = rowsC (oldK m c) := by
  unfold V; simp only [hostOps0, hostOps0_1, hostOps0_2, List.flatten_cons, List.flatten_nil, List.append_nil, List.cons_append, List.nil_append, StableHlo.TRef.unary, StableHlo.TRef.binary, StableHlo.TRef.toBuf, StableHlo.TRef.ofBuf, cast_eq]; after_results; rfl

theorem V5 : V m c main_v5 = rowsC (oldV m c) := by
  unfold V; simp only [hostOps0, hostOps0_1, hostOps0_2, List.flatten_cons, List.flatten_nil, List.append_nil, List.cons_append, List.nil_append, StableHlo.TRef.unary, StableHlo.TRef.binary, StableHlo.TRef.toBuf, StableHlo.TRef.ofBuf, cast_eq]; after_results; rfl

theorem iblk_read (w : Fin cfg0.W) (t : Fin cfg0.N) (Z : Buf (Elt Ideal) ((c : Thread nD τ).loc (Pipeline.arrRef spec0 w))) (hZ : V m c (Pipeline.arrRef spec0 w) = Z)
    (y : ((cfg0.win w).xblock (cfg0.grid.coords t)).Idx) :
    iblk m c w t y = ((cfg0.win w).blk t).view.read (Elt Ideal) Z y := by
  subst hZ
  rfl

theorem blk1 (t : Fin cfg0.N) (a : Fin 64) (l : Fin 256) : iblk m c 1 t (ix2 a l) = nat2 (zAll m c) (32768 + 64 * t.val + a.val) (8192 + l.val) := by
  have ht := lt_of_lt_of_eq t.isLt gridN
  refine Eq.trans ?_ (nat2_val (zAll m c) ⟨32768 + 64 * t.val + a.val, by omega⟩ ⟨8192 + l.val, by omega⟩ _ _ rfl rfl)
  refine (iblk_read m c 1 t (zAll m c) (V_main_arg0 m c) _).trans (congrArg (zAll m c) ?_)
  blk_ext [idx t]

theorem blk2 (t : Fin cfg0.N) (y : Fin 8) (r l : Fin 128) (b : Fin 128) (hb : b.val = 8 * t.val + y.val) : iblk m c 2 t (ix3 y r l) = rowsC (oldK m c) (ix3 b r l) := by
  refine (iblk_read m c 2 t (rowsC (oldK m c)) (V3 m c) _).trans (congrArg (rowsC (oldK m c)) ?_)
  blk_ext [idx t]

theorem blk3 (t : Fin cfg0.N) (y : Fin 8) (r l : Fin 128) (b : Fin 128) (hb : b.val = 8 * t.val + y.val) : iblk m c 3 t (ix3 y r l) = rowsC (oldV m c) (ix3 b r l) := by
  refine (iblk_read m c 3 t (rowsC (oldV m c)) (V5 m c) _).trans (congrArg (rowsC (oldV m c)) ?_)
  blk_ext [idx t]

/-- A load of rows, and a load of one sequence's cache. -/
theorem ld2 {M N n k : ℕ} (X : FVec Ideal ⟨2, ![M, N]⟩ .f32) (o p : ℕ) (h) (a : Fin n) (l : Fin k) (r : Fin M) (q : Fin N) (hr : r.val = o + a.val) (hk : q.val = p + l.val) :
    View.ld (Val := Elt Ideal) (e' := .f32) X (Rect.unit (s := ⟨2, ![M, N]⟩) ![o, p] ![n, k] h) (ix2 a l) = X (ix2 r q) := by
  rw [View.ld_apply]
  refine congrArg X (funext fun b => Fin.ext ?_)
  match b with
  | ⟨0, _⟩ => show o + 1 * a.val = r.val; omega
  | ⟨1, _⟩ => show p + 1 * l.val = q.val; omega

theorem ld3 {A B C : ℕ} (X : FVec Ideal ⟨3, ![A, B, C]⟩ .f32) (o : ℕ) (h) (r : Fin B) (l : Fin C) (y : Fin A) (hy : y.val = o) :
    View.ld (Val := Elt Ideal) (e' := .f32) X (Rect.unit (s := ⟨3, ![A, B, C]⟩) ![o, 0, 0] ![1, B, C] h) (ix3 0 r l) = X (ix3 y r l) := by
  rw [View.ld_apply]
  refine congrArg X (funext fun b => Fin.ext ?_)
  match b with
  | ⟨0, _⟩ => show o + 1 * 0 = y.val; omega
  | ⟨1, _⟩ => show 0 + 1 * r.val = r.val; omega
  | ⟨2, _⟩ => show 0 + 1 * l.val = l.val; omega

/-- The first store's cells, and the second's. -/
theorem first_of (old : FVec Ideal S1x128x128x2x64 .f32) (z : FVec Ideal S33792x8704 .f32) (o : ℕ) (X : FVec Ideal S1x128x128 .f32) (b r l : Fin 128)
    (hX : ∀ r' l' : Fin 128, X (ix3 0 r' l') = rowsC old (ix3 b r' l')) (hr : r.val < 120) :
    k0_pay12 (F := Ideal) X (ix3 0 r l) = renewed old z o b r l := by
  rw [Cert.Kernel5Ideal.Block.whole_at X r l (by omega), hX, rowsC_at]
  unfold renewed
  rw [dif_pos (by omega)]

theorem second_of (old : FVec Ideal S1x128x128x2x64 .f32) (z : FVec Ideal S33792x8704 .f32) (o : ℕ) (K : FVec Ideal S8x128 .f32) (X : FVec Ideal S1x128x128 .f32) (b r l : Fin 128)
    (hX : ∀ r' l' : Fin 128, X (ix3 0 r' l') = rowsC old (ix3 b r' l')) (hK : ∀ (a : Fin 8) (l' : Fin 128), K (ix2 a l') = nat2 z (32768 + 8 * b.val + a.val) (o + l'.val)) (hr : 120 ≤ r.val) :
    k0_pay13 (F := Ideal) K X (ix3 0 ⟨r.val - 120, by omega⟩ l) = renewed old z o b r l := by
  rw [Cert.Kernel5Ideal.Block.tail_at K X ⟨r.val - 120, by omega⟩ l]
  unfold renewed
  by_cases h : r.val < 124
  · rw [dif_pos (by show r.val - 120 < 4; omega), dif_pos h, hX, rowsC_at]
    congr 2
    apply Fin.ext
    show 124 + (r.val - 120) = r.val + 4
    omega
  · rw [dif_neg (by show ¬ r.val - 120 < 4; omega), dif_neg h, hK]
    congr 1

/-- A sequence's old cache as a point loads it, and its rows of the projection. -/
abbrev ldC (X : FVec Ideal S8x128x128 .f32) (o : ℕ) (h : ∀ a, (![o, 0, 0] : Fin 3 → ℕ) a + (![1, 128, 128] : Fin 3 → ℕ) a ≤ S8x128x128.size a) : FVec Ideal S1x128x128 .f32 := View.ld (Val := Elt Ideal) (e' := .f32) X (Rect.unit (s := S8x128x128) ![o, 0, 0] ![1, 128, 128] h)

abbrev ldZ (X : FVec Ideal S64x256 .f32) (o p : ℕ) (h : ∀ a, (![o, p] : Fin 2 → ℕ) a + (![8, 128] : Fin 2 → ℕ) a ≤ S64x256.size a) : FVec Ideal S8x128 .f32 := View.ld (Val := Elt Ideal) (e' := .f32) X (Rect.unit (s := S64x256) ![o, p] ![8, 128] h)

/-- The loads of a point. -/
theorem keyRows (t : Fin cfg0.N) (q : ℕ) (h) (b : Fin 128) (y : Fin 8) (hb : b.val = 8 * t.val + y.val) (hq : q = 8 * y.val) (a : Fin 8) (l : Fin 128) :
    View.ld (Val := Elt Ideal) (e' := .f32) (iblk m c 1 t) (Rect.unit (s := S64x256) ![q, 0] ![8, 128] h) (ix2 a l) = nat2 (zAll m c) (32768 + 8 * b.val + a.val) (8192 + l.val) := by
  refine (ld2 (M := 64) (N := 256) (iblk m c 1 t) q 0 h a l ⟨q + a.val, by omega⟩ ⟨l.val, by omega⟩ rfl (by show l.val = 0 + l.val; omega)).trans ((blk1 m c t _ _).trans ?_)
  congr 1
  show 32768 + 64 * t.val + (q + a.val) = _
  omega

theorem valRows (t : Fin cfg0.N) (q : ℕ) (h) (b : Fin 128) (y : Fin 8) (hb : b.val = 8 * t.val + y.val) (hq : q = 8 * y.val) (a : Fin 8) (l : Fin 128) :
    View.ld (Val := Elt Ideal) (e' := .f32) (iblk m c 1 t) (Rect.unit (s := S64x256) ![q, 128] ![8, 128] h) (ix2 a l) = nat2 (zAll m c) (32768 + 8 * b.val + a.val) (8320 + l.val) := by
  refine (ld2 (M := 64) (N := 256) (iblk m c 1 t) q 128 h a l ⟨q + a.val, by omega⟩ ⟨128 + l.val, by omega⟩ rfl rfl).trans ((blk1 m c t _ _).trans ?_)
  congr 1
  · show 32768 + 64 * t.val + (q + a.val) = _
    omega
  · show 8192 + (128 + l.val) = _
    omega

theorem keyOld (t : Fin cfg0.N) (q : ℕ) (h) (b : Fin 128) (y : Fin 8) (hb : b.val = 8 * t.val + y.val) (hq : y.val = q) (r l : Fin 128) :
    View.ld (Val := Elt Ideal) (e' := .f32) (iblk m c 2 t) (Rect.unit (s := S8x128x128) ![q, 0, 0] ![1, 128, 128] h) (ix3 0 r l) = rowsC (oldK m c) (ix3 b r l) :=
  (ld3 (A := 8) (B := 128) (C := 128) (iblk m c 2 t) q h r l y hq).trans (blk2 m c t y r l b hb)

theorem valOld (t : Fin cfg0.N) (q : ℕ) (h) (b : Fin 128) (y : Fin 8) (hb : b.val = 8 * t.val + y.val) (hq : y.val = q) (r l : Fin 128) :
    View.ld (Val := Elt Ideal) (e' := .f32) (iblk m c 3 t) (Rect.unit (s := S8x128x128) ![q, 0, 0] ![1, 128, 128] h) (ix3 0 r l) = rowsC (oldV m c) (ix3 b r l) :=
  (ld3 (A := 8) (B := 128) (C := 128) (iblk m c 3 t) q h r l y hq).trans (blk3 m c t y r l b hb)

/-- The two results, as functions of their indices. -/
def keyArr : FVec Ideal S128x128x128 .f32 := fun j => renewed (oldK m c) (zAll m c) 8192 (j 0) (j 1) (j 2)

def valArr : FVec Ideal S128x128x128 .f32 := fun j => renewed (oldV m c) (zAll m c) 8320 (j 0) (j 1) (j 2)

theorem ix3_eta {A B C : ℕ} (y : (⟨3, ![A, B, C]⟩ : Shape).Idx) : y = ix3 (⟨(y 0).val, (y 0).isLt⟩ : Fin A) (⟨(y 1).val, (y 1).isLt⟩ : Fin B) (⟨(y 2).val, (y 2).isLt⟩ : Fin C) := by
  funext k
  match k with
  | ⟨0, _⟩ => rfl
  | ⟨1, _⟩ => rfl
  | ⟨2, _⟩ => rfl

/-- What a point leaves in the block of new keys. -/
theorem key_block (t : Fin cfg0.N) (y : Fin 8) (r l : Fin 128) (b : Fin 128) (hb : b.val = 8 * t.val + y.val) :
    (outsAt0 m c t).2.1 (ix3 y r l) = renewed (oldK m c) (zAll m c) 8192 b r l := by
  unfold outsAt0
  dsimp only
  frame_out
  refine two_stores 7 _ _ _ _ _ y r l _ ?_ ?_ ?_
  · intro e h
    exact first_of _ _ _ (ldC (iblk m c 2 t) 7 inb_S8x128x128_S1x128x128_7_0_0) b r l (fun r' l' => keyOld m c t 7 _ b y hb e r' l') h
  · intro e h
    exact second_of _ _ _ (ldZ (iblk m c 1 t) 56 0 inb_S64x256_S8x128_56_0) (ldC (iblk m c 2 t) 7 inb_S8x128x128_S1x128x128_7_0_0) b r l (fun r' l' => keyOld m c t 7 _ b y hb e r' l') (fun a l' => keyRows m c t 56 _ b y hb (by omega) a l') h
  intro e7
  refine two_stores 6 _ _ _ _ _ y r l _ ?_ ?_ ?_
  · intro e h
    exact first_of _ _ _ (ldC (iblk m c 2 t) 6 inb_S8x128x128_S1x128x128_6_0_0) b r l (fun r' l' => keyOld m c t 6 _ b y hb e r' l') h
  · intro e h
    exact second_of _ _ _ (ldZ (iblk m c 1 t) 48 0 inb_S64x256_S8x128_48_0) (ldC (iblk m c 2 t) 6 inb_S8x128x128_S1x128x128_6_0_0) b r l (fun r' l' => keyOld m c t 6 _ b y hb e r' l') (fun a l' => keyRows m c t 48 _ b y hb (by omega) a l') h
  intro e6
  refine two_stores 5 _ _ _ _ _ y r l _ ?_ ?_ ?_
  · intro e h
    exact first_of _ _ _ (ldC (iblk m c 2 t) 5 inb_S8x128x128_S1x128x128_5_0_0) b r l (fun r' l' => keyOld m c t 5 _ b y hb e r' l') h
  · intro e h
    exact second_of _ _ _ (ldZ (iblk m c 1 t) 40 0 inb_S64x256_S8x128_40_0) (ldC (iblk m c 2 t) 5 inb_S8x128x128_S1x128x128_5_0_0) b r l (fun r' l' => keyOld m c t 5 _ b y hb e r' l') (fun a l' => keyRows m c t 40 _ b y hb (by omega) a l') h
  intro e5
  refine two_stores 4 _ _ _ _ _ y r l _ ?_ ?_ ?_
  · intro e h
    exact first_of _ _ _ (ldC (iblk m c 2 t) 4 inb_S8x128x128_S1x128x128_4_0_0) b r l (fun r' l' => keyOld m c t 4 _ b y hb e r' l') h
  · intro e h
    exact second_of _ _ _ (ldZ (iblk m c 1 t) 32 0 inb_S64x256_S8x128_32_0) (ldC (iblk m c 2 t) 4 inb_S8x128x128_S1x128x128_4_0_0) b r l (fun r' l' => keyOld m c t 4 _ b y hb e r' l') (fun a l' => keyRows m c t 32 _ b y hb (by omega) a l') h
  intro e4
  refine two_stores 3 _ _ _ _ _ y r l _ ?_ ?_ ?_
  · intro e h
    exact first_of _ _ _ (ldC (iblk m c 2 t) 3 inb_S8x128x128_S1x128x128_3_0_0) b r l (fun r' l' => keyOld m c t 3 _ b y hb e r' l') h
  · intro e h
    exact second_of _ _ _ (ldZ (iblk m c 1 t) 24 0 inb_S64x256_S8x128_24_0) (ldC (iblk m c 2 t) 3 inb_S8x128x128_S1x128x128_3_0_0) b r l (fun r' l' => keyOld m c t 3 _ b y hb e r' l') (fun a l' => keyRows m c t 24 _ b y hb (by omega) a l') h
  intro e3
  refine two_stores 2 _ _ _ _ _ y r l _ ?_ ?_ ?_
  · intro e h
    exact first_of _ _ _ (ldC (iblk m c 2 t) 2 inb_S8x128x128_S1x128x128_2_0_0) b r l (fun r' l' => keyOld m c t 2 _ b y hb e r' l') h
  · intro e h
    exact second_of _ _ _ (ldZ (iblk m c 1 t) 16 0 inb_S64x256_S8x128_16_0) (ldC (iblk m c 2 t) 2 inb_S8x128x128_S1x128x128_2_0_0) b r l (fun r' l' => keyOld m c t 2 _ b y hb e r' l') (fun a l' => keyRows m c t 16 _ b y hb (by omega) a l') h
  intro e2
  refine two_stores 1 _ _ _ _ _ y r l _ ?_ ?_ ?_
  · intro e h
    exact first_of _ _ _ (ldC (iblk m c 2 t) 1 inb_S8x128x128_S1x128x128_1_0_0) b r l (fun r' l' => keyOld m c t 1 _ b y hb e r' l') h
  · intro e h
    exact second_of _ _ _ (ldZ (iblk m c 1 t) 8 0 inb_S64x256_S8x128_8_0) (ldC (iblk m c 2 t) 1 inb_S8x128x128_S1x128x128_1_0_0) b r l (fun r' l' => keyOld m c t 1 _ b y hb e r' l') (fun a l' => keyRows m c t 8 _ b y hb (by omega) a l') h
  intro e1
  refine two_stores 0 _ _ _ _ _ y r l _ ?_ ?_ ?_
  · intro e h
    exact first_of _ _ _ (ldC (iblk m c 2 t) 0 inb_S8x128x128_S1x128x128_0_0_0) b r l (fun r' l' => keyOld m c t 0 _ b y hb e r' l') h
  · intro e h
    exact second_of _ _ _ (ldZ (iblk m c 1 t) 0 0 inb_S64x256_S8x128_0_0) (ldC (iblk m c 2 t) 0 inb_S8x128x128_S1x128x128_0_0_0) b r l (fun r' l' => keyOld m c t 0 _ b y hb e r' l') (fun a l' => keyRows m c t 0 _ b y hb (by omega) a l') h
  intro e0
  have hy := y.isLt
  omega

theorem key_arr : (dats m 0 c).arrAt 6 cfg0.N = keyArr m c := by
  refine (dats m 0 c).arrAt_eq_of_covers 6 _ (by decide +kernel) fun t hf y => ?_
  have ht := lt_of_lt_of_eq t.isLt gridN
  have hy : (y 0).val < 8 := (y 0).isLt
  obtain ⟨b, hb⟩ : ∃ b : Fin 128, b.val = 8 * t.val + (y 0).val := ⟨⟨8 * t.val + (y 0).val, by omega⟩, rfl⟩
  have hX : keyArr m c (((View.whole main_v6_1).slice (win0_6.rect t)).emb y) = renewed (oldK m c) (zAll m c) 8192 b (y 1) (y 2) := by
    unfold keyArr
    congr 1 <;> apply Fin.ext
    · rw [hb]
      blk_simp [idx t]
      omega
    · blk_simp [idx t]
    · blk_simp [idx t]
  refine Eq.trans ?_ hX.symm
  clear hX
  blk_simp
  rw [after0_6]
  exact (congrArg (outsAt0 m c t).2.1 (ix3_eta y)).trans (key_block m c t _ _ _ b hb)

/-- What a point leaves in the block of new values. -/
theorem val_block (t : Fin cfg0.N) (y : Fin 8) (r l : Fin 128) (b : Fin 128) (hb : b.val = 8 * t.val + y.val) :
    (outsAt0 m c t).2.2 (ix3 y r l) = renewed (oldV m c) (zAll m c) 8320 b r l := by
  unfold outsAt0
  dsimp only
  frame_out
  refine two_stores 7 _ _ _ _ _ y r l _ ?_ ?_ ?_
  · intro e h
    exact first_of _ _ _ (ldC (iblk m c 3 t) 7 inb_S8x128x128_S1x128x128_7_0_0) b r l (fun r' l' => valOld m c t 7 _ b y hb e r' l') h
  · intro e h
    exact second_of _ _ _ (ldZ (iblk m c 1 t) 56 128 inb_S64x256_S8x128_56_128) (ldC (iblk m c 3 t) 7 inb_S8x128x128_S1x128x128_7_0_0) b r l (fun r' l' => valOld m c t 7 _ b y hb e r' l') (fun a l' => valRows m c t 56 _ b y hb (by omega) a l') h
  intro e7
  refine two_stores 6 _ _ _ _ _ y r l _ ?_ ?_ ?_
  · intro e h
    exact first_of _ _ _ (ldC (iblk m c 3 t) 6 inb_S8x128x128_S1x128x128_6_0_0) b r l (fun r' l' => valOld m c t 6 _ b y hb e r' l') h
  · intro e h
    exact second_of _ _ _ (ldZ (iblk m c 1 t) 48 128 inb_S64x256_S8x128_48_128) (ldC (iblk m c 3 t) 6 inb_S8x128x128_S1x128x128_6_0_0) b r l (fun r' l' => valOld m c t 6 _ b y hb e r' l') (fun a l' => valRows m c t 48 _ b y hb (by omega) a l') h
  intro e6
  refine two_stores 5 _ _ _ _ _ y r l _ ?_ ?_ ?_
  · intro e h
    exact first_of _ _ _ (ldC (iblk m c 3 t) 5 inb_S8x128x128_S1x128x128_5_0_0) b r l (fun r' l' => valOld m c t 5 _ b y hb e r' l') h
  · intro e h
    exact second_of _ _ _ (ldZ (iblk m c 1 t) 40 128 inb_S64x256_S8x128_40_128) (ldC (iblk m c 3 t) 5 inb_S8x128x128_S1x128x128_5_0_0) b r l (fun r' l' => valOld m c t 5 _ b y hb e r' l') (fun a l' => valRows m c t 40 _ b y hb (by omega) a l') h
  intro e5
  refine two_stores 4 _ _ _ _ _ y r l _ ?_ ?_ ?_
  · intro e h
    exact first_of _ _ _ (ldC (iblk m c 3 t) 4 inb_S8x128x128_S1x128x128_4_0_0) b r l (fun r' l' => valOld m c t 4 _ b y hb e r' l') h
  · intro e h
    exact second_of _ _ _ (ldZ (iblk m c 1 t) 32 128 inb_S64x256_S8x128_32_128) (ldC (iblk m c 3 t) 4 inb_S8x128x128_S1x128x128_4_0_0) b r l (fun r' l' => valOld m c t 4 _ b y hb e r' l') (fun a l' => valRows m c t 32 _ b y hb (by omega) a l') h
  intro e4
  refine two_stores 3 _ _ _ _ _ y r l _ ?_ ?_ ?_
  · intro e h
    exact first_of _ _ _ (ldC (iblk m c 3 t) 3 inb_S8x128x128_S1x128x128_3_0_0) b r l (fun r' l' => valOld m c t 3 _ b y hb e r' l') h
  · intro e h
    exact second_of _ _ _ (ldZ (iblk m c 1 t) 24 128 inb_S64x256_S8x128_24_128) (ldC (iblk m c 3 t) 3 inb_S8x128x128_S1x128x128_3_0_0) b r l (fun r' l' => valOld m c t 3 _ b y hb e r' l') (fun a l' => valRows m c t 24 _ b y hb (by omega) a l') h
  intro e3
  refine two_stores 2 _ _ _ _ _ y r l _ ?_ ?_ ?_
  · intro e h
    exact first_of _ _ _ (ldC (iblk m c 3 t) 2 inb_S8x128x128_S1x128x128_2_0_0) b r l (fun r' l' => valOld m c t 2 _ b y hb e r' l') h
  · intro e h
    exact second_of _ _ _ (ldZ (iblk m c 1 t) 16 128 inb_S64x256_S8x128_16_128) (ldC (iblk m c 3 t) 2 inb_S8x128x128_S1x128x128_2_0_0) b r l (fun r' l' => valOld m c t 2 _ b y hb e r' l') (fun a l' => valRows m c t 16 _ b y hb (by omega) a l') h
  intro e2
  refine two_stores 1 _ _ _ _ _ y r l _ ?_ ?_ ?_
  · intro e h
    exact first_of _ _ _ (ldC (iblk m c 3 t) 1 inb_S8x128x128_S1x128x128_1_0_0) b r l (fun r' l' => valOld m c t 1 _ b y hb e r' l') h
  · intro e h
    exact second_of _ _ _ (ldZ (iblk m c 1 t) 8 128 inb_S64x256_S8x128_8_128) (ldC (iblk m c 3 t) 1 inb_S8x128x128_S1x128x128_1_0_0) b r l (fun r' l' => valOld m c t 1 _ b y hb e r' l') (fun a l' => valRows m c t 8 _ b y hb (by omega) a l') h
  intro e1
  refine two_stores 0 _ _ _ _ _ y r l _ ?_ ?_ ?_
  · intro e h
    exact first_of _ _ _ (ldC (iblk m c 3 t) 0 inb_S8x128x128_S1x128x128_0_0_0) b r l (fun r' l' => valOld m c t 0 _ b y hb e r' l') h
  · intro e h
    exact second_of _ _ _ (ldZ (iblk m c 1 t) 0 128 inb_S64x256_S8x128_0_128) (ldC (iblk m c 3 t) 0 inb_S8x128x128_S1x128x128_0_0_0) b r l (fun r' l' => valOld m c t 0 _ b y hb e r' l') (fun a l' => valRows m c t 0 _ b y hb (by omega) a l') h
  intro e0
  have hy := y.isLt
  omega

theorem val_arr : (dats m 0 c).arrAt 7 cfg0.N = valArr m c := by
  refine (dats m 0 c).arrAt_eq_of_covers 7 _ (by decide +kernel) fun t hf y => ?_
  have ht := lt_of_lt_of_eq t.isLt gridN
  have hy : (y 0).val < 8 := (y 0).isLt
  obtain ⟨b, hb⟩ : ∃ b : Fin 128, b.val = 8 * t.val + (y 0).val := ⟨⟨8 * t.val + (y 0).val, by omega⟩, rfl⟩
  have hX : valArr m c (((View.whole main_v6_2).slice (win0_7.rect t)).emb y) = renewed (oldV m c) (zAll m c) 8320 b (y 1) (y 2) := by
    unfold valArr
    congr 1 <;> apply Fin.ext
    · rw [hb]
      blk_simp [idx t]
      omega
    · blk_simp [idx t]
    · blk_simp [idx t]
  refine Eq.trans ?_ hX.symm
  clear hX
  blk_simp
  rw [after0_7]
  exact (congrArg (outsAt0 m c t).2.2 (ix3_eta y)).trans (val_block m c t _ _ _ b hb)

open Cert.Reference5Ideal.Block (newR keysR valsR renewed_of keysR_at valsR_at)

theorem keys : newR (oldK m c) (keysR (zAll m c)) = (dats m 0 c).arrAt 6 cfg0.N := by
  refine (funext fun j => ?_ : _ = keyArr m c).trans (key_arr m c).symm
  exact (congrArg _ (ix3_eta j)).trans (renewed_of (oldK m c) (zAll m c) (keysR (zAll m c)) 8192 (fun b q g d C h => keysR_at _ b q g d C h) (j 0) (j 1) (j 2))

theorem vals : newR (oldV m c) (valsR (zAll m c)) = (dats m 0 c).arrAt 7 cfg0.N := by
  refine (funext fun j => ?_ : _ = valArr m c).trans (val_arr m c).symm
  exact (congrArg _ (ix3_eta j)).trans (renewed_of (oldV m c) (zAll m c) (valsR (zAll m c)) 8320 (fun b q g d C h => valsR_at _ b q g d C h) (j 0) (j 1) (j 2))

theorem algebraic : algebraic_Kernel5Ideal_Reference5Ideal (hKernel5Ideal := Cert.Kernel5Ideal.Gen.facts) (hReference5Ideal := Cert.Reference5Ideal.Gen.facts) := by
  intro m g m' g' _ hagree
  refine ⟨fun c => (dats m 0 c).arrAt 6 cfg0.N, fun c => (dats m 0 c).arrAt 7 cfg0.N, (θ_run Cert.Kernel5Ideal.defs _ _).mono (fun r h c => (h c).2) (Cert.Kernel5Ideal.Value.run_blocks m g), ?_⟩
  refine (θ_run Cert.Reference5Ideal.defs _ _).mono (fun r h c => ?_) (Cert.Reference5Ideal.Value.run m' g')
  obtain ⟨h0, h1, ha⟩ := h c
  obtain ⟨e0, e1, e2, e3⟩ := hagree c
  refine ⟨h0.trans ?_, h1.trans ?_, ha⟩
  · have h : newR _ (keysR _) = newR _ (keysR _) := congr (congrArg newR e2) (congrArg keysR e0)
    exact Eq.trans h (keys m c)
  · have h : newR _ (valsR _) = newR _ (valsR _) := congr (congrArg newR e3) (congrArg valsR e0)
    exact Eq.trans h (vals m c)

end Cert.Sample

end
-- ==== Proof.MlsSpec.lean ====
/- One step of the sample's mLSTM states, in numbers: four steps of one head of one sequence. -/
module

public import proofs.«01_k».proof.Proof.ExpSpec
import Idealize.ShloMosaic.Lib.Pointwise.Tactic

@[expose] public section

set_option maxRecDepth 16384

noncomputable section

open Idealize.ShloMosaic Idealize.ShloMosaic.TcCoe

namespace Cert.MlstmSpec

/-- The logarithm of the logistic function. -/
def logsig (x : EReal) : EReal := min x 0 - Ideal.log1p (Ideal.exp (0 - max x (-x)))

/-- A running sum of four numbers. -/
def run (f : Fin 4 → EReal) (t : Fin 4) : EReal := ∑ s : Fin 4, if s.val ≤ t.val then f s else 0

/-- What a step carries to the end of the four. -/
def carried (i f : Fin 4 → EReal) (s : Fin 4) : EReal := run f 3 - run f s + i s

/-- The new maximum. -/
def top (i f : Fin 4 → EReal) (m : EReal) : EReal := max (run f 3 + m) (Finset.fold max ⊥ (fun s : Fin 4 => carried i f s) Finset.univ)

def weight (i f : Fin 4 → EReal) (m : EReal) (s : Fin 4) : EReal := Ideal.exp (carried i f s - top i f m)

def keep (i f : Fin 4 → EReal) (m : EReal) : EReal := Ideal.exp (run f 3 + m - top i f m)

def scale : EReal := Ideal.ofBits .f32 0x3DB504F3#32

/-- A cell of the new matrix and of the new normaliser. -/
def cell (i f : Fin 4 → EReal) (m : EReal) (k v : Fin 4 → EReal) (c : EReal) : EReal := keep i f m * c + ∑ s : Fin 4, k s * scale * weight i f m s * v s

def normalised (i f : Fin 4 → EReal) (m : EReal) (k : Fin 4 → EReal) (n : EReal) : EReal := keep i f m * n + ∑ s : Fin 4, k s * scale * weight i f m s

theorem exp_bot : Ideal.exp ⊥ = 0 := rfl

theorem exp_nonneg (x : EReal) : 0 ≤ Ideal.exp x := by
  match x with
  | ⊥ => exact le_refl _
  | ⊤ => exact le_top
  | (r : ℝ) => exact EReal.coe_nonneg.2 (Real.exp_pos r).le

theorem log1p_ne_bot (x : EReal) (h : 0 ≤ x) : Ideal.log1p x ≠ ⊥ := by
  induction x using EReal.rec with
  | bot => exact absurd h (by decide)
  | coe r =>
    have hr : 0 ≤ r := EReal.coe_nonneg.1 h
    have e : Ideal.log1p (r : EReal) = (Real.log (1 + r) : ℝ) := by
      unfold Ideal.log1p
      rw [show (1 : EReal) + (r : EReal) = ((1 + r : ℝ) : EReal) from by push_cast; rfl]
      exact if_neg (by linarith)
    rw [e]
    exact EReal.coe_ne_bot _
  | top =>
    have e : Ideal.log1p ⊤ = ⊤ := by
      unfold Ideal.log1p
      rw [EReal.add_top_of_ne_bot (by decide)]
      rfl
    rw [e]
    exact fun q => absurd q (by decide)

/-- The other way to write it. -/
theorem logsig_neg (x : EReal) : -(max (-x) 0 + Ideal.log1p (Ideal.exp (-(max (-x) (- -x))))) = logsig x := by
  unfold logsig
  have hb := log1p_ne_bot _ (exp_nonneg (-(max (-x) (- -x))))
  have ha : max (-x) 0 ≠ ⊥ := fun q => absurd (le_max_right (-x) 0) (by rw [q]; decide)
  rw [EReal.neg_add (Or.inl ha) (Or.inr hb), neg_neg, max_comm (-x) x, zero_sub]
  congr 1
  rcases le_total x 0 with h | h
  · rw [min_eq_left h, max_eq_left (by simpa using EReal.neg_le_neg_iff.2 h), neg_neg]
  · rw [min_eq_right h, max_eq_right (by simpa using EReal.neg_le_neg_iff.2 h), neg_zero]

/-- Sums and maxima over eight numbers of which only four count. -/
theorem run8 (f : Fin 8 → EReal) (g : Fin 4 → EReal) (h1 : ∀ s : Fin 4, f ⟨s.val, by omega⟩ = g s) (h2 : ∀ s : Fin 8, 4 ≤ s.val → f s = 0) (t : Fin 8) (t' : Fin 4) (ht : min t.val 3 = t'.val) :
    (∑ s : Fin 8, if s.val ≤ t.val then f s else 0) = run g t' := by
  unfold run
  rw [Fin.sum_univ_eight, Fin.sum_univ_four, ← h1 0, ← h1 1, ← h1 2, ← h1 3, h2 4 (by decide), h2 5 (by decide), h2 6 (by decide), h2 7 (by decide)]
  simp only [ite_self, add_zero]
  have e : ∀ s : Fin 4, (s.val ≤ t'.val ↔ s.val ≤ t.val) := fun s => by omega
  simp only [e]
  rfl

theorem sum8 (f : Fin 8 → EReal) (g : Fin 4 → EReal) (h1 : ∀ s : Fin 4, f ⟨s.val, by omega⟩ = g s) (h2 : ∀ s : Fin 8, 4 ≤ s.val → f s = 0) :
    (∑ s : Fin 8, f s) = ∑ s : Fin 4, g s := by
  rw [Fin.sum_univ_eight, Fin.sum_univ_four, ← h1 0, ← h1 1, ← h1 2, ← h1 3, h2 4 (by decide), h2 5 (by decide), h2 6 (by decide), h2 7 (by decide)]
  simp only [add_zero]
  rfl

theorem fold8 (f : Fin 8 → EReal) (g : Fin 4 → EReal) (h1 : ∀ s : Fin 4, f ⟨s.val, by omega⟩ = g s) (h2 : ∀ s : Fin 8, 4 ≤ s.val → f s = ⊥) :
    Finset.fold max ⊥ f Finset.univ = Finset.fold max ⊥ g Finset.univ := by
  apply le_antisymm
  · refine (Finset.fold_max_le _).2 ⟨bot_le, fun s _ => ?_⟩
    by_cases hs : s.val < 4
    · exact (Finset.le_fold_max _).2 (Or.inr ⟨⟨s.val, hs⟩, Finset.mem_univ _, (h1 ⟨s.val, hs⟩).le⟩)
    · rw [h2 s (by omega)]
      exact bot_le
  · exact (Finset.fold_max_le _).2 ⟨bot_le, fun s _ => (Finset.le_fold_max _).2 (Or.inr ⟨⟨s.val, by omega⟩, Finset.mem_univ _, (h1 s).ge⟩)⟩

end Cert.MlstmSpec

end
-- ==== Proof.MlsPay.lean ====
/- What the sample's mLSTM stores of its new states, and the numbers it holds. -/
module

public import proofs.«01_k».proof.Proof.MlsSpec
public import proofs.«01_k».proof.Proof.Gen.Kernel6Ideal.Skeleton
public import Idealize.ShloMosaic.Lib.Pipeline.FrameBody
import Idealize.ShloMosaic.Lib.Pointwise.Tactic

@[expose] public section

set_option maxRecDepth 16384

noncomputable section

open Idealize.ShloMosaic Idealize.ShloMosaic.TcCoe

namespace Cert.Kernel6Ideal.Block

open Cert.Kernel6Ideal Cert.Kernel6Ideal.Gen Cert.MlstmSpec

/-- The gates of eight rows: input gates in lanes 0 to 3, logarithms of forget gates in the others; rows from 4 on are padding. -/
abbrev gates (z : FVec Ideal S8x128 .f32) (b : FVec Ideal S1x128 .f32) : FVec Ideal S8x128 .f32 := k0_pay1 (F := Ideal) z b

/-- The gates with rows and lanes swapped. -/
abbrev gatesT (z : FVec Ideal S8x128 .f32) (b : FVec Ideal S1x128 .f32) : FVec Ideal S128x8 .f32 := k0_pay2 (F := Ideal) z b

def below : IVec S8x8 1 := cmpi .sle (iota .tc S8x8 32 [1] iota_S8x8_d1_w32) (iota .tc S8x8 32 [0] iota_S8x8_d0_w32)

def above : IVec S8x8 1 := cmpi .sle (iota .tc S8x8 32 [0] iota_S8x8_d0_w32) (iota .tc S8x8 32 [1] iota_S8x8_d1_w32)

def zero : Ideal .f32 := Scalar.ofBits .f32 0x00000000#32

def mask : Ideal .f32 := Named.named κ "mask" 0xF149F2CA#32

/-- The running sums of the forget gates, along the rows. -/
def sums (fr : FVec Ideal S1x8 .f32) : FVec Ideal S8x128 .f32 :=
  broadcastTo S8x128 (shapeCast S8x1 (shapeCast S8x1 (multiReduction .add [1] S8 (select below (broadcastTo S8x8 (shapeCast S1x8 fr shapeCasts_S1x8_S1x8) broadcasts_S1x8_S8x8) (broadcast S8x8 zero)) 0x00000000#32 reduces_S8x8_S8 (.inl rfl) rfl) shapeCasts_S8_S8x1) shapeCasts_S8x1_S8x1) broadcasts_S8x1_S8x128

/-- The running sums of the forget gates, along the lanes. -/
def sumsT (fc : FVec Ideal S8x1 .f32) : FVec Ideal S1x8 .f32 :=
  shapeCast S1x8 (multiReduction .add [0] S8 (select above (broadcastTo S8x8 (shapeCast S8x1 fc shapeCasts_S8x1_S8x1) broadcasts_S8x1_S8x8) (broadcast S8x8 zero)) 0x00000000#32 reduces_S8x8_S8_2 (.inl rfl) rfl) shapeCasts_S8_S1x8

def within (ir fr : FVec Ideal S1x8 .f32) (fc : FVec Ideal S8x1 .f32) : FVec Ideal S8x8 .f32 :=
  select below (addf (subf (extractStridedSlice S8x8 ![0, 0] (sums fr) slices_S8x128_o0_0_S8x8) (broadcastTo S8x8 (sumsT fc) broadcasts_S1x8_S8x8)) (broadcastTo S8x8 ir broadcasts_S1x8_S8x8)) (broadcast S8x8 mask)

def before (fr : FVec Ideal S1x8 .f32) (m0 : FVec Ideal S1x1x1 .f32) : FVec Ideal S8x128 .f32 :=
  addf (sums fr) (broadcastTo S8x128 (shapeCast S1x1 m0 shapeCasts_S1x1x1_S1x1) broadcasts_S1x1_S8x128)

def tops (ir fr : FVec Ideal S1x8 .f32) (fc : FVec Ideal S8x1 .f32) (m0 : FVec Ideal S1x1x1 .f32) : FVec Ideal S8x128 .f32 :=
  maximumf (before fr m0) (broadcastTo S8x128 (shapeCast S8x1 (shapeCast S8x1 (multiReduction .maximumf [1] S8 (within ir fr fc) 0xFF800000#32 reduces_S8x8_S8 (.inl rfl) rfl) shapeCasts_S8_S8x1) shapeCasts_S8x1_S8x1) broadcasts_S8x1_S8x128)

def last (ir fr : FVec Ideal S1x8 .f32) (fc : FVec Ideal S8x1 .f32) (m0 : FVec Ideal S1x1x1 .f32) : FVec Ideal S1x1 .f32 :=
  extractStridedSlice S1x1 ![7, 0] (tops ir fr fc m0) slices_S8x128_o7_0_S1x1

def decay (ir fr : FVec Ideal S1x8 .f32) (fc : FVec Ideal S8x1 .f32) (m0 : FVec Ideal S1x1x1 .f32) : FVec Ideal S1x1 .f32 :=
  exp (subf (extractStridedSlice S1x1 ![7, 0] (before fr m0) slices_S8x128_o7_0_S1x1) (last ir fr fc m0))

def keysW (ic : FVec Ideal S8x1 .f32) (ir fr : FVec Ideal S1x8 .f32) (fc : FVec Ideal S8x1 .f32) (m0 : FVec Ideal S1x1x1 .f32) (k : FVec Ideal S8x128 .f32) : FVec Ideal S8x128 .f32 :=
  mulf (mulf k (broadcast S8x128 (Scalar.ofBits .f32 0x3DB504F3#32)))
    (exp (subf (addf (subf (broadcastTo S8x128 (extractStridedSlice S1x128 ![7, 0] (sums fr) slices_S8x128_o7_0_S1x128) broadcasts_S1x128_S8x128) (sums fr)) (broadcastTo S8x128 (shapeCast S8x1 ic shapeCasts_S8x1_S8x1) broadcasts_S8x1_S8x128)) (broadcastTo S8x128 (last ir fr fc m0) broadcasts_S1x1_S8x128)))

def newC (ic : FVec Ideal S8x1 .f32) (ir fr : FVec Ideal S1x8 .f32) (fc : FVec Ideal S8x1 .f32) (m0 : FVec Ideal S1x1x1 .f32) (k : FVec Ideal S8x128 .f32) (v : FVec Ideal S8x256 .f32) (c : FVec Ideal S1x1x128x256 .f32) : FVec Ideal S1x1x128x256 .f32 :=
  shapeCast S1x1x128x256 (addf (mulf (broadcastTo S128x256 (decay ir fr fc m0) broadcasts_S1x1_S128x256) (shapeCast S128x256 c shapeCasts_S1x1x128x256_S128x256)) (matmul (F := Ideal) (φ₁ := .bf16) (φ₂ := .bf16) dot_S128x8_S8x256_S128x256_1_0_0_1_n_n none (truncf .bf16 (transpose S128x8 [1, 0] (keysW ic ir fr fc m0 k) transposes_S8x128_p1_0_S128x8) bitsLt_bf16_f32) (truncf .bf16 v bitsLt_bf16_f32) (constant S128x256 .f32 0x00000000#32))) shapeCasts_S128x256_S1x1x128x256

def newN (ic : FVec Ideal S8x1 .f32) (ir fr : FVec Ideal S1x8 .f32) (fc : FVec Ideal S8x1 .f32) (m0 : FVec Ideal S1x1x1 .f32) (k : FVec Ideal S8x128 .f32) (n : FVec Ideal S1x1x128 .f32) : FVec Ideal S1x1x128 .f32 :=
  shapeCast S1x1x128 (addf (mulf (broadcastTo S1x128 (decay ir fr fc m0) broadcasts_S1x1_S1x128) (shapeCast S1x128 n shapeCasts_S1x1x128_S1x128)) (shapeCast S1x128 (multiReduction .add [0] S128 (keysW ic ir fr fc m0 k) 0x00000000#32 reduces_S8x128_S128 (.inl rfl) rfl) shapeCasts_S128_S1x128)) shapeCasts_S1x128_S1x1x128

def newM (ir fr : FVec Ideal S1x8 .f32) (fc : FVec Ideal S8x1 .f32) (m0 : FVec Ideal S1x1x1 .f32) : FVec Ideal S1x1x1 .f32 :=
  shapeCast S1x1x1 (last ir fr fc m0) shapeCasts_S1x1_S1x1x1

theorem mask_bot : mask = ⊥ := rfl

theorem zero_eq : zero = 0 := Ideal.ofBits_zero FTy.f32

theorem sel_le (s t : Fin 8) (x y : EReal) :
    Scalar.select (IntOp.cmpi .sle (BitVec.ofNat 32 s.val) (BitVec.ofNat 32 t.val)) x y = if s.val ≤ t.val then x else y := by
  have e : IntOp.cmpi .sle (BitVec.ofNat 32 s.val) (BitVec.ofNat 32 t.val) = 1#1 ↔ s.val ≤ t.val := (by decide : ∀ s t : Fin 8, IntOp.cmpi .sle (BitVec.ofNat 32 s.val) (BitVec.ofNat 32 t.val) = 1#1 ↔ s.val ≤ t.val) s t
  unfold Scalar.select
  exact if_congr e rfl rfl

theorem sel_lt8 (s : Fin 8) (x y : EReal) :
    Scalar.select (IntOp.cmpi .slt (BitVec.ofNat 32 s.val) 4#32) x y = if s.val < 4 then x else y := by
  have e : IntOp.cmpi .slt (BitVec.ofNat 32 s.val) 4#32 = 1#1 ↔ s.val < 4 := (by decide : ∀ s : Fin 8, IntOp.cmpi .slt (BitVec.ofNat 32 s.val) 4#32 = 1#1 ↔ s.val < 4) s
  unfold Scalar.select
  exact if_congr e rfl rfl

theorem sel_lt128 (s : Fin 128) (x y : EReal) :
    Scalar.select (IntOp.cmpi .slt (BitVec.ofNat 32 s.val) 4#32) x y = if s.val < 4 then x else y := by
  have e : IntOp.cmpi .slt (BitVec.ofNat 32 s.val) 4#32 = 1#1 ↔ s.val < 4 := (by decide : ∀ s : Fin 128, IntOp.cmpi .slt (BitVec.ofNat 32 s.val) 4#32 = 1#1 ↔ s.val < 4) s
  unfold Scalar.select
  exact if_congr e rfl rfl

theorem gates_at (z : FVec Ideal S8x128 .f32) (b : FVec Ideal S1x128 .f32) (i : Fin 8) (j : Fin 128) :
    gates z b (ix2 i j) = if i.val < 4 then (if j.val < 4 then z (ix2 i j) + b (ix2 0 j) else logsig (z (ix2 i j) + b (ix2 0 j))) else (if j.val < 4 then ⊥ else 0) := by
  unfold gates k0_pay1
  pointwise
  rw [sel_lt8, sel_lt128, sel_lt128]
  rfl

theorem gatesT_at (z : FVec Ideal S8x128 .f32) (b : FVec Ideal S1x128 .f32) (i : Fin 8) (j : Fin 128) :
    gatesT z b (ix2 j i) = gates z b (ix2 i j) := by
  unfold gatesT k0_pay2
  pointwise

/-- The gates of one head, as a column and as a row. -/
structure Gates (ic : FVec Ideal S8x1 .f32) (ir fr : FVec Ideal S1x8 .f32) (fc : FVec Ideal S8x1 .f32) (I F : Fin 4 → EReal) : Prop where
  ic1 : ∀ s : Fin 4, ic (ix2 ⟨s.val, by omega⟩ 0) = I s
  ic2 : ∀ s : Fin 8, 4 ≤ s.val → ic (ix2 s 0) = ⊥
  ir1 : ∀ s : Fin 4, ir (ix2 0 ⟨s.val, by omega⟩) = I s
  ir2 : ∀ s : Fin 8, 4 ≤ s.val → ir (ix2 0 s) = ⊥
  fc1 : ∀ s : Fin 4, fc (ix2 ⟨s.val, by omega⟩ 0) = F s
  fc2 : ∀ s : Fin 8, 4 ≤ s.val → fc (ix2 s 0) = 0
  fr1 : ∀ s : Fin 4, fr (ix2 0 ⟨s.val, by omega⟩) = F s
  fr2 : ∀ s : Fin 8, 4 ≤ s.val → fr (ix2 0 s) = 0

variable {ic : FVec Ideal S8x1 .f32} {ir fr : FVec Ideal S1x8 .f32} {fc : FVec Ideal S8x1 .f32} {I F : Fin 4 → EReal} (G : Gates ic ir fr fc I F)

include G

theorem sums_at (t : Fin 8) (j : Fin 128) (t' : Fin 4) (ht : min t.val 3 = t'.val) : sums fr (ix2 t j) = run F t' := by
  unfold sums below
  pointwise
  simp only [sel_le, zero_eq]
  exact run8 (fun s => fr (ix2 0 s)) F G.fr1 G.fr2 t t' ht

theorem sumsT_at (t : Fin 8) (t' : Fin 4) (ht : min t.val 3 = t'.val) : sumsT fc (ix2 0 t) = run F t' := by
  unfold sumsT above
  pointwise
  simp only [sel_le, zero_eq]
  exact run8 (fun s => fc (ix2 s 0)) F G.fc1 G.fc2 t t' ht

theorem within_at (s : Fin 8) : within ir fr fc (ix2 7 s) = sums fr (ix2 7 0) - sumsT fc (ix2 0 s) + ir (ix2 0 s) := by
  unfold within below
  pointwise
  refine (sel_le s 7 _ _).trans ((if_pos (by show s.val ≤ 7; omega)).trans ?_)
  rw [sums_at G 7 _ 3 rfl, sums_at G 7 _ 3 rfl]

theorem within_four (s : Fin 4) : within ir fr fc (ix2 7 ⟨s.val, by omega⟩) = carried I F s := by
  rw [within_at G, sums_at G 7 0 3 rfl, sumsT_at G ⟨s.val, by omega⟩ s (by show min s.val 3 = s.val; omega), G.ir1]
  rfl

theorem within_rest (s : Fin 8) (h : 4 ≤ s.val) : within ir fr fc (ix2 7 s) = ⊥ := by
  rw [within_at G, G.ir2 s h, EReal.add_bot]

theorem before_at (m0 : FVec Ideal S1x1x1 .f32) (j : Fin 128) : before fr m0 (ix2 7 j) = run F 3 + m0 (ix3 0 0 0) := by
  unfold before
  pointwise
  rw [sums_at G 7 j 3 rfl]

theorem last_at (m0 : FVec Ideal S1x1x1 .f32) : last ir fr fc m0 (ix2 0 0) = top I F (m0 (ix3 0 0 0)) := by
  have e : last ir fr fc m0 (ix2 0 0) = tops ir fr fc m0 (ix2 7 0) := by
    unfold last
    pointwise
  rw [e]
  unfold tops
  pointwise
  unfold top
  rw [before_at G m0 0]
  congr 1
  exact fold8 (fun s => within ir fr fc (ix2 7 s)) _ (within_four G) (within_rest G)

theorem decay_at (m0 : FVec Ideal S1x1x1 .f32) : decay ir fr fc m0 (ix2 0 0) = keep I F (m0 (ix3 0 0 0)) := by
  unfold decay
  pointwise
  rw [last_at G, before_at G]
  rfl

theorem keysW_at (m0 : FVec Ideal S1x1x1 .f32) (k : FVec Ideal S8x128 .f32) (s : Fin 8) (a : Fin 128) :
    keysW ic ir fr fc m0 k (ix2 s a) = k (ix2 s a) * scale * Ideal.exp (sums fr (ix2 7 a) - sums fr (ix2 s a) + ic (ix2 s 0) - top I F (m0 (ix3 0 0 0))) := by
  unfold keysW
  pointwise
  rw [last_at G]
  rfl

theorem keysW_four (m0 : FVec Ideal S1x1x1 .f32) (k : FVec Ideal S8x128 .f32) (s : Fin 4) (a : Fin 128) :
    keysW ic ir fr fc m0 k (ix2 ⟨s.val, by omega⟩ a) = k (ix2 ⟨s.val, by omega⟩ a) * scale * weight I F (m0 (ix3 0 0 0)) s := by
  rw [keysW_at G, sums_at G 7 a 3 rfl, sums_at G ⟨s.val, by omega⟩ a s (by show min s.val 3 = s.val; omega), G.ic1]
  rfl

theorem keysW_rest (m0 : FVec Ideal S1x1x1 .f32) (k : FVec Ideal S8x128 .f32) (s : Fin 8) (h : 4 ≤ s.val) (a : Fin 128) :
    keysW ic ir fr fc m0 k (ix2 s a) = 0 := by
  rw [keysW_at G, G.ic2 s h, EReal.add_bot, EReal.bot_sub, exp_bot, mul_zero]

theorem newC_at (m0 : FVec Ideal S1x1x1 .f32) (k : FVec Ideal S8x128 .f32) (v : FVec Ideal S8x256 .f32) (c : FVec Ideal S1x1x128x256 .f32) (a : Fin 128) (l : Fin 256) :
    newC ic ir fr fc m0 k v c (ix4 0 0 a l) = cell I F (m0 (ix3 0 0 0)) (fun s => k (ix2 ⟨s.val, by omega⟩ a)) (fun s => v (ix2 ⟨s.val, by omega⟩ l)) (c (ix4 0 0 a l)) := by
  unfold newC
  pointwise
  rw [decay_at G]
  unfold cell
  congr 1
  refine sum8 (fun s => keysW ic ir fr fc m0 k (ix2 s a) * v (ix2 s l)) _ (fun s => ?_) (fun s h => ?_)
  · show _ * _ = _ * _
    rw [keysW_four G]
  · show keysW ic ir fr fc m0 k (ix2 s a) * v (ix2 s l) = 0
    rw [keysW_rest G m0 k s h, zero_mul]

theorem newN_at (m0 : FVec Ideal S1x1x1 .f32) (k : FVec Ideal S8x128 .f32) (n : FVec Ideal S1x1x128 .f32) (a : Fin 128) :
    newN ic ir fr fc m0 k n (ix3 0 0 a) = normalised I F (m0 (ix3 0 0 0)) (fun s => k (ix2 ⟨s.val, by omega⟩ a)) (n (ix3 0 0 a)) := by
  unfold newN
  pointwise
  rw [decay_at G]
  unfold normalised
  congr 1
  exact sum8 (fun s => keysW ic ir fr fc m0 k (ix2 s a)) _ (fun s => keysW_four G m0 k s a) (fun s h => keysW_rest G m0 k s h a)

theorem newM_at (m0 : FVec Ideal S1x1x1 .f32) : newM ir fr fc m0 (ix3 0 0 0) = top I F (m0 (ix3 0 0 0)) := by
  refine Eq.trans ?_ (last_at G m0)
  unfold newM
  pointwise

end Cert.Kernel6Ideal.Block

end
-- ==== Proof.MlsRows.lean ====
/- What a point of the sample's mLSTM reads, in terms of the arrays. -/
module

public import proofs.«01_k».proof.Defs
public import proofs.«01_k».proof.Proof.MlsPay
public import proofs.«01_k».proof.Proof.AttnSpec
public import proofs.«01_k».proof.Proof.Gen.Kernel6Ideal.Value
public import Idealize.ShloMosaic.Lib.Claim
import Idealize.ShloMosaic.Lib.Pointwise.Tactic

@[expose] public section

set_option maxRecDepth 16384

noncomputable section

open Idealize.ShloMosaic Idealize.ShloMosaic.TcCoe Idealize.SL.Sem

namespace Cert.MlstmSample

open Cert.Kernel6Ideal Cert.Kernel6Ideal.Gen Cert.Kernel6Ideal.Block Cert.MlstmSpec
open Cert.AttnSpec (nat2 nat2_val)

/-- The windows' block indices. -/
theorem idx : ∀ t : Fin cfg0.N, win0_1.index t = ![512 + t.val, 15] ∧ win0_2.index t = ![512 + t.val, 5] ∧ win0_4.index t = ![512 + t.val, 66] ∧ win0_5.index t = ![0, 0] ∧ win0_7.index t = ![t.val, 0, 0, 0] ∧ win0_8.index t = ![t.val, 0, 0] ∧ win0_9.index t = ![t.val, 0, 0] ∧ win0_11.index t = ![t.val, 0, 0, 0] ∧ win0_12.index t = ![t.val, 0, 0] ∧ win0_13.index t = ![t.val, 0, 0] :=
  (by decide +kernel : ∀ t : Fin grid0.N, _)

theorem gridN : cfg0.N = 16 := N_0

variable (m : (ℓ : Loc nD τ sig) → Buf (Elt Ideal) ℓ) (c : Dev nD)

abbrev zAll : FVec Ideal S33792x8704 .f32 := m (c.tc.loc main_arg0)
abbrev bias : FVec Ideal S1x8 .f32 := m (c.tc.loc main_arg1)
abbrev oldC : FVec Ideal S1x128x4x128x256 .f32 := m (c.tc.loc main_arg3)
abbrev oldN : FVec Ideal S1x128x4x128 .f32 := m (c.tc.loc main_arg4)
abbrev oldM : FVec Ideal S1x128x4 .f32 := m (c.tc.loc main_arg5)

/-- The arrays the windows are cut from. -/
def lane (b : FVec Ideal S1x8 .f32) : FVec Ideal S1x128 .f32 :=
  shapeCast S1x128 (pad S128 ![0] ![120] ![0] (shapeCast S8 b shapeCasts_S1x8_S8) (sitofp .f32 (constantI S_ 32 0#32)) pads_S8_S128_01200 h_S_) shapeCasts_S128_S1x128

def flatC (x : FVec Ideal S1x128x4x128x256 .f32) : FVec Ideal S128x4x128x256 .f32 := shapeCast S128x4x128x256 x shapeCasts_S1x128x4x128x256_S128x4x128x256

def flatN (x : FVec Ideal S1x128x4x128 .f32) : FVec Ideal S128x4x128 .f32 := shapeCast S128x4x128 x shapeCasts_S1x128x4x128_S128x4x128

def flatM (x : FVec Ideal S1x128x4 .f32) : FVec Ideal S16x8x4 .f32 := shapeCast S16x8x4 (shapeCast S128x4 x shapeCasts_S1x128x4_S128x4) shapeCasts_S128x4_S16x8x4

theorem lane_at (b : FVec Ideal S1x8 .f32) (j : Fin 8) : lane b (ix2 0 ⟨j.val, by omega⟩) = b (ix2 0 j) := by
  unfold lane
  pointwise

theorem flatC_at (x : FVec Ideal S1x128x4x128x256 .f32) (y : Fin 128) (q : Fin 4) (a : Fin 128) (l : Fin 256) : flatC x (ix4 y q a l) = x (ix5 0 y q a l) := by
  unfold flatC
  pointwise

theorem flatN_at (x : FVec Ideal S1x128x4x128 .f32) (y : Fin 128) (q : Fin 4) (a : Fin 128) : flatN x (ix3 y q a) = x (ix4 0 y q a) := by
  unfold flatN
  pointwise

theorem flatM_at (x : FVec Ideal S1x128x4 .f32) (t : Fin 16) (y : Fin 8) (q : Fin 4) (r : Fin 128) (hr : r.val = 8 * t.val + y.val) : flatM x (ix3 t y q) = x (ix3 0 r q) := by
  unfold flatM
  pointwise
  congr 2
  all_goals (apply Fin.ext; simp; omega)

theorem V2 : V m c main_v2 = lane (bias m c) := by
  unfold V; simp only [hostOps0, hostOps0_1, hostOps0_2, List.flatten_cons, List.flatten_nil, List.append_nil, List.cons_append, List.nil_append, StableHlo.TRef.unary, StableHlo.TRef.binary, StableHlo.TRef.toBuf, StableHlo.TRef.ofBuf, cast_eq]; after_results; rfl

theorem V5 : V m c main_v5 = flatC (oldC m c) := by
  unfold V; simp only [hostOps0, hostOps0_1, hostOps0_2, List.flatten_cons, List.flatten_nil, List.append_nil, List.cons_append, List.nil_append, StableHlo.TRef.unary, StableHlo.TRef.binary, StableHlo.TRef.toBuf, StableHlo.TRef.ofBuf, cast_eq]; after_results; rfl

theorem V6 : V m c main_v6 = flatN (oldN m c) := by
  unfold V; simp only [hostOps0, hostOps0_1, hostOps0_2, List.flatten_cons, List.flatten_nil, List.append_nil, List.cons_append, List.nil_append, StableHlo.TRef.unary, StableHlo.TRef.binary, StableHlo.TRef.toBuf, StableHlo.TRef.ofBuf, cast_eq]; after_results; rfl

theorem V8 : V m c main_v8 = flatM (oldM m c) := by
  unfold V; simp only [hostOps0, hostOps0_1, hostOps0_2, List.flatten_cons, List.flatten_nil, List.append_nil, List.cons_append, List.nil_append, StableHlo.TRef.unary, StableHlo.TRef.binary, StableHlo.TRef.toBuf, StableHlo.TRef.ofBuf, cast_eq]; after_results; rfl

theorem iblk_read (w : Fin cfg0.W) (t : Fin cfg0.N) (Z : Buf (Elt Ideal) ((c : Thread nD τ).loc (Pipeline.arrRef spec0 w))) (hZ : V m c (Pipeline.arrRef spec0 w) = Z)
    (y : ((cfg0.win w).xblock (cfg0.grid.coords t)).Idx) :
    iblk m c w t y = ((cfg0.win w).blk t).view.read (Elt Ideal) Z y := by
  subst hZ
  rfl

theorem blk1 (t : Fin cfg0.N) (a : Fin 64) (l : Fin 512) : iblk m c 1 t (ix2 a l) = nat2 (zAll m c) (32768 + 64 * t.val + a.val) (7680 + l.val) := by
  have ht := lt_of_lt_of_eq t.isLt gridN
  refine Eq.trans ?_ (nat2_val (zAll m c) ⟨32768 + 64 * t.val + a.val, by omega⟩ ⟨7680 + l.val, by omega⟩ _ _ rfl rfl)
  refine (iblk_read m c 1 t (zAll m c) (V_main_arg0 m c) _).trans (congrArg (zAll m c) ?_)
  blk_ext [idx t]

theorem blk4 (t : Fin cfg0.N) (a : Fin 64) (l : Fin 128) : iblk m c 4 t (ix2 a l) = nat2 (zAll m c) (32768 + 64 * t.val + a.val) (8448 + l.val) := by
  have ht := lt_of_lt_of_eq t.isLt gridN
  refine Eq.trans ?_ (nat2_val (zAll m c) ⟨32768 + 64 * t.val + a.val, by omega⟩ ⟨8448 + l.val, by omega⟩ _ _ rfl rfl)
  refine (iblk_read m c 4 t (zAll m c) (V_main_arg0 m c) _).trans (congrArg (zAll m c) ?_)
  blk_ext [idx t]

theorem blk5 (t : Fin cfg0.N) (l : Fin 128) : iblk m c 5 t (ix2 0 l) = lane (bias m c) (ix2 0 l) := by
  refine (iblk_read m c 5 t (lane (bias m c)) (V2 m c) _).trans (congrArg (lane (bias m c)) ?_)
  blk_ext [idx t]

theorem blk7 (t : Fin cfg0.N) (y : Fin 8) (q : Fin 4) (a : Fin 128) (l : Fin 256) (b : Fin 128) (hb : b.val = 8 * t.val + y.val) : iblk m c 7 t (ix4 y q a l) = oldC m c (ix5 0 b q a l) := by
  refine Eq.trans ?_ (flatC_at (oldC m c) b q a l)
  refine (iblk_read m c 7 t (flatC (oldC m c)) (V5 m c) _).trans (congrArg (flatC (oldC m c)) ?_)
  blk_ext [idx t]

theorem blk8 (t : Fin cfg0.N) (y : Fin 8) (q : Fin 4) (a : Fin 128) (b : Fin 128) (hb : b.val = 8 * t.val + y.val) : iblk m c 8 t (ix3 y q a) = oldN m c (ix4 0 b q a) := by
  refine Eq.trans ?_ (flatN_at (oldN m c) b q a)
  refine (iblk_read m c 8 t (flatN (oldN m c)) (V6 m c) _).trans (congrArg (flatN (oldN m c)) ?_)
  blk_ext [idx t]

theorem blk9 (t : Fin cfg0.N) (y : Fin 8) (q : Fin 4) (b : Fin 128) (hb : b.val = 8 * t.val + y.val) : iblk m c 9 t (ix3 0 y q) = oldM m c (ix3 0 b q) := by
  have ht := lt_of_lt_of_eq t.isLt gridN
  refine Eq.trans ?_ (flatM_at (oldM m c) ⟨t.val, ht⟩ y q b hb)
  refine (iblk_read m c 9 t (flatM (oldM m c)) (V8 m c) _).trans (congrArg (flatM (oldM m c)) ?_)
  blk_ext [idx t]

theorem blk2 (t : Fin cfg0.N) (a : Fin 64) (l : Fin 1024) : X0_2 m c t (ix2 a l) = nat2 (zAll m c) (32768 + 64 * t.val + a.val) (5120 + l.val) := by
  have ht := lt_of_lt_of_eq t.isLt gridN
  refine Eq.trans ?_ (nat2_val (zAll m c) ⟨32768 + 64 * t.val + a.val, by omega⟩ ⟨5120 + l.val, by omega⟩ _ _ rfl rfl)
  unfold X0_2 Pipeline.Window.fill
  rw [dif_pos (moved0_2 t (ix2 a l))]
  refine (iblk_read m c 2 t (zAll m c) (V_main_arg0 m c) _).trans (congrArg (zAll m c) ?_)
  blk_ext [idx t]

end Cert.MlstmSample

end
-- ==== Proof.MlsRef.lean ====
/- The reference of the sample's mLSTM states, stage by stage, read at an index. -/
module

public import proofs.«01_k».proof.Proof.MlsSpec
public import proofs.«01_k».proof.Proof.AttnSpec
public import proofs.«01_k».proof.Proof.Gen.Reference6Ideal.Run
import Idealize.ShloMosaic.Lib.Pointwise.Tactic

@[expose] public section

set_option maxRecDepth 16384

noncomputable section

open Idealize.ShloMosaic Idealize.ShloMosaic.TcCoe

namespace Cert.Reference6Ideal.Block

open Cert.Reference6Ideal Cert.Reference6Ideal.Gen Cert.MlstmSpec
open Cert.AttnSpec (nat2 nat2_val)

def rowsR (z : FVec Ideal S33792x8704 .f32) : FVec Ideal S128x4x8704 .f32 :=
  extractStridedSlice S128x4x8704 ![0, 0, 0] (shapeCast _ (extractStridedSlice S1024x8704 ![32768, 0] z slices_S33792x8704_S1024x8704_32768_0) shapeCasts_S1024x8704_S128x8x8704) slices_S128x8x8704_S128x4x8704_0_0_0

def keysR (z : FVec Ideal S33792x8704 .f32) : FVec Ideal S128x4x4x128 .f32 :=
  mulf (transpose S128x4x4x128 [0, 2, 1, 3] (shapeCast _ (extractStridedSlice S128x4x512 ![0, 0, 7680] (rowsR z) slices_S128x4x8704_S128x4x512_0_0_7680) shapeCasts_S128x4x512_S128x4x4x128) transposes_S128x4x4x128_S128x4x4x128_0_2_1_3) (broadcastInDim S128x4x4x128 ![] bcast_S_S128x4x4x128 (constant S_ .f32 0x3DB504F3#32))

def valuesR (z : FVec Ideal S33792x8704 .f32) : FVec Ideal S128x4x4x256 .f32 :=
  transpose S128x4x4x256 [0, 2, 1, 3] (shapeCast _ (extractStridedSlice S128x4x1024 ![0, 0, 5120] (rowsR z) slices_S128x4x8704_S128x4x1024_0_0_5120) shapeCasts_S128x4x1024_S128x4x4x256) transposes_S128x4x4x256_S128x4x4x256_0_2_1_3

def gatesR (z : FVec Ideal S33792x8704 .f32) (b : FVec Ideal S1x8 .f32) : FVec Ideal S128x4x8 .f32 :=
  addf (extractStridedSlice S128x4x8 ![0, 0, 8448] (rowsR z) slices_S128x4x8704_S128x4x8_0_0_8448) (broadcastInDim S128x4x8 ![0, 1, 2] bcast_S1x1x8_S128x4x8_0_1_2 (broadcastInDim S1x1x8 ![2] bcast_S8_S1x1x8_2 (shapeCast _ b shapeCasts_S1x8_S8)))

def inR (z : FVec Ideal S33792x8704 .f32) (b : FVec Ideal S1x8 .f32) : FVec Ideal S128x4x4 .f32 :=
  transpose S128x4x4 [0, 2, 1] (extractStridedSlice S128x4x4 ![0, 0, 0] (gatesR z b) slices_S128x4x8_S128x4x4_0_0_0) transposes_S128x4x4_S128x4x4_0_2_1

def zerosR : FVec Ideal S128x4x4 .f32 := broadcastInDim S128x4x4 ![] bcast_S_S128x4x4 (constant S_ .f32 0x00000000#32)

def logsigR (x : FVec Ideal S128x4x4 .f32) : FVec Ideal S128x4x4 .f32 :=
  Host.negf (select (cmpf .une (subf (Host.negf x) zerosR) (subf (Host.negf x) zerosR)) (addf (Host.negf x) zerosR) (addf (maximumf (Host.negf x) zerosR) (Host.log1p (Host.exp (Host.negf (Host.absf (subf (Host.negf x) zerosR)))))))

def forgetR (z : FVec Ideal S33792x8704 .f32) (b : FVec Ideal S1x8 .f32) : FVec Ideal S128x4x4 .f32 :=
  transpose S128x4x4 [0, 2, 1] (logsigR (extractStridedSlice S128x4x4 ![0, 0, 4] (gatesR z b) slices_S128x4x8_S128x4x4_0_0_4)) transposes_S128x4x4_S128x4x4_0_2_1

def cumR (x : FVec Ideal S128x4x4 .f32) : FVec Ideal S128x4x4 .f32 :=
  Host.reduceWindowAdd ![1, 1, 4] ![1, 1, 1] ![0, 0, 3] ![0, 0, 0] x (broadcastInDim S_ ![] bcast_S_S_ (constant S_ .f32 0x00000000#32)) reduceWindows_S128x4x4_S128x4x4_w1s1p0_0_w1s1p0_0_w4s1p3_0 h_S_

def maskR : IVec S4x4 1 :=
  select (cmpi .sge (addi (iotaInDim S4x4 32 0) (broadcastInDim S4x4 ![] bcast_S_S4x4 (constantI S_ 32 0#32))) (iotaInDim S4x4 32 1)) (broadcastInDim S4x4 ![] bcast_S_S4x4 (constantI S_ 1 1#1)) (broadcastInDim S4x4 ![] bcast_S_S4x4 (constantI S_ 1 0#1))

def dlogR (i u : FVec Ideal S128x4x4 .f32) : FVec Ideal S128x4x4x4 .f32 :=
  select (broadcastInDim S128x4x4x4 ![2, 3] bcast_S4x4_S128x4x4x4_2_3 maskR) (addf (subf (broadcastInDim S128x4x4x4 ![0, 1, 2, 3] bcast_S128x4x4x1_S128x4x4x4_0_1_2_3 (broadcastInDim S128x4x4x1 ![0, 1, 2] bcast_S128x4x4_S128x4x4x1_0_1_2 u)) (broadcastInDim S128x4x4x4 ![0, 1, 2, 3] bcast_S128x4x1x4_S128x4x4x4_0_1_2_3 (broadcastInDim S128x4x1x4 ![0, 1, 3] bcast_S128x4x4_S128x4x1x4_0_1_3 u))) (broadcastInDim S128x4x4x4 ![0, 1, 2, 3] bcast_S128x4x1x4_S128x4x4x4_0_1_2_3 (broadcastInDim S128x4x1x4 ![0, 1, 3] bcast_S128x4x4_S128x4x1x4_0_1_3 i))) (broadcastInDim S128x4x4x4 ![] bcast_S_S128x4x4x4 (id (constant S_ .f32 0xFF800000#32)))

def m0R (m0 : FVec Ideal S1x128x4 .f32) : FVec Ideal S128x4 .f32 := shapeCast _ m0 shapeCasts_S1x128x4_S128x4

def initR (u : FVec Ideal S128x4x4 .f32) (m0 : FVec Ideal S1x128x4 .f32) : FVec Ideal S128x4x4 .f32 :=
  addf u (broadcastInDim S128x4x4 ![0, 1, 2] bcast_S128x4x1_S128x4x4_0_1_2 (broadcastInDim S128x4x1 ![0, 1] bcast_S128x4_S128x4x1_0_1 (m0R m0)))

def maxR (x : FVec Ideal S128x4x4x4 .f32) : FVec Ideal S128x4x4 .f32 :=
  Host.reduce FloatOps.maximumf x (constant S_ .f32 0xFF800000#32) reducesTo_S128x4x4x4_S128x4x4_d3 h_S_

def topR (i u : FVec Ideal S128x4x4 .f32) (m0 : FVec Ideal S1x128x4 .f32) : FVec Ideal S128x4 .f32 :=
  shapeCast _ (extractStridedSlice S128x4x1 ![0, 0, 3] (maximumf (initR u m0) (maxR (dlogR i u))) slices_S128x4x4_S128x4x1_0_0_3) shapeCasts_S128x4x1_S128x4

def weightR (i u : FVec Ideal S128x4x4 .f32) (m0 : FVec Ideal S1x128x4 .f32) : FVec Ideal S128x4x4 .f32 :=
  Host.exp (subf (addf (subf (broadcastInDim S128x4x4 ![0, 1, 2] bcast_S128x4x1_S128x4x4_0_1_2 (extractStridedSlice S128x4x1 ![0, 0, 3] u slices_S128x4x4_S128x4x1_0_0_3)) u) i) (broadcastInDim S128x4x4 ![0, 1, 2] bcast_S128x4x1_S128x4x4_0_1_2 (broadcastInDim S128x4x1 ![0, 1] bcast_S128x4_S128x4x1_0_1 (topR i u m0))))

def keepR (i u : FVec Ideal S128x4x4 .f32) (m0 : FVec Ideal S1x128x4 .f32) : FVec Ideal S128x4 .f32 :=
  Host.exp (subf (shapeCast _ (extractStridedSlice S128x4x1 ![0, 0, 3] (initR u m0) slices_S128x4x4_S128x4x1_0_0_3) shapeCasts_S128x4x1_S128x4) (topR i u m0))

def keysW (k : FVec Ideal S128x4x4x128 .f32) (w : FVec Ideal S128x4x4 .f32) : FVec Ideal S128x4x4x128 .f32 :=
  mulf k (broadcastInDim S128x4x4x128 ![0, 1, 2, 3] bcast_S128x4x4x1_S128x4x4x128_0_1_2_3 (broadcastInDim S128x4x4x1 ![0, 1, 2] bcast_S128x4x4_S128x4x4x1_0_1_2 w))

def outC (kw : FVec Ideal S128x4x4x128 .f32) (v : FVec Ideal S128x4x4x256 .f32) (d : FVec Ideal S128x4 .f32) (c : FVec Ideal S1x128x4x128x256 .f32) : FVec Ideal S128x4x128x256 .f32 :=
  addf (mulf (broadcastInDim S128x4x128x256 ![0, 1, 2, 3] bcast_S128x4x1x1_S128x4x128x256_0_1_2_3 (broadcastInDim S128x4x1x1 ![0, 1] bcast_S128x4_S128x4x1x1_0_1 d)) (shapeCast _ c shapeCasts_S1x128x4x128x256_S128x4x128x256)) (Host.dotGeneral dot_S128x4x4x128_S128x4x4x256_S128x4x128x256_2_2_3_3_01_01 none kw v)

def outN (kw : FVec Ideal S128x4x4x128 .f32) (d : FVec Ideal S128x4 .f32) (n : FVec Ideal S1x128x4x128 .f32) : FVec Ideal S128x4x128 .f32 :=
  addf (mulf (broadcastInDim S128x4x128 ![0, 1, 2] bcast_S128x4x1_S128x4x128_0_1_2 (broadcastInDim S128x4x1 ![0, 1] bcast_S128x4_S128x4x1_0_1 d)) (shapeCast _ n shapeCasts_S1x128x4x128_S128x4x128)) (Host.reduceAdd kw (constant S_ .f32 0x00000000#32) reducesTo_S128x4x4x128_S128x4x128_d2 h_S_)

def outM (t : FVec Ideal S128x4 .f32) : FVec Ideal S16x8x4 .f32 := shapeCast _ t shapeCasts_S128x4_S16x8x4

/-- The three results of the six arguments. -/
def cR (z : FVec Ideal S33792x8704 .f32) (b : FVec Ideal S1x8 .f32) (c : FVec Ideal S1x128x4x128x256 .f32) (m0 : FVec Ideal S1x128x4 .f32) : FVec Ideal S128x4x128x256 .f32 :=
  outC (keysW (keysR z) (weightR (inR z b) (cumR (forgetR z b)) m0)) (valuesR z) (keepR (inR z b) (cumR (forgetR z b)) m0) c

def nR (z : FVec Ideal S33792x8704 .f32) (b : FVec Ideal S1x8 .f32) (n : FVec Ideal S1x128x4x128 .f32) (m0 : FVec Ideal S1x128x4 .f32) : FVec Ideal S128x4x128 .f32 :=
  outN (keysW (keysR z) (weightR (inR z b) (cumR (forgetR z b)) m0)) (keepR (inR z b) (cumR (forgetR z b)) m0) n

def mR (z : FVec Ideal S33792x8704 .f32) (b : FVec Ideal S1x8 .f32) (m0 : FVec Ideal S1x128x4 .f32) : FVec Ideal S16x8x4 .f32 :=
  outM (topR (inR z b) (cumR (forgetR z b)) m0)

section
variable (m : (ℓ : Loc nD τ sig) → Buf (Elt Ideal) ℓ) (c : Dev nD)

set_option maxHeartbeats 4000000 in
theorem res_c : Cert.Reference6Ideal.Value.res_main_v62 m c = cR (m (c.tc.loc main_arg0)) (m (c.tc.loc main_arg1)) (m (c.tc.loc main_arg3)) (m (c.tc.loc main_arg5)) := by
  unfold Cert.Reference6Ideal.Value.res_main_v62
  rfl

set_option maxHeartbeats 4000000 in
theorem res_n : Cert.Reference6Ideal.Value.res_main_v67 m c = nR (m (c.tc.loc main_arg0)) (m (c.tc.loc main_arg1)) (m (c.tc.loc main_arg4)) (m (c.tc.loc main_arg5)) := by
  unfold Cert.Reference6Ideal.Value.res_main_v67
  rfl

set_option maxHeartbeats 4000000 in
theorem res_m : Cert.Reference6Ideal.Value.res_main_v68 m c = mR (m (c.tc.loc main_arg0)) (m (c.tc.loc main_arg1)) (m (c.tc.loc main_arg5)) := by
  unfold Cert.Reference6Ideal.Value.res_main_v68
  rfl
end

theorem rowsR_at (z : FVec Ideal S33792x8704 .f32) (b : Fin 128) (s : Fin 4) (j : Fin 8704) :
    rowsR z (ix3 b s j) = nat2 z (32768 + 8 * b.val + s.val) j.val := by
  refine Eq.trans ?_ (nat2_val z ⟨32768 + 8 * b.val + s.val, by omega⟩ j _ _ rfl rfl)
  unfold rowsR
  pointwise
  congr 2
  all_goals (apply Fin.ext; simp; omega)

theorem keysR_at (z : FVec Ideal S33792x8704 .f32) (b : Fin 128) (q s : Fin 4) (a : Fin 128) :
    keysR z (ix4 b q s a) = nat2 z (32768 + 8 * b.val + s.val) (7680 + (128 * q.val + a.val)) * scale := by
  rw [show nat2 z (32768 + 8 * b.val + s.val) (7680 + (128 * q.val + a.val)) = rowsR z (ix3 b s ⟨7680 + (128 * q.val + a.val), by omega⟩) from (rowsR_at z b s ⟨7680 + (128 * q.val + a.val), by omega⟩).symm]
  unfold keysR
  pointwise
  unfold scale
  congr 3
  all_goals (apply Fin.ext; simp; omega)

theorem valuesR_at (z : FVec Ideal S33792x8704 .f32) (b : Fin 128) (q s : Fin 4) (l : Fin 256) :
    valuesR z (ix4 b q s l) = nat2 z (32768 + 8 * b.val + s.val) (5120 + (256 * q.val + l.val)) := by
  refine Eq.trans ?_ (rowsR_at z b s ⟨5120 + (256 * q.val + l.val), by omega⟩)
  unfold valuesR
  pointwise
  congr 2
  all_goals (apply Fin.ext; simp; omega)

theorem gatesR_at (z : FVec Ideal S33792x8704 .f32) (b : FVec Ideal S1x8 .f32) (y : Fin 128) (s : Fin 4) (j : Fin 8) :
    gatesR z b (ix3 y s j) = nat2 z (32768 + 8 * y.val + s.val) (8448 + j.val) + b (ix2 0 j) := by
  rw [show nat2 z (32768 + 8 * y.val + s.val) (8448 + j.val) = rowsR z (ix3 y s ⟨8448 + j.val, by omega⟩) from (rowsR_at z y s ⟨8448 + j.val, by omega⟩).symm]
  unfold gatesR
  pointwise

/-- The gates of one head of one sequence. -/
def inOf (z : FVec Ideal S33792x8704 .f32) (b : FVec Ideal S1x8 .f32) (y : Fin 128) (q : Fin 4) (s : Fin 4) : EReal :=
  nat2 z (32768 + 8 * y.val + s.val) (8448 + q.val) + b (ix2 0 ⟨q.val, by omega⟩)

def forgetOf (z : FVec Ideal S33792x8704 .f32) (b : FVec Ideal S1x8 .f32) (y : Fin 128) (q : Fin 4) (s : Fin 4) : EReal :=
  logsig (nat2 z (32768 + 8 * y.val + s.val) (8452 + q.val) + b (ix2 0 ⟨4 + q.val, by omega⟩))

theorem inR_at (z : FVec Ideal S33792x8704 .f32) (b : FVec Ideal S1x8 .f32) (y : Fin 128) (q s : Fin 4) :
    inR z b (ix3 y q s) = inOf z b y q s := by
  refine Eq.trans ?_ (gatesR_at z b y s ⟨q.val, by omega⟩)
  unfold inR
  pointwise

theorem logsigR_at (x : FVec Ideal S128x4x4 .f32) (y : Fin 128) (q s : Fin 4) : logsigR x (ix3 y q s) = logsig (x (ix3 y q s)) := by
  rw [← logsig_neg]
  unfold logsigR zerosR
  pointwise
  simp [Ideal.hostAbsf_def]
  refine (?_ : max (-x (ix3 y q s)) 0 + Ideal.log1p (Ideal.exp (-max (-x (ix3 y q s)) (- -x (ix3 y q s)))) = _)
  rw [neg_neg]

theorem forgetR_at (z : FVec Ideal S33792x8704 .f32) (b : FVec Ideal S1x8 .f32) (y : Fin 128) (q s : Fin 4) :
    forgetR z b (ix3 y q s) = forgetOf z b y q s := by
  have e : forgetR z b (ix3 y q s) = logsigR (extractStridedSlice S128x4x4 ![0, 0, 4] (gatesR z b) slices_S128x4x8_S128x4x4_0_0_4) (ix3 y s q) := by
    unfold forgetR
    pointwise
  rw [e, logsigR_at]
  unfold forgetOf
  refine congrArg logsig (Eq.trans ?_ ((gatesR_at z b y s ⟨4 + q.val, by omega⟩).trans ?_))
  · pointwise
  · congr 2
    show 8448 + (4 + q.val) = 8452 + q.val
    omega

/-- A window of the running sum: four steps that end at the one asked for. -/
abbrev WR : Shape := ⟨3, ![1, 1, 4]⟩

theorem window_at : ∀ (n : Fin WR.numel) (a : Fin 3), ((WR.rowMajor.symm n) a).val = (![0, 0, n.val] : Fin 3 → ℕ) a := by
  decide +kernel

theorem four_sums (f : Fin 4 → EReal) (t : Fin 4) (g : Fin 4 → EReal)
    (hg : ∀ n : Fin 4, g n = if h : 3 ≤ t.val + n.val then f ⟨t.val + n.val - 3, by omega⟩ else 0) : 0 + g 0 + g 1 + g 2 + g 3 = run f t := by
  rw [hg 0, hg 1, hg 2, hg 3]
  unfold run
  rw [Fin.sum_univ_four]
  match t with
  | 0 => simp
  | 1 => simp
  | 2 => simp
  | 3 => simp

/-- One step of a window's sum. -/
def stepW (x : FVec Ideal S128x4x4 .f32) (j : S128x4x4.Idx) (v : EReal) (n : Fin WR.numel) : EReal :=
  let p : Fin 3 → ℕ := fun a => (j a).val * (![1, 1, 1] : Fin 3 → ℕ) a + ((WR.rowMajor.symm n) a).val
  if hin : ∀ a, (![0, 0, 3] : Fin 3 → ℕ) a ≤ p a ∧ p a - (![0, 0, 3] : Fin 3 → ℕ) a < S128x4x4.size a then x (fun a => ⟨p a - (![0, 0, 3] : Fin 3 → ℕ) a, (hin a).2⟩) else v

theorem fold_finRange (N : ℕ) (h : N = 4) (g : Fin N → EReal) (v : EReal) :
    (List.finRange N).foldl (fun r n => r + g n) v = v + g ⟨0, by omega⟩ + g ⟨1, by omega⟩ + g ⟨2, by omega⟩ + g ⟨3, by omega⟩ := by
  subst h
  rfl

theorem cumR_fold (x : FVec Ideal S128x4x4 .f32) (j : S128x4x4.Idx) :
    cumR x j = (List.finRange WR.numel).foldl (fun r n => r + stepW x j (Ideal.ofBits .f32 0x00000000#32) n) (Ideal.ofBits .f32 0x00000000#32) := by
  unfold cumR Host.reduceWindowAdd
  rw [Ideal.hostReduceWindowAdd_def]
  unfold Ideal.hostReduceWindowAdd Host.reduceWindow
  refine congrArg (fun g => List.foldl g (Ideal.ofBits .f32 0x00000000#32) (List.finRange WR.numel)) (funext fun r => funext fun n => congrArg (fun e => r + e) ?_)
  unfold stepW
  by_cases h : ∀ a : Fin 3, (![0, 0, 3] : Fin 3 → ℕ) a ≤ (j a).val * (![1, 1, 1] : Fin 3 → ℕ) a + ((WR.rowMajor.symm n) a).val ∧ (j a).val * (![1, 1, 1] : Fin 3 → ℕ) a + ((WR.rowMajor.symm n) a).val - (![0, 0, 3] : Fin 3 → ℕ) a < S128x4x4.size a
  · refine (dif_pos h).trans (Eq.symm ?_)
    exact dif_pos h
  · refine (dif_neg h).trans (Eq.symm ?_)
    exact dif_neg h

theorem numelW : WR.numel = 4 := by decide +kernel

theorem stepW_at (x : FVec Ideal S128x4x4 .f32) (y : Fin 128) (q t : Fin 4) (n : Fin WR.numel) (hn : n.val < 4) :
    stepW x (ix3 y q t) 0 n = if h : 3 ≤ t.val + n.val then x (ix3 y q ⟨t.val + n.val - 3, by omega⟩) else 0 := by
  have w0 : ((WR.rowMajor.symm n) 0).val = 0 := window_at n 0
  have w1 : ((WR.rowMajor.symm n) 1).val = 0 := window_at n 1
  have w2 : ((WR.rowMajor.symm n) 2).val = n.val := window_at n 2
  unfold stepW
  by_cases h : 3 ≤ t.val + n.val
  · rw [dif_pos h, dif_pos]
    · refine congrArg x (funext fun a => Fin.ext ?_)
      match a with
      | ⟨0, _⟩ => show y.val * 1 + ((WR.rowMajor.symm n) 0).val - 0 = y.val; omega
      | ⟨1, _⟩ => show q.val * 1 + ((WR.rowMajor.symm n) 1).val - 0 = q.val; omega
      | ⟨2, _⟩ => show t.val * 1 + ((WR.rowMajor.symm n) 2).val - 3 = t.val + n.val - 3; omega
    · intro a
      match a with
      | ⟨0, _⟩ => exact ⟨Nat.zero_le _, by show y.val * 1 + ((WR.rowMajor.symm n) 0).val - 0 < 128; omega⟩
      | ⟨1, _⟩ => exact ⟨Nat.zero_le _, by show q.val * 1 + ((WR.rowMajor.symm n) 1).val - 0 < 4; omega⟩
      | ⟨2, _⟩ => exact ⟨by show 3 ≤ t.val * 1 + ((WR.rowMajor.symm n) 2).val; omega, by show t.val * 1 + ((WR.rowMajor.symm n) 2).val - 3 < 4; omega⟩
  · rw [dif_neg h, dif_neg]
    intro k
    have k2 : 3 ≤ t.val * 1 + ((WR.rowMajor.symm n) 2).val := (k 2).1
    omega

theorem cumR_at (x : FVec Ideal S128x4x4 .f32) (y : Fin 128) (q t : Fin 4) : cumR x (ix3 y q t) = run (fun s => x (ix3 y q s)) t := by
  rw [cumR_fold, show Ideal.ofBits .f32 0x00000000#32 = (0 : EReal) from Ideal.ofBits_zero .f32, fold_finRange _ numelW]
  refine four_sums (fun s => x (ix3 y q s)) t (fun n => stepW x (ix3 y q t) 0 ⟨n.val, by rw [numelW]; exact n.isLt⟩) fun n => ?_
  exact stepW_at x y q t ⟨n.val, _⟩ n.isLt

theorem maskR_at (t s : Fin 4) : maskR (ix2 t s) = if s.val ≤ t.val then 1#1 else 0#1 := by
  unfold maskR
  pointwise
  revert t s
  decide

theorem dlogR_at (i u : FVec Ideal S128x4x4 .f32) (y : Fin 128) (q s : Fin 4) :
    dlogR i u (ix4 y q 3 s) = u (ix3 y q 3) - u (ix3 y q s) + i (ix3 y q s) := by
  unfold dlogR
  pointwise
  rw [maskR_at 3 s, if_pos (by show s.val ≤ 3; omega)]
  rfl

theorem reducesAxis3 : S128x4x4x4.Reduces [3] S128x4x4 := by decide

theorem lift3_at (y : Fin 128) (q t s : Fin 4) : reducesAxis3.lift (ix3 y q t) s = ix4 y q t s := by
  funext k
  refine Fin.ext ((Shape.Reduces.lift_val reducesAxis3 (ix3 y q t) s k).trans ?_)
  fin_cases k <;> rfl

theorem maxR_at (x : FVec Ideal S128x4x4x4 .f32) (y : Fin 128) (q t : Fin 4) :
    maxR x (ix3 y q t) = Finset.univ.fold max (⊥ : EReal) (fun s : Fin 4 => x (ix4 y q t s)) := by
  refine (Host.reduce_eq_fold_single _ x _ _ reducesAxis3 h_S_ _).trans ?_
  rw [show x ∘ reducesAxis3.lift (ix3 y q t) = fun s : Fin 4 => x (ix4 y q t s) from funext fun s => congrArg x (lift3_at y q t s)]
  rfl

theorem m0R_at (m0 : FVec Ideal S1x128x4 .f32) (y : Fin 128) (q : Fin 4) : m0R m0 (ix2 y q) = m0 (ix3 0 y q) := by
  unfold m0R
  pointwise

theorem initR_at (u : FVec Ideal S128x4x4 .f32) (m0 : FVec Ideal S1x128x4 .f32) (y : Fin 128) (q t : Fin 4) :
    initR u m0 (ix3 y q t) = u (ix3 y q t) + m0 (ix3 0 y q) := by
  unfold initR
  pointwise
  rw [m0R_at]

section
variable (i f : FVec Ideal S128x4x4 .f32) (m0 : FVec Ideal S1x128x4 .f32) (y : Fin 128) (q : Fin 4) (I F : Fin 4 → EReal) (hI : ∀ s, i (ix3 y q s) = I s) (hF : ∀ s, f (ix3 y q s) = F s)

include hI hF

theorem cum_of (t : Fin 4) : cumR f (ix3 y q t) = run F t := by
  rw [cumR_at, show (fun s => f (ix3 y q s)) = F from funext hF]

theorem topR_at : topR i (cumR f) m0 (ix2 y q) = top I F (m0 (ix3 0 y q)) := by
  unfold topR
  pointwise
  refine (congr (congrArg max (initR_at (cumR f) m0 y q 3)) (maxR_at (dlogR i (cumR f)) y q 3)).trans ?_
  unfold top
  rw [cum_of i f y q I F hI hF 3]
  congr 1
  refine congrArg (fun g => Finset.univ.fold max (⊥ : EReal) g) (funext fun s => ?_)
  rw [dlogR_at, cum_of i f y q I F hI hF, cum_of i f y q I F hI hF, hI]
  rfl

theorem weightR_at (s : Fin 4) : weightR i (cumR f) m0 (ix3 y q s) = weight I F (m0 (ix3 0 y q)) s := by
  unfold weightR
  pointwise
  rw [topR_at i f m0 y q I F hI hF, cum_of i f y q I F hI hF, cum_of i f y q I F hI hF, hI]
  rfl

theorem keepR_at : keepR i (cumR f) m0 (ix2 y q) = keep I F (m0 (ix3 0 y q)) := by
  unfold keepR
  pointwise
  rw [topR_at i f m0 y q I F hI hF, initR_at, cum_of i f y q I F hI hF]
  rfl

end

theorem keysW_at (k : FVec Ideal S128x4x4x128 .f32) (w : FVec Ideal S128x4x4 .f32) (y : Fin 128) (q s : Fin 4) (a : Fin 128) :
    keysW k w (ix4 y q s a) = k (ix4 y q s a) * w (ix3 y q s) := by
  unfold keysW
  pointwise

theorem reducesAxis2 : S128x4x4x128.Reduces [2] S128x4x128 := by decide

theorem lift2_at (y : Fin 128) (q s : Fin 4) (a : Fin 128) : reducesAxis2.lift (ix3 y q a) s = ix4 y q s a := by
  funext k
  refine Fin.ext ((Shape.Reduces.lift_val reducesAxis2 (ix3 y q a) s k).trans ?_)
  fin_cases k <;> rfl

theorem outN_at (kw : FVec Ideal S128x4x4x128 .f32) (d : FVec Ideal S128x4 .f32) (n : FVec Ideal S1x128x4x128 .f32) (y : Fin 128) (q : Fin 4) (a : Fin 128) :
    outN kw d n (ix3 y q a) = d (ix2 y q) * n (ix4 0 y q a) + ∑ s : Fin 4, kw (ix4 y q s a) := by
  have e : Host.reduceAdd kw (constant S_ .f32 0x00000000#32) reducesTo_S128x4x4x128_S128x4x128_d2 h_S_ (ix3 y q a) = ∑ s : Fin 4, kw (ix4 y q s a) := by
    refine (Ideal.hostReduceAdd_single _ reducesAxis2 kw _ _).trans ?_
    rw [show (constant (F := Ideal) S_ .f32 0x00000000#32) (Shape.Idx.first h_S_) = (0 : EReal) from Ideal.ofBits_zero .f32, zero_add]
    exact Finset.sum_congr rfl fun s _ => congrArg kw (lift2_at y q s a)
  rw [← e]
  unfold outN
  pointwise

theorem outC_at (kw : FVec Ideal S128x4x4x128 .f32) (v : FVec Ideal S128x4x4x256 .f32) (d : FVec Ideal S128x4 .f32) (c : FVec Ideal S1x128x4x128x256 .f32) (y : Fin 128) (q : Fin 4) (a : Fin 128) (l : Fin 256) :
    outC kw v d c (ix4 y q a l) = d (ix2 y q) * c (ix5 0 y q a l) + ∑ s : Fin 4, kw (ix4 y q s a) * v (ix4 y q s l) := by
  unfold outC
  pointwise

/-- The three results, cell by cell. -/
theorem cR_at (z : FVec Ideal S33792x8704 .f32) (b : FVec Ideal S1x8 .f32) (c : FVec Ideal S1x128x4x128x256 .f32) (m0 : FVec Ideal S1x128x4 .f32) (y : Fin 128) (q : Fin 4) (a : Fin 128) (l : Fin 256) :
    cR z b c m0 (ix4 y q a l) = cell (inOf z b y q) (forgetOf z b y q) (m0 (ix3 0 y q)) (fun s => nat2 z (32768 + 8 * y.val + s.val) (7680 + (128 * q.val + a.val))) (fun s => nat2 z (32768 + 8 * y.val + s.val) (5120 + (256 * q.val + l.val))) (c (ix5 0 y q a l)) := by
  unfold cR
  rw [outC_at, keepR_at _ _ m0 y q _ _ (inR_at z b y q) (forgetR_at z b y q)]
  unfold cell
  congr 1
  refine Finset.sum_congr rfl fun s _ => ?_
  rw [keysW_at, keysR_at, weightR_at _ _ m0 y q _ _ (inR_at z b y q) (forgetR_at z b y q), valuesR_at]

theorem nR_at (z : FVec Ideal S33792x8704 .f32) (b : FVec Ideal S1x8 .f32) (n : FVec Ideal S1x128x4x128 .f32) (m0 : FVec Ideal S1x128x4 .f32) (y : Fin 128) (q : Fin 4) (a : Fin 128) :
    nR z b n m0 (ix3 y q a) = normalised (inOf z b y q) (forgetOf z b y q) (m0 (ix3 0 y q)) (fun s => nat2 z (32768 + 8 * y.val + s.val) (7680 + (128 * q.val + a.val))) (n (ix4 0 y q a)) := by
  unfold nR
  rw [outN_at, keepR_at _ _ m0 y q _ _ (inR_at z b y q) (forgetR_at z b y q)]
  unfold normalised
  congr 1
  refine Finset.sum_congr rfl fun s _ => ?_
  rw [keysW_at, keysR_at, weightR_at _ _ m0 y q _ _ (inR_at z b y q) (forgetR_at z b y q)]

theorem mR_at (z : FVec Ideal S33792x8704 .f32) (b : FVec Ideal S1x8 .f32) (m0 : FVec Ideal S1x128x4 .f32) (t : Fin 16) (y : Fin 8) (q : Fin 4) (r : Fin 128) (hr : r.val = 8 * t.val + y.val) :
    mR z b m0 (ix3 t y q) = top (inOf z b r q) (forgetOf z b r q) (m0 (ix3 0 r q)) := by
  refine Eq.trans ?_ (topR_at _ _ m0 r q _ _ (inR_at z b r q) (forgetR_at z b r q))
  unfold mR outM
  pointwise
  congr 2
  all_goals (apply Fin.ext; simp; omega)

end Cert.Reference6Ideal.Block

end
-- ==== Proof.MlsLoad.lean ====
/- One head of one sequence of the sample's mLSTM, from its loads; and its stores. -/
module

public import proofs.«01_k».proof.Proof.MlsRows
public import proofs.«01_k».proof.Proof.MlsRef

@[expose] public section

set_option maxRecDepth 16384

noncomputable section

open Idealize.ShloMosaic Idealize.ShloMosaic.TcCoe Idealize.SL.Sem

namespace Cert.MlstmSample

open Cert.Kernel6Ideal Cert.Kernel6Ideal.Gen Cert.Kernel6Ideal.Block Cert.MlstmSpec
open Cert.AttnSpec (nat2 nat2_val)
open Cert.Reference6Ideal.Block (inOf forgetOf)

variable (m : (ℓ : Loc nD τ sig) → Buf (Elt Ideal) ℓ) (c : Dev nD)

abbrev ld4 (X : FVec Ideal S8x4x128x256 .f32) (g h : ℕ) (i : ∀ a, (![g, h, 0, 0] : Fin 4 → ℕ) a + (![1, 1, 128, 256] : Fin 4 → ℕ) a ≤ S8x4x128x256.size a) : FVec Ideal S1x1x128x256 .f32 := View.ld (Val := Elt Ideal) (e' := .f32) X (Rect.unit (s := S8x4x128x256) ![g, h, 0, 0] ![1, 1, 128, 256] i)
abbrev ld3 (X : FVec Ideal S8x4x128 .f32) (g h : ℕ) (i : ∀ a, (![g, h, 0] : Fin 3 → ℕ) a + (![1, 1, 128] : Fin 3 → ℕ) a ≤ S8x4x128.size a) : FVec Ideal S1x1x128 .f32 := View.ld (Val := Elt Ideal) (e' := .f32) X (Rect.unit (s := S8x4x128) ![g, h, 0] ![1, 1, 128] i)
abbrev ld1 (X : FVec Ideal S1x8x4 .f32) (g h : ℕ) (i : ∀ a, (![0, g, h] : Fin 3 → ℕ) a + (![1, 1, 1] : Fin 3 → ℕ) a ≤ S1x8x4.size a) : FVec Ideal S1x1x1 .f32 := View.ld (Val := Elt Ideal) (e' := .f32) X (Rect.unit (s := S1x8x4) ![0, g, h] ![1, 1, 1] i)
abbrev ldK (X : FVec Ideal S64x512 .f32) (o p : ℕ) (h : ∀ a, (![o, p] : Fin 2 → ℕ) a + (![8, 128] : Fin 2 → ℕ) a ≤ S64x512.size a) : FVec Ideal S8x128 .f32 := View.ld (Val := Elt Ideal) (e' := .f32) X (Rect.unit (s := S64x512) ![o, p] ![8, 128] h)
abbrev ldV (X : FVec Ideal S64x1024 .f32) (o p : ℕ) (h : ∀ a, (![o, p] : Fin 2 → ℕ) a + (![8, 256] : Fin 2 → ℕ) a ≤ S64x1024.size a) : FVec Ideal S8x256 .f32 := View.ld (Val := Elt Ideal) (e' := .f32) X (Rect.unit (s := S64x1024) ![o, p] ![8, 256] h)
abbrev ldG (X : FVec Ideal S64x128 .f32) (o : ℕ) (h : ∀ a, (![o, 0] : Fin 2 → ℕ) a + (![8, 128] : Fin 2 → ℕ) a ≤ S64x128.size a) : FVec Ideal S8x128 .f32 := View.ld (Val := Elt Ideal) (e' := .f32) X (Rect.unit (s := S64x128) ![o, 0] ![8, 128] h)

theorem rect4_at {A B C D : ℕ} (X : FVec Ideal ⟨4, ![A, B, C, D]⟩ .f32) (g h : ℕ) (i) (a : Fin C) (l : Fin D) (y : Fin A) (q : Fin B) (hy : y.val = g) (hq : q.val = h) :
    View.ld (Val := Elt Ideal) (e' := .f32) X (Rect.unit (s := ⟨4, ![A, B, C, D]⟩) ![g, h, 0, 0] ![1, 1, C, D] i) (ix4 0 0 a l) = X (ix4 y q a l) := by
  rw [View.ld_apply]
  refine congrArg X (funext fun b => Fin.ext ?_)
  match b with
  | ⟨0, _⟩ => show g + 1 * 0 = y.val; omega
  | ⟨1, _⟩ => show h + 1 * 0 = q.val; omega
  | ⟨2, _⟩ => show 0 + 1 * a.val = a.val; omega
  | ⟨3, _⟩ => show 0 + 1 * l.val = l.val; omega

theorem rect3_at {A B C : ℕ} (X : FVec Ideal ⟨3, ![A, B, C]⟩ .f32) (g h : ℕ) (i) (a : Fin C) (y : Fin A) (q : Fin B) (hy : y.val = g) (hq : q.val = h) :
    View.ld (Val := Elt Ideal) (e' := .f32) X (Rect.unit (s := ⟨3, ![A, B, C]⟩) ![g, h, 0] ![1, 1, C] i) (ix3 0 0 a) = X (ix3 y q a) := by
  rw [View.ld_apply]
  refine congrArg X (funext fun b => Fin.ext ?_)
  match b with
  | ⟨0, _⟩ => show g + 1 * 0 = y.val; omega
  | ⟨1, _⟩ => show h + 1 * 0 = q.val; omega
  | ⟨2, _⟩ => show 0 + 1 * a.val = a.val; omega

theorem rect1_at {A B : ℕ} (X : FVec Ideal ⟨3, ![1, A, B]⟩ .f32) (g h : ℕ) (i) (y : Fin A) (q : Fin B) (hy : y.val = g) (hq : q.val = h) :
    View.ld (Val := Elt Ideal) (e' := .f32) X (Rect.unit (s := ⟨3, ![1, A, B]⟩) ![0, g, h] ![1, 1, 1] i) (ix3 0 0 0) = X (ix3 0 y q) := by
  rw [View.ld_apply]
  refine congrArg X (funext fun b => Fin.ext ?_)
  match b with
  | ⟨0, _⟩ => rfl
  | ⟨1, _⟩ => show g + 1 * 0 = y.val; omega
  | ⟨2, _⟩ => show h + 1 * 0 = q.val; omega

theorem rect2_at {M N n k : ℕ} (X : FVec Ideal ⟨2, ![M, N]⟩ .f32) (o p : ℕ) (h) (a : Fin n) (l : Fin k) (r : Fin M) (q : Fin N) (hr : r.val = o + a.val) (hk : q.val = p + l.val) :
    View.ld (Val := Elt Ideal) (e' := .f32) X (Rect.unit (s := ⟨2, ![M, N]⟩) ![o, p] ![n, k] h) (ix2 a l) = X (ix2 r q) := by
  rw [View.ld_apply]
  refine congrArg X (funext fun b => Fin.ext ?_)
  match b with
  | ⟨0, _⟩ => show o + 1 * a.val = r.val; omega
  | ⟨1, _⟩ => show p + 1 * l.val = q.val; omega

theorem slice_col {R C : ℕ} (X : FVec Ideal ⟨2, ![R, C]⟩ .f32) (o : ℕ) (h : (⟨2, ![R, C]⟩ : Shape).Slices ![0, o] ⟨2, ![R, 1]⟩) (a : Fin R) (j : Fin C) (hj : j.val = o) :
    extractStridedSlice ⟨2, ![R, 1]⟩ ![0, o] X h (ix2 a 0) = X (ix2 a j) := by
  refine congrArg X (funext fun b => Fin.ext ?_)
  match b with
  | ⟨0, _⟩ => show 0 + a.val = a.val; omega
  | ⟨1, _⟩ => show o + 0 = j.val; omega

theorem slice_row {R C : ℕ} (X : FVec Ideal ⟨2, ![R, C]⟩ .f32) (o : ℕ) (h : (⟨2, ![R, C]⟩ : Shape).Slices ![o, 0] ⟨2, ![1, C]⟩) (a : Fin C) (j : Fin R) (hj : j.val = o) :
    extractStridedSlice ⟨2, ![1, C]⟩ ![o, 0] X h (ix2 0 a) = X (ix2 j a) := by
  refine congrArg X (funext fun b => Fin.ext ?_)
  match b with
  | ⟨0, _⟩ => show o + 0 = j.val; omega
  | ⟨1, _⟩ => show 0 + a.val = a.val; omega

section
variable (t : Fin cfg0.N) (y : Fin 8) (q : Fin 4) (b : Fin 128) (hb : b.val = 8 * t.val + y.val)

include hb

theorem rowG (o : ℕ) (ho : o = 8 * y.val) (i) (a : Fin 8) (l : Fin 128) : ldG (iblk m c 4 t) o i (ix2 a l) = nat2 (zAll m c) (32768 + 8 * b.val + a.val) (8448 + l.val) := by
  refine (rect2_at (M := 64) (N := 128) (iblk m c 4 t) o 0 i a l ⟨o + a.val, by omega⟩ l rfl (by omega)).trans ((blk4 m c t _ _).trans ?_)
  congr 1
  show 32768 + 64 * t.val + (o + a.val) = _
  omega

theorem rowK (o p : ℕ) (ho : o = 8 * y.val) (hp : p = 128 * q.val) (i) (a : Fin 8) (l : Fin 128) : ldK (iblk m c 1 t) o p i (ix2 a l) = nat2 (zAll m c) (32768 + 8 * b.val + a.val) (7680 + (128 * q.val + l.val)) := by
  refine (rect2_at (M := 64) (N := 512) (iblk m c 1 t) o p i a l ⟨o + a.val, by omega⟩ ⟨p + l.val, by omega⟩ rfl rfl).trans ((blk1 m c t _ _).trans ?_)
  congr 1
  · show 32768 + 64 * t.val + (o + a.val) = _
    omega
  · show 7680 + (p + l.val) = _
    omega

theorem rowV (o p : ℕ) (ho : o = 8 * y.val) (hp : p = 256 * q.val) (i) (a : Fin 8) (l : Fin 256) : ldV (X0_2 m c t) o p i (ix2 a l) = nat2 (zAll m c) (32768 + 8 * b.val + a.val) (5120 + (256 * q.val + l.val)) := by
  refine (rect2_at (M := 64) (N := 1024) (X0_2 m c t) o p i a l ⟨o + a.val, by omega⟩ ⟨p + l.val, by omega⟩ rfl rfl).trans ((blk2 m c t _ _).trans ?_)
  congr 1
  · show 32768 + 64 * t.val + (o + a.val) = _
    omega
  · show 5120 + (p + l.val) = _
    omega

theorem in_at (o : ℕ) (ho : o = 8 * y.val) (i) (s : Fin 4) (j : Fin 128) (hj : j.val = q.val) :
    gates (ldG (iblk m c 4 t) o i) (iblk m c 5 t) (ix2 ⟨s.val, by omega⟩ j) = inOf (zAll m c) (bias m c) b q s := by
  obtain ⟨j, h⟩ := j
  dsimp only at hj
  subst hj
  rw [gates_at, if_pos s.isLt, if_pos q.isLt, rowG m c t y b hb o ho, blk5]
  exact congrArg (fun e : EReal => nat2 (zAll m c) (32768 + 8 * b.val + s.val) (8448 + q.val) + e) (lane_at (bias m c) ⟨q.val, by omega⟩)

theorem forget_at (o : ℕ) (ho : o = 8 * y.val) (i) (s : Fin 4) (j : Fin 128) (hj : j.val = 4 + q.val) :
    gates (ldG (iblk m c 4 t) o i) (iblk m c 5 t) (ix2 ⟨s.val, by omega⟩ j) = forgetOf (zAll m c) (bias m c) b q s := by
  obtain ⟨j, h⟩ := j
  dsimp only at hj
  subst hj
  rw [gates_at, if_pos s.isLt, if_neg (by show ¬ 4 + q.val < 4; omega), rowG m c t y b hb o ho, blk5]
  refine congrArg logsig (congr (congrArg (fun u v : EReal => u + v) ?_) (lane_at (bias m c) ⟨4 + q.val, by omega⟩))
  congr 1
  show 8448 + (4 + q.val) = 8452 + q.val
  omega

omit hb in
theorem in_rest (z : FVec Ideal S8x128 .f32) (v : FVec Ideal S1x128 .f32) (s : Fin 8) (hs : 4 ≤ s.val) (j : Fin 128) (hj : j.val = q.val) : gates z v (ix2 s j) = ⊥ := by
  rw [gates_at, if_neg (by omega), if_pos (by omega)]

omit hb in
theorem forget_rest (z : FVec Ideal S8x128 .f32) (v : FVec Ideal S1x128 .f32) (s : Fin 8) (hs : 4 ≤ s.val) (j : Fin 128) (hj : j.val = 4 + q.val) : gates z v (ix2 s j) = 0 := by
  rw [gates_at, if_neg (by omega), if_neg (by omega)]

/-- The gates of head `q`. -/
theorem heads (o h h' : ℕ) (ho : o = 8 * y.val) (hq : q.val = h) (hh : h' = 4 + h) (i s1 s2 s3 s4) :
    Gates (extractStridedSlice S8x1 ![0, h] (gates (ldG (iblk m c 4 t) o i) (iblk m c 5 t)) s1) (extractStridedSlice S1x8 ![h, 0] (gatesT (ldG (iblk m c 4 t) o i) (iblk m c 5 t)) s2) (extractStridedSlice S1x8 ![h', 0] (gatesT (ldG (iblk m c 4 t) o i) (iblk m c 5 t)) s3) (extractStridedSlice S8x1 ![0, h'] (gates (ldG (iblk m c 4 t) o i) (iblk m c 5 t)) s4)
      (inOf (zAll m c) (bias m c) b q) (forgetOf (zAll m c) (bias m c) b q) where
  ic1 := fun s => (slice_col _ h s1 _ ⟨h, by omega⟩ rfl).trans (in_at m c t y q b hb o ho i s _ hq.symm)
  ic2 := fun s hs => (slice_col _ h s1 _ ⟨h, by omega⟩ rfl).trans (in_rest q _ _ s hs _ hq.symm)
  ir1 := fun s => (slice_row _ h s2 _ ⟨h, by omega⟩ rfl).trans ((gatesT_at _ _ _ _).trans (in_at m c t y q b hb o ho i s _ hq.symm))
  ir2 := fun s hs => (slice_row _ h s2 _ ⟨h, by omega⟩ rfl).trans ((gatesT_at _ _ _ _).trans (in_rest q _ _ s hs _ hq.symm))
  fc1 := fun s => (slice_col _ h' s4 _ ⟨h', by omega⟩ rfl).trans (forget_at m c t y q b hb o ho i s _ (by show h' = _; omega))
  fc2 := fun s hs => (slice_col _ h' s4 _ ⟨h', by omega⟩ rfl).trans (forget_rest q _ _ s hs _ (by show h' = _; omega))
  fr1 := fun s => (slice_row _ h' s3 _ ⟨h', by omega⟩ rfl).trans ((gatesT_at _ _ _ _).trans (forget_at m c t y q b hb o ho i s _ (by show h' = _; omega)))
  fr2 := fun s hs => (slice_row _ h' s3 _ ⟨h', by omega⟩ rfl).trans ((gatesT_at _ _ _ _).trans (forget_rest q _ _ s hs _ (by show h' = _; omega)))

end

/-- The new states of one head of one sequence, in the arrays' terms. -/
def cellOf (b : Fin 128) (q : Fin 4) (a : Fin 128) (l : Fin 256) : EReal :=
  cell (inOf (zAll m c) (bias m c) b q) (forgetOf (zAll m c) (bias m c) b q) (oldM m c (ix3 0 b q)) (fun s => nat2 (zAll m c) (32768 + 8 * b.val + s.val) (7680 + (128 * q.val + a.val))) (fun s => nat2 (zAll m c) (32768 + 8 * b.val + s.val) (5120 + (256 * q.val + l.val))) (oldC m c (ix5 0 b q a l))

def normOf (b : Fin 128) (q : Fin 4) (a : Fin 128) : EReal :=
  normalised (inOf (zAll m c) (bias m c) b q) (forgetOf (zAll m c) (bias m c) b q) (oldM m c (ix3 0 b q)) (fun s => nat2 (zAll m c) (32768 + 8 * b.val + s.val) (7680 + (128 * q.val + a.val))) (oldN m c (ix4 0 b q a))

def topOf (b : Fin 128) (q : Fin 4) : EReal :=
  top (inOf (zAll m c) (bias m c) b q) (forgetOf (zAll m c) (bias m c) b q) (oldM m c (ix3 0 b q))

section
variable (t : Fin cfg0.N) (y : Fin 8) (q : Fin 4) (b : Fin 128) (hb : b.val = 8 * t.val + y.val)

include hb

theorem m0_at (g h : ℕ) (hy : y.val = g) (hq : q.val = h) (i) : ld1 (iblk m c 9 t) g h i (ix3 0 0 0) = oldM m c (ix3 0 b q) :=
  (rect1_at (A := 8) (B := 4) (iblk m c 9 t) g h i y q hy hq).trans (blk9 m c t y q b hb)

theorem headC (g h o h' p r : ℕ) (hy : y.val = g) (hq : q.val = h) (ho : o = 8 * g) (hh : h' = 4 + h) (hp : p = 128 * h) (hr : r = 256 * h) (i s1 s2 s3 s4 i1 iK iV i4) (a : Fin 128) (l : Fin 256) :
    newC (extractStridedSlice S8x1 ![0, h] (gates (ldG (iblk m c 4 t) o i) (iblk m c 5 t)) s1) (extractStridedSlice S1x8 ![h, 0] (gatesT (ldG (iblk m c 4 t) o i) (iblk m c 5 t)) s2) (extractStridedSlice S1x8 ![h', 0] (gatesT (ldG (iblk m c 4 t) o i) (iblk m c 5 t)) s3) (extractStridedSlice S8x1 ![0, h'] (gates (ldG (iblk m c 4 t) o i) (iblk m c 5 t)) s4)
      (ld1 (iblk m c 9 t) g h i1) (ldK (iblk m c 1 t) o p iK) (ldV (X0_2 m c t) o r iV) (ld4 (iblk m c 7 t) g h i4) (ix4 0 0 a l) = cellOf m c b q a l := by
  refine (newC_at (heads m c t y q b hb o h h' (by omega) hq hh i s1 s2 s3 s4) _ _ _ _ a l).trans ?_
  rw [m0_at m c t y q b hb g h hy hq, show ld4 (iblk m c 7 t) g h i4 (ix4 0 0 a l) = oldC m c (ix5 0 b q a l) from (rect4_at (A := 8) (B := 4) (iblk m c 7 t) g h i4 a l y q hy hq).trans (blk7 m c t y q a l b hb)]
  unfold cellOf
  congr 1
  · exact funext fun s => rowK m c t y q b hb o p (by omega) (by omega) iK ⟨s.val, by omega⟩ a
  · exact funext fun s => rowV m c t y q b hb o r (by omega) (by omega) iV ⟨s.val, by omega⟩ l

theorem headN (g h o h' p : ℕ) (hy : y.val = g) (hq : q.val = h) (ho : o = 8 * g) (hh : h' = 4 + h) (hp : p = 128 * h) (i s1 s2 s3 s4 i1 iK i3) (a : Fin 128) :
    newN (extractStridedSlice S8x1 ![0, h] (gates (ldG (iblk m c 4 t) o i) (iblk m c 5 t)) s1) (extractStridedSlice S1x8 ![h, 0] (gatesT (ldG (iblk m c 4 t) o i) (iblk m c 5 t)) s2) (extractStridedSlice S1x8 ![h', 0] (gatesT (ldG (iblk m c 4 t) o i) (iblk m c 5 t)) s3) (extractStridedSlice S8x1 ![0, h'] (gates (ldG (iblk m c 4 t) o i) (iblk m c 5 t)) s4)
      (ld1 (iblk m c 9 t) g h i1) (ldK (iblk m c 1 t) o p iK) (ld3 (iblk m c 8 t) g h i3) (ix3 0 0 a) = normOf m c b q a := by
  refine (newN_at (heads m c t y q b hb o h h' (by omega) hq hh i s1 s2 s3 s4) _ _ _ a).trans ?_
  rw [m0_at m c t y q b hb g h hy hq, show ld3 (iblk m c 8 t) g h i3 (ix3 0 0 a) = oldN m c (ix4 0 b q a) from (rect3_at (A := 8) (B := 4) (iblk m c 8 t) g h i3 a y q hy hq).trans (blk8 m c t y q a b hb)]
  unfold normOf
  congr 1
  exact funext fun s => rowK m c t y q b hb o p (by omega) (by omega) iK ⟨s.val, by omega⟩ a

theorem headM (g h o h' : ℕ) (hy : y.val = g) (hq : q.val = h) (ho : o = 8 * g) (hh : h' = 4 + h) (i) (s1 : S8x128.Slices ![0, h] S8x1) (s2 s3 s4 i1) :
    newM (extractStridedSlice S1x8 ![h, 0] (gatesT (ldG (iblk m c 4 t) o i) (iblk m c 5 t)) s2) (extractStridedSlice S1x8 ![h', 0] (gatesT (ldG (iblk m c 4 t) o i) (iblk m c 5 t)) s3) (extractStridedSlice S8x1 ![0, h'] (gates (ldG (iblk m c 4 t) o i) (iblk m c 5 t)) s4)
      (ld1 (iblk m c 9 t) g h i1) (ix3 0 0 0) = topOf m c b q := by
  refine (newM_at (heads m c t y q b hb o h h' (by omega) hq hh i s1 s2 s3 s4) _).trans ?_
  rw [m0_at m c t y q b hb g h hy hq]
  rfl

end

/-- A cell of a state under its head's store, or under one of the stores before it. -/
theorem c_store {A B C D : ℕ} (n g h : ℕ) (i) (w w' : FVec Ideal ⟨4, ![1, 1, C, D]⟩ .f32) (L : List (View.Piece (Elt Ideal) (⟨4, ![A, B, C, D]⟩ : Shape) .f32)) (y : Fin A) (q : Fin B) (a : Fin C) (l : Fin D) (v : EReal) (hn : n = 4 * g + h) (hh : h < 4) (hq : q.val < 4) (hlt : 4 * y.val + q.val < n + 1) (hw : w = w')
    (h1 : y.val = g → q.val = h → w' (ix4 0 0 a l) = v)
    (h2 : 4 * y.val + q.val < n → View.canon L (ix4 y q a l) = v) :
    View.canon (Val := Elt Ideal) (e := .f32) (⟨Rect.unit (s := ⟨4, ![A, B, C, D]⟩) ![g, h, 0, 0] ![1, 1, C, D] i, w⟩ :: L) (ix4 y q a l) = v := by
  subst hw
  by_cases hc : y.val = g ∧ q.val = h
  · refine Eq.trans ?_ (h1 hc.1 hc.2)
    refine Eq.trans (congrArg _ (funext fun k => ?_)) (View.canon_cons_emb (Rect.unit (s := ⟨4, ![A, B, C, D]⟩) ![g, h, 0, 0] ![1, 1, C, D] i) w L (ix4 0 0 a l : (⟨4, ![1, 1, C, D]⟩ : Shape).Idx))
    match k with
    | ⟨0, _⟩ => exact Fin.ext (by show y.val = g + 1 * 0; omega)
    | ⟨1, _⟩ => exact Fin.ext (by show q.val = h + 1 * 0; omega)
    | ⟨2, _⟩ => exact Fin.ext (by show a.val = 0 + 1 * a.val; omega)
    | ⟨3, _⟩ => exact Fin.ext (by show l.val = 0 + 1 * l.val; omega)
  · refine (View.canon_cons_of_not_mem _ L fun hm => ?_).trans (h2 (by omega))
    have ha : g ≤ y.val := (Rect.mem_set_unit (inb := i).1 hm 0).1
    have hb : y.val < g + 1 := (Rect.mem_set_unit (inb := i).1 hm 0).2
    have hc : h ≤ q.val := (Rect.mem_set_unit (inb := i).1 hm 1).1
    have hd : q.val < h + 1 := (Rect.mem_set_unit (inb := i).1 hm 1).2
    omega

theorem n_store {A B C : ℕ} (n g h : ℕ) (i) (w w' : FVec Ideal ⟨3, ![1, 1, C]⟩ .f32) (L : List (View.Piece (Elt Ideal) (⟨3, ![A, B, C]⟩ : Shape) .f32)) (y : Fin A) (q : Fin B) (a : Fin C) (v : EReal) (hn : n = 4 * g + h) (hh : h < 4) (hq : q.val < 4) (hlt : 4 * y.val + q.val < n + 1) (hw : w = w')
    (h1 : y.val = g → q.val = h → w' (ix3 0 0 a) = v)
    (h2 : 4 * y.val + q.val < n → View.canon L (ix3 y q a) = v) :
    View.canon (Val := Elt Ideal) (e := .f32) (⟨Rect.unit (s := ⟨3, ![A, B, C]⟩) ![g, h, 0] ![1, 1, C] i, w⟩ :: L) (ix3 y q a) = v := by
  subst hw
  by_cases hc : y.val = g ∧ q.val = h
  · refine Eq.trans ?_ (h1 hc.1 hc.2)
    refine Eq.trans (congrArg _ (funext fun k => ?_)) (View.canon_cons_emb (Rect.unit (s := ⟨3, ![A, B, C]⟩) ![g, h, 0] ![1, 1, C] i) w L (ix3 0 0 a : (⟨3, ![1, 1, C]⟩ : Shape).Idx))
    match k with
    | ⟨0, _⟩ => exact Fin.ext (by show y.val = g + 1 * 0; omega)
    | ⟨1, _⟩ => exact Fin.ext (by show q.val = h + 1 * 0; omega)
    | ⟨2, _⟩ => exact Fin.ext (by show a.val = 0 + 1 * a.val; omega)
  · refine (View.canon_cons_of_not_mem _ L fun hm => ?_).trans (h2 (by omega))
    have ha : g ≤ y.val := (Rect.mem_set_unit (inb := i).1 hm 0).1
    have hb : y.val < g + 1 := (Rect.mem_set_unit (inb := i).1 hm 0).2
    have hc : h ≤ q.val := (Rect.mem_set_unit (inb := i).1 hm 1).1
    have hd : q.val < h + 1 := (Rect.mem_set_unit (inb := i).1 hm 1).2
    omega

theorem m_store {A B : ℕ} (n g h : ℕ) (i) (w w' : FVec Ideal ⟨3, ![1, 1, 1]⟩ .f32) (L : List (View.Piece (Elt Ideal) (⟨3, ![1, A, B]⟩ : Shape) .f32)) (y : Fin A) (q : Fin B) (v : EReal) (hn : n = 4 * g + h) (hh : h < 4) (hq : q.val < 4) (hlt : 4 * y.val + q.val < n + 1) (hw : w = w')
    (h1 : y.val = g → q.val = h → w' (ix3 0 0 0) = v)
    (h2 : 4 * y.val + q.val < n → View.canon L (ix3 0 y q) = v) :
    View.canon (Val := Elt Ideal) (e := .f32) (⟨Rect.unit (s := ⟨3, ![1, A, B]⟩) ![0, g, h] ![1, 1, 1] i, w⟩ :: L) (ix3 0 y q) = v := by
  subst hw
  by_cases hc : y.val = g ∧ q.val = h
  · refine Eq.trans ?_ (h1 hc.1 hc.2)
    refine Eq.trans (congrArg _ (funext fun k => ?_)) (View.canon_cons_emb (Rect.unit (s := ⟨3, ![1, A, B]⟩) ![0, g, h] ![1, 1, 1] i) w L (ix3 0 0 0 : (⟨3, ![1, 1, 1]⟩ : Shape).Idx))
    match k with
    | ⟨0, _⟩ => exact Fin.ext rfl
    | ⟨1, _⟩ => exact Fin.ext (by show y.val = g + 1 * 0; omega)
    | ⟨2, _⟩ => exact Fin.ext (by show q.val = h + 1 * 0; omega)
  · refine (View.canon_cons_of_not_mem _ L fun hm => ?_).trans (h2 (by omega))
    have ha : g ≤ y.val := (Rect.mem_set_unit (inb := i).1 hm 1).1
    have hb : y.val < g + 1 := (Rect.mem_set_unit (inb := i).1 hm 1).2
    have hc : h ≤ q.val := (Rect.mem_set_unit (inb := i).1 hm 2).1
    have hd : q.val < h + 1 := (Rect.mem_set_unit (inb := i).1 hm 2).2
    omega

end Cert.MlstmSample

end
-- ==== Proof.MlsOutC.lean ====
/- The new matrices of the sample. -/
module

public import proofs.«01_k».proof.Proof.MlsLoad

@[expose] public section

set_option maxRecDepth 16384

noncomputable section

open Idealize.ShloMosaic Idealize.ShloMosaic.TcCoe Idealize.SL.Sem

namespace Cert.MlstmSample

open Cert.Kernel6Ideal Cert.Kernel6Ideal.Gen Cert.Kernel6Ideal.Block Cert.MlstmSpec

variable (m : (ℓ : Loc nD τ sig) → Buf (Elt Ideal) ℓ) (c : Dev nD)

theorem ix4_eta {A B C D : ℕ} (y : (⟨4, ![A, B, C, D]⟩ : Shape).Idx) : y = ix4 (⟨(y 0).val, (y 0).isLt⟩ : Fin A) (⟨(y 1).val, (y 1).isLt⟩ : Fin B) (⟨(y 2).val, (y 2).isLt⟩ : Fin C) (⟨(y 3).val, (y 3).isLt⟩ : Fin D) := by
  funext k
  match k with
  | ⟨0, _⟩ => rfl
  | ⟨1, _⟩ => rfl
  | ⟨2, _⟩ => rfl
  | ⟨3, _⟩ => rfl

set_option maxHeartbeats 4000000 in
/-- What a point leaves of them. -/
theorem blockC (t : Fin cfg0.N) (y : Fin 8) (q : Fin 4) (a : Fin 128) (l : Fin 256) (b : Fin 128) (hb : b.val = 8 * t.val + y.val) : (outsAt0 m c t).2.1 (ix4 y q a l) = cellOf m c b q a l := by
  unfold outsAt0
  dsimp only
  frame_out
  refine c_store 31 7 3 _ _ (newC (extractStridedSlice S8x1 ![0, 3] (gates (ldG (iblk m c 4 t) 56 inb_S64x128_S8x128_56_0) (iblk m c 5 t)) slices_S8x128_o0_3_S8x1) (extractStridedSlice S1x8 ![3, 0] (gatesT (ldG (iblk m c 4 t) 56 inb_S64x128_S8x128_56_0) (iblk m c 5 t)) slices_S128x8_o3_0_S1x8) (extractStridedSlice S1x8 ![7, 0] (gatesT (ldG (iblk m c 4 t) 56 inb_S64x128_S8x128_56_0) (iblk m c 5 t)) slices_S128x8_o7_0_S1x8) (extractStridedSlice S8x1 ![0, 7] (gates (ldG (iblk m c 4 t) 56 inb_S64x128_S8x128_56_0) (iblk m c 5 t)) slices_S8x128_o0_7_S8x1) (ld1 (iblk m c 9 t) 7 3 inb_S1x8x4_S1x1x1_0_7_3) (ldK (iblk m c 1 t) 56 384 inb_S64x512_S8x128_56_384) (ldV (X0_2 m c t) 56 768 inb_S64x1024_S8x256_56_768) (ld4 (iblk m c 7 t) 7 3 inb_S8x4x128x256_S1x1x128x256_7_3_0_0)) _ y q a l _ rfl (by decide) q.isLt (by omega) ?_ ?_ ?_
  · rfl
  · intro e1 e2
    exact headC m c t y q b hb 7 3 56 7 384 768 e1 e2 rfl rfl rfl rfl _ _ _ _ _ _ _ _ _ a l
  intro h30
  refine c_store 30 7 2 _ _ (newC (extractStridedSlice S8x1 ![0, 2] (gates (ldG (iblk m c 4 t) 56 inb_S64x128_S8x128_56_0) (iblk m c 5 t)) slices_S8x128_o0_2_S8x1) (extractStridedSlice S1x8 ![2, 0] (gatesT (ldG (iblk m c 4 t) 56 inb_S64x128_S8x128_56_0) (iblk m c 5 t)) slices_S128x8_o2_0_S1x8) (extractStridedSlice S1x8 ![6, 0] (gatesT (ldG (iblk m c 4 t) 56 inb_S64x128_S8x128_56_0) (iblk m c 5 t)) slices_S128x8_o6_0_S1x8) (extractStridedSlice S8x1 ![0, 6] (gates (ldG (iblk m c 4 t) 56 inb_S64x128_S8x128_56_0) (iblk m c 5 t)) slices_S8x128_o0_6_S8x1) (ld1 (iblk m c 9 t) 7 2 inb_S1x8x4_S1x1x1_0_7_2) (ldK (iblk m c 1 t) 56 256 inb_S64x512_S8x128_56_256) (ldV (X0_2 m c t) 56 512 inb_S64x1024_S8x256_56_512) (ld4 (iblk m c 7 t) 7 2 inb_S8x4x128x256_S1x1x128x256_7_2_0_0)) _ y q a l _ rfl (by decide) q.isLt h30 ?_ ?_ ?_
  · rfl
  · intro e1 e2
    exact headC m c t y q b hb 7 2 56 6 256 512 e1 e2 rfl rfl rfl rfl _ _ _ _ _ _ _ _ _ a l
  intro h29
  refine c_store 29 7 1 _ _ (newC (extractStridedSlice S8x1 ![0, 1] (gates (ldG (iblk m c 4 t) 56 inb_S64x128_S8x128_56_0) (iblk m c 5 t)) slices_S8x128_o0_1_S8x1) (extractStridedSlice S1x8 ![1, 0] (gatesT (ldG (iblk m c 4 t) 56 inb_S64x128_S8x128_56_0) (iblk m c 5 t)) slices_S128x8_o1_0_S1x8) (extractStridedSlice S1x8 ![5, 0] (gatesT (ldG (iblk m c 4 t) 56 inb_S64x128_S8x128_56_0) (iblk m c 5 t)) slices_S128x8_o5_0_S1x8) (extractStridedSlice S8x1 ![0, 5] (gates (ldG (iblk m c 4 t) 56 inb_S64x128_S8x128_56_0) (iblk m c 5 t)) slices_S8x128_o0_5_S8x1) (ld1 (iblk m c 9 t) 7 1 inb_S1x8x4_S1x1x1_0_7_1) (ldK (iblk m c 1 t) 56 128 inb_S64x512_S8x128_56_128) (ldV (X0_2 m c t) 56 256 inb_S64x1024_S8x256_56_256) (ld4 (iblk m c 7 t) 7 1 inb_S8x4x128x256_S1x1x128x256_7_1_0_0)) _ y q a l _ rfl (by decide) q.isLt h29 ?_ ?_ ?_
  · rfl
  · intro e1 e2
    exact headC m c t y q b hb 7 1 56 5 128 256 e1 e2 rfl rfl rfl rfl _ _ _ _ _ _ _ _ _ a l
  intro h28
  refine c_store 28 7 0 _ _ (newC (extractStridedSlice S8x1 ![0, 0] (gates (ldG (iblk m c 4 t) 56 inb_S64x128_S8x128_56_0) (iblk m c 5 t)) slices_S8x128_o0_0_S8x1) (extractStridedSlice S1x8 ![0, 0] (gatesT (ldG (iblk m c 4 t) 56 inb_S64x128_S8x128_56_0) (iblk m c 5 t)) slices_S128x8_o0_0_S1x8) (extractStridedSlice S1x8 ![4, 0] (gatesT (ldG (iblk m c 4 t) 56 inb_S64x128_S8x128_56_0) (iblk m c 5 t)) slices_S128x8_o4_0_S1x8) (extractStridedSlice S8x1 ![0, 4] (gates (ldG (iblk m c 4 t) 56 inb_S64x128_S8x128_56_0) (iblk m c 5 t)) slices_S8x128_o0_4_S8x1) (ld1 (iblk m c 9 t) 7 0 inb_S1x8x4_S1x1x1_0_7_0) (ldK (iblk m c 1 t) 56 0 inb_S64x512_S8x128_56_0) (ldV (X0_2 m c t) 56 0 inb_S64x1024_S8x256_56_0) (ld4 (iblk m c 7 t) 7 0 inb_S8x4x128x256_S1x1x128x256_7_0_0_0)) _ y q a l _ rfl (by decide) q.isLt h28 ?_ ?_ ?_
  · rfl
  · intro e1 e2
    exact headC m c t y q b hb 7 0 56 4 0 0 e1 e2 rfl rfl rfl rfl _ _ _ _ _ _ _ _ _ a l
  intro h27
  refine c_store 27 6 3 _ _ (newC (extractStridedSlice S8x1 ![0, 3] (gates (ldG (iblk m c 4 t) 48 inb_S64x128_S8x128_48_0) (iblk m c 5 t)) slices_S8x128_o0_3_S8x1) (extractStridedSlice S1x8 ![3, 0] (gatesT (ldG (iblk m c 4 t) 48 inb_S64x128_S8x128_48_0) (iblk m c 5 t)) slices_S128x8_o3_0_S1x8) (extractStridedSlice S1x8 ![7, 0] (gatesT (ldG (iblk m c 4 t) 48 inb_S64x128_S8x128_48_0) (iblk m c 5 t)) slices_S128x8_o7_0_S1x8) (extractStridedSlice S8x1 ![0, 7] (gates (ldG (iblk m c 4 t) 48 inb_S64x128_S8x128_48_0) (iblk m c 5 t)) slices_S8x128_o0_7_S8x1) (ld1 (iblk m c 9 t) 6 3 inb_S1x8x4_S1x1x1_0_6_3) (ldK (iblk m c 1 t) 48 384 inb_S64x512_S8x128_48_384) (ldV (X0_2 m c t) 48 768 inb_S64x1024_S8x256_48_768) (ld4 (iblk m c 7 t) 6 3 inb_S8x4x128x256_S1x1x128x256_6_3_0_0)) _ y q a l _ rfl (by decide) q.isLt h27 ?_ ?_ ?_
  · rfl
  · intro e1 e2
    exact headC m c t y q b hb 6 3 48 7 384 768 e1 e2 rfl rfl rfl rfl _ _ _ _ _ _ _ _ _ a l
  intro h26
  refine c_store 26 6 2 _ _ (newC (extractStridedSlice S8x1 ![0, 2] (gates (ldG (iblk m c 4 t) 48 inb_S64x128_S8x128_48_0) (iblk m c 5 t)) slices_S8x128_o0_2_S8x1) (extractStridedSlice S1x8 ![2, 0] (gatesT (ldG (iblk m c 4 t) 48 inb_S64x128_S8x128_48_0) (iblk m c 5 t)) slices_S128x8_o2_0_S1x8) (extractStridedSlice S1x8 ![6, 0] (gatesT (ldG (iblk m c 4 t) 48 inb_S64x128_S8x128_48_0) (iblk m c 5 t)) slices_S128x8_o6_0_S1x8) (extractStridedSlice S8x1 ![0, 6] (gates (ldG (iblk m c 4 t) 48 inb_S64x128_S8x128_48_0) (iblk m c 5 t)) slices_S8x128_o0_6_S8x1) (ld1 (iblk m c 9 t) 6 2 inb_S1x8x4_S1x1x1_0_6_2) (ldK (iblk m c 1 t) 48 256 inb_S64x512_S8x128_48_256) (ldV (X0_2 m c t) 48 512 inb_S64x1024_S8x256_48_512) (ld4 (iblk m c 7 t) 6 2 inb_S8x4x128x256_S1x1x128x256_6_2_0_0)) _ y q a l _ rfl (by decide) q.isLt h26 ?_ ?_ ?_
  · rfl
  · intro e1 e2
    exact headC m c t y q b hb 6 2 48 6 256 512 e1 e2 rfl rfl rfl rfl _ _ _ _ _ _ _ _ _ a l
  intro h25
  refine c_store 25 6 1 _ _ (newC (extractStridedSlice S8x1 ![0, 1] (gates (ldG (iblk m c 4 t) 48 inb_S64x128_S8x128_48_0) (iblk m c 5 t)) slices_S8x128_o0_1_S8x1) (extractStridedSlice S1x8 ![1, 0] (gatesT (ldG (iblk m c 4 t) 48 inb_S64x128_S8x128_48_0) (iblk m c 5 t)) slices_S128x8_o1_0_S1x8) (extractStridedSlice S1x8 ![5, 0] (gatesT (ldG (iblk m c 4 t) 48 inb_S64x128_S8x128_48_0) (iblk m c 5 t)) slices_S128x8_o5_0_S1x8) (extractStridedSlice S8x1 ![0, 5] (gates (ldG (iblk m c 4 t) 48 inb_S64x128_S8x128_48_0) (iblk m c 5 t)) slices_S8x128_o0_5_S8x1) (ld1 (iblk m c 9 t) 6 1 inb_S1x8x4_S1x1x1_0_6_1) (ldK (iblk m c 1 t) 48 128 inb_S64x512_S8x128_48_128) (ldV (X0_2 m c t) 48 256 inb_S64x1024_S8x256_48_256) (ld4 (iblk m c 7 t) 6 1 inb_S8x4x128x256_S1x1x128x256_6_1_0_0)) _ y q a l _ rfl (by decide) q.isLt h25 ?_ ?_ ?_
  · rfl
  · intro e1 e2
    exact headC m c t y q b hb 6 1 48 5 128 256 e1 e2 rfl rfl rfl rfl _ _ _ _ _ _ _ _ _ a l
  intro h24
  refine c_store 24 6 0 _ _ (newC (extractStridedSlice S8x1 ![0, 0] (gates (ldG (iblk m c 4 t) 48 inb_S64x128_S8x128_48_0) (iblk m c 5 t)) slices_S8x128_o0_0_S8x1) (extractStridedSlice S1x8 ![0, 0] (gatesT (ldG (iblk m c 4 t) 48 inb_S64x128_S8x128_48_0) (iblk m c 5 t)) slices_S128x8_o0_0_S1x8) (extractStridedSlice S1x8 ![4, 0] (gatesT (ldG (iblk m c 4 t) 48 inb_S64x128_S8x128_48_0) (iblk m c 5 t)) slices_S128x8_o4_0_S1x8) (extractStridedSlice S8x1 ![0, 4] (gates (ldG (iblk m c 4 t) 48 inb_S64x128_S8x128_48_0) (iblk m c 5 t)) slices_S8x128_o0_4_S8x1) (ld1 (iblk m c 9 t) 6 0 inb_S1x8x4_S1x1x1_0_6_0) (ldK (iblk m c 1 t) 48 0 inb_S64x512_S8x128_48_0) (ldV (X0_2 m c t) 48 0 inb_S64x1024_S8x256_48_0) (ld4 (iblk m c 7 t) 6 0 inb_S8x4x128x256_S1x1x128x256_6_0_0_0)) _ y q a l _ rfl (by decide) q.isLt h24 ?_ ?_ ?_
  · rfl
  · intro e1 e2
    exact headC m c t y q b hb 6 0 48 4 0 0 e1 e2 rfl rfl rfl rfl _ _ _ _ _ _ _ _ _ a l
  intro h23
  refine c_store 23 5 3 _ _ (newC (extractStridedSlice S8x1 ![0, 3] (gates (ldG (iblk m c 4 t) 40 inb_S64x128_S8x128_40_0) (iblk m c 5 t)) slices_S8x128_o0_3_S8x1) (extractStridedSlice S1x8 ![3, 0] (gatesT (ldG (iblk m c 4 t) 40 inb_S64x128_S8x128_40_0) (iblk m c 5 t)) slices_S128x8_o3_0_S1x8) (extractStridedSlice S1x8 ![7, 0] (gatesT (ldG (iblk m c 4 t) 40 inb_S64x128_S8x128_40_0) (iblk m c 5 t)) slices_S128x8_o7_0_S1x8) (extractStridedSlice S8x1 ![0, 7] (gates (ldG (iblk m c 4 t) 40 inb_S64x128_S8x128_40_0) (iblk m c 5 t)) slices_S8x128_o0_7_S8x1) (ld1 (iblk m c 9 t) 5 3 inb_S1x8x4_S1x1x1_0_5_3) (ldK (iblk m c 1 t) 40 384 inb_S64x512_S8x128_40_384) (ldV (X0_2 m c t) 40 768 inb_S64x1024_S8x256_40_768) (ld4 (iblk m c 7 t) 5 3 inb_S8x4x128x256_S1x1x128x256_5_3_0_0)) _ y q a l _ rfl (by decide) q.isLt h23 ?_ ?_ ?_
  · rfl
  · intro e1 e2
    exact headC m c t y q b hb 5 3 40 7 384 768 e1 e2 rfl rfl rfl rfl _ _ _ _ _ _ _ _ _ a l
  intro h22
  refine c_store 22 5 2 _ _ (newC (extractStridedSlice S8x1 ![0, 2] (gates (ldG (iblk m c 4 t) 40 inb_S64x128_S8x128_40_0) (iblk m c 5 t)) slices_S8x128_o0_2_S8x1) (extractStridedSlice S1x8 ![2, 0] (gatesT (ldG (iblk m c 4 t) 40 inb_S64x128_S8x128_40_0) (iblk m c 5 t)) slices_S128x8_o2_0_S1x8) (extractStridedSlice S1x8 ![6, 0] (gatesT (ldG (iblk m c 4 t) 40 inb_S64x128_S8x128_40_0) (iblk m c 5 t)) slices_S128x8_o6_0_S1x8) (extractStridedSlice S8x1 ![0, 6] (gates (ldG (iblk m c 4 t) 40 inb_S64x128_S8x128_40_0) (iblk m c 5 t)) slices_S8x128_o0_6_S8x1) (ld1 (iblk m c 9 t) 5 2 inb_S1x8x4_S1x1x1_0_5_2) (ldK (iblk m c 1 t) 40 256 inb_S64x512_S8x128_40_256) (ldV (X0_2 m c t) 40 512 inb_S64x1024_S8x256_40_512) (ld4 (iblk m c 7 t) 5 2 inb_S8x4x128x256_S1x1x128x256_5_2_0_0)) _ y q a l _ rfl (by decide) q.isLt h22 ?_ ?_ ?_
  · rfl
  · intro e1 e2
    exact headC m c t y q b hb 5 2 40 6 256 512 e1 e2 rfl rfl rfl rfl _ _ _ _ _ _ _ _ _ a l
  intro h21
  refine c_store 21 5 1 _ _ (newC (extractStridedSlice S8x1 ![0, 1] (gates (ldG (iblk m c 4 t) 40 inb_S64x128_S8x128_40_0) (iblk m c 5 t)) slices_S8x128_o0_1_S8x1) (extractStridedSlice S1x8 ![1, 0] (gatesT (ldG (iblk m c 4 t) 40 inb_S64x128_S8x128_40_0) (iblk m c 5 t)) slices_S128x8_o1_0_S1x8) (extractStridedSlice S1x8 ![5, 0] (gatesT (ldG (iblk m c 4 t) 40 inb_S64x128_S8x128_40_0) (iblk m c 5 t)) slices_S128x8_o5_0_S1x8) (extractStridedSlice S8x1 ![0, 5] (gates (ldG (iblk m c 4 t) 40 inb_S64x128_S8x128_40_0) (iblk m c 5 t)) slices_S8x128_o0_5_S8x1) (ld1 (iblk m c 9 t) 5 1 inb_S1x8x4_S1x1x1_0_5_1) (ldK (iblk m c 1 t) 40 128 inb_S64x512_S8x128_40_128) (ldV (X0_2 m c t) 40 256 inb_S64x1024_S8x256_40_256) (ld4 (iblk m c 7 t) 5 1 inb_S8x4x128x256_S1x1x128x256_5_1_0_0)) _ y q a l _ rfl (by decide) q.isLt h21 ?_ ?_ ?_
  · rfl
  · intro e1 e2
    exact headC m c t y q b hb 5 1 40 5 128 256 e1 e2 rfl rfl rfl rfl _ _ _ _ _ _ _ _ _ a l
  intro h20
  refine c_store 20 5 0 _ _ (newC (extractStridedSlice S8x1 ![0, 0] (gates (ldG (iblk m c 4 t) 40 inb_S64x128_S8x128_40_0) (iblk m c 5 t)) slices_S8x128_o0_0_S8x1) (extractStridedSlice S1x8 ![0, 0] (gatesT (ldG (iblk m c 4 t) 40 inb_S64x128_S8x128_40_0) (iblk m c 5 t)) slices_S128x8_o0_0_S1x8) (extractStridedSlice S1x8 ![4, 0] (gatesT (ldG (iblk m c 4 t) 40 inb_S64x128_S8x128_40_0) (iblk m c 5 t)) slices_S128x8_o4_0_S1x8) (extractStridedSlice S8x1 ![0, 4] (gates (ldG (iblk m c 4 t) 40 inb_S64x128_S8x128_40_0) (iblk m c 5 t)) slices_S8x128_o0_4_S8x1) (ld1 (iblk m c 9 t) 5 0 inb_S1x8x4_S1x1x1_0_5_0) (ldK (iblk m c 1 t) 40 0 inb_S64x512_S8x128_40_0) (ldV (X0_2 m c t) 40 0 inb_S64x1024_S8x256_40_0) (ld4 (iblk m c 7 t) 5 0 inb_S8x4x128x256_S1x1x128x256_5_0_0_0)) _ y q a l _ rfl (by decide) q.isLt h20 ?_ ?_ ?_
  · rfl
  · intro e1 e2
    exact headC m c t y q b hb 5 0 40 4 0 0 e1 e2 rfl rfl rfl rfl _ _ _ _ _ _ _ _ _ a l
  intro h19
  refine c_store 19 4 3 _ _ (newC (extractStridedSlice S8x1 ![0, 3] (gates (ldG (iblk m c 4 t) 32 inb_S64x128_S8x128_32_0) (iblk m c 5 t)) slices_S8x128_o0_3_S8x1) (extractStridedSlice S1x8 ![3, 0] (gatesT (ldG (iblk m c 4 t) 32 inb_S64x128_S8x128_32_0) (iblk m c 5 t)) slices_S128x8_o3_0_S1x8) (extractStridedSlice S1x8 ![7, 0] (gatesT (ldG (iblk m c 4 t) 32 inb_S64x128_S8x128_32_0) (iblk m c 5 t)) slices_S128x8_o7_0_S1x8) (extractStridedSlice S8x1 ![0, 7] (gates (ldG (iblk m c 4 t) 32 inb_S64x128_S8x128_32_0) (iblk m c 5 t)) slices_S8x128_o0_7_S8x1) (ld1 (iblk m c 9 t) 4 3 inb_S1x8x4_S1x1x1_0_4_3) (ldK (iblk m c 1 t) 32 384 inb_S64x512_S8x128_32_384) (ldV (X0_2 m c t) 32 768 inb_S64x1024_S8x256_32_768) (ld4 (iblk m c 7 t) 4 3 inb_S8x4x128x256_S1x1x128x256_4_3_0_0)) _ y q a l _ rfl (by decide) q.isLt h19 ?_ ?_ ?_
  · rfl
  · intro e1 e2
    exact headC m c t y q b hb 4 3 32 7 384 768 e1 e2 rfl rfl rfl rfl _ _ _ _ _ _ _ _ _ a l
  intro h18
  refine c_store 18 4 2 _ _ (newC (extractStridedSlice S8x1 ![0, 2] (gates (ldG (iblk m c 4 t) 32 inb_S64x128_S8x128_32_0) (iblk m c 5 t)) slices_S8x128_o0_2_S8x1) (extractStridedSlice S1x8 ![2, 0] (gatesT (ldG (iblk m c 4 t) 32 inb_S64x128_S8x128_32_0) (iblk m c 5 t)) slices_S128x8_o2_0_S1x8) (extractStridedSlice S1x8 ![6, 0] (gatesT (ldG (iblk m c 4 t) 32 inb_S64x128_S8x128_32_0) (iblk m c 5 t)) slices_S128x8_o6_0_S1x8) (extractStridedSlice S8x1 ![0, 6] (gates (ldG (iblk m c 4 t) 32 inb_S64x128_S8x128_32_0) (iblk m c 5 t)) slices_S8x128_o0_6_S8x1) (ld1 (iblk m c 9 t) 4 2 inb_S1x8x4_S1x1x1_0_4_2) (ldK (iblk m c 1 t) 32 256 inb_S64x512_S8x128_32_256) (ldV (X0_2 m c t) 32 512 inb_S64x1024_S8x256_32_512) (ld4 (iblk m c 7 t) 4 2 inb_S8x4x128x256_S1x1x128x256_4_2_0_0)) _ y q a l _ rfl (by decide) q.isLt h18 ?_ ?_ ?_
  · rfl
  · intro e1 e2
    exact headC m c t y q b hb 4 2 32 6 256 512 e1 e2 rfl rfl rfl rfl _ _ _ _ _ _ _ _ _ a l
  intro h17
  refine c_store 17 4 1 _ _ (newC (extractStridedSlice S8x1 ![0, 1] (gates (ldG (iblk m c 4 t) 32 inb_S64x128_S8x128_32_0) (iblk m c 5 t)) slices_S8x128_o0_1_S8x1) (extractStridedSlice S1x8 ![1, 0] (gatesT (ldG (iblk m c 4 t) 32 inb_S64x128_S8x128_32_0) (iblk m c 5 t)) slices_S128x8_o1_0_S1x8) (extractStridedSlice S1x8 ![5, 0] (gatesT (ldG (iblk m c 4 t) 32 inb_S64x128_S8x128_32_0) (iblk m c 5 t)) slices_S128x8_o5_0_S1x8) (extractStridedSlice S8x1 ![0, 5] (gates (ldG (iblk m c 4 t) 32 inb_S64x128_S8x128_32_0) (iblk m c 5 t)) slices_S8x128_o0_5_S8x1) (ld1 (iblk m c 9 t) 4 1 inb_S1x8x4_S1x1x1_0_4_1) (ldK (iblk m c 1 t) 32 128 inb_S64x512_S8x128_32_128) (ldV (X0_2 m c t) 32 256 inb_S64x1024_S8x256_32_256) (ld4 (iblk m c 7 t) 4 1 inb_S8x4x128x256_S1x1x128x256_4_1_0_0)) _ y q a l _ rfl (by decide) q.isLt h17 ?_ ?_ ?_
  · rfl
  · intro e1 e2
    exact headC m c t y q b hb 4 1 32 5 128 256 e1 e2 rfl rfl rfl rfl _ _ _ _ _ _ _ _ _ a l
  intro h16
  refine c_store 16 4 0 _ _ (newC (extractStridedSlice S8x1 ![0, 0] (gates (ldG (iblk m c 4 t) 32 inb_S64x128_S8x128_32_0) (iblk m c 5 t)) slices_S8x128_o0_0_S8x1) (extractStridedSlice S1x8 ![0, 0] (gatesT (ldG (iblk m c 4 t) 32 inb_S64x128_S8x128_32_0) (iblk m c 5 t)) slices_S128x8_o0_0_S1x8) (extractStridedSlice S1x8 ![4, 0] (gatesT (ldG (iblk m c 4 t) 32 inb_S64x128_S8x128_32_0) (iblk m c 5 t)) slices_S128x8_o4_0_S1x8) (extractStridedSlice S8x1 ![0, 4] (gates (ldG (iblk m c 4 t) 32 inb_S64x128_S8x128_32_0) (iblk m c 5 t)) slices_S8x128_o0_4_S8x1) (ld1 (iblk m c 9 t) 4 0 inb_S1x8x4_S1x1x1_0_4_0) (ldK (iblk m c 1 t) 32 0 inb_S64x512_S8x128_32_0) (ldV (X0_2 m c t) 32 0 inb_S64x1024_S8x256_32_0) (ld4 (iblk m c 7 t) 4 0 inb_S8x4x128x256_S1x1x128x256_4_0_0_0)) _ y q a l _ rfl (by decide) q.isLt h16 ?_ ?_ ?_
  · rfl
  · intro e1 e2
    exact headC m c t y q b hb 4 0 32 4 0 0 e1 e2 rfl rfl rfl rfl _ _ _ _ _ _ _ _ _ a l
  intro h15
  refine c_store 15 3 3 _ _ (newC (extractStridedSlice S8x1 ![0, 3] (gates (ldG (iblk m c 4 t) 24 inb_S64x128_S8x128_24_0) (iblk m c 5 t)) slices_S8x128_o0_3_S8x1) (extractStridedSlice S1x8 ![3, 0] (gatesT (ldG (iblk m c 4 t) 24 inb_S64x128_S8x128_24_0) (iblk m c 5 t)) slices_S128x8_o3_0_S1x8) (extractStridedSlice S1x8 ![7, 0] (gatesT (ldG (iblk m c 4 t) 24 inb_S64x128_S8x128_24_0) (iblk m c 5 t)) slices_S128x8_o7_0_S1x8) (extractStridedSlice S8x1 ![0, 7] (gates (ldG (iblk m c 4 t) 24 inb_S64x128_S8x128_24_0) (iblk m c 5 t)) slices_S8x128_o0_7_S8x1) (ld1 (iblk m c 9 t) 3 3 inb_S1x8x4_S1x1x1_0_3_3) (ldK (iblk m c 1 t) 24 384 inb_S64x512_S8x128_24_384) (ldV (X0_2 m c t) 24 768 inb_S64x1024_S8x256_24_768) (ld4 (iblk m c 7 t) 3 3 inb_S8x4x128x256_S1x1x128x256_3_3_0_0)) _ y q a l _ rfl (by decide) q.isLt h15 ?_ ?_ ?_
  · rfl
  · intro e1 e2
    exact headC m c t y q b hb 3 3 24 7 384 768 e1 e2 rfl rfl rfl rfl _ _ _ _ _ _ _ _ _ a l
  intro h14
  refine c_store 14 3 2 _ _ (newC (extractStridedSlice S8x1 ![0, 2] (gates (ldG (iblk m c 4 t) 24 inb_S64x128_S8x128_24_0) (iblk m c 5 t)) slices_S8x128_o0_2_S8x1) (extractStridedSlice S1x8 ![2, 0] (gatesT (ldG (iblk m c 4 t) 24 inb_S64x128_S8x128_24_0) (iblk m c 5 t)) slices_S128x8_o2_0_S1x8) (extractStridedSlice S1x8 ![6, 0] (gatesT (ldG (iblk m c 4 t) 24 inb_S64x128_S8x128_24_0) (iblk m c 5 t)) slices_S128x8_o6_0_S1x8) (extractStridedSlice S8x1 ![0, 6] (gates (ldG (iblk m c 4 t) 24 inb_S64x128_S8x128_24_0) (iblk m c 5 t)) slices_S8x128_o0_6_S8x1) (ld1 (iblk m c 9 t) 3 2 inb_S1x8x4_S1x1x1_0_3_2) (ldK (iblk m c 1 t) 24 256 inb_S64x512_S8x128_24_256) (ldV (X0_2 m c t) 24 512 inb_S64x1024_S8x256_24_512) (ld4 (iblk m c 7 t) 3 2 inb_S8x4x128x256_S1x1x128x256_3_2_0_0)) _ y q a l _ rfl (by decide) q.isLt h14 ?_ ?_ ?_
  · rfl
  · intro e1 e2
    exact headC m c t y q b hb 3 2 24 6 256 512 e1 e2 rfl rfl rfl rfl _ _ _ _ _ _ _ _ _ a l
  intro h13
  refine c_store 13 3 1 _ _ (newC (extractStridedSlice S8x1 ![0, 1] (gates (ldG (iblk m c 4 t) 24 inb_S64x128_S8x128_24_0) (iblk m c 5 t)) slices_S8x128_o0_1_S8x1) (extractStridedSlice S1x8 ![1, 0] (gatesT (ldG (iblk m c 4 t) 24 inb_S64x128_S8x128_24_0) (iblk m c 5 t)) slices_S128x8_o1_0_S1x8) (extractStridedSlice S1x8 ![5, 0] (gatesT (ldG (iblk m c 4 t) 24 inb_S64x128_S8x128_24_0) (iblk m c 5 t)) slices_S128x8_o5_0_S1x8) (extractStridedSlice S8x1 ![0, 5] (gates (ldG (iblk m c 4 t) 24 inb_S64x128_S8x128_24_0) (iblk m c 5 t)) slices_S8x128_o0_5_S8x1) (ld1 (iblk m c 9 t) 3 1 inb_S1x8x4_S1x1x1_0_3_1) (ldK (iblk m c 1 t) 24 128 inb_S64x512_S8x128_24_128) (ldV (X0_2 m c t) 24 256 inb_S64x1024_S8x256_24_256) (ld4 (iblk m c 7 t) 3 1 inb_S8x4x128x256_S1x1x128x256_3_1_0_0)) _ y q a l _ rfl (by decide) q.isLt h13 ?_ ?_ ?_
  · rfl
  · intro e1 e2
    exact headC m c t y q b hb 3 1 24 5 128 256 e1 e2 rfl rfl rfl rfl _ _ _ _ _ _ _ _ _ a l
  intro h12
  refine c_store 12 3 0 _ _ (newC (extractStridedSlice S8x1 ![0, 0] (gates (ldG (iblk m c 4 t) 24 inb_S64x128_S8x128_24_0) (iblk m c 5 t)) slices_S8x128_o0_0_S8x1) (extractStridedSlice S1x8 ![0, 0] (gatesT (ldG (iblk m c 4 t) 24 inb_S64x128_S8x128_24_0) (iblk m c 5 t)) slices_S128x8_o0_0_S1x8) (extractStridedSlice S1x8 ![4, 0] (gatesT (ldG (iblk m c 4 t) 24 inb_S64x128_S8x128_24_0) (iblk m c 5 t)) slices_S128x8_o4_0_S1x8) (extractStridedSlice S8x1 ![0, 4] (gates (ldG (iblk m c 4 t) 24 inb_S64x128_S8x128_24_0) (iblk m c 5 t)) slices_S8x128_o0_4_S8x1) (ld1 (iblk m c 9 t) 3 0 inb_S1x8x4_S1x1x1_0_3_0) (ldK (iblk m c 1 t) 24 0 inb_S64x512_S8x128_24_0) (ldV (X0_2 m c t) 24 0 inb_S64x1024_S8x256_24_0) (ld4 (iblk m c 7 t) 3 0 inb_S8x4x128x256_S1x1x128x256_3_0_0_0)) _ y q a l _ rfl (by decide) q.isLt h12 ?_ ?_ ?_
  · rfl
  · intro e1 e2
    exact headC m c t y q b hb 3 0 24 4 0 0 e1 e2 rfl rfl rfl rfl _ _ _ _ _ _ _ _ _ a l
  intro h11
  refine c_store 11 2 3 _ _ (newC (extractStridedSlice S8x1 ![0, 3] (gates (ldG (iblk m c 4 t) 16 inb_S64x128_S8x128_16_0) (iblk m c 5 t)) slices_S8x128_o0_3_S8x1) (extractStridedSlice S1x8 ![3, 0] (gatesT (ldG (iblk m c 4 t) 16 inb_S64x128_S8x128_16_0) (iblk m c 5 t)) slices_S128x8_o3_0_S1x8) (extractStridedSlice S1x8 ![7, 0] (gatesT (ldG (iblk m c 4 t) 16 inb_S64x128_S8x128_16_0) (iblk m c 5 t)) slices_S128x8_o7_0_S1x8) (extractStridedSlice S8x1 ![0, 7] (gates (ldG (iblk m c 4 t) 16 inb_S64x128_S8x128_16_0) (iblk m c 5 t)) slices_S8x128_o0_7_S8x1) (ld1 (iblk m c 9 t) 2 3 inb_S1x8x4_S1x1x1_0_2_3) (ldK (iblk m c 1 t) 16 384 inb_S64x512_S8x128_16_384) (ldV (X0_2 m c t) 16 768 inb_S64x1024_S8x256_16_768) (ld4 (iblk m c 7 t) 2 3 inb_S8x4x128x256_S1x1x128x256_2_3_0_0)) _ y q a l _ rfl (by decide) q.isLt h11 ?_ ?_ ?_
  · rfl
  · intro e1 e2
    exact headC m c t y q b hb 2 3 16 7 384 768 e1 e2 rfl rfl rfl rfl _ _ _ _ _ _ _ _ _ a l
  intro h10
  refine c_store 10 2 2 _ _ (newC (extractStridedSlice S8x1 ![0, 2] (gates (ldG (iblk m c 4 t) 16 inb_S64x128_S8x128_16_0) (iblk m c 5 t)) slices_S8x128_o0_2_S8x1) (extractStridedSlice S1x8 ![2, 0] (gatesT (ldG (iblk m c 4 t) 16 inb_S64x128_S8x128_16_0) (iblk m c 5 t)) slices_S128x8_o2_0_S1x8) (extractStridedSlice S1x8 ![6, 0] (gatesT (ldG (iblk m c 4 t) 16 inb_S64x128_S8x128_16_0) (iblk m c 5 t)) slices_S128x8_o6_0_S1x8) (extractStridedSlice S8x1 ![0, 6] (gates (ldG (iblk m c 4 t) 16 inb_S64x128_S8x128_16_0) (iblk m c 5 t)) slices_S8x128_o0_6_S8x1) (ld1 (iblk m c 9 t) 2 2 inb_S1x8x4_S1x1x1_0_2_2) (ldK (iblk m c 1 t) 16 256 inb_S64x512_S8x128_16_256) (ldV (X0_2 m c t) 16 512 inb_S64x1024_S8x256_16_512) (ld4 (iblk m c 7 t) 2 2 inb_S8x4x128x256_S1x1x128x256_2_2_0_0)) _ y q a l _ rfl (by decide) q.isLt h10 ?_ ?_ ?_
  · rfl
  · intro e1 e2
    exact headC m c t y q b hb 2 2 16 6 256 512 e1 e2 rfl rfl rfl rfl _ _ _ _ _ _ _ _ _ a l
  intro h9
  refine c_store 9 2 1 _ _ (newC (extractStridedSlice S8x1 ![0, 1] (gates (ldG (iblk m c 4 t) 16 inb_S64x128_S8x128_16_0) (iblk m c 5 t)) slices_S8x128_o0_1_S8x1) (extractStridedSlice S1x8 ![1, 0] (gatesT (ldG (iblk m c 4 t) 16 inb_S64x128_S8x128_16_0) (iblk m c 5 t)) slices_S128x8_o1_0_S1x8) (extractStridedSlice S1x8 ![5, 0] (gatesT (ldG (iblk m c 4 t) 16 inb_S64x128_S8x128_16_0) (iblk m c 5 t)) slices_S128x8_o5_0_S1x8) (extractStridedSlice S8x1 ![0, 5] (gates (ldG (iblk m c 4 t) 16 inb_S64x128_S8x128_16_0) (iblk m c 5 t)) slices_S8x128_o0_5_S8x1) (ld1 (iblk m c 9 t) 2 1 inb_S1x8x4_S1x1x1_0_2_1) (ldK (iblk m c 1 t) 16 128 inb_S64x512_S8x128_16_128) (ldV (X0_2 m c t) 16 256 inb_S64x1024_S8x256_16_256) (ld4 (iblk m c 7 t) 2 1 inb_S8x4x128x256_S1x1x128x256_2_1_0_0)) _ y q a l _ rfl (by decide) q.isLt h9 ?_ ?_ ?_
  · rfl
  · intro e1 e2
    exact headC m c t y q b hb 2 1 16 5 128 256 e1 e2 rfl rfl rfl rfl _ _ _ _ _ _ _ _ _ a l
  intro h8
  refine c_store 8 2 0 _ _ (newC (extractStridedSlice S8x1 ![0, 0] (gates (ldG (iblk m c 4 t) 16 inb_S64x128_S8x128_16_0) (iblk m c 5 t)) slices_S8x128_o0_0_S8x1) (extractStridedSlice S1x8 ![0, 0] (gatesT (ldG (iblk m c 4 t) 16 inb_S64x128_S8x128_16_0) (iblk m c 5 t)) slices_S128x8_o0_0_S1x8) (extractStridedSlice S1x8 ![4, 0] (gatesT (ldG (iblk m c 4 t) 16 inb_S64x128_S8x128_16_0) (iblk m c 5 t)) slices_S128x8_o4_0_S1x8) (extractStridedSlice S8x1 ![0, 4] (gates (ldG (iblk m c 4 t) 16 inb_S64x128_S8x128_16_0) (iblk m c 5 t)) slices_S8x128_o0_4_S8x1) (ld1 (iblk m c 9 t) 2 0 inb_S1x8x4_S1x1x1_0_2_0) (ldK (iblk m c 1 t) 16 0 inb_S64x512_S8x128_16_0) (ldV (X0_2 m c t) 16 0 inb_S64x1024_S8x256_16_0) (ld4 (iblk m c 7 t) 2 0 inb_S8x4x128x256_S1x1x128x256_2_0_0_0)) _ y q a l _ rfl (by decide) q.isLt h8 ?_ ?_ ?_
  · rfl
  · intro e1 e2
    exact headC m c t y q b hb 2 0 16 4 0 0 e1 e2 rfl rfl rfl rfl _ _ _ _ _ _ _ _ _ a l
  intro h7
  refine c_store 7 1 3 _ _ (newC (extractStridedSlice S8x1 ![0, 3] (gates (ldG (iblk m c 4 t) 8 inb_S64x128_S8x128_8_0) (iblk m c 5 t)) slices_S8x128_o0_3_S8x1) (extractStridedSlice S1x8 ![3, 0] (gatesT (ldG (iblk m c 4 t) 8 inb_S64x128_S8x128_8_0) (iblk m c 5 t)) slices_S128x8_o3_0_S1x8) (extractStridedSlice S1x8 ![7, 0] (gatesT (ldG (iblk m c 4 t) 8 inb_S64x128_S8x128_8_0) (iblk m c 5 t)) slices_S128x8_o7_0_S1x8) (extractStridedSlice S8x1 ![0, 7] (gates (ldG (iblk m c 4 t) 8 inb_S64x128_S8x128_8_0) (iblk m c 5 t)) slices_S8x128_o0_7_S8x1) (ld1 (iblk m c 9 t) 1 3 inb_S1x8x4_S1x1x1_0_1_3) (ldK (iblk m c 1 t) 8 384 inb_S64x512_S8x128_8_384) (ldV (X0_2 m c t) 8 768 inb_S64x1024_S8x256_8_768) (ld4 (iblk m c 7 t) 1 3 inb_S8x4x128x256_S1x1x128x256_1_3_0_0)) _ y q a l _ rfl (by decide) q.isLt h7 ?_ ?_ ?_
  · rfl
  · intro e1 e2
    exact headC m c t y q b hb 1 3 8 7 384 768 e1 e2 rfl rfl rfl rfl _ _ _ _ _ _ _ _ _ a l
  intro h6
  refine c_store 6 1 2 _ _ (newC (extractStridedSlice S8x1 ![0, 2] (gates (ldG (iblk m c 4 t) 8 inb_S64x128_S8x128_8_0) (iblk m c 5 t)) slices_S8x128_o0_2_S8x1) (extractStridedSlice S1x8 ![2, 0] (gatesT (ldG (iblk m c 4 t) 8 inb_S64x128_S8x128_8_0) (iblk m c 5 t)) slices_S128x8_o2_0_S1x8) (extractStridedSlice S1x8 ![6, 0] (gatesT (ldG (iblk m c 4 t) 8 inb_S64x128_S8x128_8_0) (iblk m c 5 t)) slices_S128x8_o6_0_S1x8) (extractStridedSlice S8x1 ![0, 6] (gates (ldG (iblk m c 4 t) 8 inb_S64x128_S8x128_8_0) (iblk m c 5 t)) slices_S8x128_o0_6_S8x1) (ld1 (iblk m c 9 t) 1 2 inb_S1x8x4_S1x1x1_0_1_2) (ldK (iblk m c 1 t) 8 256 inb_S64x512_S8x128_8_256) (ldV (X0_2 m c t) 8 512 inb_S64x1024_S8x256_8_512) (ld4 (iblk m c 7 t) 1 2 inb_S8x4x128x256_S1x1x128x256_1_2_0_0)) _ y q a l _ rfl (by decide) q.isLt h6 ?_ ?_ ?_
  · rfl
  · intro e1 e2
    exact headC m c t y q b hb 1 2 8 6 256 512 e1 e2 rfl rfl rfl rfl _ _ _ _ _ _ _ _ _ a l
  intro h5
  refine c_store 5 1 1 _ _ (newC (extractStridedSlice S8x1 ![0, 1] (gates (ldG (iblk m c 4 t) 8 inb_S64x128_S8x128_8_0) (iblk m c 5 t)) slices_S8x128_o0_1_S8x1) (extractStridedSlice S1x8 ![1, 0] (gatesT (ldG (iblk m c 4 t) 8 inb_S64x128_S8x128_8_0) (iblk m c 5 t)) slices_S128x8_o1_0_S1x8) (extractStridedSlice S1x8 ![5, 0] (gatesT (ldG (iblk m c 4 t) 8 inb_S64x128_S8x128_8_0) (iblk m c 5 t)) slices_S128x8_o5_0_S1x8) (extractStridedSlice S8x1 ![0, 5] (gates (ldG (iblk m c 4 t) 8 inb_S64x128_S8x128_8_0) (iblk m c 5 t)) slices_S8x128_o0_5_S8x1) (ld1 (iblk m c 9 t) 1 1 inb_S1x8x4_S1x1x1_0_1_1) (ldK (iblk m c 1 t) 8 128 inb_S64x512_S8x128_8_128) (ldV (X0_2 m c t) 8 256 inb_S64x1024_S8x256_8_256) (ld4 (iblk m c 7 t) 1 1 inb_S8x4x128x256_S1x1x128x256_1_1_0_0)) _ y q a l _ rfl (by decide) q.isLt h5 ?_ ?_ ?_
  · rfl
  · intro e1 e2
    exact headC m c t y q b hb 1 1 8 5 128 256 e1 e2 rfl rfl rfl rfl _ _ _ _ _ _ _ _ _ a l
  intro h4
  refine c_store 4 1 0 _ _ (newC (extractStridedSlice S8x1 ![0, 0] (gates (ldG (iblk m c 4 t) 8 inb_S64x128_S8x128_8_0) (iblk m c 5 t)) slices_S8x128_o0_0_S8x1) (extractStridedSlice S1x8 ![0, 0] (gatesT (ldG (iblk m c 4 t) 8 inb_S64x128_S8x128_8_0) (iblk m c 5 t)) slices_S128x8_o0_0_S1x8) (extractStridedSlice S1x8 ![4, 0] (gatesT (ldG (iblk m c 4 t) 8 inb_S64x128_S8x128_8_0) (iblk m c 5 t)) slices_S128x8_o4_0_S1x8) (extractStridedSlice S8x1 ![0, 4] (gates (ldG (iblk m c 4 t) 8 inb_S64x128_S8x128_8_0) (iblk m c 5 t)) slices_S8x128_o0_4_S8x1) (ld1 (iblk m c 9 t) 1 0 inb_S1x8x4_S1x1x1_0_1_0) (ldK (iblk m c 1 t) 8 0 inb_S64x512_S8x128_8_0) (ldV (X0_2 m c t) 8 0 inb_S64x1024_S8x256_8_0) (ld4 (iblk m c 7 t) 1 0 inb_S8x4x128x256_S1x1x128x256_1_0_0_0)) _ y q a l _ rfl (by decide) q.isLt h4 ?_ ?_ ?_
  · rfl
  · intro e1 e2
    exact headC m c t y q b hb 1 0 8 4 0 0 e1 e2 rfl rfl rfl rfl _ _ _ _ _ _ _ _ _ a l
  intro h3
  refine c_store 3 0 3 _ _ (newC (extractStridedSlice S8x1 ![0, 3] (gates (ldG (iblk m c 4 t) 0 inb_S64x128_S8x128_0_0) (iblk m c 5 t)) slices_S8x128_o0_3_S8x1) (extractStridedSlice S1x8 ![3, 0] (gatesT (ldG (iblk m c 4 t) 0 inb_S64x128_S8x128_0_0) (iblk m c 5 t)) slices_S128x8_o3_0_S1x8) (extractStridedSlice S1x8 ![7, 0] (gatesT (ldG (iblk m c 4 t) 0 inb_S64x128_S8x128_0_0) (iblk m c 5 t)) slices_S128x8_o7_0_S1x8) (extractStridedSlice S8x1 ![0, 7] (gates (ldG (iblk m c 4 t) 0 inb_S64x128_S8x128_0_0) (iblk m c 5 t)) slices_S8x128_o0_7_S8x1) (ld1 (iblk m c 9 t) 0 3 inb_S1x8x4_S1x1x1_0_0_3) (ldK (iblk m c 1 t) 0 384 inb_S64x512_S8x128_0_384) (ldV (X0_2 m c t) 0 768 inb_S64x1024_S8x256_0_768) (ld4 (iblk m c 7 t) 0 3 inb_S8x4x128x256_S1x1x128x256_0_3_0_0)) _ y q a l _ rfl (by decide) q.isLt h3 ?_ ?_ ?_
  · rfl
  · intro e1 e2
    exact headC m c t y q b hb 0 3 0 7 384 768 e1 e2 rfl rfl rfl rfl _ _ _ _ _ _ _ _ _ a l
  intro h2
  refine c_store 2 0 2 _ _ (newC (extractStridedSlice S8x1 ![0, 2] (gates (ldG (iblk m c 4 t) 0 inb_S64x128_S8x128_0_0) (iblk m c 5 t)) slices_S8x128_o0_2_S8x1) (extractStridedSlice S1x8 ![2, 0] (gatesT (ldG (iblk m c 4 t) 0 inb_S64x128_S8x128_0_0) (iblk m c 5 t)) slices_S128x8_o2_0_S1x8) (extractStridedSlice S1x8 ![6, 0] (gatesT (ldG (iblk m c 4 t) 0 inb_S64x128_S8x128_0_0) (iblk m c 5 t)) slices_S128x8_o6_0_S1x8) (extractStridedSlice S8x1 ![0, 6] (gates (ldG (iblk m c 4 t) 0 inb_S64x128_S8x128_0_0) (iblk m c 5 t)) slices_S8x128_o0_6_S8x1) (ld1 (iblk m c 9 t) 0 2 inb_S1x8x4_S1x1x1_0_0_2) (ldK (iblk m c 1 t) 0 256 inb_S64x512_S8x128_0_256) (ldV (X0_2 m c t) 0 512 inb_S64x1024_S8x256_0_512) (ld4 (iblk m c 7 t) 0 2 inb_S8x4x128x256_S1x1x128x256_0_2_0_0)) _ y q a l _ rfl (by decide) q.isLt h2 ?_ ?_ ?_
  · rfl
  · intro e1 e2
    exact headC m c t y q b hb 0 2 0 6 256 512 e1 e2 rfl rfl rfl rfl _ _ _ _ _ _ _ _ _ a l
  intro h1
  refine c_store 1 0 1 _ _ (newC (extractStridedSlice S8x1 ![0, 1] (gates (ldG (iblk m c 4 t) 0 inb_S64x128_S8x128_0_0) (iblk m c 5 t)) slices_S8x128_o0_1_S8x1) (extractStridedSlice S1x8 ![1, 0] (gatesT (ldG (iblk m c 4 t) 0 inb_S64x128_S8x128_0_0) (iblk m c 5 t)) slices_S128x8_o1_0_S1x8) (extractStridedSlice S1x8 ![5, 0] (gatesT (ldG (iblk m c 4 t) 0 inb_S64x128_S8x128_0_0) (iblk m c 5 t)) slices_S128x8_o5_0_S1x8) (extractStridedSlice S8x1 ![0, 5] (gates (ldG (iblk m c 4 t) 0 inb_S64x128_S8x128_0_0) (iblk m c 5 t)) slices_S8x128_o0_5_S8x1) (ld1 (iblk m c 9 t) 0 1 inb_S1x8x4_S1x1x1_0_0_1) (ldK (iblk m c 1 t) 0 128 inb_S64x512_S8x128_0_128) (ldV (X0_2 m c t) 0 256 inb_S64x1024_S8x256_0_256) (ld4 (iblk m c 7 t) 0 1 inb_S8x4x128x256_S1x1x128x256_0_1_0_0)) _ y q a l _ rfl (by decide) q.isLt h1 ?_ ?_ ?_
  · rfl
  · intro e1 e2
    exact headC m c t y q b hb 0 1 0 5 128 256 e1 e2 rfl rfl rfl rfl _ _ _ _ _ _ _ _ _ a l
  intro h0
  refine c_store 0 0 0 _ _ (newC (extractStridedSlice S8x1 ![0, 0] (gates (ldG (iblk m c 4 t) 0 inb_S64x128_S8x128_0_0) (iblk m c 5 t)) slices_S8x128_o0_0_S8x1) (extractStridedSlice S1x8 ![0, 0] (gatesT (ldG (iblk m c 4 t) 0 inb_S64x128_S8x128_0_0) (iblk m c 5 t)) slices_S128x8_o0_0_S1x8) (extractStridedSlice S1x8 ![4, 0] (gatesT (ldG (iblk m c 4 t) 0 inb_S64x128_S8x128_0_0) (iblk m c 5 t)) slices_S128x8_o4_0_S1x8) (extractStridedSlice S8x1 ![0, 4] (gates (ldG (iblk m c 4 t) 0 inb_S64x128_S8x128_0_0) (iblk m c 5 t)) slices_S8x128_o0_4_S8x1) (ld1 (iblk m c 9 t) 0 0 inb_S1x8x4_S1x1x1_0_0_0) (ldK (iblk m c 1 t) 0 0 inb_S64x512_S8x128_0_0) (ldV (X0_2 m c t) 0 0 inb_S64x1024_S8x256_0_0) (ld4 (iblk m c 7 t) 0 0 inb_S8x4x128x256_S1x1x128x256_0_0_0_0)) _ y q a l _ rfl (by decide) q.isLt h0 ?_ ?_ ?_
  · rfl
  · intro e1 e2
    exact headC m c t y q b hb 0 0 0 4 0 0 e1 e2 rfl rfl rfl rfl _ _ _ _ _ _ _ _ _ a l
  intro hz
  omega

/-- The array of them. -/
def arrC : FVec Ideal S128x4x128x256 .f32 := fun j => cellOf m c (j 0) (j 1) (j 2) (j 3)

theorem arr_c : (dats m 0 c).arrAt 11 cfg0.N = arrC m c := by
  refine (dats m 0 c).arrAt_eq_of_covers 11 _ (by decide +kernel) fun t hf y => ?_
  have ht := lt_of_lt_of_eq t.isLt gridN
  have hy : (y 0).val < 8 := (y 0).isLt
  obtain ⟨b, hb⟩ : ∃ b : Fin 128, b.val = 8 * t.val + (y 0).val := ⟨⟨8 * t.val + (y 0).val, by omega⟩, rfl⟩
  have hX : arrC m c (((View.whole main_v9_1).slice (win0_11.rect t)).emb y) = cellOf m c b (y 1) (y 2) (y 3) := by
    unfold arrC
    congr 1 <;> apply Fin.ext
    · rw [hb]
      blk_simp [idx t]
      omega
    · blk_simp [idx t]
    · blk_simp [idx t]
    · blk_simp [idx t]
  refine Eq.trans ?_ hX.symm
  clear hX
  blk_simp
  rw [after0_11]
  exact (congrArg (outsAt0 m c t).2.1 (ix4_eta y)).trans (blockC m c t _ _ _ _ b hb)

end Cert.MlstmSample

end
-- ==== Proof.MlsOutN.lean ====
/- The new normalisers of the sample. -/
module

public import proofs.«01_k».proof.Proof.MlsLoad

@[expose] public section

set_option maxRecDepth 16384

noncomputable section

open Idealize.ShloMosaic Idealize.ShloMosaic.TcCoe Idealize.SL.Sem

namespace Cert.MlstmSample

open Cert.Kernel6Ideal Cert.Kernel6Ideal.Gen Cert.Kernel6Ideal.Block Cert.MlstmSpec

variable (m : (ℓ : Loc nD τ sig) → Buf (Elt Ideal) ℓ) (c : Dev nD)

theorem ix3_eta_n {A B C : ℕ} (y : (⟨3, ![A, B, C]⟩ : Shape).Idx) : y = ix3 (⟨(y 0).val, (y 0).isLt⟩ : Fin A) (⟨(y 1).val, (y 1).isLt⟩ : Fin B) (⟨(y 2).val, (y 2).isLt⟩ : Fin C) := by
  funext k
  match k with
  | ⟨0, _⟩ => rfl
  | ⟨1, _⟩ => rfl
  | ⟨2, _⟩ => rfl

set_option maxHeartbeats 4000000 in
/-- What a point leaves of them. -/
theorem blockN (t : Fin cfg0.N) (y : Fin 8) (q : Fin 4) (a : Fin 128) (b : Fin 128) (hb : b.val = 8 * t.val + y.val) : (outsAt0 m c t).2.2.1 (ix3 y q a) = normOf m c b q a := by
  unfold outsAt0
  dsimp only
  frame_out
  refine n_store 31 7 3 _ _ (newN (extractStridedSlice S8x1 ![0, 3] (gates (ldG (iblk m c 4 t) 56 inb_S64x128_S8x128_56_0) (iblk m c 5 t)) slices_S8x128_o0_3_S8x1) (extractStridedSlice S1x8 ![3, 0] (gatesT (ldG (iblk m c 4 t) 56 inb_S64x128_S8x128_56_0) (iblk m c 5 t)) slices_S128x8_o3_0_S1x8) (extractStridedSlice S1x8 ![7, 0] (gatesT (ldG (iblk m c 4 t) 56 inb_S64x128_S8x128_56_0) (iblk m c 5 t)) slices_S128x8_o7_0_S1x8) (extractStridedSlice S8x1 ![0, 7] (gates (ldG (iblk m c 4 t) 56 inb_S64x128_S8x128_56_0) (iblk m c 5 t)) slices_S8x128_o0_7_S8x1) (ld1 (iblk m c 9 t) 7 3 inb_S1x8x4_S1x1x1_0_7_3) (ldK (iblk m c 1 t) 56 384 inb_S64x512_S8x128_56_384) (ld3 (iblk m c 8 t) 7 3 inb_S8x4x128_S1x1x128_7_3_0)) _ y q a _ rfl (by decide) q.isLt (by omega) ?_ ?_ ?_
  · rfl
  · intro e1 e2
    exact headN m c t y q b hb 7 3 56 7 384 e1 e2 rfl rfl rfl _ _ _ _ _ _ _ _ a
  intro h30
  refine n_store 30 7 2 _ _ (newN (extractStridedSlice S8x1 ![0, 2] (gates (ldG (iblk m c 4 t) 56 inb_S64x128_S8x128_56_0) (iblk m c 5 t)) slices_S8x128_o0_2_S8x1) (extractStridedSlice S1x8 ![2, 0] (gatesT (ldG (iblk m c 4 t) 56 inb_S64x128_S8x128_56_0) (iblk m c 5 t)) slices_S128x8_o2_0_S1x8) (extractStridedSlice S1x8 ![6, 0] (gatesT (ldG (iblk m c 4 t) 56 inb_S64x128_S8x128_56_0) (iblk m c 5 t)) slices_S128x8_o6_0_S1x8) (extractStridedSlice S8x1 ![0, 6] (gates (ldG (iblk m c 4 t) 56 inb_S64x128_S8x128_56_0) (iblk m c 5 t)) slices_S8x128_o0_6_S8x1) (ld1 (iblk m c 9 t) 7 2 inb_S1x8x4_S1x1x1_0_7_2) (ldK (iblk m c 1 t) 56 256 inb_S64x512_S8x128_56_256) (ld3 (iblk m c 8 t) 7 2 inb_S8x4x128_S1x1x128_7_2_0)) _ y q a _ rfl (by decide) q.isLt h30 ?_ ?_ ?_
  · rfl
  · intro e1 e2
    exact headN m c t y q b hb 7 2 56 6 256 e1 e2 rfl rfl rfl _ _ _ _ _ _ _ _ a
  intro h29
  refine n_store 29 7 1 _ _ (newN (extractStridedSlice S8x1 ![0, 1] (gates (ldG (iblk m c 4 t) 56 inb_S64x128_S8x128_56_0) (iblk m c 5 t)) slices_S8x128_o0_1_S8x1) (extractStridedSlice S1x8 ![1, 0] (gatesT (ldG (iblk m c 4 t) 56 inb_S64x128_S8x128_56_0) (iblk m c 5 t)) slices_S128x8_o1_0_S1x8) (extractStridedSlice S1x8 ![5, 0] (gatesT (ldG (iblk m c 4 t) 56 inb_S64x128_S8x128_56_0) (iblk m c 5 t)) slices_S128x8_o5_0_S1x8) (extractStridedSlice S8x1 ![0, 5] (gates (ldG (iblk m c 4 t) 56 inb_S64x128_S8x128_56_0) (iblk m c 5 t)) slices_S8x128_o0_5_S8x1) (ld1 (iblk m c 9 t) 7 1 inb_S1x8x4_S1x1x1_0_7_1) (ldK (iblk m c 1 t) 56 128 inb_S64x512_S8x128_56_128) (ld3 (iblk m c 8 t) 7 1 inb_S8x4x128_S1x1x128_7_1_0)) _ y q a _ rfl (by decide) q.isLt h29 ?_ ?_ ?_
  · rfl
  · intro e1 e2
    exact headN m c t y q b hb 7 1 56 5 128 e1 e2 rfl rfl rfl _ _ _ _ _ _ _ _ a
  intro h28
  refine n_store 28 7 0 _ _ (newN (extractStridedSlice S8x1 ![0, 0] (gates (ldG (iblk m c 4 t) 56 inb_S64x128_S8x128_56_0) (iblk m c 5 t)) slices_S8x128_o0_0_S8x1) (extractStridedSlice S1x8 ![0, 0] (gatesT (ldG (iblk m c 4 t) 56 inb_S64x128_S8x128_56_0) (iblk m c 5 t)) slices_S128x8_o0_0_S1x8) (extractStridedSlice S1x8 ![4, 0] (gatesT (ldG (iblk m c 4 t) 56 inb_S64x128_S8x128_56_0) (iblk m c 5 t)) slices_S128x8_o4_0_S1x8) (extractStridedSlice S8x1 ![0, 4] (gates (ldG (iblk m c 4 t) 56 inb_S64x128_S8x128_56_0) (iblk m c 5 t)) slices_S8x128_o0_4_S8x1) (ld1 (iblk m c 9 t) 7 0 inb_S1x8x4_S1x1x1_0_7_0) (ldK (iblk m c 1 t) 56 0 inb_S64x512_S8x128_56_0) (ld3 (iblk m c 8 t) 7 0 inb_S8x4x128_S1x1x128_7_0_0)) _ y q a _ rfl (by decide) q.isLt h28 ?_ ?_ ?_
  · rfl
  · intro e1 e2
    exact headN m c t y q b hb 7 0 56 4 0 e1 e2 rfl rfl rfl _ _ _ _ _ _ _ _ a
  intro h27
  refine n_store 27 6 3 _ _ (newN (extractStridedSlice S8x1 ![0, 3] (gates (ldG (iblk m c 4 t) 48 inb_S64x128_S8x128_48_0) (iblk m c 5 t)) slices_S8x128_o0_3_S8x1) (extractStridedSlice S1x8 ![3, 0] (gatesT (ldG (iblk m c 4 t) 48 inb_S64x128_S8x128_48_0) (iblk m c 5 t)) slices_S128x8_o3_0_S1x8) (extractStridedSlice S1x8 ![7, 0] (gatesT (ldG (iblk m c 4 t) 48 inb_S64x128_S8x128_48_0) (iblk m c 5 t)) slices_S128x8_o7_0_S1x8) (extractStridedSlice S8x1 ![0, 7] (gates (ldG (iblk m c 4 t) 48 inb_S64x128_S8x128_48_0) (iblk m c 5 t)) slices_S8x128_o0_7_S8x1) (ld1 (iblk m c 9 t) 6 3 inb_S1x8x4_S1x1x1_0_6_3) (ldK (iblk m c 1 t) 48 384 inb_S64x512_S8x128_48_384) (ld3 (iblk m c 8 t) 6 3 inb_S8x4x128_S1x1x128_6_3_0)) _ y q a _ rfl (by decide) q.isLt h27 ?_ ?_ ?_
  · rfl
  · intro e1 e2
    exact headN m c t y q b hb 6 3 48 7 384 e1 e2 rfl rfl rfl _ _ _ _ _ _ _ _ a
  intro h26
  refine n_store 26 6 2 _ _ (newN (extractStridedSlice S8x1 ![0, 2] (gates (ldG (iblk m c 4 t) 48 inb_S64x128_S8x128_48_0) (iblk m c 5 t)) slices_S8x128_o0_2_S8x1) (extractStridedSlice S1x8 ![2, 0] (gatesT (ldG (iblk m c 4 t) 48 inb_S64x128_S8x128_48_0) (iblk m c 5 t)) slices_S128x8_o2_0_S1x8) (extractStridedSlice S1x8 ![6, 0] (gatesT (ldG (iblk m c 4 t) 48 inb_S64x128_S8x128_48_0) (iblk m c 5 t)) slices_S128x8_o6_0_S1x8) (extractStridedSlice S8x1 ![0, 6] (gates (ldG (iblk m c 4 t) 48 inb_S64x128_S8x128_48_0) (iblk m c 5 t)) slices_S8x128_o0_6_S8x1) (ld1 (iblk m c 9 t) 6 2 inb_S1x8x4_S1x1x1_0_6_2) (ldK (iblk m c 1 t) 48 256 inb_S64x512_S8x128_48_256) (ld3 (iblk m c 8 t) 6 2 inb_S8x4x128_S1x1x128_6_2_0)) _ y q a _ rfl (by decide) q.isLt h26 ?_ ?_ ?_
  · rfl
  · intro e1 e2
    exact headN m c t y q b hb 6 2 48 6 256 e1 e2 rfl rfl rfl _ _ _ _ _ _ _ _ a
  intro h25
  refine n_store 25 6 1 _ _ (newN (extractStridedSlice S8x1 ![0, 1] (gates (ldG (iblk m c 4 t) 48 inb_S64x128_S8x128_48_0) (iblk m c 5 t)) slices_S8x128_o0_1_S8x1) (extractStridedSlice S1x8 ![1, 0] (gatesT (ldG (iblk m c 4 t) 48 inb_S64x128_S8x128_48_0) (iblk m c 5 t)) slices_S128x8_o1_0_S1x8) (extractStridedSlice S1x8 ![5, 0] (gatesT (ldG (iblk m c 4 t) 48 inb_S64x128_S8x128_48_0) (iblk m c 5 t)) slices_S128x8_o5_0_S1x8) (extractStridedSlice S8x1 ![0, 5] (gates (ldG (iblk m c 4 t) 48 inb_S64x128_S8x128_48_0) (iblk m c 5 t)) slices_S8x128_o0_5_S8x1) (ld1 (iblk m c 9 t) 6 1 inb_S1x8x4_S1x1x1_0_6_1) (ldK (iblk m c 1 t) 48 128 inb_S64x512_S8x128_48_128) (ld3 (iblk m c 8 t) 6 1 inb_S8x4x128_S1x1x128_6_1_0)) _ y q a _ rfl (by decide) q.isLt h25 ?_ ?_ ?_
  · rfl
  · intro e1 e2
    exact headN m c t y q b hb 6 1 48 5 128 e1 e2 rfl rfl rfl _ _ _ _ _ _ _ _ a
  intro h24
  refine n_store 24 6 0 _ _ (newN (extractStridedSlice S8x1 ![0, 0] (gates (ldG (iblk m c 4 t) 48 inb_S64x128_S8x128_48_0) (iblk m c 5 t)) slices_S8x128_o0_0_S8x1) (extractStridedSlice S1x8 ![0, 0] (gatesT (ldG (iblk m c 4 t) 48 inb_S64x128_S8x128_48_0) (iblk m c 5 t)) slices_S128x8_o0_0_S1x8) (extractStridedSlice S1x8 ![4, 0] (gatesT (ldG (iblk m c 4 t) 48 inb_S64x128_S8x128_48_0) (iblk m c 5 t)) slices_S128x8_o4_0_S1x8) (extractStridedSlice S8x1 ![0, 4] (gates (ldG (iblk m c 4 t) 48 inb_S64x128_S8x128_48_0) (iblk m c 5 t)) slices_S8x128_o0_4_S8x1) (ld1 (iblk m c 9 t) 6 0 inb_S1x8x4_S1x1x1_0_6_0) (ldK (iblk m c 1 t) 48 0 inb_S64x512_S8x128_48_0) (ld3 (iblk m c 8 t) 6 0 inb_S8x4x128_S1x1x128_6_0_0)) _ y q a _ rfl (by decide) q.isLt h24 ?_ ?_ ?_
  · rfl
  · intro e1 e2
    exact headN m c t y q b hb 6 0 48 4 0 e1 e2 rfl rfl rfl _ _ _ _ _ _ _ _ a
  intro h23
  refine n_store 23 5 3 _ _ (newN (extractStridedSlice S8x1 ![0, 3] (gates (ldG (iblk m c 4 t) 40 inb_S64x128_S8x128_40_0) (iblk m c 5 t)) slices_S8x128_o0_3_S8x1) (extractStridedSlice S1x8 ![3, 0] (gatesT (ldG (iblk m c 4 t) 40 inb_S64x128_S8x128_40_0) (iblk m c 5 t)) slices_S128x8_o3_0_S1x8) (extractStridedSlice S1x8 ![7, 0] (gatesT (ldG (iblk m c 4 t) 40 inb_S64x128_S8x128_40_0) (iblk m c 5 t)) slices_S128x8_o7_0_S1x8) (extractStridedSlice S8x1 ![0, 7] (gates (ldG (iblk m c 4 t) 40 inb_S64x128_S8x128_40_0) (iblk m c 5 t)) slices_S8x128_o0_7_S8x1) (ld1 (iblk m c 9 t) 5 3 inb_S1x8x4_S1x1x1_0_5_3) (ldK (iblk m c 1 t) 40 384 inb_S64x512_S8x128_40_384) (ld3 (iblk m c 8 t) 5 3 inb_S8x4x128_S1x1x128_5_3_0)) _ y q a _ rfl (by decide) q.isLt h23 ?_ ?_ ?_
  · rfl
  · intro e1 e2
    exact headN m c t y q b hb 5 3 40 7 384 e1 e2 rfl rfl rfl _ _ _ _ _ _ _ _ a
  intro h22
  refine n_store 22 5 2 _ _ (newN (extractStridedSlice S8x1 ![0, 2] (gates (ldG (iblk m c 4 t) 40 inb_S64x128_S8x128_40_0) (iblk m c 5 t)) slices_S8x128_o0_2_S8x1) (extractStridedSlice S1x8 ![2, 0] (gatesT (ldG (iblk m c 4 t) 40 inb_S64x128_S8x128_40_0) (iblk m c 5 t)) slices_S128x8_o2_0_S1x8) (extractStridedSlice S1x8 ![6, 0] (gatesT (ldG (iblk m c 4 t) 40 inb_S64x128_S8x128_40_0) (iblk m c 5 t)) slices_S128x8_o6_0_S1x8) (extractStridedSlice S8x1 ![0, 6] (gates (ldG (iblk m c 4 t) 40 inb_S64x128_S8x128_40_0) (iblk m c 5 t)) slices_S8x128_o0_6_S8x1) (ld1 (iblk m c 9 t) 5 2 inb_S1x8x4_S1x1x1_0_5_2) (ldK (iblk m c 1 t) 40 256 inb_S64x512_S8x128_40_256) (ld3 (iblk m c 8 t) 5 2 inb_S8x4x128_S1x1x128_5_2_0)) _ y q a _ rfl (by decide) q.isLt h22 ?_ ?_ ?_
  · rfl
  · intro e1 e2
    exact headN m c t y q b hb 5 2 40 6 256 e1 e2 rfl rfl rfl _ _ _ _ _ _ _ _ a
  intro h21
  refine n_store 21 5 1 _ _ (newN (extractStridedSlice S8x1 ![0, 1] (gates (ldG (iblk m c 4 t) 40 inb_S64x128_S8x128_40_0) (iblk m c 5 t)) slices_S8x128_o0_1_S8x1) (extractStridedSlice S1x8 ![1, 0] (gatesT (ldG (iblk m c 4 t) 40 inb_S64x128_S8x128_40_0) (iblk m c 5 t)) slices_S128x8_o1_0_S1x8) (extractStridedSlice S1x8 ![5, 0] (gatesT (ldG (iblk m c 4 t) 40 inb_S64x128_S8x128_40_0) (iblk m c 5 t)) slices_S128x8_o5_0_S1x8) (extractStridedSlice S8x1 ![0, 5] (gates (ldG (iblk m c 4 t) 40 inb_S64x128_S8x128_40_0) (iblk m c 5 t)) slices_S8x128_o0_5_S8x1) (ld1 (iblk m c 9 t) 5 1 inb_S1x8x4_S1x1x1_0_5_1) (ldK (iblk m c 1 t) 40 128 inb_S64x512_S8x128_40_128) (ld3 (iblk m c 8 t) 5 1 inb_S8x4x128_S1x1x128_5_1_0)) _ y q a _ rfl (by decide) q.isLt h21 ?_ ?_ ?_
  · rfl
  · intro e1 e2
    exact headN m c t y q b hb 5 1 40 5 128 e1 e2 rfl rfl rfl _ _ _ _ _ _ _ _ a
  intro h20
  refine n_store 20 5 0 _ _ (newN (extractStridedSlice S8x1 ![0, 0] (gates (ldG (iblk m c 4 t) 40 inb_S64x128_S8x128_40_0) (iblk m c 5 t)) slices_S8x128_o0_0_S8x1) (extractStridedSlice S1x8 ![0, 0] (gatesT (ldG (iblk m c 4 t) 40 inb_S64x128_S8x128_40_0) (iblk m c 5 t)) slices_S128x8_o0_0_S1x8) (extractStridedSlice S1x8 ![4, 0] (gatesT (ldG (iblk m c 4 t) 40 inb_S64x128_S8x128_40_0) (iblk m c 5 t)) slices_S128x8_o4_0_S1x8) (extractStridedSlice S8x1 ![0, 4] (gates (ldG (iblk m c 4 t) 40 inb_S64x128_S8x128_40_0) (iblk m c 5 t)) slices_S8x128_o0_4_S8x1) (ld1 (iblk m c 9 t) 5 0 inb_S1x8x4_S1x1x1_0_5_0) (ldK (iblk m c 1 t) 40 0 inb_S64x512_S8x128_40_0) (ld3 (iblk m c 8 t) 5 0 inb_S8x4x128_S1x1x128_5_0_0)) _ y q a _ rfl (by decide) q.isLt h20 ?_ ?_ ?_
  · rfl
  · intro e1 e2
    exact headN m c t y q b hb 5 0 40 4 0 e1 e2 rfl rfl rfl _ _ _ _ _ _ _ _ a
  intro h19
  refine n_store 19 4 3 _ _ (newN (extractStridedSlice S8x1 ![0, 3] (gates (ldG (iblk m c 4 t) 32 inb_S64x128_S8x128_32_0) (iblk m c 5 t)) slices_S8x128_o0_3_S8x1) (extractStridedSlice S1x8 ![3, 0] (gatesT (ldG (iblk m c 4 t) 32 inb_S64x128_S8x128_32_0) (iblk m c 5 t)) slices_S128x8_o3_0_S1x8) (extractStridedSlice S1x8 ![7, 0] (gatesT (ldG (iblk m c 4 t) 32 inb_S64x128_S8x128_32_0) (iblk m c 5 t)) slices_S128x8_o7_0_S1x8) (extractStridedSlice S8x1 ![0, 7] (gates (ldG (iblk m c 4 t) 32 inb_S64x128_S8x128_32_0) (iblk m c 5 t)) slices_S8x128_o0_7_S8x1) (ld1 (iblk m c 9 t) 4 3 inb_S1x8x4_S1x1x1_0_4_3) (ldK (iblk m c 1 t) 32 384 inb_S64x512_S8x128_32_384) (ld3 (iblk m c 8 t) 4 3 inb_S8x4x128_S1x1x128_4_3_0)) _ y q a _ rfl (by decide) q.isLt h19 ?_ ?_ ?_
  · rfl
  · intro e1 e2
    exact headN m c t y q b hb 4 3 32 7 384 e1 e2 rfl rfl rfl _ _ _ _ _ _ _ _ a
  intro h18
  refine n_store 18 4 2 _ _ (newN (extractStridedSlice S8x1 ![0, 2] (gates (ldG (iblk m c 4 t) 32 inb_S64x128_S8x128_32_0) (iblk m c 5 t)) slices_S8x128_o0_2_S8x1) (extractStridedSlice S1x8 ![2, 0] (gatesT (ldG (iblk m c 4 t) 32 inb_S64x128_S8x128_32_0) (iblk m c 5 t)) slices_S128x8_o2_0_S1x8) (extractStridedSlice S1x8 ![6, 0] (gatesT (ldG (iblk m c 4 t) 32 inb_S64x128_S8x128_32_0) (iblk m c 5 t)) slices_S128x8_o6_0_S1x8) (extractStridedSlice S8x1 ![0, 6] (gates (ldG (iblk m c 4 t) 32 inb_S64x128_S8x128_32_0) (iblk m c 5 t)) slices_S8x128_o0_6_S8x1) (ld1 (iblk m c 9 t) 4 2 inb_S1x8x4_S1x1x1_0_4_2) (ldK (iblk m c 1 t) 32 256 inb_S64x512_S8x128_32_256) (ld3 (iblk m c 8 t) 4 2 inb_S8x4x128_S1x1x128_4_2_0)) _ y q a _ rfl (by decide) q.isLt h18 ?_ ?_ ?_
  · rfl
  · intro e1 e2
    exact headN m c t y q b hb 4 2 32 6 256 e1 e2 rfl rfl rfl _ _ _ _ _ _ _ _ a
  intro h17
  refine n_store 17 4 1 _ _ (newN (extractStridedSlice S8x1 ![0, 1] (gates (ldG (iblk m c 4 t) 32 inb_S64x128_S8x128_32_0) (iblk m c 5 t)) slices_S8x128_o0_1_S8x1) (extractStridedSlice S1x8 ![1, 0] (gatesT (ldG (iblk m c 4 t) 32 inb_S64x128_S8x128_32_0) (iblk m c 5 t)) slices_S128x8_o1_0_S1x8) (extractStridedSlice S1x8 ![5, 0] (gatesT (ldG (iblk m c 4 t) 32 inb_S64x128_S8x128_32_0) (iblk m c 5 t)) slices_S128x8_o5_0_S1x8) (extractStridedSlice S8x1 ![0, 5] (gates (ldG (iblk m c 4 t) 32 inb_S64x128_S8x128_32_0) (iblk m c 5 t)) slices_S8x128_o0_5_S8x1) (ld1 (iblk m c 9 t) 4 1 inb_S1x8x4_S1x1x1_0_4_1) (ldK (iblk m c 1 t) 32 128 inb_S64x512_S8x128_32_128) (ld3 (iblk m c 8 t) 4 1 inb_S8x4x128_S1x1x128_4_1_0)) _ y q a _ rfl (by decide) q.isLt h17 ?_ ?_ ?_
  · rfl
  · intro e1 e2
    exact headN m c t y q b hb 4 1 32 5 128 e1 e2 rfl rfl rfl _ _ _ _ _ _ _ _ a
  intro h16
  refine n_store 16 4 0 _ _ (newN (extractStridedSlice S8x1 ![0, 0] (gates (ldG (iblk m c 4 t) 32 inb_S64x128_S8x128_32_0) (iblk m c 5 t)) slices_S8x128_o0_0_S8x1) (extractStridedSlice S1x8 ![0, 0] (gatesT (ldG (iblk m c 4 t) 32 inb_S64x128_S8x128_32_0) (iblk m c 5 t)) slices_S128x8_o0_0_S1x8) (extractStridedSlice S1x8 ![4, 0] (gatesT (ldG (iblk m c 4 t) 32 inb_S64x128_S8x128_32_0) (iblk m c 5 t)) slices_S128x8_o4_0_S1x8) (extractStridedSlice S8x1 ![0, 4] (gates (ldG (iblk m c 4 t) 32 inb_S64x128_S8x128_32_0) (iblk m c 5 t)) slices_S8x128_o0_4_S8x1) (ld1 (iblk m c 9 t) 4 0 inb_S1x8x4_S1x1x1_0_4_0) (ldK (iblk m c 1 t) 32 0 inb_S64x512_S8x128_32_0) (ld3 (iblk m c 8 t) 4 0 inb_S8x4x128_S1x1x128_4_0_0)) _ y q a _ rfl (by decide) q.isLt h16 ?_ ?_ ?_
  · rfl
  · intro e1 e2
    exact headN m c t y q b hb 4 0 32 4 0 e1 e2 rfl rfl rfl _ _ _ _ _ _ _ _ a
  intro h15
  refine n_store 15 3 3 _ _ (newN (extractStridedSlice S8x1 ![0, 3] (gates (ldG (iblk m c 4 t) 24 inb_S64x128_S8x128_24_0) (iblk m c 5 t)) slices_S8x128_o0_3_S8x1) (extractStridedSlice S1x8 ![3, 0] (gatesT (ldG (iblk m c 4 t) 24 inb_S64x128_S8x128_24_0) (iblk m c 5 t)) slices_S128x8_o3_0_S1x8) (extractStridedSlice S1x8 ![7, 0] (gatesT (ldG (iblk m c 4 t) 24 inb_S64x128_S8x128_24_0) (iblk m c 5 t)) slices_S128x8_o7_0_S1x8) (extractStridedSlice S8x1 ![0, 7] (gates (ldG (iblk m c 4 t) 24 inb_S64x128_S8x128_24_0) (iblk m c 5 t)) slices_S8x128_o0_7_S8x1) (ld1 (iblk m c 9 t) 3 3 inb_S1x8x4_S1x1x1_0_3_3) (ldK (iblk m c 1 t) 24 384 inb_S64x512_S8x128_24_384) (ld3 (iblk m c 8 t) 3 3 inb_S8x4x128_S1x1x128_3_3_0)) _ y q a _ rfl (by decide) q.isLt h15 ?_ ?_ ?_
  · rfl
  · intro e1 e2
    exact headN m c t y q b hb 3 3 24 7 384 e1 e2 rfl rfl rfl _ _ _ _ _ _ _ _ a
  intro h14
  refine n_store 14 3 2 _ _ (newN (extractStridedSlice S8x1 ![0, 2] (gates (ldG (iblk m c 4 t) 24 inb_S64x128_S8x128_24_0) (iblk m c 5 t)) slices_S8x128_o0_2_S8x1) (extractStridedSlice S1x8 ![2, 0] (gatesT (ldG (iblk m c 4 t) 24 inb_S64x128_S8x128_24_0) (iblk m c 5 t)) slices_S128x8_o2_0_S1x8) (extractStridedSlice S1x8 ![6, 0] (gatesT (ldG (iblk m c 4 t) 24 inb_S64x128_S8x128_24_0) (iblk m c 5 t)) slices_S128x8_o6_0_S1x8) (extractStridedSlice S8x1 ![0, 6] (gates (ldG (iblk m c 4 t) 24 inb_S64x128_S8x128_24_0) (iblk m c 5 t)) slices_S8x128_o0_6_S8x1) (ld1 (iblk m c 9 t) 3 2 inb_S1x8x4_S1x1x1_0_3_2) (ldK (iblk m c 1 t) 24 256 inb_S64x512_S8x128_24_256) (ld3 (iblk m c 8 t) 3 2 inb_S8x4x128_S1x1x128_3_2_0)) _ y q a _ rfl (by decide) q.isLt h14 ?_ ?_ ?_
  · rfl
  · intro e1 e2
    exact headN m c t y q b hb 3 2 24 6 256 e1 e2 rfl rfl rfl _ _ _ _ _ _ _ _ a
  intro h13
  refine n_store 13 3 1 _ _ (newN (extractStridedSlice S8x1 ![0, 1] (gates (ldG (iblk m c 4 t) 24 inb_S64x128_S8x128_24_0) (iblk m c 5 t)) slices_S8x128_o0_1_S8x1) (extractStridedSlice S1x8 ![1, 0] (gatesT (ldG (iblk m c 4 t) 24 inb_S64x128_S8x128_24_0) (iblk m c 5 t)) slices_S128x8_o1_0_S1x8) (extractStridedSlice S1x8 ![5, 0] (gatesT (ldG (iblk m c 4 t) 24 inb_S64x128_S8x128_24_0) (iblk m c 5 t)) slices_S128x8_o5_0_S1x8) (extractStridedSlice S8x1 ![0, 5] (gates (ldG (iblk m c 4 t) 24 inb_S64x128_S8x128_24_0) (iblk m c 5 t)) slices_S8x128_o0_5_S8x1) (ld1 (iblk m c 9 t) 3 1 inb_S1x8x4_S1x1x1_0_3_1) (ldK (iblk m c 1 t) 24 128 inb_S64x512_S8x128_24_128) (ld3 (iblk m c 8 t) 3 1 inb_S8x4x128_S1x1x128_3_1_0)) _ y q a _ rfl (by decide) q.isLt h13 ?_ ?_ ?_
  · rfl
  · intro e1 e2
    exact headN m c t y q b hb 3 1 24 5 128 e1 e2 rfl rfl rfl _ _ _ _ _ _ _ _ a
  intro h12
  refine n_store 12 3 0 _ _ (newN (extractStridedSlice S8x1 ![0, 0] (gates (ldG (iblk m c 4 t) 24 inb_S64x128_S8x128_24_0) (iblk m c 5 t)) slices_S8x128_o0_0_S8x1) (extractStridedSlice S1x8 ![0, 0] (gatesT (ldG (iblk m c 4 t) 24 inb_S64x128_S8x128_24_0) (iblk m c 5 t)) slices_S128x8_o0_0_S1x8) (extractStridedSlice S1x8 ![4, 0] (gatesT (ldG (iblk m c 4 t) 24 inb_S64x128_S8x128_24_0) (iblk m c 5 t)) slices_S128x8_o4_0_S1x8) (extractStridedSlice S8x1 ![0, 4] (gates (ldG (iblk m c 4 t) 24 inb_S64x128_S8x128_24_0) (iblk m c 5 t)) slices_S8x128_o0_4_S8x1) (ld1 (iblk m c 9 t) 3 0 inb_S1x8x4_S1x1x1_0_3_0) (ldK (iblk m c 1 t) 24 0 inb_S64x512_S8x128_24_0) (ld3 (iblk m c 8 t) 3 0 inb_S8x4x128_S1x1x128_3_0_0)) _ y q a _ rfl (by decide) q.isLt h12 ?_ ?_ ?_
  · rfl
  · intro e1 e2
    exact headN m c t y q b hb 3 0 24 4 0 e1 e2 rfl rfl rfl _ _ _ _ _ _ _ _ a
  intro h11
  refine n_store 11 2 3 _ _ (newN (extractStridedSlice S8x1 ![0, 3] (gates (ldG (iblk m c 4 t) 16 inb_S64x128_S8x128_16_0) (iblk m c 5 t)) slices_S8x128_o0_3_S8x1) (extractStridedSlice S1x8 ![3, 0] (gatesT (ldG (iblk m c 4 t) 16 inb_S64x128_S8x128_16_0) (iblk m c 5 t)) slices_S128x8_o3_0_S1x8) (extractStridedSlice S1x8 ![7, 0] (gatesT (ldG (iblk m c 4 t) 16 inb_S64x128_S8x128_16_0) (iblk m c 5 t)) slices_S128x8_o7_0_S1x8) (extractStridedSlice S8x1 ![0, 7] (gates (ldG (iblk m c 4 t) 16 inb_S64x128_S8x128_16_0) (iblk m c 5 t)) slices_S8x128_o0_7_S8x1) (ld1 (iblk m c 9 t) 2 3 inb_S1x8x4_S1x1x1_0_2_3) (ldK (iblk m c 1 t) 16 384 inb_S64x512_S8x128_16_384) (ld3 (iblk m c 8 t) 2 3 inb_S8x4x128_S1x1x128_2_3_0)) _ y q a _ rfl (by decide) q.isLt h11 ?_ ?_ ?_
  · rfl
  · intro e1 e2
    exact headN m c t y q b hb 2 3 16 7 384 e1 e2 rfl rfl rfl _ _ _ _ _ _ _ _ a
  intro h10
  refine n_store 10 2 2 _ _ (newN (extractStridedSlice S8x1 ![0, 2] (gates (ldG (iblk m c 4 t) 16 inb_S64x128_S8x128_16_0) (iblk m c 5 t)) slices_S8x128_o0_2_S8x1) (extractStridedSlice S1x8 ![2, 0] (gatesT (ldG (iblk m c 4 t) 16 inb_S64x128_S8x128_16_0) (iblk m c 5 t)) slices_S128x8_o2_0_S1x8) (extractStridedSlice S1x8 ![6, 0] (gatesT (ldG (iblk m c 4 t) 16 inb_S64x128_S8x128_16_0) (iblk m c 5 t)) slices_S128x8_o6_0_S1x8) (extractStridedSlice S8x1 ![0, 6] (gates (ldG (iblk m c 4 t) 16 inb_S64x128_S8x128_16_0) (iblk m c 5 t)) slices_S8x128_o0_6_S8x1) (ld1 (iblk m c 9 t) 2 2 inb_S1x8x4_S1x1x1_0_2_2) (ldK (iblk m c 1 t) 16 256 inb_S64x512_S8x128_16_256) (ld3 (iblk m c 8 t) 2 2 inb_S8x4x128_S1x1x128_2_2_0)) _ y q a _ rfl (by decide) q.isLt h10 ?_ ?_ ?_
  · rfl
  · intro e1 e2
    exact headN m c t y q b hb 2 2 16 6 256 e1 e2 rfl rfl rfl _ _ _ _ _ _ _ _ a
  intro h9
  refine n_store 9 2 1 _ _ (newN (extractStridedSlice S8x1 ![0, 1] (gates (ldG (iblk m c 4 t) 16 inb_S64x128_S8x128_16_0) (iblk m c 5 t)) slices_S8x128_o0_1_S8x1) (extractStridedSlice S1x8 ![1, 0] (gatesT (ldG (iblk m c 4 t) 16 inb_S64x128_S8x128_16_0) (iblk m c 5 t)) slices_S128x8_o1_0_S1x8) (extractStridedSlice S1x8 ![5, 0] (gatesT (ldG (iblk m c 4 t) 16 inb_S64x128_S8x128_16_0) (iblk m c 5 t)) slices_S128x8_o5_0_S1x8) (extractStridedSlice S8x1 ![0, 5] (gates (ldG (iblk m c 4 t) 16 inb_S64x128_S8x128_16_0) (iblk m c 5 t)) slices_S8x128_o0_5_S8x1) (ld1 (iblk m c 9 t) 2 1 inb_S1x8x4_S1x1x1_0_2_1) (ldK (iblk m c 1 t) 16 128 inb_S64x512_S8x128_16_128) (ld3 (iblk m c 8 t) 2 1 inb_S8x4x128_S1x1x128_2_1_0)) _ y q a _ rfl (by decide) q.isLt h9 ?_ ?_ ?_
  · rfl
  · intro e1 e2
    exact headN m c t y q b hb 2 1 16 5 128 e1 e2 rfl rfl rfl _ _ _ _ _ _ _ _ a
  intro h8
  refine n_store 8 2 0 _ _ (newN (extractStridedSlice S8x1 ![0, 0] (gates (ldG (iblk m c 4 t) 16 inb_S64x128_S8x128_16_0) (iblk m c 5 t)) slices_S8x128_o0_0_S8x1) (extractStridedSlice S1x8 ![0, 0] (gatesT (ldG (iblk m c 4 t) 16 inb_S64x128_S8x128_16_0) (iblk m c 5 t)) slices_S128x8_o0_0_S1x8) (extractStridedSlice S1x8 ![4, 0] (gatesT (ldG (iblk m c 4 t) 16 inb_S64x128_S8x128_16_0) (iblk m c 5 t)) slices_S128x8_o4_0_S1x8) (extractStridedSlice S8x1 ![0, 4] (gates (ldG (iblk m c 4 t) 16 inb_S64x128_S8x128_16_0) (iblk m c 5 t)) slices_S8x128_o0_4_S8x1) (ld1 (iblk m c 9 t) 2 0 inb_S1x8x4_S1x1x1_0_2_0) (ldK (iblk m c 1 t) 16 0 inb_S64x512_S8x128_16_0) (ld3 (iblk m c 8 t) 2 0 inb_S8x4x128_S1x1x128_2_0_0)) _ y q a _ rfl (by decide) q.isLt h8 ?_ ?_ ?_
  · rfl
  · intro e1 e2
    exact headN m c t y q b hb 2 0 16 4 0 e1 e2 rfl rfl rfl _ _ _ _ _ _ _ _ a
  intro h7
  refine n_store 7 1 3 _ _ (newN (extractStridedSlice S8x1 ![0, 3] (gates (ldG (iblk m c 4 t) 8 inb_S64x128_S8x128_8_0) (iblk m c 5 t)) slices_S8x128_o0_3_S8x1) (extractStridedSlice S1x8 ![3, 0] (gatesT (ldG (iblk m c 4 t) 8 inb_S64x128_S8x128_8_0) (iblk m c 5 t)) slices_S128x8_o3_0_S1x8) (extractStridedSlice S1x8 ![7, 0] (gatesT (ldG (iblk m c 4 t) 8 inb_S64x128_S8x128_8_0) (iblk m c 5 t)) slices_S128x8_o7_0_S1x8) (extractStridedSlice S8x1 ![0, 7] (gates (ldG (iblk m c 4 t) 8 inb_S64x128_S8x128_8_0) (iblk m c 5 t)) slices_S8x128_o0_7_S8x1) (ld1 (iblk m c 9 t) 1 3 inb_S1x8x4_S1x1x1_0_1_3) (ldK (iblk m c 1 t) 8 384 inb_S64x512_S8x128_8_384) (ld3 (iblk m c 8 t) 1 3 inb_S8x4x128_S1x1x128_1_3_0)) _ y q a _ rfl (by decide) q.isLt h7 ?_ ?_ ?_
  · rfl
  · intro e1 e2
    exact headN m c t y q b hb 1 3 8 7 384 e1 e2 rfl rfl rfl _ _ _ _ _ _ _ _ a
  intro h6
  refine n_store 6 1 2 _ _ (newN (extractStridedSlice S8x1 ![0, 2] (gates (ldG (iblk m c 4 t) 8 inb_S64x128_S8x128_8_0) (iblk m c 5 t)) slices_S8x128_o0_2_S8x1) (extractStridedSlice S1x8 ![2, 0] (gatesT (ldG (iblk m c 4 t) 8 inb_S64x128_S8x128_8_0) (iblk m c 5 t)) slices_S128x8_o2_0_S1x8) (extractStridedSlice S1x8 ![6, 0] (gatesT (ldG (iblk m c 4 t) 8 inb_S64x128_S8x128_8_0) (iblk m c 5 t)) slices_S128x8_o6_0_S1x8) (extractStridedSlice S8x1 ![0, 6] (gates (ldG (iblk m c 4 t) 8 inb_S64x128_S8x128_8_0) (iblk m c 5 t)) slices_S8x128_o0_6_S8x1) (ld1 (iblk m c 9 t) 1 2 inb_S1x8x4_S1x1x1_0_1_2) (ldK (iblk m c 1 t) 8 256 inb_S64x512_S8x128_8_256) (ld3 (iblk m c 8 t) 1 2 inb_S8x4x128_S1x1x128_1_2_0)) _ y q a _ rfl (by decide) q.isLt h6 ?_ ?_ ?_
  · rfl
  · intro e1 e2
    exact headN m c t y q b hb 1 2 8 6 256 e1 e2 rfl rfl rfl _ _ _ _ _ _ _ _ a
  intro h5
  refine n_store 5 1 1 _ _ (newN (extractStridedSlice S8x1 ![0, 1] (gates (ldG (iblk m c 4 t) 8 inb_S64x128_S8x128_8_0) (iblk m c 5 t)) slices_S8x128_o0_1_S8x1) (extractStridedSlice S1x8 ![1, 0] (gatesT (ldG (iblk m c 4 t) 8 inb_S64x128_S8x128_8_0) (iblk m c 5 t)) slices_S128x8_o1_0_S1x8) (extractStridedSlice S1x8 ![5, 0] (gatesT (ldG (iblk m c 4 t) 8 inb_S64x128_S8x128_8_0) (iblk m c 5 t)) slices_S128x8_o5_0_S1x8) (extractStridedSlice S8x1 ![0, 5] (gates (ldG (iblk m c 4 t) 8 inb_S64x128_S8x128_8_0) (iblk m c 5 t)) slices_S8x128_o0_5_S8x1) (ld1 (iblk m c 9 t) 1 1 inb_S1x8x4_S1x1x1_0_1_1) (ldK (iblk m c 1 t) 8 128 inb_S64x512_S8x128_8_128) (ld3 (iblk m c 8 t) 1 1 inb_S8x4x128_S1x1x128_1_1_0)) _ y q a _ rfl (by decide) q.isLt h5 ?_ ?_ ?_
  · rfl
  · intro e1 e2
    exact headN m c t y q b hb 1 1 8 5 128 e1 e2 rfl rfl rfl _ _ _ _ _ _ _ _ a
  intro h4
  refine n_store 4 1 0 _ _ (newN (extractStridedSlice S8x1 ![0, 0] (gates (ldG (iblk m c 4 t) 8 inb_S64x128_S8x128_8_0) (iblk m c 5 t)) slices_S8x128_o0_0_S8x1) (extractStridedSlice S1x8 ![0, 0] (gatesT (ldG (iblk m c 4 t) 8 inb_S64x128_S8x128_8_0) (iblk m c 5 t)) slices_S128x8_o0_0_S1x8) (extractStridedSlice S1x8 ![4, 0] (gatesT (ldG (iblk m c 4 t) 8 inb_S64x128_S8x128_8_0) (iblk m c 5 t)) slices_S128x8_o4_0_S1x8) (extractStridedSlice S8x1 ![0, 4] (gates (ldG (iblk m c 4 t) 8 inb_S64x128_S8x128_8_0) (iblk m c 5 t)) slices_S8x128_o0_4_S8x1) (ld1 (iblk m c 9 t) 1 0 inb_S1x8x4_S1x1x1_0_1_0) (ldK (iblk m c 1 t) 8 0 inb_S64x512_S8x128_8_0) (ld3 (iblk m c 8 t) 1 0 inb_S8x4x128_S1x1x128_1_0_0)) _ y q a _ rfl (by decide) q.isLt h4 ?_ ?_ ?_
  · rfl
  · intro e1 e2
    exact headN m c t y q b hb 1 0 8 4 0 e1 e2 rfl rfl rfl _ _ _ _ _ _ _ _ a
  intro h3
  refine n_store 3 0 3 _ _ (newN (extractStridedSlice S8x1 ![0, 3] (gates (ldG (iblk m c 4 t) 0 inb_S64x128_S8x128_0_0) (iblk m c 5 t)) slices_S8x128_o0_3_S8x1) (extractStridedSlice S1x8 ![3, 0] (gatesT (ldG (iblk m c 4 t) 0 inb_S64x128_S8x128_0_0) (iblk m c 5 t)) slices_S128x8_o3_0_S1x8) (extractStridedSlice S1x8 ![7, 0] (gatesT (ldG (iblk m c 4 t) 0 inb_S64x128_S8x128_0_0) (iblk m c 5 t)) slices_S128x8_o7_0_S1x8) (extractStridedSlice S8x1 ![0, 7] (gates (ldG (iblk m c 4 t) 0 inb_S64x128_S8x128_0_0) (iblk m c 5 t)) slices_S8x128_o0_7_S8x1) (ld1 (iblk m c 9 t) 0 3 inb_S1x8x4_S1x1x1_0_0_3) (ldK (iblk m c 1 t) 0 384 inb_S64x512_S8x128_0_384) (ld3 (iblk m c 8 t) 0 3 inb_S8x4x128_S1x1x128_0_3_0)) _ y q a _ rfl (by decide) q.isLt h3 ?_ ?_ ?_
  · rfl
  · intro e1 e2
    exact headN m c t y q b hb 0 3 0 7 384 e1 e2 rfl rfl rfl _ _ _ _ _ _ _ _ a
  intro h2
  refine n_store 2 0 2 _ _ (newN (extractStridedSlice S8x1 ![0, 2] (gates (ldG (iblk m c 4 t) 0 inb_S64x128_S8x128_0_0) (iblk m c 5 t)) slices_S8x128_o0_2_S8x1) (extractStridedSlice S1x8 ![2, 0] (gatesT (ldG (iblk m c 4 t) 0 inb_S64x128_S8x128_0_0) (iblk m c 5 t)) slices_S128x8_o2_0_S1x8) (extractStridedSlice S1x8 ![6, 0] (gatesT (ldG (iblk m c 4 t) 0 inb_S64x128_S8x128_0_0) (iblk m c 5 t)) slices_S128x8_o6_0_S1x8) (extractStridedSlice S8x1 ![0, 6] (gates (ldG (iblk m c 4 t) 0 inb_S64x128_S8x128_0_0) (iblk m c 5 t)) slices_S8x128_o0_6_S8x1) (ld1 (iblk m c 9 t) 0 2 inb_S1x8x4_S1x1x1_0_0_2) (ldK (iblk m c 1 t) 0 256 inb_S64x512_S8x128_0_256) (ld3 (iblk m c 8 t) 0 2 inb_S8x4x128_S1x1x128_0_2_0)) _ y q a _ rfl (by decide) q.isLt h2 ?_ ?_ ?_
  · rfl
  · intro e1 e2
    exact headN m c t y q b hb 0 2 0 6 256 e1 e2 rfl rfl rfl _ _ _ _ _ _ _ _ a
  intro h1
  refine n_store 1 0 1 _ _ (newN (extractStridedSlice S8x1 ![0, 1] (gates (ldG (iblk m c 4 t) 0 inb_S64x128_S8x128_0_0) (iblk m c 5 t)) slices_S8x128_o0_1_S8x1) (extractStridedSlice S1x8 ![1, 0] (gatesT (ldG (iblk m c 4 t) 0 inb_S64x128_S8x128_0_0) (iblk m c 5 t)) slices_S128x8_o1_0_S1x8) (extractStridedSlice S1x8 ![5, 0] (gatesT (ldG (iblk m c 4 t) 0 inb_S64x128_S8x128_0_0) (iblk m c 5 t)) slices_S128x8_o5_0_S1x8) (extractStridedSlice S8x1 ![0, 5] (gates (ldG (iblk m c 4 t) 0 inb_S64x128_S8x128_0_0) (iblk m c 5 t)) slices_S8x128_o0_5_S8x1) (ld1 (iblk m c 9 t) 0 1 inb_S1x8x4_S1x1x1_0_0_1) (ldK (iblk m c 1 t) 0 128 inb_S64x512_S8x128_0_128) (ld3 (iblk m c 8 t) 0 1 inb_S8x4x128_S1x1x128_0_1_0)) _ y q a _ rfl (by decide) q.isLt h1 ?_ ?_ ?_
  · rfl
  · intro e1 e2
    exact headN m c t y q b hb 0 1 0 5 128 e1 e2 rfl rfl rfl _ _ _ _ _ _ _ _ a
  intro h0
  refine n_store 0 0 0 _ _ (newN (extractStridedSlice S8x1 ![0, 0] (gates (ldG (iblk m c 4 t) 0 inb_S64x128_S8x128_0_0) (iblk m c 5 t)) slices_S8x128_o0_0_S8x1) (extractStridedSlice S1x8 ![0, 0] (gatesT (ldG (iblk m c 4 t) 0 inb_S64x128_S8x128_0_0) (iblk m c 5 t)) slices_S128x8_o0_0_S1x8) (extractStridedSlice S1x8 ![4, 0] (gatesT (ldG (iblk m c 4 t) 0 inb_S64x128_S8x128_0_0) (iblk m c 5 t)) slices_S128x8_o4_0_S1x8) (extractStridedSlice S8x1 ![0, 4] (gates (ldG (iblk m c 4 t) 0 inb_S64x128_S8x128_0_0) (iblk m c 5 t)) slices_S8x128_o0_4_S8x1) (ld1 (iblk m c 9 t) 0 0 inb_S1x8x4_S1x1x1_0_0_0) (ldK (iblk m c 1 t) 0 0 inb_S64x512_S8x128_0_0) (ld3 (iblk m c 8 t) 0 0 inb_S8x4x128_S1x1x128_0_0_0)) _ y q a _ rfl (by decide) q.isLt h0 ?_ ?_ ?_
  · rfl
  · intro e1 e2
    exact headN m c t y q b hb 0 0 0 4 0 e1 e2 rfl rfl rfl _ _ _ _ _ _ _ _ a
  intro hz
  omega

/-- The array of them. -/
def arrN : FVec Ideal S128x4x128 .f32 := fun j => normOf m c (j 0) (j 1) (j 2)

theorem arr_n : (dats m 0 c).arrAt 12 cfg0.N = arrN m c := by
  refine (dats m 0 c).arrAt_eq_of_covers 12 _ (by decide +kernel) fun t hf y => ?_
  have ht := lt_of_lt_of_eq t.isLt gridN
  have hy : (y 0).val < 8 := (y 0).isLt
  obtain ⟨b, hb⟩ : ∃ b : Fin 128, b.val = 8 * t.val + (y 0).val := ⟨⟨8 * t.val + (y 0).val, by omega⟩, rfl⟩
  have hX : arrN m c (((View.whole main_v9_2).slice (win0_12.rect t)).emb y) = normOf m c b (y 1) (y 2) := by
    unfold arrN
    congr 1 <;> apply Fin.ext
    · rw [hb]
      blk_simp [idx t]
      omega
    · blk_simp [idx t]
    · blk_simp [idx t]
  refine Eq.trans ?_ hX.symm
  clear hX
  blk_simp
  rw [after0_12]
  exact (congrArg (outsAt0 m c t).2.2.1 (ix3_eta_n y)).trans (blockN m c t _ _ _ b hb)

end Cert.MlstmSample

end
-- ==== Proof.MlsOutM.lean ====
/- The new maxima of the sample. -/
module

public import proofs.«01_k».proof.Proof.MlsLoad

@[expose] public section

set_option maxRecDepth 16384

noncomputable section

open Idealize.ShloMosaic Idealize.ShloMosaic.TcCoe Idealize.SL.Sem

namespace Cert.MlstmSample

open Cert.Kernel6Ideal Cert.Kernel6Ideal.Gen Cert.Kernel6Ideal.Block Cert.MlstmSpec

variable (m : (ℓ : Loc nD τ sig) → Buf (Elt Ideal) ℓ) (c : Dev nD)

theorem ix3_eta_m {A B C : ℕ} (y : (⟨3, ![A, B, C]⟩ : Shape).Idx) : y = ix3 (⟨(y 0).val, (y 0).isLt⟩ : Fin A) (⟨(y 1).val, (y 1).isLt⟩ : Fin B) (⟨(y 2).val, (y 2).isLt⟩ : Fin C) := by
  funext k
  match k with
  | ⟨0, _⟩ => rfl
  | ⟨1, _⟩ => rfl
  | ⟨2, _⟩ => rfl

set_option maxHeartbeats 4000000 in
/-- What a point leaves of them. -/
theorem blockM (t : Fin cfg0.N) (y : Fin 8) (q : Fin 4) (b : Fin 128) (hb : b.val = 8 * t.val + y.val) : (outsAt0 m c t).2.2.2 (ix3 0 y q) = topOf m c b q := by
  unfold outsAt0
  dsimp only
  frame_out
  refine m_store 31 7 3 _ _ (newM (extractStridedSlice S1x8 ![3, 0] (gatesT (ldG (iblk m c 4 t) 56 inb_S64x128_S8x128_56_0) (iblk m c 5 t)) slices_S128x8_o3_0_S1x8) (extractStridedSlice S1x8 ![7, 0] (gatesT (ldG (iblk m c 4 t) 56 inb_S64x128_S8x128_56_0) (iblk m c 5 t)) slices_S128x8_o7_0_S1x8) (extractStridedSlice S8x1 ![0, 7] (gates (ldG (iblk m c 4 t) 56 inb_S64x128_S8x128_56_0) (iblk m c 5 t)) slices_S8x128_o0_7_S8x1) (ld1 (iblk m c 9 t) 7 3 inb_S1x8x4_S1x1x1_0_7_3)) _ y q _ rfl (by decide) q.isLt (by omega) ?_ ?_ ?_
  · rfl
  · intro e1 e2
    exact headM m c t y q b hb 7 3 56 7 e1 e2 rfl rfl _ slices_S8x128_o0_3_S8x1 _ _ _ _
  intro h30
  refine m_store 30 7 2 _ _ (newM (extractStridedSlice S1x8 ![2, 0] (gatesT (ldG (iblk m c 4 t) 56 inb_S64x128_S8x128_56_0) (iblk m c 5 t)) slices_S128x8_o2_0_S1x8) (extractStridedSlice S1x8 ![6, 0] (gatesT (ldG (iblk m c 4 t) 56 inb_S64x128_S8x128_56_0) (iblk m c 5 t)) slices_S128x8_o6_0_S1x8) (extractStridedSlice S8x1 ![0, 6] (gates (ldG (iblk m c 4 t) 56 inb_S64x128_S8x128_56_0) (iblk m c 5 t)) slices_S8x128_o0_6_S8x1) (ld1 (iblk m c 9 t) 7 2 inb_S1x8x4_S1x1x1_0_7_2)) _ y q _ rfl (by decide) q.isLt h30 ?_ ?_ ?_
  · rfl
  · intro e1 e2
    exact headM m c t y q b hb 7 2 56 6 e1 e2 rfl rfl _ slices_S8x128_o0_2_S8x1 _ _ _ _
  intro h29
  refine m_store 29 7 1 _ _ (newM (extractStridedSlice S1x8 ![1, 0] (gatesT (ldG (iblk m c 4 t) 56 inb_S64x128_S8x128_56_0) (iblk m c 5 t)) slices_S128x8_o1_0_S1x8) (extractStridedSlice S1x8 ![5, 0] (gatesT (ldG (iblk m c 4 t) 56 inb_S64x128_S8x128_56_0) (iblk m c 5 t)) slices_S128x8_o5_0_S1x8) (extractStridedSlice S8x1 ![0, 5] (gates (ldG (iblk m c 4 t) 56 inb_S64x128_S8x128_56_0) (iblk m c 5 t)) slices_S8x128_o0_5_S8x1) (ld1 (iblk m c 9 t) 7 1 inb_S1x8x4_S1x1x1_0_7_1)) _ y q _ rfl (by decide) q.isLt h29 ?_ ?_ ?_
  · rfl
  · intro e1 e2
    exact headM m c t y q b hb 7 1 56 5 e1 e2 rfl rfl _ slices_S8x128_o0_1_S8x1 _ _ _ _
  intro h28
  refine m_store 28 7 0 _ _ (newM (extractStridedSlice S1x8 ![0, 0] (gatesT (ldG (iblk m c 4 t) 56 inb_S64x128_S8x128_56_0) (iblk m c 5 t)) slices_S128x8_o0_0_S1x8) (extractStridedSlice S1x8 ![4, 0] (gatesT (ldG (iblk m c 4 t) 56 inb_S64x128_S8x128_56_0) (iblk m c 5 t)) slices_S128x8_o4_0_S1x8) (extractStridedSlice S8x1 ![0, 4] (gates (ldG (iblk m c 4 t) 56 inb_S64x128_S8x128_56_0) (iblk m c 5 t)) slices_S8x128_o0_4_S8x1) (ld1 (iblk m c 9 t) 7 0 inb_S1x8x4_S1x1x1_0_7_0)) _ y q _ rfl (by decide) q.isLt h28 ?_ ?_ ?_
  · rfl
  · intro e1 e2
    exact headM m c t y q b hb 7 0 56 4 e1 e2 rfl rfl _ slices_S8x128_o0_0_S8x1 _ _ _ _
  intro h27
  refine m_store 27 6 3 _ _ (newM (extractStridedSlice S1x8 ![3, 0] (gatesT (ldG (iblk m c 4 t) 48 inb_S64x128_S8x128_48_0) (iblk m c 5 t)) slices_S128x8_o3_0_S1x8) (extractStridedSlice S1x8 ![7, 0] (gatesT (ldG (iblk m c 4 t) 48 inb_S64x128_S8x128_48_0) (iblk m c 5 t)) slices_S128x8_o7_0_S1x8) (extractStridedSlice S8x1 ![0, 7] (gates (ldG (iblk m c 4 t) 48 inb_S64x128_S8x128_48_0) (iblk m c 5 t)) slices_S8x128_o0_7_S8x1) (ld1 (iblk m c 9 t) 6 3 inb_S1x8x4_S1x1x1_0_6_3)) _ y q _ rfl (by decide) q.isLt h27 ?_ ?_ ?_
  · rfl
  · intro e1 e2
    exact headM m c t y q b hb 6 3 48 7 e1 e2 rfl rfl _ slices_S8x128_o0_3_S8x1 _ _ _ _
  intro h26
  refine m_store 26 6 2 _ _ (newM (extractStridedSlice S1x8 ![2, 0] (gatesT (ldG (iblk m c 4 t) 48 inb_S64x128_S8x128_48_0) (iblk m c 5 t)) slices_S128x8_o2_0_S1x8) (extractStridedSlice S1x8 ![6, 0] (gatesT (ldG (iblk m c 4 t) 48 inb_S64x128_S8x128_48_0) (iblk m c 5 t)) slices_S128x8_o6_0_S1x8) (extractStridedSlice S8x1 ![0, 6] (gates (ldG (iblk m c 4 t) 48 inb_S64x128_S8x128_48_0) (iblk m c 5 t)) slices_S8x128_o0_6_S8x1) (ld1 (iblk m c 9 t) 6 2 inb_S1x8x4_S1x1x1_0_6_2)) _ y q _ rfl (by decide) q.isLt h26 ?_ ?_ ?_
  · rfl
  · intro e1 e2
    exact headM m c t y q b hb 6 2 48 6 e1 e2 rfl rfl _ slices_S8x128_o0_2_S8x1 _ _ _ _
  intro h25
  refine m_store 25 6 1 _ _ (newM (extractStridedSlice S1x8 ![1, 0] (gatesT (ldG (iblk m c 4 t) 48 inb_S64x128_S8x128_48_0) (iblk m c 5 t)) slices_S128x8_o1_0_S1x8) (extractStridedSlice S1x8 ![5, 0] (gatesT (ldG (iblk m c 4 t) 48 inb_S64x128_S8x128_48_0) (iblk m c 5 t)) slices_S128x8_o5_0_S1x8) (extractStridedSlice S8x1 ![0, 5] (gates (ldG (iblk m c 4 t) 48 inb_S64x128_S8x128_48_0) (iblk m c 5 t)) slices_S8x128_o0_5_S8x1) (ld1 (iblk m c 9 t) 6 1 inb_S1x8x4_S1x1x1_0_6_1)) _ y q _ rfl (by decide) q.isLt h25 ?_ ?_ ?_
  · rfl
  · intro e1 e2
    exact headM m c t y q b hb 6 1 48 5 e1 e2 rfl rfl _ slices_S8x128_o0_1_S8x1 _ _ _ _
  intro h24
  refine m_store 24 6 0 _ _ (newM (extractStridedSlice S1x8 ![0, 0] (gatesT (ldG (iblk m c 4 t) 48 inb_S64x128_S8x128_48_0) (iblk m c 5 t)) slices_S128x8_o0_0_S1x8) (extractStridedSlice S1x8 ![4, 0] (gatesT (ldG (iblk m c 4 t) 48 inb_S64x128_S8x128_48_0) (iblk m c 5 t)) slices_S128x8_o4_0_S1x8) (extractStridedSlice S8x1 ![0, 4] (gates (ldG (iblk m c 4 t) 48 inb_S64x128_S8x128_48_0) (iblk m c 5 t)) slices_S8x128_o0_4_S8x1) (ld1 (iblk m c 9 t) 6 0 inb_S1x8x4_S1x1x1_0_6_0)) _ y q _ rfl (by decide) q.isLt h24 ?_ ?_ ?_
  · rfl
  · intro e1 e2
    exact headM m c t y q b hb 6 0 48 4 e1 e2 rfl rfl _ slices_S8x128_o0_0_S8x1 _ _ _ _
  intro h23
  refine m_store 23 5 3 _ _ (newM (extractStridedSlice S1x8 ![3, 0] (gatesT (ldG (iblk m c 4 t) 40 inb_S64x128_S8x128_40_0) (iblk m c 5 t)) slices_S128x8_o3_0_S1x8) (extractStridedSlice S1x8 ![7, 0] (gatesT (ldG (iblk m c 4 t) 40 inb_S64x128_S8x128_40_0) (iblk m c 5 t)) slices_S128x8_o7_0_S1x8) (extractStridedSlice S8x1 ![0, 7] (gates (ldG (iblk m c 4 t) 40 inb_S64x128_S8x128_40_0) (iblk m c 5 t)) slices_S8x128_o0_7_S8x1) (ld1 (iblk m c 9 t) 5 3 inb_S1x8x4_S1x1x1_0_5_3)) _ y q _ rfl (by decide) q.isLt h23 ?_ ?_ ?_
  · rfl
  · intro e1 e2
    exact headM m c t y q b hb 5 3 40 7 e1 e2 rfl rfl _ slices_S8x128_o0_3_S8x1 _ _ _ _
  intro h22
  refine m_store 22 5 2 _ _ (newM (extractStridedSlice S1x8 ![2, 0] (gatesT (ldG (iblk m c 4 t) 40 inb_S64x128_S8x128_40_0) (iblk m c 5 t)) slices_S128x8_o2_0_S1x8) (extractStridedSlice S1x8 ![6, 0] (gatesT (ldG (iblk m c 4 t) 40 inb_S64x128_S8x128_40_0) (iblk m c 5 t)) slices_S128x8_o6_0_S1x8) (extractStridedSlice S8x1 ![0, 6] (gates (ldG (iblk m c 4 t) 40 inb_S64x128_S8x128_40_0) (iblk m c 5 t)) slices_S8x128_o0_6_S8x1) (ld1 (iblk m c 9 t) 5 2 inb_S1x8x4_S1x1x1_0_5_2)) _ y q _ rfl (by decide) q.isLt h22 ?_ ?_ ?_
  · rfl
  · intro e1 e2
    exact headM m c t y q b hb 5 2 40 6 e1 e2 rfl rfl _ slices_S8x128_o0_2_S8x1 _ _ _ _
  intro h21
  refine m_store 21 5 1 _ _ (newM (extractStridedSlice S1x8 ![1, 0] (gatesT (ldG (iblk m c 4 t) 40 inb_S64x128_S8x128_40_0) (iblk m c 5 t)) slices_S128x8_o1_0_S1x8) (extractStridedSlice S1x8 ![5, 0] (gatesT (ldG (iblk m c 4 t) 40 inb_S64x128_S8x128_40_0) (iblk m c 5 t)) slices_S128x8_o5_0_S1x8) (extractStridedSlice S8x1 ![0, 5] (gates (ldG (iblk m c 4 t) 40 inb_S64x128_S8x128_40_0) (iblk m c 5 t)) slices_S8x128_o0_5_S8x1) (ld1 (iblk m c 9 t) 5 1 inb_S1x8x4_S1x1x1_0_5_1)) _ y q _ rfl (by decide) q.isLt h21 ?_ ?_ ?_
  · rfl
  · intro e1 e2
    exact headM m c t y q b hb 5 1 40 5 e1 e2 rfl rfl _ slices_S8x128_o0_1_S8x1 _ _ _ _
  intro h20
  refine m_store 20 5 0 _ _ (newM (extractStridedSlice S1x8 ![0, 0] (gatesT (ldG (iblk m c 4 t) 40 inb_S64x128_S8x128_40_0) (iblk m c 5 t)) slices_S128x8_o0_0_S1x8) (extractStridedSlice S1x8 ![4, 0] (gatesT (ldG (iblk m c 4 t) 40 inb_S64x128_S8x128_40_0) (iblk m c 5 t)) slices_S128x8_o4_0_S1x8) (extractStridedSlice S8x1 ![0, 4] (gates (ldG (iblk m c 4 t) 40 inb_S64x128_S8x128_40_0) (iblk m c 5 t)) slices_S8x128_o0_4_S8x1) (ld1 (iblk m c 9 t) 5 0 inb_S1x8x4_S1x1x1_0_5_0)) _ y q _ rfl (by decide) q.isLt h20 ?_ ?_ ?_
  · rfl
  · intro e1 e2
    exact headM m c t y q b hb 5 0 40 4 e1 e2 rfl rfl _ slices_S8x128_o0_0_S8x1 _ _ _ _
  intro h19
  refine m_store 19 4 3 _ _ (newM (extractStridedSlice S1x8 ![3, 0] (gatesT (ldG (iblk m c 4 t) 32 inb_S64x128_S8x128_32_0) (iblk m c 5 t)) slices_S128x8_o3_0_S1x8) (extractStridedSlice S1x8 ![7, 0] (gatesT (ldG (iblk m c 4 t) 32 inb_S64x128_S8x128_32_0) (iblk m c 5 t)) slices_S128x8_o7_0_S1x8) (extractStridedSlice S8x1 ![0, 7] (gates (ldG (iblk m c 4 t) 32 inb_S64x128_S8x128_32_0) (iblk m c 5 t)) slices_S8x128_o0_7_S8x1) (ld1 (iblk m c 9 t) 4 3 inb_S1x8x4_S1x1x1_0_4_3)) _ y q _ rfl (by decide) q.isLt h19 ?_ ?_ ?_
  · rfl
  · intro e1 e2
    exact headM m c t y q b hb 4 3 32 7 e1 e2 rfl rfl _ slices_S8x128_o0_3_S8x1 _ _ _ _
  intro h18
  refine m_store 18 4 2 _ _ (newM (extractStridedSlice S1x8 ![2, 0] (gatesT (ldG (iblk m c 4 t) 32 inb_S64x128_S8x128_32_0) (iblk m c 5 t)) slices_S128x8_o2_0_S1x8) (extractStridedSlice S1x8 ![6, 0] (gatesT (ldG (iblk m c 4 t) 32 inb_S64x128_S8x128_32_0) (iblk m c 5 t)) slices_S128x8_o6_0_S1x8) (extractStridedSlice S8x1 ![0, 6] (gates (ldG (iblk m c 4 t) 32 inb_S64x128_S8x128_32_0) (iblk m c 5 t)) slices_S8x128_o0_6_S8x1) (ld1 (iblk m c 9 t) 4 2 inb_S1x8x4_S1x1x1_0_4_2)) _ y q _ rfl (by decide) q.isLt h18 ?_ ?_ ?_
  · rfl
  · intro e1 e2
    exact headM m c t y q b hb 4 2 32 6 e1 e2 rfl rfl _ slices_S8x128_o0_2_S8x1 _ _ _ _
  intro h17
  refine m_store 17 4 1 _ _ (newM (extractStridedSlice S1x8 ![1, 0] (gatesT (ldG (iblk m c 4 t) 32 inb_S64x128_S8x128_32_0) (iblk m c 5 t)) slices_S128x8_o1_0_S1x8) (extractStridedSlice S1x8 ![5, 0] (gatesT (ldG (iblk m c 4 t) 32 inb_S64x128_S8x128_32_0) (iblk m c 5 t)) slices_S128x8_o5_0_S1x8) (extractStridedSlice S8x1 ![0, 5] (gates (ldG (iblk m c 4 t) 32 inb_S64x128_S8x128_32_0) (iblk m c 5 t)) slices_S8x128_o0_5_S8x1) (ld1 (iblk m c 9 t) 4 1 inb_S1x8x4_S1x1x1_0_4_1)) _ y q _ rfl (by decide) q.isLt h17 ?_ ?_ ?_
  · rfl
  · intro e1 e2
    exact headM m c t y q b hb 4 1 32 5 e1 e2 rfl rfl _ slices_S8x128_o0_1_S8x1 _ _ _ _
  intro h16
  refine m_store 16 4 0 _ _ (newM (extractStridedSlice S1x8 ![0, 0] (gatesT (ldG (iblk m c 4 t) 32 inb_S64x128_S8x128_32_0) (iblk m c 5 t)) slices_S128x8_o0_0_S1x8) (extractStridedSlice S1x8 ![4, 0] (gatesT (ldG (iblk m c 4 t) 32 inb_S64x128_S8x128_32_0) (iblk m c 5 t)) slices_S128x8_o4_0_S1x8) (extractStridedSlice S8x1 ![0, 4] (gates (ldG (iblk m c 4 t) 32 inb_S64x128_S8x128_32_0) (iblk m c 5 t)) slices_S8x128_o0_4_S8x1) (ld1 (iblk m c 9 t) 4 0 inb_S1x8x4_S1x1x1_0_4_0)) _ y q _ rfl (by decide) q.isLt h16 ?_ ?_ ?_
  · rfl
  · intro e1 e2
    exact headM m c t y q b hb 4 0 32 4 e1 e2 rfl rfl _ slices_S8x128_o0_0_S8x1 _ _ _ _
  intro h15
  refine m_store 15 3 3 _ _ (newM (extractStridedSlice S1x8 ![3, 0] (gatesT (ldG (iblk m c 4 t) 24 inb_S64x128_S8x128_24_0) (iblk m c 5 t)) slices_S128x8_o3_0_S1x8) (extractStridedSlice S1x8 ![7, 0] (gatesT (ldG (iblk m c 4 t) 24 inb_S64x128_S8x128_24_0) (iblk m c 5 t)) slices_S128x8_o7_0_S1x8) (extractStridedSlice S8x1 ![0, 7] (gates (ldG (iblk m c 4 t) 24 inb_S64x128_S8x128_24_0) (iblk m c 5 t)) slices_S8x128_o0_7_S8x1) (ld1 (iblk m c 9 t) 3 3 inb_S1x8x4_S1x1x1_0_3_3)) _ y q _ rfl (by decide) q.isLt h15 ?_ ?_ ?_
  · rfl
  · intro e1 e2
    exact headM m c t y q b hb 3 3 24 7 e1 e2 rfl rfl _ slices_S8x128_o0_3_S8x1 _ _ _ _
  intro h14
  refine m_store 14 3 2 _ _ (newM (extractStridedSlice S1x8 ![2, 0] (gatesT (ldG (iblk m c 4 t) 24 inb_S64x128_S8x128_24_0) (iblk m c 5 t)) slices_S128x8_o2_0_S1x8) (extractStridedSlice S1x8 ![6, 0] (gatesT (ldG (iblk m c 4 t) 24 inb_S64x128_S8x128_24_0) (iblk m c 5 t)) slices_S128x8_o6_0_S1x8) (extractStridedSlice S8x1 ![0, 6] (gates (ldG (iblk m c 4 t) 24 inb_S64x128_S8x128_24_0) (iblk m c 5 t)) slices_S8x128_o0_6_S8x1) (ld1 (iblk m c 9 t) 3 2 inb_S1x8x4_S1x1x1_0_3_2)) _ y q _ rfl (by decide) q.isLt h14 ?_ ?_ ?_
  · rfl
  · intro e1 e2
    exact headM m c t y q b hb 3 2 24 6 e1 e2 rfl rfl _ slices_S8x128_o0_2_S8x1 _ _ _ _
  intro h13
  refine m_store 13 3 1 _ _ (newM (extractStridedSlice S1x8 ![1, 0] (gatesT (ldG (iblk m c 4 t) 24 inb_S64x128_S8x128_24_0) (iblk m c 5 t)) slices_S128x8_o1_0_S1x8) (extractStridedSlice S1x8 ![5, 0] (gatesT (ldG (iblk m c 4 t) 24 inb_S64x128_S8x128_24_0) (iblk m c 5 t)) slices_S128x8_o5_0_S1x8) (extractStridedSlice S8x1 ![0, 5] (gates (ldG (iblk m c 4 t) 24 inb_S64x128_S8x128_24_0) (iblk m c 5 t)) slices_S8x128_o0_5_S8x1) (ld1 (iblk m c 9 t) 3 1 inb_S1x8x4_S1x1x1_0_3_1)) _ y q _ rfl (by decide) q.isLt h13 ?_ ?_ ?_
  · rfl
  · intro e1 e2
    exact headM m c t y q b hb 3 1 24 5 e1 e2 rfl rfl _ slices_S8x128_o0_1_S8x1 _ _ _ _
  intro h12
  refine m_store 12 3 0 _ _ (newM (extractStridedSlice S1x8 ![0, 0] (gatesT (ldG (iblk m c 4 t) 24 inb_S64x128_S8x128_24_0) (iblk m c 5 t)) slices_S128x8_o0_0_S1x8) (extractStridedSlice S1x8 ![4, 0] (gatesT (ldG (iblk m c 4 t) 24 inb_S64x128_S8x128_24_0) (iblk m c 5 t)) slices_S128x8_o4_0_S1x8) (extractStridedSlice S8x1 ![0, 4] (gates (ldG (iblk m c 4 t) 24 inb_S64x128_S8x128_24_0) (iblk m c 5 t)) slices_S8x128_o0_4_S8x1) (ld1 (iblk m c 9 t) 3 0 inb_S1x8x4_S1x1x1_0_3_0)) _ y q _ rfl (by decide) q.isLt h12 ?_ ?_ ?_
  · rfl
  · intro e1 e2
    exact headM m c t y q b hb 3 0 24 4 e1 e2 rfl rfl _ slices_S8x128_o0_0_S8x1 _ _ _ _
  intro h11
  refine m_store 11 2 3 _ _ (newM (extractStridedSlice S1x8 ![3, 0] (gatesT (ldG (iblk m c 4 t) 16 inb_S64x128_S8x128_16_0) (iblk m c 5 t)) slices_S128x8_o3_0_S1x8) (extractStridedSlice S1x8 ![7, 0] (gatesT (ldG (iblk m c 4 t) 16 inb_S64x128_S8x128_16_0) (iblk m c 5 t)) slices_S128x8_o7_0_S1x8) (extractStridedSlice S8x1 ![0, 7] (gates (ldG (iblk m c 4 t) 16 inb_S64x128_S8x128_16_0) (iblk m c 5 t)) slices_S8x128_o0_7_S8x1) (ld1 (iblk m c 9 t) 2 3 inb_S1x8x4_S1x1x1_0_2_3)) _ y q _ rfl (by decide) q.isLt h11 ?_ ?_ ?_
  · rfl
  · intro e1 e2
    exact headM m c t y q b hb 2 3 16 7 e1 e2 rfl rfl _ slices_S8x128_o0_3_S8x1 _ _ _ _
  intro h10
  refine m_store 10 2 2 _ _ (newM (extractStridedSlice S1x8 ![2, 0] (gatesT (ldG (iblk m c 4 t) 16 inb_S64x128_S8x128_16_0) (iblk m c 5 t)) slices_S128x8_o2_0_S1x8) (extractStridedSlice S1x8 ![6, 0] (gatesT (ldG (iblk m c 4 t) 16 inb_S64x128_S8x128_16_0) (iblk m c 5 t)) slices_S128x8_o6_0_S1x8) (extractStridedSlice S8x1 ![0, 6] (gates (ldG (iblk m c 4 t) 16 inb_S64x128_S8x128_16_0) (iblk m c 5 t)) slices_S8x128_o0_6_S8x1) (ld1 (iblk m c 9 t) 2 2 inb_S1x8x4_S1x1x1_0_2_2)) _ y q _ rfl (by decide) q.isLt h10 ?_ ?_ ?_
  · rfl
  · intro e1 e2
    exact headM m c t y q b hb 2 2 16 6 e1 e2 rfl rfl _ slices_S8x128_o0_2_S8x1 _ _ _ _
  intro h9
  refine m_store 9 2 1 _ _ (newM (extractStridedSlice S1x8 ![1, 0] (gatesT (ldG (iblk m c 4 t) 16 inb_S64x128_S8x128_16_0) (iblk m c 5 t)) slices_S128x8_o1_0_S1x8) (extractStridedSlice S1x8 ![5, 0] (gatesT (ldG (iblk m c 4 t) 16 inb_S64x128_S8x128_16_0) (iblk m c 5 t)) slices_S128x8_o5_0_S1x8) (extractStridedSlice S8x1 ![0, 5] (gates (ldG (iblk m c 4 t) 16 inb_S64x128_S8x128_16_0) (iblk m c 5 t)) slices_S8x128_o0_5_S8x1) (ld1 (iblk m c 9 t) 2 1 inb_S1x8x4_S1x1x1_0_2_1)) _ y q _ rfl (by decide) q.isLt h9 ?_ ?_ ?_
  · rfl
  · intro e1 e2
    exact headM m c t y q b hb 2 1 16 5 e1 e2 rfl rfl _ slices_S8x128_o0_1_S8x1 _ _ _ _
  intro h8
  refine m_store 8 2 0 _ _ (newM (extractStridedSlice S1x8 ![0, 0] (gatesT (ldG (iblk m c 4 t) 16 inb_S64x128_S8x128_16_0) (iblk m c 5 t)) slices_S128x8_o0_0_S1x8) (extractStridedSlice S1x8 ![4, 0] (gatesT (ldG (iblk m c 4 t) 16 inb_S64x128_S8x128_16_0) (iblk m c 5 t)) slices_S128x8_o4_0_S1x8) (extractStridedSlice S8x1 ![0, 4] (gates (ldG (iblk m c 4 t) 16 inb_S64x128_S8x128_16_0) (iblk m c 5 t)) slices_S8x128_o0_4_S8x1) (ld1 (iblk m c 9 t) 2 0 inb_S1x8x4_S1x1x1_0_2_0)) _ y q _ rfl (by decide) q.isLt h8 ?_ ?_ ?_
  · rfl
  · intro e1 e2
    exact headM m c t y q b hb 2 0 16 4 e1 e2 rfl rfl _ slices_S8x128_o0_0_S8x1 _ _ _ _
  intro h7
  refine m_store 7 1 3 _ _ (newM (extractStridedSlice S1x8 ![3, 0] (gatesT (ldG (iblk m c 4 t) 8 inb_S64x128_S8x128_8_0) (iblk m c 5 t)) slices_S128x8_o3_0_S1x8) (extractStridedSlice S1x8 ![7, 0] (gatesT (ldG (iblk m c 4 t) 8 inb_S64x128_S8x128_8_0) (iblk m c 5 t)) slices_S128x8_o7_0_S1x8) (extractStridedSlice S8x1 ![0, 7] (gates (ldG (iblk m c 4 t) 8 inb_S64x128_S8x128_8_0) (iblk m c 5 t)) slices_S8x128_o0_7_S8x1) (ld1 (iblk m c 9 t) 1 3 inb_S1x8x4_S1x1x1_0_1_3)) _ y q _ rfl (by decide) q.isLt h7 ?_ ?_ ?_
  · rfl
  · intro e1 e2
    exact headM m c t y q b hb 1 3 8 7 e1 e2 rfl rfl _ slices_S8x128_o0_3_S8x1 _ _ _ _
  intro h6
  refine m_store 6 1 2 _ _ (newM (extractStridedSlice S1x8 ![2, 0] (gatesT (ldG (iblk m c 4 t) 8 inb_S64x128_S8x128_8_0) (iblk m c 5 t)) slices_S128x8_o2_0_S1x8) (extractStridedSlice S1x8 ![6, 0] (gatesT (ldG (iblk m c 4 t) 8 inb_S64x128_S8x128_8_0) (iblk m c 5 t)) slices_S128x8_o6_0_S1x8) (extractStridedSlice S8x1 ![0, 6] (gates (ldG (iblk m c 4 t) 8 inb_S64x128_S8x128_8_0) (iblk m c 5 t)) slices_S8x128_o0_6_S8x1) (ld1 (iblk m c 9 t) 1 2 inb_S1x8x4_S1x1x1_0_1_2)) _ y q _ rfl (by decide) q.isLt h6 ?_ ?_ ?_
  · rfl
  · intro e1 e2
    exact headM m c t y q b hb 1 2 8 6 e1 e2 rfl rfl _ slices_S8x128_o0_2_S8x1 _ _ _ _
  intro h5
  refine m_store 5 1 1 _ _ (newM (extractStridedSlice S1x8 ![1, 0] (gatesT (ldG (iblk m c 4 t) 8 inb_S64x128_S8x128_8_0) (iblk m c 5 t)) slices_S128x8_o1_0_S1x8) (extractStridedSlice S1x8 ![5, 0] (gatesT (ldG (iblk m c 4 t) 8 inb_S64x128_S8x128_8_0) (iblk m c 5 t)) slices_S128x8_o5_0_S1x8) (extractStridedSlice S8x1 ![0, 5] (gates (ldG (iblk m c 4 t) 8 inb_S64x128_S8x128_8_0) (iblk m c 5 t)) slices_S8x128_o0_5_S8x1) (ld1 (iblk m c 9 t) 1 1 inb_S1x8x4_S1x1x1_0_1_1)) _ y q _ rfl (by decide) q.isLt h5 ?_ ?_ ?_
  · rfl
  · intro e1 e2
    exact headM m c t y q b hb 1 1 8 5 e1 e2 rfl rfl _ slices_S8x128_o0_1_S8x1 _ _ _ _
  intro h4
  refine m_store 4 1 0 _ _ (newM (extractStridedSlice S1x8 ![0, 0] (gatesT (ldG (iblk m c 4 t) 8 inb_S64x128_S8x128_8_0) (iblk m c 5 t)) slices_S128x8_o0_0_S1x8) (extractStridedSlice S1x8 ![4, 0] (gatesT (ldG (iblk m c 4 t) 8 inb_S64x128_S8x128_8_0) (iblk m c 5 t)) slices_S128x8_o4_0_S1x8) (extractStridedSlice S8x1 ![0, 4] (gates (ldG (iblk m c 4 t) 8 inb_S64x128_S8x128_8_0) (iblk m c 5 t)) slices_S8x128_o0_4_S8x1) (ld1 (iblk m c 9 t) 1 0 inb_S1x8x4_S1x1x1_0_1_0)) _ y q _ rfl (by decide) q.isLt h4 ?_ ?_ ?_
  · rfl
  · intro e1 e2
    exact headM m c t y q b hb 1 0 8 4 e1 e2 rfl rfl _ slices_S8x128_o0_0_S8x1 _ _ _ _
  intro h3
  refine m_store 3 0 3 _ _ (newM (extractStridedSlice S1x8 ![3, 0] (gatesT (ldG (iblk m c 4 t) 0 inb_S64x128_S8x128_0_0) (iblk m c 5 t)) slices_S128x8_o3_0_S1x8) (extractStridedSlice S1x8 ![7, 0] (gatesT (ldG (iblk m c 4 t) 0 inb_S64x128_S8x128_0_0) (iblk m c 5 t)) slices_S128x8_o7_0_S1x8) (extractStridedSlice S8x1 ![0, 7] (gates (ldG (iblk m c 4 t) 0 inb_S64x128_S8x128_0_0) (iblk m c 5 t)) slices_S8x128_o0_7_S8x1) (ld1 (iblk m c 9 t) 0 3 inb_S1x8x4_S1x1x1_0_0_3)) _ y q _ rfl (by decide) q.isLt h3 ?_ ?_ ?_
  · rfl
  · intro e1 e2
    exact headM m c t y q b hb 0 3 0 7 e1 e2 rfl rfl _ slices_S8x128_o0_3_S8x1 _ _ _ _
  intro h2
  refine m_store 2 0 2 _ _ (newM (extractStridedSlice S1x8 ![2, 0] (gatesT (ldG (iblk m c 4 t) 0 inb_S64x128_S8x128_0_0) (iblk m c 5 t)) slices_S128x8_o2_0_S1x8) (extractStridedSlice S1x8 ![6, 0] (gatesT (ldG (iblk m c 4 t) 0 inb_S64x128_S8x128_0_0) (iblk m c 5 t)) slices_S128x8_o6_0_S1x8) (extractStridedSlice S8x1 ![0, 6] (gates (ldG (iblk m c 4 t) 0 inb_S64x128_S8x128_0_0) (iblk m c 5 t)) slices_S8x128_o0_6_S8x1) (ld1 (iblk m c 9 t) 0 2 inb_S1x8x4_S1x1x1_0_0_2)) _ y q _ rfl (by decide) q.isLt h2 ?_ ?_ ?_
  · rfl
  · intro e1 e2
    exact headM m c t y q b hb 0 2 0 6 e1 e2 rfl rfl _ slices_S8x128_o0_2_S8x1 _ _ _ _
  intro h1
  refine m_store 1 0 1 _ _ (newM (extractStridedSlice S1x8 ![1, 0] (gatesT (ldG (iblk m c 4 t) 0 inb_S64x128_S8x128_0_0) (iblk m c 5 t)) slices_S128x8_o1_0_S1x8) (extractStridedSlice S1x8 ![5, 0] (gatesT (ldG (iblk m c 4 t) 0 inb_S64x128_S8x128_0_0) (iblk m c 5 t)) slices_S128x8_o5_0_S1x8) (extractStridedSlice S8x1 ![0, 5] (gates (ldG (iblk m c 4 t) 0 inb_S64x128_S8x128_0_0) (iblk m c 5 t)) slices_S8x128_o0_5_S8x1) (ld1 (iblk m c 9 t) 0 1 inb_S1x8x4_S1x1x1_0_0_1)) _ y q _ rfl (by decide) q.isLt h1 ?_ ?_ ?_
  · rfl
  · intro e1 e2
    exact headM m c t y q b hb 0 1 0 5 e1 e2 rfl rfl _ slices_S8x128_o0_1_S8x1 _ _ _ _
  intro h0
  refine m_store 0 0 0 _ _ (newM (extractStridedSlice S1x8 ![0, 0] (gatesT (ldG (iblk m c 4 t) 0 inb_S64x128_S8x128_0_0) (iblk m c 5 t)) slices_S128x8_o0_0_S1x8) (extractStridedSlice S1x8 ![4, 0] (gatesT (ldG (iblk m c 4 t) 0 inb_S64x128_S8x128_0_0) (iblk m c 5 t)) slices_S128x8_o4_0_S1x8) (extractStridedSlice S8x1 ![0, 4] (gates (ldG (iblk m c 4 t) 0 inb_S64x128_S8x128_0_0) (iblk m c 5 t)) slices_S8x128_o0_4_S8x1) (ld1 (iblk m c 9 t) 0 0 inb_S1x8x4_S1x1x1_0_0_0)) _ y q _ rfl (by decide) q.isLt h0 ?_ ?_ ?_
  · rfl
  · intro e1 e2
    exact headM m c t y q b hb 0 0 0 4 e1 e2 rfl rfl _ slices_S8x128_o0_0_S8x1 _ _ _ _
  intro hz
  omega

/-- The array of them. -/
def arrM : FVec Ideal S16x8x4 .f32 := fun j => topOf m c ⟨8 * (j 0).val + (j 1).val, by have h0 : (j 0).val < 16 := (j 0).isLt; have h1 : (j 1).val < 8 := (j 1).isLt; omega⟩ (j 2)

theorem arr_m : (dats m 0 c).arrAt 13 cfg0.N = arrM m c := by
  refine (dats m 0 c).arrAt_eq_of_covers 13 _ (by decide +kernel) fun t hf y => ?_
  have ht := lt_of_lt_of_eq t.isLt gridN
  have h0 : (y 0).val < 1 := (y 0).isLt
  have hy : (y 1).val < 8 := (y 1).isLt
  obtain ⟨b, hb⟩ : ∃ b : Fin 128, b.val = 8 * t.val + (y 1).val := ⟨⟨8 * t.val + (y 1).val, by omega⟩, rfl⟩
  have hX : arrM m c (((View.whole main_v9_3).slice (win0_13.rect t)).emb y) = topOf m c b (y 2) := by
    unfold arrM
    congr 1 <;> apply Fin.ext
    · rw [hb]
      blk_simp [idx t]
    · blk_simp [idx t]
  refine Eq.trans ?_ hX.symm
  clear hX
  blk_simp
  rw [after0_13]
  refine (congrArg (outsAt0 m c t).2.2.2 ((ix3_eta_m y).trans ?_)).trans (blockM m c t ⟨(y 1).val, hy⟩ _ b hb)
  congr 1
  exact Fin.ext (by show (y 0).val = 0; omega)

end Cert.MlstmSample

end
-- ==== Proof.MlsAlg.lean ====
/- The new mLSTM states of the sample are their reference's. -/
module

public import proofs.«01_k».proof.Proof.MlsOutC
public import proofs.«01_k».proof.Proof.MlsOutN
public import proofs.«01_k».proof.Proof.MlsOutM
public import Idealize.ShloMosaic.Lib.Claim

@[expose] public section

set_option maxRecDepth 16384

noncomputable section

open Idealize.ShloMosaic Idealize.ShloMosaic.TcCoe Idealize.SL.Sem

namespace Cert.MlstmSample

open Cert.Kernel6Ideal Cert.Kernel6Ideal.Gen Cert.MlstmSpec
open Cert.Reference6Ideal.Block (cR nR mR cR_at nR_at mR_at res_c res_n res_m)

variable (m : (ℓ : Loc nD τ sig) → Buf (Elt Ideal) ℓ) (c : Dev nD)

theorem states : cR (zAll m c) (bias m c) (oldC m c) (oldM m c) = (dats m 0 c).arrAt 11 cfg0.N := by
  refine (funext fun j => ?_ : _ = arrC m c).trans (arr_c m c).symm
  exact (congrArg _ (ix4_eta j)).trans (cR_at (zAll m c) (bias m c) (oldC m c) (oldM m c) (j 0) (j 1) (j 2) (j 3))

theorem norms : nR (zAll m c) (bias m c) (oldN m c) (oldM m c) = (dats m 0 c).arrAt 12 cfg0.N := by
  refine (funext fun j => ?_ : _ = arrN m c).trans (arr_n m c).symm
  exact (congrArg _ (ix3_eta_n j)).trans (nR_at (zAll m c) (bias m c) (oldN m c) (oldM m c) (j 0) (j 1) (j 2))

theorem maxima : mR (zAll m c) (bias m c) (oldM m c) = (dats m 0 c).arrAt 13 cfg0.N := by
  refine (funext fun j => ?_ : _ = arrM m c).trans (arr_m m c).symm
  exact (congrArg _ (ix3_eta_m j)).trans (mR_at (zAll m c) (bias m c) (oldM m c) (j 0) (j 1) (j 2) _ rfl)

theorem algebraic : algebraic_Kernel6Ideal_Reference6Ideal (hKernel6Ideal := Cert.Kernel6Ideal.Gen.facts) (hReference6Ideal := Cert.Reference6Ideal.Gen.facts) := by
  intro m g m' g' _ hagree
  refine ⟨fun c => (dats m 0 c).arrAt 11 cfg0.N, fun c => (dats m 0 c).arrAt 12 cfg0.N, fun c => (dats m 0 c).arrAt 13 cfg0.N, (θ_run Cert.Kernel6Ideal.defs _ _).mono (fun r h c => (h c).2) (Cert.Kernel6Ideal.Value.run_blocks m g), ?_⟩
  refine (θ_run Cert.Reference6Ideal.defs _ _).mono (fun r h c => ?_) (Cert.Reference6Ideal.Value.run m' g')
  obtain ⟨h0, h1, h2, ha⟩ := h c
  obtain ⟨e0, e1, e2, e3, e4, e5⟩ := hagree c
  refine ⟨(h0.trans (res_c m' c)).trans ?_, (h1.trans (res_n m' c)).trans ?_, (h2.trans (res_m m' c)).trans ?_, ha⟩
  · have h : cR _ _ _ _ = cR _ _ _ _ := congr (congr (congr (congrArg cR e0) e1) e3) e5
    exact Eq.trans h (states m c)
  · have h : nR _ _ _ _ = nR _ _ _ _ := congr (congr (congr (congrArg nR e0) e1) e4) e5
    exact Eq.trans h (norms m c)
  · have h : mR _ _ _ = mR _ _ _ := congr (congr (congrArg mR e0) e1) e5
    exact Eq.trans h (maxima m c)

end Cert.MlstmSample

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.AttnClaim
public import proofs.«01_k».proof.Proof.Gen.Kernel2
public import proofs.«01_k».proof.Proof.Gen.Kernel2.Skeleton
public import proofs.«01_k».proof.Proof.Gen.Kernel2.Launch
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Reference2Ideal
public import proofs.«01_k».proof.Proof.Gen.Reference2Ideal.Run
public import proofs.«01_k».proof.Proof.Gen.Pre_tables_in_range
public import proofs.«01_k».proof.Proof.ExpClaim
public import proofs.«01_k».proof.Proof.ExpAlg
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.InpAlg
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.MrgAlg
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.SmpAlg
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.MlsAlg
public import Idealize.ShloMosaic.Adequacy
public import Idealize.ShloMosaic.Lib.Quiescent
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Pre_tables_in_range.Gen.facts,
  fun m ρ _ => Cert.Kernel.Gen.frame m ρ,
  fun m ρ _ => Cert.KernelIdeal.Gen.frame m ρ,
  fun m ρ _ => (θ_run Cert.ReferenceIdeal.defs _ _).mono (fun r h => ⟨fun c => (h c).2.2.2.2, sem_eq_zero_of_no_sems rfl _⟩) (Cert.ReferenceIdeal.Value.run m ρ),
  Cert.Experts.frame_bits,
  Cert.Experts.frame_ideal,
  Cert.Experts.frame_reference,
  fun m ρ _ => Cert.Experts.frame_reference m ρ trivial,
  fun m ρ _ => Cert.Kernel3.Gen.frame m ρ,
  fun m ρ _ => Cert.Kernel3Ideal.Gen.frame m ρ,
  fun m ρ _ => (θ_run Cert.Reference3Ideal.defs _ _).mono (fun r h => ⟨fun c => (h c).2, sem_eq_zero_of_no_sems rfl _⟩) (Cert.Reference3Ideal.Value.run m ρ),
  fun m ρ _ => Cert.Kernel4.Gen.frame m ρ,
  fun m ρ _ => Cert.Kernel4Ideal.Gen.frame m ρ,
  fun m ρ _ => (θ_run Cert.Reference4Ideal.defs _ _).mono (fun r h => ⟨fun c => (h c).2.2, sem_eq_zero_of_no_sems rfl _⟩) (Cert.Reference4Ideal.Value.run m ρ),
  fun m ρ _ => Cert.Kernel5.Gen.frame m ρ,
  fun m ρ _ => Cert.Kernel5Ideal.Gen.frame m ρ,
  fun m ρ _ => (θ_run Cert.Reference5Ideal.defs _ _).mono (fun r h => ⟨fun c => (h c).2.2, sem_eq_zero_of_no_sems rfl _⟩) (Cert.Reference5Ideal.Value.run m ρ),
  fun m ρ _ => Cert.Kernel6.Gen.frame m ρ,
  fun m ρ _ => Cert.Kernel6Ideal.Gen.frame m ρ,
  fun m ρ _ => (θ_run Cert.Reference6Ideal.defs _ _).mono (fun r h => ⟨fun c => (h c).2.2.2, sem_eq_zero_of_no_sems rfl _⟩) (Cert.Reference6Ideal.Value.run m ρ),
  IdealRules.named_const.statement Cert.KernelIdeal.κ "mask" .f32 0xF149F2CA#32 ⊥ rfl,
  Cert.Attn.algebraic,
  trivial,
  Cert.Experts.algebraic,
  trivial,
  Cert.Inproj.algebraic,
  trivial,
  Cert.Merge.algebraic,
  IdealRules.named_const.statement Cert.Kernel5Ideal.κ "mask" .f32 0xF149F2CA#32 ⊥ rfl,
  Cert.Sample.algebraic,
  IdealRules.named_const.statement Cert.Kernel6Ideal.κ "mask" .f32 0xF149F2CA#32 ⊥ rfl,
  Cert.MlstmSample.algebraic⟩

end Cert.Proof

end
